-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_RetDx (m : (ℓ : Loc Cert.RetDx.nD Cert.RetDx.τ Cert.RetDx.sig) → Buf (Elt Bits) ℓ) : Prop :=
  True

def Pre_RetDxIdeal (m : (ℓ : Loc Cert.RetDxIdeal.nD Cert.RetDxIdeal.τ Cert.RetDxIdeal.sig) → Buf (Elt Ideal) ℓ) : Prop :=
  True

def Pre_RetDxReferenceIdeal (m : (ℓ : Loc Cert.RetDxReferenceIdeal.nD Cert.RetDxReferenceIdeal.τ Cert.RetDxReferenceIdeal.sig) → Buf (Elt Ideal) ℓ) : Prop :=
  True

def Pre_RetDw (m : (ℓ : Loc Cert.RetDw.nD Cert.RetDw.τ Cert.RetDw.sig) → Buf (Elt Bits) ℓ) : Prop :=
  True

def Pre_RetDwIdeal (m : (ℓ : Loc Cert.RetDwIdeal.nD Cert.RetDwIdeal.τ Cert.RetDwIdeal.sig) → Buf (Elt Ideal) ℓ) : Prop :=
  True

def Pre_RetDwReferenceIdeal (m : (ℓ : Loc Cert.RetDwReferenceIdeal.nD Cert.RetDwReferenceIdeal.τ Cert.RetDwReferenceIdeal.sig) → Buf (Elt Ideal) ℓ) : Prop :=
  True

def Pre_MlaDx (m : (ℓ : Loc Cert.MlaDx.nD Cert.MlaDx.τ Cert.MlaDx.sig) → Buf (Elt Bits) ℓ) : Prop :=
  True

def Pre_MlaDxIdeal (m : (ℓ : Loc Cert.MlaDxIdeal.nD Cert.MlaDxIdeal.τ Cert.MlaDxIdeal.sig) → Buf (Elt Ideal) ℓ) : Prop :=
  True

def Pre_MlaDxReferenceIdeal (m : (ℓ : Loc Cert.MlaDxReferenceIdeal.nD Cert.MlaDxReferenceIdeal.τ Cert.MlaDxReferenceIdeal.sig) → Buf (Elt Ideal) ℓ) : Prop :=
  True

def Pre_MlaDw (m : (ℓ : Loc Cert.MlaDw.nD Cert.MlaDw.τ Cert.MlaDw.sig) → Buf (Elt Bits) ℓ) : Prop :=
  True

def Pre_MlaDwIdeal (m : (ℓ : Loc Cert.MlaDwIdeal.nD Cert.MlaDwIdeal.τ Cert.MlaDwIdeal.sig) → Buf (Elt Ideal) ℓ) : Prop :=
  True

def Pre_MlaDwReferenceIdeal (m : (ℓ : Loc Cert.MlaDwReferenceIdeal.nD Cert.MlaDwReferenceIdeal.τ Cert.MlaDwReferenceIdeal.sig) → Buf (Elt Ideal) ℓ) : Prop :=
  True

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxReferenceIdeal (m : (ℓ : Loc Cert.QDxReferenceIdeal.nD Cert.QDxReferenceIdeal.τ Cert.QDxReferenceIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwReferenceIdeal (m : (ℓ : Loc Cert.QDwReferenceIdeal.nD Cert.QDwReferenceIdeal.τ Cert.QDwReferenceIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxReferenceIdeal (m : (ℓ : Loc Cert.KvDxReferenceIdeal.nD Cert.KvDxReferenceIdeal.τ Cert.KvDxReferenceIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwReferenceIdeal (m : (ℓ : Loc Cert.KvDwReferenceIdeal.nD Cert.KvDwReferenceIdeal.τ Cert.KvDwReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetReferenceIdeal (m : (ℓ : Loc Cert.RetReferenceIdeal.nD Cert.RetReferenceIdeal.τ Cert.RetReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamRet (m : (ℓ : Loc Cert.AdamRet.nD Cert.AdamRet.τ Cert.AdamRet.sig) → Buf (Elt Bits) ℓ) : Prop :=
  True

def Pre_AdamRetIdeal (m : (ℓ : Loc Cert.AdamRetIdeal.nD Cert.AdamRetIdeal.τ Cert.AdamRetIdeal.sig) → Buf (Elt Ideal) ℓ) : Prop :=
  True

def Pre_AdamRetReferenceIdeal (m : (ℓ : Loc Cert.AdamRetReferenceIdeal.nD Cert.AdamRetReferenceIdeal.τ Cert.AdamRetReferenceIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQReferenceIdeal (m : (ℓ : Loc Cert.AdamQReferenceIdeal.nD Cert.AdamQReferenceIdeal.τ Cert.AdamQReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamMla (m : (ℓ : Loc Cert.AdamMla.nD Cert.AdamMla.τ Cert.AdamMla.sig) → Buf (Elt Bits) ℓ) : Prop :=
  True

def Pre_AdamMlaIdeal (m : (ℓ : Loc Cert.AdamMlaIdeal.nD Cert.AdamMlaIdeal.τ Cert.AdamMlaIdeal.sig) → Buf (Elt Ideal) ℓ) : Prop :=
  True

def Pre_AdamMlaReferenceIdeal (m : (ℓ : Loc Cert.AdamMlaReferenceIdeal.nD Cert.AdamMlaReferenceIdeal.τ Cert.AdamMlaReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdReferenceIdeal (m : (ℓ : Loc Cert.MixBwdReferenceIdeal.nD Cert.MixBwdReferenceIdeal.τ Cert.MixBwdReferenceIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdReferenceIdeal (m : (ℓ : Loc Cert.MlpBwdReferenceIdeal.nD Cert.MlpBwdReferenceIdeal.τ Cert.MlpBwdReferenceIdeal.sig) → Buf (Elt Ideal) ℓ) : Prop :=
  True

def Pre_QLatent (m : (ℓ : Loc Cert.QLatent.nD Cert.QLatent.τ Cert.QLatent.sig) → Buf (Elt Bits) ℓ) : Prop :=
  True

def Pre_QLatentIdeal (m : (ℓ : Loc Cert.QLatentIdeal.nD Cert.QLatentIdeal.τ Cert.QLatentIdeal.sig) → Buf (Elt Ideal) ℓ) : Prop :=
  True

def Pre_QLatentReferenceIdeal (m : (ℓ : Loc Cert.QLatentReferenceIdeal.nD Cert.QLatentReferenceIdeal.τ Cert.QLatentReferenceIdeal.sig) → Buf (Elt Ideal) ℓ) : Prop :=
  True

def Pre_KvLatent (m : (ℓ : Loc Cert.KvLatent.nD Cert.KvLatent.τ Cert.KvLatent.sig) → Buf (Elt Bits) ℓ) : Prop :=
  True

def Pre_KvLatentIdeal (m : (ℓ : Loc Cert.KvLatentIdeal.nD Cert.KvLatentIdeal.τ Cert.KvLatentIdeal.sig) → Buf (Elt Ideal) ℓ) : Prop :=
  True

def Pre_KvLatentReferenceIdeal (m : (ℓ : Loc Cert.KvLatentReferenceIdeal.nD Cert.KvLatentReferenceIdeal.τ Cert.KvLatentReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaReferenceIdeal (m : (ℓ : Loc Cert.DeltaReferenceIdeal.nD Cert.DeltaReferenceIdeal.τ Cert.DeltaReferenceIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpReferenceIdeal (m : (ℓ : Loc Cert.KvUpReferenceIdeal.nD Cert.KvUpReferenceIdeal.τ Cert.KvUpReferenceIdeal.sig) → Buf (Elt Ideal) ℓ) : Prop :=
  True

def Pre_KeyGrad (m : (ℓ : Loc Cert.KeyGrad.nD Cert.KeyGrad.τ Cert.KeyGrad.sig) → Buf (Elt Bits) ℓ) : Prop :=
  True

def Pre_KeyGradIdeal (m : (ℓ : Loc Cert.KeyGradIdeal.nD Cert.KeyGradIdeal.τ Cert.KeyGradIdeal.sig) → Buf (Elt Ideal) ℓ) : Prop :=
  True

def Pre_KeyGradReferenceIdeal (m : (ℓ : Loc Cert.KeyGradReferenceIdeal.nD Cert.KeyGradReferenceIdeal.τ Cert.KeyGradReferenceIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpReferenceIdeal (m : (ℓ : Loc Cert.QUpReferenceIdeal.nD Cert.QUpReferenceIdeal.τ Cert.QUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3)
      ∧ r.2.mem ((c.tc : Thread Cert.OutDx.nD Cert.OutDx.τ).loc Cert.OutDx.main_arg4) = m ((c.tc : Thread Cert.OutDx.nD Cert.OutDx.τ).loc Cert.OutDx.main_arg4))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3)
      ∧ r.2.mem ((c.tc : Thread Cert.OutDxIdeal.nD Cert.OutDxIdeal.τ).loc Cert.OutDxIdeal.main_arg4) = m ((c.tc : Thread Cert.OutDxIdeal.nD Cert.OutDxIdeal.τ).loc Cert.OutDxIdeal.main_arg4))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2)
      ∧ r.2.mem ((c.tc : Thread Cert.OutDxReferenceIdeal.nD Cert.OutDxReferenceIdeal.τ).loc Cert.OutDxReferenceIdeal.main_arg3) = m ((c.tc : Thread Cert.OutDxReferenceIdeal.nD Cert.OutDxReferenceIdeal.τ).loc Cert.OutDxReferenceIdeal.main_arg3)
      ∧ r.2.mem ((c.tc : Thread Cert.OutDxReferenceIdeal.nD Cert.OutDxReferenceIdeal.τ).loc Cert.OutDxReferenceIdeal.main_arg4) = m ((c.tc : Thread Cert.OutDxReferenceIdeal.nD Cert.OutDxReferenceIdeal.τ).loc Cert.OutDxReferenceIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_RetDx [hRetDx : Cert.RetDx.Facts] : Prop :=
  ∀ (m : (ℓ : Loc Cert.RetDx.nD Cert.RetDx.τ Cert.RetDx.sig) → Buf (Elt Bits) ℓ) (g : Dev Cert.RetDx.nD → PrngReg), Pre_RetDx m →
    θ_run (Cert.RetDx.defs (F := Bits)) (onTc (τ := Cert.RetDx.τ) (Cert.RetDx.main (F := Bits))) ⟨m, fun _ => 0, g⟩ (fun r => (∀ c : Dev Cert.RetDx.nD,
      r.2.mem ((c.tc : Thread Cert.RetDx.nD Cert.RetDx.τ).loc Cert.RetDx.main_arg0) = m ((c.tc : Thread Cert.RetDx.nD Cert.RetDx.τ).loc Cert.RetDx.main_arg0)
      ∧ r.2.mem ((c.tc : Thread Cert.RetDx.nD Cert.RetDx.τ).loc Cert.RetDx.main_arg1) = m ((c.tc : Thread Cert.RetDx.nD Cert.RetDx.τ).loc Cert.RetDx.main_arg1))
      ∧ r.2.sem = fun _ => 0)

def quiescent_RetDxIdeal [hRetDxIdeal : Cert.RetDxIdeal.Facts] : Prop :=
  ∀ (m : (ℓ : Loc Cert.RetDxIdeal.nD Cert.RetDxIdeal.τ Cert.RetDxIdeal.sig) → Buf (Elt Ideal) ℓ) (g : Dev Cert.RetDxIdeal.nD → PrngReg), Pre_RetDxIdeal m →
    θ_run (Cert.RetDxIdeal.defs (F := Ideal)) (onTc (τ := Cert.RetDxIdeal.τ) (Cert.RetDxIdeal.main (F := Ideal))) ⟨m, fun _ => 0, g⟩ (fun r => (∀ c : Dev Cert.RetDxIdeal.nD,
      r.2.mem ((c.tc : Thread Cert.RetDxIdeal.nD Cert.RetDxIdeal.τ).loc Cert.RetDxIdeal.main_arg0) = m ((c.tc : Thread Cert.RetDxIdeal.nD Cert.RetDxIdeal.τ).loc Cert.RetDxIdeal.main_arg0)
      ∧ r.2.mem ((c.tc : Thread Cert.RetDxIdeal.nD Cert.RetDxIdeal.τ).loc Cert.RetDxIdeal.main_arg1) = m ((c.tc : Thread Cert.RetDxIdeal.nD Cert.RetDxIdeal.τ).loc Cert.RetDxIdeal.main_arg1))
      ∧ r.2.sem = fun _ => 0)

def quiescent_RetDxReferenceIdeal [hRetDxReferenceIdeal : Cert.RetDxReferenceIdeal.Facts] : Prop :=
  ∀ (m : (ℓ : Loc Cert.RetDxReferenceIdeal.nD Cert.RetDxReferenceIdeal.τ Cert.RetDxReferenceIdeal.sig) → Buf (Elt Ideal) ℓ) (g : Dev Cert.RetDxReferenceIdeal.nD → PrngReg), Pre_RetDxReferenceIdeal m →
    θ_run (Cert.RetDxReferenceIdeal.defs (F := Ideal)) (onTc (τ := Cert.RetDxReferenceIdeal.τ) (Cert.RetDxReferenceIdeal.main (F := Ideal))) ⟨m, fun _ => 0, g⟩ (fun r => (∀ c : Dev Cert.RetDxReferenceIdeal.nD,
      r.2.mem ((c.tc : Thread Cert.RetDxReferenceIdeal.nD Cert.RetDxReferenceIdeal.τ).loc Cert.RetDxReferenceIdeal.main_arg0) = m ((c.tc : Thread Cert.RetDxReferenceIdeal.nD Cert.RetDxReferenceIdeal.τ).loc Cert.RetDxReferenceIdeal.main_arg0)
      ∧ r.2.mem ((c.tc : Thread Cert.RetDxReferenceIdeal.nD Cert.RetDxReferenceIdeal.τ).loc Cert.RetDxReferenceIdeal.main_arg1) = m ((c.tc : Thread Cert.RetDxReferenceIdeal.nD Cert.RetDxReferenceIdeal.τ).loc Cert.RetDxReferenceIdeal.main_arg1))
      ∧ r.2.sem = fun _ => 0)

def quiescent_RetDw [hRetDw : Cert.RetDw.Facts] : Prop :=
  ∀ (m : (ℓ : Loc Cert.RetDw.nD Cert.RetDw.τ Cert.RetDw.sig) → Buf (Elt Bits) ℓ) (g : Dev Cert.RetDw.nD → PrngReg), Pre_RetDw m →
    θ_run (Cert.RetDw.defs (F := Bits)) (onTc (τ := Cert.RetDw.τ) (Cert.RetDw.main (F := Bits))) ⟨m, fun _ => 0, g⟩ (fun r => (∀ c : Dev Cert.RetDw.nD,
      r.2.mem ((c.tc : Thread Cert.RetDw.nD Cert.RetDw.τ).loc Cert.RetDw.main_arg0) = m ((c.tc : Thread Cert.RetDw.nD Cert.RetDw.τ).loc Cert.RetDw.main_arg0)
      ∧ r.2.mem ((c.tc : Thread Cert.RetDw.nD Cert.RetDw.τ).loc Cert.RetDw.main_arg1) = m ((c.tc : Thread Cert.RetDw.nD Cert.RetDw.τ).loc Cert.RetDw.main_arg1))
      ∧ r.2.sem = fun _ => 0)

def quiescent_RetDwIdeal [hRetDwIdeal : Cert.RetDwIdeal.Facts] : Prop :=
  ∀ (m : (ℓ : Loc Cert.RetDwIdeal.nD Cert.RetDwIdeal.τ Cert.RetDwIdeal.sig) → Buf (Elt Ideal) ℓ) (g : Dev Cert.RetDwIdeal.nD → PrngReg), Pre_RetDwIdeal m →
    θ_run (Cert.RetDwIdeal.defs (F := Ideal)) (onTc (τ := Cert.RetDwIdeal.τ) (Cert.RetDwIdeal.main (F := Ideal))) ⟨m, fun _ => 0, g⟩ (fun r => (∀ c : Dev Cert.RetDwIdeal.nD,
      r.2.mem ((c.tc : Thread Cert.RetDwIdeal.nD Cert.RetDwIdeal.τ).loc Cert.RetDwIdeal.main_arg0) = m ((c.tc : Thread Cert.RetDwIdeal.nD Cert.RetDwIdeal.τ).loc Cert.RetDwIdeal.main_arg0)
      ∧ r.2.mem ((c.tc : Thread Cert.RetDwIdeal.nD Cert.RetDwIdeal.τ).loc Cert.RetDwIdeal.main_arg1) = m ((c.tc : Thread Cert.RetDwIdeal.nD Cert.RetDwIdeal.τ).loc Cert.RetDwIdeal.main_arg1))
      ∧ r.2.sem = fun _ => 0)

def quiescent_RetDwReferenceIdeal [hRetDwReferenceIdeal : Cert.RetDwReferenceIdeal.Facts] : Prop :=
  ∀ (m : (ℓ : Loc Cert.RetDwReferenceIdeal.nD Cert.RetDwReferenceIdeal.τ Cert.RetDwReferenceIdeal.sig) → Buf (Elt Ideal) ℓ) (g : Dev Cert.RetDwReferenceIdeal.nD → PrngReg), Pre_RetDwReferenceIdeal m →
    θ_run (Cert.RetDwReferenceIdeal.defs (F := Ideal)) (onTc (τ := Cert.RetDwReferenceIdeal.τ) (Cert.RetDwReferenceIdeal.main (F := Ideal))) ⟨m, fun _ => 0, g⟩ (fun r => (∀ c : Dev Cert.RetDwReferenceIdeal.nD,
      r.2.mem ((c.tc : Thread Cert.RetDwReferenceIdeal.nD Cert.RetDwReferenceIdeal.τ).loc Cert.RetDwReferenceIdeal.main_arg0) = m ((c.tc : Thread Cert.RetDwReferenceIdeal.nD Cert.RetDwReferenceIdeal.τ).loc Cert.RetDwReferenceIdeal.main_arg0)
      ∧ r.2.mem ((c.tc : Thread Cert.RetDwReferenceIdeal.nD Cert.RetDwReferenceIdeal.τ).loc Cert.RetDwReferenceIdeal.main_arg1) = m ((c.tc : Thread Cert.RetDwReferenceIdeal.nD Cert.RetDwReferenceIdeal.τ).loc Cert.RetDwReferenceIdeal.main_arg1))
      ∧ r.2.sem = fun _ => 0)

def quiescent_MlaDx [hMlaDx : Cert.MlaDx.Facts] : Prop :=
  ∀ (m : (ℓ : Loc Cert.MlaDx.nD Cert.MlaDx.τ Cert.MlaDx.sig) → Buf (Elt Bits) ℓ) (g : Dev Cert.MlaDx.nD → PrngReg), Pre_MlaDx m →
    θ_run (Cert.MlaDx.defs (F := Bits)) (onTc (τ := Cert.MlaDx.τ) (Cert.MlaDx.main (F := Bits))) ⟨m, fun _ => 0, g⟩ (fun r => (∀ c : Dev Cert.MlaDx.nD,
      r.2.mem ((c.tc : Thread Cert.MlaDx.nD Cert.MlaDx.τ).loc Cert.MlaDx.main_arg0) = m ((c.tc : Thread Cert.MlaDx.nD Cert.MlaDx.τ).loc Cert.MlaDx.main_arg0)
      ∧ r.2.mem ((c.tc : Thread Cert.MlaDx.nD Cert.MlaDx.τ).loc Cert.MlaDx.main_arg1) = m ((c.tc : Thread Cert.MlaDx.nD Cert.MlaDx.τ).loc Cert.MlaDx.main_arg1))
      ∧ r.2.sem = fun _ => 0)

def quiescent_MlaDxIdeal [hMlaDxIdeal : Cert.MlaDxIdeal.Facts] : Prop :=
  ∀ (m : (ℓ : Loc Cert.MlaDxIdeal.nD Cert.MlaDxIdeal.τ Cert.MlaDxIdeal.sig) → Buf (Elt Ideal) ℓ) (g : Dev Cert.MlaDxIdeal.nD → PrngReg), Pre_MlaDxIdeal m →
    θ_run (Cert.MlaDxIdeal.defs (F := Ideal)) (onTc (τ := Cert.MlaDxIdeal.τ) (Cert.MlaDxIdeal.main (F := Ideal))) ⟨m, fun _ => 0, g⟩ (fun r => (∀ c : Dev Cert.MlaDxIdeal.nD,
      r.2.mem ((c.tc : Thread Cert.MlaDxIdeal.nD Cert.MlaDxIdeal.τ).loc Cert.MlaDxIdeal.main_arg0) = m ((c.tc : Thread Cert.MlaDxIdeal.nD Cert.MlaDxIdeal.τ).loc Cert.MlaDxIdeal.main_arg0)
      ∧ r.2.mem ((c.tc : Thread Cert.MlaDxIdeal.nD Cert.MlaDxIdeal.τ).loc Cert.MlaDxIdeal.main_arg1) = m ((c.tc : Thread Cert.MlaDxIdeal.nD Cert.MlaDxIdeal.τ).loc Cert.MlaDxIdeal.main_arg1))
      ∧ r.2.sem = fun _ => 0)

def quiescent_MlaDxReferenceIdeal [hMlaDxReferenceIdeal : Cert.MlaDxReferenceIdeal.Facts] : Prop :=
  ∀ (m : (ℓ : Loc Cert.MlaDxReferenceIdeal.nD Cert.MlaDxReferenceIdeal.τ Cert.MlaDxReferenceIdeal.sig) → Buf (Elt Ideal) ℓ) (g : Dev Cert.MlaDxReferenceIdeal.nD → PrngReg), Pre_MlaDxReferenceIdeal m →
    θ_run (Cert.MlaDxReferenceIdeal.defs (F := Ideal)) (onTc (τ := Cert.MlaDxReferenceIdeal.τ) (Cert.MlaDxReferenceIdeal.main (F := Ideal))) ⟨m, fun _ => 0, g⟩ (fun r => (∀ c : Dev Cert.MlaDxReferenceIdeal.nD,
      r.2.mem ((c.tc : Thread Cert.MlaDxReferenceIdeal.nD Cert.MlaDxReferenceIdeal.τ).loc Cert.MlaDxReferenceIdeal.main_arg0) = m ((c.tc : Thread Cert.MlaDxReferenceIdeal.nD Cert.MlaDxReferenceIdeal.τ).loc Cert.MlaDxReferenceIdeal.main_arg0)
      ∧ r.2.mem ((c.tc : Thread Cert.MlaDxReferenceIdeal.nD Cert.MlaDxReferenceIdeal.τ).loc Cert.MlaDxReferenceIdeal.main_arg1) = m ((c.tc : Thread Cert.MlaDxReferenceIdeal.nD Cert.MlaDxReferenceIdeal.τ).loc Cert.MlaDxReferenceIdeal.main_arg1))
      ∧ r.2.sem = fun _ => 0)

def quiescent_MlaDw [hMlaDw : Cert.MlaDw.Facts] : Prop :=
  ∀ (m : (ℓ : Loc Cert.MlaDw.nD Cert.MlaDw.τ Cert.MlaDw.sig) → Buf (Elt Bits) ℓ) (g : Dev Cert.MlaDw.nD → PrngReg), Pre_MlaDw m →
    θ_run (Cert.MlaDw.defs (F := Bits)) (onTc (τ := Cert.MlaDw.τ) (Cert.MlaDw.main (F := Bits))) ⟨m, fun _ => 0, g⟩ (fun r => (∀ c : Dev Cert.MlaDw.nD,
      r.2.mem ((c.tc : Thread Cert.MlaDw.nD Cert.MlaDw.τ).loc Cert.MlaDw.main_arg0) = m ((c.tc : Thread Cert.MlaDw.nD Cert.MlaDw.τ).loc Cert.MlaDw.main_arg0)
      ∧ r.2.mem ((c.tc : Thread Cert.MlaDw.nD Cert.MlaDw.τ).loc Cert.MlaDw.main_arg1) = m ((c.tc : Thread Cert.MlaDw.nD Cert.MlaDw.τ).loc Cert.MlaDw.main_arg1))
      ∧ r.2.sem = fun _ => 0)

def quiescent_MlaDwIdeal [hMlaDwIdeal : Cert.MlaDwIdeal.Facts] : Prop :=
  ∀ (m : (ℓ : Loc Cert.MlaDwIdeal.nD Cert.MlaDwIdeal.τ Cert.MlaDwIdeal.sig) → Buf (Elt Ideal) ℓ) (g : Dev Cert.MlaDwIdeal.nD → PrngReg), Pre_MlaDwIdeal m →
    θ_run (Cert.MlaDwIdeal.defs (F := Ideal)) (onTc (τ := Cert.MlaDwIdeal.τ) (Cert.MlaDwIdeal.main (F := Ideal))) ⟨m, fun _ => 0, g⟩ (fun r => (∀ c : Dev Cert.MlaDwIdeal.nD,
      r.2.mem ((c.tc : Thread Cert.MlaDwIdeal.nD Cert.MlaDwIdeal.τ).loc Cert.MlaDwIdeal.main_arg0) = m ((c.tc : Thread Cert.MlaDwIdeal.nD Cert.MlaDwIdeal.τ).loc Cert.MlaDwIdeal.main_arg0)
      ∧ r.2.mem ((c.tc : Thread Cert.MlaDwIdeal.nD Cert.MlaDwIdeal.τ).loc Cert.MlaDwIdeal.main_arg1) = m ((c.tc : Thread Cert.MlaDwIdeal.nD Cert.MlaDwIdeal.τ).loc Cert.MlaDwIdeal.main_arg1))
      ∧ r.2.sem = fun _ => 0)

def quiescent_MlaDwReferenceIdeal [hMlaDwReferenceIdeal : Cert.MlaDwReferenceIdeal.Facts] : Prop :=
  ∀ (m : (ℓ : Loc Cert.MlaDwReferenceIdeal.nD Cert.MlaDwReferenceIdeal.τ Cert.MlaDwReferenceIdeal.sig) → Buf (Elt Ideal) ℓ) (g : Dev Cert.MlaDwReferenceIdeal.nD → PrngReg), Pre_MlaDwReferenceIdeal m →
    θ_run (Cert.MlaDwReferenceIdeal.defs (F := Ideal)) (onTc (τ := Cert.MlaDwReferenceIdeal.τ) (Cert.MlaDwReferenceIdeal.main (F := Ideal))) ⟨m, fun _ => 0, g⟩ (fun r => (∀ c : Dev Cert.MlaDwReferenceIdeal.nD,
      r.2.mem ((c.tc : Thread Cert.MlaDwReferenceIdeal.nD Cert.MlaDwReferenceIdeal.τ).loc Cert.MlaDwReferenceIdeal.main_arg0) = m ((c.tc : Thread Cert.MlaDwReferenceIdeal.nD Cert.MlaDwReferenceIdeal.τ).loc Cert.MlaDwReferenceIdeal.main_arg0)
      ∧ r.2.mem ((c.tc : Thread Cert.MlaDwReferenceIdeal.nD Cert.MlaDwReferenceIdeal.τ).loc Cert.MlaDwReferenceIdeal.main_arg1) = m ((c.tc : Thread Cert.MlaDwReferenceIdeal.nD Cert.MlaDwReferenceIdeal.τ).loc Cert.MlaDwReferenceIdeal.main_arg1))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ r.2.sem = fun _ => 0)

def quiescent_QDxReferenceIdeal [hQDxReferenceIdeal : Cert.QDxReferenceIdeal.Facts] : Prop :=
  ∀ (m : (ℓ : Loc Cert.QDxReferenceIdeal.nD Cert.QDxReferenceIdeal.τ Cert.QDxReferenceIdeal.sig) → Buf (Elt Ideal) ℓ) (g : Dev Cert.QDxReferenceIdeal.nD → PrngReg), Pre_QDxReferenceIdeal m →
    θ_run (Cert.QDxReferenceIdeal.defs (F := Ideal)) (onTc (τ := Cert.QDxReferenceIdeal.τ) (Cert.QDxReferenceIdeal.main (F := Ideal))) ⟨m, fun _ => 0, g⟩ (fun r => (∀ c : Dev Cert.QDxReferenceIdeal.nD,
      r.2.mem ((c.tc : Thread Cert.QDxReferenceIdeal.nD Cert.QDxReferenceIdeal.τ).loc Cert.QDxReferenceIdeal.main_arg0) = m ((c.tc : Thread Cert.QDxReferenceIdeal.nD Cert.QDxReferenceIdeal.τ).loc Cert.QDxReferenceIdeal.main_arg0)
      ∧ r.2.mem ((c.tc : Thread Cert.QDxReferenceIdeal.nD Cert.QDxReferenceIdeal.τ).loc Cert.QDxReferenceIdeal.main_arg1) = m ((c.tc : Thread Cert.QDxReferenceIdeal.nD Cert.QDxReferenceIdeal.τ).loc Cert.QDxReferenceIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwReferenceIdeal [hQDwReferenceIdeal : Cert.QDwReferenceIdeal.Facts] : Prop :=
  ∀ (m : (ℓ : Loc Cert.QDwReferenceIdeal.nD Cert.QDwReferenceIdeal.τ Cert.QDwReferenceIdeal.sig) → Buf (Elt Ideal) ℓ) (g : Dev Cert.QDwReferenceIdeal.nD → PrngReg), Pre_QDwReferenceIdeal m →
    θ_run (Cert.QDwReferenceIdeal.defs (F := Ideal)) (onTc (τ := Cert.QDwReferenceIdeal.τ) (Cert.QDwReferenceIdeal.main (F := Ideal))) ⟨m, fun _ => 0, g⟩ (fun r => (∀ c : Dev Cert.QDwReferenceIdeal.nD,
      r.2.mem ((c.tc : Thread Cert.QDwReferenceIdeal.nD Cert.QDwReferenceIdeal.τ).loc Cert.QDwReferenceIdeal.main_arg0) = m ((c.tc : Thread Cert.QDwReferenceIdeal.nD Cert.QDwReferenceIdeal.τ).loc Cert.QDwReferenceIdeal.main_arg0)
      ∧ r.2.mem ((c.tc : Thread Cert.QDwReferenceIdeal.nD Cert.QDwReferenceIdeal.τ).loc Cert.QDwReferenceIdeal.main_arg1) = m ((c.tc : Thread Cert.QDwReferenceIdeal.nD Cert.QDwReferenceIdeal.τ).loc Cert.QDwReferenceIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxReferenceIdeal [hKvDxReferenceIdeal : Cert.KvDxReferenceIdeal.Facts] : Prop :=
  ∀ (m : (ℓ : Loc Cert.KvDxReferenceIdeal.nD Cert.KvDxReferenceIdeal.τ Cert.KvDxReferenceIdeal.sig) → Buf (Elt Ideal) ℓ) (g : Dev Cert.KvDxReferenceIdeal.nD → PrngReg), Pre_KvDxReferenceIdeal m →
    θ_run (Cert.KvDxReferenceIdeal.defs (F := Ideal)) (onTc (τ := Cert.KvDxReferenceIdeal.τ) (Cert.KvDxReferenceIdeal.main (F := Ideal))) ⟨m, fun _ => 0, g⟩ (fun r => (∀ c : Dev Cert.KvDxReferenceIdeal.nD,
      r.2.mem ((c.tc : Thread Cert.KvDxReferenceIdeal.nD Cert.KvDxReferenceIdeal.τ).loc Cert.KvDxReferenceIdeal.main_arg0) = m ((c.tc : Thread Cert.KvDxReferenceIdeal.nD Cert.KvDxReferenceIdeal.τ).loc Cert.KvDxReferenceIdeal.main_arg0)
      ∧ r.2.mem ((c.tc : Thread Cert.KvDxReferenceIdeal.nD Cert.KvDxReferenceIdeal.τ).loc Cert.KvDxReferenceIdeal.main_arg1) = m ((c.tc : Thread Cert.KvDxReferenceIdeal.nD Cert.KvDxReferenceIdeal.τ).loc Cert.KvDxReferenceIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwReferenceIdeal [hKvDwReferenceIdeal : Cert.KvDwReferenceIdeal.Facts] : Prop :=
  ∀ (m : (ℓ : Loc Cert.KvDwReferenceIdeal.nD Cert.KvDwReferenceIdeal.τ Cert.KvDwReferenceIdeal.sig) → Buf (Elt Ideal) ℓ) (g : Dev Cert.KvDwReferenceIdeal.nD → PrngReg), Pre_KvDwReferenceIdeal m →
    θ_run (Cert.KvDwReferenceIdeal.defs (F := Ideal)) (onTc (τ := Cert.KvDwReferenceIdeal.τ) (Cert.KvDwReferenceIdeal.main (F := Ideal))) ⟨m, fun _ => 0, g⟩ (fun r => (∀ c : Dev Cert.KvDwReferenceIdeal.nD,
      r.2.mem ((c.tc : Thread Cert.KvDwReferenceIdeal.nD Cert.KvDwReferenceIdeal.τ).loc Cert.KvDwReferenceIdeal.main_arg0) = m ((c.tc : Thread Cert.KvDwReferenceIdeal.nD Cert.KvDwReferenceIdeal.τ).loc Cert.KvDwReferenceIdeal.main_arg0)
      ∧ r.2.mem ((c.tc : Thread Cert.KvDwReferenceIdeal.nD Cert.KvDwReferenceIdeal.τ).loc Cert.KvDwReferenceIdeal.main_arg1) = m ((c.tc : Thread Cert.KvDwReferenceIdeal.nD Cert.KvDwReferenceIdeal.τ).loc Cert.KvDwReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamRet [hAdamRet : Cert.AdamRet.Facts] : Prop :=
  ∀ (m : (ℓ : Loc Cert.AdamRet.nD Cert.AdamRet.τ Cert.AdamRet.sig) → Buf (Elt Bits) ℓ) (g : Dev Cert.AdamRet.nD → PrngReg), Pre_AdamRet m →
    θ_run (Cert.AdamRet.defs (F := Bits)) (onTc (τ := Cert.AdamRet.τ) (Cert.AdamRet.main (F := Bits))) ⟨m, fun _ => 0, g⟩ (fun r => (∀ c : Dev Cert.AdamRet.nD,
      r.2.mem ((c.tc : Thread Cert.AdamRet.nD Cert.AdamRet.τ).loc Cert.AdamRet.main_arg0) = m ((c.tc : Thread Cert.AdamRet.nD Cert.AdamRet.τ).loc Cert.AdamRet.main_arg0)
      ∧ r.2.mem ((c.tc : Thread Cert.AdamRet.nD Cert.AdamRet.τ).loc Cert.AdamRet.main_arg1) = m ((c.tc : Thread Cert.AdamRet.nD Cert.AdamRet.τ).loc Cert.AdamRet.main_arg1)
      ∧ r.2.mem ((c.tc : Thread Cert.AdamRet.nD Cert.AdamRet.τ).loc Cert.AdamRet.main_arg2) = m ((c.tc : Thread Cert.AdamRet.nD Cert.AdamRet.τ).loc Cert.AdamRet.main_arg2)
      ∧ r.2.mem ((c.tc : Thread Cert.AdamRet.nD Cert.AdamRet.τ).loc Cert.AdamRet.main_arg3) = m ((c.tc : Thread Cert.AdamRet.nD Cert.AdamRet.τ).loc Cert.AdamRet.main_arg3)
      ∧ r.2.mem ((c.tc : Thread Cert.AdamRet.nD Cert.AdamRet.τ).loc Cert.AdamRet.main_arg4) = m ((c.tc : Thread Cert.AdamRet.nD Cert.AdamRet.τ).loc Cert.AdamRet.main_arg4))
      ∧ r.2.sem = fun _ => 0)

def quiescent_AdamRetIdeal [hAdamRetIdeal : Cert.AdamRetIdeal.Facts] : Prop :=
  ∀ (m : (ℓ : Loc Cert.AdamRetIdeal.nD Cert.AdamRetIdeal.τ Cert.AdamRetIdeal.sig) → Buf (Elt Ideal) ℓ) (g : Dev Cert.AdamRetIdeal.nD → PrngReg), Pre_AdamRetIdeal m →
    θ_run (Cert.AdamRetIdeal.defs (F := Ideal)) (onTc (τ := Cert.AdamRetIdeal.τ) (Cert.AdamRetIdeal.main (F := Ideal))) ⟨m, fun _ => 0, g⟩ (fun r => (∀ c : Dev Cert.AdamRetIdeal.nD,
      r.2.mem ((c.tc : Thread Cert.AdamRetIdeal.nD Cert.AdamRetIdeal.τ).loc Cert.AdamRetIdeal.main_arg0) = m ((c.tc : Thread Cert.AdamRetIdeal.nD Cert.AdamRetIdeal.τ).loc Cert.AdamRetIdeal.main_arg0)
      ∧ r.2.mem ((c.tc : Thread Cert.AdamRetIdeal.nD Cert.AdamRetIdeal.τ).loc Cert.AdamRetIdeal.main_arg1) = m ((c.tc : Thread Cert.AdamRetIdeal.nD Cert.AdamRetIdeal.τ).loc Cert.AdamRetIdeal.main_arg1)
      ∧ r.2.mem ((c.tc : Thread Cert.AdamRetIdeal.nD Cert.AdamRetIdeal.τ).loc Cert.AdamRetIdeal.main_arg2) = m ((c.tc : Thread Cert.AdamRetIdeal.nD Cert.AdamRetIdeal.τ).loc Cert.AdamRetIdeal.main_arg2)
      ∧ r.2.mem ((c.tc : Thread Cert.AdamRetIdeal.nD Cert.AdamRetIdeal.τ).loc Cert.AdamRetIdeal.main_arg3) = m ((c.tc : Thread Cert.AdamRetIdeal.nD Cert.AdamRetIdeal.τ).loc Cert.AdamRetIdeal.main_arg3)
      ∧ r.2.mem ((c.tc : Thread Cert.AdamRetIdeal.nD Cert.AdamRetIdeal.τ).loc Cert.AdamRetIdeal.main_arg4) = m ((c.tc : Thread Cert.AdamRetIdeal.nD Cert.AdamRetIdeal.τ).loc Cert.AdamRetIdeal.main_arg4))
      ∧ r.2.sem = fun _ => 0)

def quiescent_AdamRetReferenceIdeal [hAdamRetReferenceIdeal : Cert.AdamRetReferenceIdeal.Facts] : Prop :=
  ∀ (m : (ℓ : Loc Cert.AdamRetReferenceIdeal.nD Cert.AdamRetReferenceIdeal.τ Cert.AdamRetReferenceIdeal.sig) → Buf (Elt Ideal) ℓ) (g : Dev Cert.AdamRetReferenceIdeal.nD → PrngReg), Pre_AdamRetReferenceIdeal m →
    θ_run (Cert.AdamRetReferenceIdeal.defs (F := Ideal)) (onTc (τ := Cert.AdamRetReferenceIdeal.τ) (Cert.AdamRetReferenceIdeal.main (F := Ideal))) ⟨m, fun _ => 0, g⟩ (fun r => (∀ c : Dev Cert.AdamRetReferenceIdeal.nD,
      r.2.mem ((c.tc : Thread Cert.AdamRetReferenceIdeal.nD Cert.AdamRetReferenceIdeal.τ).loc Cert.AdamRetReferenceIdeal.main_arg0) = m ((c.tc : Thread Cert.AdamRetReferenceIdeal.nD Cert.AdamRetReferenceIdeal.τ).loc Cert.AdamRetReferenceIdeal.main_arg0)
      ∧ r.2.mem ((c.tc : Thread Cert.AdamRetReferenceIdeal.nD Cert.AdamRetReferenceIdeal.τ).loc Cert.AdamRetReferenceIdeal.main_arg1) = m ((c.tc : Thread Cert.AdamRetReferenceIdeal.nD Cert.AdamRetReferenceIdeal.τ).loc Cert.AdamRetReferenceIdeal.main_arg1)
      ∧ r.2.mem ((c.tc : Thread Cert.AdamRetReferenceIdeal.nD Cert.AdamRetReferenceIdeal.τ).loc Cert.AdamRetReferenceIdeal.main_arg2) = m ((c.tc : Thread Cert.AdamRetReferenceIdeal.nD Cert.AdamRetReferenceIdeal.τ).loc Cert.AdamRetReferenceIdeal.main_arg2)
      ∧ r.2.mem ((c.tc : Thread Cert.AdamRetReferenceIdeal.nD Cert.AdamRetReferenceIdeal.τ).loc Cert.AdamRetReferenceIdeal.main_arg3) = m ((c.tc : Thread Cert.AdamRetReferenceIdeal.nD Cert.AdamRetReferenceIdeal.τ).loc Cert.AdamRetReferenceIdeal.main_arg3)
      ∧ r.2.mem ((c.tc : Thread Cert.AdamRetReferenceIdeal.nD Cert.AdamRetReferenceIdeal.τ).loc Cert.AdamRetReferenceIdeal.main_arg4) = m ((c.tc : Thread Cert.AdamRetReferenceIdeal.nD Cert.AdamRetReferenceIdeal.τ).loc Cert.AdamRetReferenceIdeal.main_arg4))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3)
      ∧ r.2.mem ((c.tc : Thread Cert.AdamQ.nD Cert.AdamQ.τ).loc Cert.AdamQ.main_arg4) = m ((c.tc : Thread Cert.AdamQ.nD Cert.AdamQ.τ).loc Cert.AdamQ.main_arg4))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3)
      ∧ r.2.mem ((c.tc : Thread Cert.AdamQIdeal.nD Cert.AdamQIdeal.τ).loc Cert.AdamQIdeal.main_arg4) = m ((c.tc : Thread Cert.AdamQIdeal.nD Cert.AdamQIdeal.τ).loc Cert.AdamQIdeal.main_arg4))
      ∧ r.2.sem = fun _ => 0)

def quiescent_AdamQReferenceIdeal [hAdamQReferenceIdeal : Cert.AdamQReferenceIdeal.Facts] : Prop :=
  ∀ (m : (ℓ : Loc Cert.AdamQReferenceIdeal.nD Cert.AdamQReferenceIdeal.τ Cert.AdamQReferenceIdeal.sig) → Buf (Elt Ideal) ℓ) (g : Dev Cert.AdamQReferenceIdeal.nD → PrngReg), Pre_AdamQReferenceIdeal m →
    θ_run (Cert.AdamQReferenceIdeal.defs (F := Ideal)) (onTc (τ := Cert.AdamQReferenceIdeal.τ) (Cert.AdamQReferenceIdeal.main (F := Ideal))) ⟨m, fun _ => 0, g⟩ (fun r => (∀ c : Dev Cert.AdamQReferenceIdeal.nD,
      r.2.mem ((c.tc : Thread Cert.AdamQReferenceIdeal.nD Cert.AdamQReferenceIdeal.τ).loc Cert.AdamQReferenceIdeal.main_arg0) = m ((c.tc : Thread Cert.AdamQReferenceIdeal.nD Cert.AdamQReferenceIdeal.τ).loc Cert.AdamQReferenceIdeal.main_arg0)
      ∧ r.2.mem ((c.tc : Thread Cert.AdamQReferenceIdeal.nD Cert.AdamQReferenceIdeal.τ).loc Cert.AdamQReferenceIdeal.main_arg1) = m ((c.tc : Thread Cert.AdamQReferenceIdeal.nD Cert.AdamQReferenceIdeal.τ).loc Cert.AdamQReferenceIdeal.main_arg1)
      ∧ r.2.mem ((c.tc : Thread Cert.AdamQReferenceIdeal.nD Cert.AdamQReferenceIdeal.τ).loc Cert.AdamQReferenceIdeal.main_arg2) = m ((c.tc : Thread Cert.AdamQReferenceIdeal.nD Cert.AdamQReferenceIdeal.τ).loc Cert.AdamQReferenceIdeal.main_arg2)
      ∧ r.2.mem ((c.tc : Thread Cert.AdamQReferenceIdeal.nD Cert.AdamQReferenceIdeal.τ).loc Cert.AdamQReferenceIdeal.main_arg3) = m ((c.tc : Thread Cert.AdamQReferenceIdeal.nD Cert.AdamQReferenceIdeal.τ).loc Cert.AdamQReferenceIdeal.main_arg3)
      ∧ r.2.mem ((c.tc : Thread Cert.AdamQReferenceIdeal.nD Cert.AdamQReferenceIdeal.τ).loc Cert.AdamQReferenceIdeal.main_arg4) = m ((c.tc : Thread Cert.AdamQReferenceIdeal.nD Cert.AdamQReferenceIdeal.τ).loc Cert.AdamQReferenceIdeal.main_arg4))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3)
      ∧ r.2.mem ((c.tc : Thread Cert.AdamKvReferenceIdeal.nD Cert.AdamKvReferenceIdeal.τ).loc Cert.AdamKvReferenceIdeal.main_arg4) = m ((c.tc : Thread Cert.AdamKvReferenceIdeal.nD Cert.AdamKvReferenceIdeal.τ).loc Cert.AdamKvReferenceIdeal.main_arg4))
      ∧ r.2.sem = fun _ => 0)

def quiescent_AdamMla [hAdamMla : Cert.AdamMla.Facts] : Prop :=
  ∀ (m : (ℓ : Loc Cert.AdamMla.nD Cert.AdamMla.τ Cert.AdamMla.sig) → Buf (Elt Bits) ℓ) (g : Dev Cert.AdamMla.nD → PrngReg), Pre_AdamMla m →
    θ_run (Cert.AdamMla.defs (F := Bits)) (onTc (τ := Cert.AdamMla.τ) (Cert.AdamMla.main (F := Bits))) ⟨m, fun _ => 0, g⟩ (fun r => (∀ c : Dev Cert.AdamMla.nD,
      r.2.mem ((c.tc : Thread Cert.AdamMla.nD Cert.AdamMla.τ).loc Cert.AdamMla.main_arg0) = m ((c.tc : Thread Cert.AdamMla.nD Cert.AdamMla.τ).loc Cert.AdamMla.main_arg0)
      ∧ r.2.mem ((c.tc : Thread Cert.AdamMla.nD Cert.AdamMla.τ).loc Cert.AdamMla.main_arg1) = m ((c.tc : Thread Cert.AdamMla.nD Cert.AdamMla.τ).loc Cert.AdamMla.main_arg1)
      ∧ r.2.mem ((c.tc : Thread Cert.AdamMla.nD Cert.AdamMla.τ).loc Cert.AdamMla.main_arg2) = m ((c.tc : Thread Cert.AdamMla.nD Cert.AdamMla.τ).loc Cert.AdamMla.main_arg2)
      ∧ r.2.mem ((c.tc : Thread Cert.AdamMla.nD Cert.AdamMla.τ).loc Cert.AdamMla.main_arg3) = m ((c.tc : Thread Cert.AdamMla.nD Cert.AdamMla.τ).loc Cert.AdamMla.main_arg3)
      ∧ r.2.mem ((c.tc : Thread Cert.AdamMla.nD Cert.AdamMla.τ).loc Cert.AdamMla.main_arg4) = m ((c.tc : Thread Cert.AdamMla.nD Cert.AdamMla.τ).loc Cert.AdamMla.main_arg4))
      ∧ r.2.sem = fun _ => 0)

def quiescent_AdamMlaIdeal [hAdamMlaIdeal : Cert.AdamMlaIdeal.Facts] : Prop :=
  ∀ (m : (ℓ : Loc Cert.AdamMlaIdeal.nD Cert.AdamMlaIdeal.τ Cert.AdamMlaIdeal.sig) → Buf (Elt Ideal) ℓ) (g : Dev Cert.AdamMlaIdeal.nD → PrngReg), Pre_AdamMlaIdeal m →
    θ_run (Cert.AdamMlaIdeal.defs (F := Ideal)) (onTc (τ := Cert.AdamMlaIdeal.τ) (Cert.AdamMlaIdeal.main (F := Ideal))) ⟨m, fun _ => 0, g⟩ (fun r => (∀ c : Dev Cert.AdamMlaIdeal.nD,
      r.2.mem ((c.tc : Thread Cert.AdamMlaIdeal.nD Cert.AdamMlaIdeal.τ).loc Cert.AdamMlaIdeal.main_arg0) = m ((c.tc : Thread Cert.AdamMlaIdeal.nD Cert.AdamMlaIdeal.τ).loc Cert.AdamMlaIdeal.main_arg0)
      ∧ r.2.mem ((c.tc : Thread Cert.AdamMlaIdeal.nD Cert.AdamMlaIdeal.τ).loc Cert.AdamMlaIdeal.main_arg1) = m ((c.tc : Thread Cert.AdamMlaIdeal.nD Cert.AdamMlaIdeal.τ).loc Cert.AdamMlaIdeal.main_arg1)
      ∧ r.2.mem ((c.tc : Thread Cert.AdamMlaIdeal.nD Cert.AdamMlaIdeal.τ).loc Cert.AdamMlaIdeal.main_arg2) = m ((c.tc : Thread Cert.AdamMlaIdeal.nD Cert.AdamMlaIdeal.τ).loc Cert.AdamMlaIdeal.main_arg2)
      ∧ r.2.mem ((c.tc : Thread Cert.AdamMlaIdeal.nD Cert.AdamMlaIdeal.τ).loc Cert.AdamMlaIdeal.main_arg3) = m ((c.tc : Thread Cert.AdamMlaIdeal.nD Cert.AdamMlaIdeal.τ).loc Cert.AdamMlaIdeal.main_arg3)
      ∧ r.2.mem ((c.tc : Thread Cert.AdamMlaIdeal.nD Cert.AdamMlaIdeal.τ).loc Cert.AdamMlaIdeal.main_arg4) = m ((c.tc : Thread Cert.AdamMlaIdeal.nD Cert.AdamMlaIdeal.τ).loc Cert.AdamMlaIdeal.main_arg4))
      ∧ r.2.sem = fun _ => 0)

def quiescent_AdamMlaReferenceIdeal [hAdamMlaReferenceIdeal : Cert.AdamMlaReferenceIdeal.Facts] : Prop :=
  ∀ (m : (ℓ : Loc Cert.AdamMlaReferenceIdeal.nD Cert.AdamMlaReferenceIdeal.τ Cert.AdamMlaReferenceIdeal.sig) → Buf (Elt Ideal) ℓ) (g : Dev Cert.AdamMlaReferenceIdeal.nD → PrngReg), Pre_AdamMlaReferenceIdeal m →
    θ_run (Cert.AdamMlaReferenceIdeal.defs (F := Ideal)) (onTc (τ := Cert.AdamMlaReferenceIdeal.τ) (Cert.AdamMlaReferenceIdeal.main (F := Ideal))) ⟨m, fun _ => 0, g⟩ (fun r => (∀ c : Dev Cert.AdamMlaReferenceIdeal.nD,
      r.2.mem ((c.tc : Thread Cert.AdamMlaReferenceIdeal.nD Cert.AdamMlaReferenceIdeal.τ).loc Cert.AdamMlaReferenceIdeal.main_arg0) = m ((c.tc : Thread Cert.AdamMlaReferenceIdeal.nD Cert.AdamMlaReferenceIdeal.τ).loc Cert.AdamMlaReferenceIdeal.main_arg0)
      ∧ r.2.mem ((c.tc : Thread Cert.AdamMlaReferenceIdeal.nD Cert.AdamMlaReferenceIdeal.τ).loc Cert.AdamMlaReferenceIdeal.main_arg1) = m ((c.tc : Thread Cert.AdamMlaReferenceIdeal.nD Cert.AdamMlaReferenceIdeal.τ).loc Cert.AdamMlaReferenceIdeal.main_arg1)
      ∧ r.2.mem ((c.tc : Thread Cert.AdamMlaReferenceIdeal.nD Cert.AdamMlaReferenceIdeal.τ).loc Cert.AdamMlaReferenceIdeal.main_arg2) = m ((c.tc : Thread Cert.AdamMlaReferenceIdeal.nD Cert.AdamMlaReferenceIdeal.τ).loc Cert.AdamMlaReferenceIdeal.main_arg2)
      ∧ r.2.mem ((c.tc : Thread Cert.AdamMlaReferenceIdeal.nD Cert.AdamMlaReferenceIdeal.τ).loc Cert.AdamMlaReferenceIdeal.main_arg3) = m ((c.tc : Thread Cert.AdamMlaReferenceIdeal.nD Cert.AdamMlaReferenceIdeal.τ).loc Cert.AdamMlaReferenceIdeal.main_arg3)
      ∧ r.2.mem ((c.tc : Thread Cert.AdamMlaReferenceIdeal.nD Cert.AdamMlaReferenceIdeal.τ).loc Cert.AdamMlaReferenceIdeal.main_arg4) = m ((c.tc : Thread Cert.AdamMlaReferenceIdeal.nD Cert.AdamMlaReferenceIdeal.τ).loc Cert.AdamMlaReferenceIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3))
      ∧ r.2.sem = fun _ => 0)

def quiescent_MixBwdReferenceIdeal [hMixBwdReferenceIdeal : Cert.MixBwdReferenceIdeal.Facts] : Prop :=
  ∀ (m : (ℓ : Loc Cert.MixBwdReferenceIdeal.nD Cert.MixBwdReferenceIdeal.τ Cert.MixBwdReferenceIdeal.sig) → Buf (Elt Ideal) ℓ) (g : Dev Cert.MixBwdReferenceIdeal.nD → PrngReg), Pre_MixBwdReferenceIdeal m →
    θ_run (Cert.MixBwdReferenceIdeal.defs (F := Ideal)) (onTc (τ := Cert.MixBwdReferenceIdeal.τ) (Cert.MixBwdReferenceIdeal.main (F := Ideal))) ⟨m, fun _ => 0, g⟩ (fun r => (∀ c : Dev Cert.MixBwdReferenceIdeal.nD,
      r.2.mem ((c.tc : Thread Cert.MixBwdReferenceIdeal.nD Cert.MixBwdReferenceIdeal.τ).loc Cert.MixBwdReferenceIdeal.main_arg0) = m ((c.tc : Thread Cert.MixBwdReferenceIdeal.nD Cert.MixBwdReferenceIdeal.τ).loc Cert.MixBwdReferenceIdeal.main_arg0)
      ∧ r.2.mem ((c.tc : Thread Cert.MixBwdReferenceIdeal.nD Cert.MixBwdReferenceIdeal.τ).loc Cert.MixBwdReferenceIdeal.main_arg1) = m ((c.tc : Thread Cert.MixBwdReferenceIdeal.nD Cert.MixBwdReferenceIdeal.τ).loc Cert.MixBwdReferenceIdeal.main_arg1)
      ∧ r.2.mem ((c.tc : Thread Cert.MixBwdReferenceIdeal.nD Cert.MixBwdReferenceIdeal.τ).loc Cert.MixBwdReferenceIdeal.main_arg2) = m ((c.tc : Thread Cert.MixBwdReferenceIdeal.nD Cert.MixBwdReferenceIdeal.τ).loc Cert.MixBwdReferenceIdeal.main_arg2)
      ∧ r.2.mem ((c.tc : Thread Cert.MixBwdReferenceIdeal.nD Cert.MixBwdReferenceIdeal.τ).loc Cert.MixBwdReferenceIdeal.main_arg3) = m ((c.tc : Thread Cert.MixBwdReferenceIdeal.nD Cert.MixBwdReferenceIdeal.τ).loc Cert.MixBwdReferenceIdeal.main_arg3))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ r.2.sem = fun _ => 0)

def quiescent_MlpBwdReferenceIdeal [hMlpBwdReferenceIdeal : Cert.MlpBwdReferenceIdeal.Facts] : Prop :=
  ∀ (m : (ℓ : Loc Cert.MlpBwdReferenceIdeal.nD Cert.MlpBwdReferenceIdeal.τ Cert.MlpBwdReferenceIdeal.sig) → Buf (Elt Ideal) ℓ) (g : Dev Cert.MlpBwdReferenceIdeal.nD → PrngReg), Pre_MlpBwdReferenceIdeal m →
    θ_run (Cert.MlpBwdReferenceIdeal.defs (F := Ideal)) (onTc (τ := Cert.MlpBwdReferenceIdeal.τ) (Cert.MlpBwdReferenceIdeal.main (F := Ideal))) ⟨m, fun _ => 0, g⟩ (fun r => (∀ c : Dev Cert.MlpBwdReferenceIdeal.nD,
      r.2.mem ((c.tc : Thread Cert.MlpBwdReferenceIdeal.nD Cert.MlpBwdReferenceIdeal.τ).loc Cert.MlpBwdReferenceIdeal.main_arg0) = m ((c.tc : Thread Cert.MlpBwdReferenceIdeal.nD Cert.MlpBwdReferenceIdeal.τ).loc Cert.MlpBwdReferenceIdeal.main_arg0)
      ∧ r.2.mem ((c.tc : Thread Cert.MlpBwdReferenceIdeal.nD Cert.MlpBwdReferenceIdeal.τ).loc Cert.MlpBwdReferenceIdeal.main_arg1) = m ((c.tc : Thread Cert.MlpBwdReferenceIdeal.nD Cert.MlpBwdReferenceIdeal.τ).loc Cert.MlpBwdReferenceIdeal.main_arg1)
      ∧ r.2.mem ((c.tc : Thread Cert.MlpBwdReferenceIdeal.nD Cert.MlpBwdReferenceIdeal.τ).loc Cert.MlpBwdReferenceIdeal.main_arg2) = m ((c.tc : Thread Cert.MlpBwdReferenceIdeal.nD Cert.MlpBwdReferenceIdeal.τ).loc Cert.MlpBwdReferenceIdeal.main_arg2)
      ∧ r.2.mem ((c.tc : Thread Cert.MlpBwdReferenceIdeal.nD Cert.MlpBwdReferenceIdeal.τ).loc Cert.MlpBwdReferenceIdeal.main_arg3) = m ((c.tc : Thread Cert.MlpBwdReferenceIdeal.nD Cert.MlpBwdReferenceIdeal.τ).loc Cert.MlpBwdReferenceIdeal.main_arg3))
      ∧ r.2.sem = fun _ => 0)

def quiescent_QLatent [hQLatent : Cert.QLatent.Facts] : Prop :=
  ∀ (m : (ℓ : Loc Cert.QLatent.nD Cert.QLatent.τ Cert.QLatent.sig) → Buf (Elt Bits) ℓ) (g : Dev Cert.QLatent.nD → PrngReg), Pre_QLatent m →
    θ_run (Cert.QLatent.defs (F := Bits)) (onTc (τ := Cert.QLatent.τ) (Cert.QLatent.main (F := Bits))) ⟨m, fun _ => 0, g⟩ (fun r => (∀ c : Dev Cert.QLatent.nD,
      r.2.mem ((c.tc : Thread Cert.QLatent.nD Cert.QLatent.τ).loc Cert.QLatent.main_arg0) = m ((c.tc : Thread Cert.QLatent.nD Cert.QLatent.τ).loc Cert.QLatent.main_arg0)
      ∧ r.2.mem ((c.tc : Thread Cert.QLatent.nD Cert.QLatent.τ).loc Cert.QLatent.main_arg1) = m ((c.tc : Thread Cert.QLatent.nD Cert.QLatent.τ).loc Cert.QLatent.main_arg1)
      ∧ r.2.mem ((c.tc : Thread Cert.QLatent.nD Cert.QLatent.τ).loc Cert.QLatent.main_arg2) = m ((c.tc : Thread Cert.QLatent.nD Cert.QLatent.τ).loc Cert.QLatent.main_arg2)
      ∧ r.2.mem ((c.tc : Thread Cert.QLatent.nD Cert.QLatent.τ).loc Cert.QLatent.main_arg3) = m ((c.tc : Thread Cert.QLatent.nD Cert.QLatent.τ).loc Cert.QLatent.main_arg3))
      ∧ r.2.sem = fun _ => 0)

def quiescent_QLatentIdeal [hQLatentIdeal : Cert.QLatentIdeal.Facts] : Prop :=
  ∀ (m : (ℓ : Loc Cert.QLatentIdeal.nD Cert.QLatentIdeal.τ Cert.QLatentIdeal.sig) → Buf (Elt Ideal) ℓ) (g : Dev Cert.QLatentIdeal.nD → PrngReg), Pre_QLatentIdeal m →
    θ_run (Cert.QLatentIdeal.defs (F := Ideal)) (onTc (τ := Cert.QLatentIdeal.τ) (Cert.QLatentIdeal.main (F := Ideal))) ⟨m, fun _ => 0, g⟩ (fun r => (∀ c : Dev Cert.QLatentIdeal.nD,
      r.2.mem ((c.tc : Thread Cert.QLatentIdeal.nD Cert.QLatentIdeal.τ).loc Cert.QLatentIdeal.main_arg0) = m ((c.tc : Thread Cert.QLatentIdeal.nD Cert.QLatentIdeal.τ).loc Cert.QLatentIdeal.main_arg0)
      ∧ r.2.mem ((c.tc : Thread Cert.QLatentIdeal.nD Cert.QLatentIdeal.τ).loc Cert.QLatentIdeal.main_arg1) = m ((c.tc : Thread Cert.QLatentIdeal.nD Cert.QLatentIdeal.τ).loc Cert.QLatentIdeal.main_arg1)
      ∧ r.2.mem ((c.tc : Thread Cert.QLatentIdeal.nD Cert.QLatentIdeal.τ).loc Cert.QLatentIdeal.main_arg2) = m ((c.tc : Thread Cert.QLatentIdeal.nD Cert.QLatentIdeal.τ).loc Cert.QLatentIdeal.main_arg2)
      ∧ r.2.mem ((c.tc : Thread Cert.QLatentIdeal.nD Cert.QLatentIdeal.τ).loc Cert.QLatentIdeal.main_arg3) = m ((c.tc : Thread Cert.QLatentIdeal.nD Cert.QLatentIdeal.τ).loc Cert.QLatentIdeal.main_arg3))
      ∧ r.2.sem = fun _ => 0)

def quiescent_QLatentReferenceIdeal [hQLatentReferenceIdeal : Cert.QLatentReferenceIdeal.Facts] : Prop :=
  ∀ (m : (ℓ : Loc Cert.QLatentReferenceIdeal.nD Cert.QLatentReferenceIdeal.τ Cert.QLatentReferenceIdeal.sig) → Buf (Elt Ideal) ℓ) (g : Dev Cert.QLatentReferenceIdeal.nD → PrngReg), Pre_QLatentReferenceIdeal m →
    θ_run (Cert.QLatentReferenceIdeal.defs (F := Ideal)) (onTc (τ := Cert.QLatentReferenceIdeal.τ) (Cert.QLatentReferenceIdeal.main (F := Ideal))) ⟨m, fun _ => 0, g⟩ (fun r => (∀ c : Dev Cert.QLatentReferenceIdeal.nD,
      r.2.mem ((c.tc : Thread Cert.QLatentReferenceIdeal.nD Cert.QLatentReferenceIdeal.τ).loc Cert.QLatentReferenceIdeal.main_arg0) = m ((c.tc : Thread Cert.QLatentReferenceIdeal.nD Cert.QLatentReferenceIdeal.τ).loc Cert.QLatentReferenceIdeal.main_arg0)
      ∧ r.2.mem ((c.tc : Thread Cert.QLatentReferenceIdeal.nD Cert.QLatentReferenceIdeal.τ).loc Cert.QLatentReferenceIdeal.main_arg1) = m ((c.tc : Thread Cert.QLatentReferenceIdeal.nD Cert.QLatentReferenceIdeal.τ).loc Cert.QLatentReferenceIdeal.main_arg1)
      ∧ r.2.mem ((c.tc : Thread Cert.QLatentReferenceIdeal.nD Cert.QLatentReferenceIdeal.τ).loc Cert.QLatentReferenceIdeal.main_arg2) = m ((c.tc : Thread Cert.QLatentReferenceIdeal.nD Cert.QLatentReferenceIdeal.τ).loc Cert.QLatentReferenceIdeal.main_arg2)
      ∧ r.2.mem ((c.tc : Thread Cert.QLatentReferenceIdeal.nD Cert.QLatentReferenceIdeal.τ).loc Cert.QLatentReferenceIdeal.main_arg3) = m ((c.tc : Thread Cert.QLatentReferenceIdeal.nD Cert.QLatentReferenceIdeal.τ).loc Cert.QLatentReferenceIdeal.main_arg3))
      ∧ r.2.sem = fun _ => 0)

def quiescent_KvLatent [hKvLatent : Cert.KvLatent.Facts] : Prop :=
  ∀ (m : (ℓ : Loc Cert.KvLatent.nD Cert.KvLatent.τ Cert.KvLatent.sig) → Buf (Elt Bits) ℓ) (g : Dev Cert.KvLatent.nD → PrngReg), Pre_KvLatent m →
    θ_run (Cert.KvLatent.defs (F := Bits)) (onTc (τ := Cert.KvLatent.τ) (Cert.KvLatent.main (F := Bits))) ⟨m, fun _ => 0, g⟩ (fun r => (∀ c : Dev Cert.KvLatent.nD,
      r.2.mem ((c.tc : Thread Cert.KvLatent.nD Cert.KvLatent.τ).loc Cert.KvLatent.main_arg0) = m ((c.tc : Thread Cert.KvLatent.nD Cert.KvLatent.τ).loc Cert.KvLatent.main_arg0)
      ∧ r.2.mem ((c.tc : Thread Cert.KvLatent.nD Cert.KvLatent.τ).loc Cert.KvLatent.main_arg1) = m ((c.tc : Thread Cert.KvLatent.nD Cert.KvLatent.τ).loc Cert.KvLatent.main_arg1)
      ∧ r.2.mem ((c.tc : Thread Cert.KvLatent.nD Cert.KvLatent.τ).loc Cert.KvLatent.main_arg2) = m ((c.tc : Thread Cert.KvLatent.nD Cert.KvLatent.τ).loc Cert.KvLatent.main_arg2)
      ∧ r.2.mem ((c.tc : Thread Cert.KvLatent.nD Cert.KvLatent.τ).loc Cert.KvLatent.main_arg3) = m ((c.tc : Thread Cert.KvLatent.nD Cert.KvLatent.τ).loc Cert.KvLatent.main_arg3))
      ∧ r.2.sem = fun _ => 0)

def quiescent_KvLatentIdeal [hKvLatentIdeal : Cert.KvLatentIdeal.Facts] : Prop :=
  ∀ (m : (ℓ : Loc Cert.KvLatentIdeal.nD Cert.KvLatentIdeal.τ Cert.KvLatentIdeal.sig) → Buf (Elt Ideal) ℓ) (g : Dev Cert.KvLatentIdeal.nD → PrngReg), Pre_KvLatentIdeal m →
    θ_run (Cert.KvLatentIdeal.defs (F := Ideal)) (onTc (τ := Cert.KvLatentIdeal.τ) (Cert.KvLatentIdeal.main (F := Ideal))) ⟨m, fun _ => 0, g⟩ (fun r => (∀ c : Dev Cert.KvLatentIdeal.nD,
      r.2.mem ((c.tc : Thread Cert.KvLatentIdeal.nD Cert.KvLatentIdeal.τ).loc Cert.KvLatentIdeal.main_arg0) = m ((c.tc : Thread Cert.KvLatentIdeal.nD Cert.KvLatentIdeal.τ).loc Cert.KvLatentIdeal.main_arg0)
      ∧ r.2.mem ((c.tc : Thread Cert.KvLatentIdeal.nD Cert.KvLatentIdeal.τ).loc Cert.KvLatentIdeal.main_arg1) = m ((c.tc : Thread Cert.KvLatentIdeal.nD Cert.KvLatentIdeal.τ).loc Cert.KvLatentIdeal.main_arg1)
      ∧ r.2.mem ((c.tc : Thread Cert.KvLatentIdeal.nD Cert.KvLatentIdeal.τ).loc Cert.KvLatentIdeal.main_arg2) = m ((c.tc : Thread Cert.KvLatentIdeal.nD Cert.KvLatentIdeal.τ).loc Cert.KvLatentIdeal.main_arg2)
      ∧ r.2.mem ((c.tc : Thread Cert.KvLatentIdeal.nD Cert.KvLatentIdeal.τ).loc Cert.KvLatentIdeal.main_arg3) = m ((c.tc : Thread Cert.KvLatentIdeal.nD Cert.KvLatentIdeal.τ).loc Cert.KvLatentIdeal.main_arg3))
      ∧ r.2.sem = fun _ => 0)

def quiescent_KvLatentReferenceIdeal [hKvLatentReferenceIdeal : Cert.KvLatentReferenceIdeal.Facts] : Prop :=
  ∀ (m : (ℓ : Loc Cert.KvLatentReferenceIdeal.nD Cert.KvLatentReferenceIdeal.τ Cert.KvLatentReferenceIdeal.sig) → Buf (Elt Ideal) ℓ) (g : Dev Cert.KvLatentReferenceIdeal.nD → PrngReg), Pre_KvLatentReferenceIdeal m →
    θ_run (Cert.KvLatentReferenceIdeal.defs (F := Ideal)) (onTc (τ := Cert.KvLatentReferenceIdeal.τ) (Cert.KvLatentReferenceIdeal.main (F := Ideal))) ⟨m, fun _ => 0, g⟩ (fun r => (∀ c : Dev Cert.KvLatentReferenceIdeal.nD,
      r.2.mem ((c.tc : Thread Cert.KvLatentReferenceIdeal.nD Cert.KvLatentReferenceIdeal.τ).loc Cert.KvLatentReferenceIdeal.main_arg0) = m ((c.tc : Thread Cert.KvLatentReferenceIdeal.nD Cert.KvLatentReferenceIdeal.τ).loc Cert.KvLatentReferenceIdeal.main_arg0)
      ∧ r.2.mem ((c.tc : Thread Cert.KvLatentReferenceIdeal.nD Cert.KvLatentReferenceIdeal.τ).loc Cert.KvLatentReferenceIdeal.main_arg1) = m ((c.tc : Thread Cert.KvLatentReferenceIdeal.nD Cert.KvLatentReferenceIdeal.τ).loc Cert.KvLatentReferenceIdeal.main_arg1)
      ∧ r.2.mem ((c.tc : Thread Cert.KvLatentReferenceIdeal.nD Cert.KvLatentReferenceIdeal.τ).loc Cert.KvLatentReferenceIdeal.main_arg2) = m ((c.tc : Thread Cert.KvLatentReferenceIdeal.nD Cert.KvLatentReferenceIdeal.τ).loc Cert.KvLatentReferenceIdeal.main_arg2)
      ∧ r.2.mem ((c.tc : Thread Cert.KvLatentReferenceIdeal.nD Cert.KvLatentReferenceIdeal.τ).loc Cert.KvLatentReferenceIdeal.main_arg3) = m ((c.tc : Thread Cert.KvLatentReferenceIdeal.nD Cert.KvLatentReferenceIdeal.τ).loc Cert.KvLatentReferenceIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2)
      ∧ r.2.mem ((c.tc : Thread Cert.LossHeadReferenceIdeal.nD Cert.LossHeadReferenceIdeal.τ).loc Cert.LossHeadReferenceIdeal.main_arg3) = m ((c.tc : Thread Cert.LossHeadReferenceIdeal.nD Cert.LossHeadReferenceIdeal.τ).loc Cert.LossHeadReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaReferenceIdeal [hDeltaReferenceIdeal : Cert.DeltaReferenceIdeal.Facts] : Prop :=
  ∀ (m : (ℓ : Loc Cert.DeltaReferenceIdeal.nD Cert.DeltaReferenceIdeal.τ Cert.DeltaReferenceIdeal.sig) → Buf (Elt Ideal) ℓ) (g : Dev Cert.DeltaReferenceIdeal.nD → PrngReg), Pre_DeltaReferenceIdeal m →
    θ_run (Cert.DeltaReferenceIdeal.defs (F := Ideal)) (onTc (τ := Cert.DeltaReferenceIdeal.τ) (Cert.DeltaReferenceIdeal.main (F := Ideal))) ⟨m, fun _ => 0, g⟩ (fun r => (∀ c : Dev Cert.DeltaReferenceIdeal.nD,
      r.2.mem ((c.tc : Thread Cert.DeltaReferenceIdeal.nD Cert.DeltaReferenceIdeal.τ).loc Cert.DeltaReferenceIdeal.main_arg0) = m ((c.tc : Thread Cert.DeltaReferenceIdeal.nD Cert.DeltaReferenceIdeal.τ).loc Cert.DeltaReferenceIdeal.main_arg0)
      ∧ r.2.mem ((c.tc : Thread Cert.DeltaReferenceIdeal.nD Cert.DeltaReferenceIdeal.τ).loc Cert.DeltaReferenceIdeal.main_arg1) = m ((c.tc : Thread Cert.DeltaReferenceIdeal.nD Cert.DeltaReferenceIdeal.τ).loc Cert.DeltaReferenceIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpReferenceIdeal [hKvUpReferenceIdeal : Cert.KvUpReferenceIdeal.Facts] : Prop :=
  ∀ (m : (ℓ : Loc Cert.KvUpReferenceIdeal.nD Cert.KvUpReferenceIdeal.τ Cert.KvUpReferenceIdeal.sig) → Buf (Elt Ideal) ℓ) (g : Dev Cert.KvUpReferenceIdeal.nD → PrngReg), Pre_KvUpReferenceIdeal m →
    θ_run (Cert.KvUpReferenceIdeal.defs (F := Ideal)) (onTc (τ := Cert.KvUpReferenceIdeal.τ) (Cert.KvUpReferenceIdeal.main (F := Ideal))) ⟨m, fun _ => 0, g⟩ (fun r => (∀ c : Dev Cert.KvUpReferenceIdeal.nD,
      r.2.mem ((c.tc : Thread Cert.KvUpReferenceIdeal.nD Cert.KvUpReferenceIdeal.τ).loc Cert.KvUpReferenceIdeal.main_arg0) = m ((c.tc : Thread Cert.KvUpReferenceIdeal.nD Cert.KvUpReferenceIdeal.τ).loc Cert.KvUpReferenceIdeal.main_arg0)
      ∧ r.2.mem ((c.tc : Thread Cert.KvUpReferenceIdeal.nD Cert.KvUpReferenceIdeal.τ).loc Cert.KvUpReferenceIdeal.main_arg1) = m ((c.tc : Thread Cert.KvUpReferenceIdeal.nD Cert.KvUpReferenceIdeal.τ).loc Cert.KvUpReferenceIdeal.main_arg1)
      ∧ r.2.mem ((c.tc : Thread Cert.KvUpReferenceIdeal.nD Cert.KvUpReferenceIdeal.τ).loc Cert.KvUpReferenceIdeal.main_arg2) = m ((c.tc : Thread Cert.KvUpReferenceIdeal.nD Cert.KvUpReferenceIdeal.τ).loc Cert.KvUpReferenceIdeal.main_arg2))
      ∧ r.2.sem = fun _ => 0)

def quiescent_KeyGrad [hKeyGrad : Cert.KeyGrad.Facts] : Prop :=
  ∀ (m : (ℓ : Loc Cert.KeyGrad.nD Cert.KeyGrad.τ Cert.KeyGrad.sig) → Buf (Elt Bits) ℓ) (g : Dev Cert.KeyGrad.nD → PrngReg), Pre_KeyGrad m →
    θ_run (Cert.KeyGrad.defs (F := Bits)) (onTc (τ := Cert.KeyGrad.τ) (Cert.KeyGrad.main (F := Bits))) ⟨m, fun _ => 0, g⟩ (fun r => (∀ c : Dev Cert.KeyGrad.nD,
      r.2.mem ((c.tc : Thread Cert.KeyGrad.nD Cert.KeyGrad.τ).loc Cert.KeyGrad.main_arg0) = m ((c.tc : Thread Cert.KeyGrad.nD Cert.KeyGrad.τ).loc Cert.KeyGrad.main_arg0)
      ∧ r.2.mem ((c.tc : Thread Cert.KeyGrad.nD Cert.KeyGrad.τ).loc Cert.KeyGrad.main_arg1) = m ((c.tc : Thread Cert.KeyGrad.nD Cert.KeyGrad.τ).loc Cert.KeyGrad.main_arg1))
      ∧ r.2.sem = fun _ => 0)

def quiescent_KeyGradIdeal [hKeyGradIdeal : Cert.KeyGradIdeal.Facts] : Prop :=
  ∀ (m : (ℓ : Loc Cert.KeyGradIdeal.nD Cert.KeyGradIdeal.τ Cert.KeyGradIdeal.sig) → Buf (Elt Ideal) ℓ) (g : Dev Cert.KeyGradIdeal.nD → PrngReg), Pre_KeyGradIdeal m →
    θ_run (Cert.KeyGradIdeal.defs (F := Ideal)) (onTc (τ := Cert.KeyGradIdeal.τ) (Cert.KeyGradIdeal.main (F := Ideal))) ⟨m, fun _ => 0, g⟩ (fun r => (∀ c : Dev Cert.KeyGradIdeal.nD,
      r.2.mem ((c.tc : Thread Cert.KeyGradIdeal.nD Cert.KeyGradIdeal.τ).loc Cert.KeyGradIdeal.main_arg0) = m ((c.tc : Thread Cert.KeyGradIdeal.nD Cert.KeyGradIdeal.τ).loc Cert.KeyGradIdeal.main_arg0)
      ∧ r.2.mem ((c.tc : Thread Cert.KeyGradIdeal.nD Cert.KeyGradIdeal.τ).loc Cert.KeyGradIdeal.main_arg1) = m ((c.tc : Thread Cert.KeyGradIdeal.nD Cert.KeyGradIdeal.τ).loc Cert.KeyGradIdeal.main_arg1))
      ∧ r.2.sem = fun _ => 0)

def quiescent_KeyGradReferenceIdeal [hKeyGradReferenceIdeal : Cert.KeyGradReferenceIdeal.Facts] : Prop :=
  ∀ (m : (ℓ : Loc Cert.KeyGradReferenceIdeal.nD Cert.KeyGradReferenceIdeal.τ Cert.KeyGradReferenceIdeal.sig) → Buf (Elt Ideal) ℓ) (g : Dev Cert.KeyGradReferenceIdeal.nD → PrngReg), Pre_KeyGradReferenceIdeal m →
    θ_run (Cert.KeyGradReferenceIdeal.defs (F := Ideal)) (onTc (τ := Cert.KeyGradReferenceIdeal.τ) (Cert.KeyGradReferenceIdeal.main (F := Ideal))) ⟨m, fun _ => 0, g⟩ (fun r => (∀ c : Dev Cert.KeyGradReferenceIdeal.nD,
      r.2.mem ((c.tc : Thread Cert.KeyGradReferenceIdeal.nD Cert.KeyGradReferenceIdeal.τ).loc Cert.KeyGradReferenceIdeal.main_arg0) = m ((c.tc : Thread Cert.KeyGradReferenceIdeal.nD Cert.KeyGradReferenceIdeal.τ).loc Cert.KeyGradReferenceIdeal.main_arg0)
      ∧ r.2.mem ((c.tc : Thread Cert.KeyGradReferenceIdeal.nD Cert.KeyGradReferenceIdeal.τ).loc Cert.KeyGradReferenceIdeal.main_arg1) = m ((c.tc : Thread Cert.KeyGradReferenceIdeal.nD Cert.KeyGradReferenceIdeal.τ).loc Cert.KeyGradReferenceIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_QUpReferenceIdeal [hQUpReferenceIdeal : Cert.QUpReferenceIdeal.Facts] : Prop :=
  ∀ (m : (ℓ : Loc Cert.QUpReferenceIdeal.nD Cert.QUpReferenceIdeal.τ Cert.QUpReferenceIdeal.sig) → Buf (Elt Ideal) ℓ) (g : Dev Cert.QUpReferenceIdeal.nD → PrngReg), Pre_QUpReferenceIdeal m →
    θ_run (Cert.QUpReferenceIdeal.defs (F := Ideal)) (onTc (τ := Cert.QUpReferenceIdeal.τ) (Cert.QUpReferenceIdeal.main (F := Ideal))) ⟨m, fun _ => 0, g⟩ (fun r => (∀ c : Dev Cert.QUpReferenceIdeal.nD,
      r.2.mem ((c.tc : Thread Cert.QUpReferenceIdeal.nD Cert.QUpReferenceIdeal.τ).loc Cert.QUpReferenceIdeal.main_arg0) = m ((c.tc : Thread Cert.QUpReferenceIdeal.nD Cert.QUpReferenceIdeal.τ).loc Cert.QUpReferenceIdeal.main_arg0)
      ∧ r.2.mem ((c.tc : Thread Cert.QUpReferenceIdeal.nD Cert.QUpReferenceIdeal.τ).loc Cert.QUpReferenceIdeal.main_arg1) = m ((c.tc : Thread Cert.QUpReferenceIdeal.nD Cert.QUpReferenceIdeal.τ).loc Cert.QUpReferenceIdeal.main_arg1)
      ∧ r.2.mem ((c.tc : Thread Cert.QUpReferenceIdeal.nD Cert.QUpReferenceIdeal.τ).loc Cert.QUpReferenceIdeal.main_arg2) = m ((c.tc : Thread Cert.QUpReferenceIdeal.nD Cert.QUpReferenceIdeal.τ).loc Cert.QUpReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v155_0)) (v1 : (c : Dev Cert.KernelIdeal.nD) → Buf (Elt Ideal) ((c.tc : Thread Cert.KernelIdeal.nD Cert.KernelIdeal.τ).loc Cert.KernelIdeal.main_v155_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155_0) = v0 c
          ∧ r.2.mem ((c.tc : Thread Cert.KernelIdeal.nD Cert.KernelIdeal.τ).loc Cert.KernelIdeal.main_v155_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v8) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v5) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v14) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v7) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v6) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v10) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)
      ∧ m' ((c.tc : Thread Cert.OutDxReferenceIdeal.nD Cert.OutDxReferenceIdeal.τ).loc Cert.OutDxReferenceIdeal.main_arg3) = m ((c.tc : Thread Cert.OutDxIdeal.nD Cert.OutDxIdeal.τ).loc Cert.OutDxIdeal.main_arg3)
      ∧ m' ((c.tc : Thread Cert.OutDxReferenceIdeal.nD Cert.OutDxReferenceIdeal.τ).loc Cert.OutDxReferenceIdeal.main_arg4) = m ((c.tc : Thread Cert.OutDxIdeal.nD Cert.OutDxIdeal.τ).loc Cert.OutDxIdeal.main_arg4)) →
    ∃ (v0 : (c : Dev Cert.OutDxIdeal.nD) → Buf (Elt Ideal) ((c.tc : Thread Cert.OutDxIdeal.nD Cert.OutDxIdeal.τ).loc Cert.OutDxIdeal.main_v0_0)) (v1 : (c : Dev Cert.OutDxIdeal.nD) → Buf (Elt Ideal) ((c.tc : Thread Cert.OutDxIdeal.nD Cert.OutDxIdeal.τ).loc Cert.OutDxIdeal.main_v0_1)) (v2 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0_0) = v0 c
          ∧ r.2.mem ((c.tc : Thread Cert.OutDxIdeal.nD Cert.OutDxIdeal.τ).loc Cert.OutDxIdeal.main_v0_1) = v1 c
          ∧ r.2.mem ((c.tc : Thread Cert.OutDxIdeal.nD Cert.OutDxIdeal.τ).loc Cert.OutDxIdeal.main_v1) = v2 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3)
          ∧ r.2.mem ((c.tc : Thread Cert.OutDxIdeal.nD Cert.OutDxIdeal.τ).loc Cert.OutDxIdeal.main_arg4) = m ((c.tc : Thread Cert.OutDxIdeal.nD Cert.OutDxIdeal.τ).loc Cert.OutDxIdeal.main_arg4))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v37) = v0 c
          ∧ r.2.mem ((c.tc : Thread Cert.OutDxReferenceIdeal.nD Cert.OutDxReferenceIdeal.τ).loc Cert.OutDxReferenceIdeal.main_v38) = v1 c
          ∧ r.2.mem ((c.tc : Thread Cert.OutDxReferenceIdeal.nD Cert.OutDxReferenceIdeal.τ).loc Cert.OutDxReferenceIdeal.main_v39) = v2 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2)
          ∧ r.2.mem ((c.tc : Thread Cert.OutDxReferenceIdeal.nD Cert.OutDxReferenceIdeal.τ).loc Cert.OutDxReferenceIdeal.main_arg3) = m' ((c.tc : Thread Cert.OutDxReferenceIdeal.nD Cert.OutDxReferenceIdeal.τ).loc Cert.OutDxReferenceIdeal.main_arg3)
          ∧ r.2.mem ((c.tc : Thread Cert.OutDxReferenceIdeal.nD Cert.OutDxReferenceIdeal.τ).loc Cert.OutDxReferenceIdeal.main_arg4) = m' ((c.tc : Thread Cert.OutDxReferenceIdeal.nD Cert.OutDxReferenceIdeal.τ).loc Cert.OutDxReferenceIdeal.main_arg4))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_RetDx_RetDxIdeal : Prop :=
  True

def algebraic_RetDxIdeal_RetDxReferenceIdeal [hRetDxIdeal : Cert.RetDxIdeal.Facts] [hRetDxReferenceIdeal : Cert.RetDxReferenceIdeal.Facts] : Prop :=
  ∀ (m : (ℓ : Loc Cert.RetDxIdeal.nD Cert.RetDxIdeal.τ Cert.RetDxIdeal.sig) → Buf (Elt Ideal) ℓ) (g : Dev Cert.RetDxIdeal.nD → PrngReg)
    (m' : (ℓ : Loc Cert.RetDxReferenceIdeal.nD Cert.RetDxReferenceIdeal.τ Cert.RetDxReferenceIdeal.sig) → Buf (Elt Ideal) ℓ) (g' : Dev Cert.RetDxReferenceIdeal.nD → PrngReg), Pre_RetDxIdeal m →
    (∀ c : Dev Cert.RetDxIdeal.nD,
      m' ((c.tc : Thread Cert.RetDxReferenceIdeal.nD Cert.RetDxReferenceIdeal.τ).loc Cert.RetDxReferenceIdeal.main_arg0) = m ((c.tc : Thread Cert.RetDxIdeal.nD Cert.RetDxIdeal.τ).loc Cert.RetDxIdeal.main_arg0)
      ∧ m' ((c.tc : Thread Cert.RetDxReferenceIdeal.nD Cert.RetDxReferenceIdeal.τ).loc Cert.RetDxReferenceIdeal.main_arg1) = m ((c.tc : Thread Cert.RetDxIdeal.nD Cert.RetDxIdeal.τ).loc Cert.RetDxIdeal.main_arg1)) →
    ∃ (v0 : (c : Dev Cert.RetDxIdeal.nD) → Buf (Elt Ideal) ((c.tc : Thread Cert.RetDxIdeal.nD Cert.RetDxIdeal.τ).loc Cert.RetDxIdeal.main_v0)),
      θ_run (Cert.RetDxIdeal.defs (F := Ideal)) (onTc (τ := Cert.RetDxIdeal.τ) (Cert.RetDxIdeal.main (F := Ideal))) ⟨m, fun _ => 0, g⟩ (fun r => ∀ c : Dev Cert.RetDxIdeal.nD,
          r.2.mem ((c.tc : Thread Cert.RetDxIdeal.nD Cert.RetDxIdeal.τ).loc Cert.RetDxIdeal.main_v0) = v0 c
          ∧ r.2.mem ((c.tc : Thread Cert.RetDxIdeal.nD Cert.RetDxIdeal.τ).loc Cert.RetDxIdeal.main_arg0) = m ((c.tc : Thread Cert.RetDxIdeal.nD Cert.RetDxIdeal.τ).loc Cert.RetDxIdeal.main_arg0)
          ∧ r.2.mem ((c.tc : Thread Cert.RetDxIdeal.nD Cert.RetDxIdeal.τ).loc Cert.RetDxIdeal.main_arg1) = m ((c.tc : Thread Cert.RetDxIdeal.nD Cert.RetDxIdeal.τ).loc Cert.RetDxIdeal.main_arg1))
      ∧ θ_run (Cert.RetDxReferenceIdeal.defs (F := Ideal)) (onTc (τ := Cert.RetDxReferenceIdeal.τ) (Cert.RetDxReferenceIdeal.main (F := Ideal))) ⟨m', fun _ => 0, g'⟩ (fun r => ∀ c : Dev Cert.RetDxReferenceIdeal.nD,
          r.2.mem ((c.tc : Thread Cert.RetDxReferenceIdeal.nD Cert.RetDxReferenceIdeal.τ).loc Cert.RetDxReferenceIdeal.main_v4) = v0 c
          ∧ r.2.mem ((c.tc : Thread Cert.RetDxReferenceIdeal.nD Cert.RetDxReferenceIdeal.τ).loc Cert.RetDxReferenceIdeal.main_arg0) = m' ((c.tc : Thread Cert.RetDxReferenceIdeal.nD Cert.RetDxReferenceIdeal.τ).loc Cert.RetDxReferenceIdeal.main_arg0)
          ∧ r.2.mem ((c.tc : Thread Cert.RetDxReferenceIdeal.nD Cert.RetDxReferenceIdeal.τ).loc Cert.RetDxReferenceIdeal.main_arg1) = m' ((c.tc : Thread Cert.RetDxReferenceIdeal.nD Cert.RetDxReferenceIdeal.τ).loc Cert.RetDxReferenceIdeal.main_arg1))

def preserves_RetDw_RetDwIdeal : Prop :=
  True

def algebraic_RetDwIdeal_RetDwReferenceIdeal [hRetDwIdeal : Cert.RetDwIdeal.Facts] [hRetDwReferenceIdeal : Cert.RetDwReferenceIdeal.Facts] : Prop :=
  ∀ (m : (ℓ : Loc Cert.RetDwIdeal.nD Cert.RetDwIdeal.τ Cert.RetDwIdeal.sig) → Buf (Elt Ideal) ℓ) (g : Dev Cert.RetDwIdeal.nD → PrngReg)
    (m' : (ℓ : Loc Cert.RetDwReferenceIdeal.nD Cert.RetDwReferenceIdeal.τ Cert.RetDwReferenceIdeal.sig) → Buf (Elt Ideal) ℓ) (g' : Dev Cert.RetDwReferenceIdeal.nD → PrngReg), Pre_RetDwIdeal m →
    (∀ c : Dev Cert.RetDwIdeal.nD,
      m' ((c.tc : Thread Cert.RetDwReferenceIdeal.nD Cert.RetDwReferenceIdeal.τ).loc Cert.RetDwReferenceIdeal.main_arg0) = m ((c.tc : Thread Cert.RetDwIdeal.nD Cert.RetDwIdeal.τ).loc Cert.RetDwIdeal.main_arg0)
      ∧ m' ((c.tc : Thread Cert.RetDwReferenceIdeal.nD Cert.RetDwReferenceIdeal.τ).loc Cert.RetDwReferenceIdeal.main_arg1) = m ((c.tc : Thread Cert.RetDwIdeal.nD Cert.RetDwIdeal.τ).loc Cert.RetDwIdeal.main_arg1)) →
    ∃ (v0 : (c : Dev Cert.RetDwIdeal.nD) → Buf (Elt Ideal) ((c.tc : Thread Cert.RetDwIdeal.nD Cert.RetDwIdeal.τ).loc Cert.RetDwIdeal.main_v0)),
      θ_run (Cert.RetDwIdeal.defs (F := Ideal)) (onTc (τ := Cert.RetDwIdeal.τ) (Cert.RetDwIdeal.main (F := Ideal))) ⟨m, fun _ => 0, g⟩ (fun r => ∀ c : Dev Cert.RetDwIdeal.nD,
          r.2.mem ((c.tc : Thread Cert.RetDwIdeal.nD Cert.RetDwIdeal.τ).loc Cert.RetDwIdeal.main_v0) = v0 c
          ∧ r.2.mem ((c.tc : Thread Cert.RetDwIdeal.nD Cert.RetDwIdeal.τ).loc Cert.RetDwIdeal.main_arg0) = m ((c.tc : Thread Cert.RetDwIdeal.nD Cert.RetDwIdeal.τ).loc Cert.RetDwIdeal.main_arg0)
          ∧ r.2.mem ((c.tc : Thread Cert.RetDwIdeal.nD Cert.RetDwIdeal.τ).loc Cert.RetDwIdeal.main_arg1) = m ((c.tc : Thread Cert.RetDwIdeal.nD Cert.RetDwIdeal.τ).loc Cert.RetDwIdeal.main_arg1))
      ∧ θ_run (Cert.RetDwReferenceIdeal.defs (F := Ideal)) (onTc (τ := Cert.RetDwReferenceIdeal.τ) (Cert.RetDwReferenceIdeal.main (F := Ideal))) ⟨m', fun _ => 0, g'⟩ (fun r => ∀ c : Dev Cert.RetDwReferenceIdeal.nD,
          r.2.mem ((c.tc : Thread Cert.RetDwReferenceIdeal.nD Cert.RetDwReferenceIdeal.τ).loc Cert.RetDwReferenceIdeal.main_v6) = v0 c
          ∧ r.2.mem ((c.tc : Thread Cert.RetDwReferenceIdeal.nD Cert.RetDwReferenceIdeal.τ).loc Cert.RetDwReferenceIdeal.main_arg0) = m' ((c.tc : Thread Cert.RetDwReferenceIdeal.nD Cert.RetDwReferenceIdeal.τ).loc Cert.RetDwReferenceIdeal.main_arg0)
          ∧ r.2.mem ((c.tc : Thread Cert.RetDwReferenceIdeal.nD Cert.RetDwReferenceIdeal.τ).loc Cert.RetDwReferenceIdeal.main_arg1) = m' ((c.tc : Thread Cert.RetDwReferenceIdeal.nD Cert.RetDwReferenceIdeal.τ).loc Cert.RetDwReferenceIdeal.main_arg1))

def preserves_MlaDx_MlaDxIdeal : Prop :=
  True

def algebraic_MlaDxIdeal_MlaDxReferenceIdeal [hMlaDxIdeal : Cert.MlaDxIdeal.Facts] [hMlaDxReferenceIdeal : Cert.MlaDxReferenceIdeal.Facts] : Prop :=
  ∀ (m : (ℓ : Loc Cert.MlaDxIdeal.nD Cert.MlaDxIdeal.τ Cert.MlaDxIdeal.sig) → Buf (Elt Ideal) ℓ) (g : Dev Cert.MlaDxIdeal.nD → PrngReg)
    (m' : (ℓ : Loc Cert.MlaDxReferenceIdeal.nD Cert.MlaDxReferenceIdeal.τ Cert.MlaDxReferenceIdeal.sig) → Buf (Elt Ideal) ℓ) (g' : Dev Cert.MlaDxReferenceIdeal.nD → PrngReg), Pre_MlaDxIdeal m →
    (∀ c : Dev Cert.MlaDxIdeal.nD,
      m' ((c.tc : Thread Cert.MlaDxReferenceIdeal.nD Cert.MlaDxReferenceIdeal.τ).loc Cert.MlaDxReferenceIdeal.main_arg0) = m ((c.tc : Thread Cert.MlaDxIdeal.nD Cert.MlaDxIdeal.τ).loc Cert.MlaDxIdeal.main_arg0)
      ∧ m' ((c.tc : Thread Cert.MlaDxReferenceIdeal.nD Cert.MlaDxReferenceIdeal.τ).loc Cert.MlaDxReferenceIdeal.main_arg1) = m ((c.tc : Thread Cert.MlaDxIdeal.nD Cert.MlaDxIdeal.τ).loc Cert.MlaDxIdeal.main_arg1)) →
    ∃ (v0 : (c : Dev Cert.MlaDxIdeal.nD) → Buf (Elt Ideal) ((c.tc : Thread Cert.MlaDxIdeal.nD Cert.MlaDxIdeal.τ).loc Cert.MlaDxIdeal.main_v0)),
      θ_run (Cert.MlaDxIdeal.defs (F := Ideal)) (onTc (τ := Cert.MlaDxIdeal.τ) (Cert.MlaDxIdeal.main (F := Ideal))) ⟨m, fun _ => 0, g⟩ (fun r => ∀ c : Dev Cert.MlaDxIdeal.nD,
          r.2.mem ((c.tc : Thread Cert.MlaDxIdeal.nD Cert.MlaDxIdeal.τ).loc Cert.MlaDxIdeal.main_v0) = v0 c
          ∧ r.2.mem ((c.tc : Thread Cert.MlaDxIdeal.nD Cert.MlaDxIdeal.τ).loc Cert.MlaDxIdeal.main_arg0) = m ((c.tc : Thread Cert.MlaDxIdeal.nD Cert.MlaDxIdeal.τ).loc Cert.MlaDxIdeal.main_arg0)
          ∧ r.2.mem ((c.tc : Thread Cert.MlaDxIdeal.nD Cert.MlaDxIdeal.τ).loc Cert.MlaDxIdeal.main_arg1) = m ((c.tc : Thread Cert.MlaDxIdeal.nD Cert.MlaDxIdeal.τ).loc Cert.MlaDxIdeal.main_arg1))
      ∧ θ_run (Cert.MlaDxReferenceIdeal.defs (F := Ideal)) (onTc (τ := Cert.MlaDxReferenceIdeal.τ) (Cert.MlaDxReferenceIdeal.main (F := Ideal))) ⟨m', fun _ => 0, g'⟩ (fun r => ∀ c : Dev Cert.MlaDxReferenceIdeal.nD,
          r.2.mem ((c.tc : Thread Cert.MlaDxReferenceIdeal.nD Cert.MlaDxReferenceIdeal.τ).loc Cert.MlaDxReferenceIdeal.main_v4) = v0 c
          ∧ r.2.mem ((c.tc : Thread Cert.MlaDxReferenceIdeal.nD Cert.MlaDxReferenceIdeal.τ).loc Cert.MlaDxReferenceIdeal.main_arg0) = m' ((c.tc : Thread Cert.MlaDxReferenceIdeal.nD Cert.MlaDxReferenceIdeal.τ).loc Cert.MlaDxReferenceIdeal.main_arg0)
          ∧ r.2.mem ((c.tc : Thread Cert.MlaDxReferenceIdeal.nD Cert.MlaDxReferenceIdeal.τ).loc Cert.MlaDxReferenceIdeal.main_arg1) = m' ((c.tc : Thread Cert.MlaDxReferenceIdeal.nD Cert.MlaDxReferenceIdeal.τ).loc Cert.MlaDxReferenceIdeal.main_arg1))

def preserves_MlaDw_MlaDwIdeal : Prop :=
  True

def algebraic_MlaDwIdeal_MlaDwReferenceIdeal [hMlaDwIdeal : Cert.MlaDwIdeal.Facts] [hMlaDwReferenceIdeal : Cert.MlaDwReferenceIdeal.Facts] : Prop :=
  ∀ (m : (ℓ : Loc Cert.MlaDwIdeal.nD Cert.MlaDwIdeal.τ Cert.MlaDwIdeal.sig) → Buf (Elt Ideal) ℓ) (g : Dev Cert.MlaDwIdeal.nD → PrngReg)
    (m' : (ℓ : Loc Cert.MlaDwReferenceIdeal.nD Cert.MlaDwReferenceIdeal.τ Cert.MlaDwReferenceIdeal.sig) → Buf (Elt Ideal) ℓ) (g' : Dev Cert.MlaDwReferenceIdeal.nD → PrngReg), Pre_MlaDwIdeal m →
    (∀ c : Dev Cert.MlaDwIdeal.nD,
      m' ((c.tc : Thread Cert.MlaDwReferenceIdeal.nD Cert.MlaDwReferenceIdeal.τ).loc Cert.MlaDwReferenceIdeal.main_arg0) = m ((c.tc : Thread Cert.MlaDwIdeal.nD Cert.MlaDwIdeal.τ).loc Cert.MlaDwIdeal.main_arg0)
      ∧ m' ((c.tc : Thread Cert.MlaDwReferenceIdeal.nD Cert.MlaDwReferenceIdeal.τ).loc Cert.MlaDwReferenceIdeal.main_arg1) = m ((c.tc : Thread Cert.MlaDwIdeal.nD Cert.MlaDwIdeal.τ).loc Cert.MlaDwIdeal.main_arg1)) →
    ∃ (v0 : (c : Dev Cert.MlaDwIdeal.nD) → Buf (Elt Ideal) ((c.tc : Thread Cert.MlaDwIdeal.nD Cert.MlaDwIdeal.τ).loc Cert.MlaDwIdeal.main_v0)),
      θ_run (Cert.MlaDwIdeal.defs (F := Ideal)) (onTc (τ := Cert.MlaDwIdeal.τ) (Cert.MlaDwIdeal.main (F := Ideal))) ⟨m, fun _ => 0, g⟩ (fun r => ∀ c : Dev Cert.MlaDwIdeal.nD,
          r.2.mem ((c.tc : Thread Cert.MlaDwIdeal.nD Cert.MlaDwIdeal.τ).loc Cert.MlaDwIdeal.main_v0) = v0 c
          ∧ r.2.mem ((c.tc : Thread Cert.MlaDwIdeal.nD Cert.MlaDwIdeal.τ).loc Cert.MlaDwIdeal.main_arg0) = m ((c.tc : Thread Cert.MlaDwIdeal.nD Cert.MlaDwIdeal.τ).loc Cert.MlaDwIdeal.main_arg0)
          ∧ r.2.mem ((c.tc : Thread Cert.MlaDwIdeal.nD Cert.MlaDwIdeal.τ).loc Cert.MlaDwIdeal.main_arg1) = m ((c.tc : Thread Cert.MlaDwIdeal.nD Cert.MlaDwIdeal.τ).loc Cert.MlaDwIdeal.main_arg1))
      ∧ θ_run (Cert.MlaDwReferenceIdeal.defs (F := Ideal)) (onTc (τ := Cert.MlaDwReferenceIdeal.τ) (Cert.MlaDwReferenceIdeal.main (F := Ideal))) ⟨m', fun _ => 0, g'⟩ (fun r => ∀ c : Dev Cert.MlaDwReferenceIdeal.nD,
          r.2.mem ((c.tc : Thread Cert.MlaDwReferenceIdeal.nD Cert.MlaDwReferenceIdeal.τ).loc Cert.MlaDwReferenceIdeal.main_v6) = v0 c
          ∧ r.2.mem ((c.tc : Thread Cert.MlaDwReferenceIdeal.nD Cert.MlaDwReferenceIdeal.τ).loc Cert.MlaDwReferenceIdeal.main_arg0) = m' ((c.tc : Thread Cert.MlaDwReferenceIdeal.nD Cert.MlaDwReferenceIdeal.τ).loc Cert.MlaDwReferenceIdeal.main_arg0)
          ∧ r.2.mem ((c.tc : Thread Cert.MlaDwReferenceIdeal.nD Cert.MlaDwReferenceIdeal.τ).loc Cert.MlaDwReferenceIdeal.main_arg1) = m' ((c.tc : Thread Cert.MlaDwReferenceIdeal.nD Cert.MlaDwReferenceIdeal.τ).loc Cert.MlaDwReferenceIdeal.main_arg1))

def preserves_QDx_QDxIdeal : Prop :=
  True

def algebraic_QDxIdeal_QDxReferenceIdeal [hQDxIdeal : Cert.QDxIdeal.Facts] [hQDxReferenceIdeal : Cert.QDxReferenceIdeal.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxReferenceIdeal.nD Cert.QDxReferenceIdeal.τ Cert.QDxReferenceIdeal.sig) → Buf (Elt Ideal) ℓ) (g' : Dev Cert.QDxReferenceIdeal.nD → PrngReg), Pre_QDxIdeal m →
    (∀ c : Dev Cert.QDxIdeal.nD,
      m' ((c.tc : Thread Cert.QDxReferenceIdeal.nD Cert.QDxReferenceIdeal.τ).loc Cert.QDxReferenceIdeal.main_arg0) = m ((c.tc : Thread Cert.QDxIdeal.nD Cert.QDxIdeal.τ).loc Cert.QDxIdeal.main_arg0)
      ∧ m' ((c.tc : Thread Cert.QDxReferenceIdeal.nD Cert.QDxReferenceIdeal.τ).loc Cert.QDxReferenceIdeal.main_arg1) = m ((c.tc : Thread Cert.QDxIdeal.nD Cert.QDxIdeal.τ).loc Cert.QDxIdeal.main_arg1)) →
    ∃ (v0 : (c : Dev Cert.QDxIdeal.nD) → Buf (Elt Ideal) ((c.tc : Thread Cert.QDxIdeal.nD Cert.QDxIdeal.τ).loc Cert.QDxIdeal.main_v0)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v0) = v0 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ θ_run (Cert.QDxReferenceIdeal.defs (F := Ideal)) (onTc (τ := Cert.QDxReferenceIdeal.τ) (Cert.QDxReferenceIdeal.main (F := Ideal))) ⟨m', fun _ => 0, g'⟩ (fun r => ∀ c : Dev Cert.QDxReferenceIdeal.nD,
          r.2.mem ((c.tc : Thread Cert.QDxReferenceIdeal.nD Cert.QDxReferenceIdeal.τ).loc Cert.QDxReferenceIdeal.main_v4) = v0 c
          ∧ r.2.mem ((c.tc : Thread Cert.QDxReferenceIdeal.nD Cert.QDxReferenceIdeal.τ).loc Cert.QDxReferenceIdeal.main_arg0) = m' ((c.tc : Thread Cert.QDxReferenceIdeal.nD Cert.QDxReferenceIdeal.τ).loc Cert.QDxReferenceIdeal.main_arg0)
          ∧ r.2.mem ((c.tc : Thread Cert.QDxReferenceIdeal.nD Cert.QDxReferenceIdeal.τ).loc Cert.QDxReferenceIdeal.main_arg1) = m' ((c.tc : Thread Cert.QDxReferenceIdeal.nD Cert.QDxReferenceIdeal.τ).loc Cert.QDxReferenceIdeal.main_arg1))

def preserves_QDw_QDwIdeal : Prop :=
  True

def algebraic_QDwIdeal_QDwReferenceIdeal [hQDwIdeal : Cert.QDwIdeal.Facts] [hQDwReferenceIdeal : Cert.QDwReferenceIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwReferenceIdeal.nD Cert.QDwReferenceIdeal.τ Cert.QDwReferenceIdeal.sig) → Buf (Elt Ideal) ℓ) (g' : Dev Cert.QDwReferenceIdeal.nD → PrngReg), Pre_QDwIdeal m →
    (∀ c : Dev Cert.QDwIdeal.nD,
      m' ((c.tc : Thread Cert.QDwReferenceIdeal.nD Cert.QDwReferenceIdeal.τ).loc Cert.QDwReferenceIdeal.main_arg0) = m ((c.tc : Thread Cert.QDwIdeal.nD Cert.QDwIdeal.τ).loc Cert.QDwIdeal.main_arg0)
      ∧ m' ((c.tc : Thread Cert.QDwReferenceIdeal.nD Cert.QDwReferenceIdeal.τ).loc Cert.QDwReferenceIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwReferenceIdeal.defs (F := Ideal)) (onTc (τ := Cert.QDwReferenceIdeal.τ) (Cert.QDwReferenceIdeal.main (F := Ideal))) ⟨m', fun _ => 0, g'⟩ (fun r => ∀ c : Dev Cert.QDwReferenceIdeal.nD,
          r.2.mem ((c.tc : Thread Cert.QDwReferenceIdeal.nD Cert.QDwReferenceIdeal.τ).loc Cert.QDwReferenceIdeal.main_v6) = v0 c
          ∧ r.2.mem ((c.tc : Thread Cert.QDwReferenceIdeal.nD Cert.QDwReferenceIdeal.τ).loc Cert.QDwReferenceIdeal.main_arg0) = m' ((c.tc : Thread Cert.QDwReferenceIdeal.nD Cert.QDwReferenceIdeal.τ).loc Cert.QDwReferenceIdeal.main_arg0)
          ∧ r.2.mem ((c.tc : Thread Cert.QDwReferenceIdeal.nD Cert.QDwReferenceIdeal.τ).loc Cert.QDwReferenceIdeal.main_arg1) = m' ((c.tc : Thread Cert.QDwReferenceIdeal.nD Cert.QDwReferenceIdeal.τ).loc Cert.QDwReferenceIdeal.main_arg1))

def preserves_KvDx_KvDxIdeal : Prop :=
  True

def algebraic_KvDxIdeal_KvDxReferenceIdeal [hKvDxIdeal : Cert.KvDxIdeal.Facts] [hKvDxReferenceIdeal : Cert.KvDxReferenceIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxReferenceIdeal.nD Cert.KvDxReferenceIdeal.τ Cert.KvDxReferenceIdeal.sig) → Buf (Elt Ideal) ℓ) (g' : Dev Cert.KvDxReferenceIdeal.nD → PrngReg), Pre_KvDxIdeal m →
    (∀ c : Dev Cert.KvDxIdeal.nD,
      m' ((c.tc : Thread Cert.KvDxReferenceIdeal.nD Cert.KvDxReferenceIdeal.τ).loc Cert.KvDxReferenceIdeal.main_arg0) = m ((c.tc : Thread Cert.KvDxIdeal.nD Cert.KvDxIdeal.τ).loc Cert.KvDxIdeal.main_arg0)
      ∧ m' ((c.tc : Thread Cert.KvDxReferenceIdeal.nD Cert.KvDxReferenceIdeal.τ).loc Cert.KvDxReferenceIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxReferenceIdeal.defs (F := Ideal)) (onTc (τ := Cert.KvDxReferenceIdeal.τ) (Cert.KvDxReferenceIdeal.main (F := Ideal))) ⟨m', fun _ => 0, g'⟩ (fun r => ∀ c : Dev Cert.KvDxReferenceIdeal.nD,
          r.2.mem ((c.tc : Thread Cert.KvDxReferenceIdeal.nD Cert.KvDxReferenceIdeal.τ).loc Cert.KvDxReferenceIdeal.main_v6) = v0 c
          ∧ r.2.mem ((c.tc : Thread Cert.KvDxReferenceIdeal.nD Cert.KvDxReferenceIdeal.τ).loc Cert.KvDxReferenceIdeal.main_arg0) = m' ((c.tc : Thread Cert.KvDxReferenceIdeal.nD Cert.KvDxReferenceIdeal.τ).loc Cert.KvDxReferenceIdeal.main_arg0)
          ∧ r.2.mem ((c.tc : Thread Cert.KvDxReferenceIdeal.nD Cert.KvDxReferenceIdeal.τ).loc Cert.KvDxReferenceIdeal.main_arg1) = m' ((c.tc : Thread Cert.KvDxReferenceIdeal.nD Cert.KvDxReferenceIdeal.τ).loc Cert.KvDxReferenceIdeal.main_arg1))

def preserves_KvDw_KvDwIdeal : Prop :=
  True

def algebraic_KvDwIdeal_KvDwReferenceIdeal [hKvDwIdeal : Cert.KvDwIdeal.Facts] [hKvDwReferenceIdeal : Cert.KvDwReferenceIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwReferenceIdeal.nD Cert.KvDwReferenceIdeal.τ Cert.KvDwReferenceIdeal.sig) → Buf (Elt Ideal) ℓ) (g' : Dev Cert.KvDwReferenceIdeal.nD → PrngReg), Pre_KvDwIdeal m →
    (∀ c : Dev Cert.KvDwIdeal.nD,
      m' ((c.tc : Thread Cert.KvDwReferenceIdeal.nD Cert.KvDwReferenceIdeal.τ).loc Cert.KvDwReferenceIdeal.main_arg0) = m ((c.tc : Thread Cert.KvDwIdeal.nD Cert.KvDwIdeal.τ).loc Cert.KvDwIdeal.main_arg0)
      ∧ m' ((c.tc : Thread Cert.KvDwReferenceIdeal.nD Cert.KvDwReferenceIdeal.τ).loc Cert.KvDwReferenceIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwReferenceIdeal.defs (F := Ideal)) (onTc (τ := Cert.KvDwReferenceIdeal.τ) (Cert.KvDwReferenceIdeal.main (F := Ideal))) ⟨m', fun _ => 0, g'⟩ (fun r => ∀ c : Dev Cert.KvDwReferenceIdeal.nD,
          r.2.mem ((c.tc : Thread Cert.KvDwReferenceIdeal.nD Cert.KvDwReferenceIdeal.τ).loc Cert.KvDwReferenceIdeal.main_v10) = v0 c
          ∧ r.2.mem ((c.tc : Thread Cert.KvDwReferenceIdeal.nD Cert.KvDwReferenceIdeal.τ).loc Cert.KvDwReferenceIdeal.main_arg0) = m' ((c.tc : Thread Cert.KvDwReferenceIdeal.nD Cert.KvDwReferenceIdeal.τ).loc Cert.KvDwReferenceIdeal.main_arg0)
          ∧ r.2.mem ((c.tc : Thread Cert.KvDwReferenceIdeal.nD Cert.KvDwReferenceIdeal.τ).loc Cert.KvDwReferenceIdeal.main_arg1) = m' ((c.tc : Thread Cert.KvDwReferenceIdeal.nD Cert.KvDwReferenceIdeal.τ).loc Cert.KvDwReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v3) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Ret_RetIdeal : Prop :=
  True

def algebraic_RetIdeal_RetReferenceIdeal [hRetIdeal : Cert.RetIdeal.Facts] [hRetReferenceIdeal : Cert.RetReferenceIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetIdeal m →
    (∀ c : Dev Cert.RetIdeal.nD,
      m' ((c.tc : Thread Cert.RetReferenceIdeal.nD Cert.RetReferenceIdeal.τ).loc Cert.RetReferenceIdeal.main_arg0) = m ((c.tc : Thread Cert.RetIdeal.nD Cert.RetIdeal.τ).loc Cert.RetIdeal.main_arg0)
      ∧ m' ((c.tc : Thread Cert.RetReferenceIdeal.nD Cert.RetReferenceIdeal.τ).loc Cert.RetReferenceIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v0)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v0) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v2) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def preserves_Mla_MlaIdeal : Prop :=
  True

def algebraic_MlaIdeal_MlaReferenceIdeal [hMlaIdeal : Cert.MlaIdeal.Facts] [hMlaReferenceIdeal : Cert.MlaReferenceIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v0_0)) (v1 : (c : Dev Cert.MlaIdeal.nD) → Buf (Elt Ideal) ((c.tc : Thread Cert.MlaIdeal.nD Cert.MlaIdeal.τ).loc Cert.MlaIdeal.main_v0_1)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0_0) = v0 c
          ∧ r.2.mem ((c.tc : Thread Cert.MlaIdeal.nD Cert.MlaIdeal.τ).loc Cert.MlaIdeal.main_v0_1) = v1 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v2) = v0 c
          ∧ r.2.mem ((c.tc : Thread Cert.MlaReferenceIdeal.nD Cert.MlaReferenceIdeal.τ).loc Cert.MlaReferenceIdeal.main_v20) = v1 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v16) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_v7) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v5)) (v1 : (c : Dev Cert.AdamInIdeal.nD) → Buf (Elt Ideal) ((c.tc : Thread Cert.AdamInIdeal.nD Cert.AdamInIdeal.τ).loc Cert.AdamInIdeal.main_v6)) (v2 : (c : Dev Cert.AdamInIdeal.nD) → Buf (Elt Ideal) ((c.tc : Thread Cert.AdamInIdeal.nD Cert.AdamInIdeal.τ).loc Cert.AdamInIdeal.main_v7)) (v3 : (c : Dev Cert.AdamInIdeal.nD) → Buf (Elt Ideal) ((c.tc : Thread Cert.AdamInIdeal.nD Cert.AdamInIdeal.τ).loc Cert.AdamInIdeal.main_v8)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5) = v0 c
          ∧ r.2.mem ((c.tc : Thread Cert.AdamInIdeal.nD Cert.AdamInIdeal.τ).loc Cert.AdamInIdeal.main_v6) = v1 c
          ∧ r.2.mem ((c.tc : Thread Cert.AdamInIdeal.nD Cert.AdamInIdeal.τ).loc Cert.AdamInIdeal.main_v7) = v2 c
          ∧ r.2.mem ((c.tc : Thread Cert.AdamInIdeal.nD Cert.AdamInIdeal.τ).loc Cert.AdamInIdeal.main_v8) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamRet_AdamRetIdeal : Prop :=
  True

def algebraic_AdamRetIdeal_AdamRetReferenceIdeal [hAdamRetIdeal : Cert.AdamRetIdeal.Facts] [hAdamRetReferenceIdeal : Cert.AdamRetReferenceIdeal.Facts] : Prop :=
  ∀ (m : (ℓ : Loc Cert.AdamRetIdeal.nD Cert.AdamRetIdeal.τ Cert.AdamRetIdeal.sig) → Buf (Elt Ideal) ℓ) (g : Dev Cert.AdamRetIdeal.nD → PrngReg)
    (m' : (ℓ : Loc Cert.AdamRetReferenceIdeal.nD Cert.AdamRetReferenceIdeal.τ Cert.AdamRetReferenceIdeal.sig) → Buf (Elt Ideal) ℓ) (g' : Dev Cert.AdamRetReferenceIdeal.nD → PrngReg), Pre_AdamRetIdeal m →
    (∀ c : Dev Cert.AdamRetIdeal.nD,
      m' ((c.tc : Thread Cert.AdamRetReferenceIdeal.nD Cert.AdamRetReferenceIdeal.τ).loc Cert.AdamRetReferenceIdeal.main_arg0) = m ((c.tc : Thread Cert.AdamRetIdeal.nD Cert.AdamRetIdeal.τ).loc Cert.AdamRetIdeal.main_arg0)
      ∧ m' ((c.tc : Thread Cert.AdamRetReferenceIdeal.nD Cert.AdamRetReferenceIdeal.τ).loc Cert.AdamRetReferenceIdeal.main_arg1) = m ((c.tc : Thread Cert.AdamRetIdeal.nD Cert.AdamRetIdeal.τ).loc Cert.AdamRetIdeal.main_arg1)
      ∧ m' ((c.tc : Thread Cert.AdamRetReferenceIdeal.nD Cert.AdamRetReferenceIdeal.τ).loc Cert.AdamRetReferenceIdeal.main_arg2) = m ((c.tc : Thread Cert.AdamRetIdeal.nD Cert.AdamRetIdeal.τ).loc Cert.AdamRetIdeal.main_arg2)
      ∧ m' ((c.tc : Thread Cert.AdamRetReferenceIdeal.nD Cert.AdamRetReferenceIdeal.τ).loc Cert.AdamRetReferenceIdeal.main_arg3) = m ((c.tc : Thread Cert.AdamRetIdeal.nD Cert.AdamRetIdeal.τ).loc Cert.AdamRetIdeal.main_arg3)
      ∧ m' ((c.tc : Thread Cert.AdamRetReferenceIdeal.nD Cert.AdamRetReferenceIdeal.τ).loc Cert.AdamRetReferenceIdeal.main_arg4) = m ((c.tc : Thread Cert.AdamRetIdeal.nD Cert.AdamRetIdeal.τ).loc Cert.AdamRetIdeal.main_arg4)) →
    ∃ (v0 : (c : Dev Cert.AdamRetIdeal.nD) → Buf (Elt Ideal) ((c.tc : Thread Cert.AdamRetIdeal.nD Cert.AdamRetIdeal.τ).loc Cert.AdamRetIdeal.main_v1_0)) (v1 : (c : Dev Cert.AdamRetIdeal.nD) → Buf (Elt Ideal) ((c.tc : Thread Cert.AdamRetIdeal.nD Cert.AdamRetIdeal.τ).loc Cert.AdamRetIdeal.main_v1_1)) (v2 : (c : Dev Cert.AdamRetIdeal.nD) → Buf (Elt Ideal) ((c.tc : Thread Cert.AdamRetIdeal.nD Cert.AdamRetIdeal.τ).loc Cert.AdamRetIdeal.main_v1_2)) (v3 : (c : Dev Cert.AdamRetIdeal.nD) → Buf (Elt Ideal) ((c.tc : Thread Cert.AdamRetIdeal.nD Cert.AdamRetIdeal.τ).loc Cert.AdamRetIdeal.main_v1_3)),
      θ_run (Cert.AdamRetIdeal.defs (F := Ideal)) (onTc (τ := Cert.AdamRetIdeal.τ) (Cert.AdamRetIdeal.main (F := Ideal))) ⟨m, fun _ => 0, g⟩ (fun r => ∀ c : Dev Cert.AdamRetIdeal.nD,
          r.2.mem ((c.tc : Thread Cert.AdamRetIdeal.nD Cert.AdamRetIdeal.τ).loc Cert.AdamRetIdeal.main_v1_0) = v0 c
          ∧ r.2.mem ((c.tc : Thread Cert.AdamRetIdeal.nD Cert.AdamRetIdeal.τ).loc Cert.AdamRetIdeal.main_v1_1) = v1 c
          ∧ r.2.mem ((c.tc : Thread Cert.AdamRetIdeal.nD Cert.AdamRetIdeal.τ).loc Cert.AdamRetIdeal.main_v1_2) = v2 c
          ∧ r.2.mem ((c.tc : Thread Cert.AdamRetIdeal.nD Cert.AdamRetIdeal.τ).loc Cert.AdamRetIdeal.main_v1_3) = v3 c
          ∧ r.2.mem ((c.tc : Thread Cert.AdamRetIdeal.nD Cert.AdamRetIdeal.τ).loc Cert.AdamRetIdeal.main_arg0) = m ((c.tc : Thread Cert.AdamRetIdeal.nD Cert.AdamRetIdeal.τ).loc Cert.AdamRetIdeal.main_arg0)
          ∧ r.2.mem ((c.tc : Thread Cert.AdamRetIdeal.nD Cert.AdamRetIdeal.τ).loc Cert.AdamRetIdeal.main_arg1) = m ((c.tc : Thread Cert.AdamRetIdeal.nD Cert.AdamRetIdeal.τ).loc Cert.AdamRetIdeal.main_arg1)
          ∧ r.2.mem ((c.tc : Thread Cert.AdamRetIdeal.nD Cert.AdamRetIdeal.τ).loc Cert.AdamRetIdeal.main_arg2) = m ((c.tc : Thread Cert.AdamRetIdeal.nD Cert.AdamRetIdeal.τ).loc Cert.AdamRetIdeal.main_arg2)
          ∧ r.2.mem ((c.tc : Thread Cert.AdamRetIdeal.nD Cert.AdamRetIdeal.τ).loc Cert.AdamRetIdeal.main_arg3) = m ((c.tc : Thread Cert.AdamRetIdeal.nD Cert.AdamRetIdeal.τ).loc Cert.AdamRetIdeal.main_arg3)
          ∧ r.2.mem ((c.tc : Thread Cert.AdamRetIdeal.nD Cert.AdamRetIdeal.τ).loc Cert.AdamRetIdeal.main_arg4) = m ((c.tc : Thread Cert.AdamRetIdeal.nD Cert.AdamRetIdeal.τ).loc Cert.AdamRetIdeal.main_arg4))
      ∧ θ_run (Cert.AdamRetReferenceIdeal.defs (F := Ideal)) (onTc (τ := Cert.AdamRetReferenceIdeal.τ) (Cert.AdamRetReferenceIdeal.main (F := Ideal))) ⟨m', fun _ => 0, g'⟩ (fun r => ∀ c : Dev Cert.AdamRetReferenceIdeal.nD,
          r.2.mem ((c.tc : Thread Cert.AdamRetReferenceIdeal.nD Cert.AdamRetReferenceIdeal.τ).loc Cert.AdamRetReferenceIdeal.main_v5) = v0 c
          ∧ r.2.mem ((c.tc : Thread Cert.AdamRetReferenceIdeal.nD Cert.AdamRetReferenceIdeal.τ).loc Cert.AdamRetReferenceIdeal.main_v29) = v1 c
          ∧ r.2.mem ((c.tc : Thread Cert.AdamRetReferenceIdeal.nD Cert.AdamRetReferenceIdeal.τ).loc Cert.AdamRetReferenceIdeal.main_v10) = v2 c
          ∧ r.2.mem ((c.tc : Thread Cert.AdamRetReferenceIdeal.nD Cert.AdamRetReferenceIdeal.τ).loc Cert.AdamRetReferenceIdeal.main_v16) = v3 c
          ∧ r.2.mem ((c.tc : Thread Cert.AdamRetReferenceIdeal.nD Cert.AdamRetReferenceIdeal.τ).loc Cert.AdamRetReferenceIdeal.main_arg0) = m' ((c.tc : Thread Cert.AdamRetReferenceIdeal.nD Cert.AdamRetReferenceIdeal.τ).loc Cert.AdamRetReferenceIdeal.main_arg0)
          ∧ r.2.mem ((c.tc : Thread Cert.AdamRetReferenceIdeal.nD Cert.AdamRetReferenceIdeal.τ).loc Cert.AdamRetReferenceIdeal.main_arg1) = m' ((c.tc : Thread Cert.AdamRetReferenceIdeal.nD Cert.AdamRetReferenceIdeal.τ).loc Cert.AdamRetReferenceIdeal.main_arg1)
          ∧ r.2.mem ((c.tc : Thread Cert.AdamRetReferenceIdeal.nD Cert.AdamRetReferenceIdeal.τ).loc Cert.AdamRetReferenceIdeal.main_arg2) = m' ((c.tc : Thread Cert.AdamRetReferenceIdeal.nD Cert.AdamRetReferenceIdeal.τ).loc Cert.AdamRetReferenceIdeal.main_arg2)
          ∧ r.2.mem ((c.tc : Thread Cert.AdamRetReferenceIdeal.nD Cert.AdamRetReferenceIdeal.τ).loc Cert.AdamRetReferenceIdeal.main_arg3) = m' ((c.tc : Thread Cert.AdamRetReferenceIdeal.nD Cert.AdamRetReferenceIdeal.τ).loc Cert.AdamRetReferenceIdeal.main_arg3)
          ∧ r.2.mem ((c.tc : Thread Cert.AdamRetReferenceIdeal.nD Cert.AdamRetReferenceIdeal.τ).loc Cert.AdamRetReferenceIdeal.main_arg4) = m' ((c.tc : Thread Cert.AdamRetReferenceIdeal.nD Cert.AdamRetReferenceIdeal.τ).loc Cert.AdamRetReferenceIdeal.main_arg4))

def preserves_AdamQ_AdamQIdeal : Prop :=
  True

def algebraic_AdamQIdeal_AdamQReferenceIdeal [hAdamQIdeal : Cert.AdamQIdeal.Facts] [hAdamQReferenceIdeal : Cert.AdamQReferenceIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQReferenceIdeal.nD Cert.AdamQReferenceIdeal.τ Cert.AdamQReferenceIdeal.sig) → Buf (Elt Ideal) ℓ) (g' : Dev Cert.AdamQReferenceIdeal.nD → PrngReg), Pre_AdamQIdeal m →
    (∀ c : Dev Cert.AdamQIdeal.nD,
      m' ((c.tc : Thread Cert.AdamQReferenceIdeal.nD Cert.AdamQReferenceIdeal.τ).loc Cert.AdamQReferenceIdeal.main_arg0) = m ((c.tc : Thread Cert.AdamQIdeal.nD Cert.AdamQIdeal.τ).loc Cert.AdamQIdeal.main_arg0)
      ∧ m' ((c.tc : Thread Cert.AdamQReferenceIdeal.nD Cert.AdamQReferenceIdeal.τ).loc Cert.AdamQReferenceIdeal.main_arg1) = m ((c.tc : Thread Cert.AdamQIdeal.nD Cert.AdamQIdeal.τ).loc Cert.AdamQIdeal.main_arg1)
      ∧ m' ((c.tc : Thread Cert.AdamQReferenceIdeal.nD Cert.AdamQReferenceIdeal.τ).loc Cert.AdamQReferenceIdeal.main_arg2) = m ((c.tc : Thread Cert.AdamQIdeal.nD Cert.AdamQIdeal.τ).loc Cert.AdamQIdeal.main_arg2)
      ∧ m' ((c.tc : Thread Cert.AdamQReferenceIdeal.nD Cert.AdamQReferenceIdeal.τ).loc Cert.AdamQReferenceIdeal.main_arg3) = m ((c.tc : Thread Cert.AdamQIdeal.nD Cert.AdamQIdeal.τ).loc Cert.AdamQIdeal.main_arg3)
      ∧ m' ((c.tc : Thread Cert.AdamQReferenceIdeal.nD Cert.AdamQReferenceIdeal.τ).loc Cert.AdamQReferenceIdeal.main_arg4) = m ((c.tc : Thread Cert.AdamQIdeal.nD Cert.AdamQIdeal.τ).loc Cert.AdamQIdeal.main_arg4)) →
    ∃ (v0 : (c : Dev Cert.AdamQIdeal.nD) → Buf (Elt Ideal) ((c.tc : Thread Cert.AdamQIdeal.nD Cert.AdamQIdeal.τ).loc Cert.AdamQIdeal.main_v1_0)) (v1 : (c : Dev Cert.AdamQIdeal.nD) → Buf (Elt Ideal) ((c.tc : Thread Cert.AdamQIdeal.nD Cert.AdamQIdeal.τ).loc Cert.AdamQIdeal.main_v1_1)) (v2 : (c : Dev Cert.AdamQIdeal.nD) → Buf (Elt Ideal) ((c.tc : Thread Cert.AdamQIdeal.nD Cert.AdamQIdeal.τ).loc Cert.AdamQIdeal.main_v1_2)) (v3 : (c : Dev Cert.AdamQIdeal.nD) → Buf (Elt Ideal) ((c.tc : Thread Cert.AdamQIdeal.nD Cert.AdamQIdeal.τ).loc Cert.AdamQIdeal.main_v1_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v1_0) = v0 c
          ∧ r.2.mem ((c.tc : Thread Cert.AdamQIdeal.nD Cert.AdamQIdeal.τ).loc Cert.AdamQIdeal.main_v1_1) = v1 c
          ∧ r.2.mem ((c.tc : Thread Cert.AdamQIdeal.nD Cert.AdamQIdeal.τ).loc Cert.AdamQIdeal.main_v1_2) = v2 c
          ∧ r.2.mem ((c.tc : Thread Cert.AdamQIdeal.nD Cert.AdamQIdeal.τ).loc Cert.AdamQIdeal.main_v1_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3)
          ∧ r.2.mem ((c.tc : Thread Cert.AdamQIdeal.nD Cert.AdamQIdeal.τ).loc Cert.AdamQIdeal.main_arg4) = m ((c.tc : Thread Cert.AdamQIdeal.nD Cert.AdamQIdeal.τ).loc Cert.AdamQIdeal.main_arg4))
      ∧ θ_run (Cert.AdamQReferenceIdeal.defs (F := Ideal)) (onTc (τ := Cert.AdamQReferenceIdeal.τ) (Cert.AdamQReferenceIdeal.main (F := Ideal))) ⟨m', fun _ => 0, g'⟩ (fun r => ∀ c : Dev Cert.AdamQReferenceIdeal.nD,
          r.2.mem ((c.tc : Thread Cert.AdamQReferenceIdeal.nD Cert.AdamQReferenceIdeal.τ).loc Cert.AdamQReferenceIdeal.main_v5) = v0 c
          ∧ r.2.mem ((c.tc : Thread Cert.AdamQReferenceIdeal.nD Cert.AdamQReferenceIdeal.τ).loc Cert.AdamQReferenceIdeal.main_v29) = v1 c
          ∧ r.2.mem ((c.tc : Thread Cert.AdamQReferenceIdeal.nD Cert.AdamQReferenceIdeal.τ).loc Cert.AdamQReferenceIdeal.main_v10) = v2 c
          ∧ r.2.mem ((c.tc : Thread Cert.AdamQReferenceIdeal.nD Cert.AdamQReferenceIdeal.τ).loc Cert.AdamQReferenceIdeal.main_v16) = v3 c
          ∧ r.2.mem ((c.tc : Thread Cert.AdamQReferenceIdeal.nD Cert.AdamQReferenceIdeal.τ).loc Cert.AdamQReferenceIdeal.main_arg0) = m' ((c.tc : Thread Cert.AdamQReferenceIdeal.nD Cert.AdamQReferenceIdeal.τ).loc Cert.AdamQReferenceIdeal.main_arg0)
          ∧ r.2.mem ((c.tc : Thread Cert.AdamQReferenceIdeal.nD Cert.AdamQReferenceIdeal.τ).loc Cert.AdamQReferenceIdeal.main_arg1) = m' ((c.tc : Thread Cert.AdamQReferenceIdeal.nD Cert.AdamQReferenceIdeal.τ).loc Cert.AdamQReferenceIdeal.main_arg1)
          ∧ r.2.mem ((c.tc : Thread Cert.AdamQReferenceIdeal.nD Cert.AdamQReferenceIdeal.τ).loc Cert.AdamQReferenceIdeal.main_arg2) = m' ((c.tc : Thread Cert.AdamQReferenceIdeal.nD Cert.AdamQReferenceIdeal.τ).loc Cert.AdamQReferenceIdeal.main_arg2)
          ∧ r.2.mem ((c.tc : Thread Cert.AdamQReferenceIdeal.nD Cert.AdamQReferenceIdeal.τ).loc Cert.AdamQReferenceIdeal.main_arg3) = m' ((c.tc : Thread Cert.AdamQReferenceIdeal.nD Cert.AdamQReferenceIdeal.τ).loc Cert.AdamQReferenceIdeal.main_arg3)
          ∧ r.2.mem ((c.tc : Thread Cert.AdamQReferenceIdeal.nD Cert.AdamQReferenceIdeal.τ).loc Cert.AdamQReferenceIdeal.main_arg4) = m' ((c.tc : Thread Cert.AdamQReferenceIdeal.nD Cert.AdamQReferenceIdeal.τ).loc Cert.AdamQReferenceIdeal.main_arg4))

def preserves_AdamKv_AdamKvIdeal : Prop :=
  True

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)
      ∧ m' ((c.tc : Thread Cert.AdamKvReferenceIdeal.nD Cert.AdamKvReferenceIdeal.τ).loc Cert.AdamKvReferenceIdeal.main_arg4) = m ((c.tc : Thread Cert.AdamKvIdeal.nD Cert.AdamKvIdeal.τ).loc Cert.AdamKvIdeal.main_arg4)) →
    ∃ (v0 : (c : Dev Cert.AdamKvIdeal.nD) → Buf (Elt Ideal) ((c.tc : Thread Cert.AdamKvIdeal.nD Cert.AdamKvIdeal.τ).loc Cert.AdamKvIdeal.main_v1_0)) (v1 : (c : Dev Cert.AdamKvIdeal.nD) → Buf (Elt Ideal) ((c.tc : Thread Cert.AdamKvIdeal.nD Cert.AdamKvIdeal.τ).loc Cert.AdamKvIdeal.main_v1_1)) (v2 : (c : Dev Cert.AdamKvIdeal.nD) → Buf (Elt Ideal) ((c.tc : Thread Cert.AdamKvIdeal.nD Cert.AdamKvIdeal.τ).loc Cert.AdamKvIdeal.main_v1_2)) (v3 : (c : Dev Cert.AdamKvIdeal.nD) → Buf (Elt Ideal) ((c.tc : Thread Cert.AdamKvIdeal.nD Cert.AdamKvIdeal.τ).loc Cert.AdamKvIdeal.main_v1_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v1_0) = v0 c
          ∧ r.2.mem ((c.tc : Thread Cert.AdamKvIdeal.nD Cert.AdamKvIdeal.τ).loc Cert.AdamKvIdeal.main_v1_1) = v1 c
          ∧ r.2.mem ((c.tc : Thread Cert.AdamKvIdeal.nD Cert.AdamKvIdeal.τ).loc Cert.AdamKvIdeal.main_v1_2) = v2 c
          ∧ r.2.mem ((c.tc : Thread Cert.AdamKvIdeal.nD Cert.AdamKvIdeal.τ).loc Cert.AdamKvIdeal.main_v1_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v5) = v0 c
          ∧ r.2.mem ((c.tc : Thread Cert.AdamKvReferenceIdeal.nD Cert.AdamKvReferenceIdeal.τ).loc Cert.AdamKvReferenceIdeal.main_v29) = v1 c
          ∧ r.2.mem ((c.tc : Thread Cert.AdamKvReferenceIdeal.nD Cert.AdamKvReferenceIdeal.τ).loc Cert.AdamKvReferenceIdeal.main_v10) = v2 c
          ∧ r.2.mem ((c.tc : Thread Cert.AdamKvReferenceIdeal.nD Cert.AdamKvReferenceIdeal.τ).loc Cert.AdamKvReferenceIdeal.main_v16) = v3 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3)
          ∧ r.2.mem ((c.tc : Thread Cert.AdamKvReferenceIdeal.nD Cert.AdamKvReferenceIdeal.τ).loc Cert.AdamKvReferenceIdeal.main_arg4) = m' ((c.tc : Thread Cert.AdamKvReferenceIdeal.nD Cert.AdamKvReferenceIdeal.τ).loc Cert.AdamKvReferenceIdeal.main_arg4))

def preserves_AdamMla_AdamMlaIdeal : Prop :=
  True

def algebraic_AdamMlaIdeal_AdamMlaReferenceIdeal [hAdamMlaIdeal : Cert.AdamMlaIdeal.Facts] [hAdamMlaReferenceIdeal : Cert.AdamMlaReferenceIdeal.Facts] : Prop :=
  ∀ (m : (ℓ : Loc Cert.AdamMlaIdeal.nD Cert.AdamMlaIdeal.τ Cert.AdamMlaIdeal.sig) → Buf (Elt Ideal) ℓ) (g : Dev Cert.AdamMlaIdeal.nD → PrngReg)
    (m' : (ℓ : Loc Cert.AdamMlaReferenceIdeal.nD Cert.AdamMlaReferenceIdeal.τ Cert.AdamMlaReferenceIdeal.sig) → Buf (Elt Ideal) ℓ) (g' : Dev Cert.AdamMlaReferenceIdeal.nD → PrngReg), Pre_AdamMlaIdeal m →
    (∀ c : Dev Cert.AdamMlaIdeal.nD,
      m' ((c.tc : Thread Cert.AdamMlaReferenceIdeal.nD Cert.AdamMlaReferenceIdeal.τ).loc Cert.AdamMlaReferenceIdeal.main_arg0) = m ((c.tc : Thread Cert.AdamMlaIdeal.nD Cert.AdamMlaIdeal.τ).loc Cert.AdamMlaIdeal.main_arg0)
      ∧ m' ((c.tc : Thread Cert.AdamMlaReferenceIdeal.nD Cert.AdamMlaReferenceIdeal.τ).loc Cert.AdamMlaReferenceIdeal.main_arg1) = m ((c.tc : Thread Cert.AdamMlaIdeal.nD Cert.AdamMlaIdeal.τ).loc Cert.AdamMlaIdeal.main_arg1)
      ∧ m' ((c.tc : Thread Cert.AdamMlaReferenceIdeal.nD Cert.AdamMlaReferenceIdeal.τ).loc Cert.AdamMlaReferenceIdeal.main_arg2) = m ((c.tc : Thread Cert.AdamMlaIdeal.nD Cert.AdamMlaIdeal.τ).loc Cert.AdamMlaIdeal.main_arg2)
      ∧ m' ((c.tc : Thread Cert.AdamMlaReferenceIdeal.nD Cert.AdamMlaReferenceIdeal.τ).loc Cert.AdamMlaReferenceIdeal.main_arg3) = m ((c.tc : Thread Cert.AdamMlaIdeal.nD Cert.AdamMlaIdeal.τ).loc Cert.AdamMlaIdeal.main_arg3)
      ∧ m' ((c.tc : Thread Cert.AdamMlaReferenceIdeal.nD Cert.AdamMlaReferenceIdeal.τ).loc Cert.AdamMlaReferenceIdeal.main_arg4) = m ((c.tc : Thread Cert.AdamMlaIdeal.nD Cert.AdamMlaIdeal.τ).loc Cert.AdamMlaIdeal.main_arg4)) →
    ∃ (v0 : (c : Dev Cert.AdamMlaIdeal.nD) → Buf (Elt Ideal) ((c.tc : Thread Cert.AdamMlaIdeal.nD Cert.AdamMlaIdeal.τ).loc Cert.AdamMlaIdeal.main_v1_0)) (v1 : (c : Dev Cert.AdamMlaIdeal.nD) → Buf (Elt Ideal) ((c.tc : Thread Cert.AdamMlaIdeal.nD Cert.AdamMlaIdeal.τ).loc Cert.AdamMlaIdeal.main_v1_1)) (v2 : (c : Dev Cert.AdamMlaIdeal.nD) → Buf (Elt Ideal) ((c.tc : Thread Cert.AdamMlaIdeal.nD Cert.AdamMlaIdeal.τ).loc Cert.AdamMlaIdeal.main_v1_2)) (v3 : (c : Dev Cert.AdamMlaIdeal.nD) → Buf (Elt Ideal) ((c.tc : Thread Cert.AdamMlaIdeal.nD Cert.AdamMlaIdeal.τ).loc Cert.AdamMlaIdeal.main_v1_3)),
      θ_run (Cert.AdamMlaIdeal.defs (F := Ideal)) (onTc (τ := Cert.AdamMlaIdeal.τ) (Cert.AdamMlaIdeal.main (F := Ideal))) ⟨m, fun _ => 0, g⟩ (fun r => ∀ c : Dev Cert.AdamMlaIdeal.nD,
          r.2.mem ((c.tc : Thread Cert.AdamMlaIdeal.nD Cert.AdamMlaIdeal.τ).loc Cert.AdamMlaIdeal.main_v1_0) = v0 c
          ∧ r.2.mem ((c.tc : Thread Cert.AdamMlaIdeal.nD Cert.AdamMlaIdeal.τ).loc Cert.AdamMlaIdeal.main_v1_1) = v1 c
          ∧ r.2.mem ((c.tc : Thread Cert.AdamMlaIdeal.nD Cert.AdamMlaIdeal.τ).loc Cert.AdamMlaIdeal.main_v1_2) = v2 c
          ∧ r.2.mem ((c.tc : Thread Cert.AdamMlaIdeal.nD Cert.AdamMlaIdeal.τ).loc Cert.AdamMlaIdeal.main_v1_3) = v3 c
          ∧ r.2.mem ((c.tc : Thread Cert.AdamMlaIdeal.nD Cert.AdamMlaIdeal.τ).loc Cert.AdamMlaIdeal.main_arg0) = m ((c.tc : Thread Cert.AdamMlaIdeal.nD Cert.AdamMlaIdeal.τ).loc Cert.AdamMlaIdeal.main_arg0)
          ∧ r.2.mem ((c.tc : Thread Cert.AdamMlaIdeal.nD Cert.AdamMlaIdeal.τ).loc Cert.AdamMlaIdeal.main_arg1) = m ((c.tc : Thread Cert.AdamMlaIdeal.nD Cert.AdamMlaIdeal.τ).loc Cert.AdamMlaIdeal.main_arg1)
          ∧ r.2.mem ((c.tc : Thread Cert.AdamMlaIdeal.nD Cert.AdamMlaIdeal.τ).loc Cert.AdamMlaIdeal.main_arg2) = m ((c.tc : Thread Cert.AdamMlaIdeal.nD Cert.AdamMlaIdeal.τ).loc Cert.AdamMlaIdeal.main_arg2)
          ∧ r.2.mem ((c.tc : Thread Cert.AdamMlaIdeal.nD Cert.AdamMlaIdeal.τ).loc Cert.AdamMlaIdeal.main_arg3) = m ((c.tc : Thread Cert.AdamMlaIdeal.nD Cert.AdamMlaIdeal.τ).loc Cert.AdamMlaIdeal.main_arg3)
          ∧ r.2.mem ((c.tc : Thread Cert.AdamMlaIdeal.nD Cert.AdamMlaIdeal.τ).loc Cert.AdamMlaIdeal.main_arg4) = m ((c.tc : Thread Cert.AdamMlaIdeal.nD Cert.AdamMlaIdeal.τ).loc Cert.AdamMlaIdeal.main_arg4))
      ∧ θ_run (Cert.AdamMlaReferenceIdeal.defs (F := Ideal)) (onTc (τ := Cert.AdamMlaReferenceIdeal.τ) (Cert.AdamMlaReferenceIdeal.main (F := Ideal))) ⟨m', fun _ => 0, g'⟩ (fun r => ∀ c : Dev Cert.AdamMlaReferenceIdeal.nD,
          r.2.mem ((c.tc : Thread Cert.AdamMlaReferenceIdeal.nD Cert.AdamMlaReferenceIdeal.τ).loc Cert.AdamMlaReferenceIdeal.main_v5) = v0 c
          ∧ r.2.mem ((c.tc : Thread Cert.AdamMlaReferenceIdeal.nD Cert.AdamMlaReferenceIdeal.τ).loc Cert.AdamMlaReferenceIdeal.main_v29) = v1 c
          ∧ r.2.mem ((c.tc : Thread Cert.AdamMlaReferenceIdeal.nD Cert.AdamMlaReferenceIdeal.τ).loc Cert.AdamMlaReferenceIdeal.main_v10) = v2 c
          ∧ r.2.mem ((c.tc : Thread Cert.AdamMlaReferenceIdeal.nD Cert.AdamMlaReferenceIdeal.τ).loc Cert.AdamMlaReferenceIdeal.main_v16) = v3 c
          ∧ r.2.mem ((c.tc : Thread Cert.AdamMlaReferenceIdeal.nD Cert.AdamMlaReferenceIdeal.τ).loc Cert.AdamMlaReferenceIdeal.main_arg0) = m' ((c.tc : Thread Cert.AdamMlaReferenceIdeal.nD Cert.AdamMlaReferenceIdeal.τ).loc Cert.AdamMlaReferenceIdeal.main_arg0)
          ∧ r.2.mem ((c.tc : Thread Cert.AdamMlaReferenceIdeal.nD Cert.AdamMlaReferenceIdeal.τ).loc Cert.AdamMlaReferenceIdeal.main_arg1) = m' ((c.tc : Thread Cert.AdamMlaReferenceIdeal.nD Cert.AdamMlaReferenceIdeal.τ).loc Cert.AdamMlaReferenceIdeal.main_arg1)
          ∧ r.2.mem ((c.tc : Thread Cert.AdamMlaReferenceIdeal.nD Cert.AdamMlaReferenceIdeal.τ).loc Cert.AdamMlaReferenceIdeal.main_arg2) = m' ((c.tc : Thread Cert.AdamMlaReferenceIdeal.nD Cert.AdamMlaReferenceIdeal.τ).loc Cert.AdamMlaReferenceIdeal.main_arg2)
          ∧ r.2.mem ((c.tc : Thread Cert.AdamMlaReferenceIdeal.nD Cert.AdamMlaReferenceIdeal.τ).loc Cert.AdamMlaReferenceIdeal.main_arg3) = m' ((c.tc : Thread Cert.AdamMlaReferenceIdeal.nD Cert.AdamMlaReferenceIdeal.τ).loc Cert.AdamMlaReferenceIdeal.main_arg3)
          ∧ r.2.mem ((c.tc : Thread Cert.AdamMlaReferenceIdeal.nD Cert.AdamMlaReferenceIdeal.τ).loc Cert.AdamMlaReferenceIdeal.main_arg4) = m' ((c.tc : Thread Cert.AdamMlaReferenceIdeal.nD Cert.AdamMlaReferenceIdeal.τ).loc Cert.AdamMlaReferenceIdeal.main_arg4))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v5) = v0 c
          ∧ r.2.mem ((c.tc : Thread Cert.AdamOutReferenceIdeal.nD Cert.AdamOutReferenceIdeal.τ).loc Cert.AdamOutReferenceIdeal.main_v29) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_v16) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v5) = v0 c
          ∧ r.2.mem ((c.tc : Thread Cert.AdamUpReferenceIdeal.nD Cert.AdamUpReferenceIdeal.τ).loc Cert.AdamUpReferenceIdeal.main_v29) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_v16) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v5) = v0 c
          ∧ r.2.mem ((c.tc : Thread Cert.AdamDownReferenceIdeal.nD Cert.AdamDownReferenceIdeal.τ).loc Cert.AdamDownReferenceIdeal.main_v29) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_v16) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4))

def preserves_MixBwd_MixBwdIdeal : Prop :=
  True

def algebraic_MixBwdIdeal_MixBwdReferenceIdeal [hMixBwdIdeal : Cert.MixBwdIdeal.Facts] [hMixBwdReferenceIdeal : Cert.MixBwdReferenceIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdReferenceIdeal.nD Cert.MixBwdReferenceIdeal.τ Cert.MixBwdReferenceIdeal.sig) → Buf (Elt Ideal) ℓ) (g' : Dev Cert.MixBwdReferenceIdeal.nD → PrngReg), Pre_MixBwdIdeal m →
    (∀ c : Dev Cert.MixBwdIdeal.nD,
      m' ((c.tc : Thread Cert.MixBwdReferenceIdeal.nD Cert.MixBwdReferenceIdeal.τ).loc Cert.MixBwdReferenceIdeal.main_arg0) = m ((c.tc : Thread Cert.MixBwdIdeal.nD Cert.MixBwdIdeal.τ).loc Cert.MixBwdIdeal.main_arg0)
      ∧ m' ((c.tc : Thread Cert.MixBwdReferenceIdeal.nD Cert.MixBwdReferenceIdeal.τ).loc Cert.MixBwdReferenceIdeal.main_arg1) = m ((c.tc : Thread Cert.MixBwdIdeal.nD Cert.MixBwdIdeal.τ).loc Cert.MixBwdIdeal.main_arg1)
      ∧ m' ((c.tc : Thread Cert.MixBwdReferenceIdeal.nD Cert.MixBwdReferenceIdeal.τ).loc Cert.MixBwdReferenceIdeal.main_arg2) = m ((c.tc : Thread Cert.MixBwdIdeal.nD Cert.MixBwdIdeal.τ).loc Cert.MixBwdIdeal.main_arg2)
      ∧ m' ((c.tc : Thread Cert.MixBwdReferenceIdeal.nD Cert.MixBwdReferenceIdeal.τ).loc Cert.MixBwdReferenceIdeal.main_arg3) = m ((c.tc : Thread Cert.MixBwdIdeal.nD Cert.MixBwdIdeal.τ).loc Cert.MixBwdIdeal.main_arg3)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3))
      ∧ θ_run (Cert.MixBwdReferenceIdeal.defs (F := Ideal)) (onTc (τ := Cert.MixBwdReferenceIdeal.τ) (Cert.MixBwdReferenceIdeal.main (F := Ideal))) ⟨m', fun _ => 0, g'⟩ (fun r => ∀ c : Dev Cert.MixBwdReferenceIdeal.nD,
          r.2.mem ((c.tc : Thread Cert.MixBwdReferenceIdeal.nD Cert.MixBwdReferenceIdeal.τ).loc Cert.MixBwdReferenceIdeal.main_v34) = v0 c
          ∧ r.2.mem ((c.tc : Thread Cert.MixBwdReferenceIdeal.nD Cert.MixBwdReferenceIdeal.τ).loc Cert.MixBwdReferenceIdeal.main_v17) = v1 c
          ∧ r.2.mem ((c.tc : Thread Cert.MixBwdReferenceIdeal.nD Cert.MixBwdReferenceIdeal.τ).loc Cert.MixBwdReferenceIdeal.main_arg0) = m' ((c.tc : Thread Cert.MixBwdReferenceIdeal.nD Cert.MixBwdReferenceIdeal.τ).loc Cert.MixBwdReferenceIdeal.main_arg0)
          ∧ r.2.mem ((c.tc : Thread Cert.MixBwdReferenceIdeal.nD Cert.MixBwdReferenceIdeal.τ).loc Cert.MixBwdReferenceIdeal.main_arg1) = m' ((c.tc : Thread Cert.MixBwdReferenceIdeal.nD Cert.MixBwdReferenceIdeal.τ).loc Cert.MixBwdReferenceIdeal.main_arg1)
          ∧ r.2.mem ((c.tc : Thread Cert.MixBwdReferenceIdeal.nD Cert.MixBwdReferenceIdeal.τ).loc Cert.MixBwdReferenceIdeal.main_arg2) = m' ((c.tc : Thread Cert.MixBwdReferenceIdeal.nD Cert.MixBwdReferenceIdeal.τ).loc Cert.MixBwdReferenceIdeal.main_arg2)
          ∧ r.2.mem ((c.tc : Thread Cert.MixBwdReferenceIdeal.nD Cert.MixBwdReferenceIdeal.τ).loc Cert.MixBwdReferenceIdeal.main_arg3) = m' ((c.tc : Thread Cert.MixBwdReferenceIdeal.nD Cert.MixBwdReferenceIdeal.τ).loc Cert.MixBwdReferenceIdeal.main_arg3))

def preserves_MlpBwd_MlpBwdIdeal : Prop :=
  True

def algebraic_MlpBwdIdeal_MlpBwdReferenceIdeal [hMlpBwdIdeal : Cert.MlpBwdIdeal.Facts] [hMlpBwdReferenceIdeal : Cert.MlpBwdReferenceIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdReferenceIdeal.nD Cert.MlpBwdReferenceIdeal.τ Cert.MlpBwdReferenceIdeal.sig) → Buf (Elt Ideal) ℓ) (g' : Dev Cert.MlpBwdReferenceIdeal.nD → PrngReg), Pre_MlpBwdIdeal m →
    (∀ c : Dev Cert.MlpBwdIdeal.nD,
      m' ((c.tc : Thread Cert.MlpBwdReferenceIdeal.nD Cert.MlpBwdReferenceIdeal.τ).loc Cert.MlpBwdReferenceIdeal.main_arg0) = m ((c.tc : Thread Cert.MlpBwdIdeal.nD Cert.MlpBwdIdeal.τ).loc Cert.MlpBwdIdeal.main_arg0)
      ∧ m' ((c.tc : Thread Cert.MlpBwdReferenceIdeal.nD Cert.MlpBwdReferenceIdeal.τ).loc Cert.MlpBwdReferenceIdeal.main_arg1) = m ((c.tc : Thread Cert.MlpBwdIdeal.nD Cert.MlpBwdIdeal.τ).loc Cert.MlpBwdIdeal.main_arg1)
      ∧ m' ((c.tc : Thread Cert.MlpBwdReferenceIdeal.nD Cert.MlpBwdReferenceIdeal.τ).loc Cert.MlpBwdReferenceIdeal.main_arg2) = m ((c.tc : Thread Cert.MlpBwdIdeal.nD Cert.MlpBwdIdeal.τ).loc Cert.MlpBwdIdeal.main_arg2)
      ∧ m' ((c.tc : Thread Cert.MlpBwdReferenceIdeal.nD Cert.MlpBwdReferenceIdeal.τ).loc Cert.MlpBwdReferenceIdeal.main_arg3) = m ((c.tc : Thread Cert.MlpBwdIdeal.nD Cert.MlpBwdIdeal.τ).loc Cert.MlpBwdIdeal.main_arg3)) →
    ∃ (v0 : (c : Dev Cert.MlpBwdIdeal.nD) → Buf (Elt Ideal) ((c.tc : Thread Cert.MlpBwdIdeal.nD Cert.MlpBwdIdeal.τ).loc Cert.MlpBwdIdeal.main_v0_0)) (v1 : (c : Dev Cert.MlpBwdIdeal.nD) → Buf (Elt Ideal) ((c.tc : Thread Cert.MlpBwdIdeal.nD Cert.MlpBwdIdeal.τ).loc Cert.MlpBwdIdeal.main_v0_1)) (v2 : (c : Dev Cert.MlpBwdIdeal.nD) → Buf (Elt Ideal) ((c.tc : Thread Cert.MlpBwdIdeal.nD Cert.MlpBwdIdeal.τ).loc Cert.MlpBwdIdeal.main_v0_2)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v0_0) = v0 c
          ∧ r.2.mem ((c.tc : Thread Cert.MlpBwdIdeal.nD Cert.MlpBwdIdeal.τ).loc Cert.MlpBwdIdeal.main_v0_1) = v1 c
          ∧ r.2.mem ((c.tc : Thread Cert.MlpBwdIdeal.nD Cert.MlpBwdIdeal.τ).loc Cert.MlpBwdIdeal.main_v0_2) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ θ_run (Cert.MlpBwdReferenceIdeal.defs (F := Ideal)) (onTc (τ := Cert.MlpBwdReferenceIdeal.τ) (Cert.MlpBwdReferenceIdeal.main (F := Ideal))) ⟨m', fun _ => 0, g'⟩ (fun r => ∀ c : Dev Cert.MlpBwdReferenceIdeal.nD,
          r.2.mem ((c.tc : Thread Cert.MlpBwdReferenceIdeal.nD Cert.MlpBwdReferenceIdeal.τ).loc Cert.MlpBwdReferenceIdeal.main_v34) = v0 c
          ∧ r.2.mem ((c.tc : Thread Cert.MlpBwdReferenceIdeal.nD Cert.MlpBwdReferenceIdeal.τ).loc Cert.MlpBwdReferenceIdeal.main_v35) = v1 c
          ∧ r.2.mem ((c.tc : Thread Cert.MlpBwdReferenceIdeal.nD Cert.MlpBwdReferenceIdeal.τ).loc Cert.MlpBwdReferenceIdeal.main_v17) = v2 c
          ∧ r.2.mem ((c.tc : Thread Cert.MlpBwdReferenceIdeal.nD Cert.MlpBwdReferenceIdeal.τ).loc Cert.MlpBwdReferenceIdeal.main_arg0) = m' ((c.tc : Thread Cert.MlpBwdReferenceIdeal.nD Cert.MlpBwdReferenceIdeal.τ).loc Cert.MlpBwdReferenceIdeal.main_arg0)
          ∧ r.2.mem ((c.tc : Thread Cert.MlpBwdReferenceIdeal.nD Cert.MlpBwdReferenceIdeal.τ).loc Cert.MlpBwdReferenceIdeal.main_arg1) = m' ((c.tc : Thread Cert.MlpBwdReferenceIdeal.nD Cert.MlpBwdReferenceIdeal.τ).loc Cert.MlpBwdReferenceIdeal.main_arg1)
          ∧ r.2.mem ((c.tc : Thread Cert.MlpBwdReferenceIdeal.nD Cert.MlpBwdReferenceIdeal.τ).loc Cert.MlpBwdReferenceIdeal.main_arg2) = m' ((c.tc : Thread Cert.MlpBwdReferenceIdeal.nD Cert.MlpBwdReferenceIdeal.τ).loc Cert.MlpBwdReferenceIdeal.main_arg2)
          ∧ r.2.mem ((c.tc : Thread Cert.MlpBwdReferenceIdeal.nD Cert.MlpBwdReferenceIdeal.τ).loc Cert.MlpBwdReferenceIdeal.main_arg3) = m' ((c.tc : Thread Cert.MlpBwdReferenceIdeal.nD Cert.MlpBwdReferenceIdeal.τ).loc Cert.MlpBwdReferenceIdeal.main_arg3))

def preserves_QLatent_QLatentIdeal : Prop :=
  True

def algebraic_QLatentIdeal_QLatentReferenceIdeal [hQLatentIdeal : Cert.QLatentIdeal.Facts] [hQLatentReferenceIdeal : Cert.QLatentReferenceIdeal.Facts] : Prop :=
  ∀ (m : (ℓ : Loc Cert.QLatentIdeal.nD Cert.QLatentIdeal.τ Cert.QLatentIdeal.sig) → Buf (Elt Ideal) ℓ) (g : Dev Cert.QLatentIdeal.nD → PrngReg)
    (m' : (ℓ : Loc Cert.QLatentReferenceIdeal.nD Cert.QLatentReferenceIdeal.τ Cert.QLatentReferenceIdeal.sig) → Buf (Elt Ideal) ℓ) (g' : Dev Cert.QLatentReferenceIdeal.nD → PrngReg), Pre_QLatentIdeal m →
    (∀ c : Dev Cert.QLatentIdeal.nD,
      m' ((c.tc : Thread Cert.QLatentReferenceIdeal.nD Cert.QLatentReferenceIdeal.τ).loc Cert.QLatentReferenceIdeal.main_arg0) = m ((c.tc : Thread Cert.QLatentIdeal.nD Cert.QLatentIdeal.τ).loc Cert.QLatentIdeal.main_arg0)
      ∧ m' ((c.tc : Thread Cert.QLatentReferenceIdeal.nD Cert.QLatentReferenceIdeal.τ).loc Cert.QLatentReferenceIdeal.main_arg1) = m ((c.tc : Thread Cert.QLatentIdeal.nD Cert.QLatentIdeal.τ).loc Cert.QLatentIdeal.main_arg1)
      ∧ m' ((c.tc : Thread Cert.QLatentReferenceIdeal.nD Cert.QLatentReferenceIdeal.τ).loc Cert.QLatentReferenceIdeal.main_arg2) = m ((c.tc : Thread Cert.QLatentIdeal.nD Cert.QLatentIdeal.τ).loc Cert.QLatentIdeal.main_arg2)
      ∧ m' ((c.tc : Thread Cert.QLatentReferenceIdeal.nD Cert.QLatentReferenceIdeal.τ).loc Cert.QLatentReferenceIdeal.main_arg3) = m ((c.tc : Thread Cert.QLatentIdeal.nD Cert.QLatentIdeal.τ).loc Cert.QLatentIdeal.main_arg3)) →
    ∃ (v0 : (c : Dev Cert.QLatentIdeal.nD) → Buf (Elt Ideal) ((c.tc : Thread Cert.QLatentIdeal.nD Cert.QLatentIdeal.τ).loc Cert.QLatentIdeal.main_v0_0)) (v1 : (c : Dev Cert.QLatentIdeal.nD) → Buf (Elt Ideal) ((c.tc : Thread Cert.QLatentIdeal.nD Cert.QLatentIdeal.τ).loc Cert.QLatentIdeal.main_v0_1)),
      θ_run (Cert.QLatentIdeal.defs (F := Ideal)) (onTc (τ := Cert.QLatentIdeal.τ) (Cert.QLatentIdeal.main (F := Ideal))) ⟨m, fun _ => 0, g⟩ (fun r => ∀ c : Dev Cert.QLatentIdeal.nD,
          r.2.mem ((c.tc : Thread Cert.QLatentIdeal.nD Cert.QLatentIdeal.τ).loc Cert.QLatentIdeal.main_v0_0) = v0 c
          ∧ r.2.mem ((c.tc : Thread Cert.QLatentIdeal.nD Cert.QLatentIdeal.τ).loc Cert.QLatentIdeal.main_v0_1) = v1 c
          ∧ r.2.mem ((c.tc : Thread Cert.QLatentIdeal.nD Cert.QLatentIdeal.τ).loc Cert.QLatentIdeal.main_arg0) = m ((c.tc : Thread Cert.QLatentIdeal.nD Cert.QLatentIdeal.τ).loc Cert.QLatentIdeal.main_arg0)
          ∧ r.2.mem ((c.tc : Thread Cert.QLatentIdeal.nD Cert.QLatentIdeal.τ).loc Cert.QLatentIdeal.main_arg1) = m ((c.tc : Thread Cert.QLatentIdeal.nD Cert.QLatentIdeal.τ).loc Cert.QLatentIdeal.main_arg1)
          ∧ r.2.mem ((c.tc : Thread Cert.QLatentIdeal.nD Cert.QLatentIdeal.τ).loc Cert.QLatentIdeal.main_arg2) = m ((c.tc : Thread Cert.QLatentIdeal.nD Cert.QLatentIdeal.τ).loc Cert.QLatentIdeal.main_arg2)
          ∧ r.2.mem ((c.tc : Thread Cert.QLatentIdeal.nD Cert.QLatentIdeal.τ).loc Cert.QLatentIdeal.main_arg3) = m ((c.tc : Thread Cert.QLatentIdeal.nD Cert.QLatentIdeal.τ).loc Cert.QLatentIdeal.main_arg3))
      ∧ θ_run (Cert.QLatentReferenceIdeal.defs (F := Ideal)) (onTc (τ := Cert.QLatentReferenceIdeal.τ) (Cert.QLatentReferenceIdeal.main (F := Ideal))) ⟨m', fun _ => 0, g'⟩ (fun r => ∀ c : Dev Cert.QLatentReferenceIdeal.nD,
          r.2.mem ((c.tc : Thread Cert.QLatentReferenceIdeal.nD Cert.QLatentReferenceIdeal.τ).loc Cert.QLatentReferenceIdeal.main_v38) = v0 c
          ∧ r.2.mem ((c.tc : Thread Cert.QLatentReferenceIdeal.nD Cert.QLatentReferenceIdeal.τ).loc Cert.QLatentReferenceIdeal.main_v18) = v1 c
          ∧ r.2.mem ((c.tc : Thread Cert.QLatentReferenceIdeal.nD Cert.QLatentReferenceIdeal.τ).loc Cert.QLatentReferenceIdeal.main_arg0) = m' ((c.tc : Thread Cert.QLatentReferenceIdeal.nD Cert.QLatentReferenceIdeal.τ).loc Cert.QLatentReferenceIdeal.main_arg0)
          ∧ r.2.mem ((c.tc : Thread Cert.QLatentReferenceIdeal.nD Cert.QLatentReferenceIdeal.τ).loc Cert.QLatentReferenceIdeal.main_arg1) = m' ((c.tc : Thread Cert.QLatentReferenceIdeal.nD Cert.QLatentReferenceIdeal.τ).loc Cert.QLatentReferenceIdeal.main_arg1)
          ∧ r.2.mem ((c.tc : Thread Cert.QLatentReferenceIdeal.nD Cert.QLatentReferenceIdeal.τ).loc Cert.QLatentReferenceIdeal.main_arg2) = m' ((c.tc : Thread Cert.QLatentReferenceIdeal.nD Cert.QLatentReferenceIdeal.τ).loc Cert.QLatentReferenceIdeal.main_arg2)
          ∧ r.2.mem ((c.tc : Thread Cert.QLatentReferenceIdeal.nD Cert.QLatentReferenceIdeal.τ).loc Cert.QLatentReferenceIdeal.main_arg3) = m' ((c.tc : Thread Cert.QLatentReferenceIdeal.nD Cert.QLatentReferenceIdeal.τ).loc Cert.QLatentReferenceIdeal.main_arg3))

def preserves_KvLatent_KvLatentIdeal : Prop :=
  True

def algebraic_KvLatentIdeal_KvLatentReferenceIdeal [hKvLatentIdeal : Cert.KvLatentIdeal.Facts] [hKvLatentReferenceIdeal : Cert.KvLatentReferenceIdeal.Facts] : Prop :=
  ∀ (m : (ℓ : Loc Cert.KvLatentIdeal.nD Cert.KvLatentIdeal.τ Cert.KvLatentIdeal.sig) → Buf (Elt Ideal) ℓ) (g : Dev Cert.KvLatentIdeal.nD → PrngReg)
    (m' : (ℓ : Loc Cert.KvLatentReferenceIdeal.nD Cert.KvLatentReferenceIdeal.τ Cert.KvLatentReferenceIdeal.sig) → Buf (Elt Ideal) ℓ) (g' : Dev Cert.KvLatentReferenceIdeal.nD → PrngReg), Pre_KvLatentIdeal m →
    (∀ c : Dev Cert.KvLatentIdeal.nD,
      m' ((c.tc : Thread Cert.KvLatentReferenceIdeal.nD Cert.KvLatentReferenceIdeal.τ).loc Cert.KvLatentReferenceIdeal.main_arg0) = m ((c.tc : Thread Cert.KvLatentIdeal.nD Cert.KvLatentIdeal.τ).loc Cert.KvLatentIdeal.main_arg0)
      ∧ m' ((c.tc : Thread Cert.KvLatentReferenceIdeal.nD Cert.KvLatentReferenceIdeal.τ).loc Cert.KvLatentReferenceIdeal.main_arg1) = m ((c.tc : Thread Cert.KvLatentIdeal.nD Cert.KvLatentIdeal.τ).loc Cert.KvLatentIdeal.main_arg1)
      ∧ m' ((c.tc : Thread Cert.KvLatentReferenceIdeal.nD Cert.KvLatentReferenceIdeal.τ).loc Cert.KvLatentReferenceIdeal.main_arg2) = m ((c.tc : Thread Cert.KvLatentIdeal.nD Cert.KvLatentIdeal.τ).loc Cert.KvLatentIdeal.main_arg2)
      ∧ m' ((c.tc : Thread Cert.KvLatentReferenceIdeal.nD Cert.KvLatentReferenceIdeal.τ).loc Cert.KvLatentReferenceIdeal.main_arg3) = m ((c.tc : Thread Cert.KvLatentIdeal.nD Cert.KvLatentIdeal.τ).loc Cert.KvLatentIdeal.main_arg3)) →
    ∃ (v0 : (c : Dev Cert.KvLatentIdeal.nD) → Buf (Elt Ideal) ((c.tc : Thread Cert.KvLatentIdeal.nD Cert.KvLatentIdeal.τ).loc Cert.KvLatentIdeal.main_v0_0)) (v1 : (c : Dev Cert.KvLatentIdeal.nD) → Buf (Elt Ideal) ((c.tc : Thread Cert.KvLatentIdeal.nD Cert.KvLatentIdeal.τ).loc Cert.KvLatentIdeal.main_v0_1)),
      θ_run (Cert.KvLatentIdeal.defs (F := Ideal)) (onTc (τ := Cert.KvLatentIdeal.τ) (Cert.KvLatentIdeal.main (F := Ideal))) ⟨m, fun _ => 0, g⟩ (fun r => ∀ c : Dev Cert.KvLatentIdeal.nD,
          r.2.mem ((c.tc : Thread Cert.KvLatentIdeal.nD Cert.KvLatentIdeal.τ).loc Cert.KvLatentIdeal.main_v0_0) = v0 c
          ∧ r.2.mem ((c.tc : Thread Cert.KvLatentIdeal.nD Cert.KvLatentIdeal.τ).loc Cert.KvLatentIdeal.main_v0_1) = v1 c
          ∧ r.2.mem ((c.tc : Thread Cert.KvLatentIdeal.nD Cert.KvLatentIdeal.τ).loc Cert.KvLatentIdeal.main_arg0) = m ((c.tc : Thread Cert.KvLatentIdeal.nD Cert.KvLatentIdeal.τ).loc Cert.KvLatentIdeal.main_arg0)
          ∧ r.2.mem ((c.tc : Thread Cert.KvLatentIdeal.nD Cert.KvLatentIdeal.τ).loc Cert.KvLatentIdeal.main_arg1) = m ((c.tc : Thread Cert.KvLatentIdeal.nD Cert.KvLatentIdeal.τ).loc Cert.KvLatentIdeal.main_arg1)
          ∧ r.2.mem ((c.tc : Thread Cert.KvLatentIdeal.nD Cert.KvLatentIdeal.τ).loc Cert.KvLatentIdeal.main_arg2) = m ((c.tc : Thread Cert.KvLatentIdeal.nD Cert.KvLatentIdeal.τ).loc Cert.KvLatentIdeal.main_arg2)
          ∧ r.2.mem ((c.tc : Thread Cert.KvLatentIdeal.nD Cert.KvLatentIdeal.τ).loc Cert.KvLatentIdeal.main_arg3) = m ((c.tc : Thread Cert.KvLatentIdeal.nD Cert.KvLatentIdeal.τ).loc Cert.KvLatentIdeal.main_arg3))
      ∧ θ_run (Cert.KvLatentReferenceIdeal.defs (F := Ideal)) (onTc (τ := Cert.KvLatentReferenceIdeal.τ) (Cert.KvLatentReferenceIdeal.main (F := Ideal))) ⟨m', fun _ => 0, g'⟩ (fun r => ∀ c : Dev Cert.KvLatentReferenceIdeal.nD,
          r.2.mem ((c.tc : Thread Cert.KvLatentReferenceIdeal.nD Cert.KvLatentReferenceIdeal.τ).loc Cert.KvLatentReferenceIdeal.main_v38) = v0 c
          ∧ r.2.mem ((c.tc : Thread Cert.KvLatentReferenceIdeal.nD Cert.KvLatentReferenceIdeal.τ).loc Cert.KvLatentReferenceIdeal.main_v18) = v1 c
          ∧ r.2.mem ((c.tc : Thread Cert.KvLatentReferenceIdeal.nD Cert.KvLatentReferenceIdeal.τ).loc Cert.KvLatentReferenceIdeal.main_arg0) = m' ((c.tc : Thread Cert.KvLatentReferenceIdeal.nD Cert.KvLatentReferenceIdeal.τ).loc Cert.KvLatentReferenceIdeal.main_arg0)
          ∧ r.2.mem ((c.tc : Thread Cert.KvLatentReferenceIdeal.nD Cert.KvLatentReferenceIdeal.τ).loc Cert.KvLatentReferenceIdeal.main_arg1) = m' ((c.tc : Thread Cert.KvLatentReferenceIdeal.nD Cert.KvLatentReferenceIdeal.τ).loc Cert.KvLatentReferenceIdeal.main_arg1)
          ∧ r.2.mem ((c.tc : Thread Cert.KvLatentReferenceIdeal.nD Cert.KvLatentReferenceIdeal.τ).loc Cert.KvLatentReferenceIdeal.main_arg2) = m' ((c.tc : Thread Cert.KvLatentReferenceIdeal.nD Cert.KvLatentReferenceIdeal.τ).loc Cert.KvLatentReferenceIdeal.main_arg2)
          ∧ r.2.mem ((c.tc : Thread Cert.KvLatentReferenceIdeal.nD Cert.KvLatentReferenceIdeal.τ).loc Cert.KvLatentReferenceIdeal.main_arg3) = m' ((c.tc : Thread Cert.KvLatentReferenceIdeal.nD Cert.KvLatentReferenceIdeal.τ).loc Cert.KvLatentReferenceIdeal.main_arg3))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)
      ∧ m' ((c.tc : Thread Cert.LossHeadReferenceIdeal.nD Cert.LossHeadReferenceIdeal.τ).loc Cert.LossHeadReferenceIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v49) = v0 c
          ∧ r.2.mem ((c.tc : Thread Cert.LossHeadReferenceIdeal.nD Cert.LossHeadReferenceIdeal.τ).loc Cert.LossHeadReferenceIdeal.main_v50) = v1 c
          ∧ r.2.mem ((c.tc : Thread Cert.LossHeadReferenceIdeal.nD Cert.LossHeadReferenceIdeal.τ).loc Cert.LossHeadReferenceIdeal.main_v33) = v2 c
          ∧ r.2.mem ((c.tc : Thread Cert.LossHeadReferenceIdeal.nD Cert.LossHeadReferenceIdeal.τ).loc Cert.LossHeadReferenceIdeal.main_v51) = v3 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2)
          ∧ r.2.mem ((c.tc : Thread Cert.LossHeadReferenceIdeal.nD Cert.LossHeadReferenceIdeal.τ).loc Cert.LossHeadReferenceIdeal.main_arg3) = m' ((c.tc : Thread Cert.LossHeadReferenceIdeal.nD Cert.LossHeadReferenceIdeal.τ).loc Cert.LossHeadReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v12) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v20_0)) (v1 : (c : Dev Cert.PrepIdeal.nD) → Buf (Elt Ideal) ((c.tc : Thread Cert.PrepIdeal.nD Cert.PrepIdeal.τ).loc Cert.PrepIdeal.main_v20_1)) (v2 : (c : Dev Cert.PrepIdeal.nD) → Buf (Elt Ideal) ((c.tc : Thread Cert.PrepIdeal.nD Cert.PrepIdeal.τ).loc Cert.PrepIdeal.main_v20_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v20_0) = v0 c
          ∧ r.2.mem ((c.tc : Thread Cert.PrepIdeal.nD Cert.PrepIdeal.τ).loc Cert.PrepIdeal.main_v20_1) = v1 c
          ∧ r.2.mem ((c.tc : Thread Cert.PrepIdeal.nD Cert.PrepIdeal.τ).loc Cert.PrepIdeal.main_v20_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v42) = v0 c
          ∧ r.2.mem ((c.tc : Thread Cert.PrepReferenceIdeal.nD Cert.PrepReferenceIdeal.τ).loc Cert.PrepReferenceIdeal.main_v55) = v1 c
          ∧ r.2.mem ((c.tc : Thread Cert.PrepReferenceIdeal.nD Cert.PrepReferenceIdeal.τ).loc Cert.PrepReferenceIdeal.main_v57) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def preserves_Delta_DeltaIdeal : Prop :=
  True

def algebraic_DeltaIdeal_DeltaReferenceIdeal [hDeltaIdeal : Cert.DeltaIdeal.Facts] [hDeltaReferenceIdeal : Cert.DeltaReferenceIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaReferenceIdeal.nD Cert.DeltaReferenceIdeal.τ Cert.DeltaReferenceIdeal.sig) → Buf (Elt Ideal) ℓ) (g' : Dev Cert.DeltaReferenceIdeal.nD → PrngReg), Pre_DeltaIdeal m →
    (∀ c : Dev Cert.DeltaIdeal.nD,
      m' ((c.tc : Thread Cert.DeltaReferenceIdeal.nD Cert.DeltaReferenceIdeal.τ).loc Cert.DeltaReferenceIdeal.main_arg0) = m ((c.tc : Thread Cert.DeltaIdeal.nD Cert.DeltaIdeal.τ).loc Cert.DeltaIdeal.main_arg0)
      ∧ m' ((c.tc : Thread Cert.DeltaReferenceIdeal.nD Cert.DeltaReferenceIdeal.τ).loc Cert.DeltaReferenceIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v0)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v0) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaReferenceIdeal.defs (F := Ideal)) (onTc (τ := Cert.DeltaReferenceIdeal.τ) (Cert.DeltaReferenceIdeal.main (F := Ideal))) ⟨m', fun _ => 0, g'⟩ (fun r => ∀ c : Dev Cert.DeltaReferenceIdeal.nD,
          r.2.mem ((c.tc : Thread Cert.DeltaReferenceIdeal.nD Cert.DeltaReferenceIdeal.τ).loc Cert.DeltaReferenceIdeal.main_v5) = v0 c
          ∧ r.2.mem ((c.tc : Thread Cert.DeltaReferenceIdeal.nD Cert.DeltaReferenceIdeal.τ).loc Cert.DeltaReferenceIdeal.main_arg0) = m' ((c.tc : Thread Cert.DeltaReferenceIdeal.nD Cert.DeltaReferenceIdeal.τ).loc Cert.DeltaReferenceIdeal.main_arg0)
          ∧ r.2.mem ((c.tc : Thread Cert.DeltaReferenceIdeal.nD Cert.DeltaReferenceIdeal.τ).loc Cert.DeltaReferenceIdeal.main_arg1) = m' ((c.tc : Thread Cert.DeltaReferenceIdeal.nD Cert.DeltaReferenceIdeal.τ).loc Cert.DeltaReferenceIdeal.main_arg1))

def preserves_KvUp_KvUpIdeal : Prop :=
  True

def algebraic_KvUpIdeal_KvUpReferenceIdeal [hKvUpIdeal : Cert.KvUpIdeal.Facts] [hKvUpReferenceIdeal : Cert.KvUpReferenceIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpReferenceIdeal.nD Cert.KvUpReferenceIdeal.τ Cert.KvUpReferenceIdeal.sig) → Buf (Elt Ideal) ℓ) (g' : Dev Cert.KvUpReferenceIdeal.nD → PrngReg), Pre_KvUpIdeal m →
    (∀ c : Dev Cert.KvUpIdeal.nD,
      m' ((c.tc : Thread Cert.KvUpReferenceIdeal.nD Cert.KvUpReferenceIdeal.τ).loc Cert.KvUpReferenceIdeal.main_arg0) = m ((c.tc : Thread Cert.KvUpIdeal.nD Cert.KvUpIdeal.τ).loc Cert.KvUpIdeal.main_arg0)
      ∧ m' ((c.tc : Thread Cert.KvUpReferenceIdeal.nD Cert.KvUpReferenceIdeal.τ).loc Cert.KvUpReferenceIdeal.main_arg1) = m ((c.tc : Thread Cert.KvUpIdeal.nD Cert.KvUpIdeal.τ).loc Cert.KvUpIdeal.main_arg1)
      ∧ m' ((c.tc : Thread Cert.KvUpReferenceIdeal.nD Cert.KvUpReferenceIdeal.τ).loc Cert.KvUpReferenceIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v0_0)) (v1 : (c : Dev Cert.KvUpIdeal.nD) → Buf (Elt Ideal) ((c.tc : Thread Cert.KvUpIdeal.nD Cert.KvUpIdeal.τ).loc Cert.KvUpIdeal.main_v0_1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0_0) = v0 c
          ∧ r.2.mem ((c.tc : Thread Cert.KvUpIdeal.nD Cert.KvUpIdeal.τ).loc Cert.KvUpIdeal.main_v0_1) = v1 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpReferenceIdeal.defs (F := Ideal)) (onTc (τ := Cert.KvUpReferenceIdeal.τ) (Cert.KvUpReferenceIdeal.main (F := Ideal))) ⟨m', fun _ => 0, g'⟩ (fun r => ∀ c : Dev Cert.KvUpReferenceIdeal.nD,
          r.2.mem ((c.tc : Thread Cert.KvUpReferenceIdeal.nD Cert.KvUpReferenceIdeal.τ).loc Cert.KvUpReferenceIdeal.main_v11) = v0 c
          ∧ r.2.mem ((c.tc : Thread Cert.KvUpReferenceIdeal.nD Cert.KvUpReferenceIdeal.τ).loc Cert.KvUpReferenceIdeal.main_v13) = v1 c
          ∧ r.2.mem ((c.tc : Thread Cert.KvUpReferenceIdeal.nD Cert.KvUpReferenceIdeal.τ).loc Cert.KvUpReferenceIdeal.main_arg0) = m' ((c.tc : Thread Cert.KvUpReferenceIdeal.nD Cert.KvUpReferenceIdeal.τ).loc Cert.KvUpReferenceIdeal.main_arg0)
          ∧ r.2.mem ((c.tc : Thread Cert.KvUpReferenceIdeal.nD Cert.KvUpReferenceIdeal.τ).loc Cert.KvUpReferenceIdeal.main_arg1) = m' ((c.tc : Thread Cert.KvUpReferenceIdeal.nD Cert.KvUpReferenceIdeal.τ).loc Cert.KvUpReferenceIdeal.main_arg1)
          ∧ r.2.mem ((c.tc : Thread Cert.KvUpReferenceIdeal.nD Cert.KvUpReferenceIdeal.τ).loc Cert.KvUpReferenceIdeal.main_arg2) = m' ((c.tc : Thread Cert.KvUpReferenceIdeal.nD Cert.KvUpReferenceIdeal.τ).loc Cert.KvUpReferenceIdeal.main_arg2))

def preserves_KeyGrad_KeyGradIdeal : Prop :=
  True

def algebraic_KeyGradIdeal_KeyGradReferenceIdeal [hKeyGradIdeal : Cert.KeyGradIdeal.Facts] [hKeyGradReferenceIdeal : Cert.KeyGradReferenceIdeal.Facts] : Prop :=
  ∀ (m : (ℓ : Loc Cert.KeyGradIdeal.nD Cert.KeyGradIdeal.τ Cert.KeyGradIdeal.sig) → Buf (Elt Ideal) ℓ) (g : Dev Cert.KeyGradIdeal.nD → PrngReg)
    (m' : (ℓ : Loc Cert.KeyGradReferenceIdeal.nD Cert.KeyGradReferenceIdeal.τ Cert.KeyGradReferenceIdeal.sig) → Buf (Elt Ideal) ℓ) (g' : Dev Cert.KeyGradReferenceIdeal.nD → PrngReg), Pre_KeyGradIdeal m →
    (∀ c : Dev Cert.KeyGradIdeal.nD,
      m' ((c.tc : Thread Cert.KeyGradReferenceIdeal.nD Cert.KeyGradReferenceIdeal.τ).loc Cert.KeyGradReferenceIdeal.main_arg0) = m ((c.tc : Thread Cert.KeyGradIdeal.nD Cert.KeyGradIdeal.τ).loc Cert.KeyGradIdeal.main_arg0)
      ∧ m' ((c.tc : Thread Cert.KeyGradReferenceIdeal.nD Cert.KeyGradReferenceIdeal.τ).loc Cert.KeyGradReferenceIdeal.main_arg1) = m ((c.tc : Thread Cert.KeyGradIdeal.nD Cert.KeyGradIdeal.τ).loc Cert.KeyGradIdeal.main_arg1)) →
    ∃ (v0 : (c : Dev Cert.KeyGradIdeal.nD) → Buf (Elt Ideal) ((c.tc : Thread Cert.KeyGradIdeal.nD Cert.KeyGradIdeal.τ).loc Cert.KeyGradIdeal.main_v0)),
      θ_run (Cert.KeyGradIdeal.defs (F := Ideal)) (onTc (τ := Cert.KeyGradIdeal.τ) (Cert.KeyGradIdeal.main (F := Ideal))) ⟨m, fun _ => 0, g⟩ (fun r => ∀ c : Dev Cert.KeyGradIdeal.nD,
          r.2.mem ((c.tc : Thread Cert.KeyGradIdeal.nD Cert.KeyGradIdeal.τ).loc Cert.KeyGradIdeal.main_v0) = v0 c
          ∧ r.2.mem ((c.tc : Thread Cert.KeyGradIdeal.nD Cert.KeyGradIdeal.τ).loc Cert.KeyGradIdeal.main_arg0) = m ((c.tc : Thread Cert.KeyGradIdeal.nD Cert.KeyGradIdeal.τ).loc Cert.KeyGradIdeal.main_arg0)
          ∧ r.2.mem ((c.tc : Thread Cert.KeyGradIdeal.nD Cert.KeyGradIdeal.τ).loc Cert.KeyGradIdeal.main_arg1) = m ((c.tc : Thread Cert.KeyGradIdeal.nD Cert.KeyGradIdeal.τ).loc Cert.KeyGradIdeal.main_arg1))
      ∧ θ_run (Cert.KeyGradReferenceIdeal.defs (F := Ideal)) (onTc (τ := Cert.KeyGradReferenceIdeal.τ) (Cert.KeyGradReferenceIdeal.main (F := Ideal))) ⟨m', fun _ => 0, g'⟩ (fun r => ∀ c : Dev Cert.KeyGradReferenceIdeal.nD,
          r.2.mem ((c.tc : Thread Cert.KeyGradReferenceIdeal.nD Cert.KeyGradReferenceIdeal.τ).loc Cert.KeyGradReferenceIdeal.main_v5) = v0 c
          ∧ r.2.mem ((c.tc : Thread Cert.KeyGradReferenceIdeal.nD Cert.KeyGradReferenceIdeal.τ).loc Cert.KeyGradReferenceIdeal.main_arg0) = m' ((c.tc : Thread Cert.KeyGradReferenceIdeal.nD Cert.KeyGradReferenceIdeal.τ).loc Cert.KeyGradReferenceIdeal.main_arg0)
          ∧ r.2.mem ((c.tc : Thread Cert.KeyGradReferenceIdeal.nD Cert.KeyGradReferenceIdeal.τ).loc Cert.KeyGradReferenceIdeal.main_arg1) = m' ((c.tc : Thread Cert.KeyGradReferenceIdeal.nD Cert.KeyGradReferenceIdeal.τ).loc Cert.KeyGradReferenceIdeal.main_arg1))

def preserves_QUp_QUpIdeal : Prop :=
  True

def algebraic_QUpIdeal_QUpReferenceIdeal [hQUpIdeal : Cert.QUpIdeal.Facts] [hQUpReferenceIdeal : Cert.QUpReferenceIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpReferenceIdeal.nD Cert.QUpReferenceIdeal.τ Cert.QUpReferenceIdeal.sig) → Buf (Elt Ideal) ℓ) (g' : Dev Cert.QUpReferenceIdeal.nD → PrngReg), Pre_QUpIdeal m →
    (∀ c : Dev Cert.QUpIdeal.nD,
      m' ((c.tc : Thread Cert.QUpReferenceIdeal.nD Cert.QUpReferenceIdeal.τ).loc Cert.QUpReferenceIdeal.main_arg0) = m ((c.tc : Thread Cert.QUpIdeal.nD Cert.QUpIdeal.τ).loc Cert.QUpIdeal.main_arg0)
      ∧ m' ((c.tc : Thread Cert.QUpReferenceIdeal.nD Cert.QUpReferenceIdeal.τ).loc Cert.QUpReferenceIdeal.main_arg1) = m ((c.tc : Thread Cert.QUpIdeal.nD Cert.QUpIdeal.τ).loc Cert.QUpIdeal.main_arg1)
      ∧ m' ((c.tc : Thread Cert.QUpReferenceIdeal.nD Cert.QUpReferenceIdeal.τ).loc Cert.QUpReferenceIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v20)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v20) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.QUpReferenceIdeal.defs (F := Ideal)) (onTc (τ := Cert.QUpReferenceIdeal.τ) (Cert.QUpReferenceIdeal.main (F := Ideal))) ⟨m', fun _ => 0, g'⟩ (fun r => ∀ c : Dev Cert.QUpReferenceIdeal.nD,
          r.2.mem ((c.tc : Thread Cert.QUpReferenceIdeal.nD Cert.QUpReferenceIdeal.τ).loc Cert.QUpReferenceIdeal.main_v40) = v0 c
          ∧ r.2.mem ((c.tc : Thread Cert.QUpReferenceIdeal.nD Cert.QUpReferenceIdeal.τ).loc Cert.QUpReferenceIdeal.main_arg0) = m' ((c.tc : Thread Cert.QUpReferenceIdeal.nD Cert.QUpReferenceIdeal.τ).loc Cert.QUpReferenceIdeal.main_arg0)
          ∧ r.2.mem ((c.tc : Thread Cert.QUpReferenceIdeal.nD Cert.QUpReferenceIdeal.τ).loc Cert.QUpReferenceIdeal.main_arg1) = m' ((c.tc : Thread Cert.QUpReferenceIdeal.nD Cert.QUpReferenceIdeal.τ).loc Cert.QUpReferenceIdeal.main_arg1)
          ∧ r.2.mem ((c.tc : Thread Cert.QUpReferenceIdeal.nD Cert.QUpReferenceIdeal.τ).loc Cert.QUpReferenceIdeal.main_arg2) = m' ((c.tc : Thread Cert.QUpReferenceIdeal.nD Cert.QUpReferenceIdeal.τ).loc Cert.QUpReferenceIdeal.main_arg2))

def Claim : Prop :=
  ∃ (hKernel : Cert.Kernel.Facts) (hKernelIdeal : Cert.KernelIdeal.Facts) (hReferenceIdeal : Cert.ReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hRetDx : Cert.RetDx.Facts) (hRetDxIdeal : Cert.RetDxIdeal.Facts) (hRetDxReferenceIdeal : Cert.RetDxReferenceIdeal.Facts) (hRetDw : Cert.RetDw.Facts) (hRetDwIdeal : Cert.RetDwIdeal.Facts) (hRetDwReferenceIdeal : Cert.RetDwReferenceIdeal.Facts) (hMlaDx : Cert.MlaDx.Facts) (hMlaDxIdeal : Cert.MlaDxIdeal.Facts) (hMlaDxReferenceIdeal : Cert.MlaDxReferenceIdeal.Facts) (hMlaDw : Cert.MlaDw.Facts) (hMlaDwIdeal : Cert.MlaDwIdeal.Facts) (hMlaDwReferenceIdeal : Cert.MlaDwReferenceIdeal.Facts) (hQDx : Cert.QDx.Facts) (hQDxIdeal : Cert.QDxIdeal.Facts) (hQDxReferenceIdeal : Cert.QDxReferenceIdeal.Facts) (hQDw : Cert.QDw.Facts) (hQDwIdeal : Cert.QDwIdeal.Facts) (hQDwReferenceIdeal : Cert.QDwReferenceIdeal.Facts) (hKvDx : Cert.KvDx.Facts) (hKvDxIdeal : Cert.KvDxIdeal.Facts) (hKvDxReferenceIdeal : Cert.KvDxReferenceIdeal.Facts) (hKvDw : Cert.KvDw.Facts) (hKvDwIdeal : Cert.KvDwIdeal.Facts) (hKvDwReferenceIdeal : Cert.KvDwReferenceIdeal.Facts) (hIn : Cert.In.Facts) (hInIdeal : Cert.InIdeal.Facts) (hInReferenceIdeal : Cert.InReferenceIdeal.Facts) (hRet : Cert.Ret.Facts) (hRetIdeal : Cert.RetIdeal.Facts) (hRetReferenceIdeal : Cert.RetReferenceIdeal.Facts) (hMla : Cert.Mla.Facts) (hMlaIdeal : Cert.MlaIdeal.Facts) (hMlaReferenceIdeal : Cert.MlaReferenceIdeal.Facts) (hOut : Cert.Out.Facts) (hOutIdeal : Cert.OutIdeal.Facts) (hOutReferenceIdeal : Cert.OutReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hAdamIn : Cert.AdamIn.Facts) (hAdamInIdeal : Cert.AdamInIdeal.Facts) (hAdamInReferenceIdeal : Cert.AdamInReferenceIdeal.Facts) (hAdamRet : Cert.AdamRet.Facts) (hAdamRetIdeal : Cert.AdamRetIdeal.Facts) (hAdamRetReferenceIdeal : Cert.AdamRetReferenceIdeal.Facts) (hAdamQ : Cert.AdamQ.Facts) (hAdamQIdeal : Cert.AdamQIdeal.Facts) (hAdamQReferenceIdeal : Cert.AdamQReferenceIdeal.Facts) (hAdamKv : Cert.AdamKv.Facts) (hAdamKvIdeal : Cert.AdamKvIdeal.Facts) (hAdamKvReferenceIdeal : Cert.AdamKvReferenceIdeal.Facts) (hAdamMla : Cert.AdamMla.Facts) (hAdamMlaIdeal : Cert.AdamMlaIdeal.Facts) (hAdamMlaReferenceIdeal : Cert.AdamMlaReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hMixBwd : Cert.MixBwd.Facts) (hMixBwdIdeal : Cert.MixBwdIdeal.Facts) (hMixBwdReferenceIdeal : Cert.MixBwdReferenceIdeal.Facts) (hMlpBwd : Cert.MlpBwd.Facts) (hMlpBwdIdeal : Cert.MlpBwdIdeal.Facts) (hMlpBwdReferenceIdeal : Cert.MlpBwdReferenceIdeal.Facts) (hQLatent : Cert.QLatent.Facts) (hQLatentIdeal : Cert.QLatentIdeal.Facts) (hQLatentReferenceIdeal : Cert.QLatentReferenceIdeal.Facts) (hKvLatent : Cert.KvLatent.Facts) (hKvLatentIdeal : Cert.KvLatentIdeal.Facts) (hKvLatentReferenceIdeal : Cert.KvLatentReferenceIdeal.Facts) (hLossHead : Cert.LossHead.Facts) (hLossHeadIdeal : Cert.LossHeadIdeal.Facts) (hLossHeadReferenceIdeal : Cert.LossHeadReferenceIdeal.Facts) (hMix : Cert.Mix.Facts) (hMixIdeal : Cert.MixIdeal.Facts) (hMixReferenceIdeal : Cert.MixReferenceIdeal.Facts) (hPrep : Cert.Prep.Facts) (hPrepIdeal : Cert.PrepIdeal.Facts) (hPrepReferenceIdeal : Cert.PrepReferenceIdeal.Facts) (hDelta : Cert.Delta.Facts) (hDeltaIdeal : Cert.DeltaIdeal.Facts) (hDeltaReferenceIdeal : Cert.DeltaReferenceIdeal.Facts) (hKvUp : Cert.KvUp.Facts) (hKvUpIdeal : Cert.KvUpIdeal.Facts) (hKvUpReferenceIdeal : Cert.KvUpReferenceIdeal.Facts) (hKeyGrad : Cert.KeyGrad.Facts) (hKeyGradIdeal : Cert.KeyGradIdeal.Facts) (hKeyGradReferenceIdeal : Cert.KeyGradReferenceIdeal.Facts) (hQUp : Cert.QUp.Facts) (hQUpIdeal : Cert.QUpIdeal.Facts) (hQUpReferenceIdeal : Cert.QUpReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_RetDx (hRetDx := hRetDx)
    ∧ quiescent_RetDxIdeal (hRetDxIdeal := hRetDxIdeal)
    ∧ quiescent_RetDxReferenceIdeal (hRetDxReferenceIdeal := hRetDxReferenceIdeal)
    ∧ quiescent_RetDw (hRetDw := hRetDw)
    ∧ quiescent_RetDwIdeal (hRetDwIdeal := hRetDwIdeal)
    ∧ quiescent_RetDwReferenceIdeal (hRetDwReferenceIdeal := hRetDwReferenceIdeal)
    ∧ quiescent_MlaDx (hMlaDx := hMlaDx)
    ∧ quiescent_MlaDxIdeal (hMlaDxIdeal := hMlaDxIdeal)
    ∧ quiescent_MlaDxReferenceIdeal (hMlaDxReferenceIdeal := hMlaDxReferenceIdeal)
    ∧ quiescent_MlaDw (hMlaDw := hMlaDw)
    ∧ quiescent_MlaDwIdeal (hMlaDwIdeal := hMlaDwIdeal)
    ∧ quiescent_MlaDwReferenceIdeal (hMlaDwReferenceIdeal := hMlaDwReferenceIdeal)
    ∧ quiescent_QDx (hQDx := hQDx)
    ∧ quiescent_QDxIdeal (hQDxIdeal := hQDxIdeal)
    ∧ quiescent_QDxReferenceIdeal (hQDxReferenceIdeal := hQDxReferenceIdeal)
    ∧ quiescent_QDw (hQDw := hQDw)
    ∧ quiescent_QDwIdeal (hQDwIdeal := hQDwIdeal)
    ∧ quiescent_QDwReferenceIdeal (hQDwReferenceIdeal := hQDwReferenceIdeal)
    ∧ quiescent_KvDx (hKvDx := hKvDx)
    ∧ quiescent_KvDxIdeal (hKvDxIdeal := hKvDxIdeal)
    ∧ quiescent_KvDxReferenceIdeal (hKvDxReferenceIdeal := hKvDxReferenceIdeal)
    ∧ quiescent_KvDw (hKvDw := hKvDw)
    ∧ quiescent_KvDwIdeal (hKvDwIdeal := hKvDwIdeal)
    ∧ quiescent_KvDwReferenceIdeal (hKvDwReferenceIdeal := hKvDwReferenceIdeal)
    ∧ quiescent_In (hIn := hIn)
    ∧ quiescent_InIdeal (hInIdeal := hInIdeal)
    ∧ quiescent_InReferenceIdeal (hInReferenceIdeal := hInReferenceIdeal)
    ∧ quiescent_Ret (hRet := hRet)
    ∧ quiescent_RetIdeal (hRetIdeal := hRetIdeal)
    ∧ quiescent_RetReferenceIdeal (hRetReferenceIdeal := hRetReferenceIdeal)
    ∧ quiescent_Mla (hMla := hMla)
    ∧ quiescent_MlaIdeal (hMlaIdeal := hMlaIdeal)
    ∧ quiescent_MlaReferenceIdeal (hMlaReferenceIdeal := hMlaReferenceIdeal)
    ∧ quiescent_Out (hOut := hOut)
    ∧ quiescent_OutIdeal (hOutIdeal := hOutIdeal)
    ∧ quiescent_OutReferenceIdeal (hOutReferenceIdeal := hOutReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamRet (hAdamRet := hAdamRet)
    ∧ quiescent_AdamRetIdeal (hAdamRetIdeal := hAdamRetIdeal)
    ∧ quiescent_AdamRetReferenceIdeal (hAdamRetReferenceIdeal := hAdamRetReferenceIdeal)
    ∧ quiescent_AdamQ (hAdamQ := hAdamQ)
    ∧ quiescent_AdamQIdeal (hAdamQIdeal := hAdamQIdeal)
    ∧ quiescent_AdamQReferenceIdeal (hAdamQReferenceIdeal := hAdamQReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ quiescent_AdamMla (hAdamMla := hAdamMla)
    ∧ quiescent_AdamMlaIdeal (hAdamMlaIdeal := hAdamMlaIdeal)
    ∧ quiescent_AdamMlaReferenceIdeal (hAdamMlaReferenceIdeal := hAdamMlaReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_MixBwd (hMixBwd := hMixBwd)
    ∧ quiescent_MixBwdIdeal (hMixBwdIdeal := hMixBwdIdeal)
    ∧ quiescent_MixBwdReferenceIdeal (hMixBwdReferenceIdeal := hMixBwdReferenceIdeal)
    ∧ quiescent_MlpBwd (hMlpBwd := hMlpBwd)
    ∧ quiescent_MlpBwdIdeal (hMlpBwdIdeal := hMlpBwdIdeal)
    ∧ quiescent_MlpBwdReferenceIdeal (hMlpBwdReferenceIdeal := hMlpBwdReferenceIdeal)
    ∧ quiescent_QLatent (hQLatent := hQLatent)
    ∧ quiescent_QLatentIdeal (hQLatentIdeal := hQLatentIdeal)
    ∧ quiescent_QLatentReferenceIdeal (hQLatentReferenceIdeal := hQLatentReferenceIdeal)
    ∧ quiescent_KvLatent (hKvLatent := hKvLatent)
    ∧ quiescent_KvLatentIdeal (hKvLatentIdeal := hKvLatentIdeal)
    ∧ quiescent_KvLatentReferenceIdeal (hKvLatentReferenceIdeal := hKvLatentReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_Mix (hMix := hMix)
    ∧ quiescent_MixIdeal (hMixIdeal := hMixIdeal)
    ∧ quiescent_MixReferenceIdeal (hMixReferenceIdeal := hMixReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Delta (hDelta := hDelta)
    ∧ quiescent_DeltaIdeal (hDeltaIdeal := hDeltaIdeal)
    ∧ quiescent_DeltaReferenceIdeal (hDeltaReferenceIdeal := hDeltaReferenceIdeal)
    ∧ quiescent_KvUp (hKvUp := hKvUp)
    ∧ quiescent_KvUpIdeal (hKvUpIdeal := hKvUpIdeal)
    ∧ quiescent_KvUpReferenceIdeal (hKvUpReferenceIdeal := hKvUpReferenceIdeal)
    ∧ quiescent_KeyGrad (hKeyGrad := hKeyGrad)
    ∧ quiescent_KeyGradIdeal (hKeyGradIdeal := hKeyGradIdeal)
    ∧ quiescent_KeyGradReferenceIdeal (hKeyGradReferenceIdeal := hKeyGradReferenceIdeal)
    ∧ quiescent_QUp (hQUp := hQUp)
    ∧ quiescent_QUpIdeal (hQUpIdeal := hQUpIdeal)
    ∧ quiescent_QUpReferenceIdeal (hQUpReferenceIdeal := hQUpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_RetDx_RetDxIdeal
    ∧ algebraic_RetDxIdeal_RetDxReferenceIdeal (hRetDxIdeal := hRetDxIdeal) (hRetDxReferenceIdeal := hRetDxReferenceIdeal)
    ∧ preserves_RetDw_RetDwIdeal
    ∧ algebraic_RetDwIdeal_RetDwReferenceIdeal (hRetDwIdeal := hRetDwIdeal) (hRetDwReferenceIdeal := hRetDwReferenceIdeal)
    ∧ preserves_MlaDx_MlaDxIdeal
    ∧ algebraic_MlaDxIdeal_MlaDxReferenceIdeal (hMlaDxIdeal := hMlaDxIdeal) (hMlaDxReferenceIdeal := hMlaDxReferenceIdeal)
    ∧ preserves_MlaDw_MlaDwIdeal
    ∧ algebraic_MlaDwIdeal_MlaDwReferenceIdeal (hMlaDwIdeal := hMlaDwIdeal) (hMlaDwReferenceIdeal := hMlaDwReferenceIdeal)
    ∧ preserves_QDx_QDxIdeal
    ∧ algebraic_QDxIdeal_QDxReferenceIdeal (hQDxIdeal := hQDxIdeal) (hQDxReferenceIdeal := hQDxReferenceIdeal)
    ∧ preserves_QDw_QDwIdeal
    ∧ algebraic_QDwIdeal_QDwReferenceIdeal (hQDwIdeal := hQDwIdeal) (hQDwReferenceIdeal := hQDwReferenceIdeal)
    ∧ preserves_KvDx_KvDxIdeal
    ∧ algebraic_KvDxIdeal_KvDxReferenceIdeal (hKvDxIdeal := hKvDxIdeal) (hKvDxReferenceIdeal := hKvDxReferenceIdeal)
    ∧ preserves_KvDw_KvDwIdeal
    ∧ algebraic_KvDwIdeal_KvDwReferenceIdeal (hKvDwIdeal := hKvDwIdeal) (hKvDwReferenceIdeal := hKvDwReferenceIdeal)
    ∧ preserves_In_InIdeal
    ∧ algebraic_InIdeal_InReferenceIdeal (hInIdeal := hInIdeal) (hInReferenceIdeal := hInReferenceIdeal)
    ∧ preserves_Ret_RetIdeal
    ∧ algebraic_RetIdeal_RetReferenceIdeal (hRetIdeal := hRetIdeal) (hRetReferenceIdeal := hRetReferenceIdeal)
    ∧ preserves_Mla_MlaIdeal
    ∧ algebraic_MlaIdeal_MlaReferenceIdeal (hMlaIdeal := hMlaIdeal) (hMlaReferenceIdeal := hMlaReferenceIdeal)
    ∧ preserves_Out_OutIdeal
    ∧ algebraic_OutIdeal_OutReferenceIdeal (hOutIdeal := hOutIdeal) (hOutReferenceIdeal := hOutReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamRet_AdamRetIdeal
    ∧ algebraic_AdamRetIdeal_AdamRetReferenceIdeal (hAdamRetIdeal := hAdamRetIdeal) (hAdamRetReferenceIdeal := hAdamRetReferenceIdeal)
    ∧ preserves_AdamQ_AdamQIdeal
    ∧ algebraic_AdamQIdeal_AdamQReferenceIdeal (hAdamQIdeal := hAdamQIdeal) (hAdamQReferenceIdeal := hAdamQReferenceIdeal)
    ∧ preserves_AdamKv_AdamKvIdeal
    ∧ algebraic_AdamKvIdeal_AdamKvReferenceIdeal (hAdamKvIdeal := hAdamKvIdeal) (hAdamKvReferenceIdeal := hAdamKvReferenceIdeal)
    ∧ preserves_AdamMla_AdamMlaIdeal
    ∧ algebraic_AdamMlaIdeal_AdamMlaReferenceIdeal (hAdamMlaIdeal := hAdamMlaIdeal) (hAdamMlaReferenceIdeal := hAdamMlaReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_MixBwd_MixBwdIdeal
    ∧ algebraic_MixBwdIdeal_MixBwdReferenceIdeal (hMixBwdIdeal := hMixBwdIdeal) (hMixBwdReferenceIdeal := hMixBwdReferenceIdeal)
    ∧ preserves_MlpBwd_MlpBwdIdeal
    ∧ algebraic_MlpBwdIdeal_MlpBwdReferenceIdeal (hMlpBwdIdeal := hMlpBwdIdeal) (hMlpBwdReferenceIdeal := hMlpBwdReferenceIdeal)
    ∧ preserves_QLatent_QLatentIdeal
    ∧ algebraic_QLatentIdeal_QLatentReferenceIdeal (hQLatentIdeal := hQLatentIdeal) (hQLatentReferenceIdeal := hQLatentReferenceIdeal)
    ∧ preserves_KvLatent_KvLatentIdeal
    ∧ algebraic_KvLatentIdeal_KvLatentReferenceIdeal (hKvLatentIdeal := hKvLatentIdeal) (hKvLatentReferenceIdeal := hKvLatentReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_Mix_MixIdeal
    ∧ algebraic_MixIdeal_MixReferenceIdeal (hMixIdeal := hMixIdeal) (hMixReferenceIdeal := hMixReferenceIdeal)
    ∧ preserves_Prep_PrepIdeal
    ∧ algebraic_PrepIdeal_PrepReferenceIdeal (hPrepIdeal := hPrepIdeal) (hPrepReferenceIdeal := hPrepReferenceIdeal)
    ∧ preserves_Delta_DeltaIdeal
    ∧ algebraic_DeltaIdeal_DeltaReferenceIdeal (hDeltaIdeal := hDeltaIdeal) (hDeltaReferenceIdeal := hDeltaReferenceIdeal)
    ∧ preserves_KvUp_KvUpIdeal
    ∧ algebraic_KvUpIdeal_KvUpReferenceIdeal (hKvUpIdeal := hKvUpIdeal) (hKvUpReferenceIdeal := hKvUpReferenceIdeal)
    ∧ preserves_KeyGrad_KeyGradIdeal
    ∧ algebraic_KeyGradIdeal_KeyGradReferenceIdeal (hKeyGradIdeal := hKeyGradIdeal) (hKeyGradReferenceIdeal := hKeyGradReferenceIdeal)
    ∧ preserves_QUp_QUpIdeal
    ∧ algebraic_QUpIdeal_QUpReferenceIdeal (hQUpIdeal := hQUpIdeal) (hQUpReferenceIdeal := hQUpReferenceIdeal)
-- ==== Pre_finite.lean ====
abbrev S4096x11520 : Shape := ⟨2, ![4096, 11520]⟩
abbrev S4096 : Shape := ⟨1, ![4096]⟩
abbrev S1x2048 : Shape := ⟨2, ![1, 2048]⟩
abbrev S4096x2048 : Shape := ⟨2, ![4096, 2048]⟩
abbrev S_ : Shape := ⟨0, ![]⟩

class Facts : Prop where
  bcast_S_S4096x11520 : S_.BroadcastsInDim S4096x11520 (![] : Fin 0 → Fin S4096x11520.rank)
  bcast_S_S1x2048 : S_.BroadcastsInDim S1x2048 (![] : Fin 0 → Fin S1x2048.rank)
  bcast_S_S4096x2048 : S_.BroadcastsInDim S4096x2048 (![] : Fin 0 → Fin S4096x2048.rank)

variable [Facts]

def fn {F : FTy → Type} [FloatOps F] (main_arg0 : FVec F S4096x11520 .f32) (main_arg1 : IVec S4096 32) (main_arg2 : FVec F S1x2048 .f32) (main_arg3 : FVec F S4096x2048 .f32) (main_arg4 : FVec F S4096x11520 .bf16) : IVec S4096x11520 1 × IVec S1x2048 1 × IVec S4096x2048 1 :=
  let main_v0 : FVec F S4096x11520 .f32 := Host.absf main_arg0
  let main_cst : FVec F S_ .f32 := constant S_ .f32 0x7F800000#32
  let main_v1 : FVec F S4096x11520 .f32 := broadcastInDim S4096x11520 ![] bcast_S_S4096x11520 main_cst
  let main_v2 : IVec S4096x11520 1 := cmpf .olt main_v0 main_v1
  let main_v3 : FVec F S1x2048 .f32 := Host.absf main_arg2
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg3
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Kernel.lean ====
abbrev S4096x11520 : Shape := ⟨2, ![4096, 11520]⟩
abbrev S4096 : Shape := ⟨1, ![4096]⟩
abbrev S1x2048 : Shape := ⟨2, ![1, 2048]⟩
abbrev S4096x2048 : Shape := ⟨2, ![4096, 2048]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8 : Shape := ⟨1, ![8]⟩
abbrev S8x1x1 : Shape := ⟨3, ![8, 1, 1]⟩
abbrev S8x8x128 : Shape := ⟨3, ![8, 8, 128]⟩
abbrev S4096x6144 : Shape := ⟨2, ![4096, 6144]⟩
abbrev S4096x8x768 : Shape := ⟨3, ![4096, 8, 768]⟩
abbrev S4096x8x128 : Shape := ⟨3, ![4096, 8, 128]⟩
abbrev S4096x8x256 : Shape := ⟨3, ![4096, 8, 256]⟩
abbrev S4096x1x64 : Shape := ⟨3, ![4096, 1, 64]⟩
abbrev S4096x8x64 : Shape := ⟨3, ![4096, 8, 64]⟩
abbrev S8x4096 : Shape := ⟨2, ![8, 4096]⟩
abbrev S1x8x4096 : Shape := ⟨3, ![1, 8, 4096]⟩
abbrev S8x8x4096 : Shape := ⟨3, ![8, 8, 4096]⟩
abbrev S8x8x4096x1 : Shape := ⟨4, ![8, 8, 4096, 1]⟩
abbrev S8x4096x128 : Shape := ⟨3, ![8, 4096, 128]⟩
abbrev S8x1x4096x128 : Shape := ⟨4, ![8, 1, 4096, 128]⟩
abbrev S8x8x4096x128 : Shape := ⟨4, ![8, 8, 4096, 128]⟩
abbrev S8x8x128x256 : Shape := ⟨4, ![8, 8, 128, 256]⟩
abbrev S4096x4096 : Shape := ⟨2, ![4096, 4096]⟩
abbrev S1x4096x4096 : Shape := ⟨3, ![1, 4096, 4096]⟩
abbrev S8x4096x4096 : Shape := ⟨3, ![8, 4096, 4096]⟩
abbrev S8x256x4096 : Shape := ⟨3, ![8, 256, 4096]⟩
abbrev S1x8x128 : Shape := ⟨3, ![1, 8, 128]⟩
abbrev S512x768 : Shape := ⟨2, ![512, 768]⟩
abbrev S512x128 : Shape := ⟨2, ![512, 128]⟩
abbrev S1x1x128x256 : Shape := ⟨4, ![1, 1, 128, 256]⟩
abbrev S512x256 : Shape := ⟨2, ![512, 256]⟩
abbrev S1x256 : Shape := ⟨2, ![1, 256]⟩
abbrev S128x256 : Shape := ⟨2, ![128, 256]⟩
abbrev S512x512 : Shape := ⟨2, ![512, 512]⟩
abbrev S1x1x1 : Shape := ⟨3, ![1, 1, 1]⟩
abbrev S1x1 : Shape := ⟨2, ![1, 1]⟩
abbrev S512 : Shape := ⟨1, ![512]⟩
abbrev S512x1 : Shape := ⟨2, ![512, 1]⟩
abbrev S256 : Shape := ⟨1, ![256]⟩

abbrev nBuf : Space → Nat
  | .hbm => 191
  | .vmem => 22
  | .smem => 0
  | _ => 0

abbrev hbmTy0_0 (i : Nat) : BufTy := match i % 128 with
  | 0 => ⟨S4096x11520, .f32⟩
  | 1 => ⟨S4096, .i32⟩
  | 2 => ⟨S1x2048, .f32⟩
  | 3 => ⟨S4096x2048, .f32⟩
  | 4 => ⟨S4096x11520, .bf16⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S4096, .f32⟩
  | 14 => ⟨S4096x1, .f32⟩
  | 15 => ⟨S1x64, .f32⟩
  | 16 => ⟨S4096x64, .f32⟩
  | 17 => ⟨S4096x64, .f32⟩
  | 18 => ⟨S4096x64, .f32⟩
  | 19 => ⟨S4096x64, .f32⟩
  | 20 => ⟨S4096x64, .f32⟩
  | 21 => ⟨S4096x128, .f32⟩
  | 22 => ⟨S4096x64, .f32⟩
  | 23 => ⟨S4096x128, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S8x1x1, .f32⟩
  | 36 => ⟨S8x8x128, .f32⟩
  | 37 => ⟨S4096x6144, .f32⟩
  | 38 => ⟨S4096x8x768, .f32⟩
  | 39 => ⟨S4096x8x128, .f32⟩
  | 40 => ⟨S4096x8x128, .f32⟩
  | 41 => ⟨S4096x8x256, .f32⟩
  | 42 => ⟨S4096x8x256, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S4096, .f32⟩
  | 52 => ⟨S4096x1, .f32⟩
  | 53 => ⟨S1x64, .f32⟩
  | 54 => ⟨S4096x64, .f32⟩
  | 55 => ⟨S4096x64, .f32⟩
  | 56 => ⟨S4096x64, .f32⟩
  | 57 => ⟨S4096x64, .f32⟩
  | 58 => ⟨S4096x1x64, .f32⟩
  | 59 => ⟨S4096x64, .f32⟩
  | 60 => ⟨S4096x1x64, .f32⟩
  | 61 => ⟨S4096x8x64, .f32⟩
  | 62 => ⟨S4096x8x64, .f32⟩
  | 63 => ⟨S4096x8x64, .f32⟩
  | 64 => ⟨S4096x8x64, .f32⟩
  | 65 => ⟨S4096x8x64, .f32⟩
  | 66 => ⟨S4096x8x64, .f32⟩
  | 67 => ⟨S4096x8x64, .f32⟩
  | 68 => ⟨S4096x8x64, .f32⟩
  | 69 => ⟨S4096x8x64, .f32⟩
  | 70 => ⟨S4096x8x64, .f32⟩
  | 71 => ⟨S4096x8x64, .f32⟩
  | 72 => ⟨S4096x8x64, .f32⟩
  | 73 => ⟨S4096x8x128, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S4096, .f32⟩
  | 83 => ⟨S4096x1, .f32⟩
  | 84 => ⟨S1x64, .f32⟩
  | 85 => ⟨S4096x64, .f32⟩
  | 86 => ⟨S4096x64, .f32⟩
  | 87 => ⟨S4096x64, .f32⟩
  | 88 => ⟨S4096x64, .f32⟩
  | 89 => ⟨S4096x1x64, .f32⟩
  | 90 => ⟨S4096x64, .f32⟩
  | 91 => ⟨S4096x1x64, .f32⟩
  | 92 => ⟨S4096x8x64, .f32⟩
  | 93 => ⟨S4096x8x64, .f32⟩
  | 94 => ⟨S4096x8x64, .f32⟩
  | 95 => ⟨S4096x8x64, .f32⟩
  | 96 => ⟨S4096x8x64, .f32⟩
  | 97 => ⟨S4096x8x64, .f32⟩
  | 98 => ⟨S4096x8x64, .f32⟩
  | 99 => ⟨S4096x8x64, .f32⟩
  | 100 => ⟨S4096x8x64, .f32⟩
  | 101 => ⟨S4096x8x64, .f32⟩
  | 102 => ⟨S4096x8x64, .f32⟩
  | 103 => ⟨S4096x8x64, .f32⟩
  | 104 => ⟨S4096x8x128, .f32⟩
  | 105 => ⟨S_, .f32⟩
  | 106 => ⟨S4096x8x128, .f32⟩
  | 107 => ⟨S4096x8x128, .f32⟩
  | 108 => ⟨S8x4096, .i32⟩
  | 109 => ⟨S8x4096, .i32⟩
  | 110 => ⟨S_, .i32⟩
  | 111 => ⟨S8x4096, .i32⟩
  | 112 => ⟨S8x4096, .i32⟩
  | 113 => ⟨S_, .i32⟩
  | 114 => ⟨S8x4096, .i32⟩
  | 115 => ⟨S8x4096, .i32⟩
  | 116 => ⟨S8x4096, .i32⟩
  | 117 => ⟨S_, .i32⟩
  | 118 => ⟨S8x4096, .i32⟩
  | 119 => ⟨S8x4096, .i1⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S4096x11520, .f32⟩

abbrev hbmTy0_1 (i : Nat) : BufTy := match i % 128 with
  | 0 => ⟨S8, .f32⟩
  | 1 => ⟨S8, .f32⟩
  | 2 => ⟨S8, .f32⟩
  | 3 => ⟨S8x1x1, .f32⟩
  | 4 => ⟨S8x4096, .f32⟩
  | 5 => ⟨S1x8x4096, .f32⟩
  | 6 => ⟨S8x8x4096, .f32⟩
  | 7 => ⟨S8x8x4096, .f32⟩
  | 8 => ⟨S8x8x4096, .f32⟩
  | 9 => ⟨S8x8x4096, .f32⟩
  | 10 => ⟨S_, .f32⟩
  | 11 => ⟨S_, .f32⟩
  | 12 => ⟨S8x8x4096, .i1⟩
  | 13 => ⟨S8x8x4096, .f32⟩
  | 14 => ⟨S8x8x4096, .f32⟩
  | 15 => ⟨S8x8x4096x1, .f32⟩
  | 16 => ⟨S8x4096x128, .f32⟩
  | 17 => ⟨S8x1x4096x128, .f32⟩
  | 18 => ⟨S8x8x4096x128, .f32⟩
  | 19 => ⟨S8x8x4096x128, .f32⟩
  | 20 => ⟨S8x8x4096x128, .f32⟩
  | 21 => ⟨S8x8x128x256, .f32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .i1⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8, .f32⟩
  | 42 => ⟨S8x1x1, .f32⟩
  | 43 => ⟨S4096x4096, .i32⟩
  | 44 => ⟨S4096x4096, .i32⟩
  | 45 => ⟨S4096x4096, .f32⟩
  | 46 => ⟨S1x4096x4096, .f32⟩
  | 47 => ⟨S8x4096x4096, .f32⟩
  | 48 => ⟨S8x4096x4096, .f32⟩
  | 49 => ⟨S8x4096x4096, .f32⟩
  | 50 => ⟨S8x4096x4096, .f32⟩
  | 51 => ⟨S_, .f32⟩
  | 52 => ⟨S_, .f32⟩
  | 53 => ⟨S8x4096x4096, .i1⟩
  | 54 => ⟨S8x4096x4096, .f32⟩
  | 55 => ⟨S8x4096x4096, .f32⟩
  | 56 => ⟨S8x4096x4096, .f32⟩
  | 57 => ⟨S8x4096x4096, .f32⟩
  | 58 => ⟨S8x256x4096, .f32⟩
  | 59 => ⟨S4096x8x256, .f32⟩
  | 60 => ⟨S4096x2048, .f32⟩
  | 61 => ⟨S4096x11520, .bf16⟩
  | 62 => ⟨S1x2048, .f32⟩
  | _ => ⟨S4096x11520, .f32⟩

abbrev hbmTy (i : Nat) : BufTy := match i / 128 with
  | 0 => hbmTy0_0 i
  | 1 => hbmTy0_1 i
  | _ => ⟨S4096x11520, .f32⟩

abbrev bufTy : (tb : Table) → Fin (tcTables nBuf tb) → BufTy
  | .hbm, ⟨i, _⟩ => hbmTy i
  | .local _ .vmem, ⟨0, _⟩ => ⟨S1x8x128, .f32⟩
  | .local _ .vmem, ⟨1, _⟩ => ⟨S1x8x128, .f32⟩
  | .local _ .vmem, ⟨2, _⟩ => ⟨S512x768, .f32⟩
  | .local _ .vmem, ⟨3, _⟩ => ⟨S512x768, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1x128x256, .f32⟩
  | .local _ .vmem, ⟨9, _⟩ => ⟨S1x1x128x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1x256, .f32⟩
  | .local _ .vmem, ⟨15, _⟩ => ⟨S1x256, .f32⟩
  | .local _ .vmem, ⟨16, _⟩ => ⟨S512x768, .bf16⟩
  | .local _ .vmem, ⟨17, _⟩ => ⟨S512x768, .bf16⟩
  | .local _ .vmem, ⟨18, _⟩ => ⟨S1x256, .f32⟩
  | .local _ .vmem, ⟨19, _⟩ => ⟨S1x256, .f32⟩
  | .local _ .vmem, ⟨20, _⟩ => ⟨S128x256, .f32⟩
  | .local _ .vmem, ⟨21, _⟩ => ⟨S512x512, .f32⟩
  | _, _ => ⟨S4096x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_8 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_c : Ref sig .tc := ⟨.hbm, 110, rfl⟩
abbrev main_v95 : Ref sig .tc := ⟨.hbm, 111, rfl⟩
abbrev main_v96 : Ref sig .tc := ⟨.hbm, 112, rfl⟩
abbrev main_c_9 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_c_10 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_11 : Ref sig .tc := ⟨.hbm, 121, rfl⟩
abbrev main_v103 : Ref sig .tc := ⟨.hbm, 122, rfl⟩
abbrev main_v104 : Ref sig .tc := ⟨.hbm, 123, rfl⟩
abbrev main_cst_12 : Ref sig .tc := ⟨.hbm, 124, rfl⟩
abbrev main_v105 : Ref sig .tc := ⟨.hbm, 125, rfl⟩
abbrev main_v106 : Ref sig .tc := ⟨.hbm, 126, rfl⟩
abbrev main_cst_13 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_14 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_c_15 : Ref sig .tc := ⟨.hbm, 152, rfl⟩
abbrev main_v127 : Ref sig .tc := ⟨.hbm, 153, rfl⟩
abbrev main_v128 : Ref sig .tc := ⟨.hbm, 154, rfl⟩
abbrev main_c_16 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_17 : Ref sig .tc := ⟨.hbm, 160, rfl⟩
abbrev main_v133 : Ref sig .tc := ⟨.hbm, 161, rfl⟩
abbrev main_v134 : Ref sig .tc := ⟨.hbm, 162, rfl⟩
abbrev main_cst_18 : Ref sig .tc := ⟨.hbm, 163, rfl⟩
abbrev main_v135 : Ref sig .tc := ⟨.hbm, 164, rfl⟩
abbrev main_v136 : Ref sig .tc := ⟨.hbm, 165, rfl⟩
abbrev main_cst_19 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_20 : Ref sig .tc := ⟨.hbm, 179, rfl⟩
abbrev main_call1_v0 : Ref sig .tc := ⟨.hbm, 180, rfl⟩
abbrev main_call1_v1 : Ref sig .tc := ⟨.hbm, 181, rfl⟩
abbrev main_call1_v2 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155_0 : Ref sig .tc := ⟨.hbm, 189, rfl⟩
abbrev main_v155_1 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c6_i32 : BitVec 32 := 6#32
  let v1 : BitVec 32 := Scalar.addi c6_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c6_i32 : BitVec 32 := 6#32
  let v1 : BitVec 32 := Scalar.addi c6_i32 arg0
  let c0_i32 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x11520 : Shape := ⟨2, ![4096, 11520]⟩
abbrev S4096 : Shape := ⟨1, ![4096]⟩
abbrev S1x2048 : Shape := ⟨2, ![1, 2048]⟩
abbrev S4096x2048 : Shape := ⟨2, ![4096, 2048]⟩
abbrev S4096x6144 : Shape := ⟨2, ![4096, 6144]⟩
abbrev S4096x8x768 : Shape := ⟨3, ![4096, 8, 768]⟩
abbrev S4096x8x128 : Shape := ⟨3, ![4096, 8, 128]⟩
abbrev S4096x8x256 : Shape := ⟨3, ![4096, 8, 256]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4096x8x64 : Shape := ⟨3, ![4096, 8, 64]⟩
abbrev S4096x4096 : Shape := ⟨2, ![4096, 4096]⟩
abbrev S8 : Shape := ⟨1, ![8]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S8x256x4096 : Shape := ⟨3, ![8, 256, 4096]⟩
abbrev S4096x8 : Shape := ⟨2, ![4096, 8]⟩
abbrev S4096x8x1 : Shape := ⟨3, ![4096, 8, 1]⟩
abbrev S2048 : Shape := ⟨1, ![2048]⟩
abbrev S8x4096x128 : Shape := ⟨3, ![8, 4096, 128]⟩

abbrev nBuf : Space → Nat
  | .hbm => 280
  | .vmem => 0
  | .smem => 0
  | _ => 0

abbrev hbmTy0_0 (i : Nat) : BufTy := match i % 128 with
  | 0 => ⟨S4096x11520, .f32⟩
  | 1 => ⟨S4096, .i32⟩
  | 2 => ⟨S1x2048, .f32⟩
  | 3 => ⟨S4096x2048, .f32⟩
  | 4 => ⟨S4096x11520, .bf16⟩
  | 5 => ⟨S4096x6144, .f32⟩
  | 6 => ⟨S4096x8x768, .f32⟩
  | 7 => ⟨S4096x8x128, .f32⟩
  | 8 => ⟨S4096x8x128, .f32⟩
  | 9 => ⟨S4096x8x256, .f32⟩
  | 10 => ⟨S4096x8x256, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .f32⟩
  | 20 => ⟨S4096x1, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S4096x1x64, .f32⟩
  | 27 => ⟨S4096x64, .f32⟩
  | 28 => ⟨S4096x1x64, .f32⟩
  | 29 => ⟨S4096x8x64, .f32⟩
  | 30 => ⟨S4096x8x64, .f32⟩
  | 31 => ⟨S4096x8x64, .f32⟩
  | 32 => ⟨S4096x8x64, .f32⟩
  | 33 => ⟨S4096x8x64, .f32⟩
  | 34 => ⟨S4096x8x64, .f32⟩
  | 35 => ⟨S4096x8x64, .f32⟩
  | 36 => ⟨S4096x8x64, .f32⟩
  | 37 => ⟨S4096x8x64, .f32⟩
  | 38 => ⟨S4096x8x64, .f32⟩
  | 39 => ⟨S4096x8x64, .f32⟩
  | 40 => ⟨S4096x8x64, .f32⟩
  | 41 => ⟨S4096x8x128, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S4096, .f32⟩
  | 51 => ⟨S4096x1, .f32⟩
  | 52 => ⟨S1x64, .f32⟩
  | 53 => ⟨S4096x64, .f32⟩
  | 54 => ⟨S4096x64, .f32⟩
  | 55 => ⟨S4096x64, .f32⟩
  | 56 => ⟨S4096x64, .f32⟩
  | 57 => ⟨S4096x1x64, .f32⟩
  | 58 => ⟨S4096x64, .f32⟩
  | 59 => ⟨S4096x1x64, .f32⟩
  | 60 => ⟨S4096x8x64, .f32⟩
  | 61 => ⟨S4096x8x64, .f32⟩
  | 62 => ⟨S4096x8x64, .f32⟩
  | 63 => ⟨S4096x8x64, .f32⟩
  | 64 => ⟨S4096x8x64, .f32⟩
  | 65 => ⟨S4096x8x64, .f32⟩
  | 66 => ⟨S4096x8x64, .f32⟩
  | 67 => ⟨S4096x8x64, .f32⟩
  | 68 => ⟨S4096x8x64, .f32⟩
  | 69 => ⟨S4096x8x64, .f32⟩
  | 70 => ⟨S4096x8x64, .f32⟩
  | 71 => ⟨S4096x8x64, .f32⟩
  | 72 => ⟨S4096x8x128, .f32⟩
  | 73 => ⟨S_, .f32⟩
  | 74 => ⟨S4096x8x128, .f32⟩
  | 75 => ⟨S4096x8x128, .f32⟩
  | 76 => ⟨S4096x4096, .i32⟩
  | 77 => ⟨S4096x4096, .i32⟩
  | 78 => ⟨S_, .i32⟩
  | 79 => ⟨S4096x4096, .i32⟩
  | 80 => ⟨S4096x4096, .i32⟩
  | 81 => ⟨S_, .i32⟩
  | 82 => ⟨S4096x4096, .i32⟩
  | 83 => ⟨S4096x4096, .i32⟩
  | 84 => ⟨S4096x4096, .i1⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S8x1x1, .f32⟩
  | 97 => ⟨S4096x4096, .i32⟩
  | 98 => ⟨S4096x4096, .i32⟩
  | 99 => ⟨S4096x4096, .f32⟩
  | 100 => ⟨S1x4096x4096, .f32⟩
  | 101 => ⟨S8x4096x4096, .f32⟩
  | 102 => ⟨S8x4096x4096, .f32⟩
  | 103 => ⟨S8x4096x4096, .f32⟩
  | 104 => ⟨S8x4096x4096, .f32⟩
  | 105 => ⟨S_, .f32⟩
  | 106 => ⟨S_, .f32⟩
  | 107 => ⟨S8x4096x4096, .i1⟩
  | 108 => ⟨S8x4096x4096, .f32⟩
  | 109 => ⟨S8x4096x4096, .f32⟩
  | 110 => ⟨S8x4096x4096, .f32⟩
  | 111 => ⟨S8x4096x4096, .f32⟩
  | 112 => ⟨S8x256x4096, .f32⟩
  | 113 => ⟨S4096x8x256, .f32⟩
  | 114 => ⟨S_, .f32⟩
  | 115 => ⟨S4096x8, .f32⟩
  | 116 => ⟨S4096x8x1, .f32⟩
  | 117 => ⟨S_, .f32⟩
  | 118 => ⟨S4096x8x1, .f32⟩
  | 119 => ⟨S4096x8x1, .f32⟩
  | 120 => ⟨S4096x8x256, .f32⟩
  | 121 => ⟨S4096x8x256, .f32⟩
  | 122 => ⟨S4096x8x256, .f32⟩
  | 123 => ⟨S_, .f32⟩
  | 124 => ⟨S4096x8x256, .f32⟩
  | 125 => ⟨S4096x8x256, .f32⟩
  | 126 => ⟨S_, .f32⟩
  | 127 => ⟨S4096x8, .f32⟩
  | _ => ⟨S4096x11520, .f32⟩

abbrev hbmTy0_1 (i : Nat) : BufTy := match i % 128 with
  | 0 => ⟨S4096x8x1, .f32⟩
  | 1 => ⟨S_, .f32⟩
  | 2 => ⟨S4096x8x1, .f32⟩
  | 3 => ⟨S4096x8x1, .f32⟩
  | 4 => ⟨S4096x8x256, .f32⟩
  | 5 => ⟨S4096x8x256, .f32⟩
  | 6 => ⟨S_, .f32⟩
  | 7 => ⟨S4096x8x1, .f32⟩
  | 8 => ⟨S4096x8x1, .f32⟩
  | 9 => ⟨S4096x8x1, .f32⟩
  | 10 => ⟨S4096x8x1, .f32⟩
  | 11 => ⟨S_, .f32⟩
  | 12 => ⟨S4096x8x1, .f32⟩
  | 13 => ⟨S4096x8x1, .f32⟩
  | 14 => ⟨S4096x8x256, .f32⟩
  | 15 => ⟨S4096x8x256, .f32⟩
  | 16 => ⟨S4096x2048, .f32⟩
  | 17 => ⟨S4096x2048, .f32⟩
  | 18 => ⟨S4096x2048, .f32⟩
  | 19 => ⟨S4096x2048, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S_, .f32⟩
  | 26 => ⟨S4096x2048, .f32⟩
  | 27 => ⟨S4096x2048, .f32⟩
  | 28 => ⟨S_, .f32⟩
  | 29 => ⟨S4096x2048, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x2048, .f32⟩
  | 40 => ⟨S4096x8x256, .f32⟩
  | 41 => ⟨S4096x2048, .f32⟩
  | 42 => ⟨S_, .f32⟩
  | 43 => ⟨S2048, .f32⟩
  | 44 => ⟨S1x2048, .f32⟩
  | 45 => ⟨S4096x2048, .f32⟩
  | 46 => ⟨S4096x2048, .f32⟩
  | 47 => ⟨S4096x8x256, .f32⟩
  | 48 => ⟨S4096x8x256, .f32⟩
  | 49 => ⟨S_, .f32⟩
  | 50 => ⟨S4096x8, .f32⟩
  | 51 => ⟨S4096x8x1, .f32⟩
  | 52 => ⟨S4096x8x256, .f32⟩
  | 53 => ⟨S4096x8x256, .f32⟩
  | 54 => ⟨S4096x8x1, .f32⟩
  | 55 => ⟨S4096x8x256, .f32⟩
  | 56 => ⟨S_, .f32⟩
  | 57 => ⟨S4096x8, .f32⟩
  | 58 => ⟨S4096x8x1, .f32⟩
  | 59 => ⟨S_, .f32⟩
  | 60 => ⟨S4096x8x1, .f32⟩
  | 61 => ⟨S4096x8x1, .f32⟩
  | 62 => ⟨S_, .f32⟩
  | 63 => ⟨S4096x8, .f32⟩
  | 64 => ⟨S4096x8x256, .f32⟩
  | 65 => ⟨S4096x8x256, .f32⟩
  | 66 => ⟨S4096x8x256, .f32⟩
  | 67 => ⟨S_, .f32⟩
  | 68 => ⟨S4096x8, .f32⟩
  | 69 => ⟨S4096x8x1, .f32⟩
  | 70 => ⟨S4096x8x256, .f32⟩
  | 71 => ⟨S4096x8x1, .f32⟩
  | 72 => ⟨S_, .f32⟩
  | 73 => ⟨S4096x8x1, .f32⟩
  | 74 => ⟨S4096x8x1, .f32⟩
  | 75 => ⟨S_, .f32⟩
  | 76 => ⟨S4096x8, .f32⟩
  | 77 => ⟨S4096x8x256, .f32⟩
  | 78 => ⟨S4096x8x256, .f32⟩
  | 79 => ⟨S8x256x4096, .f32⟩
  | 80 => ⟨S8x4096x4096, .f32⟩
  | 81 => ⟨S8x256x4096, .f32⟩
  | 82 => ⟨S4096x8x256, .f32⟩
  | 83 => ⟨S8x4096x4096, .f32⟩
  | 84 => ⟨S8x4096x128, .f32⟩
  | 85 => ⟨S4096x8x128, .f32⟩
  | 86 => ⟨S8x4096x128, .f32⟩
  | 87 => ⟨S4096x8x128, .f32⟩
  | 88 => ⟨S_, .f32⟩
  | 89 => ⟨S4096x8x128, .f32⟩
  | 90 => ⟨S4096x8x128, .f32⟩
  | 91 => ⟨S4096x8x64, .f32⟩
  | 92 => ⟨S4096x8x64, .f32⟩
  | 93 => ⟨S4096x8x64, .f32⟩
  | 94 => ⟨S4096x8x64, .f32⟩
  | 95 => ⟨S4096x8x64, .f32⟩
  | 96 => ⟨S4096x8x64, .f32⟩
  | 97 => ⟨S4096x8x64, .f32⟩
  | 98 => ⟨S4096x8x64, .f32⟩
  | 99 => ⟨S4096x8x64, .f32⟩
  | 100 => ⟨S4096x8x64, .f32⟩
  | 101 => ⟨S4096x8x64, .f32⟩
  | 102 => ⟨S4096x8x64, .f32⟩
  | 103 => ⟨S4096x8x64, .f32⟩
  | 104 => ⟨S_, .f32⟩
  | 105 => ⟨S4096x8x128, .f32⟩
  | 106 => ⟨S_, .f32⟩
  | 107 => ⟨S4096x8x128, .f32⟩
  | 108 => ⟨S4096x8x128, .f32⟩
  | 109 => ⟨S4096x8x64, .f32⟩
  | 110 => ⟨S4096x8x64, .f32⟩
  | 111 => ⟨S4096x8x64, .f32⟩
  | 112 => ⟨S4096x8x64, .f32⟩
  | 113 => ⟨S4096x8x64, .f32⟩
  | 114 => ⟨S4096x8x64, .f32⟩
  | 115 => ⟨S4096x8x64, .f32⟩
  | 116 => ⟨S4096x8x64, .f32⟩
  | 117 => ⟨S4096x8x64, .f32⟩
  | 118 => ⟨S4096x8x64, .f32⟩
  | 119 => ⟨S4096x8x64, .f32⟩
  | 120 => ⟨S4096x8x64, .f32⟩
  | 121 => ⟨S4096x8x64, .f32⟩
  | 122 => ⟨S_, .f32⟩
  | 123 => ⟨S4096x8x128, .f32⟩
  | 124 => ⟨S_, .f32⟩
  | 125 => ⟨S4096x8x128, .f32⟩
  | 126 => ⟨S4096x8x128, .f32⟩
  | 127 => ⟨S_, .f32⟩
  | _ => ⟨S4096x11520, .f32⟩

abbrev hbmTy0_2 (i : Nat) : BufTy := match i % 128 with
  | 0 => ⟨S4096x8x768, .f32⟩
  | 1 => ⟨S_, .f32⟩
  | 2 => ⟨S4096x8x768, .f32⟩
  | 3 => ⟨S4096x8x768, .f32⟩
  | 4 => ⟨S_, .f32⟩
  | 5 => ⟨S4096x8x768, .f32⟩
  | 6 => ⟨S4096x8x768, .f32⟩
  | 7 => ⟨S_, .f32⟩
  | 8 => ⟨S4096x8x768, .f32⟩
  | 9 => ⟨S4096x8x768, .f32⟩
  | 10 => ⟨S4096x6144, .f32⟩
  | 11 => ⟨S_, .f32⟩
  | 12 => ⟨S4096x11520, .f32⟩
  | 13 => ⟨S4096x11520, .i32⟩
  | 14 => ⟨S_, .i32⟩
  | 15 => ⟨S4096x11520, .i32⟩
  | 16 => ⟨S4096x11520, .i1⟩
  | 17 => ⟨S_, .i32⟩
  | 18 => ⟨S4096x11520, .i32⟩
  | 19 => ⟨S4096x11520, .i1⟩
  | 20 => ⟨S4096x11520, .i1⟩
  | 21 => ⟨S4096x11520, .f32⟩
  | 22 => ⟨S4096x11520, .f32⟩
  | 23 => ⟨S4096x11520, .bf16⟩
  | _ => ⟨S4096x11520, .f32⟩

abbrev hbmTy (i : Nat) : BufTy := match i / 128 with
  | 0 => hbmTy0_0 i
  | 1 => hbmTy0_1 i
  | 2 => hbmTy0_2 i
  | _ => ⟨S4096x11520, .f32⟩

abbrev bufTy : (tb : Table) → Fin (tcTables nBuf tb) → BufTy
  | .hbm, ⟨i, _⟩ => hbmTy i
  | _, _ => ⟨S4096x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_3 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_c : Ref sig .tc := ⟨.hbm, 78, rfl⟩
abbrev main_v68 : Ref sig .tc := ⟨.hbm, 79, rfl⟩
abbrev main_v69 : Ref sig .tc := ⟨.hbm, 80, rfl⟩
abbrev main_c_4 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_5 : Ref sig .tc := ⟨.hbm, 86, rfl⟩
abbrev main_v74 : Ref sig .tc := ⟨.hbm, 87, rfl⟩
abbrev main_v75 : Ref sig .tc := ⟨.hbm, 88, rfl⟩
abbrev main_cst_6 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_8 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_9 : Ref sig .tc := ⟨.hbm, 114, rfl⟩
abbrev main_v95 : Ref sig .tc := ⟨.hbm, 115, rfl⟩
abbrev main_v96 : Ref sig .tc := ⟨.hbm, 116, rfl⟩
abbrev main_cst_10 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_11 : Ref sig .tc := ⟨.hbm, 123, rfl⟩
abbrev main_v102 : Ref sig .tc := ⟨.hbm, 124, rfl⟩
abbrev main_v103 : Ref sig .tc := ⟨.hbm, 125, rfl⟩
abbrev main_cst_12 : Ref sig .tc := ⟨.hbm, 126, rfl⟩
abbrev main_v104 : Ref sig .tc := ⟨.hbm, 127, rfl⟩
abbrev main_v105 : Ref sig .tc := ⟨.hbm, 128, rfl⟩
abbrev main_cst_13 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_14 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_15 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_call1_v0 : Ref sig .tc := ⟨.hbm, 148, rfl⟩
abbrev main_call1_v1 : Ref sig .tc := ⟨.hbm, 149, rfl⟩
abbrev main_call1_cst : Ref sig .tc := ⟨.hbm, 150, rfl⟩
abbrev main_call1_v2 : Ref sig .tc := ⟨.hbm, 151, rfl⟩
abbrev main_call1_v3 : Ref sig .tc := ⟨.hbm, 152, rfl⟩
abbrev main_call1_cst_0 : Ref sig .tc := ⟨.hbm, 153, rfl⟩
abbrev main_call1_v4 : Ref sig .tc := ⟨.hbm, 154, rfl⟩
abbrev main_v122_2 : Ref sig .tc := ⟨.hbm, 155, rfl⟩
abbrev main_call1_cst_1 : Ref sig .tc := ⟨.hbm, 156, rfl⟩
abbrev main_call1_v6 : Ref sig .tc := ⟨.hbm, 157, rfl⟩
abbrev main_call1_v7 : Ref sig .tc := ⟨.hbm, 158, rfl⟩
abbrev main_v122_1 : Ref sig .tc := ⟨.hbm, 159, rfl⟩
abbrev main_v122_0 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_16 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_17 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_18 : Ref sig .tc := ⟨.hbm, 184, rfl⟩
abbrev main_v141 : Ref sig .tc := ⟨.hbm, 185, rfl⟩
abbrev main_v142 : Ref sig .tc := ⟨.hbm, 186, rfl⟩
abbrev main_cst_19 : Ref sig .tc := ⟨.hbm, 187, rfl⟩
abbrev main_v143 : Ref sig .tc := ⟨.hbm, 188, rfl⟩
abbrev main_v144 : Ref sig .tc := ⟨.hbm, 189, rfl⟩
abbrev main_cst_20 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_21 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_22 : Ref sig .tc := ⟨.hbm, 200, rfl⟩
abbrev main_v153 : Ref sig .tc := ⟨.hbm, 201, rfl⟩
abbrev main_v154 : Ref sig .tc := ⟨.hbm, 202, rfl⟩
abbrev main_cst_23 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_24 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_25 : Ref sig .tc := ⟨.hbm, 232, rfl⟩
abbrev main_v182 : Ref sig .tc := ⟨.hbm, 233, rfl⟩
abbrev main_cst_26 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_cst_27 : Ref sig .tc := ⟨.hbm, 250, rfl⟩
abbrev main_v198 : Ref sig .tc := ⟨.hbm, 251, rfl⟩
abbrev main_cst_28 : Ref sig .tc := ⟨.hbm, 252, rfl⟩
abbrev main_v199 : Ref sig .tc := ⟨.hbm, 253, rfl⟩
abbrev main_v200 : Ref sig .tc := ⟨.hbm, 254, rfl⟩
abbrev main_cst_29 : Ref sig .tc := ⟨.hbm, 255, rfl⟩
abbrev main_v201 : Ref sig .tc := ⟨.hbm, 256, rfl⟩
abbrev main_cst_30 : Ref sig .tc := ⟨.hbm, 257, rfl⟩
abbrev main_v202 : Ref sig .tc := ⟨.hbm, 258, rfl⟩
abbrev main_v203 : Ref sig .tc := ⟨.hbm, 259, rfl⟩
abbrev main_cst_31 : Ref sig .tc := ⟨.hbm, 260, rfl⟩
abbrev main_v204 : Ref sig .tc := ⟨.hbm, 261, rfl⟩
abbrev main_v205 : Ref sig .tc := ⟨.hbm, 262, rfl⟩
abbrev main_cst_32 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_33 : Ref sig .tc := ⟨.hbm, 267, rfl⟩
abbrev main_v209 : Ref sig .tc := ⟨.hbm, 268, rfl⟩
abbrev main_v210 : Ref sig .tc := ⟨.hbm, 269, rfl⟩
abbrev main_c_34 : Ref sig .tc := ⟨.hbm, 270, rfl⟩
abbrev main_v211 : Ref sig .tc := ⟨.hbm, 271, rfl⟩
abbrev main_v212 : Ref sig .tc := ⟨.hbm, 272, rfl⟩
abbrev main_c_35 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩

abbrev nD : Nat := 1
abbrev τ : Topo := Topo.v7x

variable {F : FTy → Type} [FloatOps F]
-- ==== InDw.lean ====
abbrev S4096x2048 : Shape := ⟨2, ![4096, 2048]⟩
abbrev S4096x11520 : Shape := ⟨2, ![4096, 11520]⟩
abbrev S11520x2048 : Shape := ⟨2, ![11520, 2048]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11520, .bf16⟩
  | .hbm, ⟨2, _⟩ => ⟨S11520x2048, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![15, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x2048 : Shape := ⟨2, ![4096, 2048]⟩
abbrev S4096x11520 : Shape := ⟨2, ![4096, 11520]⟩
abbrev S_ : Shape := ⟨0, ![]⟩
abbrev S11520x2048 : Shape := ⟨2, ![11520, 2048]⟩
abbrev S2048x11520 : Shape := ⟨2, ![2048, 11520]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11520, .bf16⟩
  | .hbm, ⟨2, _⟩ => ⟨S_, .f32⟩
  | .hbm, ⟨3, _⟩ => ⟨S11520x2048, .f32⟩
  | .hbm, ⟨4, _⟩ => ⟨S4096x2048, .f32⟩
  | .hbm, ⟨5, _⟩ => ⟨S2048x11520, .f32⟩
  | .hbm, ⟨6, _⟩ => ⟨S4096x11520, .f32⟩
  | .hbm, ⟨7, _⟩ => ⟨S4096x11520, .f32⟩
  | .hbm, ⟨8, _⟩ => ⟨S11520x2048, .f32⟩
  | .hbm, ⟨9, _⟩ => ⟨S2048x11520, .f32⟩
  | .hbm, ⟨10, _⟩ => ⟨S11520x2048, .f32⟩
  | .hbm, ⟨11, _⟩ => ⟨S11520x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDx.lean ====
abbrev S11520x2048 : Shape := ⟨2, ![11520, 2048]⟩
abbrev S4096x11520 : Shape := ⟨2, ![4096, 11520]⟩
abbrev S4096x2048 : Shape := ⟨2, ![4096, 2048]⟩
abbrev S1024x1920 : Shape := ⟨2, ![1024, 1920]⟩
abbrev S1920x1024 : Shape := ⟨2, ![1920, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S11520x2048, .bf16⟩
  | .hbm, ⟨1, _⟩ => ⟨S4096x11520, .bf16⟩
  | .hbm, ⟨2, _⟩ => ⟨S4096x2048, .f32⟩
  | .local _ .vmem, ⟨0, _⟩ => ⟨S1024x1920, .bf16⟩
  | .local _ .vmem, ⟨1, _⟩ => ⟨S1024x1920, .bf16⟩
  | .local _ .vmem, ⟨2, _⟩ => ⟨S1920x1024, .bf16⟩
  | .local _ .vmem, ⟨3, _⟩ => ⟨S1920x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S11520x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S11520x2048 : Shape := ⟨2, ![11520, 2048]⟩
abbrev S4096x11520 : Shape := ⟨2, ![4096, 11520]⟩
abbrev S_ : Shape := ⟨0, ![]⟩
abbrev S4096x2048 : Shape := ⟨2, ![4096, 2048]⟩
abbrev S2048x11520 : Shape := ⟨2, ![2048, 11520]⟩

abbrev nBuf : Space → Nat
  | .hbm => 9
  | .vmem => 0
  | .smem => 0
  | _ => 0

abbrev bufTy : (tb : Table) → Fin (tcTables nBuf tb) → BufTy
  | .hbm, ⟨0, _⟩ => ⟨S11520x2048, .bf16⟩
  | .hbm, ⟨1, _⟩ => ⟨S4096x11520, .bf16⟩
  | .hbm, ⟨2, _⟩ => ⟨S_, .f32⟩
  | .hbm, ⟨3, _⟩ => ⟨S4096x2048, .f32⟩
  | .hbm, ⟨4, _⟩ => ⟨S11520x2048, .f32⟩
  | .hbm, ⟨5, _⟩ => ⟨S2048x11520, .f32⟩
  | .hbm, ⟨6, _⟩ => ⟨S4096x11520, .f32⟩
  | .hbm, ⟨7, _⟩ => ⟨S4096x11520, .f32⟩
  | .hbm, ⟨8, _⟩ => ⟨S4096x2048, .f32⟩
  | _, _ => ⟨S11520x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S4096x512 : Shape := ⟨2, ![4096, 512]⟩
abbrev S512x2048 : Shape := ⟨2, ![512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpDx.lean ====
abbrev S8x2048x1024 : Shape := ⟨3, ![8, 2048, 1024]⟩
abbrev S4096x8192 : Shape := ⟨2, ![4096, 8192]⟩
abbrev S4096x2048 : Shape := ⟨2, ![4096, 2048]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 3
  | .vmem => 13
  | .smem => 0
  | _ => 0

abbrev bufTy : (tb : Table) → Fin (tcTables nBuf tb) → BufTy
  | .hbm, ⟨0, _⟩ => ⟨S8x2048x1024, .bf16⟩
  | .hbm, ⟨1, _⟩ => ⟨S4096x8192, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_23 : BitVec 32 := 1#32
  let v29 : BitVec 1 := Scalar.cmpi .eq arg2 c1_i32_23
  let v30 : BitVec 32 := Scalar.extui v29
  let c0_i32_24 : BitVec 32 := 0#32
  let v31 : BitVec 1 := Scalar.cmpi .ne v30 c0_i32_24
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32 : BitVec 32 := 1#32
  let v2 : BitVec 32 := Scalar.divsi v1 c1_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli arg2 c4_i32_6
  let c0_i32_7 : BitVec 32 := 0#32
  let v20 : BitVec 32 := Scalar.addi v19 c0_i32_7
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1_i32_0 : BitVec 32 := 1#32
  let v2 : BitVec 32 := Scalar.divsi v1 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli arg2 c4_i32_6
  let c1_i32_7 : BitVec 32 := 1#32
  let v20 : BitVec 32 := Scalar.addi v19 c1_i32_7
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg2 c4_i32_5
  let c2_i32_6 : BitVec 32 := 2#32
  let v20 : BitVec 32 := Scalar.addi v19 c2_i32_6
  let c1_i32_7 : BitVec 32 := 1#32
  let c0_i32_8 : BitVec 32 := 0#32
  let v21 : BitVec 1 := Scalar.cmpi .eq c1_i32_7 c0_i32_8
  let c1_i32_9 : BitVec 32 := 1#32
  let v22 : BitVec 32 := Scalar.select v21 c1_i32_9 c1_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg2 c4_i32_5
  let c3_i32_6 : BitVec 32 := 3#32
  let v20 : BitVec 32 := Scalar.addi v19 c3_i32_6
  let c1_i32_7 : BitVec 32 := 1#32
  let c0_i32_8 : BitVec 32 := 0#32
  let v21 : BitVec 1 := Scalar.cmpi .eq c1_i32_7 c0_i32_8
  let c1_i32_9 : BitVec 32 := 1#32
  let v22 : BitVec 32 := Scalar.select v21 c1_i32_9 c1_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== UpDxReferenceIdeal.lean ====
abbrev S8x2048x1024 : Shape := ⟨3, ![8, 2048, 1024]⟩
abbrev S4096x8192 : Shape := ⟨2, ![4096, 8192]⟩
abbrev S_ : Shape := ⟨0, ![]⟩
abbrev S4096x2048 : Shape := ⟨2, ![4096, 2048]⟩
abbrev S2048x8x1024 : Shape := ⟨3, ![2048, 8, 1024]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4096x8192, .bf16⟩
  | .hbm, ⟨2, _⟩ => ⟨S_, .f32⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x2048 : Shape := ⟨2, ![4096, 2048]⟩
abbrev S4096x8192 : Shape := ⟨2, ![4096, 8192]⟩
abbrev S_ : Shape := ⟨0, ![]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S8x2048x1024, .f32⟩
  | .hbm, ⟨4, _⟩ => ⟨S4096x2048, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OutDx.lean ====
abbrev S4096x11520 : Shape := ⟨2, ![4096, 11520]⟩
abbrev S4096x2048 : Shape := ⟨2, ![4096, 2048]⟩
abbrev S2048x2048 : Shape := ⟨2, ![2048, 2048]⟩
abbrev S256x2048 : Shape := ⟨2, ![256, 2048]⟩
abbrev S256x4096 : Shape := ⟨2, ![256, 4096]⟩
abbrev S4096x4096 : Shape := ⟨2, ![4096, 4096]⟩

abbrev nBuf : Space → Nat
  | .hbm => 9
  | .vmem => 17
  | .smem => 0
  | _ => 0

abbrev bufTy : (tb : Table) → Fin (tcTables nBuf tb) → BufTy
  | .hbm, ⟨0, _⟩ => ⟨S4096x11520, .f32⟩
  | .hbm, ⟨1, _⟩ => ⟨S4096x2048, .f32⟩
  | .hbm, ⟨2, _⟩ => ⟨S4096x2048, .f32⟩
  | .hbm, ⟨3, _⟩ => ⟨S2048x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x11520, .bf16⟩
  | .hbm, ⟨8, _⟩ => ⟨S4096x4096, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x4096, .bf16⟩
  | .local _ .vmem, ⟨16, _⟩ => ⟨S256x4096, .bf16⟩
  | _, _ => ⟨S4096x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== OutDxReferenceIdeal.lean ====
abbrev S4096x11520 : Shape := ⟨2, ![4096, 11520]⟩
abbrev S4096x2048 : Shape := ⟨2, ![4096, 2048]⟩
abbrev S2048x2048 : Shape := ⟨2, ![2048, 2048]⟩
abbrev S4096x4096 : Shape := ⟨2, ![4096, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x11520, .f32⟩
  | .hbm, ⟨1, _⟩ => ⟨S4096x2048, .f32⟩
  | .hbm, ⟨2, _⟩ => ⟨S4096x2048, .f32⟩
  | .hbm, ⟨3, _⟩ => ⟨S2048x2048, .bf16⟩
  | .hbm, ⟨4, _⟩ => ⟨S4096x2048, .bf16⟩
  | .hbm, ⟨5, _⟩ => ⟨S4096x4096, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S2048x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x2048, .bf16⟩
  | .hbm, ⟨51, _⟩ => ⟨S4096x2048, .bf16⟩
  | .hbm, ⟨52, _⟩ => ⟨S4096x4096, .bf16⟩
  | _, _ => ⟨S4096x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RetDx.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetDxReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RetDw.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaDx.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDxReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDw.lean ====
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S256x2048, .bf16⟩
  | .local _ .vmem, ⟨4, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QDx.lean ====
abbrev S512x4096 : Shape := ⟨2, ![512, 4096]⟩
abbrev S4096x4096 : Shape := ⟨2, ![4096, 4096]⟩
abbrev S4096x512 : Shape := ⟨2, ![4096, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x4096, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDxReferenceIdeal.lean ====
abbrev S512x4096 : Shape := ⟨2, ![512, 4096]⟩
abbrev S4096x4096 : Shape := ⟨2, ![4096, 4096]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x4096, .bf16⟩
  | .hbm, ⟨2, _⟩ => ⟨S_, .f32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QDw.lean ====
abbrev S4096x512 : Shape := ⟨2, ![4096, 512]⟩
abbrev S4096x4096 : Shape := ⟨2, ![4096, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QDwReferenceIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x4096, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvDx.lean ====
abbrev S8x512x512 : Shape := ⟨3, ![8, 512, 512]⟩
abbrev S4096x4096 : Shape := ⟨2, ![4096, 4096]⟩
abbrev S4096x512 : Shape := ⟨2, ![4096, 512]⟩
abbrev S1024x2048 : Shape := ⟨2, ![1024, 2048]⟩
abbrev S1x512x512 : Shape := ⟨3, ![1, 512, 512]⟩
abbrev S1024x512 : Shape := ⟨2, ![1024, 512]⟩
abbrev S512x512 : Shape := ⟨2, ![512, 512]⟩

abbrev nBuf : Space → Nat
  | .hbm => 3
  | .vmem => 13
  | .smem => 0
  | _ => 0

abbrev bufTy : (tb : Table) → Fin (tcTables nBuf tb) → BufTy
  | .hbm, ⟨0, _⟩ => ⟨S8x512x512, .bf16⟩
  | .hbm, ⟨1, _⟩ => ⟨S4096x4096, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_23 : BitVec 32 := 1#32
  let v29 : BitVec 1 := Scalar.cmpi .eq arg2 c1_i32_23
  let v30 : BitVec 32 := Scalar.extui v29
  let c0_i32_24 : BitVec 32 := 0#32
  let v31 : BitVec 1 := Scalar.cmpi .ne v30 c0_i32_24
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32 : BitVec 32 := 1#32
  let v2 : BitVec 32 := Scalar.divsi v1 c1_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli arg2 c4_i32_6
  let c0_i32_7 : BitVec 32 := 0#32
  let v20 : BitVec 32 := Scalar.addi v19 c0_i32_7
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c1_i32_0 : BitVec 32 := 1#32
  let v2 : BitVec 32 := Scalar.divsi v1 c1_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi v1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli arg2 c4_i32_6
  let c1_i32_7 : BitVec 32 := 1#32
  let v20 : BitVec 32 := Scalar.addi v19 c1_i32_7
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg2 c4_i32_5
  let c2_i32_6 : BitVec 32 := 2#32
  let v20 : BitVec 32 := Scalar.addi v19 c2_i32_6
  let c1_i32_7 : BitVec 32 := 1#32
  let c0_i32_8 : BitVec 32 := 0#32
  let v21 : BitVec 1 := Scalar.cmpi .eq c1_i32_7 c0_i32_8
  let c1_i32_9 : BitVec 32 := 1#32
  let v22 : BitVec 32 := Scalar.select v21 c1_i32_9 c1_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg2 c4_i32_5
  let c3_i32_6 : BitVec 32 := 3#32
  let v20 : BitVec 32 := Scalar.addi v19 c3_i32_6
  let c1_i32_7 : BitVec 32 := 1#32
  let c0_i32_8 : BitVec 32 := 0#32
  let v21 : BitVec 1 := Scalar.cmpi .eq c1_i32_7 c0_i32_8
  let c1_i32_9 : BitVec 32 := 1#32
  let v22 : BitVec 32 := Scalar.select v21 c1_i32_9 c1_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KvDxReferenceIdeal.lean ====
abbrev S8x512x512 : Shape := ⟨3, ![8, 512, 512]⟩
abbrev S4096x4096 : Shape := ⟨2, ![4096, 4096]⟩
abbrev S_ : Shape := ⟨0, ![]⟩
abbrev S4096x512 : Shape := ⟨2, ![4096, 512]⟩
abbrev S512x8x512 : Shape := ⟨3, ![512, 8, 512]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S4096x4096, .bf16⟩
  | .hbm, ⟨2, _⟩ => ⟨S_, .f32⟩
  | .hbm, ⟨3, _⟩ => ⟨S4096x512, .f32⟩
  | .hbm, ⟨4, _⟩ => ⟨S8x512x512, .f32⟩
  | .hbm, ⟨5, _⟩ => ⟨S512x8x512, .f32⟩
  | .hbm, ⟨6, _⟩ => ⟨S512x4096, .f32⟩
  | .hbm, ⟨7, _⟩ => ⟨S4096x4096, .f32⟩
  | .hbm, ⟨8, _⟩ => ⟨S4096x4096, .f32⟩
  | .hbm, ⟨9, _⟩ => ⟨S4096x512, .f32⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvDw.lean ====
abbrev S4096x512 : Shape := ⟨2, ![4096, 512]⟩
abbrev S4096x4096 : Shape := ⟨2, ![4096, 4096]⟩
abbrev S8x512x512 : Shape := ⟨3, ![8, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S8x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwReferenceIdeal.lean ====
abbrev S4096x512 : Shape := ⟨2, ![4096, 512]⟩
abbrev S4096x4096 : Shape := ⟨2, ![4096, 4096]⟩
abbrev S_ : Shape := ⟨0, ![]⟩
abbrev S8x512x512 : Shape := ⟨3, ![8, 512, 512]⟩
abbrev S512x8x512 : Shape := ⟨3, ![512, 8, 512]⟩
abbrev S512x4096 : Shape := ⟨2, ![512, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S8x512x512, .f32⟩
  | .hbm, ⟨4, _⟩ => ⟨S4096x512, .f32⟩
  | .hbm, ⟨5, _⟩ => ⟨S512x8x512, .f32⟩
  | .hbm, ⟨6, _⟩ => ⟨S512x4096, .f32⟩
  | .hbm, ⟨7, _⟩ => ⟨S4096x4096, .f32⟩
  | .hbm, ⟨8, _⟩ => ⟨S4096x4096, .f32⟩
  | .hbm, ⟨9, _⟩ => ⟨S4096x512, .f32⟩
  | .hbm, ⟨10, _⟩ => ⟨S512x4096, .f32⟩
  | .hbm, ⟨11, _⟩ => ⟨S512x8x512, .f32⟩
  | .hbm, ⟨12, _⟩ => ⟨S8x512x512, .f32⟩
  | .hbm, ⟨13, _⟩ => ⟨S8x512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== In.lean ====
abbrev S4096x2048 : Shape := ⟨2, ![4096, 2048]⟩
abbrev S11520x2048 : Shape := ⟨2, ![11520, 2048]⟩
abbrev S4096x11520 : Shape := ⟨2, ![4096, 11520]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S11520x2048, .bf16⟩
  | .hbm, ⟨2, _⟩ => ⟨S4096x11520, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x2048 : Shape := ⟨2, ![4096, 2048]⟩
abbrev S11520x2048 : Shape := ⟨2, ![11520, 2048]⟩
abbrev S2048x11520 : Shape := ⟨2, ![2048, 11520]⟩
abbrev S4096x11520 : Shape := ⟨2, ![4096, 11520]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S11520x2048, .bf16⟩
  | .hbm, ⟨2, _⟩ => ⟨S4096x2048, .f32⟩
  | .hbm, ⟨3, _⟩ => ⟨S11520x2048, .f32⟩
  | .hbm, ⟨4, _⟩ => ⟨S2048x11520, .f32⟩
  | .hbm, ⟨5, _⟩ => ⟨S4096x11520, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ret.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mla.lean ====
abbrev S4096x2048 : Shape := ⟨2, ![4096, 2048]⟩
abbrev S2048x2048 : Shape := ⟨2, ![2048, 2048]⟩
abbrev S4096x11520 : Shape := ⟨2, ![4096, 11520]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x11520, .f32⟩
  | .hbm, ⟨3, _⟩ => ⟨S4096x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MlaReferenceIdeal.lean ====
abbrev S4096x2048 : Shape := ⟨2, ![4096, 2048]⟩
abbrev S2048x2048 : Shape := ⟨2, ![2048, 2048]⟩
abbrev S4096x11520 : Shape := ⟨2, ![4096, 11520]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x11520, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutReferenceIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Up.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamIn.lean ====
abbrev S1x2048x1416 : Shape := ⟨3, ![1, 2048, 1416]⟩
abbrev S4x1416x2048 : Shape := ⟨3, ![4, 1416, 2048]⟩
abbrev S3x1416x2048 : Shape := ⟨3, ![3, 1416, 2048]⟩
abbrev S1x1416x2048 : Shape := ⟨3, ![1, 1416, 2048]⟩
abbrev S_ : Shape := ⟨0, ![]⟩
abbrev S1 : Shape := ⟨1, ![1]⟩
abbrev S1x472x512 : Shape := ⟨3, ![1, 472, 512]⟩
abbrev S3x472x512 : Shape := ⟨3, ![3, 472, 512]⟩
abbrev S472x512 : Shape := ⟨2, ![472, 512]⟩

abbrev nBuf : Space → Nat
  | .hbm => 17
  | .vmem => 18
  | .smem => 1
  | _ => 0

abbrev bufTy : (tb : Table) → Fin (tcTables nBuf tb) → BufTy
  | .hbm, ⟨0, _⟩ => ⟨S1x2048x1416, .f32⟩
  | .hbm, ⟨1, _⟩ => ⟨S1x2048x1416, .f32⟩
  | .hbm, ⟨2, _⟩ => ⟨S1x2048x1416, .f32⟩
  | .hbm, ⟨3, _⟩ => ⟨S4x1416x2048, .bf16⟩
  | .hbm, ⟨4, _⟩ => ⟨S3x1416x2048, .bf16⟩
  | .hbm, ⟨5, _⟩ => ⟨S1x1416x2048, .f32⟩
  | .hbm, ⟨6, _⟩ => ⟨S1x1416x2048, .f32⟩
  | .hbm, ⟨7, _⟩ => ⟨S1x1416x2048, .f32⟩
  | .hbm, ⟨8, _⟩ => ⟨S_, .i32⟩
  | .hbm, ⟨9, _⟩ => ⟨S1x1416x2048, .f32⟩
  | .hbm, ⟨10, _⟩ => ⟨S1x1416x2048, .f32⟩
  | .hbm, ⟨11, _⟩ => ⟨S1x1416x2048, .f32⟩
  | .hbm, ⟨12, _⟩ => ⟨S1x1416x2048, .f32⟩
  | .hbm, ⟨13, _⟩ => ⟨S1x2048x1416, .f32⟩
  | .hbm, ⟨14, _⟩ => ⟨S1x2048x1416, .f32⟩
  | .hbm, ⟨15, _⟩ => ⟨S1x2048x1416, .f32⟩
  | .hbm, ⟨16, _⟩ => ⟨S1x2048x1416, .f32⟩
  | .local _ .vmem, ⟨0, _⟩ => ⟨S1x472x512, .f32⟩
  | .local _ .vmem, ⟨1, _⟩ => ⟨S1x472x512, .f32⟩
  | .local _ .vmem, ⟨2, _⟩ => ⟨S1x472x512, .f32⟩
  | .local _ .vmem, ⟨3, _⟩ => ⟨S1x472x512, .f32⟩
  | .local _ .vmem, ⟨4, _⟩ => ⟨S1x472x512, .f32⟩
  | .local _ .vmem, ⟨5, _⟩ => ⟨S1x472x512, .f32⟩
  | .local _ .vmem, ⟨6, _⟩ => ⟨S1x472x512, .bf16⟩
  | .local _ .vmem, ⟨7, _⟩ => ⟨S1x472x512, .bf16⟩
  | .local _ .vmem, ⟨8, _⟩ => ⟨S3x472x512, .bf16⟩
  | .local _ .vmem, ⟨9, _⟩ => ⟨S3x472x512, .bf16⟩
  | .local _ .vmem, ⟨10, _⟩ => ⟨S1x472x512, .f32⟩
  | .local _ .vmem, ⟨11, _⟩ => ⟨S1x472x512, .f32⟩
  | .local _ .vmem, ⟨12, _⟩ => ⟨S1x472x512, .f32⟩
  | .local _ .vmem, ⟨13, _⟩ => ⟨S1x472x512, .f32⟩
  | .local _ .vmem, ⟨14, _⟩ => ⟨S1x472x512, .f32⟩
  | .local _ .vmem, ⟨15, _⟩ => ⟨S1x472x512, .f32⟩
  | .local _ .vmem, ⟨16, _⟩ => ⟨S1x472x512, .f32⟩
  | .local _ .vmem, ⟨17, _⟩ => ⟨S1x472x512, .f32⟩
  | .local _ .smem, ⟨0, _⟩ => ⟨S1, .i32⟩
  | _, _ => ⟨S1x2048x1416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 4], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x472x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x472x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x472x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x472x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x472x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x472x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x472x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x472x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x472x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S1x2048x1416 : Shape := ⟨3, ![1, 2048, 1416]⟩
abbrev S4x1416x2048 : Shape := ⟨3, ![4, 1416, 2048]⟩
abbrev S3x1416x2048 : Shape := ⟨3, ![3, 1416, 2048]⟩
abbrev S1x1416x2048 : Shape := ⟨3, ![1, 1416, 2048]⟩
abbrev S_ : Shape := ⟨0, ![]⟩
abbrev S1416x2048 : Shape := ⟨2, ![1416, 2048]⟩

abbrev nBuf : Space → Nat
  | .hbm => 46
  | .vmem => 0
  | .smem => 0
  | _ => 0

abbrev bufTy : (tb : Table) → Fin (tcTables nBuf tb) → BufTy
  | .hbm, ⟨0, _⟩ => ⟨S1x2048x1416, .f32⟩
  | .hbm, ⟨1, _⟩ => ⟨S1x2048x1416, .f32⟩
  | .hbm, ⟨2, _⟩ => ⟨S1x2048x1416, .f32⟩
  | .hbm, ⟨3, _⟩ => ⟨S4x1416x2048, .bf16⟩
  | .hbm, ⟨4, _⟩ => ⟨S3x1416x2048, .bf16⟩
  | .hbm, ⟨5, _⟩ => ⟨S1x1416x2048, .bf16⟩
  | .hbm, ⟨6, _⟩ => ⟨S1x1416x2048, .f32⟩
  | .hbm, ⟨7, _⟩ => ⟨S3x1416x2048, .f32⟩
  | .hbm, ⟨8, _⟩ => ⟨S_, .f32⟩
  | .hbm, ⟨9, _⟩ => ⟨S1416x2048, .f32⟩
  | .hbm, ⟨10, _⟩ => ⟨S1x1416x2048, .f32⟩
  | .hbm, ⟨11, _⟩ => ⟨S1x1416x2048, .f32⟩
  | .hbm, ⟨12, _⟩ => ⟨S1x2048x1416, .f32⟩
  | .hbm, ⟨13, _⟩ => ⟨S_, .f32⟩
  | .hbm, ⟨14, _⟩ => ⟨S1x2048x1416, .f32⟩
  | .hbm, ⟨15, _⟩ => ⟨S1x2048x1416, .f32⟩
  | .hbm, ⟨16, _⟩ => ⟨S_, .f32⟩
  | .hbm, ⟨17, _⟩ => ⟨S1x2048x1416, .f32⟩
  | .hbm, ⟨18, _⟩ => ⟨S1x2048x1416, .f32⟩
  | .hbm, ⟨19, _⟩ => ⟨S1x2048x1416, .f32⟩
  | .hbm, ⟨20, _⟩ => ⟨S_, .f32⟩
  | .hbm, ⟨21, _⟩ => ⟨S1x2048x1416, .f32⟩
  | .hbm, ⟨22, _⟩ => ⟨S1x2048x1416, .f32⟩
  | .hbm, ⟨23, _⟩ => ⟨S1x2048x1416, .f32⟩
  | .hbm, ⟨24, _⟩ => ⟨S_, .f32⟩
  | .hbm, ⟨25, _⟩ => ⟨S1x2048x1416, .f32⟩
  | .hbm, ⟨26, _⟩ => ⟨S1x2048x1416, .f32⟩
  | .hbm, ⟨27, _⟩ => ⟨S1x2048x1416, .f32⟩
  | .hbm, ⟨28, _⟩ => ⟨S_, .f32⟩
  | .hbm, ⟨29, _⟩ => ⟨S1x2048x1416, .f32⟩
  | .hbm, ⟨30, _⟩ => ⟨S1x2048x1416, .f32⟩
  | .hbm, ⟨31, _⟩ => ⟨S_, .f32⟩
  | .hbm, ⟨32, _⟩ => ⟨S1x2048x1416, .f32⟩
  | .hbm, ⟨33, _⟩ => ⟨S1x2048x1416, .f32⟩
  | .hbm, ⟨34, _⟩ => ⟨S1x2048x1416, .f32⟩
  | .hbm, ⟨35, _⟩ => ⟨S_, .f32⟩
  | .hbm, ⟨36, _⟩ => ⟨S1x2048x1416, .f32⟩
  | .hbm, ⟨37, _⟩ => ⟨S1x2048x1416, .f32⟩
  | .hbm, ⟨38, _⟩ => ⟨S1x2048x1416, .f32⟩
  | .hbm, ⟨39, _⟩ => ⟨S_, .f32⟩
  | .hbm, ⟨40, _⟩ => ⟨S1x2048x1416, .f32⟩
  | .hbm, ⟨41, _⟩ => ⟨S1x2048x1416, .f32⟩
  | .hbm, ⟨42, _⟩ => ⟨S1x2048x1416, .f32⟩
  | .hbm, ⟨43, _⟩ => ⟨S_, .f32⟩
  | .hbm, ⟨44, _⟩ => ⟨S1x2048x1416, .f32⟩
  | .hbm, ⟨45, _⟩ => ⟨S1x2048x1416, .f32⟩
  | _, _ => ⟨S1x2048x1416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== AdamRet.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S256x2048 : Shape := ⟨2, ![256, 2048]⟩

abbrev nBuf : Space → Nat
  | .hbm => 10
  | .vmem => 9
  | .smem => 1
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S_, .i32⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .bf16⟩
  | .local _ .vmem, ⟨4, _⟩ => ⟨S3x256x2048, .bf16⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .smem, ⟨0, _⟩ => ⟨S1, .i32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamRetReferenceIdeal.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S_ : Shape := ⟨0, ![]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S1x256x2048, .bf16⟩
  | .hbm, ⟨6, _⟩ => ⟨S1x256x2048, .f32⟩
  | .hbm, ⟨7, _⟩ => ⟨S3x256x2048, .f32⟩
  | .hbm, ⟨8, _⟩ => ⟨S_, .f32⟩
  | .hbm, ⟨9, _⟩ => ⟨S256x2048, .f32⟩
  | .hbm, ⟨10, _⟩ => ⟨S1x256x2048, .f32⟩
  | .hbm, ⟨11, _⟩ => ⟨S1x256x2048, .f32⟩
  | .hbm, ⟨12, _⟩ => ⟨S_, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S1x256x2048, .f32⟩
  | .hbm, ⟨27, _⟩ => ⟨S_, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | .hbm, ⟨41, _⟩ => ⟨S1x256x2048, .f32⟩
  | .hbm, ⟨42, _⟩ => ⟨S_, .f32⟩
  | .hbm, ⟨43, _⟩ => ⟨S1x256x2048, .f32⟩
  | .hbm, ⟨44, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamQ.lean ====
abbrev S1x512x384 : Shape := ⟨3, ![1, 512, 384]⟩
abbrev S4x512x384 : Shape := ⟨3, ![4, 512, 384]⟩
abbrev S3x512x384 : Shape := ⟨3, ![3, 512, 384]⟩
abbrev S_ : Shape := ⟨0, ![]⟩
abbrev S1 : Shape := ⟨1, ![1]⟩
abbrev S1x256x384 : Shape := ⟨3, ![1, 256, 384]⟩
abbrev S3x256x384 : Shape := ⟨3, ![3, 256, 384]⟩
abbrev S256x384 : Shape := ⟨2, ![256, 384]⟩

abbrev nBuf : Space → Nat
  | .hbm => 10
  | .vmem => 18
  | .smem => 1
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S1x512x384, .f32⟩
  | .hbm, ⟨3, _⟩ => ⟨S4x512x384, .bf16⟩
  | .hbm, ⟨4, _⟩ => ⟨S3x512x384, .bf16⟩
  | .hbm, ⟨5, _⟩ => ⟨S_, .i32⟩
  | .hbm, ⟨6, _⟩ => ⟨S1x512x384, .f32⟩
  | .hbm, ⟨7, _⟩ => ⟨S1x512x384, .f32⟩
  | .hbm, ⟨8, _⟩ => ⟨S1x512x384, .f32⟩
  | .hbm, ⟨9, _⟩ => ⟨S1x512x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .bf16⟩
  | .local _ .vmem, ⟨7, _⟩ => ⟨S1x256x384, .bf16⟩
  | .local _ .vmem, ⟨8, _⟩ => ⟨S3x256x384, .bf16⟩
  | .local _ .vmem, ⟨9, _⟩ => ⟨S3x256x384, .bf16⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .smem, ⟨0, _⟩ => ⟨S1, .i32⟩
  | _, _ => ⟨S1x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamQReferenceIdeal.lean ====
abbrev S1x512x384 : Shape := ⟨3, ![1, 512, 384]⟩
abbrev S4x512x384 : Shape := ⟨3, ![4, 512, 384]⟩
abbrev S3x512x384 : Shape := ⟨3, ![3, 512, 384]⟩
abbrev S_ : Shape := ⟨0, ![]⟩
abbrev S512x384 : Shape := ⟨2, ![512, 384]⟩

abbrev nBuf : Space → Nat
  | .hbm => 45
  | .vmem => 0
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S1x512x384, .f32⟩
  | .hbm, ⟨3, _⟩ => ⟨S4x512x384, .bf16⟩
  | .hbm, ⟨4, _⟩ => ⟨S3x512x384, .bf16⟩
  | .hbm, ⟨5, _⟩ => ⟨S1x512x384, .bf16⟩
  | .hbm, ⟨6, _⟩ => ⟨S1x512x384, .f32⟩
  | .hbm, ⟨7, _⟩ => ⟨S3x512x384, .f32⟩
  | .hbm, ⟨8, _⟩ => ⟨S_, .f32⟩
  | .hbm, ⟨9, _⟩ => ⟨S512x384, .f32⟩
  | .hbm, ⟨10, _⟩ => ⟨S1x512x384, .f32⟩
  | .hbm, ⟨11, _⟩ => ⟨S1x512x384, .f32⟩
  | .hbm, ⟨12, _⟩ => ⟨S_, .f32⟩
  | .hbm, ⟨13, _⟩ => ⟨S1x512x384, .f32⟩
  | .hbm, ⟨14, _⟩ => ⟨S1x512x384, .f32⟩
  | .hbm, ⟨15, _⟩ => ⟨S_, .f32⟩
  | .hbm, ⟨16, _⟩ => ⟨S1x512x384, .f32⟩
  | .hbm, ⟨17, _⟩ => ⟨S1x512x384, .f32⟩
  | .hbm, ⟨18, _⟩ => ⟨S1x512x384, .f32⟩
  | .hbm, ⟨19, _⟩ => ⟨S_, .f32⟩
  | .hbm, ⟨20, _⟩ => ⟨S1x512x384, .f32⟩
  | .hbm, ⟨21, _⟩ => ⟨S1x512x384, .f32⟩
  | .hbm, ⟨22, _⟩ => ⟨S1x512x384, .f32⟩
  | .hbm, ⟨23, _⟩ => ⟨S_, .f32⟩
  | .hbm, ⟨24, _⟩ => ⟨S1x512x384, .f32⟩
  | .hbm, ⟨25, _⟩ => ⟨S1x512x384, .f32⟩
  | .hbm, ⟨26, _⟩ => ⟨S1x512x384, .f32⟩
  | .hbm, ⟨27, _⟩ => ⟨S_, .f32⟩
  | .hbm, ⟨28, _⟩ => ⟨S1x512x384, .f32⟩
  | .hbm, ⟨29, _⟩ => ⟨S1x512x384, .f32⟩
  | .hbm, ⟨30, _⟩ => ⟨S_, .f32⟩
  | .hbm, ⟨31, _⟩ => ⟨S1x512x384, .f32⟩
  | .hbm, ⟨32, _⟩ => ⟨S1x512x384, .f32⟩
  | .hbm, ⟨33, _⟩ => ⟨S1x512x384, .f32⟩
  | .hbm, ⟨34, _⟩ => ⟨S_, .f32⟩
  | .hbm, ⟨35, _⟩ => ⟨S1x512x384, .f32⟩
  | .hbm, ⟨36, _⟩ => ⟨S1x512x384, .f32⟩
  | .hbm, ⟨37, _⟩ => ⟨S1x512x384, .f32⟩
  | .hbm, ⟨38, _⟩ => ⟨S_, .f32⟩
  | .hbm, ⟨39, _⟩ => ⟨S1x512x384, .f32⟩
  | .hbm, ⟨40, _⟩ => ⟨S1x512x384, .f32⟩
  | .hbm, ⟨41, _⟩ => ⟨S1x512x384, .f32⟩
  | .hbm, ⟨42, _⟩ => ⟨S_, .f32⟩
  | .hbm, ⟨43, _⟩ => ⟨S1x512x384, .f32⟩
  | .hbm, ⟨44, _⟩ => ⟨S1x512x384, .f32⟩
  | _, _ => ⟨S1x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamKv.lean ====
abbrev S1x512x512 : Shape := ⟨3, ![1, 512, 512]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S1x256x512 : Shape := ⟨3, ![1, 256, 512]⟩
abbrev S3x256x512 : Shape := ⟨3, ![3, 256, 512]⟩
abbrev S256x512 : Shape := ⟨2, ![256, 512]⟩

abbrev nBuf : Space → Nat
  | .hbm => 10
  | .vmem => 18
  | .smem => 1
  | _ => 0

abbrev bufTy : (tb : Table) → Fin (tcTables nBuf tb) → BufTy
  | .hbm, ⟨0, _⟩ => ⟨S1x512x512, .f32⟩
  | .hbm, ⟨1, _⟩ => ⟨S1x512x512, .f32⟩
  | .hbm, ⟨2, _⟩ => ⟨S1x512x512, .f32⟩
  | .hbm, ⟨3, _⟩ => ⟨S4x512x512, .bf16⟩
  | .hbm, ⟨4, _⟩ => ⟨S3x512x512, .bf16⟩
  | .hbm, ⟨5, _⟩ => ⟨S_, .i32⟩
  | .hbm, ⟨6, _⟩ => ⟨S1x512x512, .f32⟩
  | .hbm, ⟨7, _⟩ => ⟨S1x512x512, .f32⟩
  | .hbm, ⟨8, _⟩ => ⟨S1x512x512, .f32⟩
  | .hbm, ⟨9, _⟩ => ⟨S1x512x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .bf16⟩
  | .local _ .vmem, ⟨7, _⟩ => ⟨S1x256x512, .bf16⟩
  | .local _ .vmem, ⟨8, _⟩ => ⟨S3x256x512, .bf16⟩
  | .local _ .vmem, ⟨9, _⟩ => ⟨S3x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamKvReferenceIdeal.lean ====
abbrev S1x512x512 : Shape := ⟨3, ![1, 512, 512]⟩
abbrev S4x512x512 : Shape := ⟨3, ![4, 512, 512]⟩
abbrev S3x512x512 : Shape := ⟨3, ![3, 512, 512]⟩
abbrev S_ : Shape := ⟨0, ![]⟩
abbrev S512x512 : Shape := ⟨2, ![512, 512]⟩

abbrev nBuf : Space → Nat
  | .hbm => 45
  | .vmem => 0
  | .smem => 0
  | _ => 0

abbrev bufTy : (tb : Table) → Fin (tcTables nBuf tb) → BufTy
  | .hbm, ⟨0, _⟩ => ⟨S1x512x512, .f32⟩
  | .hbm, ⟨1, _⟩ => ⟨S1x512x512, .f32⟩
  | .hbm, ⟨2, _⟩ => ⟨S1x512x512, .f32⟩
  | .hbm, ⟨3, _⟩ => ⟨S4x512x512, .bf16⟩
  | .hbm, ⟨4, _⟩ => ⟨S3x512x512, .bf16⟩
  | .hbm, ⟨5, _⟩ => ⟨S1x512x512, .bf16⟩
  | .hbm, ⟨6, _⟩ => ⟨S1x512x512, .f32⟩
  | .hbm, ⟨7, _⟩ => ⟨S3x512x512, .f32⟩
  | .hbm, ⟨8, _⟩ => ⟨S_, .f32⟩
  | .hbm, ⟨9, _⟩ => ⟨S512x512, .f32⟩
  | .hbm, ⟨10, _⟩ => ⟨S1x512x512, .f32⟩
  | .hbm, ⟨11, _⟩ => ⟨S1x512x512, .f32⟩
  | .hbm, ⟨12, _⟩ => ⟨S_, .f32⟩
  | .hbm, ⟨13, _⟩ => ⟨S1x512x512, .f32⟩
  | .hbm, ⟨14, _⟩ => ⟨S1x512x512, .f32⟩
  | .hbm, ⟨15, _⟩ => ⟨S_, .f32⟩
  | .hbm, ⟨16, _⟩ => ⟨S1x512x512, .f32⟩
  | .hbm, ⟨17, _⟩ => ⟨S1x512x512, .f32⟩
  | .hbm, ⟨18, _⟩ => ⟨S1x512x512, .f32⟩
  | .hbm, ⟨19, _⟩ => ⟨S_, .f32⟩
  | .hbm, ⟨20, _⟩ => ⟨S1x512x512, .f32⟩
  | .hbm, ⟨21, _⟩ => ⟨S1x512x512, .f32⟩
  | .hbm, ⟨22, _⟩ => ⟨S1x512x512, .f32⟩
  | .hbm, ⟨23, _⟩ => ⟨S_, .f32⟩
  | .hbm, ⟨24, _⟩ => ⟨S1x512x512, .f32⟩
  | .hbm, ⟨25, _⟩ => ⟨S1x512x512, .f32⟩
  | .hbm, ⟨26, _⟩ => ⟨S1x512x512, .f32⟩
  | .hbm, ⟨27, _⟩ => ⟨S_, .f32⟩
  | .hbm, ⟨28, _⟩ => ⟨S1x512x512, .f32⟩
  | .hbm, ⟨29, _⟩ => ⟨S1x512x512, .f32⟩
  | .hbm, ⟨30, _⟩ => ⟨S_, .f32⟩
  | .hbm, ⟨31, _⟩ => ⟨S1x512x512, .f32⟩
  | .hbm, ⟨32, _⟩ => ⟨S1x512x512, .f32⟩
  | .hbm, ⟨33, _⟩ => ⟨S1x512x512, .f32⟩
  | .hbm, ⟨34, _⟩ => ⟨S_, .f32⟩
  | .hbm, ⟨35, _⟩ => ⟨S1x512x512, .f32⟩
  | .hbm, ⟨36, _⟩ => ⟨S1x512x512, .f32⟩
  | .hbm, ⟨37, _⟩ => ⟨S1x512x512, .f32⟩
  | .hbm, ⟨38, _⟩ => ⟨S_, .f32⟩
  | .hbm, ⟨39, _⟩ => ⟨S1x512x512, .f32⟩
  | .hbm, ⟨40, _⟩ => ⟨S1x512x512, .f32⟩
  | .hbm, ⟨41, _⟩ => ⟨S1x512x512, .f32⟩
  | .hbm, ⟨42, _⟩ => ⟨S_, .f32⟩
  | .hbm, ⟨43, _⟩ => ⟨S1x512x512, .f32⟩
  | .hbm, ⟨44, _⟩ => ⟨S1x512x512, .f32⟩
  | _, _ => ⟨S1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamMla.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S256x2048 : Shape := ⟨2, ![256, 2048]⟩

abbrev nBuf : Space → Nat
  | .hbm => 10
  | .vmem => 9
  | .smem => 1
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S_, .i32⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .bf16⟩
  | .local _ .vmem, ⟨4, _⟩ => ⟨S3x256x2048, .bf16⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .smem, ⟨0, _⟩ => ⟨S1, .i32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamMlaReferenceIdeal.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S_ : Shape := ⟨0, ![]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S1x256x2048, .bf16⟩
  | .hbm, ⟨6, _⟩ => ⟨S1x256x2048, .f32⟩
  | .hbm, ⟨7, _⟩ => ⟨S3x256x2048, .f32⟩
  | .hbm, ⟨8, _⟩ => ⟨S_, .f32⟩
  | .hbm, ⟨9, _⟩ => ⟨S256x2048, .f32⟩
  | .hbm, ⟨10, _⟩ => ⟨S1x256x2048, .f32⟩
  | .hbm, ⟨11, _⟩ => ⟨S1x256x2048, .f32⟩
  | .hbm, ⟨12, _⟩ => ⟨S_, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S1x256x2048, .f32⟩
  | .hbm, ⟨27, _⟩ => ⟨S_, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | .hbm, ⟨41, _⟩ => ⟨S1x256x2048, .f32⟩
  | .hbm, ⟨42, _⟩ => ⟨S_, .f32⟩
  | .hbm, ⟨43, _⟩ => ⟨S1x256x2048, .f32⟩
  | .hbm, ⟨44, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamOut.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S256x2048 : Shape := ⟨2, ![256, 2048]⟩

abbrev nBuf : Space → Nat
  | .hbm => 10
  | .vmem => 9
  | .smem => 1
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S_, .i32⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .bf16⟩
  | .local _ .vmem, ⟨4, _⟩ => ⟨S3x256x2048, .bf16⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .smem, ⟨0, _⟩ => ⟨S1, .i32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamOutReferenceIdeal.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S_ : Shape := ⟨0, ![]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S1x256x2048, .bf16⟩
  | .hbm, ⟨6, _⟩ => ⟨S1x256x2048, .f32⟩
  | .hbm, ⟨7, _⟩ => ⟨S3x256x2048, .f32⟩
  | .hbm, ⟨8, _⟩ => ⟨S_, .f32⟩
  | .hbm, ⟨9, _⟩ => ⟨S256x2048, .f32⟩
  | .hbm, ⟨10, _⟩ => ⟨S1x256x2048, .f32⟩
  | .hbm, ⟨11, _⟩ => ⟨S1x256x2048, .f32⟩
  | .hbm, ⟨12, _⟩ => ⟨S_, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S1x256x2048, .f32⟩
  | .hbm, ⟨27, _⟩ => ⟨S_, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | .hbm, ⟨41, _⟩ => ⟨S1x256x2048, .f32⟩
  | .hbm, ⟨42, _⟩ => ⟨S_, .f32⟩
  | .hbm, ⟨43, _⟩ => ⟨S1x256x2048, .f32⟩
  | .hbm, ⟨44, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamUp.lean ====
abbrev S1x2048x1024 : Shape := ⟨3, ![1, 2048, 1024]⟩
abbrev S4x2048x1024 : Shape := ⟨3, ![4, 2048, 1024]⟩
abbrev S3x2048x1024 : Shape := ⟨3, ![3, 2048, 1024]⟩
abbrev S_ : Shape := ⟨0, ![]⟩
abbrev S1 : Shape := ⟨1, ![1]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S4x2048x1024, .bf16⟩
  | .hbm, ⟨4, _⟩ => ⟨S3x2048x1024, .bf16⟩
  | .hbm, ⟨5, _⟩ => ⟨S_, .i32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S3x256x1024, .bf16⟩
  | .local _ .vmem, ⟨9, _⟩ => ⟨S3x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpReferenceIdeal.lean ====
abbrev S1x2048x1024 : Shape := ⟨3, ![1, 2048, 1024]⟩
abbrev S4x2048x1024 : Shape := ⟨3, ![4, 2048, 1024]⟩
abbrev S3x2048x1024 : Shape := ⟨3, ![3, 2048, 1024]⟩
abbrev S_ : Shape := ⟨0, ![]⟩
abbrev S2048x1024 : Shape := ⟨2, ![2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S4x2048x1024, .bf16⟩
  | .hbm, ⟨4, _⟩ => ⟨S3x2048x1024, .bf16⟩
  | .hbm, ⟨5, _⟩ => ⟨S1x2048x1024, .bf16⟩
  | .hbm, ⟨6, _⟩ => ⟨S1x2048x1024, .f32⟩
  | .hbm, ⟨7, _⟩ => ⟨S3x2048x1024, .f32⟩
  | .hbm, ⟨8, _⟩ => ⟨S_, .f32⟩
  | .hbm, ⟨9, _⟩ => ⟨S2048x1024, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S_, .f32⟩
  | .hbm, ⟨43, _⟩ => ⟨S1x2048x1024, .f32⟩
  | .hbm, ⟨44, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamDown.lean ====
abbrev S1x1024x2048 : Shape := ⟨3, ![1, 1024, 2048]⟩
abbrev S4x1024x2048 : Shape := ⟨3, ![4, 1024, 2048]⟩
abbrev S3x1024x2048 : Shape := ⟨3, ![3, 1024, 2048]⟩
abbrev S_ : Shape := ⟨0, ![]⟩
abbrev S1 : Shape := ⟨1, ![1]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 10
  | .vmem => 18
  | .smem => 1
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S4x1024x2048, .bf16⟩
  | .hbm, ⟨4, _⟩ => ⟨S3x1024x2048, .bf16⟩
  | .hbm, ⟨5, _⟩ => ⟨S_, .i32⟩
  | .hbm, ⟨6, _⟩ => ⟨S1x1024x2048, .f32⟩
  | .hbm, ⟨7, _⟩ => ⟨S1x1024x2048, .f32⟩
  | .hbm, ⟨8, _⟩ => ⟨S1x1024x2048, .f32⟩
  | .hbm, ⟨9, _⟩ => ⟨S1x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .bf16⟩
  | .local _ .vmem, ⟨7, _⟩ => ⟨S1x256x2048, .bf16⟩
  | .local _ .vmem, ⟨8, _⟩ => ⟨S3x256x2048, .bf16⟩
  | .local _ .vmem, ⟨9, _⟩ => ⟨S3x256x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownReferenceIdeal.lean ====
abbrev S1x1024x2048 : Shape := ⟨3, ![1, 1024, 2048]⟩
abbrev S4x1024x2048 : Shape := ⟨3, ![4, 1024, 2048]⟩
abbrev S3x1024x2048 : Shape := ⟨3, ![3, 1024, 2048]⟩
abbrev S_ : Shape := ⟨0, ![]⟩
abbrev S1024x2048 : Shape := ⟨2, ![1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S4x1024x2048, .bf16⟩
  | .hbm, ⟨4, _⟩ => ⟨S3x1024x2048, .bf16⟩
  | .hbm, ⟨5, _⟩ => ⟨S1x1024x2048, .bf16⟩
  | .hbm, ⟨6, _⟩ => ⟨S1x1024x2048, .f32⟩
  | .hbm, ⟨7, _⟩ => ⟨S3x1024x2048, .f32⟩
  | .hbm, ⟨8, _⟩ => ⟨S_, .f32⟩
  | .hbm, ⟨9, _⟩ => ⟨S1024x2048, .f32⟩
  | .hbm, ⟨10, _⟩ => ⟨S1x1024x2048, .f32⟩
  | .hbm, ⟨11, _⟩ => ⟨S1x1024x2048, .f32⟩
  | .hbm, ⟨12, _⟩ => ⟨S_, .f32⟩
  | .hbm, ⟨13, _⟩ => ⟨S1x1024x2048, .f32⟩
  | .hbm, ⟨14, _⟩ => ⟨S1x1024x2048, .f32⟩
  | .hbm, ⟨15, _⟩ => ⟨S_, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S1x1024x2048, .f32⟩
  | .hbm, ⟨23, _⟩ => ⟨S_, .f32⟩
  | .hbm, ⟨24, _⟩ => ⟨S1x1024x2048, .f32⟩
  | .hbm, ⟨25, _⟩ => ⟨S1x1024x2048, .f32⟩
  | .hbm, ⟨26, _⟩ => ⟨S1x1024x2048, .f32⟩
  | .hbm, ⟨27, _⟩ => ⟨S_, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1024x2048, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | .hbm, ⟨37, _⟩ => ⟨S1x1024x2048, .f32⟩
  | .hbm, ⟨38, _⟩ => ⟨S_, .f32⟩
  | .hbm, ⟨39, _⟩ => ⟨S1x1024x2048, .f32⟩
  | .hbm, ⟨40, _⟩ => ⟨S1x1024x2048, .f32⟩
  | .hbm, ⟨41, _⟩ => ⟨S1x1024x2048, .f32⟩
  | .hbm, ⟨42, _⟩ => ⟨S_, .f32⟩
  | .hbm, ⟨43, _⟩ => ⟨S1x1024x2048, .f32⟩
  | .hbm, ⟨44, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== MixBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MlpBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== QLatent.lean ====
abbrev S4096x11520 : Shape := ⟨2, ![4096, 11520]⟩
abbrev S4096x512 : Shape := ⟨2, ![4096, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 6
  | .vmem => 8
  | .smem => 0
  | _ => 0

abbrev bufTy : (tb : Table) → Fin (tcTables nBuf tb) → BufTy
  | .hbm, ⟨0, _⟩ => ⟨S4096x11520, .f32⟩
  | .hbm, ⟨1, _⟩ => ⟨S4096x512, .f32⟩
  | .hbm, ⟨2, _⟩ => ⟨S1x512, .f32⟩
  | .hbm, ⟨3, _⟩ => ⟨S4096x11520, .bf16⟩
  | .hbm, ⟨4, _⟩ => ⟨S4096x11520, .bf16⟩
  | .hbm, ⟨5, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S1x512, .f32⟩
  | _, _ => ⟨S4096x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QLatentReferenceIdeal.lean ====
abbrev S4096x11520 : Shape := ⟨2, ![4096, 11520]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩
abbrev S4096x4096 : Shape := ⟨2, ![4096, 4096]⟩
abbrev S4096x6912 : Shape := ⟨2, ![4096, 6912]⟩

abbrev nBuf : Space → Nat
  | .hbm => 51
  | .vmem => 0
  | .smem => 0
  | _ => 0

abbrev bufTy : (tb : Table) → Fin (tcTables nBuf tb) → BufTy
  | .hbm, ⟨0, _⟩ => ⟨S4096x11520, .f32⟩
  | .hbm, ⟨1, _⟩ => ⟨S4096x512, .f32⟩
  | .hbm, ⟨2, _⟩ => ⟨S1x512, .f32⟩
  | .hbm, ⟨3, _⟩ => ⟨S4096x11520, .bf16⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x4096, .bf16⟩
  | .hbm, ⟨48, _⟩ => ⟨S4096x512, .bf16⟩
  | .hbm, ⟨49, _⟩ => ⟨S4096x6912, .bf16⟩
  | .hbm, ⟨50, _⟩ => ⟨S4096x11520, .bf16⟩
  | _, _ => ⟨S4096x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== KvLatent.lean ====
abbrev S4096x11520 : Shape := ⟨2, ![4096, 11520]⟩
abbrev S4096x512 : Shape := ⟨2, ![4096, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 6
  | .vmem => 8
  | .smem => 0
  | _ => 0

abbrev bufTy : (tb : Table) → Fin (tcTables nBuf tb) → BufTy
  | .hbm, ⟨0, _⟩ => ⟨S4096x11520, .f32⟩
  | .hbm, ⟨1, _⟩ => ⟨S4096x512, .f32⟩
  | .hbm, ⟨2, _⟩ => ⟨S1x512, .f32⟩
  | .hbm, ⟨3, _⟩ => ⟨S4096x11520, .bf16⟩
  | .hbm, ⟨4, _⟩ => ⟨S4096x11520, .bf16⟩
  | .hbm, ⟨5, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S1x512, .f32⟩
  | _, _ => ⟨S4096x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvLatentReferenceIdeal.lean ====
abbrev S4096x11520 : Shape := ⟨2, ![4096, 11520]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩
abbrev S4096x10752 : Shape := ⟨2, ![4096, 10752]⟩
abbrev S4096x256 : Shape := ⟨2, ![4096, 256]⟩

abbrev nBuf : Space → Nat
  | .hbm => 51
  | .vmem => 0
  | .smem => 0
  | _ => 0

abbrev bufTy : (tb : Table) → Fin (tcTables nBuf tb) → BufTy
  | .hbm, ⟨0, _⟩ => ⟨S4096x11520, .f32⟩
  | .hbm, ⟨1, _⟩ => ⟨S4096x512, .f32⟩
  | .hbm, ⟨2, _⟩ => ⟨S1x512, .f32⟩
  | .hbm, ⟨3, _⟩ => ⟨S4096x11520, .bf16⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x10752, .bf16⟩
  | .hbm, ⟨48, _⟩ => ⟨S4096x512, .bf16⟩
  | .hbm, ⟨49, _⟩ => ⟨S4096x256, .bf16⟩
  | .hbm, ⟨50, _⟩ => ⟨S4096x11520, .bf16⟩
  | _, _ => ⟨S4096x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .bf16⟩
  | .hbm, ⟨71, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Mix.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Prep.lean ====
abbrev S4096x11520 : Shape := ⟨2, ![4096, 11520]⟩
abbrev S4096 : Shape := ⟨1, ![4096]⟩
abbrev S1x512 : Shape := ⟨2, ![1, 512]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x512 : Shape := ⟨2, ![4096, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 31
  | .vmem => 20
  | .smem => 0
  | _ => 0

abbrev bufTy : (tb : Table) → Fin (tcTables nBuf tb) → BufTy
  | .hbm, ⟨0, _⟩ => ⟨S4096x11520, .f32⟩
  | .hbm, ⟨1, _⟩ => ⟨S4096, .i32⟩
  | .hbm, ⟨2, _⟩ => ⟨S1x512, .f32⟩
  | .hbm, ⟨3, _⟩ => ⟨S1x512, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S_, .f32⟩
  | .hbm, ⟨21, _⟩ => ⟨S4096x32, .f32⟩
  | .hbm, ⟨22, _⟩ => ⟨S_, .f32⟩
  | .hbm, ⟨23, _⟩ => ⟨S4096x64, .f32⟩
  | .hbm, ⟨24, _⟩ => ⟨S4096x128, .f32⟩
  | .hbm, ⟨25, _⟩ => ⟨S4096x32, .f32⟩
  | .hbm, ⟨26, _⟩ => ⟨S4096x128, .f32⟩
  | .hbm, ⟨27, _⟩ => ⟨S4096x128, .f32⟩
  | .hbm, ⟨28, _⟩ => ⟨S4096x512, .bf16⟩
  | .hbm, ⟨29, _⟩ => ⟨S4096x512, .bf16⟩
  | .hbm, ⟨30, _⟩ => ⟨S4096x128, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S1x512, .f32⟩
  | .local _ .vmem, ⟨7, _⟩ => ⟨S1x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x128, .bf16⟩
  | .local _ .vmem, ⟨19, _⟩ => ⟨S256x128, .bf16⟩
  | _, _ => ⟨S4096x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_2 (i : grid0.Coords) : Fin 2 → Nat :=
  let arg0 : BitVec 32 := BitVec.ofNat 32 (i 0).val
  let c88_i32 : BitVec 32 := 88#32
  let c0_i32 : BitVec 32 := 0#32
  ![arg0.toNat, c88_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepReferenceIdeal.lean ====
abbrev S4096x11520 : Shape := ⟨2, ![4096, 11520]⟩
abbrev S4096 : Shape := ⟨1, ![4096]⟩
abbrev S1x512 : Shape := ⟨2, ![1, 512]⟩
abbrev S4096x512 : Shape := ⟨2, ![4096, 512]⟩
abbrev S4096x64 : Shape := ⟨2, ![4096, 64]⟩
abbrev S4096x1x64 : Shape := ⟨3, ![4096, 1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x128 : Shape := ⟨2, ![4096, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x11520, .f32⟩
  | .hbm, ⟨1, _⟩ => ⟨S4096, .i32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S4096x64, .f32⟩
  | .hbm, ⟨7, _⟩ => ⟨S4096x1x64, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x1x32, .f32⟩
  | .hbm, ⟨24, _⟩ => ⟨S4096x32, .f32⟩
  | .hbm, ⟨25, _⟩ => ⟨S4096x1x32, .f32⟩
  | .hbm, ⟨26, _⟩ => ⟨S4096x1x32, .f32⟩
  | .hbm, ⟨27, _⟩ => ⟨S4096x1x32, .f32⟩
  | .hbm, ⟨28, _⟩ => ⟨S4096x1x32, .f32⟩
  | .hbm, ⟨29, _⟩ => ⟨S4096x1x32, .f32⟩
  | .hbm, ⟨30, _⟩ => ⟨S4096x1x32, .f32⟩
  | .hbm, ⟨31, _⟩ => ⟨S4096x1x32, .f32⟩
  | .hbm, ⟨32, _⟩ => ⟨S4096x1x32, .f32⟩
  | .hbm, ⟨33, _⟩ => ⟨S4096x1x32, .f32⟩
  | .hbm, ⟨34, _⟩ => ⟨S4096x1x64, .f32⟩
  | .hbm, ⟨35, _⟩ => ⟨S4096x64, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .bf16⟩
  | .hbm, ⟨52, _⟩ => ⟨S4096x512, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .bf16⟩
  | .hbm, ⟨68, _⟩ => ⟨S_, .i32⟩
  | .hbm, ⟨69, _⟩ => ⟨S_, .f32⟩
  | .hbm, ⟨70, _⟩ => ⟨S4096x128, .f32⟩
  | .hbm, ⟨71, _⟩ => ⟨S4096x128, .bf16⟩
  | _, _ => ⟨S4096x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_call0_v0 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Delta.lean ====
abbrev S4096x2048 : Shape := ⟨2, ![4096, 2048]⟩
abbrev S16x1x4096 : Shape := ⟨3, ![16, 1, 4096]⟩
abbrev S512x2048 : Shape := ⟨2, ![512, 2048]⟩
abbrev S16x1x512 : Shape := ⟨3, ![16, 1, 512]⟩
abbrev S512x128 : Shape := ⟨2, ![512, 128]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S16x1x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S16x1x512, .f32⟩
  | .local _ .vmem, ⟨5, _⟩ => ⟨S16x1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaReferenceIdeal.lean ====
abbrev S4096x2048 : Shape := ⟨2, ![4096, 2048]⟩
abbrev S4096x16x128 : Shape := ⟨3, ![4096, 16, 128]⟩
abbrev S_ : Shape := ⟨0, ![]⟩
abbrev S4096x16 : Shape := ⟨2, ![4096, 16]⟩
abbrev S16x4096 : Shape := ⟨2, ![16, 4096]⟩
abbrev S16x1x4096 : Shape := ⟨3, ![16, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S4096x16x128, .f32⟩
  | .hbm, ⟨5, _⟩ => ⟨S_, .f32⟩
  | .hbm, ⟨6, _⟩ => ⟨S4096x16, .f32⟩
  | .hbm, ⟨7, _⟩ => ⟨S16x4096, .f32⟩
  | .hbm, ⟨8, _⟩ => ⟨S16x1x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvUp.lean ====
abbrev S4096x512 : Shape := ⟨2, ![4096, 512]⟩
abbrev S8x512x512 : Shape := ⟨3, ![8, 512, 512]⟩
abbrev S4096x128 : Shape := ⟨2, ![4096, 128]⟩
abbrev S4096x4096 : Shape := ⟨2, ![4096, 4096]⟩
abbrev S1024x512 : Shape := ⟨2, ![1024, 512]⟩
abbrev S1x512x512 : Shape := ⟨3, ![1, 512, 512]⟩
abbrev S1024x128 : Shape := ⟨2, ![1024, 128]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S8x512x512, .bf16⟩
  | .hbm, ⟨2, _⟩ => ⟨S4096x128, .bf16⟩
  | .hbm, ⟨3, _⟩ => ⟨S4096x4096, .bf16⟩
  | .hbm, ⟨4, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvUpReferenceIdeal.lean ====
abbrev S4096x512 : Shape := ⟨2, ![4096, 512]⟩
abbrev S8x512x512 : Shape := ⟨3, ![8, 512, 512]⟩
abbrev S4096x128 : Shape := ⟨2, ![4096, 128]⟩
abbrev S512x8x512 : Shape := ⟨3, ![512, 8, 512]⟩
abbrev S512x4096 : Shape := ⟨2, ![512, 4096]⟩
abbrev S4096x4096 : Shape := ⟨2, ![4096, 4096]⟩
abbrev S4096x16x256 : Shape := ⟨3, ![4096, 16, 256]⟩
abbrev S4096x16x128 : Shape := ⟨3, ![4096, 16, 128]⟩
abbrev S4096x1x128 : Shape := ⟨3, ![4096, 1, 128]⟩

abbrev nBuf : Space → Nat
  | .hbm => 17
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S8x512x512, .bf16⟩
  | .hbm, ⟨2, _⟩ => ⟨S4096x128, .bf16⟩
  | .hbm, ⟨3, _⟩ => ⟨S4096x512, .f32⟩
  | .hbm, ⟨4, _⟩ => ⟨S8x512x512, .f32⟩
  | .hbm, ⟨5, _⟩ => ⟨S512x8x512, .f32⟩
  | .hbm, ⟨6, _⟩ => ⟨S512x4096, .f32⟩
  | .hbm, ⟨7, _⟩ => ⟨S4096x4096, .f32⟩
  | .hbm, ⟨8, _⟩ => ⟨S4096x16x256, .f32⟩
  | .hbm, ⟨9, _⟩ => ⟨S4096x16x128, .f32⟩
  | .hbm, ⟨10, _⟩ => ⟨S4096x128, .f32⟩
  | .hbm, ⟨11, _⟩ => ⟨S4096x1x128, .f32⟩
  | .hbm, ⟨12, _⟩ => ⟨S4096x16x128, .f32⟩
  | .hbm, ⟨13, _⟩ => ⟨S4096x16x256, .f32⟩
  | .hbm, ⟨14, _⟩ => ⟨S4096x4096, .bf16⟩
  | .hbm, ⟨15, _⟩ => ⟨S4096x4096, .f32⟩
  | .hbm, ⟨16, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KeyGrad.lean ====
abbrev S4096x512 : Shape := ⟨2, ![4096, 512]⟩
abbrev S4096x11520 : Shape := ⟨2, ![4096, 11520]⟩
abbrev S256x512 : Shape := ⟨2, ![256, 512]⟩
abbrev S256x256 : Shape := ⟨2, ![256, 256]⟩
abbrev S256x128 : Shape := ⟨2, ![256, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .f32⟩
  | .hbm, ⟨1, _⟩ => ⟨S4096x11520, .bf16⟩
  | .hbm, ⟨2, _⟩ => ⟨S4096x11520, .bf16⟩
  | .local _ .vmem, ⟨0, _⟩ => ⟨S256x512, .f32⟩
  | .local _ .vmem, ⟨1, _⟩ => ⟨S256x512, .f32⟩
  | .local _ .vmem, ⟨2, _⟩ => ⟨S256x256, .bf16⟩
  | .local _ .vmem, ⟨3, _⟩ => ⟨S256x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KeyGradReferenceIdeal.lean ====
abbrev S4096x512 : Shape := ⟨2, ![4096, 512]⟩
abbrev S4096x11520 : Shape := ⟨2, ![4096, 11520]⟩
abbrev S4096x4x128 : Shape := ⟨3, ![4096, 4, 128]⟩
abbrev S_ : Shape := ⟨0, ![]⟩
abbrev S4096x128 : Shape := ⟨2, ![4096, 128]⟩
abbrev S4096x11264 : Shape := ⟨2, ![4096, 11264]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x11520, .bf16⟩
  | .hbm, ⟨2, _⟩ => ⟨S4096x4x128, .f32⟩
  | .hbm, ⟨3, _⟩ => ⟨S_, .f32⟩
  | .hbm, ⟨4, _⟩ => ⟨S4096x128, .f32⟩
  | .hbm, ⟨5, _⟩ => ⟨S4096x11264, .bf16⟩
  | .hbm, ⟨6, _⟩ => ⟨S4096x128, .bf16⟩
  | .hbm, ⟨7, _⟩ => ⟨S_, .bf16⟩
  | .hbm, ⟨8, _⟩ => ⟨S4096x128, .bf16⟩
  | .hbm, ⟨9, _⟩ => ⟨S4096x11520, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== QUp.lean ====
abbrev S4096x512 : Shape := ⟨2, ![4096, 512]⟩
abbrev S512x4096 : Shape := ⟨2, ![512, 4096]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x4096 : Shape := ⟨2, ![4096, 4096]⟩
abbrev S1024x512 : Shape := ⟨2, ![1024, 512]⟩
abbrev S512x1024 : Shape := ⟨2, ![512, 1024]⟩
abbrev S1024x128 : Shape := ⟨2, ![1024, 128]⟩
abbrev S1024x1024 : Shape := ⟨2, ![1024, 1024]⟩

abbrev nBuf : Space → Nat
  | .hbm => 28
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4096, .f32⟩
  | .hbm, ⟨12, _⟩ => ⟨S4096x1, .f32⟩
  | .hbm, ⟨13, _⟩ => ⟨S1x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S_, .f32⟩
  | .hbm, ⟨20, _⟩ => ⟨S4096x32, .f32⟩
  | .hbm, ⟨21, _⟩ => ⟨S_, .f32⟩
  | .hbm, ⟨22, _⟩ => ⟨S4096x64, .f32⟩
  | .hbm, ⟨23, _⟩ => ⟨S4096x128, .f32⟩
  | .hbm, ⟨24, _⟩ => ⟨S4096x32, .f32⟩
  | .hbm, ⟨25, _⟩ => ⟨S4096x128, .f32⟩
  | .hbm, ⟨26, _⟩ => ⟨S4096x128, .f32⟩
  | .hbm, ⟨27, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== QUpReferenceIdeal.lean ====
abbrev S4096x512 : Shape := ⟨2, ![4096, 512]⟩
abbrev S512x4096 : Shape := ⟨2, ![512, 4096]⟩
abbrev S4096 : Shape := ⟨1, ![4096]⟩
abbrev S4096x4096 : Shape := ⟨2, ![4096, 4096]⟩
abbrev S4096x16x256 : Shape := ⟨3, ![4096, 16, 256]⟩
abbrev S4096x16x64 : Shape := ⟨3, ![4096, 16, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x32 : Shape := ⟨3, ![4096, 16, 32]⟩
abbrev S4096x16x128 : Shape := ⟨3, ![4096, 16, 128]⟩

abbrev nBuf : Space → Nat
  | .hbm => 48
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096, .i32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x16x256, .f32⟩
  | .hbm, ⟨7, _⟩ => ⟨S4096x16x64, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x1x32, .f32⟩
  | .hbm, ⟨24, _⟩ => ⟨S4096x32, .f32⟩
  | .hbm, ⟨25, _⟩ => ⟨S4096x1x32, .f32⟩
  | .hbm, ⟨26, _⟩ => ⟨S4096x16x32, .f32⟩
  | .hbm, ⟨27, _⟩ => ⟨S4096x16x32, .f32⟩
  | .hbm, ⟨28, _⟩ => ⟨S4096x16x32, .f32⟩
  | .hbm, ⟨29, _⟩ => ⟨S4096x16x32, .f32⟩
  | .hbm, ⟨30, _⟩ => ⟨S4096x16x32, .f32⟩
  | .hbm, ⟨31, _⟩ => ⟨S4096x16x32, .f32⟩
  | .hbm, ⟨32, _⟩ => ⟨S4096x16x32, .f32⟩
  | .hbm, ⟨33, _⟩ => ⟨S4096x16x32, .f32⟩
  | .hbm, ⟨34, _⟩ => ⟨S4096x16x32, .f32⟩
  | .hbm, ⟨35, _⟩ => ⟨S4096x16x32, .f32⟩
  | .hbm, ⟨36, _⟩ => ⟨S4096x16x32, .f32⟩
  | .hbm, ⟨37, _⟩ => ⟨S4096x16x32, .f32⟩
  | .hbm, ⟨38, _⟩ => ⟨S4096x16x64, .f32⟩
  | .hbm, ⟨39, _⟩ => ⟨S4096x16x128, .f32⟩
  | .hbm, ⟨40, _⟩ => ⟨S_, .f32⟩
  | .hbm, ⟨41, _⟩ => ⟨S4096x16x64, .f32⟩
  | .hbm, ⟨42, _⟩ => ⟨S4096x16x256, .f32⟩
  | .hbm, ⟨43, _⟩ => ⟨S_, .f32⟩
  | .hbm, ⟨44, _⟩ => ⟨S4096x16x256, .f32⟩
  | .hbm, ⟨45, _⟩ => ⟨S4096x16x256, .f32⟩
  | .hbm, ⟨46, _⟩ => ⟨S4096x4096, .f32⟩
  | .hbm, ⟨47, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Proof.Frames.lean ====
/- The frames: each program runs to its end without a fault, leaves its arguments as they were, and every semaphore
   counter reads zero again. For the kernel this is the generated frame run; the reference is a list of host operations. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite

@[expose] public section

noncomputable section

namespace Cert.Proof

open Idealize.ShloMosaic Idealize.SL.Sem

/-- The kernel as printed, on bit patterns. -/
theorem frame_k : Cert.quiescent_Kernel := fun m ρ _ => Cert.Kernel.Gen.frame m ρ

/-- The same program over the extended reals. -/
theorem frame_ki : Cert.quiescent_KernelIdeal := fun m ρ _ => Cert.KernelIdeal.Gen.frame m ρ

/-- The reference over the extended reals: its host run, read at the arguments; it declares no semaphore. -/
theorem frame_r : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The kernel's frame again, under the value claim's precondition. -/
theorem frame_ki_finite : Cert.quiescent_KernelIdeal_pre_finite := fun m ρ _ => frame_ki m ρ trivial

/-- The reference's frame again, under the value claim's precondition. -/
theorem frame_r_finite : Cert.quiescent_ReferenceIdeal_pre_finite := fun m ρ _ => frame_r m ρ trivial

end Cert.Proof

end
-- ==== Proof.Rows.lean ====
/- The parts of the layer that act on one row, over the real numbers: the normalisation of a head's 256
   values and its gradient (as the kernel writes it and as differentiation of mean and variance gives
   it), the gate, and the rotation of a head's 128 query or key values with its transpose. Then the
   words of the two programs' constants, and how the operations over the extended reals read on real
   numbers. -/
module

public import Idealize.ShloMosaic.Lib.Pointwise
public import Idealize.ShloMosaic.Lib.IdealHost
public import Mathlib.Analysis.SpecialFunctions.Exp
public import Mathlib.Algebra.BigOperators.Fin

@[expose] public section

noncomputable section

namespace Cert.Retention

open Idealize.ShloMosaic

/-! ## The constants -/

/-- The number the programs add to the variance. -/
def eps : ℝ := 8796093 * 2 ^ (-43 : ℤ)

/-- The number the programs scale a key by. -/
def scl : ℝ := 11863283 * 2 ^ (-27 : ℤ)

theorem eps_pos : 0 < eps := by unfold eps; positivity

theorem word_eps : Ideal.ofBits .f32 0x358637BD#32 = ((eps : ℝ) : EReal) := by
  unfold eps; simp [Ideal.ofBits, Ideal.ieee]

theorem word_scl : Ideal.ofBits .f32 0x3DB504F3#32 = ((scl : ℝ) : EReal) := by
  unfold scl; simp [Ideal.ofBits, Ideal.ieee]

theorem word_zero : Ideal.ofBits .f32 0x00000000#32 = 0 := by
  simp [Ideal.ofBits, Ideal.ieee]

theorem word_256 : Ideal.ofBits .f32 0x43800000#32 = ((256 : ℝ) : EReal) := by
  simp [Ideal.ofBits, Ideal.ieee]; norm_cast; norm_num

theorem word_511 : Ideal.ofBits .f32 0x43FF8000#32 = ((511 : ℝ) : EReal) := by
  simp [Ideal.ofBits, Ideal.ieee]; norm_cast; norm_num

theorem word_512 : Ideal.ofBits .f32 0x44000000#32 = ((512 : ℝ) : EReal) := by
  simp [Ideal.ofBits, Ideal.ieee]; norm_cast; norm_num

theorem word_64 : Ideal.ofBits .f32 0x42800000#32 = ((64 : ℝ) : EReal) := by
  simp [Ideal.ofBits, Ideal.ieee]; norm_cast; norm_num

theorem word_10000 : Ideal.ofBits .f32 0x461C4000#32 = ((10000 : ℝ) : EReal) := by
  simp [Ideal.ofBits, Ideal.ieee]; norm_cast; norm_num

theorem word_2 : Ideal.ofBits .f32 0x40000000#32 = ((2 : ℝ) : EReal) := by
  simp [Ideal.ofBits, Ideal.ieee]; norm_cast; norm_num

theorem word_neg5 : Ideal.ofBits .f32 0xC0A00000#32 = ((-5 : ℝ) : EReal) := by
  simp [Ideal.ofBits, Ideal.ieee]; norm_cast; norm_num

theorem word_neghalf : Ideal.ofBits .f32 0xBF000000#32 = ((-(1 / 2) : ℝ) : EReal) := by
  simp [Ideal.ofBits, Ideal.ieee]; norm_cast; norm_num

/-! ## Operations over the extended reals on real numbers -/

/-- A finite sum of real numbers, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (a : ℝ) {b : ℝ} (hb : b ≠ 0) : Ideal.div (a : EReal) (b : EReal) = ((a / b : ℝ) : EReal) := by
  rw [Ideal.div_coe hb, ← EReal.coe_mul]; congr 1; ring

theorem div_256 (a : ℝ) : Ideal.div (a : EReal) ((256 : ℝ) : EReal) = ((a / 256 : ℝ) : EReal) := div_real a (by norm_num)

theorem div_64 (a : ℝ) : Ideal.div (a : EReal) ((64 : ℝ) : EReal) = ((a / 64 : ℝ) : EReal) := div_real a (by norm_num)

/-! ## The normalisation of a row -/

/-- The mean of a row. -/
def mean (x : Fin 256 → ℝ) : ℝ := (∑ e, x e) / 256

/-- A row less its mean. -/
def dlt (x : Fin 256 → ℝ) (e : Fin 256) : ℝ := x e - mean x

/-- The variance of a row, with the constant that keeps it from zero. -/
def vare (x : Fin 256 → ℝ) : ℝ := (∑ e, dlt x e * dlt x e) / 256 + eps

theorem vare_pos (x : Fin 256 → ℝ) : 0 < vare x := by
  have h : 0 ≤ ∑ e, dlt x e * dlt x e := Finset.sum_nonneg fun e _ => mul_self_nonneg _
  have := eps_pos
  unfold vare; positivity

/-- The reciprocal standard deviation. -/
def rstd (x : Fin 256 → ℝ) : ℝ := (Real.sqrt (vare x))⁻¹

theorem rsqrt_vare (x : Fin 256 → ℝ) : Ideal.rsqrt ((vare x : ℝ) : EReal) = ((rstd x : ℝ) : EReal) := by
  have h := vare_pos x
  rw [Ideal.rsqrt_coe, if_neg (not_lt.mpr h.le), if_neg h.ne', rstd]

theorem div_vare (a : ℝ) (x : Fin 256 → ℝ) : Ideal.div (a : EReal) ((vare x : ℝ) : EReal) = ((a / vare x : ℝ) : EReal) :=
  div_real a (vare_pos x).ne'

/-- The normalised row. -/
def hat (x : Fin 256 → ℝ) (e : Fin 256) : ℝ := dlt x e * rstd x

/-- The gradient of a row through its normalisation, as the kernel writes it. -/
def dnorm (x y : Fin 256 → ℝ) (e : Fin 256) : ℝ :=
  rstd x * (y e - (∑ e', y e') / 256 - hat x e * ((∑ e', y e' * hat x e') / 256))

/-- The factor that the gradient of the variance brings. -/
def dvar (x y : Fin 256 → ℝ) : ℝ := ((∑ e, dlt x e * y e) * (-(1 / 2) * (rstd x / vare x))) / 256

theorem sum_dlt (x : Fin 256 → ℝ) : ∑ e, dlt x e = 0 := by
  simp only [dlt, mean, Finset.sum_sub_distrib, Finset.sum_const, Finset.card_univ, Fintype.card_fin, nsmul_eq_mul]
  push_cast; ring

/-- Differentiating mean and variance gives the kernel's gradient. -/
theorem dnorm_eq (x y : Fin 256 → ℝ) (e : Fin 256) :
    y e * rstd x + dvar x y * (2 * dlt x e)
      + ((∑ e', -(y e' * rstd x)) + ∑ e', -(dvar x y * (2 * dlt x e'))) / 256 = dnorm x y e := by
  have h1 : ∑ e', -(dvar x y * (2 * dlt x e')) = 0 := by
    rw [Finset.sum_neg_distrib, ← Finset.mul_sum, ← Finset.mul_sum, sum_dlt]; ring
  have h2 : ∑ e', -(y e' * rstd x) = -((∑ e', y e') * rstd x) := by
    rw [Finset.sum_neg_distrib, ← Finset.sum_mul]
  have h3 : ∑ e', y e' * hat x e' = (∑ e', dlt x e' * y e') * rstd x := by
    rw [Finset.sum_mul]; exact Finset.sum_congr rfl fun _ _ => by unfold hat; ring
  have h4 : rstd x / vare x = rstd x * (rstd x * rstd x) := by
    have h := vare_pos x
    have hs : Real.sqrt (vare x) * Real.sqrt (vare x) = vare x := Real.mul_self_sqrt h.le
    have h0 : Real.sqrt (vare x) ≠ 0 := (Real.sqrt_pos.mpr h).ne'
    unfold rstd
    field_simp
    rw [pow_two, hs]
  rw [h1, h2, dnorm, h3, dvar, h4, hat]
  ring

/-! ## The gate -/

/-- The logistic function. -/
def sgm (x : ℝ) : ℝ := 1 / (1 + Real.exp (-x))

theorem div_sig (x : ℝ) : Ideal.div ((1 : ℝ) : EReal) ((1 + Real.exp (-x) : ℝ) : EReal) = ((sgm x : ℝ) : EReal) :=
  div_real 1 (by positivity)

/-! ## The rotation -/

/-- A head's 128 values rotated: the two halves are the coordinates of 64 planes. -/
def rope (c s : Fin 64 → ℝ) (x : Fin 128 → ℝ) (d : Fin 128) : ℝ :=
  if h : d.val < 64 then x d * c ⟨d.val, h⟩ - x ⟨d.val + 64, by omega⟩ * s ⟨d.val, h⟩
  else x d * c ⟨d.val - 64, by omega⟩ + x ⟨d.val - 64, by omega⟩ * s ⟨d.val - 64, by omega⟩

/-- The rotation written as two halves side by side, over the extended reals. -/
theorem rope_halves (c s : Fin 64 → ℝ) (x : Fin 128 → ℝ) (d : Fin 128) :
    (if h : d.val < 64 then ((x d * c ⟨d.val, h⟩ - x ⟨64 + d.val, by omega⟩ * s ⟨d.val, h⟩ : ℝ) : EReal)
      else ((x ⟨64 + (d.val - 64), by omega⟩ * c ⟨d.val - 64, by omega⟩ + x ⟨d.val - 64, by omega⟩ * s ⟨d.val - 64, by omega⟩ : ℝ) : EReal))
      = (rope c s x d : EReal) := by
  unfold rope
  by_cases h : d.val < 64
  · rw [dif_pos h, dif_pos h]
    have : (⟨64 + d.val, by omega⟩ : Fin 128) = ⟨d.val + 64, by omega⟩ := Fin.ext (Nat.add_comm _ _)
    rw [this]
  · rw [dif_neg h, dif_neg h]
    have : (⟨64 + (d.val - 64), by omega⟩ : Fin 128) = d := Fin.ext (by simp only; omega)
    rw [this]

/-- The rotation back. -/
def unrope (c s : Fin 64 → ℝ) (y : Fin 128 → ℝ) (d : Fin 128) : ℝ :=
  if h : d.val < 64 then y d * c ⟨d.val, h⟩ + y ⟨d.val + 64, by omega⟩ * s ⟨d.val, h⟩
  else y d * c ⟨d.val - 64, by omega⟩ - y ⟨d.val - 64, by omega⟩ * s ⟨d.val - 64, by omega⟩

/-- The kernel's table of cosines: both halves alike. -/
def cos2 (c : Fin 64 → ℝ) (d : Fin 128) : ℝ := if h : d.val < 64 then c ⟨d.val, h⟩ else c ⟨d.val - 64, by omega⟩

/-- The kernel's table of sines: the first half with its sign turned. -/
def sin2 (s : Fin 64 → ℝ) (d : Fin 128) : ℝ := if h : d.val < 64 then -s ⟨d.val, h⟩ else s ⟨d.val - 64, by omega⟩

/-- The position 64 places on, going round. -/
def roll (d : Fin 128) : Fin 128 := ⟨(d.val + 128 - 64) % 128, Nat.mod_lt _ (by norm_num)⟩

theorem rope_roll (c s : Fin 64 → ℝ) (x : Fin 128 → ℝ) (d : Fin 128) :
    x d * cos2 c d + x (roll d) * sin2 s d = rope c s x d := by
  have hd := d.isLt
  unfold cos2 sin2 rope
  by_cases h : d.val < 64
  · rw [dif_pos h, dif_pos h, dif_pos h]
    have : roll d = ⟨d.val + 64, by omega⟩ := Fin.ext (by simp only [roll]; omega)
    rw [this]; ring
  · rw [dif_neg h, dif_neg h, dif_neg h]
    have : roll d = ⟨d.val - 64, by omega⟩ := Fin.ext (by simp only [roll]; omega)
    rw [this]

theorem unrope_roll (c s : Fin 64 → ℝ) (y : Fin 128 → ℝ) (d : Fin 128) :
    y d * cos2 c d + y (roll d) * (0 - sin2 s d) = unrope c s y d := by
  have hd := d.isLt
  unfold cos2 sin2 unrope
  by_cases h : d.val < 64
  · rw [dif_pos h, dif_pos h, dif_pos h]
    have : roll d = ⟨d.val + 64, by omega⟩ := Fin.ext (by simp only [roll]; omega)
    rw [this]; ring
  · rw [dif_neg h, dif_neg h, dif_neg h]
    have : roll d = ⟨d.val - 64, by omega⟩ := Fin.ext (by simp only [roll]; omega)
    rw [this]; ring

/-- The rotation back written as two halves, each beside a padding of zeros, over the extended reals. -/
theorem unrope_halves (c s : Fin 64 → ℝ) (y : Fin 128 → ℝ) (d : Fin 128) :
    (if h : 64 ≤ d.val ∧ d.val - 64 < 64 then
        ((y ⟨64 + (d.val - 64), by omega⟩ * c ⟨d.val - 64, h.2⟩ + -y ⟨d.val - 64, by omega⟩ * s ⟨d.val - 64, h.2⟩ : ℝ) : EReal)
        else 0)
      + (if h : d.val < 64 then ((y ⟨64 + d.val, by omega⟩ * s ⟨d.val, h⟩ + y d * c ⟨d.val, h⟩ : ℝ) : EReal) else 0)
      = (unrope c s y d : EReal) := by
  have hd := d.isLt
  unfold unrope
  by_cases h : d.val < 64
  · rw [dif_neg (by omega), dif_pos h, dif_pos h, zero_add]
    have : (⟨64 + d.val, by omega⟩ : Fin 128) = ⟨d.val + 64, by omega⟩ := Fin.ext (Nat.add_comm _ _)
    rw [this]; congr 1; ring
  · rw [dif_pos (by omega), dif_neg h, dif_neg h, add_zero]
    have : (⟨64 + (d.val - 64), by omega⟩ : Fin 128) = d := Fin.ext (by simp only; omega)
    rw [this]; congr 1; ring

theorem unrope_scale (c s : Fin 64 → ℝ) (y : Fin 128 → ℝ) (a : ℝ) (d : Fin 128) :
    unrope c s (fun d => y d * a) d = unrope c s y d * a := by
  unfold unrope; split_ifs <;> ring

end Cert.Retention

end
-- ==== Proof.Retention.lean ====
/- The retention over the real numbers, one head at a time, with no program in sight: the weights of
   the whole sequence, the weights inside a block of 512 rows, and how the gradients of the queries,
   keys and values over the whole sequence split into a part inside a block and a part carried by one
   128 × 256 matrix (the state of the past for the queries, the state of the future for the keys and
   the values). -/
module

public import Mathlib.Analysis.SpecialFunctions.Exp
public import Mathlib.Algebra.BigOperators.Fin

@[expose] public section

noncomputable section

namespace Cert.Retention

/-- Row `i` of block `b`. -/
def row (b : Fin 8) (i : Fin 512) : Fin 4096 := ⟨512 * b.val + i.val, by omega⟩

/-- The weight of position `m` for position `n`: `e^(lg·|n − m|)` unless the chunk of 64 positions
    that holds `m` lies after the one that holds `n`. -/
def wt (lg : ℝ) (n m : Fin 4096) : ℝ :=
  if m.val / 64 ≤ n.val / 64 then Real.exp (lg * |(n.val : ℝ) - (m.val : ℝ)|) else 0

/-- The same weight inside a block of 512 positions. -/
def mask (lg : ℝ) (i j : Fin 512) : ℝ :=
  if j.val / 64 ≤ i.val / 64 then Real.exp (lg * |(i.val : ℝ) - (j.val : ℝ)|) else 0

/-- How much position `m` has decayed by the last position before block `b` (0 from the block on). -/
def past (lg : ℝ) (b : ℕ) (m : Fin 4096) : ℝ :=
  if m.val < 512 * b then Real.exp (lg * ((512 * b : ℝ) - 1 - (m.val : ℝ))) else 0

/-- How much the last position before block `b` has decayed at position `n` (0 before the block). -/
def fut (lg : ℝ) (b : ℕ) (n : Fin 4096) : ℝ :=
  if 512 * b ≤ n.val then Real.exp (lg * ((n.val : ℝ) - 512 * b + 1)) else 0

/-- A sum over the positions of one block. -/
theorem sum_block (b : Fin 8) (F : Fin 4096 → ℝ) :
    ∑ m : Fin 4096, (if m.val / 512 = b.val then F m else 0) = ∑ j : Fin 512, F (row b j) := by
  rw [← Finset.sum_filter]
  symm
  refine Finset.sum_bij (fun j _ => row b j) ?_ ?_ ?_ ?_
  · intro j _
    simp only [Finset.mem_filter, Finset.mem_univ, true_and, row]
    omega
  · intro a _ a' _ h
    simp only [row, Fin.mk.injEq] at h
    exact Fin.ext (by omega)
  · intro m hm
    simp only [Finset.mem_filter, Finset.mem_univ, true_and] at hm
    exact ⟨⟨m.val - 512 * b.val, by omega⟩, Finset.mem_univ _, Fin.ext (by simp only [row]; omega)⟩
  · intro _ _; rfl

/-- Seen from row `i` of block `b`: the block's own weights, and the past's, which decay by `i + 1` more. -/
theorem wt_row_left (lg : ℝ) (b : Fin 8) (i : Fin 512) (m : Fin 4096) :
    wt lg (row b i) m = (if m.val / 512 = b.val then mask lg i ⟨m.val % 512, Nat.mod_lt _ (by norm_num)⟩ else 0)
      + past lg b.val m * Real.exp (lg * ((i.val : ℝ) + 1)) := by
  have hi := i.isLt
  have hm := m.isLt
  rcases lt_trichotomy (m.val / 512) b.val with h | h | h
  · have h1 : m.val < 512 * b.val := by omega
    have h2 : m.val / 64 ≤ (row b i).val / 64 := by simp only [row]; omega
    rw [wt, if_pos h2, if_neg (by omega), past, if_pos h1, zero_add, ← Real.exp_add]
    have h3 : (m.val : ℝ) ≤ ((row b i).val : ℝ) := by
      exact_mod_cast (show m.val ≤ (row b i).val by simp only [row]; omega)
    rw [abs_of_nonneg (by linarith)]
    congr 1
    simp only [row]; push_cast; ring
  · have h1 : ¬ m.val < 512 * b.val := by omega
    rw [past, if_neg h1, zero_mul, add_zero, if_pos h]
    have hm' : m.val = 512 * b.val + m.val % 512 := by omega
    have e : (((row b i).val : ℝ) - (m.val : ℝ)) = (i.val : ℝ) - ((m.val % 512 : ℕ) : ℝ) := by
      have : (m.val : ℝ) = 512 * (b.val : ℝ) + ((m.val % 512 : ℕ) : ℝ) := by exact_mod_cast hm'
      rw [this]; simp only [row]; push_cast; ring
    have e2 : (m.val / 64 ≤ (row b i).val / 64) ↔ (m.val % 512 / 64 ≤ i.val / 64) := by
      simp only [row]; omega
    simp only [wt, mask, e, e2]
  · have h1 : ¬ m.val < 512 * b.val := by omega
    have h2 : ¬ m.val / 64 ≤ (row b i).val / 64 := by simp only [row]; omega
    rw [wt, if_neg h2, if_neg (by omega), past, if_neg h1]; ring

/-- Seen from row `j` of block `b`: the block's own weights, and the future's, which decay by `511 − j` more. -/
theorem wt_row_right (lg : ℝ) (b : Fin 8) (j : Fin 512) (n : Fin 4096) :
    wt lg n (row b j) = (if n.val / 512 = b.val then mask lg ⟨n.val % 512, Nat.mod_lt _ (by norm_num)⟩ j else 0)
      + fut lg (b.val + 1) n * Real.exp (lg * (511 - (j.val : ℝ))) := by
  have hj := j.isLt
  have hn := n.isLt
  rcases lt_trichotomy (n.val / 512) b.val with h | h | h
  · have h1 : ¬ 512 * (b.val + 1) ≤ n.val := by omega
    have h2 : ¬ (row b j).val / 64 ≤ n.val / 64 := by simp only [row]; omega
    rw [wt, if_neg h2, if_neg (by omega), fut, if_neg h1]; ring
  · have h1 : ¬ 512 * (b.val + 1) ≤ n.val := by omega
    rw [fut, if_neg h1, zero_mul, add_zero, if_pos h]
    have hn' : n.val = 512 * b.val + n.val % 512 := by omega
    have e : ((n.val : ℝ) - ((row b j).val : ℝ)) = ((n.val % 512 : ℕ) : ℝ) - (j.val : ℝ) := by
      have : (n.val : ℝ) = 512 * (b.val : ℝ) + ((n.val % 512 : ℕ) : ℝ) := by exact_mod_cast hn'
      rw [this]; simp only [row]; push_cast; ring
    have e2 : ((row b j).val / 64 ≤ n.val / 64) ↔ (j.val / 64 ≤ n.val % 512 / 64) := by
      simp only [row]; omega
    simp only [wt, mask, e, e2]
  · have h1 : 512 * (b.val + 1) ≤ n.val := by omega
    have h2 : (row b j).val / 64 ≤ n.val / 64 := by simp only [row]; omega
    rw [wt, if_pos h2, if_neg (by omega), fut, if_pos h1, zero_add, ← Real.exp_add]
    have h3 : ((row b j).val : ℝ) ≤ (n.val : ℝ) := by
      exact_mod_cast (show (row b j).val ≤ n.val by simp only [row]; omega)
    rw [abs_of_nonneg (by linarith)]
    congr 1
    simp only [row]; push_cast; ring

/-- The future seen from block `b` on is the future seen from the next block on, 512 positions further
    decayed, and the block's own rows. -/
theorem fut_step (lg : ℝ) (b : Fin 8) (n : Fin 4096) :
    fut lg b.val n = fut lg (b.val + 1) n * Real.exp (lg * 512)
      + (if n.val / 512 = b.val then Real.exp (lg * (((n.val % 512 : ℕ) : ℝ) + 1)) else 0) := by
  have hn := n.isLt
  rcases lt_trichotomy (n.val / 512) b.val with h | h | h
  · rw [fut, if_neg (by omega), fut, if_neg (by omega), if_neg (by omega)]; ring
  · rw [fut, if_pos (by omega), fut, if_neg (by omega), if_pos h, zero_mul, zero_add]
    have : (n.val : ℝ) = 512 * (b.val : ℝ) + ((n.val % 512 : ℕ) : ℝ) := by
      exact_mod_cast (show n.val = 512 * b.val + n.val % 512 by omega)
    congr 1; rw [this]; ring
  · rw [fut, if_pos (by omega), fut, if_pos (by omega), if_neg (by omega), add_zero, ← Real.exp_add]
    congr 1; push_cast; ring

/-- Nothing lies after the last block. -/
theorem fut_last (lg : ℝ) (n : Fin 4096) : fut lg 8 n = 0 := by
  rw [fut, if_neg (by have := n.isLt; omega)]

/-- The state of the past of block `b`: what the keys and values before it have left. -/
def pastState (lg : ℝ) (k : Fin 4096 → Fin 128 → ℝ) (v : Fin 4096 → Fin 256 → ℝ) (b : ℕ) (d : Fin 128) (e : Fin 256) : ℝ :=
  ∑ m, past lg b m * k m d * v m e

/-- The state of the future from block `b` on: what its queries and output gradients leave. -/
def futState (lg : ℝ) (q : Fin 4096 → Fin 128 → ℝ) (g : Fin 4096 → Fin 256 → ℝ) (b : ℕ) (d : Fin 128) (e : Fin 256) : ℝ :=
  ∑ n, fut lg b n * q n d * g n e

/-- The state of the future, block by block from the last one back. -/
theorem futState_step (lg : ℝ) (q : Fin 4096 → Fin 128 → ℝ) (g : Fin 4096 → Fin 256 → ℝ) (b : Fin 8) (d : Fin 128) (e : Fin 256) :
    futState lg q g b.val d e = futState lg q g (b.val + 1) d e * Real.exp (lg * 512)
      + ∑ i : Fin 512, (q (row b i) d * Real.exp (lg * ((i.val : ℝ) + 1))) * g (row b i) e := by
  have hb : ∑ i : Fin 512, (q (row b i) d * Real.exp (lg * ((i.val : ℝ) + 1))) * g (row b i) e
      = ∑ n : Fin 4096, (if n.val / 512 = b.val then (q n d * Real.exp (lg * (((n.val % 512 : ℕ) : ℝ) + 1))) * g n e else 0) := by
    rw [sum_block b]
    refine Finset.sum_congr rfl fun i _ => ?_
    have : (row b i).val % 512 = i.val := by simp only [row]; omega
    rw [this]
  rw [hb, futState, futState, Finset.sum_mul, ← Finset.sum_add_distrib]
  refine Finset.sum_congr rfl fun n _ => ?_
  rw [fut_step lg b n]
  split_ifs <;> ring

/-- Past the last block there is no future. -/
theorem futState_last (lg : ℝ) (q : Fin 4096 → Fin 128 → ℝ) (g : Fin 4096 → Fin 256 → ℝ) (d : Fin 128) (e : Fin 256) :
    futState lg q g 8 d e = 0 := by
  simp only [futState, fut_last, zero_mul, Finset.sum_const_zero]

/-- The gradient of a query: the whole sequence is the block and the state of the past. -/
theorem dq_split (lg : ℝ) (k : Fin 4096 → Fin 128 → ℝ) (v g : Fin 4096 → Fin 256 → ℝ) (b : Fin 8) (i : Fin 512) (d : Fin 128) :
    ∑ m, ((∑ e, g (row b i) e * v m e) * wt lg (row b i) m) * k m d
      = (∑ j, ((∑ e, g (row b i) e * v (row b j) e) * mask lg i j) * k (row b j) d)
        + (∑ e, g (row b i) e * pastState lg k v b.val d e) * Real.exp (lg * ((i.val : ℝ) + 1)) := by
  have h1 : ∑ j, ((∑ e, g (row b i) e * v (row b j) e) * mask lg i j) * k (row b j) d
      = ∑ m : Fin 4096, (if m.val / 512 = b.val then
          ((∑ e, g (row b i) e * v m e) * mask lg i ⟨m.val % 512, Nat.mod_lt _ (by norm_num)⟩) * k m d else 0) := by
    rw [sum_block b]
    refine Finset.sum_congr rfl fun j _ => ?_
    have : (⟨(row b j).val % 512, Nat.mod_lt _ (by norm_num)⟩ : Fin 512) = j := Fin.ext (by simp only [row]; omega)
    rw [this]
  have h2 : ∑ e, g (row b i) e * pastState lg k v b.val d e
      = ∑ m, (∑ e, g (row b i) e * v m e) * past lg b.val m * k m d := by
    simp only [pastState, Finset.mul_sum, Finset.sum_mul]
    rw [Finset.sum_comm]
    exact Finset.sum_congr rfl fun _ _ => Finset.sum_congr rfl fun _ _ => by ring
  rw [h1, h2, Finset.sum_mul, ← Finset.sum_add_distrib]
  refine Finset.sum_congr rfl fun m _ => ?_
  rw [wt_row_left lg b i m]
  split_ifs <;> ring

/-- The gradient of a key: the whole sequence is the block and the state of the future. -/
theorem dk_split (lg : ℝ) (q : Fin 4096 → Fin 128 → ℝ) (v g : Fin 4096 → Fin 256 → ℝ) (b : Fin 8) (j : Fin 512) (d : Fin 128) :
    ∑ n, ((∑ e, g n e * v (row b j) e) * wt lg n (row b j)) * q n d
      = (∑ i, ((∑ e, g (row b i) e * v (row b j) e) * mask lg i j) * q (row b i) d)
        + (∑ e, v (row b j) e * futState lg q g (b.val + 1) d e) * Real.exp (lg * (511 - (j.val : ℝ))) := by
  have h1 : ∑ i, ((∑ e, g (row b i) e * v (row b j) e) * mask lg i j) * q (row b i) d
      = ∑ n : Fin 4096, (if n.val / 512 = b.val then
          ((∑ e, g n e * v (row b j) e) * mask lg ⟨n.val % 512, Nat.mod_lt _ (by norm_num)⟩ j) * q n d else 0) := by
    rw [sum_block b]
    refine Finset.sum_congr rfl fun i _ => ?_
    have : (⟨(row b i).val % 512, Nat.mod_lt _ (by norm_num)⟩ : Fin 512) = i := Fin.ext (by simp only [row]; omega)
    rw [this]
  have h2 : ∑ e, v (row b j) e * futState lg q g (b.val + 1) d e
      = ∑ n, (∑ e, g n e * v (row b j) e) * fut lg (b.val + 1) n * q n d := by
    simp only [futState, Finset.mul_sum, Finset.sum_mul]
    rw [Finset.sum_comm]
    exact Finset.sum_congr rfl fun _ _ => Finset.sum_congr rfl fun _ _ => by ring
  rw [h1, h2, Finset.sum_mul, ← Finset.sum_add_distrib]
  refine Finset.sum_congr rfl fun n _ => ?_
  rw [wt_row_right lg b j n]
  split_ifs <;> ring

/-- The gradient of a value: the whole sequence is the block and the state of the future. -/
theorem dv_split (lg : ℝ) (q k : Fin 4096 → Fin 128 → ℝ) (g : Fin 4096 → Fin 256 → ℝ) (b : Fin 8) (j : Fin 512) (e : Fin 256) :
    ∑ n, g n e * ((∑ d, q n d * k (row b j) d) * wt lg n (row b j))
      = (∑ i, ((∑ d, q (row b i) d * k (row b j) d) * mask lg i j) * g (row b i) e)
        + ∑ d, (k (row b j) d * Real.exp (lg * (511 - (j.val : ℝ)))) * futState lg q g (b.val + 1) d e := by
  have h1 : ∑ i, ((∑ d, q (row b i) d * k (row b j) d) * mask lg i j) * g (row b i) e
      = ∑ n : Fin 4096, (if n.val / 512 = b.val then
          ((∑ d, q n d * k (row b j) d) * mask lg ⟨n.val % 512, Nat.mod_lt _ (by norm_num)⟩ j) * g n e else 0) := by
    rw [sum_block b]
    refine Finset.sum_congr rfl fun i _ => ?_
    have : (⟨(row b i).val % 512, Nat.mod_lt _ (by norm_num)⟩ : Fin 512) = i := Fin.ext (by simp only [row]; omega)
    rw [this]
  have h2 : ∑ d, (k (row b j) d * Real.exp (lg * (511 - (j.val : ℝ)))) * futState lg q g (b.val + 1) d e
      = ∑ n, (∑ d, q n d * k (row b j) d) * (fut lg (b.val + 1) n * Real.exp (lg * (511 - (j.val : ℝ)))) * g n e := by
    simp only [futState, Finset.mul_sum, Finset.sum_mul]
    rw [Finset.sum_comm]
    exact Finset.sum_congr rfl fun _ _ => Finset.sum_congr rfl fun _ _ => by ring
  rw [h1, h2, ← Finset.sum_add_distrib]
  refine Finset.sum_congr rfl fun n _ => ?_
  rw [wt_row_right lg b j n]
  split_ifs <;> ring

end Cert.Retention

end
-- ==== Proof.Spec.lean ====
/- The retention's gradient on real numbers: the projection `X`, the positions `P`, the gain `W` of the normalisation and the
   gradient `Y` of the gated result give the gradients of the projection and of the gain. Head `h` reads 768 columns. -/
module

public import proofs.«01_k».proof.Proof.Rows
public import proofs.«01_k».proof.Proof.Retention

@[expose] public section

noncomputable section

namespace Cert.Retention

/-- Column `j` of the 768 that head `h` reads of the projection. -/
def col (h : Fin 8) (j : Fin 768) : Fin 11520 := ⟨4608 + (h.val * 768 + j.val), by have := h.isLt; have := j.isLt; omega⟩

/-- Channel `e` of head `h`. -/
def chan (h : Fin 8) (e : Fin 256) : Fin 2048 := ⟨h.val * 256 + e.val, by have := h.isLt; have := e.isLt; omega⟩

theorem chan_mk (h : Fin 8) (e : Fin 256) (p : h.val * 256 + e.val < 2048) : (⟨h.val * 256 + e.val, p⟩ : Fin 2048) = chan h e := rfl

theorem chan_div (h : Fin 8) (e : Fin 256) (p : (chan h e).val / 256 < 8) : (⟨(chan h e).val / 256, p⟩ : Fin 8) = h := by
  have := e.isLt
  exact Fin.ext (by simp only [chan]; omega)

theorem chan_mod (h : Fin 8) (e : Fin 256) (p : (chan h e).val % 256 < 256) : (⟨(chan h e).val % 256, p⟩ : Fin 256) = e := by
  have := e.isLt
  exact Fin.ext (by simp only [chan]; omega)

/-- Every channel is one of a head's. -/
theorem chan_surj (c : Fin 2048) : chan ⟨c.val / 256, by omega⟩ ⟨c.val % 256, Nat.mod_lt _ (by norm_num)⟩ = c :=
  Fin.ext (by simp only [chan]; omega)

theorem col_range (h : Fin 8) (j : Fin 768) : 4608 ≤ (col h j).val ∧ (col h j).val < 10752 := by
  have := h.isLt
  have := j.isLt
  simp only [col]; omega

theorem col_div (h : Fin 8) (j : Fin 768) (p : ((col h j).val - 4608) / 768 < 8) : (⟨((col h j).val - 4608) / 768, p⟩ : Fin 8) = h := by
  have := j.isLt
  exact Fin.ext (by simp only [col]; omega)

theorem col_mod (h : Fin 8) (j : Fin 768) (p : ((col h j).val - 4608) % 768 < 768) : (⟨((col h j).val - 4608) % 768, p⟩ : Fin 768) = j := by
  have := j.isLt
  exact Fin.ext (by simp only [col]; omega)

/-- Every column from 4608 to 10752 is one of a head's. -/
theorem col_surj (c : Fin 11520) (h1 : 4608 ≤ c.val) (h2 : c.val < 10752) :
    col ⟨(c.val - 4608) / 768, by omega⟩ ⟨(c.val - 4608) % 768, Nat.mod_lt _ (by norm_num)⟩ = c :=
  Fin.ext (by simp only [col]; omega)

/-- The frequency of a plane. -/
def freq (f : Fin 64) : ℝ := (10000 : ℝ) ^ (-(f.val : ℝ) / 64)

/-- The logarithm of a head's decay. -/
def lgm (h : Fin 8) : ℝ := Real.log (1 - (2 : ℝ) ^ ((-5 : ℝ) - (h.val : ℝ)))

theorem lgm_arg (h : Fin 8) : 0 < 1 - (2 : ℝ) ^ ((-5 : ℝ) - (h.val : ℝ)) := by
  have : (2 : ℝ) ^ ((-5 : ℝ) - (h.val : ℝ)) < 1 := by
    apply Real.rpow_lt_one_of_one_lt_of_neg (by norm_num)
    have : (0 : ℝ) ≤ (h.val : ℝ) := Nat.cast_nonneg _
    linarith
  linarith

section

variable (X : Fin 4096 → Fin 11520 → ℝ) (P : Fin 4096 → ℝ) (W : Fin 2048 → ℝ) (Y : Fin 4096 → Fin 2048 → ℝ)

/-- The cosines of a position. -/
def ctab (n : Fin 4096) (f : Fin 64) : ℝ := Real.cos (P n * freq f)

/-- The sines of a position. -/
def stab (n : Fin 4096) (f : Fin 64) : ℝ := Real.sin (P n * freq f)

variable (h : Fin 8)

/-- A head's columns of the queries, the keys, the values and the gate. -/
def xq (n : Fin 4096) (d : Fin 128) : ℝ := X n (col h ⟨d.val, by omega⟩)
def xk (n : Fin 4096) (d : Fin 128) : ℝ := X n (col h ⟨128 + d.val, by omega⟩)
def xv (n : Fin 4096) (e : Fin 256) : ℝ := X n (col h ⟨256 + e.val, by omega⟩)
def xg (n : Fin 4096) (e : Fin 256) : ℝ := X n (col h ⟨512 + e.val, by omega⟩)

/-- The rotated queries. -/
def rq (n : Fin 4096) (d : Fin 128) : ℝ := rope (ctab P n) (stab P n) (xq X h n) d

/-- The rotated and scaled keys. -/
def rk (n : Fin 4096) (d : Fin 128) : ℝ := rope (ctab P n) (stab P n) (xk X h n) d * scl

/-- What the retention gives. -/
def ret (n : Fin 4096) (e : Fin 256) : ℝ := ∑ m, ((∑ d, rq X P h n d * rk X P h m d) * wt (lgm h) n m) * xv X h m e

/-- The gradient of the normalised result times the gain. -/
def dgt (n : Fin 4096) (e : Fin 256) : ℝ := Y n (chan h e) * (xg X h n e * sgm (xg X h n e))

/-- The gradient of what the retention gives. -/
def dret (n : Fin 4096) (e : Fin 256) : ℝ := dnorm (ret X P h n) (fun e => dgt X Y h n e * W (chan h e)) e

/-- The gradient of the gate. -/
def dgate (n : Fin 4096) (e : Fin 256) : ℝ :=
  Y n (chan h e) * (hat (ret X P h n) e * W (chan h e))
    * (sgm (xg X h n e) * (1 + xg X h n e * (1 - sgm (xg X h n e))))

/-- The gradient of the gain. -/
def dgain (e : Fin 256) : ℝ := ∑ n, dgt X Y h n e * hat (ret X P h n) e

/-- The gradients of the rotated queries, of the rotated and scaled keys and of the values. -/
def drq (n : Fin 4096) (d : Fin 128) : ℝ := ∑ m, ((∑ e, dret X P W Y h n e * xv X h m e) * wt (lgm h) n m) * rk X P h m d
def drk (m : Fin 4096) (d : Fin 128) : ℝ := ∑ n, ((∑ e, dret X P W Y h n e * xv X h m e) * wt (lgm h) n m) * rq X P h n d
def dxv (m : Fin 4096) (e : Fin 256) : ℝ := ∑ n, dret X P W Y h n e * ((∑ d, rq X P h n d * rk X P h m d) * wt (lgm h) n m)

/-- The gradients of the queries and keys before the rotation. -/
def dxq (n : Fin 4096) (d : Fin 128) : ℝ := unrope (ctab P n) (stab P n) (drq X P W Y h n) d
def dxk (n : Fin 4096) (d : Fin 128) : ℝ := unrope (ctab P n) (stab P n) (drk X P W Y h n) d * scl

/-- The gradient of a head's 768 columns. -/
def dcol (n : Fin 4096) (j : Fin 768) : ℝ :=
  if h0 : j.val < 128 then dxq X P W Y h n ⟨j.val, h0⟩
  else if h1 : j.val < 256 then dxk X P W Y h n ⟨j.val - 128, by omega⟩
  else if h2 : j.val < 512 then dxv X P W Y h n ⟨j.val - 256, by omega⟩
  else dgate X P W Y h n ⟨j.val - 512, by omega⟩

end

end Cert.Retention

end
-- ==== Proof.Words.lean ====
/- Positions as 32-bit words: what the integer operations of the two programs give on small numbers, and the angle tables, decays
   and weights made from them. -/
module

public import Idealize.ShloMosaic.Lib.Pipeline.ValueKit
public import proofs.«01_k».proof.Proof.Spec

@[expose] public section

set_option maxRecDepth 16384

noncomputable section

namespace Cert.Retention

open Idealize.ShloMosaic

theorem toInt_small (n : ℕ) (h : n < 2 ^ 31) : (BitVec.ofNat 32 n).toInt = (n : ℤ) := by
  rw [BitVec.toInt_ofNat']; exact Int.bmod_eq_of_le (by omega) (by omega)

theorem shift_six : ∀ i : Fin 512, IntOp.shrsi .vector (BitVec.ofNat 32 i.val) 6#32 = BitVec.ofNat 32 (i.val / 64) := by
  decide +kernel

theorem sle_small (a b : ℕ) (ha : a < 2 ^ 31) (hb : b < 2 ^ 31) :
    IntOp.cmpi .sle (BitVec.ofNat 32 a) (BitVec.ofNat 32 b) = if a ≤ b then 1#1 else 0#1 := by
  unfold IntOp.cmpi
  simp only [BitVec.sle, toInt_small a ha, toInt_small b hb, Int.ofNat_le]
  by_cases h : a ≤ b <;> simp [h]

theorem absi_toInt (x : BitVec 32) (h : -(2 ^ 31 : ℤ) < x.toInt) : (IntOp.absi x).toInt = |x.toInt| := by
  unfold IntOp.absi
  have hm := BitVec.msb_eq_toInt (x := x)
  by_cases hx : x.toInt < 0
  · rw [hm, decide_eq_true hx, if_pos rfl, BitVec.toInt_neg, abs_of_neg hx]
    exact Int.bmod_eq_of_le (by omega) (by have := BitVec.le_toInt x; omega)
  · rw [hm, decide_eq_false hx, if_neg (by decide), abs_of_nonneg (by omega)]

theorem subi_toInt (a b : ℕ) (ha : a < 2 ^ 30) (hb : b < 2 ^ 30) :
    (IntOp.subi (BitVec.ofNat 32 a) (BitVec.ofNat 32 b)).toInt = (a : ℤ) - b := by
  unfold IntOp.subi
  rw [BitVec.toInt_sub, toInt_small a (by omega), toInt_small b (by omega)]
  exact Int.bmod_eq_of_le (by omega) (by omega)

/-- The distance of two positions, as the vector unit computes it. -/
theorem dist_at (a b : ℕ) (ha : a < 2 ^ 30) (hb : b < 2 ^ 30) :
    (FloatOps.sitofp .f32 (IntOp.absi (IntOp.subi (BitVec.ofNat 32 a) (BitVec.ofNat 32 b))) : Ideal .f32)
      = ((|(a : ℝ) - (b : ℝ)| : ℝ) : EReal) := by
  show (((IntOp.absi (IntOp.subi (BitVec.ofNat 32 a) (BitVec.ofNat 32 b))).toInt : ℝ) : EReal) = _
  rw [absi_toInt _ (by rw [subi_toInt a b ha hb]; omega), subi_toInt a b ha hb]
  push_cast
  rfl

theorem sge_small (a b : ℤ) (x y : BitVec 32) (hx : x.toInt = a) (hy : y.toInt = b) :
    IntOp.cmpi .sge x y = if b ≤ a then 1#1 else 0#1 := by
  unfold IntOp.cmpi
  simp only [BitVec.sle, hx, hy]
  by_cases h : b ≤ a <;> simp [h]

theorem slt_small (a b : ℕ) (ha : a < 2 ^ 31) (hb : b < 2 ^ 31) :
    IntOp.cmpi .slt (BitVec.ofNat 32 a) (BitVec.ofNat 32 b) = if a < b then 1#1 else 0#1 := by
  unfold IntOp.cmpi
  simp only [BitVec.slt, toInt_small a ha, toInt_small b hb, Int.ofNat_lt]
  by_cases h : a < b <;> simp [h]

/-- Whether a column is one of those the heads read. -/
theorem inside_word (c : ℕ) (hc : c < 2 ^ 30) :
    IntOp.andi (IntOp.cmpi .sge (BitVec.ofNat 32 c) 4608#32) (IntOp.cmpi .slt (BitVec.ofNat 32 c) 10752#32)
      = if 4608 ≤ c ∧ c < 10752 then 1#1 else 0#1 := by
  rw [sge_small (c : ℤ) 4608 _ _ (toInt_small c (by omega)) (by decide), slt_small c 10752 (by omega) (by norm_num)]
  unfold IntOp.andi
  by_cases h1 : 4608 ≤ c <;> by_cases h2 : c < 10752
  · rw [if_pos (by omega), if_pos h2, if_pos ⟨h1, h2⟩]; decide
  · rw [if_pos (by omega), if_neg h2, if_neg (by omega)]; decide
  · rw [if_neg (by omega), if_pos h2, if_neg (by omega)]; decide
  · rw [if_neg (by omega), if_neg h2, if_neg (by omega)]; decide

theorem div_64_word : ∀ n : Fin 4096, IntOp.divsi .host (BitVec.ofNat 32 n.val) 64#32 = BitVec.ofNat 32 (n.val / 64) := by
  decide +kernel

theorem sitofp_small (n : ℕ) (h : n < 2 ^ 31) : (FloatOps.sitofp .f32 (BitVec.ofNat 32 n) : Ideal .f32) = ((n : ℝ) : EReal) := by
  show (((BitVec.ofNat 32 n).toInt : ℝ) : EReal) = _
  rw [toInt_small n h]
  norm_cast

/-- A frequency, as the programs compute it. -/
theorem freq_at (f : Fin 64) :
    Ideal.pow (Ideal.ofBits .f32 0x461C4000#32) (Ideal.div (-(FloatOps.sitofp .f32 (BitVec.ofNat 32 f.val) : Ideal .f32)) (Ideal.ofBits .f32 0x42800000#32))
      = (freq f : EReal) := by
  rw [sitofp_small _ (by omega), word_10000, word_64, ← EReal.coe_neg, div_64, Ideal.pow_coe_coe]
  rfl

/-- A head's logarithm of the decay, as the programs compute it. -/
theorem lgm_at (h : Fin 8) :
    Ideal.log (1 - Ideal.pow (Ideal.ofBits .f32 0x40000000#32)
        (Ideal.ofBits .f32 0xC0A00000#32 - (FloatOps.sitofp .f32 (BitVec.ofNat 32 h.val) : Ideal .f32)))
      = (lgm h : EReal) := by
  rw [sitofp_small _ (by omega), word_2, word_neg5, ← EReal.coe_sub, Ideal.pow_coe_coe, ← EReal.coe_one, ← EReal.coe_sub, Ideal.log_coe]
  exact if_neg (not_le.mpr (lgm_arg h))

/-- The weight of two positions, as the programs compute it. -/
theorem wt_at (lg : ℝ) (n m : Fin 4096) :
    Scalar.select
        (IntOp.cmpi .sle (IntOp.divsi .host (BitVec.ofNat 32 m.val) 64#32) (IntOp.divsi .host (BitVec.ofNat 32 n.val) 64#32))
        (Ideal.exp ((lg : EReal) * (FloatOps.sitofp .f32 (IntOp.absi (IntOp.subi (BitVec.ofNat 32 n.val) (BitVec.ofNat 32 m.val))) : Ideal .f32)))
        (0 : EReal)
      = (wt lg n m : EReal) := by
  rw [div_64_word, div_64_word, sle_small _ _ (by omega) (by omega), dist_at _ _ (by omega) (by omega), ← EReal.coe_mul, Ideal.exp_coe]
  unfold wt
  by_cases h : m.val / 64 ≤ n.val / 64
  · rw [if_pos h, if_pos h]; rfl
  · rw [if_neg h, if_neg h]; rfl

end Cert.Retention

end
-- ==== Proof.Reference.lean ====
/- The reference program's values, one operation after another, on inputs that are real numbers. -/
module

public import proofs.«01_k».proof.Proof.Gen.ReferenceIdeal.Read
public import proofs.«01_k».proof.Proof.Words

@[expose] public section

set_option maxRecDepth 16384

noncomputable section

namespace Cert.Retention.Ref

open Idealize.ShloMosaic Cert.ReferenceIdeal Cert.ReferenceIdeal.Read

variable (x0 : (⟨S4096x11520, .f32⟩ : BufTy).Contents (Elt Ideal)) (x1 : (⟨S4096, .i32⟩ : BufTy).Contents (Elt Ideal))
  (x2 : (⟨S1x2048, .f32⟩ : BufTy).Contents (Elt Ideal)) (x3 : (⟨S4096x2048, .f32⟩ : BufTy).Contents (Elt Ideal))
  (X : Fin 4096 → Fin 11520 → ℝ) (P : Fin 4096 → ℝ) (W : Fin 2048 → ℝ) (Y : Fin 4096 → Fin 2048 → ℝ)

theorem freq_v11 (f : Fin 64) : val_main_v11 (F := Ideal) (ix1 f) = (freq f : EReal) := by
  pointwise [val_main_v11, val_main_v10, val_main_v9, val_main_v8, val_main_v7, val_main_v6, val_main_cst, val_main_cst_0]
  exact freq_at f

theorem freq_v40 (f : Fin 64) : val_main_v40 (F := Ideal) (ix1 f) = (freq f : EReal) := by
  pointwise [val_main_v40, val_main_v39, val_main_v38, val_main_v37, val_main_v36, val_main_v35, val_main_cst_1, val_main_cst_2]
  exact freq_at f

theorem lg_v80 (h : Fin 8) : val_main_v80 (F := Ideal) (ix1 h) = (lgm h : EReal) := by
  pointwise [val_main_v80, val_main_v79, val_main_v78, val_main_v77, val_main_v76, val_main_v75, val_main_v74, val_main_v73, val_main_cst_5, val_main_cst_6, val_main_cst_7]
  exact lgm_at h

theorem wt_v90 (h : Fin 8) (n m : Fin 4096) : val_main_v90 (F := Ideal) (ix3 h n m) = (wt (lgm h) n m : EReal) := by
  pointwise [val_main_v90, val_main_v89, val_main_v88, val_main_v87, val_main_v86, val_main_v85, val_main_v84, val_main_v83, val_main_v82, val_main_v81, val_main_call0_v2, val_main_call0_v1, val_main_call0_v0, val_main_cst_8, val_main_v72, val_main_v71, val_main_v70, val_main_v69, val_main_v68, val_main_v67, val_main_v66, val_main_c, val_main_c_4]
  rw [lg_v80]
  exact (congrArg _ word_zero).trans (wt_at (lgm h) n m)

section

variable (hP : ∀ n, (FloatOps.sitofp .f32 (x1 (ix1 n)) : Ideal .f32) = (P n : EReal))
include hP

theorem cos_v18 (n : Fin 4096) (f : Fin 64) : val_main_v18 (F := Ideal) x1 (ix2 n f) = (ctab P n f : EReal) := by
  pointwise [val_main_v18, val_main_v17, val_main_v16, val_main_v15, val_main_v14, val_main_v13, val_main_v12]
  rw [hP, freq_v11, ← EReal.coe_mul, Ideal.cos_coe]
  rfl

theorem sin_v20 (n : Fin 4096) (f : Fin 64) : val_main_v20 (F := Ideal) x1 (ix2 n f) = (stab P n f : EReal) := by
  pointwise [val_main_v20, val_main_v17, val_main_v16, val_main_v15, val_main_v14, val_main_v13, val_main_v12]
  rw [hP, freq_v11, ← EReal.coe_mul, Ideal.sin_coe]
  rfl

theorem cos_v47 (n : Fin 4096) (f : Fin 64) : val_main_v47 (F := Ideal) x1 (ix2 n f) = (ctab P n f : EReal) := by
  pointwise [val_main_v47, val_main_v46, val_main_v45, val_main_v44, val_main_v43, val_main_v42, val_main_v41]
  rw [hP, freq_v40, ← EReal.coe_mul, Ideal.cos_coe]
  rfl

theorem sin_v49 (n : Fin 4096) (f : Fin 64) : val_main_v49 (F := Ideal) x1 (ix2 n f) = (stab P n f : EReal) := by
  pointwise [val_main_v49, val_main_v46, val_main_v45, val_main_v44, val_main_v43, val_main_v42, val_main_v41]
  rw [hP, freq_v40, ← EReal.coe_mul, Ideal.sin_coe]
  rfl

end

section

variable (hX : ∀ n c, x0 (ix2 n c) = (X n c : EReal))
include hX

theorem xq_v2 (n : Fin 4096) (h : Fin 8) (d : Fin 128) : val_main_v2 (F := Ideal) x0 (ix3 n h d) = (xq X h n d : EReal) := by
  pointwise [val_main_v2, val_main_v1, val_main_v0]
  rw [hX]; rfl

theorem xk_v3 (n : Fin 4096) (h : Fin 8) (d : Fin 128) : val_main_v3 (F := Ideal) x0 (ix3 n h d) = (xk X h n d : EReal) := by
  pointwise [val_main_v3, val_main_v1, val_main_v0]
  rw [hX]; rfl

theorem xv_v4 (n : Fin 4096) (h : Fin 8) (e : Fin 256) : val_main_v4 (F := Ideal) x0 (ix3 n h e) = (xv X h n e : EReal) := by
  pointwise [val_main_v4, val_main_v1, val_main_v0]
  rw [hX]; rfl

theorem xg_v5 (n : Fin 4096) (h : Fin 8) (e : Fin 256) : val_main_v5 (F := Ideal) x0 (ix3 n h e) = (xg X h n e : EReal) := by
  pointwise [val_main_v5, val_main_v1, val_main_v0]
  rw [hX]; rfl

variable (hP : ∀ n, (FloatOps.sitofp .f32 (x1 (ix1 n)) : Ideal .f32) = (P n : EReal))
include hP

theorem rq_v34 (n : Fin 4096) (h : Fin 8) (d : Fin 128) : val_main_v34 (F := Ideal) x0 x1 (ix3 n h d) = (rq X P h n d : EReal) := by
  pointwise [val_main_v34, val_main_v33, val_main_v32, val_main_v31, val_main_v30, val_main_v29, val_main_v28, val_main_v27, val_main_v26, val_main_v25, val_main_v24, val_main_v23, val_main_v22, val_main_v21, val_main_v19]
  simp only [xq_v2 x0 X hX, cos_v18 x1 P hP, sin_v20 x1 P hP, ← EReal.coe_mul, ← EReal.coe_sub, ← EReal.coe_add]
  exact rope_halves _ _ _ d

theorem rk_v65 (n : Fin 4096) (h : Fin 8) (d : Fin 128) : val_main_v65 (F := Ideal) x0 x1 (ix3 n h d) = (rk X P h n d : EReal) := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v48, val_main_cst_3]
  simp only [xk_v3 x0 X hX, cos_v47 x1 P hP, sin_v49 x1 P hP, ← EReal.coe_mul, ← EReal.coe_sub, ← EReal.coe_add]
  rw [word_scl, rk, EReal.coe_mul]
  exact congrArg (· * _) (rope_halves _ _ _ d)

theorem ret_v94 (n : Fin 4096) (h : Fin 8) (e : Fin 256) : val_main_v94 (F := Ideal) x0 x1 (ix3 n h e) = (ret X P h n e : EReal) := by
  pointwise [val_main_v94, val_main_v93, val_main_v92, val_main_v91]
  simp only [rq_v34 x0 x1 X P hX hP, rk_v65 x0 x1 X P hX hP, wt_v90, xv_v4 x0 X hX, ← EReal.coe_mul, ← coe_sum]
  unfold ret
  exact congrArg _ (Finset.sum_congr rfl fun m _ => mul_comm _ _)

/-! ### The normalisation -/

theorem mean_v98 (n : Fin 4096) (h : Fin 8) : val_main_v98 (F := Ideal) x0 x1 (ix3 n h 0) = (mean (ret X P h n) : EReal) := by
  pointwise [val_main_v98, val_main_v97, val_main_v96, val_main_v95, val_main_cst_9, val_main_cst_10]
  simp only [ret_v94 x0 x1 X P hX hP, word_256, ← coe_sum, div_256]
  rfl

theorem dlt_v109 (n : Fin 4096) (h : Fin 8) (e : Fin 256) : val_main_v109 (F := Ideal) x0 x1 (ix3 n h e) = (dlt (ret X P h n) e : EReal) := by
  pointwise [val_main_v109, val_main_v108]
  simp only [ret_v94 x0 x1 X P hX hP, mean_v98 x0 x1 X P hX hP, ← EReal.coe_sub]
  rfl

theorem dlt_v100 (n : Fin 4096) (h : Fin 8) (e : Fin 256) : val_main_v100 (F := Ideal) x0 x1 (ix3 n h e) = (dlt (ret X P h n) e : EReal) := by
  pointwise [val_main_v100, val_main_v99]
  simp only [ret_v94 x0 x1 X P hX hP, mean_v98 x0 x1 X P hX hP, ← EReal.coe_sub]
  rfl

theorem vare_v111 (n : Fin 4096) (h : Fin 8) : val_main_v111 (F := Ideal) x0 x1 (ix3 n h 0) = (vare (ret X P h n) : EReal) := by
  pointwise [val_main_v111, val_main_v110, val_main_v107, val_main_v106, val_main_v105, val_main_v104, val_main_v101, val_main_cst_12, val_main_cst_13, val_main_cst_14]
  simp only [dlt_v100 x0 x1 X P hX hP, word_256, word_eps, ← EReal.coe_mul, ← coe_sum, div_256, ← EReal.coe_add]
  rfl

theorem rstd_v112 (n : Fin 4096) (h : Fin 8) : val_main_v112 (F := Ideal) x0 x1 (ix3 n h 0) = (rstd (ret X P h n) : EReal) := by
  pointwise [val_main_v112]
  rw [vare_v111 x0 x1 X P hX hP, rsqrt_vare]

theorem half_v115 (n : Fin 4096) (h : Fin 8) : val_main_v115 (F := Ideal) x0 x1 (ix3 n h 0)
    = ((-(1 / 2) * (rstd (ret X P h n) / vare (ret X P h n)) : ℝ) : EReal) := by
  pointwise [val_main_v115, val_main_v114, val_main_v113, val_main_cst_15]
  rw [vare_v111 x0 x1 X P hX hP, rstd_v112 x0 x1 X P hX hP, div_vare, word_neghalf, ← EReal.coe_mul]

theorem hat_v117 (n : Fin 4096) (h : Fin 8) (e : Fin 256) : val_main_v117 (F := Ideal) x0 x1 (ix3 n h e) = (hat (ret X P h n) e : EReal) := by
  pointwise [val_main_v117, val_main_v116]
  rw [dlt_v109 x0 x1 X P hX hP, rstd_v112 x0 x1 X P hX hP, ← EReal.coe_mul]
  rfl

omit hP in
theorem sig_v122_2 (n : Fin 4096) (h : Fin 8) (e : Fin 256) : val_main_v122_2 (F := Ideal) x0 (ix2 n (chan h e)) = (sgm (xg X h n e) : EReal) := by
  pointwise [val_main_v122_2, val_main_call1_v4, val_main_call1_v3, val_main_call1_v2, val_main_call1_v1, val_main_call1_v0, val_main_v121, val_main_call1_cst, val_main_call1_cst_0]
  simp only [chan_div, chan_mod, xg_v5 x0 X hX, ← EReal.coe_one, ← EReal.coe_neg, Ideal.exp_coe, ← EReal.coe_add, div_sig]

omit hP in
theorem silu_v122_0 (n : Fin 4096) (h : Fin 8) (e : Fin 256) : val_main_v122_0 (F := Ideal) x0 (ix2 n (chan h e))
    = ((xg X h n e * sgm (xg X h n e) : ℝ) : EReal) := by
  pointwise [val_main_v122_0, val_main_v121]
  simp only [chan_div, chan_mod, xg_v5 x0 X hX, sig_v122_2 x0 X hX, ← EReal.coe_mul]

omit hP in
theorem sig_v122_1 (n : Fin 4096) (h : Fin 8) (e : Fin 256) : val_main_v122_1 (F := Ideal) x0 (ix2 n (chan h e))
    = ((sgm (xg X h n e) * (1 - sgm (xg X h n e)) : ℝ) : EReal) := by
  pointwise [val_main_v122_1, val_main_call1_v7, val_main_call1_v6, val_main_call1_cst_1]
  simp only [sig_v122_2 x0 X hX, ← EReal.coe_one, ← EReal.coe_sub, ← EReal.coe_mul]

theorem hat_v118 (n : Fin 4096) (h : Fin 8) (e : Fin 256) : val_main_v118 (F := Ideal) x0 x1 (ix2 n (chan h e)) = (hat (ret X P h n) e : EReal) := by
  pointwise [val_main_v118]
  simp only [chan_div, chan_mod, hat_v117 x0 x1 X P hX hP]

variable (hW : ∀ c, x2 (ix2 0 c) = (W c : EReal)) (hY : ∀ n c, x3 (ix2 n c) = (Y n c : EReal))

include hY in
omit hP in
theorem dgt_v125 (n : Fin 4096) (h : Fin 8) (e : Fin 256) : val_main_v125 (F := Ideal) x0 x3 (ix2 n (chan h e)) = (dgt X Y h n e : EReal) := by
  pointwise [val_main_v125]
  rw [hY, silu_v122_0 x0 X hX, ← EReal.coe_mul]
  rfl

include hY in
/-- The gradient of the gain. -/
theorem dgain_v130 (h : Fin 8) (e : Fin 256) : val_main_v130 (F := Ideal) x0 x1 x3 (ix2 0 (chan h e)) = (dgain X P Y h e : EReal) := by
  pointwise [val_main_v130, val_main_v129, val_main_v128, val_main_cst_16]
  simp only [hat_v118 x0 x1 X P hX hP, dgt_v125 x0 x3 X Y hX hY, ← EReal.coe_mul, ← coe_sum]
  exact congrArg _ (Finset.sum_congr rfl fun n _ => mul_comm _ _)

include hY hW in
/-- The gradient of the gate. -/
theorem dgate_v127 (n : Fin 4096) (h : Fin 8) (e : Fin 256) : val_main_v127 (F := Ideal) x0 x1 x2 x3 (ix3 n h e) = (dgate X P W Y h n e : EReal) := by
  pointwise [val_main_v127, val_main_v126, val_main_call2_v2, val_main_call2_v1, val_main_call2_v0, val_main_v124, val_main_v121, val_main_v120, val_main_v119]
  simp only [chan_mk, chan_div, chan_mod, hat_v118 x0 x1 X P hX hP, sig_v122_1 x0 X hX, sig_v122_2 x0 X hX, xg_v5 x0 X hX, hY, hW, ← EReal.coe_mul, ← EReal.coe_add]
  unfold dgate
  congr 1; ring

include hY hW in
omit hP in
theorem doh_v133 (n : Fin 4096) (h : Fin 8) (e : Fin 256) : val_main_v133 (F := Ideal) x0 x2 x3 (ix3 n h e) = ((dgt X Y h n e * W (chan h e) : ℝ) : EReal) := by
  pointwise [val_main_v133, val_main_v132, val_main_v131]
  simp only [chan_mk, dgt_v125 x0 x3 X Y hX hY, hW, ← EReal.coe_mul]

include hY hW in
theorem v138_at (n : Fin 4096) (h : Fin 8) (e : Fin 256) : val_main_v138 (F := Ideal) x0 x1 x2 x3 (ix3 n h e)
    = ((dgt X Y h n e * W (chan h e) * rstd (ret X P h n) : ℝ) : EReal) := by
  pointwise [val_main_v138, val_main_v137]
  rw [doh_v133 x0 x2 x3 X W Y hX hW hY, rstd_v112 x0 x1 X P hX hP, ← EReal.coe_mul]

include hY hW in
theorem v147_at (n : Fin 4096) (h : Fin 8) (e : Fin 256) : val_main_v147 (F := Ideal) x0 x1 x2 x3 (ix3 n h e)
    = ((dvar (ret X P h n) (fun e => dgt X Y h n e * W (chan h e)) * (2 * dlt (ret X P h n) e) : ℝ) : EReal) := by
  pointwise [val_main_v147, val_main_v146, val_main_v145, val_main_v144, val_main_v143, val_main_v139, val_main_v136, val_main_v135, val_main_v134, val_main_v103, val_main_v102, val_main_cst_11, val_main_cst_17, val_main_cst_19, val_main_cst_20]
  simp only [doh_v133 x0 x2 x3 X W Y hX hW hY, dlt_v109 x0 x1 X P hX hP, dlt_v100 x0 x1 X P hX hP, half_v115 x0 x1 X P hX hP, word_2, word_256, ← EReal.coe_mul, ← coe_sum, div_256]
  rw [Fin.sum_univ_one, half_v115 x0 x1 X P hX hP, ← EReal.coe_mul, div_256, ← EReal.coe_mul]
  rfl

include hY hW in
/-- The gradient of what the retention gives. -/
theorem dret_v157 (n : Fin 4096) (h : Fin 8) (e : Fin 256) : val_main_v157 (F := Ideal) x0 x1 x2 x3 (ix3 n h e) = (dret X P W Y h n e : EReal) := by
  pointwise [val_main_v157, val_main_v156, val_main_v155, val_main_v154, val_main_v153, val_main_v152, val_main_v151, val_main_v150, val_main_v149, val_main_v148, val_main_v142, val_main_v141, val_main_v140, val_main_cst_18, val_main_cst_21, val_main_cst_22, val_main_cst_23]
  simp only [v138_at x0 x1 x2 x3 X P W Y hX hP hW hY, v147_at x0 x1 x2 x3 X P W Y hX hP hW hY, word_256, ← EReal.coe_neg, ← EReal.coe_mul, ← coe_sum, ← EReal.coe_add, div_256]
  rw [Fin.sum_univ_one]
  exact congrArg _ (dnorm_eq (ret X P h n) (fun e => dgt X Y h n e * W (chan h e)) e)

/-! ### The retention -/

include hY hW in
theorem gv_v162 (h : Fin 8) (n m : Fin 4096) : val_main_v162 (F := Ideal) x0 x1 x2 x3 (ix3 h n m)
    = (((∑ e, dret X P W Y h n e * xv X h m e) * wt (lgm h) n m : ℝ) : EReal) := by
  pointwise [val_main_v162, val_main_v159, val_main_v158]
  simp only [dret_v157 x0 x1 x2 x3 X P W Y hX hP hW hY, xv_v4 x0 X hX, wt_v90, ← EReal.coe_mul, ← coe_sum]

include hY hW in
theorem dxv_v161 (m : Fin 4096) (h : Fin 8) (e : Fin 256) : val_main_v161 (F := Ideal) x0 x1 x2 x3 (ix3 m h e) = (dxv X P W Y h m e : EReal) := by
  pointwise [val_main_v161, val_main_v160, val_main_v158, val_main_v92, val_main_v91]
  simp only [dret_v157 x0 x1 x2 x3 X P W Y hX hP hW hY, rq_v34 x0 x1 X P hX hP, rk_v65 x0 x1 X P hX hP, wt_v90, ← EReal.coe_mul, ← coe_sum]
  rfl

include hY hW in
theorem drk_v168 (m : Fin 4096) (h : Fin 8) (d : Fin 128) : val_main_v168 (F := Ideal) x0 x1 x2 x3 (ix3 m h d) = ((drk X P W Y h m d * scl : ℝ) : EReal) := by
  pointwise [val_main_v168, val_main_v167, val_main_v164, val_main_v163, val_main_cst_24]
  simp only [gv_v162 x0 x1 x2 x3 X P W Y hX hP hW hY, rq_v34 x0 x1 X P hX hP, word_scl, ← EReal.coe_mul, ← coe_sum]
  rfl

include hY hW in
theorem drq_v166 (n : Fin 4096) (h : Fin 8) (d : Fin 128) : val_main_v166 (F := Ideal) x0 x1 x2 x3 (ix3 n h d) = (drq X P W Y h n d : EReal) := by
  pointwise [val_main_v166, val_main_v165]
  simp only [gv_v162 x0 x1 x2 x3 X P W Y hX hP hW hY, rk_v65 x0 x1 X P hX hP, ← EReal.coe_mul, ← coe_sum]
  rfl

include hY hW in
theorem dxk_v184 (n : Fin 4096) (h : Fin 8) (d : Fin 128) : val_main_v184 (F := Ideal) x0 x1 x2 x3 (ix3 n h d) = (dxk X P W Y h n d : EReal) := by
  pointwise [val_main_v184, val_main_v183, val_main_v182, val_main_v181, val_main_v180, val_main_v179, val_main_v178, val_main_v177, val_main_v176, val_main_v175, val_main_v174, val_main_v173, val_main_v172, val_main_v171, val_main_v170, val_main_v169, val_main_v50, val_main_v48, val_main_cst_25, val_main_cst_26]
  simp only [drk_v168 x0 x1 x2 x3 X P W Y hX hP hW hY, cos_v47 x1 P hP, sin_v49 x1 P hP, ← EReal.coe_neg, ← EReal.coe_mul, ← EReal.coe_add]
  unfold dxk
  rw [← unrope_scale]
  exact unrope_halves _ _ (fun d => drk X P W Y h n d * scl) d

include hY hW in
theorem dxq_v200 (n : Fin 4096) (h : Fin 8) (d : Fin 128) : val_main_v200 (F := Ideal) x0 x1 x2 x3 (ix3 n h d) = (dxq X P W Y h n d : EReal) := by
  pointwise [val_main_v200, val_main_v199, val_main_v198, val_main_v197, val_main_v196, val_main_v195, val_main_v194, val_main_v193, val_main_v192, val_main_v191, val_main_v190, val_main_v189, val_main_v188, val_main_v187, val_main_v186, val_main_v185, val_main_v21, val_main_v19, val_main_cst_27, val_main_cst_28]
  simp only [drq_v166 x0 x1 x2 x3 X P W Y hX hP hW hY, cos_v18 x1 P hP, sin_v20 x1 P hP, ← EReal.coe_neg, ← EReal.coe_mul, ← EReal.coe_add]
  exact unrope_halves _ _ (drq X P W Y h n) d

include hY hW in
/-- The gradient of a head's 768 columns. -/
theorem dcol_v207 (n : Fin 4096) (h : Fin 8) (j : Fin 768) : val_main_v207 (F := Ideal) x0 x1 x2 x3 (ix3 n h j) = (dcol X P W Y h n j : EReal) := by
  pointwise [val_main_v207, val_main_v206, val_main_v205, val_main_v204, val_main_v203, val_main_v202, val_main_v201, val_main_cst_29, val_main_cst_30, val_main_cst_31, val_main_cst_32]
  simp only [dgate_v127 x0 x1 x2 x3 X P W Y hX hP hW hY, dxv_v161 x0 x1 x2 x3 X P W Y hX hP hW hY, dxk_v184 x0 x1 x2 x3 X P W Y hX hP hW hY,
    dxq_v200 x0 x1 x2 x3 X P W Y hX hP hW hY]
  have hj := j.isLt
  unfold dcol
  by_cases h0 : j.val < 128
  · rw [dif_neg (by omega), dif_neg (by omega), dif_neg (by omega), dif_pos h0, dif_pos h0, add_zero, add_zero, zero_add]
  by_cases h1 : j.val < 256
  · rw [dif_neg (by omega), dif_neg (by omega), dif_pos (by omega), dif_neg h0, dif_neg h0, dif_pos h1, add_zero, add_zero, zero_add]
  by_cases h2 : j.val < 512
  · rw [dif_neg (by omega), dif_pos (by omega), dif_neg (by omega), dif_neg h0, dif_neg h0, dif_neg h1, dif_pos h2, add_zero, add_zero, zero_add]
  · rw [dif_pos (by omega), dif_neg (by omega), dif_neg (by omega), dif_neg h0, dif_neg h0, dif_neg h1, dif_neg h2, add_zero, add_zero, add_zero]

include hY hW in
/-- The gradient of the projection's 6144 columns that the heads read. -/
theorem v218_in (x4 : (⟨S4096x11520, .bf16⟩ : BufTy).Contents (Elt Ideal)) (n : Fin 4096) (h : Fin 8) (j : Fin 768) :
    val_main_v218 (F := Ideal) x0 x1 x2 x3 x4 (ix2 n (col h j)) = (dcol X P W Y h n j : EReal) := by
  pointwise [val_main_v218, val_main_v217, val_main_v215, val_main_v214, val_main_v213, val_main_v212, val_main_v211, val_main_v210, val_main_v209, val_main_v208, val_main_c_34, val_main_c_35, val_main_cst_33]
  have hc := col_range h j
  rw [inside_word _ (by omega), if_pos hc, dif_pos ⟨hc.1, by omega⟩]
  simp only [col_div, col_mod, dcol_v207 x0 x1 x2 x3 X P W Y hX hP hW hY]
  rfl

omit hX hP in
/-- The other columns are kept. -/
theorem v218_out (x4 : (⟨S4096x11520, .bf16⟩ : BufTy).Contents (Elt Ideal)) (n : Fin 4096) (c : Fin 11520) (hc : ¬(4608 ≤ c.val ∧ c.val < 10752)) :
    val_main_v218 (F := Ideal) x0 x1 x2 x3 x4 (ix2 n c) = x4 (ix2 n c) := by
  pointwise [val_main_v218, val_main_v217, val_main_v216, val_main_v215, val_main_v214, val_main_v213, val_main_v212, val_main_v211, val_main_v210, val_main_c_34, val_main_c_35]
  rw [inside_word _ (by omega), if_neg hc]
  rfl

end

end Cert.Retention.Ref

end
-- ==== Proof.Host.lean ====
/- What the kernel's host lines give it: the angle tables, the decays, what the retention gives and the states between the blocks. -/
module

public import proofs.«01_k».proof.Proof.Gen.KernelIdeal.Value
public import Idealize.ShloMosaic.Lib.StableHlo.RunRead
public import proofs.«01_k».proof.Proof.Reference

@[expose] public section

set_option maxRecDepth 16384

noncomputable section

namespace Cert.Retention

open Idealize.ShloMosaic Idealize.ShloMosaic.TcCoe Cert.KernelIdeal

/-- How far the last position before a block lies after a position, as the host computes it. -/
theorem ago_toInt (b : Fin 8) (n : Fin 4096) :
    (IntOp.subi (IntOp.subi (IntOp.muli 512#32 (BitVec.ofNat 32 b.val)) 1#32) (BitVec.ofNat 32 n.val)).toInt = 512 * (b.val : ℤ) - 1 - n.val := by
  have h : ∀ b : Fin 8, (IntOp.subi (IntOp.muli 512#32 (BitVec.ofNat 32 b.val)) 1#32).toInt = 512 * (b.val : ℤ) - 1 := by decide
  generalize hx : IntOp.subi (IntOp.muli 512#32 (BitVec.ofNat 32 b.val)) 1#32 = x
  have hb := h b
  rw [hx] at hb
  unfold IntOp.subi
  rw [BitVec.toInt_sub, hb, toInt_small n.val (by omega)]
  exact Int.bmod_eq_of_le (by omega) (by omega)

/-- The weight of a position in the state of the past of a block, as the host computes it. -/
theorem past_at (lg : ℝ) (b : Fin 8) (n : Fin 4096) :
    Scalar.select
        (IntOp.cmpi .sge (IntOp.subi (IntOp.subi (IntOp.muli 512#32 (BitVec.ofNat 32 b.val)) 1#32) (BitVec.ofNat 32 n.val)) 0#32)
        (Ideal.exp ((lg : EReal) * (FloatOps.sitofp .f32
          (IntOp.subi (IntOp.subi (IntOp.muli 512#32 (BitVec.ofNat 32 b.val)) 1#32) (BitVec.ofNat 32 n.val)) : Ideal .f32)))
        (0 : EReal)
      = (past lg b.val n : EReal) := by
  have h := ago_toInt b n
  generalize IntOp.subi (IntOp.subi (IntOp.muli 512#32 (BitVec.ofNat 32 b.val)) 1#32) (BitVec.ofNat 32 n.val) = x at h ⊢
  have hs : (FloatOps.sitofp .f32 x : Ideal .f32) = ((512 * (b.val : ℝ) - 1 - (n.val : ℝ) : ℝ) : EReal) := by
    show ((x.toInt : ℝ) : EReal) = _
    rw [h]; push_cast; rfl
  rw [sge_small _ 0 _ _ h (by decide), hs, ← EReal.coe_mul, Ideal.exp_coe]
  unfold past
  by_cases hb : n.val < 512 * b.val
  · rw [if_pos hb, if_pos (by omega)]; rfl
  · rw [if_neg hb, if_neg (by omega)]; rfl

variable (m : (ℓ : Loc nD τ sig) → Buf (Elt Ideal) ℓ) (c : Dev nD)

/-! ### What the host lines are, as terms over the arguments -/

theorem lgs_eq : Gen.V m c main_v26
    = broadcastInDim S8x8x128 ![0, 1, 2] Gen.bcast_S8x1x1_S8x8x128_0_1_2 (broadcastInDim S8x1x1 ![0] Gen.bcast_S8_S8x1x1_0
        (ReferenceIdeal.Read.val_main_v80 (F := Ideal))) := by
  unfold Gen.V
  rw [List.flatten_cons, List.flatten_cons, List.flatten_cons, List.flatten_cons, List.flatten_cons, List.flatten_nil]
  after_reads_simp
  rfl

theorem cos_eq : Gen.V m c main_v14
    = concatenate S4096x128 1 [⟨S4096x64, ReferenceIdeal.Read.val_main_v18 (F := Ideal) (m ((c : Thread nD τ).loc main_arg1))⟩,
        ⟨S4096x64, ReferenceIdeal.Read.val_main_v18 (F := Ideal) (m ((c : Thread nD τ).loc main_arg1))⟩]
        Gen.concatenates_S4096x64_S4096x64_S4096x128_d1 := by
  unfold Gen.V
  rw [List.flatten_cons, List.flatten_cons, List.flatten_cons, List.flatten_cons, List.flatten_cons, List.flatten_nil]
  after_reads_simp
  rfl

theorem sin_eq : Gen.V m c main_v16
    = concatenate S4096x128 1 [⟨S4096x64, (Host.negf (ReferenceIdeal.Read.val_main_v20 (F := Ideal) (m ((c : Thread nD τ).loc main_arg1))) : FVec Ideal S4096x64 .f32)⟩,
        ⟨S4096x64, ReferenceIdeal.Read.val_main_v20 (F := Ideal) (m ((c : Thread nD τ).loc main_arg1))⟩]
        Gen.concatenates_S4096x64_S4096x64_S4096x128_d1 := by
  unfold Gen.V
  rw [List.flatten_cons, List.flatten_cons, List.flatten_cons, List.flatten_cons, List.flatten_cons, List.flatten_nil]
  after_reads_simp
  rfl

theorem ret_eq : Gen.V m c main_v154 = shapeCast S4096x2048 (ReferenceIdeal.Read.val_main_v94 (F := Ideal)
    (m ((c : Thread nD τ).loc main_arg0)) (m ((c : Thread nD τ).loc main_arg1))) (by decide) := by
  unfold Gen.V
  rw [List.flatten_cons, List.flatten_cons, List.flatten_cons, List.flatten_cons, List.flatten_cons, List.flatten_nil]
  after_reads_simp
  rfl

/-- The weights of the positions in the states of the past. -/
def pastw : FVec Ideal S8x8x4096 .f32 :=
  select (broadcastInDim S8x8x4096 ![1, 2] Gen.bcast_S8x4096_S8x8x4096_1_2
      (cmpi .sge (subi (subi (muli (broadcastInDim S8x4096 ![] Gen.bcast_S_S8x4096 (constantI S_ 32 512#32)) (iotaInDim S8x4096 32 0))
        (broadcastInDim S8x4096 ![] Gen.bcast_S_S8x4096 (constantI S_ 32 1#32))) (iotaInDim S8x4096 32 1))
        (broadcastInDim S8x4096 ![] Gen.bcast_S_S8x4096 (constantI S_ 32 0#32))))
    (Host.exp (mulf (broadcastInDim S8x8x4096 ![0, 1, 2] Gen.bcast_S8x1x1_S8x8x4096_0_1_2
        (broadcastInDim S8x1x1 ![0] Gen.bcast_S8_S8x1x1_0 (ReferenceIdeal.Read.val_main_v80 (F := Ideal))))
      (broadcastInDim S8x8x4096 ![0, 1, 2] Gen.bcast_S1x8x4096_S8x8x4096_0_1_2
        (broadcastInDim S1x8x4096 ![1, 2] Gen.bcast_S8x4096_S1x8x4096_1_2
          (sitofp .f32 (subi (subi (muli (broadcastInDim S8x4096 ![] Gen.bcast_S_S8x4096 (constantI S_ 32 512#32)) (iotaInDim S8x4096 32 0))
            (broadcastInDim S8x4096 ![] Gen.bcast_S_S8x4096 (constantI S_ 32 1#32))) (iotaInDim S8x4096 32 1)))))))
    (broadcastInDim S8x8x4096 ![] Gen.bcast_S_S8x8x4096 (constant S_ .f32 0x00000000#32))

theorem states_eq : Gen.V m c main_v124
    = Host.dotGeneral (F := Ideal) (φ₁ := .f32) (φ₂ := .f32) dot_S8x8x4096x128_S4096x8x256_S8x8x128x256_2_0_13_2_0_1 none
        (mulf (broadcastInDim S8x8x4096x128 ![0, 1, 2, 3] Gen.bcast_S8x8x4096x1_S8x8x4096x128_0_1_2_3
            (broadcastInDim S8x8x4096x1 ![0, 1, 2] Gen.bcast_S8x8x4096_S8x8x4096x1_0_1_2 pastw))
          (broadcastInDim S8x8x4096x128 ![0, 1, 2, 3] Gen.bcast_S8x1x4096x128_S8x8x4096x128_0_1_2_3
            (broadcastInDim S8x1x4096x128 ![0, 2, 3] Gen.bcast_S8x4096x128_S8x1x4096x128_0_2_3
              (transpose S8x4096x128 [1, 0, 2] (ReferenceIdeal.Read.val_main_v65 (F := Ideal)
                (m ((c : Thread nD τ).loc main_arg0)) (m ((c : Thread nD τ).loc main_arg1))) Gen.transposes_S4096x8x128_S8x4096x128_1_0_2))))
        (ReferenceIdeal.Read.val_main_v4 (F := Ideal) (m ((c : Thread nD τ).loc main_arg0)) : FVec Ideal S4096x8x256 .f32) := by
  unfold Gen.V
  rw [List.flatten_cons, List.flatten_cons, List.flatten_cons, List.flatten_cons, List.flatten_cons, List.flatten_nil]
  after_reads_simp
  rfl

theorem arg0_eq : Gen.V m c main_arg0 = m ((c : Thread nD τ).loc main_arg0) := by
  unfold Gen.V
  rw [List.flatten_cons, List.flatten_cons, List.flatten_cons, List.flatten_cons, List.flatten_cons, List.flatten_nil]
  after_reads_simp

theorem arg2_eq : Gen.V m c main_arg2 = m ((c : Thread nD τ).loc main_arg2) := by
  unfold Gen.V
  rw [List.flatten_cons, List.flatten_cons, List.flatten_cons, List.flatten_cons, List.flatten_cons, List.flatten_nil]
  after_reads_simp

theorem arg3_eq : Gen.V m c main_arg3 = m ((c : Thread nD τ).loc main_arg3) := by
  unfold Gen.V
  rw [List.flatten_cons, List.flatten_cons, List.flatten_cons, List.flatten_cons, List.flatten_cons, List.flatten_nil]
  after_reads_simp

theorem out_eq : Gen.V m c main_v155_0 = m ((c : Thread nD τ).loc main_arg4) := by
  unfold Gen.V
  rw [List.flatten_cons, List.flatten_cons, List.flatten_cons, List.flatten_cons, List.flatten_cons, List.flatten_nil]
  after_reads_simp
  rfl

/-! ### Their values -/

theorem lgs_at (h : Fin 8) (i : Fin 8) (j : Fin 128) : @Eq EReal (Gen.V m c main_v26 (ix3 h i j)) (lgm h : EReal) := by
  rw [lgs_eq]
  pointwise
  exact Ref.lg_v80 h

theorem pastw_at (h b : Fin 8) (n : Fin 4096) : pastw (ix3 h b n) = (past (lgm h) b.val n : EReal) := by
  pointwise [pastw]
  rw [Ref.lg_v80]
  exact past_at (lgm h) b n

variable (X : Fin 4096 → Fin 11520 → ℝ) (P : Fin 4096 → ℝ)

section
variable (hP : ∀ n, (FloatOps.sitofp .f32 (m ((c : Thread nD τ).loc main_arg1) (ix1 n)) : Ideal .f32) = (P n : EReal))
include hP

theorem cos_at (n : Fin 4096) (d : Fin 128) : @Eq EReal (Gen.V m c main_v14 (ix2 n d)) (cos2 (ctab P n) d : EReal) := by
  rw [cos_eq]
  pointwise
  unfold cos2
  by_cases h : d.val < 64
  · rw [dif_pos h, dif_pos h, Ref.cos_v18 _ P hP]
  · rw [dif_neg h, dif_neg h, Ref.cos_v18 _ P hP]

theorem sin_at (n : Fin 4096) (d : Fin 128) : @Eq EReal (Gen.V m c main_v16 (ix2 n d)) (sin2 (stab P n) d : EReal) := by
  rw [sin_eq]
  pointwise
  unfold sin2
  by_cases h : d.val < 64
  · rw [dif_pos h, dif_pos h, Ref.sin_v20 _ P hP, ← EReal.coe_neg]
  · rw [dif_neg h, dif_neg h, Ref.sin_v20 _ P hP]

variable (hX : ∀ n j, m ((c : Thread nD τ).loc main_arg0) (ix2 n j) = (X n j : EReal))
include hX

theorem ret_at (n : Fin 4096) (h : Fin 8) (e : Fin 256) : @Eq EReal (Gen.V m c main_v154 (ix2 n (chan h e))) (ret X P h n e : EReal) := by
  rw [ret_eq]
  pointwise
  simp only [chan_div, chan_mod]
  exact Ref.ret_v94 _ _ X P hX hP n h e

theorem states_at (h b : Fin 8) (d : Fin 128) (e : Fin 256) :
    @Eq EReal (Gen.V m c main_v124 (ix4 h b d e)) (pastState (lgm h) (rk X P h) (xv X h) b.val d e : EReal) := by
  rw [states_eq]
  pointwise
  simp only [pastw_at, Ref.rk_v65 _ _ X P hX hP, Ref.xv_v4 _ X hX, ← EReal.coe_mul, ← coe_sum]
  rfl

end

end Cert.Retention

end
-- ==== Proof.Payloads.lean ====
/- Each vector expression of the kernel's body, read at an index, on inputs that are real numbers. -/
module

public import proofs.«01_k».proof.Proof.Gen.KernelIdeal.Skeleton
public import proofs.«01_k».proof.Proof.Words
public import proofs.«01_k».proof.Proof.Retention

@[expose] public section

set_option maxRecDepth 16384

noncomputable section

namespace Cert.Retention

open Idealize.ShloMosaic Cert.KernelIdeal Cert.KernelIdeal.Gen

theorem pay3_at (v : Vec Ideal S1x1x1 .f32) (lg : ℝ) (hv : v (ix3 0 0 0) = (lg : EReal)) :
    k0_pay3 v (ix2 0 0) = (lg : EReal) := by
  pointwise [k0_pay3]
  exact hv

theorem pay7_at (v : Vec Ideal S512x256 .f32) (o : Fin 512 → Fin 256 → ℝ) (hv : ∀ i e, v (ix2 i e) = (o i e : EReal)) (i : Fin 512) (e : Fin 256) :
    k0_pay7 v (ix2 i e) = (dlt (o i) e : EReal) := by
  pointwise [k0_pay7]
  simp only [hv, word_256, ← coe_sum, div_256, ← EReal.coe_sub]
  rfl

theorem pay8_at (v : Vec Ideal S512x256 .f32) (o : Fin 512 → Fin 256 → ℝ) (hv : ∀ i e, v (ix2 i e) = (o i e : EReal)) (i : Fin 512) :
    k0_pay8 v (ix2 i 0) = (rstd (o i) : EReal) := by
  pointwise [k0_pay8]
  simp only [pay7_at v o hv, word_256, word_eps, ← EReal.coe_mul, ← coe_sum, div_256, ← EReal.coe_add]
  exact rsqrt_vare (o i)

theorem pay9_at (v : Vec Ideal S512x256 .f32) (o : Fin 512 → Fin 256 → ℝ) (hv : ∀ i e, v (ix2 i e) = (o i e : EReal)) (i : Fin 512) (e : Fin 256) :
    k0_pay9 v (ix2 i e) = (hat (o i) e : EReal) := by
  pointwise [k0_pay9]
  simp only [pay7_at v o hv, pay8_at v o hv, ← EReal.coe_mul]
  rfl

theorem pay10_at (v : Vec Ideal S512x256 .f32) (g : Fin 512 → Fin 256 → ℝ) (hv : ∀ i e, v (ix2 i e) = (g i e : EReal)) (i : Fin 512) (e : Fin 256) :
    k0_pay10 v (ix2 i e) = (sgm (g i e) : EReal) := by
  pointwise [k0_pay10]
  simp only [hv, ← EReal.coe_zero, ← EReal.coe_one, ← EReal.coe_sub, Ideal.exp_coe, ← EReal.coe_add, zero_sub]
  exact div_sig _

theorem pay11_at (v24 v32 : Vec Ideal S512x256 .f32) (g y : Fin 512 → Fin 256 → ℝ) (h24 : ∀ i e, v24 (ix2 i e) = (g i e : EReal))
    (h32 : ∀ i e, v32 (ix2 i e) = (y i e : EReal)) (i : Fin 512) (e : Fin 256) :
    k0_pay11 v24 v32 (ix2 i e) = ((y i e * (g i e * sgm (g i e)) : ℝ) : EReal) := by
  pointwise [k0_pay11]
  simp only [h24, h32, pay10_at v24 g h24, ← EReal.coe_mul]

theorem pay12_at (v23 : Vec Ideal S1x256 .f32) (w : Fin 256 → ℝ) (h23 : ∀ e, v23 (ix2 0 e) = (w e : EReal)) (i : Fin 512) (e : Fin 256) :
    k0_pay12 v23 (ix2 i e) = (w e : EReal) := by
  pointwise [k0_pay12]
  exact h23 e

theorem pay13_at (v22 : FVec Ideal S512x256 .f32) (v24 : Vec Ideal S512x256 .f32) (v31 : FVec Ideal S512x256 .f32) (v32 : Vec Ideal S512x256 .f32)
    (v35 : FVec Ideal S512x256 .f32) (oh g sg y w : ℝ) (i : Fin 512) (e : Fin 256)
    (h22 : v22 (ix2 i e) = (oh : EReal)) (h24 : v24 (ix2 i e) = (g : EReal)) (h31 : v31 (ix2 i e) = (sg : EReal))
    (h32 : v32 (ix2 i e) = (y : EReal)) (h35 : v35 (ix2 i e) = (w : EReal)) :
    k0_pay13 v22 v24 v31 v32 v35 (ix2 i e) = ((y * (oh * w) * (sg * (1 + g * (1 - sg))) : ℝ) : EReal) := by
  pointwise [k0_pay13]
  simp only [h22, h24, h31, h32, h35, ← EReal.coe_one, ← EReal.coe_mul, ← EReal.coe_sub, ← EReal.coe_add]

theorem pay14_at (v22 v34 : FVec Ideal S512x256 .f32) (v47 : Vec Ideal S1x256 .f32) (oh dt : Fin 512 → Fin 256 → ℝ) (p : Fin 256 → ℝ)
    (h22 : ∀ i e, v22 (ix2 i e) = (oh i e : EReal)) (h34 : ∀ i e, v34 (ix2 i e) = (dt i e : EReal))
    (h47 : ∀ e, v47 (ix2 0 e) = (p e : EReal)) (e : Fin 256) :
    k0_pay14 v22 v34 v47 (ix2 0 e) = ((p e + ∑ i, dt i e * oh i e : ℝ) : EReal) := by
  pointwise [k0_pay14]
  simp only [h22, h34, h47, ← EReal.coe_mul, ← coe_sum, ← EReal.coe_add]

theorem pay15_at (v20 : FVec Ideal S512x1 .f32) (v22 : FVec Ideal S512x256 .f32) (v23 : Vec Ideal S1x256 .f32) (v34 : FVec Ideal S512x256 .f32)
    (r : Fin 512 → ℝ) (oh dt : Fin 512 → Fin 256 → ℝ) (w : Fin 256 → ℝ) (h20 : ∀ i, v20 (ix2 i 0) = (r i : EReal))
    (h22 : ∀ i e, v22 (ix2 i e) = (oh i e : EReal)) (h23 : ∀ e, v23 (ix2 0 e) = (w e : EReal))
    (h34 : ∀ i e, v34 (ix2 i e) = (dt i e : EReal)) (i : Fin 512) (e : Fin 256) :
    k0_pay15 v20 v22 v23 v34 (ix2 i e)
      = ((r i * (dt i e * w e - (∑ e', dt i e' * w e') / 256 - oh i e * ((∑ e', dt i e' * w e' * oh i e') / 256)) : ℝ) : EReal) := by
  pointwise [k0_pay15]
  simp only [h20, h22, h23, h34, word_256, ← EReal.coe_mul, ← coe_sum, div_256, ← EReal.coe_sub]

theorem pay16_at (i : Fin 512) : k0_pay16 (F := Ideal) (ix2 i 0) = ((i.val : ℝ) : EReal) := by
  pointwise [k0_pay16]
  show (((BitVec.ofNat 32 i.val).toInt : ℝ) : EReal) = _
  rw [toInt_small _ (by have := i.isLt; omega)]
  norm_cast

theorem pay17_at (v1 : FVec Ideal S1x1 .f32) (lg : ℝ) (h1 : v1 (ix2 0 0) = (lg : EReal)) (i : Fin 512) :
    k0_pay17 v1 (ix2 i 0) = ((Real.exp (lg * ((i.val : ℝ) + 1)) : ℝ) : EReal) := by
  pointwise [k0_pay17]
  simp only [h1, pay16_at, ← EReal.coe_one, ← EReal.coe_add, ← EReal.coe_mul, Ideal.exp_coe]

theorem pay18_at (v1 : FVec Ideal S1x1 .f32) (v73 : FVec Ideal S512x1 .f32) (lg : ℝ) (h1 : v1 (ix2 0 0) = (lg : EReal))
    (h73 : ∀ i, v73 (ix2 i 0) = (((i : Fin 512).val : ℝ) : EReal)) (i : Fin 512) :
    k0_pay18 v1 v73 (Scalar.ofBits .f32 0x43FF8000#32) (ix2 i 0) = ((Real.exp (lg * (511 - (i.val : ℝ))) : ℝ) : EReal) := by
  pointwise [k0_pay18]
  simp only [h1, h73, word_511, ← EReal.coe_sub, ← EReal.coe_mul, Ideal.exp_coe]

theorem pay19_at (v1 : FVec Ideal S1x1 .f32) (lg : ℝ) (h1 : v1 (ix2 0 0) = (lg : EReal)) :
    k0_pay19 v1 (ix2 0 0) = ((Real.exp (lg * 512) : ℝ) : EReal) := by
  pointwise [k0_pay19]
  simp only [h1, word_512, ← EReal.coe_mul, Ideal.exp_coe]

theorem pay20_at (v : Vec Ideal S512x128 .f32) (i : Fin 512) (d : Fin 128) : k0_pay20 v (ix2 i d) = v (ix2 i d) := by
  pointwise [k0_pay20]

theorem pay21_at (v : Vec Ideal S512x128 .f32) (i : Fin 512) (d : Fin 128) : k0_pay21 v (ix2 i d) = v (ix2 i d) := by
  pointwise [k0_pay21]

theorem pay22_at (v87 v89 v91 : Vec Ideal S512x128 .f32) (c s : Fin 512 → Fin 64 → ℝ) (x : Fin 512 → Fin 128 → ℝ)
    (h87 : ∀ i d, v87 (ix2 i d) = (cos2 (c i) d : EReal)) (h89 : ∀ i d, v89 (ix2 i d) = (sin2 (s i) d : EReal))
    (h91 : ∀ i d, v91 (ix2 i d) = (x i d : EReal)) (i : Fin 512) (d : Fin 128) :
    k0_pay22 v87 v89 v91 (ix2 i d) = (rope (c i) (s i) (x i) d : EReal) := by
  rw [← rope_roll]
  pointwise [k0_pay22]
  simp only [pay20_at, pay21_at, h87, h89, h91, ← EReal.coe_mul, ← EReal.coe_add]
  rfl

theorem pay23_at (v87 v89 v96 : Vec Ideal S512x128 .f32) (c s : Fin 512 → Fin 64 → ℝ) (x : Fin 512 → Fin 128 → ℝ)
    (h87 : ∀ i d, v87 (ix2 i d) = (cos2 (c i) d : EReal)) (h89 : ∀ i d, v89 (ix2 i d) = (sin2 (s i) d : EReal))
    (h96 : ∀ i d, v96 (ix2 i d) = (x i d : EReal)) (i : Fin 512) (d : Fin 128) :
    k0_pay23 v87 v89 v96 (ix2 i d) = ((rope (c i) (s i) (x i) d * scl : ℝ) : EReal) := by
  rw [← rope_roll]
  pointwise [k0_pay23]
  simp only [pay20_at, pay21_at, h87, h89, h96, word_scl, ← EReal.coe_mul, ← EReal.coe_add]
  rfl

theorem pay24_at (v : Vec Ideal S1x1x128x256 .f32) (d : Fin 128) (e : Fin 256) : k0_pay24 v (ix2 d e) = v (ix4 0 0 d e) := by
  pointwise [k0_pay24]

theorem pay4_at (d : Fin 128) (e : Fin 256) : k0_pay4 (F := Ideal) (ix2 d e) = ((0 : ℝ) : EReal) := by
  pointwise [k0_pay4]
  rfl

theorem pay6_at (e : Fin 256) : k0_pay6 (F := Ideal) (ix2 0 e) = ((0 : ℝ) : EReal) := by
  pointwise [k0_pay6]
  rfl

/-- The mask, made at a head's first point. -/
theorem pay5_at (v : Vec Ideal S1x1x1 .f32) (lg : ℝ) (hv : v (ix3 0 0 0) = (lg : EReal)) (i j : Fin 512) :
    k0_pay5 v (ix2 i j) = (mask lg i j : EReal) := by
  pointwise [k0_pay5]
  rw [shift_six, shift_six, sle_small _ _ (by omega) (by omega), pay3_at v lg hv, dist_at _ _ (by omega) (by omega), ← EReal.coe_mul,
    Ideal.exp_coe]
  unfold mask
  by_cases h : j.val / 64 ≤ i.val / 64
  · rw [if_pos h, if_pos h]; rfl
  · rw [if_neg h, if_neg h]; rfl

theorem pay25_at (v87 v89 v91 v96 : Vec Ideal S512x128 .f32) (v107 : Vec Ideal S512x512 .f32) (q k : Fin 512 → Fin 128 → ℝ) (w : Fin 512 → Fin 512 → ℝ)
    (hq : ∀ i d, k0_pay22 v87 v89 v91 (ix2 i d) = (q i d : EReal)) (hk : ∀ i d, k0_pay23 v87 v89 v96 (ix2 i d) = (k i d : EReal))
    (hw : ∀ i j, v107 (ix2 i j) = (w i j : EReal)) (i j : Fin 512) :
    k0_pay25 v87 v89 v91 v96 v107 (ix2 i j) = (((∑ d, q i d * k j d) * w i j : ℝ) : EReal) := by
  pointwise [k0_pay25]
  simp only [hq, hk, hw, ← EReal.coe_mul, ← coe_sum]

theorem pay26_at (v71 : FVec Ideal S512x256 .f32) (v103 : Vec Ideal S512x256 .f32) (g v : Fin 512 → Fin 256 → ℝ)
    (h71 : ∀ i e, v71 (ix2 i e) = (g i e : EReal)) (h103 : ∀ i e, v103 (ix2 i e) = (v i e : EReal)) (i j : Fin 512) :
    k0_pay26 v71 v103 (ix2 i j) = ((∑ e, g i e * v j e : ℝ) : EReal) := by
  pointwise [k0_pay26]
  simp only [h71, h103, ← EReal.coe_mul, ← coe_sum]

theorem pay28_at (v71 : FVec Ideal S512x256 .f32) (v78 : FVec Ideal S512x1 .f32) (v102 : FVec Ideal S512x128 .f32) (v105 : FVec Ideal S128x256 .f32)
    (v107 : Vec Ideal S512x512 .f32) (v114 : FVec Ideal S512x512 .f32) (g : Fin 512 → Fin 256 → ℝ) (a : Fin 512 → ℝ) (k : Fin 512 → Fin 128 → ℝ)
    (st : Fin 128 → Fin 256 → ℝ) (w gv : Fin 512 → Fin 512 → ℝ)
    (h71 : ∀ i e, v71 (ix2 i e) = (g i e : EReal)) (h78 : ∀ i, v78 (ix2 i 0) = (a i : EReal)) (h102 : ∀ i d, v102 (ix2 i d) = (k i d : EReal))
    (h105 : ∀ d e, v105 (ix2 d e) = (st d e : EReal)) (h107 : ∀ i j, v107 (ix2 i j) = (w i j : EReal))
    (h114 : ∀ i j, v114 (ix2 i j) = (gv i j : EReal)) (i : Fin 512) (d : Fin 128) :
    k0_pay28 v71 v78 v102 v105 v107 v114 (ix2 i d) = (((∑ j, (gv i j * w i j) * k j d) + (∑ e, g i e * st d e) * a i : ℝ) : EReal) := by
  pointwise [k0_pay28, k0_pay27]
  simp only [h71, h78, h102, h105, h107, h114, ← EReal.coe_mul, ← coe_sum, ← EReal.coe_add]

theorem pay29_at (v83 : FVec Ideal S512x1 .f32) (v95 : FVec Ideal S512x128 .f32) (v103 : Vec Ideal S512x256 .f32) (v106 : Vec Ideal S128x256 .f32)
    (v107 : Vec Ideal S512x512 .f32) (v114 : FVec Ideal S512x512 .f32) (c : Fin 512 → ℝ) (q : Fin 512 → Fin 128 → ℝ) (v : Fin 512 → Fin 256 → ℝ)
    (dst : Fin 128 → Fin 256 → ℝ) (w gv : Fin 512 → Fin 512 → ℝ)
    (h83 : ∀ i, v83 (ix2 i 0) = (c i : EReal)) (h95 : ∀ i d, v95 (ix2 i d) = (q i d : EReal)) (h103 : ∀ i e, v103 (ix2 i e) = (v i e : EReal))
    (h106 : ∀ d e, v106 (ix2 d e) = (dst d e : EReal)) (h107 : ∀ i j, v107 (ix2 i j) = (w i j : EReal))
    (h114 : ∀ i j, v114 (ix2 i j) = (gv i j : EReal)) (j : Fin 512) (d : Fin 128) :
    k0_pay29 v83 v95 v103 v106 v107 v114 (ix2 j d) = (((∑ i, (gv i j * w i j) * q i d) + (∑ e, v j e * dst d e) * c j : ℝ) : EReal) := by
  pointwise [k0_pay29, k0_pay27]
  simp only [h83, h95, h103, h106, h107, h114, ← EReal.coe_mul, ← coe_sum, ← EReal.coe_add]

theorem pay30_at (v71 : FVec Ideal S512x256 .f32) (v83 : FVec Ideal S512x1 .f32) (v102 : FVec Ideal S512x128 .f32) (v106 : Vec Ideal S128x256 .f32)
    (v111 : FVec Ideal S512x512 .f32) (g : Fin 512 → Fin 256 → ℝ) (c : Fin 512 → ℝ) (k : Fin 512 → Fin 128 → ℝ) (dst : Fin 128 → Fin 256 → ℝ)
    (sm : Fin 512 → Fin 512 → ℝ)
    (h71 : ∀ i e, v71 (ix2 i e) = (g i e : EReal)) (h83 : ∀ i, v83 (ix2 i 0) = (c i : EReal)) (h102 : ∀ i d, v102 (ix2 i d) = (k i d : EReal))
    (h106 : ∀ d e, v106 (ix2 d e) = (dst d e : EReal)) (h111 : ∀ i j, v111 (ix2 i j) = (sm i j : EReal)) (j : Fin 512) (e : Fin 256) :
    k0_pay30 v71 v83 v102 v106 v111 (ix2 j e) = (((∑ i, sm i j * g i e) + ∑ d, (k j d * c j) * dst d e : ℝ) : EReal) := by
  pointwise [k0_pay30]
  simp only [h71, h83, h102, h106, h111, ← EReal.coe_mul, ← coe_sum, ← EReal.coe_add]

theorem pay31_at (v71 : FVec Ideal S512x256 .f32) (v78 : FVec Ideal S512x1 .f32) (v86 : FVec Ideal S1x1 .f32) (v95 : FVec Ideal S512x128 .f32)
    (v106 : Vec Ideal S128x256 .f32) (g : Fin 512 → Fin 256 → ℝ) (a : Fin 512 → ℝ) (gb : ℝ) (q : Fin 512 → Fin 128 → ℝ) (dst : Fin 128 → Fin 256 → ℝ)
    (h71 : ∀ i e, v71 (ix2 i e) = (g i e : EReal)) (h78 : ∀ i, v78 (ix2 i 0) = (a i : EReal)) (h86 : v86 (ix2 0 0) = (gb : EReal))
    (h95 : ∀ i d, v95 (ix2 i d) = (q i d : EReal)) (h106 : ∀ d e, v106 (ix2 d e) = (dst d e : EReal)) (d : Fin 128) (e : Fin 256) :
    k0_pay31 v71 v78 v86 v95 v106 (ix2 d e) = ((dst d e * gb + ∑ i, (q i d * a i) * g i e : ℝ) : EReal) := by
  pointwise [k0_pay31]
  simp only [h71, h78, h86, h95, h106, ← EReal.coe_mul, ← coe_sum, ← EReal.coe_add]

/-- The gradient of the unrotated queries. -/
theorem pay1_at (v157 v158 v159 : FVec Ideal S512x128 .f32) (v71 : FVec Ideal S512x256 .f32) (v78 : FVec Ideal S512x1 .f32) (v102 : FVec Ideal S512x128 .f32)
    (v105 : FVec Ideal S128x256 .f32) (v107 : Vec Ideal S512x512 .f32) (v114 : FVec Ideal S512x512 .f32) (v88 v90 : FVec Ideal S512x128 .f32)
    (c s : Fin 512 → Fin 64 → ℝ) (dq : Fin 512 → Fin 128 → ℝ)
    (h88 : ∀ i d, v88 (ix2 i d) = (cos2 (c i) d : EReal)) (h90 : ∀ i d, v90 (ix2 i d) = (sin2 (s i) d : EReal))
    (hdq : ∀ i d, k0_pay28 v71 v78 v102 v105 v107 v114 (ix2 i d) = (dq i d : EReal))
    (h157 : v157 = k0_pay32 v90) (h158 : v158 = k0_pay33 v71 v78 v88 v102 v105 v107 v114) (h159 : v159 = k0_pay34 v71 v78 v102 v105 v107 v114)
    (i : Fin 512) (d : Fin 128) :
    k0_pay1 v157 v158 v159 (ix2 i d) = (unrope (c i) (s i) (dq i) d : EReal) := by
  subst h157 h158 h159
  rw [← unrope_roll]
  pointwise [k0_pay1, k0_pay32, k0_pay33, k0_pay34]
  simp only [h88, h90, hdq, ← EReal.coe_zero, ← EReal.coe_mul, ← EReal.coe_sub, ← EReal.coe_add]
  rfl

/-- The gradient of the unrotated, unscaled keys. -/
theorem pay2_at (v88 v90 v133 : FVec Ideal S512x128 .f32) (c s : Fin 512 → Fin 64 → ℝ) (dk : Fin 512 → Fin 128 → ℝ)
    (h88 : ∀ i d, v88 (ix2 i d) = (cos2 (c i) d : EReal)) (h90 : ∀ i d, v90 (ix2 i d) = (sin2 (s i) d : EReal))
    (h133 : ∀ i d, v133 (ix2 i d) = (dk i d : EReal)) (i : Fin 512) (d : Fin 128) :
    k0_pay2 v88 v90 v133 (ix2 i d) = ((unrope (c i) (s i) (dk i) d * scl : ℝ) : EReal) := by
  rw [← unrope_roll]
  pointwise [k0_pay2]
  simp only [h88, h90, h133, word_scl, ← EReal.coe_zero, ← EReal.coe_mul, ← EReal.coe_sub, ← EReal.coe_add]
  rfl

end Cert.Retention

end
-- ==== Proof.Point.lean ====
/- One grid point of the kernel on inputs that are real numbers: from a head's blocks, the state of the future and the weights inside
   a block, the gradients of the block's columns, the next state and the block's part of the gain's gradient. -/
module

public import proofs.«01_k».proof.Proof.Payloads

@[expose] public section

set_option maxRecDepth 16384

noncomputable section

namespace Cert.Retention

open Idealize.ShloMosaic Cert.KernelIdeal Cert.KernelIdeal.Gen

section

variable (X : Fin 4096 → Fin 11520 → ℝ) (P : Fin 4096 → ℝ) (W : Fin 2048 → ℝ) (Y : Fin 4096 → Fin 2048 → ℝ)

/-- The blocks that a point of head `h` and block `b` stages: the decays, the projection's columns, the angle tables, the state of the
    past, the gradient of the gated result, the retention's result and the gain. -/
structure Staged (h b : Fin 8) (b0 : Vec Ideal S1x8x128 .f32) (b1 : Vec Ideal S512x768 .f32) (b2 b3 : Vec Ideal S512x128 .f32)
    (b4 : Vec Ideal S1x1x128x256 .f32) (b5 b6 : Vec Ideal S512x256 .f32) (b7 : Vec Ideal S1x256 .f32) : Prop where
  lg : b0 (ix3 0 0 0) = (lgm h : EReal)
  proj : ∀ i j, b1 (ix2 i j) = (X (row b i) (col h j) : EReal)
  cos : ∀ i d, b2 (ix2 i d) = (cos2 (ctab P (row b i)) d : EReal)
  sin : ∀ i d, b3 (ix2 i d) = (sin2 (stab P (row b i)) d : EReal)
  past : ∀ d e, b4 (ix4 0 0 d e) = (pastState (lgm h) (rk X P h) (xv X h) b.val d e : EReal)
  dry : ∀ i e, b5 (ix2 i e) = (Y (row b i) (chan h e) : EReal)
  ret : ∀ i e, b6 (ix2 i e) = (Retention.ret X P h (row b i) e : EReal)
  gain : ∀ e, b7 (ix2 0 e) = (W (chan h e) : EReal)

end

variable {X : Fin 4096 → Fin 11520 → ℝ} {P : Fin 4096 → ℝ} {W : Fin 2048 → ℝ} {Y : Fin 4096 → Fin 2048 → ℝ}
variable {h b : Fin 8} {b0 : Vec Ideal S1x8x128 .f32} {b1 : Vec Ideal S512x768 .f32} {b2 b3 : Vec Ideal S512x128 .f32}
    {b4 : Vec Ideal S1x1x128x256 .f32} {b5 b6 : Vec Ideal S512x256 .f32} {b7 : Vec Ideal S1x256 .f32}

/-- The decay's entry of its block, and the queries', keys', values' and gate's columns of the projection's block. -/
abbrev lg0 (b0 : Vec Ideal S1x8x128 .f32) : Vec Ideal S1x1x1 .f32 := View.ld b0 (Rect.unit ![0, 0, 0] ![1, 1, 1] inb_S1x8x128_S1x1x1_0_0_0)
abbrev qcols (b1 : Vec Ideal S512x768 .f32) : Vec Ideal S512x128 .f32 := View.ld b1 (Rect.unit ![0, 0] ![512, 128] inb_S512x768_S512x128_0_0)
abbrev kcols (b1 : Vec Ideal S512x768 .f32) : Vec Ideal S512x128 .f32 := View.ld b1 (Rect.unit ![0, 128] ![512, 128] inb_S512x768_S512x128_0_128)
abbrev vcols (b1 : Vec Ideal S512x768 .f32) : Vec Ideal S512x256 .f32 := View.ld b1 (Rect.unit ![0, 256] ![512, 256] inb_S512x768_S512x256_0_256)
abbrev gcols (b1 : Vec Ideal S512x768 .f32) : Vec Ideal S512x256 .f32 := View.ld b1 (Rect.unit ![0, 512] ![512, 256] inb_S512x768_S512x256_0_512)

/-- The gradient of what the retention gives, as the kernel computes it. -/
abbrev kdret (b1 : Vec Ideal S512x768 .f32) (b5 b6 : Vec Ideal S512x256 .f32) (b7 : Vec Ideal S1x256 .f32) : FVec Ideal S512x256 .f32 :=
  k0_pay15 (k0_pay8 b6) (k0_pay9 b6) b7 (k0_pay11 (gcols b1) b5)

variable (B : Staged X P W Y h b b0 b1 b2 b3 b4 b5 b6 b7)
include B

theorem lg_at : k0_pay3 (lg0 b0) (ix2 0 0) = (lgm h : EReal) :=
  pay3_at _ (lgm h) (by pointwise [lg0]; exact B.lg)

theorem q_at (i : Fin 512) (d : Fin 128) : qcols b1 (ix2 i d) = (xq X h (row b i) d : EReal) := by
  pointwise [qcols]; rw [B.proj]; rfl

theorem k_at (i : Fin 512) (d : Fin 128) : kcols b1 (ix2 i d) = (xk X h (row b i) d : EReal) := by
  pointwise [kcols]; rw [B.proj]; rfl

theorem v_at (i : Fin 512) (e : Fin 256) : vcols b1 (ix2 i e) = (xv X h (row b i) e : EReal) := by
  pointwise [vcols]; rw [B.proj]; rfl

theorem g_at (i : Fin 512) (e : Fin 256) : gcols b1 (ix2 i e) = (xg X h (row b i) e : EReal) := by
  pointwise [gcols]; rw [B.proj]; rfl

theorem dgt_at (i : Fin 512) (e : Fin 256) : k0_pay11 (gcols b1) b5 (ix2 i e) = (dgt X Y h (row b i) e : EReal) :=
  pay11_at _ _ (fun i e => xg X h (row b i) e) (fun i e => Y (row b i) (chan h e)) (g_at B) B.dry i e

theorem hat_at (i : Fin 512) (e : Fin 256) : k0_pay9 b6 (ix2 i e) = (hat (ret X P h (row b i)) e : EReal) :=
  pay9_at _ (fun i => ret X P h (row b i)) B.ret i e

theorem dret_at (i : Fin 512) (e : Fin 256) : kdret b1 b5 b6 b7 (ix2 i e) = (dret X P W Y h (row b i) e : EReal) :=
  pay15_at _ _ _ _ (fun i => rstd (ret X P h (row b i))) (fun i e => hat (ret X P h (row b i)) e) (fun i e => dgt X Y h (row b i) e)
    (fun e => W (chan h e)) (pay8_at _ (fun i => ret X P h (row b i)) B.ret) (hat_at B) B.gain (dgt_at B) i e

theorem rq_at (i : Fin 512) (d : Fin 128) : k0_pay22 b2 b3 (qcols b1) (ix2 i d) = (rq X P h (row b i) d : EReal) :=
  pay22_at _ _ _ (fun i => ctab P (row b i)) (fun i => stab P (row b i)) (fun i d => xq X h (row b i) d) B.cos B.sin (q_at B) i d

theorem rk_at (i : Fin 512) (d : Fin 128) : k0_pay23 b2 b3 (kcols b1) (ix2 i d) = (rk X P h (row b i) d : EReal) :=
  pay23_at _ _ _ (fun i => ctab P (row b i)) (fun i => stab P (row b i)) (fun i d => xk X h (row b i) d) B.cos B.sin (k_at B) i d

theorem a_at (i : Fin 512) : k0_pay17 (k0_pay3 (lg0 b0)) (ix2 i 0) = ((Real.exp (lgm h * ((i.val : ℝ) + 1)) : ℝ) : EReal) :=
  pay17_at _ (lgm h) (lg_at B) i

theorem c_at (i : Fin 512) : k0_pay18 (k0_pay3 (lg0 b0)) k0_pay16 (FloatOps.ofBits FTy.f32 1140817920#32) (ix2 i 0)
    = ((Real.exp (lgm h * (511 - (i.val : ℝ))) : ℝ) : EReal) :=
  pay18_at _ _ (lgm h) (lg_at B) pay16_at i

theorem gv_at (i j : Fin 512) : k0_pay26 (kdret b1 b5 b6 b7) (vcols b1) (ix2 i j)
    = ((∑ e, dret X P W Y h (row b i) e * xv X h (row b j) e : ℝ) : EReal) :=
  pay26_at _ _ (fun i e => dret X P W Y h (row b i) e) (fun i e => xv X h (row b i) e) (dret_at B) (v_at B) i j

/-- The gate's columns. -/
theorem dgate_at (i : Fin 512) (e : Fin 256) :
    k0_pay13 (k0_pay9 b6) (gcols b1) (k0_pay10 (gcols b1)) b5 (k0_pay12 b7) (ix2 i e) = (dgate X P W Y h (row b i) e : EReal) :=
  pay13_at _ _ _ _ _ _ _ _ _ _ i e (hat_at B i e) (g_at B i e) (pay10_at _ (fun i e => xg X h (row b i) e) (g_at B) i e) (B.dry i e)
    (pay12_at _ (fun e => W (chan h e)) B.gain i e)

/-- The block's part of the gain's gradient is added. -/
theorem gain_at (acc : Vec Ideal S1x256 .f32) (p : Fin 256 → ℝ) (hp : ∀ e, acc (ix2 0 e) = (p e : EReal)) (e : Fin 256) :
    k0_pay14 (k0_pay9 b6) (k0_pay11 (gcols b1) b5) acc (ix2 0 e)
      = ((p e + ∑ i, dgt X Y h (row b i) e * hat (ret X P h (row b i)) e : ℝ) : EReal) :=
  pay14_at _ _ _ (fun i e => hat (ret X P h (row b i)) e) (fun i e => dgt X Y h (row b i) e) p (hat_at B) (dgt_at B) hp e

variable {msk : Vec Ideal S512x512 .f32} (M : ∀ i j, msk (ix2 i j) = (mask (lgm h) i j : EReal))

section
include M

/-- The queries' columns. -/
theorem dq_at (i : Fin 512) (d : Fin 128) :
    k0_pay1 (k0_pay32 (k0_pay21 b3))
        (k0_pay33 (kdret b1 b5 b6 b7) (k0_pay17 (k0_pay3 (lg0 b0))) (k0_pay20 b2) (k0_pay23 b2 b3 (kcols b1)) (k0_pay24 b4) msk
          (k0_pay26 (kdret b1 b5 b6 b7) (vcols b1)))
        (k0_pay34 (kdret b1 b5 b6 b7) (k0_pay17 (k0_pay3 (lg0 b0))) (k0_pay23 b2 b3 (kcols b1)) (k0_pay24 b4) msk
          (k0_pay26 (kdret b1 b5 b6 b7) (vcols b1))) (ix2 i d)
      = (dxq X P W Y h (row b i) d : EReal) := by
  refine pay1_at _ _ _ _ _ _ _ _ _ _ _ (fun i => ctab P (row b i)) (fun i => stab P (row b i)) (fun i d => drq X P W Y h (row b i) d)
    (fun i d => (pay20_at b2 i d).trans (B.cos i d)) (fun i d => (pay21_at b3 i d).trans (B.sin i d)) (fun i d => ?_) rfl rfl rfl i d
  rw [drq, dq_split]
  exact pay28_at _ _ _ _ _ _ (fun i e => dret X P W Y h (row b i) e) (fun i => Real.exp (lgm h * ((i.val : ℝ) + 1)))
    (fun i d => rk X P h (row b i) d) (fun d e => pastState (lgm h) (rk X P h) (xv X h) b.val d e) (fun i j => mask (lgm h) i j)
    (fun i j => ∑ e, dret X P W Y h (row b i) e * xv X h (row b j) e) (dret_at B) (a_at B) (rk_at B)
    (fun d e => (pay24_at b4 d e).trans (B.past d e)) M (gv_at B) i d

end

variable {dst : Vec Ideal S128x256 .f32}
  (D : ∀ d e, dst (ix2 d e) = (futState (lgm h) (rq X P h) (dret X P W Y h) (b.val + 1) d e : EReal))
include D

/-- The state of the future that the point leaves. -/
theorem state_at (d : Fin 128) (e : Fin 256) :
    k0_pay31 (kdret b1 b5 b6 b7) (k0_pay17 (k0_pay3 (lg0 b0))) (k0_pay19 (k0_pay3 (lg0 b0))) (k0_pay22 b2 b3 (qcols b1)) dst (ix2 d e)
      = (futState (lgm h) (rq X P h) (dret X P W Y h) b.val d e : EReal) := by
  rw [futState_step]
  exact pay31_at _ _ _ _ _ (fun i e => dret X P W Y h (row b i) e) (fun i => Real.exp (lgm h * ((i.val : ℝ) + 1))) (Real.exp (lgm h * 512))
    (fun i d => rq X P h (row b i) d) (fun d e => futState (lgm h) (rq X P h) (dret X P W Y h) (b.val + 1) d e) (dret_at B) (a_at B)
    (pay19_at _ (lgm h) (lg_at B)) (rq_at B) D d e

include M

/-- The keys' columns. -/
theorem dk_at (i : Fin 512) (d : Fin 128) :
    k0_pay2 (k0_pay20 b2) (k0_pay21 b3)
        (k0_pay29 (k0_pay18 (k0_pay3 (lg0 b0)) k0_pay16 (FloatOps.ofBits FTy.f32 1140817920#32)) (k0_pay22 b2 b3 (qcols b1)) (vcols b1) dst msk
          (k0_pay26 (kdret b1 b5 b6 b7) (vcols b1))) (ix2 i d)
      = (dxk X P W Y h (row b i) d : EReal) := by
  refine pay2_at _ _ _ (fun i => ctab P (row b i)) (fun i => stab P (row b i)) (fun i d => drk X P W Y h (row b i) d)
    (fun i d => (pay20_at b2 i d).trans (B.cos i d)) (fun i d => (pay21_at b3 i d).trans (B.sin i d)) (fun i d => ?_) i d
  rw [drk, dk_split]
  exact pay29_at _ _ _ _ _ _ (fun i => Real.exp (lgm h * (511 - (i.val : ℝ)))) (fun i d => rq X P h (row b i) d)
    (fun i e => xv X h (row b i) e) (fun d e => futState (lgm h) (rq X P h) (dret X P W Y h) (b.val + 1) d e) (fun i j => mask (lgm h) i j)
    (fun i j => ∑ e, dret X P W Y h (row b i) e * xv X h (row b j) e) (c_at B) (rq_at B) (v_at B) D M (gv_at B) i d

/-- The values' columns. -/
theorem dv_at (i : Fin 512) (e : Fin 256) :
    k0_pay30 (kdret b1 b5 b6 b7) (k0_pay18 (k0_pay3 (lg0 b0)) k0_pay16 (FloatOps.ofBits FTy.f32 1140817920#32)) (k0_pay23 b2 b3 (kcols b1)) dst
        (k0_pay25 b2 b3 (qcols b1) (kcols b1) msk) (ix2 i e)
      = (dxv X P W Y h (row b i) e : EReal) := by
  rw [dxv, dv_split]
  exact pay30_at _ _ _ _ _ (fun i e => dret X P W Y h (row b i) e) (fun i => Real.exp (lgm h * (511 - (i.val : ℝ))))
    (fun i d => rk X P h (row b i) d) (fun d e => futState (lgm h) (rq X P h) (dret X P W Y h) (b.val + 1) d e)
    (fun i j => (∑ d, rq X P h (row b i) d * rk X P h (row b j) d) * mask (lgm h) i j) (dret_at B) (c_at B) (rk_at B) D
    (pay25_at _ _ _ _ _ (fun i d => rq X P h (row b i) d) (fun i d => rk X P h (row b i) d) (fun i j => mask (lgm h) i j) (rq_at B) (rk_at B) M)
    i e

end Cert.Retention

end
-- ==== Proof.Step.lean ====
/- What the grid's points stage and leave. -/
module

public import proofs.«01_k».proof.Proof.Host
public import proofs.«01_k».proof.Proof.Point
public import Idealize.ShloMosaic.Lib.Pipeline.ReadBack

@[expose] public section

set_option maxRecDepth 16384

noncomputable section

namespace Cert.Retention

open Idealize.ShloMosaic Idealize.ShloMosaic.TcCoe Cert.KernelIdeal Cert.KernelIdeal.Gen

variable (m : (ℓ : Loc nD τ sig) → Buf (Elt Ideal) ℓ) (c : Dev nD)

/-- A point's head and block. -/
def hd (t : Fin cfg0.N) : Fin 8 := ⟨t.val / 8, by have := lt_of_lt_of_eq t.isLt N_0; omega⟩
def bk (t : Fin cfg0.N) : Fin 8 := ⟨7 - t.val % 8, by omega⟩

theorem idx : ∀ t : Fin cfg0.N, win0_0.index t = ![t.val / 8, 0, 0] ∧ win0_1.index t = ![7 - t.val % 8, 6 + t.val / 8]
    ∧ win0_2.index t = ![7 - t.val % 8, 0] ∧ win0_3.index t = ![7 - t.val % 8, 0] ∧ win0_4.index t = ![t.val / 8, 7 - t.val % 8, 0, 0]
    ∧ win0_5.index t = ![7 - t.val % 8, t.val / 8] ∧ win0_6.index t = ![7 - t.val % 8, t.val / 8] ∧ win0_7.index t = ![0, t.val / 8]
    ∧ win0_8.index t = ![7 - t.val % 8, 6 + t.val / 8] ∧ win0_9.index t = ![0, t.val / 8] :=
  (by decide +kernel : ∀ t : Fin grid0.N, _)

theorem iblk0_at (t : Fin cfg0.N) (i : Fin 8) (j : Fin 128) : iblk m c 0 t (ix3 0 i j) = Gen.V m c main_v26 (ix3 (hd t) i j) := by
  have ht := lt_of_lt_of_eq t.isLt N_0
  blk_ext [iblk, hd, idx t]

theorem iblk1_at (t : Fin cfg0.N) (i : Fin 512) (j : Fin 768) : iblk m c 1 t (ix2 i j) = Gen.V m c main_arg0 (ix2 (row (bk t) i) (col (hd t) j)) := by
  blk_ext [iblk, hd, bk, row, col, idx t]

theorem iblk2_at (t : Fin cfg0.N) (i : Fin 512) (d : Fin 128) : iblk m c 2 t (ix2 i d) = Gen.V m c main_v14 (ix2 (row (bk t) i) d) := by
  blk_ext [iblk, bk, row, idx t]

theorem iblk3_at (t : Fin cfg0.N) (i : Fin 512) (d : Fin 128) : iblk m c 3 t (ix2 i d) = Gen.V m c main_v16 (ix2 (row (bk t) i) d) := by
  blk_ext [iblk, bk, row, idx t]

theorem iblk4_at (t : Fin cfg0.N) (d : Fin 128) (e : Fin 256) : iblk m c 4 t (ix4 0 0 d e) = Gen.V m c main_v124 (ix4 (hd t) (bk t) d e) := by
  blk_ext [iblk, hd, bk, idx t]

theorem iblk5_at (t : Fin cfg0.N) (i : Fin 512) (e : Fin 256) : iblk m c 5 t (ix2 i e) = Gen.V m c main_arg3 (ix2 (row (bk t) i) (chan (hd t) e)) := by
  blk_ext [iblk, hd, bk, row, chan, idx t]

theorem iblk6_at (t : Fin cfg0.N) (i : Fin 512) (e : Fin 256) : iblk m c 6 t (ix2 i e) = Gen.V m c main_v154 (ix2 (row (bk t) i) (chan (hd t) e)) := by
  blk_ext [iblk, hd, bk, row, chan, idx t]

theorem iblk7_at (t : Fin cfg0.N) (e : Fin 256) : iblk m c 7 t (ix2 0 e) = Gen.V m c main_arg2 (ix2 0 (chan (hd t) e)) := by
  blk_ext [iblk, hd, chan, idx t]

variable (X : Fin 4096 → Fin 11520 → ℝ) (P : Fin 4096 → ℝ) (W : Fin 2048 → ℝ) (Y : Fin 4096 → Fin 2048 → ℝ)

/-- The arguments are real numbers: the projection `X`, the positions `P`, the gain `W` and the gradient `Y` of the gated result. -/
structure Reals : Prop where
  X : ∀ n j, m ((c : Thread nD τ).loc main_arg0) (ix2 n j) = (X n j : EReal)
  P : ∀ n, (FloatOps.sitofp .f32 (m ((c : Thread nD τ).loc main_arg1) (ix1 n)) : Ideal .f32) = (P n : EReal)
  W : ∀ j, m ((c : Thread nD τ).loc main_arg2) (ix2 0 j) = (W j : EReal)
  Y : ∀ n j, m ((c : Thread nD τ).loc main_arg3) (ix2 n j) = (Y n j : EReal)

variable {m c X P W Y} (R : Reals m c X P W Y)
include R

/-- The blocks of a point. -/
theorem staged (t : Fin cfg0.N) : Staged X P W Y (hd t) (bk t) (iblk m c 0 t) (iblk m c 1 t) (iblk m c 2 t) (iblk m c 3 t) (iblk m c 4 t)
    (iblk m c 5 t) (iblk m c 6 t) (iblk m c 7 t) where
  lg := (iblk0_at m c t 0 0).trans (lgs_at m c _ _ _)
  proj i j := (iblk1_at m c t i j).trans ((congrFun (arg0_eq m c) _).trans (R.X _ _))
  cos i d := (iblk2_at m c t i d).trans (cos_at m c P R.P _ _)
  sin i d := (iblk3_at m c t i d).trans (sin_at m c P R.P _ _)
  past d e := (iblk4_at m c t d e).trans (states_at m c X P R.P R.X _ _ _ _)
  dry i e := (iblk5_at m c t i e).trans ((congrFun (arg3_eq m c) _).trans (R.Y _ _))
  ret i e := (iblk6_at m c t i e).trans (ret_at m c X P R.P R.X _ _ _)
  gain e := (iblk7_at m c t e).trans ((congrFun (arg2_eq m c) _).trans (R.W _))

omit R

/-- The part of the gain's gradient of the blocks from `b` on. -/
def gsum (X : Fin 4096 → Fin 11520 → ℝ) (P : Fin 4096 → ℝ) (Y : Fin 4096 → Fin 2048 → ℝ) (h : Fin 8) (b : ℕ) (e : Fin 256) : ℝ :=
  ∑ n : Fin 4096, if b ≤ n.val / 512 then dgt X Y h n e * hat (ret X P h n) e else 0

theorem gsum_last (h : Fin 8) (e : Fin 256) : gsum X P Y h 8 e = 0 :=
  Finset.sum_eq_zero fun n _ => if_neg (by have := n.isLt; omega)

theorem gsum_zero (h : Fin 8) (e : Fin 256) : gsum X P Y h 0 e = dgain X P Y h e :=
  Finset.sum_congr rfl fun n _ => if_pos (Nat.zero_le _)

theorem gsum_step (h b : Fin 8) (e : Fin 256) :
    gsum X P Y h b.val e = gsum X P Y h (b.val + 1) e + ∑ i, dgt X Y h (row b i) e * hat (ret X P h (row b i)) e := by
  rw [← sum_block b (fun n => dgt X Y h n e * hat (ret X P h n) e), gsum, gsum, ← Finset.sum_add_distrib]
  refine Finset.sum_congr rfl fun n _ => ?_
  rcases lt_trichotomy b.val (n.val / 512) with hb | hb | hb
  · rw [if_pos (by omega), if_pos (by omega), if_neg (by omega), add_zero]
  · rw [if_pos (by omega), if_neg (by omega), if_pos (by omega), zero_add]
  · rw [if_neg (by omega), if_neg (by omega), if_neg (by omega), add_zero]

/-- What a point leaves: the state of the future from its block on, the weights inside a block, and the gain's gradient over the blocks from
    its block on. -/
structure Left (m : (ℓ : Loc nD τ sig) → Buf (Elt Ideal) ℓ) (c : Dev nD) (X : Fin 4096 → Fin 11520 → ℝ) (P : Fin 4096 → ℝ) (W : Fin 2048 → ℝ)
    (Y : Fin 4096 → Fin 2048 → ℝ) (n : ℕ) (hn : n < cfg0.N) : Prop where
  state : ∀ d e, (outsAt0 m c n hn).2.2.1 (ix2 d e) = (futState (lgm (hd ⟨n, hn⟩)) (rq X P (hd ⟨n, hn⟩)) (dret X P W Y (hd ⟨n, hn⟩)) (bk ⟨n, hn⟩).val d e : EReal)
  mask : ∀ i j, (outsAt0 m c n hn).2.2.2 (ix2 i j) = (Retention.mask (lgm (hd ⟨n, hn⟩)) i j : EReal)
  gain : ∀ e, (outsAt0 m c n hn).2.1 (ix2 0 e) = (gsum X P Y (hd ⟨n, hn⟩) (bk ⟨n, hn⟩).val e : EReal)

theorem bk_first (t : Fin cfg0.N) (h0 : t.val % 8 = 0) : (bk t).val + 1 = 8 := by simp only [bk]; omega

include R

/-- At a head's first point. -/
theorem left_first (t : Fin cfg0.N) (h0 : t.val % 8 = 0) : Left m c X P W Y t.val t.isLt where
  state d e := by
    rw [outsAt0_A m c t h0]; frame_out
    exact state_at (staged R t) (fun d e => by rw [bk_first t h0, futState_last]; exact pay4_at d e) d e
  mask i j := by
    rw [outsAt0_A m c t h0]; frame_out
    exact pay5_at _ _ (by pointwise; exact (staged R t).lg) i j
  gain e := by
    rw [outsAt0_A m c t h0]; frame_out
    have := gain_at (staged R t) (k0_pay6 (F := Ideal)) (fun e => gsum X P Y (hd t) ((bk t).val + 1) e)
      (fun e => by rw [bk_first t h0, gsum_last]; exact pay6_at e) e
    rw [← gsum_step] at this
    exact this

omit R in
/-- At a later point of a head: the head of the point before, and the block after. -/
theorem hd_pred (t : Fin cfg0.N) (h0 : ¬t.val % 8 = 0) (hp : t.val - 1 < cfg0.N) : hd ⟨t.val - 1, hp⟩ = hd t :=
  Fin.ext (by simp only [hd]; omega)

omit R in
theorem bk_pred (t : Fin cfg0.N) (h0 : ¬t.val % 8 = 0) (hp : t.val - 1 < cfg0.N) : (bk ⟨t.val - 1, hp⟩).val = (bk t).val + 1 := by
  simp only [bk]; omega

/-- At a head's later points. -/
theorem left_next (t : Fin cfg0.N) (h0 : ¬t.val % 8 = 0) (hp : t.val - 1 < cfg0.N) (L : Left m c X P W Y (t.val - 1) hp) :
    Left m c X P W Y t.val t.isLt where
  state d e := by
    rw [outsAt0_B m c t h0]; frame_out
    simp only [read_unread_whole]
    exact state_at (staged R t) (fun d e => by rw [L.state d e, hd_pred t h0, bk_pred t h0]) d e
  mask i j := by
    rw [outsAt0_B m c t h0]
    show (outsAt0 m c (t.val - 1) _).2.2.2 (ix2 i j) = _
    rw [L.mask i j, hd_pred t h0]
  gain e := by
    rw [outsAt0_B m c t h0]; frame_out
    have := gain_at (staged R t) (outsAt0 m c (t.val - 1) hp).2.1 (fun e => gsum X P Y (hd t) ((bk t).val + 1) e)
      (fun e => by rw [L.gain e, hd_pred t h0, bk_pred t h0]) e
    rw [← gsum_step] at this
    exact this

/-- At every point. -/
theorem left_all (n : ℕ) (hn : n < cfg0.N) : Left m c X P W Y n hn := by
  induction n with
  | zero => exact left_first R ⟨0, hn⟩ rfl
  | succ n ih =>
    by_cases h0 : (n + 1) % 8 = 0
    · exact left_first R ⟨n + 1, hn⟩ h0
    · exact left_next R ⟨n + 1, hn⟩ h0 _ (ih (by omega))

end Cert.Retention

end
-- ==== Proof.Cols.lean ====
/- What the kernel's two results are: the gradient of the projection's columns that the heads read, and of the gain. -/
module

public import proofs.«01_k».proof.Proof.Step

@[expose] public section

set_option maxRecDepth 16384

noncomputable section

namespace Cert.Retention

open Idealize.ShloMosaic Idealize.ShloMosaic.TcCoe Cert.KernelIdeal Cert.KernelIdeal.Gen

/-- Four stores side by side make one block. -/
theorem canon_cols (G : Fin 512 → Fin 768 → EReal) (pk pq : Vec Ideal S512x128 .bf16) (pv pg : Vec Ideal S512x256 .bf16)
    (hq : ∀ i d, pq (ix2 i d) = G i ⟨d.val, by omega⟩) (hk : ∀ i d, pk (ix2 i d) = G i ⟨128 + d.val, by omega⟩)
    (hv : ∀ i e, pv (ix2 i e) = G i ⟨256 + e.val, by omega⟩) (hg : ∀ i e, pg (ix2 i e) = G i ⟨512 + e.val, by omega⟩)
    (i : Fin 512) (j : Fin 768) :
    View.canon (Val := Elt Ideal) (s := S512x768) (e := .bf16)
        [⟨Rect.unit ![0, 128] ![512, 128] inb_S512x768_S512x128_0_128, pk⟩, ⟨Rect.unit ![0, 0] ![512, 128] inb_S512x768_S512x128_0_0, pq⟩,
          ⟨Rect.unit ![0, 256] ![512, 256] inb_S512x768_S512x256_0_256, pv⟩, ⟨Rect.unit ![0, 512] ![512, 256] inb_S512x768_S512x256_0_512, pg⟩]
        (ix2 i j) = G i j := by
  have hc : ∀ y : S512x768.Idx, ∃ p ∈ ([⟨Rect.unit ![0, 128] ![512, 128] inb_S512x768_S512x128_0_128, pk⟩, ⟨Rect.unit ![0, 0] ![512, 128] inb_S512x768_S512x128_0_0, pq⟩,
          ⟨Rect.unit ![0, 256] ![512, 256] inb_S512x768_S512x256_0_256, pv⟩, ⟨Rect.unit ![0, 512] ![512, 256] inb_S512x768_S512x256_0_512, pg⟩] : List (View.Piece (Elt Ideal) S512x768 .bf16)), y ∈ p.1.set :=
    View.cover_of_tiledBy _ ![512, 128] (by sl_kernel_rfl)
  canon_tiles x h using hc _
  all_goals
    obtain ⟨a, b, rfl⟩ : ∃ a b, x = ix2 a b := ⟨x 0, x 1, by funext k; fin_cases k <;> rfl⟩
    have e0 : i = a := Fin.ext h0
    subst e0
  · rw [hk]; congr 1; exact Fin.ext h1.symm
  · rw [hq]; congr 1; exact Fin.ext h1.symm
  · rw [hv]; congr 1; exact Fin.ext h1.symm
  · rw [hg]; congr 1; exact Fin.ext h1.symm

variable {m : (ℓ : Loc nD τ sig) → Buf (Elt Ideal) ℓ} {c : Dev nD}
variable {X : Fin 4096 → Fin 11520 → ℝ} {P : Fin 4096 → ℝ} {W : Fin 2048 → ℝ} {Y : Fin 4096 → Fin 2048 → ℝ}

theorem dcol_q (h : Fin 8) (n : Fin 4096) (d : Fin 128) (p : d.val < 768) : dcol X P W Y h n ⟨d.val, p⟩ = dxq X P W Y h n d := by
  rw [dcol, dif_pos d.isLt]

theorem dcol_k (h : Fin 8) (n : Fin 4096) (d : Fin 128) (p : 128 + d.val < 768) : dcol X P W Y h n ⟨128 + d.val, p⟩ = dxk X P W Y h n d := by
  rw [dcol, dif_neg (by dsimp only; omega), dif_pos (by dsimp only; omega)]
  congr 1; exact Fin.ext (by dsimp only; omega)

theorem dcol_v (h : Fin 8) (n : Fin 4096) (e : Fin 256) (p : 256 + e.val < 768) : dcol X P W Y h n ⟨256 + e.val, p⟩ = dxv X P W Y h n e := by
  rw [dcol, dif_neg (by dsimp only; omega), dif_neg (by dsimp only; omega), dif_pos (by dsimp only; omega)]
  congr 1; exact Fin.ext (by dsimp only; omega)

theorem dcol_g (h : Fin 8) (n : Fin 4096) (e : Fin 256) (p : 512 + e.val < 768) : dcol X P W Y h n ⟨512 + e.val, p⟩ = dgate X P W Y h n e := by
  rw [dcol, dif_neg (by dsimp only; omega), dif_neg (by dsimp only; omega), dif_neg (by dsimp only; omega)]
  congr 1; exact Fin.ext (by dsimp only; omega)

variable (R : Reals m c X P W Y)
include R

/-- What a point writes: the gradients of its block's columns. -/
theorem cols_at (t : Fin cfg0.N) (i : Fin 512) (j : Fin 768) :
    @Eq EReal ((outsAt0 m c t.val t.isLt).1 (ix2 i j)) (dcol X P W Y (hd t) (row (bk t) i) j : EReal) := by
  by_cases h0 : t.val % 8 = 0
  · rw [outsAt0_A m c t h0]; frame_out
    have D : ∀ d e, k0_pay4 (F := Ideal) (ix2 d e) = (futState (lgm (hd t)) (rq X P (hd t)) (dret X P W Y (hd t)) ((bk t).val + 1) d e : EReal) :=
      fun d e => by rw [bk_first t h0, futState_last]; exact pay4_at d e
    have M : ∀ i j, k0_pay5 (lg0 (iblk m c 0 t)) (ix2 i j) = (mask (lgm (hd t)) i j : EReal) :=
      fun i j => pay5_at _ _ (by pointwise [lg0]; exact (staged R t).lg) i j
    exact canon_cols (fun i j => (dcol X P W Y (hd t) (row (bk t) i) j : EReal)) _ _ _ _
      (fun i d => by rw [dcol_q]; exact dq_at (staged R t) M i d) (fun i d => by rw [dcol_k]; exact dk_at (staged R t) M D i d)
      (fun i e => by rw [dcol_v]; exact dv_at (staged R t) M D i e) (fun i e => by rw [dcol_g]; exact dgate_at (staged R t) i e) i j
  · have hp : t.val - 1 < cfg0.N := by have := t.isLt; omega
    have L := left_all R (t.val - 1) hp
    rw [outsAt0_B m c t h0]; frame_out
    simp only [read_unread_whole]
    have D : ∀ d e, (outsAt0 m c (t.val - 1) hp).2.2.1 (ix2 d e)
        = (futState (lgm (hd t)) (rq X P (hd t)) (dret X P W Y (hd t)) ((bk t).val + 1) d e : EReal) :=
      fun d e => by rw [L.state d e, hd_pred t h0, bk_pred t h0]
    have M : ∀ i j, (outsAt0 m c (t.val - 1) hp).2.2.2 (ix2 i j) = (mask (lgm (hd t)) i j : EReal) :=
      fun i j => by rw [L.mask i j, hd_pred t h0]
    exact canon_cols (fun i j => (dcol X P W Y (hd t) (row (bk t) i) j : EReal)) _ _ _ _
      (fun i d => by rw [dcol_q]; exact dq_at (staged R t) M i d) (fun i d => by rw [dcol_k]; exact dk_at (staged R t) M D i d)
      (fun i e => by rw [dcol_v]; exact dv_at (staged R t) M D i e) (fun i e => by rw [dcol_g]; exact dgate_at (staged R t) i e) i j

omit R in
/-- The gradient of a column that a head reads (0 at the others). -/
def dall (X : Fin 4096 → Fin 11520 → ℝ) (P : Fin 4096 → ℝ) (W : Fin 2048 → ℝ) (Y : Fin 4096 → Fin 2048 → ℝ) (n : Fin 4096) (k : Fin 11520) : ℝ :=
  if hk : 4608 ≤ k.val ∧ k.val < 10752 then
    dcol X P W Y ⟨(k.val - 4608) / 768, by omega⟩ n ⟨(k.val - 4608) % 768, Nat.mod_lt _ (by norm_num)⟩
  else 0

omit R in
theorem dall_col (n : Fin 4096) (h : Fin 8) (j : Fin 768) : dall X P W Y n (col h j) = dcol X P W Y h n j := by
  rw [dall, dif_pos (col_range h j), col_div, col_mod]

/-- The first result: the gradients of the heads' columns, and the rest of the array as it was given. -/
theorem final8 : (Gen.dats m 0 c).arrAt 8 (cfgs 0).N
    = fun i => if 4608 ≤ (i 1 : ℕ) ∧ (i 1 : ℕ) < 10752 then (dall X P W Y (i 0) (i 1) : EReal) else Gen.V m c main_v155_0 i := by
  refine (Gen.dats m 0 c).arrAt_eq_of_coversWhere 8 _ (fun β => 6 ≤ β 1 ∧ β 1 < 14) (by decide +kernel) (fun t hf y => ?_)
    (fun j => by blk_simp [Pipeline.Window.cell_apply]; omega)
  blk_simp; rw [after0_8]
  obtain ⟨i, j, rfl⟩ : ∃ i j, y = ix2 i j := ⟨y 0, y 1, by funext k; fin_cases k <;> rfl⟩
  refine (cols_at R t i j).trans ?_
  have ht := lt_of_lt_of_eq t.isLt N_0
  have e0 : (win0_8.blk t).view.emb (ix2 i j) 0 = row (bk t) i := Fin.ext (by blk_simp [idx t]; simp only [row, bk]; omega)
  have e1 : (win0_8.blk t).view.emb (ix2 i j) 1 = col (hd t) j := Fin.ext (by blk_simp [idx t]; simp only [col, hd]; omega)
  rw [e0, e1, dall_col]

omit R in
/-- The gradient of a channel's gain. -/
def gall (X : Fin 4096 → Fin 11520 → ℝ) (P : Fin 4096 → ℝ) (Y : Fin 4096 → Fin 2048 → ℝ) (k : Fin 2048) : ℝ :=
  dgain X P Y ⟨k.val / 256, by omega⟩ ⟨k.val % 256, Nat.mod_lt _ (by norm_num)⟩

omit R in
theorem gall_chan (h : Fin 8) (e : Fin 256) : gall X P Y (chan h e) = dgain X P Y h e := by
  rw [gall, chan_div, chan_mod]

/-- The second result: the gradient of the gain. -/
theorem final9 : (Gen.dats m 0 c).arrAt 9 (cfgs 0).N = fun i => (gall X P Y (i 1) : EReal) := by
  refine (Gen.dats m 0 c).arrAt_eq_of_covers 9 _ (by decide +kernel) (fun t hf y => ?_)
  blk_simp; rw [after0_9]
  obtain ⟨i, j, rfl⟩ : ∃ i j, y = ix2 i j := ⟨y 0, y 1, by funext k; fin_cases k <;> rfl⟩
  obtain rfl : i = 0 := Subsingleton.elim _ _
  have ht := lt_of_lt_of_eq t.isLt N_0
  have hb : (bk t).val = 0 := by have := (flush0_9 t).mp hf; simp only [bk]; omega
  have e1 : (win0_9.blk t).view.emb (ix2 0 j) 1 = chan (hd t) j := Fin.ext (by blk_simp [idx t]; simp only [chan, hd])
  refine ((left_all R t.val t.isLt).gain j).trans ?_
  rw [e1, gall_chan, ← gsum_zero, ← hb]

end Cert.Retention

end
-- ==== Proof.Algebraic.lean ====
/- The value claim: the kernel's two results are the reference's. -/
module

public import proofs.«01_k».proof.Defs
public import proofs.«01_k».proof.Proof.Gen.KernelIdeal.Value
public import proofs.«01_k».proof.Proof.Gen.ReferenceIdeal.Run
public import proofs.«01_k».proof.Proof.Gen.Pre_finite
public import proofs.«01_k».proof.Proof.Cols
public import proofs.«01_k».proof.Proof.Reference

@[expose] public section

set_option maxRecDepth 16384

noncomputable section

namespace Cert.Retention

open Idealize.ShloMosaic Idealize.ShloMosaic.TcCoe Idealize.SL.Sem Cert.KernelIdeal Cert.KernelIdeal.Gen

/-- A value whose magnitude is below infinity is a real number. -/
theorem real_of_lt (x : Ideal .f32)
    (h : FloatOps.cmpf .olt (FloatOps.hostAbsf x) (FloatOps.ofBits (F := Ideal) .f32 0x7F800000#32) = 1#1) :
    x = (EReal.toReal x : EReal) := by
  have top : Ideal.ofBits .f32 0x7F800000#32 = ⊤ := by simp [Ideal.ofBits, Ideal.ieee]
  change Ideal.cmp .olt (max (x : EReal) (-(x : EReal))) (Ideal.ofBits .f32 0x7F800000#32) = 1#1 at h
  rw [top] at h
  have hl : max (x : EReal) (-(x : EReal)) < ⊤ := by
    by_contra hn
    simp [Ideal.cmp, hn] at h
  rw [max_lt_iff] at hl
  refine (EReal.coe_toReal hl.1.ne fun hb => ?_).symm
  rw [hb] at hl
  simp at hl

variable (m : (ℓ : Loc nD τ sig) → Buf (Elt Ideal) ℓ)

/-- Under the precondition the arguments of a device are real numbers. -/
theorem reals (hm : Cert.Pre_KernelIdeal_finite m) (c : Dev nD) :
    Reals m c (fun n j => EReal.toReal (m ((c : Thread nD τ).loc main_arg0) (ix2 n j)))
      (fun n => EReal.toReal (FloatOps.sitofp .f32 (m ((c : Thread nD τ).loc main_arg1) (ix1 n)) : Ideal .f32))
      (fun j => EReal.toReal (m ((c : Thread nD τ).loc main_arg2) (ix2 0 j)))
      (fun n j => EReal.toReal (m ((c : Thread nD τ).loc main_arg3) (ix2 n j))) where
  X n j := real_of_lt _ (congrFun (hm c).1 (ix2 n j))
  P n := (EReal.coe_toReal (EReal.coe_ne_top _) (EReal.coe_ne_bot _)).symm
  W j := real_of_lt _ (congrFun (hm c).2.1 (ix2 0 j))
  Y n j := real_of_lt _ (congrFun (hm c).2.2 (ix2 n j))

section

variable {m} {c : Dev nD} {X : Fin 4096 → Fin 11520 → ℝ} {P : Fin 4096 → ℝ} {W : Fin 2048 → ℝ} {Y : Fin 4096 → Fin 2048 → ℝ}
  (R : Reals m c X P W Y)
include R

/-- The kernel's first result is the reference's. -/
theorem same8 : (dats m 0 c).arrAt 8 cfg0.N =
    Cert.ReferenceIdeal.Read.val_main_v218 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (final8 R).trans (funext fun y => ?_)
  obtain ⟨n, k, rfl⟩ : ∃ n k, y = ix2 n k := ⟨y 0, y 1, by funext k; fin_cases k <;> rfl⟩
  by_cases hk : 4608 ≤ k.val ∧ k.val < 10752
  · refine (if_pos hk).trans ?_
    rw [← col_surj k hk.1 hk.2]
    exact (congrArg _ (dall_col _ _ _)).trans (Ref.v218_in _ _ _ _ X P W Y R.X R.P R.W R.Y _ _ _ _).symm
  · refine (if_neg hk).trans ?_
    exact (congrFun (out_eq m c) _).trans (Ref.v218_out _ _ _ _ _ _ _ hk).symm

/-- The kernel's second result is the reference's. -/
theorem same9 : (dats m 0 c).arrAt 9 cfg0.N =
    Cert.ReferenceIdeal.Read.val_main_v130 (F := Ideal) (m ((c : Thread nD τ).loc main_arg0)) (m ((c : Thread nD τ).loc main_arg1))
      (m ((c : Thread nD τ).loc main_arg3)) := by
  refine (final9 R).trans (funext fun y => ?_)
  obtain ⟨i, k, rfl⟩ : ∃ i k, y = ix2 i k := ⟨y 0, y 1, by funext k; fin_cases k <;> rfl⟩
  obtain rfl : i = 0 := Subsingleton.elim _ _
  rw [← chan_surj k]
  exact (congrArg _ (gall_chan _ _)).trans (Ref.dgain_v130 _ _ _ X P Y R.X R.P R.Y _ _).symm

end

end Cert.Retention

namespace Cert.Proof

open Idealize.ShloMosaic Idealize.SL.Sem

/-- From the same arguments, the kernel's results are the reference's. -/
theorem algebraic : Cert.algebraic_KernelIdeal_ReferenceIdeal_pre_finite := fun m ρ m' ρ' hm hag => by
  refine ⟨_, _, Cert.KernelIdeal.Value.run_blocks m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v218_eq _).trans (Eq.trans ?_ (Cert.Retention.same8 (Cert.Retention.reals m hm c)).symm)
    obtain ⟨h0, h1, h2, h3, h4⟩ := hag c
    rw [← h0, ← h1, ← h2, ← h3, ← h4]
  · refine (Cert.ReferenceIdeal.Read.val_main_v130_eq _).trans (Eq.trans ?_ (Cert.Retention.same9 (Cert.Retention.reals m hm c)).symm)
    obtain ⟨h0, h1, h2, h3, h4⟩ := hag c
    rw [← h0, ← h1, ← h3]

end Cert.Proof

end
-- ==== Proof.InDw.lean ====
/- The gradient of the input projection's weight: `d_projᵀ u`, a tiled product. -/
module

public import proofs.«01_k».proof.Proof.Gen.InDw.Frame
public import proofs.«01_k».proof.Proof.Gen.InDwIdeal.Frame
public import proofs.«01_k».proof.Proof.Gen.InDwIdeal.Value
public import proofs.«01_k».proof.Proof.Gen.InDwReferenceIdeal.Run
public import proofs.«01_k».proof.Proof.Gen.InDwReferenceIdeal.Read
public import Idealize.ShloMosaic.Lib.Pipeline.ValueKit

@[expose] public section

set_option maxRecDepth 16384

noncomputable section

namespace Cert.InDwValue

open Idealize.ShloMosaic Idealize.ShloMosaic.TcCoe Cert.InDwIdeal Cert.InDwIdeal.Gen

/-- The block indices of the three windows at a grid point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The row of the result that row `i` of a point's block is. -/
def row (t : Fin cfg0.N) (i : Fin 768) : Fin 11520 := ⟨t.val / 2 * 768 + i.val, by have ht := lt_of_lt_of_eq t.isLt N_0; omega⟩

/-- The column of the result that column `j` of a point's block is. -/
def col (t : Fin cfg0.N) (j : Fin 1024) : Fin 2048 := ⟨t.val % 2 * 1024 + j.val, by omega⟩

variable (m : (ℓ : Loc nD τ sig) → Buf (Elt Ideal) ℓ) (c : Dev nD)

theorem blk0_at (t : Fin cfg0.N) (k : Fin 4096) (i : Fin 768) : iblk m c 0 t (ix2 k i) = V m c main_arg1 (ix2 k (row t i)) := by
  blk_ext [iblk, row, idx t]

theorem blk1_at (t : Fin cfg0.N) (k : Fin 4096) (j : Fin 1024) : iblk m c 1 t (ix2 k j) = V m c main_arg0 (ix2 k (col t j)) := by
  blk_ext [iblk, col, idx t]

theorem emb_at (t : Fin cfg0.N) (i : Fin 768) (j : Fin 1024) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S4096x2048, .bf16⟩ : BufTy).Contents (Elt Ideal)) (x1 : (⟨S4096x11520, .bf16⟩ : BufTy).Contents (Elt Ideal)) (p : Fin 11520) (q : Fin 2048) :
    Cert.InDwReferenceIdeal.Read.val_main_v8 (F := Ideal) x0 x1 (ix2 p q) = ∑ k : Fin 4096, x1 (ix2 k p) * x0 (ix2 k q) := by
  pointwise [Cert.InDwReferenceIdeal.Read.val_main_v8, Cert.InDwReferenceIdeal.Read.val_main_v7, Cert.InDwReferenceIdeal.Read.val_main_v6, Cert.InDwReferenceIdeal.Read.val_main_v5,
    Cert.InDwReferenceIdeal.Read.val_main_v4, Cert.InDwReferenceIdeal.Read.val_main_v1]

/-- The kernel's result is the reference's. -/
theorem same : (dats m 0 c).arrAt 2 cfg0.N =
    Cert.InDwReferenceIdeal.Read.val_main_v8 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.InDwValue

end
-- ==== Proof.Tiles.lean ====
/- Sums over an index cut into tiles: the sum over the first entries, and how it grows by a tile. -/
module

public import Idealize.ShloMosaic.Lib.Pipeline.ValueKit

@[expose] public section

noncomputable section

namespace Cert.Tiles

/-- The sum of the first `n` entries of `f`. -/
def part {K : ℕ} (f : Fin K → EReal) (n : ℕ) : EReal := ∑ x ∈ Finset.range n, if h : x < K then f ⟨x, h⟩ else 0

/-- Of all entries it is the whole sum. -/
theorem part_all {K : ℕ} (f : Fin K → EReal) : part f K = ∑ x, f x := by
  rw [part, Finset.sum_range]
  exact Finset.sum_congr rfl fun x _ => dif_pos x.isLt

/-- The next `k` entries add their sum. -/
theorem part_step {K : ℕ} (f : Fin K → EReal) (n k : ℕ) (g : Fin k → EReal) (hk : n + k ≤ K)
    (h : ∀ x : Fin k, g x = f ⟨n + x.val, by omega⟩) : part f n + ∑ x, g x = part f (n + k) := by
  rw [part, part, Finset.sum_range_add, Finset.sum_range (n := k)]
  refine congrArg _ (Finset.sum_congr rfl fun x _ => ?_)
  rw [h x, dif_pos (show n + x.val < K by omega)]

/-- The last `k` entries complete the sum. -/
theorem part_last {K : ℕ} (f : Fin K → EReal) (n k : ℕ) (g : Fin k → EReal) (hk : n + k = K)
    (h : ∀ x : Fin k, g x = f ⟨n + x.val, by omega⟩) : part f n + ∑ x, g x = ∑ x, f x := by
  subst hk
  exact (part_step f n k g le_rfl h).trans (part_all f)

/-- The first `k` entries. -/
theorem part_first {K : ℕ} (f : Fin K → EReal) (k : ℕ) (g : Fin k → EReal) (hk : k ≤ K)
    (h : ∀ x : Fin k, g x = f ⟨x.val, by omega⟩) : ∑ x, g x = part f k := by
  rw [part, Finset.sum_range]
  refine Finset.sum_congr rfl fun x _ => ?_
  rw [h x, dif_pos (show x.val < K by omega)]

/-- Four tiles of `k` entries add the sum of their sums. -/
theorem part_four {K : ℕ} (f : Fin K → EReal) (n k m : ℕ) (g₀ g₁ g₂ g₃ : Fin k → EReal) (hm : m = n + 4 * k) (hK : m ≤ K)
    (h₀ : ∀ x : Fin k, g₀ x = f ⟨n + x.val, by omega⟩) (h₁ : ∀ x : Fin k, g₁ x = f ⟨n + k + x.val, by omega⟩)
    (h₂ : ∀ x : Fin k, g₂ x = f ⟨n + 2 * k + x.val, by omega⟩) (h₃ : ∀ x : Fin k, g₃ x = f ⟨n + 3 * k + x.val, by omega⟩) :
    part f n + (∑ x, g₀ x + ∑ x, g₁ x + ∑ x, g₂ x + ∑ x, g₃ x) = part f m := by
  rw [← add_assoc, ← add_assoc, ← add_assoc, part_step f n k g₀ (by omega) h₀, part_step f (n + k) k g₁ (by omega) h₁,
    part_step f (n + k + k) k g₂ (by omega) fun x => (h₂ x).trans (congrArg f (Fin.ext (by dsimp only; omega))),
    part_step f (n + k + k + k) k g₃ (by omega) fun x => (h₃ x).trans (congrArg f (Fin.ext (by dsimp only; omega)))]
  exact congrArg _ (by omega)

/-- The sum of no entries. -/
theorem part_zero {K : ℕ} (f : Fin K → EReal) : part f 0 = 0 := by rw [part, Finset.range_zero, Finset.sum_empty]

end Cert.Tiles

end
-- ==== Proof.InDx.lean ====
/- The gradient of the input projection's operand: `d_proj w`, a product accumulated over six tiles of the columns. -/
module

public import proofs.«01_k».proof.Proof.Gen.InDxIdeal.Value
public import proofs.«01_k».proof.Proof.Gen.InDxReferenceIdeal.Read
public import proofs.«01_k».proof.Proof.Tiles
public import Idealize.ShloMosaic.Lib.Pipeline.ReadBack

@[expose] public section

set_option maxRecDepth 16384

noncomputable section

namespace Cert.InDxValue

open Idealize.ShloMosaic Idealize.ShloMosaic.TcCoe Cert.InDxIdeal Cert.InDxIdeal.Gen Cert.Tiles

/-- The block indices of the windows at a grid point. -/
theorem idx : ∀ t : Fin cfg0.N, win0_0.index t = ![t.val / 12, t.val % 6] ∧ win0_1.index t = ![t.val % 6, t.val / 6 % 2]
    ∧ win0_2.index t = ![t.val / 12, t.val / 6 % 2] :=
  (by decide +kernel : ∀ t : Fin grid0.N, _)

/-- The row of the result that row `i` of a point's block is. -/
def row (t : Fin cfg0.N) (i : Fin 1024) : Fin 4096 := ⟨t.val / 12 * 1024 + i.val, by have ht := lt_of_lt_of_eq t.isLt N_0; omega⟩

/-- The column of the result that column `j` of a point's block is. -/
def col (t : Fin cfg0.N) (j : Fin 1024) : Fin 2048 := ⟨t.val / 6 % 2 * 1024 + j.val, by omega⟩

/-- The summed index that index `k` of a point's tile is. -/
def dep (t : Fin cfg0.N) (k : Fin 1920) : Fin 11520 := ⟨t.val % 6 * 1920 + k.val, by omega⟩

variable (m : (ℓ : Loc nD τ sig) → Buf (Elt Ideal) ℓ) (c : Dev nD)

theorem blk0_at (t : Fin cfg0.N) (i : Fin 1024) (k : Fin 1920) : iblk m c 0 t (ix2 i k) = V m c main_arg1 (ix2 (row t i) (dep t k)) := by
  blk_ext [iblk, row, dep, idx t]

theorem blk1_at (t : Fin cfg0.N) (k : Fin 1920) (j : Fin 1024) : iblk m c 1 t (ix2 k j) = V m c main_arg0 (ix2 (dep t k) (col t j)) := by
  blk_ext [iblk, dep, col, idx t]

theorem emb_at (t : Fin cfg0.N) (i : Fin 1024) (j : Fin 1024) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The summed products of an entry of the result. -/
def term (p : Fin 4096) (q : Fin 2048) (k : Fin 11520) : EReal :=
  have a : Vec Ideal S4096x11520 .bf16 := V m c main_arg1
  have b : Vec Ideal S11520x2048 .bf16 := V m c main_arg0
  a (ix2 p k) * b (ix2 k q)

/-- A point's tile of the product. -/
theorem tile_at (t : Fin cfg0.N) (i : Fin 1024) (j : Fin 1024) :
    k0_pay1 (F := Ideal) (iblk m c 0 t) (iblk m c 1 t) (ix2 i j) = ∑ k, term m c (row t i) (col t j) (dep t k) := by
  pointwise [k0_pay1]
  simp only [blk0_at, blk1_at, term]

theorem pay2_at (x : Vec Ideal S1024x1920 .bf16) (y : Vec Ideal S1920x1024 .bf16) (i : Fin 1024) (j : Fin 1024) :
    k0_pay2 (F := Ideal) x y (ix2 i j) = k0_pay1 (F := Ideal) x y (ix2 i j) := by
  pointwise [k0_pay2]

theorem pay3_at (x : Vec Ideal S1024x1920 .bf16) (y : Vec Ideal S1920x1024 .bf16) (z : Vec Ideal S1024x1024 .f32) (i : Fin 1024) (j : Fin 1024) :
    k0_pay3 (F := Ideal) x y z (ix2 i j) = z (ix2 i j) + k0_pay1 (F := Ideal) x y (ix2 i j) := by
  pointwise [k0_pay3]

theorem pay4_at (x : Vec Ideal S1024x1920 .bf16) (y : Vec Ideal S1920x1024 .bf16) (z : Vec Ideal S1024x1024 .f32) (i : Fin 1024) (j : Fin 1024) :
    k0_pay4 (F := Ideal) x y z (ix2 i j) = z (ix2 i j) + k0_pay1 (F := Ideal) x y (ix2 i j) := by
  pointwise [k0_pay4]

/-- Before a block's last tile the scratch holds the sum over the tiles so far. -/
theorem left (n : ℕ) (hn : n < cfg0.N) (i : Fin 1024) (j : Fin 1024) (hl : n % 6 < 5) :
    (outsAt0 m c n hn).2 (ix2 i j) = part (term m c (row ⟨n, hn⟩ i) (col ⟨n, hn⟩ j)) ((n % 6 + 1) * 1920) := by
  induction n with
  | zero =>
    rw [outsAt0_A m c ⟨0, hn⟩ rfl (by dsimp only; omega) (by dsimp only; omega)]; frame_out
    rw [pay2_at, tile_at]
    exact part_first _ _ _ (by omega) fun k => congrArg _ (Fin.ext (by simp only [dep]; omega))
  | succ n ih =>
    by_cases h0 : (n + 1) % 6 = 0
    · rw [outsAt0_A m c ⟨n + 1, hn⟩ h0 (by dsimp only; omega) (by dsimp only; omega)]; frame_out
      rw [pay2_at, tile_at, h0]
      exact part_first _ _ _ (by omega) fun k => congrArg _ (Fin.ext (by simp only [dep]; omega))
    · rw [outsAt0_B m c ⟨n + 1, hn⟩ h0 (by dsimp only; omega) (by dsimp only; omega)]; frame_out
      simp only [read_unread_whole]
      rw [pay3_at, tile_at]
      have hp := ih (by omega) (by omega)
      have hr : row ⟨n, by omega⟩ i = row ⟨n + 1, hn⟩ i := Fin.ext (by simp only [row]; omega)
      have hc : col ⟨n, by omega⟩ j = col ⟨n + 1, hn⟩ j := Fin.ext (by simp only [col]; omega)
      rw [hr, hc] at hp
      refine (congrArg (· + _) hp).trans ?_
      rw [show (n + 1) % 6 = n % 6 + 1 by omega, Nat.succ_mul (n % 6 + 1)]
      exact part_step _ _ _ _ (by omega) fun k => congrArg _ (Fin.ext (by simp only [dep]; omega))

/-- At a block's last tile the block of the result is the whole sum. -/
theorem last (t : Fin cfg0.N) (h2 : t.val % 6 = 5) (i : Fin 1024) (j : Fin 1024) :
    (outsAt0 m c t.val t.isLt).1 (ix2 i j) = ∑ k, term m c (row t i) (col t j) k := by
  rw [outsAt0_C m c t (by omega) (by omega) h2]; frame_out
  simp only [read_unread_whole]
  rw [pay4_at, tile_at]
  have hp := left m c (t.val - 1) (by omega) i j (by omega)
  have hr : row ⟨t.val - 1, by omega⟩ i = row t i := Fin.ext (by simp only [row]; omega)
  have hc : col ⟨t.val - 1, by omega⟩ j = col t j := Fin.ext (by simp only [col]; omega)
  rw [hr, hc] at hp
  refine (congrArg (· + _) hp).trans ?_
  exact part_last _ _ _ _ (by omega) fun k => congrArg _ (Fin.ext (by simp only [dep]; omega))

/-- The reference at an index. -/
theorem ref_at (x0 : (⟨S11520x2048, .bf16⟩ : BufTy).Contents (Elt Ideal)) (x1 : (⟨S4096x11520, .bf16⟩ : BufTy).Contents (Elt Ideal)) (p : Fin 4096) (q : Fin 2048) :
    Cert.InDxReferenceIdeal.Read.val_main_v5 (F := Ideal) x0 x1 (ix2 p q) = ∑ k : Fin 11520, x1 (ix2 p k) * x0 (ix2 k q) := by
  pointwise [Cert.InDxReferenceIdeal.Read.val_main_v5, Cert.InDxReferenceIdeal.Read.val_main_v4, Cert.InDxReferenceIdeal.Read.val_main_v2, Cert.InDxReferenceIdeal.Read.val_main_v1]

/-- The kernel's result is the reference's. -/
theorem same : (dats m 0 c).arrAt 2 cfg0.N =
    Cert.InDxReferenceIdeal.Read.val_main_v5 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  refine (last m c t ((flush0_2 t).mp hf) i j).trans ?_
  simp only [term, V_main_arg0, V_main_arg1]

end Cert.InDxValue

end
-- ==== Proof.DownDx.lean ====
/- The gradient of the feed-forward layer's first product: `dy wᵀ` times the activation's derivative, in tiles. -/
module

public import proofs.«01_k».proof.Proof.Gen.DownDxIdeal.Value
public import proofs.«01_k».proof.Proof.Gen.DownDxReferenceIdeal.Read
public import proofs.«01_k».proof.Proof.Tiles
public import Idealize.ShloMosaic.Lib.Pipeline.ReadBack

@[expose] public section

set_option maxRecDepth 16384

noncomputable section

namespace Cert.DownDxValue

open Idealize.ShloMosaic Idealize.ShloMosaic.TcCoe Cert.DownDxIdeal Cert.DownDxIdeal.Gen Cert.Tiles

/-- The block indices of the windows at a grid point. -/
theorem idx : ∀ t : Fin cfg0.N, win0_0.index t = ![t.val / 8, 0] ∧ win0_1.index t = ![t.val % 8, 0] ∧
    win0_2.index t = ![t.val / 8, t.val % 8] ∧ win0_3.index t = ![t.val / 8, t.val % 8] :=
  (by decide +kernel : ∀ t : Fin grid0.N, _)

/-- The row of the result that row `i` of a point's block is. -/
def row (t : Fin cfg0.N) (i : Fin 1024) : Fin 4096 := ⟨t.val / 8 * 1024 + i.val, by have ht := lt_of_lt_of_eq t.isLt N_0; omega⟩

/-- The column of the result that column `j` of a point's block is. -/
def col (t : Fin cfg0.N) (j : Fin 1024) : Fin 8192 := ⟨t.val % 8 * 1024 + j.val, by omega⟩

variable (m : (ℓ : Loc nD τ sig) → Buf (Elt Ideal) ℓ) (c : Dev nD)

theorem blk0_at (t : Fin cfg0.N) (i : Fin 1024) (k : Fin 2048) : iblk m c 0 t (ix2 i k) = V m c main_arg2 (ix2 (row t i) k) := by
  blk_ext [iblk, row, idx t]

theorem blk1_at (t : Fin cfg0.N) (j : Fin 1024) (k : Fin 2048) : iblk m c 1 t (ix2 j k) = V m c main_arg1 (ix2 (col t j) k) := by
  blk_ext [iblk, col, idx t]

theorem blk2_at (t : Fin cfg0.N) (i j : Fin 1024) : iblk m c 2 t (ix2 i j) = V m c main_arg0 (ix2 (row t i) (col t j)) := by
  blk_ext [iblk, row, col, idx t]

theorem emb_at (t : Fin cfg0.N) (i j : Fin 1024) : (win0_3.blk t).view.emb (ix2 i j) = ix2 (row t i) (col t j) := by
  have e0 : (win0_3.blk t).view.emb (ix2 i j) 0 = row t i := Fin.ext (by blk_simp [idx t]; simp only [row])
  have e1 : (win0_3.blk t).view.emb (ix2 i j) 1 = col t j := Fin.ext (by blk_simp [idx t]; simp only [col])
  funext k; fin_cases k
  exacts [e0, e1]

/-- The reference at an index. -/
theorem ref_at (x0 : (⟨S4096x8192, .f32⟩ : BufTy).Contents (Elt Ideal)) (x1 : (⟨S8192x2048, .bf16⟩ : BufTy).Contents (Elt Ideal))
    (x2 : (⟨S4096x2048, .bf16⟩ : BufTy).Contents (Elt Ideal)) (p : Fin 4096) (q : Fin 8192) :
    Cert.DownDxReferenceIdeal.Read.val_main_v14 (F := Ideal) x0 x1 x2 (ix2 p q) =
      (∑ k : Fin 2048, x2 (ix2 p k) * x1 (ix2 q k)) * (Ideal.ofBits FTy.f32 0x40000000#32 * max (x0 (ix2 p q)) 0) := by
  pointwise [Cert.DownDxReferenceIdeal.Read.val_main_v14, Cert.DownDxReferenceIdeal.Read.val_main_v13, Cert.DownDxReferenceIdeal.Read.val_main_v12, Cert.DownDxReferenceIdeal.Read.val_main_v11, Cert.DownDxReferenceIdeal.Read.val_main_v10, Cert.DownDxReferenceIdeal.Read.val_main_v9, Cert.DownDxReferenceIdeal.Read.val_main_v7, Cert.DownDxReferenceIdeal.Read.val_main_v6, Cert.DownDxReferenceIdeal.Read.val_main_v5, Cert.DownDxReferenceIdeal.Read.val_main_v2, Cert.DownDxReferenceIdeal.Read.val_main_v1, Cert.DownDxReferenceIdeal.Read.val_main_v0, Cert.DownDxReferenceIdeal.Read.val_main_cst, Cert.DownDxReferenceIdeal.Read.val_main_cst_1, Cert.DownDxReferenceIdeal.Read.val_main_cst_2, Cert.DownDxReferenceIdeal.Read.val_main_call0_v0, Cert.DownDxReferenceIdeal.Read.val_main_call0_cst]
  split_ifs with h
  · rfl
  · rw [max_eq_right (not_lt.mp h), mul_zero, mul_zero]

/-- The kernel's result is the reference's. -/
theorem same : (dats m 0 c).arrAt 3 cfg0.N =
    Cert.DownDxReferenceIdeal.Read.val_main_v14 (F := Ideal) (m ((c : Thread nD τ).loc main_arg0)) (m ((c : Thread nD τ).loc main_arg1))
      (m ((c : Thread nD τ).loc main_arg2)) := by
  refine (dats m 0 c).arrAt_eq_of_covers 3 _ (by decide +kernel) (fun t hf y => ?_)
  blk_simp
  rw [after0_3]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, blk2_at, V_main_arg0, V_main_arg1, V_main_arg2]

end Cert.DownDxValue

end
-- ==== Proof.DownDw.lean ====
/- The gradient of the feed-forward layer's second weight: the activation's transpose times `dy`, in tiles. -/
module

public import proofs.«01_k».proof.Proof.Gen.DownDwIdeal.Value
public import proofs.«01_k».proof.Proof.Gen.DownDwReferenceIdeal.Read
public import proofs.«01_k».proof.Proof.Tiles
public import Idealize.ShloMosaic.Lib.Pipeline.ReadBack
public import Idealize.ShloMosaic.Lib.StableHlo.RunRead

@[expose] public section

set_option maxRecDepth 16384

noncomputable section

namespace Cert.DownDwValue

open Idealize.ShloMosaic Idealize.ShloMosaic.TcCoe Cert.DownDwIdeal Cert.DownDwIdeal.Gen Cert.Tiles

/-- The block indices of the windows at a grid point. -/
theorem idx : ∀ t : Fin cfg0.N, win0_0.index t = ![0, t.val] ∧ win0_1.index t = ![0, 0] ∧ win0_2.index t = ![t.val, 0] :=
  (by decide +kernel : ∀ t : Fin grid0.N, _)

/-- The row of the result that row `i` of a point's block is. -/
def row (t : Fin cfg0.N) (i : Fin 512) : Fin 8192 := ⟨t.val * 512 + i.val, by have ht := lt_of_lt_of_eq t.isLt N_0; omega⟩

variable (m : (ℓ : Loc nD τ sig) → Buf (Elt Ideal) ℓ) (c : Dev nD)

/-- The activation that the host gives the kernel. -/
theorem act_eq : V m c main_v3 =
    (truncf .bf16 (Cert.DownDwReferenceIdeal.Read.val_main_v2 (F := Ideal) (m ((c : Thread nD τ).loc main_arg0)) : FVec Ideal S4096x8192 .f32) bitsLt_bf16_f32 :
      FVec Ideal S4096x8192 .bf16) := by
  unfold V
  after_reads_simp
  rfl

theorem act_at (p : Fin 4096) (q : Fin 8192) : V m c main_v3 (ix2 p q)
    = Cert.DownDwReferenceIdeal.Read.val_main_v2 (F := Ideal) (m ((c : Thread nD τ).loc main_arg0)) (ix2 p q) := by
  rw [act_eq]
  pointwise

theorem blk0_at (t : Fin cfg0.N) (k : Fin 4096) (i : Fin 512) : iblk m c 0 t (ix2 k i) = V m c main_v3 (ix2 k (row t i)) := by
  blk_ext [iblk, row, idx t]

theorem blk1_at (t : Fin cfg0.N) (k : Fin 4096) (j : Fin 2048) : iblk m c 1 t (ix2 k j) = V m c main_arg1 (ix2 k j) := by
  blk_ext [iblk, idx t]

theorem emb_at (t : Fin cfg0.N) (i : Fin 512) (j : Fin 2048) : (win0_2.blk t).view.emb (ix2 i j) = ix2 (row t i) j := by
  have e0 : (win0_2.blk t).view.emb (ix2 i j) 0 = row t i := Fin.ext (by blk_simp [idx t]; simp only [row])
  have e1 : (win0_2.blk t).view.emb (ix2 i j) 1 = j := Fin.ext (by blk_simp [idx t])
  funext k; fin_cases k
  exacts [e0, e1]

/-- The reference at an index. -/
theorem ref_at (x0 : (⟨S4096x8192, .f32⟩ : BufTy).Contents (Elt Ideal)) (x1 : (⟨S4096x2048, .bf16⟩ : BufTy).Contents (Elt Ideal)) (p : Fin 8192) (q : Fin 2048) :
    Cert.DownDwReferenceIdeal.Read.val_main_v7 (F := Ideal) x0 x1 (ix2 p q) =
      ∑ k : Fin 4096, Cert.DownDwReferenceIdeal.Read.val_main_v2 (F := Ideal) x0 (ix2 k p) * x1 (ix2 k q) := by
  pointwise [Cert.DownDwReferenceIdeal.Read.val_main_v7, Cert.DownDwReferenceIdeal.Read.val_main_v6, Cert.DownDwReferenceIdeal.Read.val_main_v5,
    Cert.DownDwReferenceIdeal.Read.val_main_v4]
  exact Finset.sum_congr rfl fun k _ => mul_comm _ _

/-- The kernel's result is the reference's. -/
theorem same : (dats m 0 c).arrAt 2 cfg0.N =
    Cert.DownDwReferenceIdeal.Read.val_main_v7 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at]
  refine Fin.sum_fin_congr fun k => ?_
  exact congrArg₂ (· * ·) (act_at m c k (row t i)) (congrFun (V_main_arg1 m c) (ix2 k j))

end Cert.DownDwValue

end
-- ==== Proof.UpDx.lean ====
/- The gradient of the feed-forward layer's normalised input: `dz wᵀ`, a product accumulated over two tiles of four devices' columns each. -/
module

public import proofs.«01_k».proof.Proof.Gen.UpDxIdeal.Value
public import proofs.«01_k».proof.Proof.Gen.UpDxReferenceIdeal.Read
public import proofs.«01_k».proof.Proof.Tiles
public import Idealize.ShloMosaic.Lib.Pipeline.ReadBack

@[expose] public section

set_option maxRecDepth 16384

noncomputable section

namespace Cert.UpDxValue

open Idealize.ShloMosaic Idealize.ShloMosaic.TcCoe Cert.UpDxIdeal Cert.UpDxIdeal.Gen Cert.Tiles

/-- The block indices of the windows at a grid point. -/
theorem idx : ∀ t : Fin cfg0.N, win0_0.index t = ![t.val / 4, t.val % 2] ∧ win0_1.index t = ![t.val % 2 * 4, t.val / 2 % 2, 0] ∧
    win0_2.index t = ![t.val % 2 * 4 + 1, t.val / 2 % 2, 0] ∧ win0_3.index t = ![t.val % 2 * 4 + 2, t.val / 2 % 2, 0] ∧
    win0_4.index t = ![t.val % 2 * 4 + 3, t.val / 2 % 2, 0] ∧ win0_5.index t = ![t.val / 4, t.val / 2 % 2] :=
  (by decide +kernel : ∀ t : Fin grid0.N, _)

/-- The row of the result that row `i` of a point's block is. -/
def row (t : Fin cfg0.N) (i : Fin 1024) : Fin 4096 := ⟨t.val / 4 * 1024 + i.val, by have ht := lt_of_lt_of_eq t.isLt N_0; omega⟩

/-- The column of the result that column `j` of a point's block is. -/
def col (t : Fin cfg0.N) (j : Fin 1024) : Fin 2048 := ⟨t.val / 2 % 2 * 1024 + j.val, by omega⟩

/-- The device whose columns piece `p` of a point's tile are. -/
def dev (t : Fin cfg0.N) (p : Fin 4) : Fin 8 := ⟨t.val % 2 * 4 + p.val, by omega⟩

/-- Column `k` of device `d`. -/
def dep (d : Fin 8) (k : Fin 1024) : Fin 8192 := ⟨d.val * 1024 + k.val, by omega⟩

/-- Column `k` of piece `p` of a tile. -/
def cut (p : Fin 4) (k : Fin 1024) : Fin 4096 := ⟨p.val * 1024 + k.val, by omega⟩

variable (m : (ℓ : Loc nD τ sig) → Buf (Elt Ideal) ℓ) (c : Dev nD)

theorem blk0_at (t : Fin cfg0.N) (i : Fin 1024) (p : Fin 4) (k : Fin 1024) :
    iblk m c 0 t (ix2 i (cut p k)) = V m c main_arg1 (ix2 (row t i) (dep (dev t p) k)) := by
  blk_ext [iblk, row, dep, dev, cut, idx t]

theorem blk1_at (t : Fin cfg0.N) (j : Fin 1024) (k : Fin 1024) : iblk m c 1 t (ix3 0 j k) = V m c main_arg0 (ix3 (dev t 0) (col t j) k) := by
  blk_ext [iblk, col, dev, idx t]

theorem blk2_at (t : Fin cfg0.N) (j : Fin 1024) (k : Fin 1024) : iblk m c 2 t (ix3 0 j k) = V m c main_arg0 (ix3 (dev t 1) (col t j) k) := by
  blk_ext [iblk, col, dev, idx t]

theorem blk3_at (t : Fin cfg0.N) (j : Fin 1024) (k : Fin 1024) : iblk m c 3 t (ix3 0 j k) = V m c main_arg0 (ix3 (dev t 2) (col t j) k) := by
  blk_ext [iblk, col, dev, idx t]

theorem blk4_at (t : Fin cfg0.N) (j : Fin 1024) (k : Fin 1024) : iblk m c 4 t (ix3 0 j k) = V m c main_arg0 (ix3 (dev t 3) (col t j) k) := by
  blk_ext [iblk, col, dev, idx t]

theorem emb_at (t : Fin cfg0.N) (i : Fin 1024) (j : Fin 1024) : (win0_5.blk t).view.emb (ix2 i j) = ix2 (row t i) (col t j) := by
  have e0 : (win0_5.blk t).view.emb (ix2 i j) 0 = row t i := Fin.ext (by blk_simp [idx t]; simp only [row])
  have e1 : (win0_5.blk t).view.emb (ix2 i j) 1 = col t j := Fin.ext (by blk_simp [idx t]; simp only [col])
  funext k; fin_cases k
  exacts [e0, e1]

/-- The summed products of an entry of the result. -/
def term (p : Fin 4096) (q : Fin 2048) (k : Fin 8192) : EReal :=
  have a : Vec Ideal S4096x8192 .bf16 := V m c main_arg1
  have b : Vec Ideal S8x2048x1024 .bf16 := V m c main_arg0
  a (ix2 p k) * b (ix3 ⟨k.val / 1024, by omega⟩ q ⟨k.val % 1024, by omega⟩)

/-- A device's share of the summed products. -/
theorem term_dep (p : Fin 4096) (q : Fin 2048) (d : Fin 8) (k : Fin 1024) :
    term m c p q (dep d k) =
      have a : Vec Ideal S4096x8192 .bf16 := V m c main_arg1
      have b : Vec Ideal S8x2048x1024 .bf16 := V m c main_arg0
      a (ix2 p (dep d k)) * b (ix3 d q k) := by
  have h1 : (⟨(dep d k).val / 1024, by omega⟩ : Fin 8) = d := Fin.ext (by simp only [dep]; omega)
  have h2 : (⟨(dep d k).val % 1024, by omega⟩ : Fin 1024) = k := Fin.ext (by simp only [dep]; omega)
  unfold term
  rw [h1, h2]

/-- A payload's sum of four products at an index. -/
theorem pay3_at (x0 x1 x2 x3 : Vec Ideal S1024x1024 .bf16) (y0 y1 y2 y3 : Vec Ideal S1x1024x1024 .bf16) (i : Fin 1024) (j : Fin 1024) :
    k0_pay3 (F := Ideal) x0 y0 x1 y1 x2 y2 x3 y3 (ix2 i j) =
      (∑ k, x0 (ix2 i k) * y0 (ix3 0 j k)) + (∑ k, x1 (ix2 i k) * y1 (ix3 0 j k)) + (∑ k, x2 (ix2 i k) * y2 (ix3 0 j k)) +
        (∑ k, x3 (ix2 i k) * y3 (ix3 0 j k)) := by
  pointwise [k0_pay3]

theorem ld0_at (x : Vec Ideal S1024x4096 .bf16) (i : Fin 1024) (k : Fin 1024) :
    View.ld x (Rect.unit (s := S1024x4096) ![0, 0] ![1024, 1024] inb_S1024x4096_S1024x1024_0_0) (ix2 i k) = x (ix2 i (cut 0 k)) := by
  pointwise [cut]

theorem ld1_at (x : Vec Ideal S1024x4096 .bf16) (i : Fin 1024) (k : Fin 1024) :
    View.ld x (Rect.unit (s := S1024x4096) ![0, 1024] ![1024, 1024] inb_S1024x4096_S1024x1024_0_1024) (ix2 i k) = x (ix2 i (cut 1 k)) := by
  pointwise [cut]

theorem ld2_at (x : Vec Ideal S1024x4096 .bf16) (i : Fin 1024) (k : Fin 1024) :
    View.ld x (Rect.unit (s := S1024x4096) ![0, 2048] ![1024, 1024] inb_S1024x4096_S1024x1024_0_2048) (ix2 i k) = x (ix2 i (cut 2 k)) := by
  pointwise [cut]

theorem ld3_at (x : Vec Ideal S1024x4096 .bf16) (i : Fin 1024) (k : Fin 1024) :
    View.ld x (Rect.unit (s := S1024x4096) ![0, 3072] ![1024, 1024] inb_S1024x4096_S1024x1024_0_3072) (ix2 i k) = x (ix2 i (cut 3 k)) := by
  pointwise [cut]

/-- A tile of the product, of a block whose entries are given. -/
theorem tile_of (t : Fin cfg0.N) (i : Fin 1024) (j : Fin 1024) (x : Vec Ideal S1024x4096 .bf16)
    (hx : ∀ p k, x (ix2 i (cut p k)) = V m c main_arg1 (ix2 (row t i) (dep (dev t p) k))) :
    k0_pay3 (F := Ideal) (View.ld x (Rect.unit (s := S1024x4096) ![0, 0] ![1024, 1024] inb_S1024x4096_S1024x1024_0_0))
      (iblk m c 1 t) (View.ld x (Rect.unit (s := S1024x4096) ![0, 1024] ![1024, 1024] inb_S1024x4096_S1024x1024_0_1024))
      (iblk m c 2 t) (View.ld x (Rect.unit (s := S1024x4096) ![0, 2048] ![1024, 1024] inb_S1024x4096_S1024x1024_0_2048))
      (iblk m c 3 t) (View.ld x (Rect.unit (s := S1024x4096) ![0, 3072] ![1024, 1024] inb_S1024x4096_S1024x1024_0_3072))
      (iblk m c 4 t) (ix2 i j) =
      ∑ k, term m c (row t i) (col t j) (dep (dev t 0) k) + ∑ k, term m c (row t i) (col t j) (dep (dev t 1) k) + ∑ k, term m c (row t i) (col t j) (dep (dev t 2) k) +
        ∑ k, term m c (row t i) (col t j) (dep (dev t 3) k) := by
  rw [pay3_at]
  simp only [blk1_at, blk2_at, blk3_at, blk4_at, term_dep]
  exact congrArg₂ (· + ·) (congrArg₂ (· + ·) (congrArg₂ (· + ·) (Finset.sum_congr rfl fun k _ => congrArg (· * _) ((ld0_at x i k).trans (hx 0 k)))
    (Finset.sum_congr rfl fun k _ => congrArg (· * _) ((ld1_at x i k).trans (hx 1 k))))
    (Finset.sum_congr rfl fun k _ => congrArg (· * _) ((ld2_at x i k).trans (hx 2 k))))
    (Finset.sum_congr rfl fun k _ => congrArg (· * _) ((ld3_at x i k).trans (hx 3 k)))

/-- A point's tile of the product. -/
theorem tile_at (t : Fin cfg0.N) (i : Fin 1024) (j : Fin 1024) :
    k0_pay3 (F := Ideal) (View.ld (iblk m c 0 t) (Rect.unit (s := S1024x4096) ![0, 0] ![1024, 1024] inb_S1024x4096_S1024x1024_0_0))
      (iblk m c 1 t) (View.ld (iblk m c 0 t) (Rect.unit (s := S1024x4096) ![0, 1024] ![1024, 1024] inb_S1024x4096_S1024x1024_0_1024))
      (iblk m c 2 t) (View.ld (iblk m c 0 t) (Rect.unit (s := S1024x4096) ![0, 2048] ![1024, 1024] inb_S1024x4096_S1024x1024_0_2048))
      (iblk m c 3 t) (View.ld (iblk m c 0 t) (Rect.unit (s := S1024x4096) ![0, 3072] ![1024, 1024] inb_S1024x4096_S1024x1024_0_3072))
      (iblk m c 4 t) (ix2 i j) =
      ∑ k, term m c (row t i) (col t j) (dep (dev t 0) k) + ∑ k, term m c (row t i) (col t j) (dep (dev t 1) k) + ∑ k, term m c (row t i) (col t j) (dep (dev t 2) k) +
        ∑ k, term m c (row t i) (col t j) (dep (dev t 3) k) :=
  tile_of m c t i j (iblk m c 0 t) (blk0_at m c t i)

theorem pay4_at (x0 x1 x2 x3 : Vec Ideal S1024x1024 .bf16) (y0 y1 y2 y3 : Vec Ideal S1x1024x1024 .bf16) (i : Fin 1024) (j : Fin 1024) :
    k0_pay4 (F := Ideal) x0 y0 x1 y1 x2 y2 x3 y3 (ix2 i j) = k0_pay3 (F := Ideal) x0 y0 x1 y1 x2 y2 x3 y3 (ix2 i j) := by
  pointwise [k0_pay4]

theorem pay2_at (x y : Vec Ideal S1024x1024 .f32) (i : Fin 1024) (j : Fin 1024) :
    k0_pay2 (F := Ideal) x y (ix2 i j) = y (ix2 i j) + x (ix2 i j) := by
  pointwise [k0_pay2]

/-- A block's first tile is left in the scratch. -/
theorem left (t : Fin cfg0.N) (h0 : t.val % 2 = 0) (i : Fin 1024) (j : Fin 1024) :
    (outsAt0 m c t.val t.isLt).2 (ix2 i j) = part (term m c (row t i) (col t j)) 4096 := by
  rw [outsAt0_A m c t h0 (by omega)]; frame_out
  rw [pay4_at]
  refine (tile_at m c t i j).trans ?_
  rw [← part_four (term m c (row t i) (col t j)) 0 1024 4096
    (fun k => term m c (row t i) (col t j) (dep (dev t 0) k)) (fun k => term m c (row t i) (col t j) (dep (dev t 1) k)) (fun k => term m c (row t i) (col t j) (dep (dev t 2) k)) (fun k => term m c (row t i) (col t j) (dep (dev t 3) k)) (by omega) (by omega)
    (fun k => congrArg _ (Fin.ext (by simp only [dep, dev]; omega))) (fun k => congrArg _ (Fin.ext (by simp only [dep, dev]; omega)))
    (fun k => congrArg _ (Fin.ext (by simp only [dep, dev]; omega))) (fun k => congrArg _ (Fin.ext (by simp only [dep, dev]; omega))),
    part_zero, zero_add]

/-- At a block's second tile the block of the result is the whole sum. -/
theorem last (t : Fin cfg0.N) (h2 : t.val % 2 = 1) (i : Fin 1024) (j : Fin 1024) :
    (outsAt0 m c t.val t.isLt).1 (ix2 i j) = ∑ k, term m c (row t i) (col t j) k := by
  rw [outsAt0_B m c t (by omega) h2]; frame_out
  simp only [read_unread_whole]
  have hp := left m c ⟨t.val - 1, by omega⟩ (by dsimp only; omega) i j
  have hr : row ⟨t.val - 1, by omega⟩ i = row t i := Fin.ext (by simp only [row]; omega)
  have hc : col ⟨t.val - 1, by omega⟩ j = col t j := Fin.ext (by simp only [col]; omega)
  rw [hr, hc] at hp
  rw [pay2_at]
  refine (congrArg₂ (· + ·) hp (tile_at m c t i j)).trans (Eq.trans ?_ (part_all _))
  exact part_four (term m c (row t i) (col t j)) 4096 1024 8192
    (fun k => term m c (row t i) (col t j) (dep (dev t 0) k)) (fun k => term m c (row t i) (col t j) (dep (dev t 1) k)) (fun k => term m c (row t i) (col t j) (dep (dev t 2) k)) (fun k => term m c (row t i) (col t j) (dep (dev t 3) k)) (by omega) (by omega)
    (fun k => congrArg _ (Fin.ext (by simp only [dep, dev]; omega))) (fun k => congrArg _ (Fin.ext (by simp only [dep, dev]; omega)))
    (fun k => congrArg _ (Fin.ext (by simp only [dep, dev]; omega))) (fun k => congrArg _ (Fin.ext (by simp only [dep, dev]; omega)))

/-- The reference at an index. -/
theorem ref_at (x0 : (⟨S8x2048x1024, .bf16⟩ : BufTy).Contents (Elt Ideal)) (x1 : (⟨S4096x8192, .bf16⟩ : BufTy).Contents (Elt Ideal))
    (p : Fin 4096) (q : Fin 2048) :
    Cert.UpDxReferenceIdeal.Read.val_main_v6 (F := Ideal) x0 x1 (ix2 p q) =
      ∑ k : Fin 8192, x1 (ix2 p k) * x0 (ix3 ⟨k.val / 1024, by omega⟩ q ⟨k.val % 1024, by omega⟩) := by
  pointwise [Cert.UpDxReferenceIdeal.Read.val_main_v6, Cert.UpDxReferenceIdeal.Read.val_main_v5, Cert.UpDxReferenceIdeal.Read.val_main_v3,
    Cert.UpDxReferenceIdeal.Read.val_main_v2, Cert.UpDxReferenceIdeal.Read.val_main_v1]

/-- The kernel's result is the reference's. -/
theorem same : (dats m 0 c).arrAt 5 cfg0.N =
    Cert.UpDxReferenceIdeal.Read.val_main_v6 (F := Ideal) (m ((c : Thread nD τ).loc main_arg0)) (m ((c : Thread nD τ).loc main_arg1)) := by
  refine (dats m 0 c).arrAt_eq_of_covers 5 _ (by decide +kernel) (fun t hf y => ?_)
  blk_simp
  rw [after0_5]
  obtain ⟨i, j, rfl⟩ : ∃ i j, y = ix2 i j := ⟨y 0, y 1, by funext k; fin_cases k <;> rfl⟩
  refine Eq.trans ?_ (congrArg _ (emb_at t i j)).symm
  rw [ref_at]
  refine (last m c t ((flush0_5 t).mp hf) i j).trans ?_
  simp only [term, V_main_arg0, V_main_arg1]

end Cert.UpDxValue

end
-- ==== Proof.UpDw.lean ====
/- The gradient of the feed-forward layer's first weight, in the devices' columns: `n2ᵀ dz`, a tiled product. -/
module

public import proofs.«01_k».proof.Proof.Gen.UpDwIdeal.Value
public import proofs.«01_k».proof.Proof.Gen.UpDwReferenceIdeal.Read
public import proofs.«01_k».proof.Proof.Tiles
public import Idealize.ShloMosaic.Lib.Pipeline.ReadBack

@[expose] public section

set_option maxRecDepth 16384

noncomputable section

namespace Cert.UpDwValue

open Idealize.ShloMosaic Idealize.ShloMosaic.TcCoe Cert.UpDwIdeal Cert.UpDwIdeal.Gen Cert.Tiles

/-- The block indices of the windows at a grid point. -/
theorem idx : ∀ t : Fin cfg0.N, win0_0.index t = ![0, t.val / 8] ∧ win0_1.index t = ![0, t.val % 8] ∧ win0_2.index t = ![t.val % 8, t.val / 8, 0] :=
  (by decide +kernel : ∀ t : Fin grid0.N, _)

/-- The row of the result that row `i` of a point's block is. -/
def row (t : Fin cfg0.N) (i : Fin 1024) : Fin 2048 := ⟨t.val / 8 * 1024 + i.val, by have ht := lt_of_lt_of_eq t.isLt N_0; omega⟩

/-- The device whose columns a point computes. -/
def dev (t : Fin cfg0.N) : Fin 8 := ⟨t.val % 8, by omega⟩

/-- Column `j` of device `d`. -/
def col (d : Fin 8) (j : Fin 1024) : Fin 8192 := ⟨d.val * 1024 + j.val, by omega⟩

variable (m : (ℓ : Loc nD τ sig) → Buf (Elt Ideal) ℓ) (c : Dev nD)

theorem blk0_at (t : Fin cfg0.N) (k : Fin 4096) (i : Fin 1024) : iblk m c 0 t (ix2 k i) = V m c main_arg0 (ix2 k (row t i)) := by
  blk_ext [iblk, row, idx t]

theorem blk1_at (t : Fin cfg0.N) (k : Fin 4096) (j : Fin 1024) : iblk m c 1 t (ix2 k j) = V m c main_arg1 (ix2 k (col (dev t) j)) := by
  blk_ext [iblk, col, dev, idx t]

theorem emb_at (t : Fin cfg0.N) (i j : Fin 1024) : (win0_2.blk t).view.emb (ix3 0 i j) = ix3 (dev t) (row t i) j := by
  have e0 : (win0_2.blk t).view.emb (ix3 0 i j) 0 = dev t := Fin.ext (by blk_simp [idx t]; simp only [dev]; rfl)
  have e1 : (win0_2.blk t).view.emb (ix3 0 i j) 1 = row t i := Fin.ext (by blk_simp [idx t]; simp only [row])
  have e2 : (win0_2.blk t).view.emb (ix3 0 i j) 2 = j := Fin.ext (by blk_simp [idx t])
  funext k; fin_cases k
  exacts [e0, e1, e2]

/-- The reference at an index. -/
theorem ref_at (x0 : (⟨S4096x2048, .bf16⟩ : BufTy).Contents (Elt Ideal)) (x1 : (⟨S4096x8192, .bf16⟩ : BufTy).Contents (Elt Ideal))
    (d : Fin 8) (p : Fin 2048) (q : Fin 1024) :
    Cert.UpDwReferenceIdeal.Read.val_main_v10 (F := Ideal) x0 x1 (ix3 d p q) = ∑ k : Fin 4096, x0 (ix2 k p) * x1 (ix2 k (col d q)) := by
  pointwise [Cert.UpDwReferenceIdeal.Read.val_main_v10, Cert.UpDwReferenceIdeal.Read.val_main_v9, Cert.UpDwReferenceIdeal.Read.val_main_v8,
    Cert.UpDwReferenceIdeal.Read.val_main_v7, Cert.UpDwReferenceIdeal.Read.val_main_v6, Cert.UpDwReferenceIdeal.Read.val_main_v5, Cert.UpDwReferenceIdeal.Read.val_main_v1]
  exact Finset.sum_congr rfl fun k _ => mul_comm _ _

/-- The kernel's result is the reference's. -/
theorem same : (dats m 0 c).arrAt 2 cfg0.N =
    Cert.UpDwReferenceIdeal.Read.val_main_v10 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨z, i, j, rfl⟩ : ∃ z i j, y = ix3 z i j := ⟨y 0, y 1, y 2, by funext k; fin_cases k <;> rfl⟩
  obtain rfl : z = 0 := Subsingleton.elim _ _
  refine Eq.trans ?_ (congrArg _ (emb_at t i j)).symm
  rw [ref_at]
  frame_out
  pointwise [k0_pay1]
  simp only [blk0_at, blk1_at, V_main_arg0, V_main_arg1]

end Cert.UpDwValue

end
-- ==== Proof.OutDw.lean ====
/- The gradient of the output projection's weight: `mergedᵀ dy`, a tiled product. -/
module

public import proofs.«01_k».proof.Proof.Gen.OutDwIdeal.Value
public import proofs.«01_k».proof.Proof.Gen.OutDwReferenceIdeal.Read
public import proofs.«01_k».proof.Proof.Tiles
public import Idealize.ShloMosaic.Lib.Pipeline.ReadBack

@[expose] public section

set_option maxRecDepth 16384

noncomputable section

namespace Cert.OutDwValue

open Idealize.ShloMosaic Idealize.ShloMosaic.TcCoe Cert.OutDwIdeal Cert.OutDwIdeal.Gen Cert.Tiles

/-- The block indices of the windows at a grid point. -/
theorem idx : ∀ t : Fin cfg0.N, win0_0.index t = ![0, t.val] ∧ win0_1.index t = ![0, 0] ∧ win0_2.index t = ![t.val, 0] :=
  (by decide +kernel : ∀ t : Fin grid0.N, _)

/-- The row of the result that row `i` of a point's block is. -/
def row (t : Fin cfg0.N) (i : Fin 512) : Fin 2048 := ⟨t.val * 512 + i.val, by have ht := lt_of_lt_of_eq t.isLt N_0; omega⟩

/-- The column of the result that column `j` of a point's block is. -/
def col (t : Fin cfg0.N) (j : Fin 2048) : Fin 2048 := j

variable (m : (ℓ : Loc nD τ sig) → Buf (Elt Ideal) ℓ) (c : Dev nD)

theorem blk0_at (t : Fin cfg0.N) (k : Fin 4096) (i : Fin 512) : iblk m c 0 t (ix2 k i) = V m c main_arg0 (ix2 k (row t i)) := by
  blk_ext [iblk, row, idx t]

theorem blk1_at (t : Fin cfg0.N) (k : Fin 4096) (j : Fin 2048) : iblk m c 1 t (ix2 k j) = V m c main_arg1 (ix2 k (col t j)) := by
  blk_ext [iblk, col, idx t]

theorem emb_at (t : Fin cfg0.N) (i : Fin 512) (j : Fin 2048) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S4096x2048, .bf16⟩ : BufTy).Contents (Elt Ideal)) (x1 : (⟨S4096x2048, .bf16⟩ : BufTy).Contents (Elt Ideal)) (p : Fin 2048) (q : Fin 2048) :
    Cert.OutDwReferenceIdeal.Read.val_main_v6 (F := Ideal) x0 x1 (ix2 p q) = ∑ k : Fin 4096, x0 (ix2 k p) * x1 (ix2 k q) := by
  pointwise [Cert.OutDwReferenceIdeal.Read.val_main_v6, Cert.OutDwReferenceIdeal.Read.val_main_v5, Cert.OutDwReferenceIdeal.Read.val_main_v4, Cert.OutDwReferenceIdeal.Read.val_main_v3, Cert.OutDwReferenceIdeal.Read.val_main_v1]
  exact Finset.sum_congr rfl fun k _ => mul_comm _ _

/-- The kernel's result is the reference's. -/
theorem same : (dats m 0 c).arrAt 2 cfg0.N =
    Cert.OutDwReferenceIdeal.Read.val_main_v6 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.OutDwValue

end
-- ==== Proof.ClaimsGradients.lean ====
/- The claims about the gradients of the wide products: the joint projection, the feed-forward layer, the output projection. -/
module

public import proofs.«01_k».proof.Defs
public import proofs.«01_k».proof.Proof.Gen.InDw.Frame
public import proofs.«01_k».proof.Proof.Gen.InDwIdeal.Frame
public import proofs.«01_k».proof.Proof.Gen.InDwReferenceIdeal.Run
public import proofs.«01_k».proof.Proof.InDw
public import proofs.«01_k».proof.Proof.Gen.InDx.Frame
public import proofs.«01_k».proof.Proof.Gen.InDxIdeal.Frame
public import proofs.«01_k».proof.Proof.Gen.InDxReferenceIdeal.Run
public import proofs.«01_k».proof.Proof.InDx
public import proofs.«01_k».proof.Proof.Gen.DownDx.Frame
public import proofs.«01_k».proof.Proof.Gen.DownDxIdeal.Frame
public import proofs.«01_k».proof.Proof.Gen.DownDxReferenceIdeal.Run
public import proofs.«01_k».proof.Proof.DownDx
public import proofs.«01_k».proof.Proof.Gen.DownDw.Frame
public import proofs.«01_k».proof.Proof.Gen.DownDwIdeal.Frame
public import proofs.«01_k».proof.Proof.Gen.DownDwReferenceIdeal.Run
public import proofs.«01_k».proof.Proof.DownDw
public import proofs.«01_k».proof.Proof.Gen.UpDx.Frame
public import proofs.«01_k».proof.Proof.Gen.UpDxIdeal.Frame
public import proofs.«01_k».proof.Proof.Gen.UpDxReferenceIdeal.Run
public import proofs.«01_k».proof.Proof.UpDx
public import proofs.«01_k».proof.Proof.Gen.UpDw.Frame
public import proofs.«01_k».proof.Proof.Gen.UpDwIdeal.Frame
public import proofs.«01_k».proof.Proof.Gen.UpDwReferenceIdeal.Run
public import proofs.«01_k».proof.Proof.UpDw
public import proofs.«01_k».proof.Proof.Gen.OutDw.Frame
public import proofs.«01_k».proof.Proof.Gen.OutDwIdeal.Frame
public import proofs.«01_k».proof.Proof.Gen.OutDwReferenceIdeal.Run
public import proofs.«01_k».proof.Proof.OutDw

@[expose] public section

noncomputable section

namespace Cert.Proof

open Idealize.ShloMosaic Idealize.SL.Sem

/-! ### `InDw` -/

/-- The kernel as printed, on bit patterns. -/
theorem frame_InDw : Cert.quiescent_InDw := fun m ρ _ => Cert.InDw.Gen.frame m ρ

/-- The same program over the extended reals. -/
theorem frame_InDwIdeal : Cert.quiescent_InDwIdeal := fun m ρ _ => Cert.InDwIdeal.Gen.frame m ρ

/-- The reference over the extended reals. -/
theorem frame_InDwReference : Cert.quiescent_InDwReferenceIdeal := fun m ρ _ =>
  (θ_run Cert.InDwReferenceIdeal.defs _ _).mono (fun r h => ⟨fun c => (h c).2, Idealize.ShloMosaic.sem_eq_zero_of_no_sems (by decide) r.2⟩)
    (Cert.InDwReferenceIdeal.Value.run (F := Ideal) m ρ)

/-- From the same arguments, the kernel's results are the reference's. -/
theorem algebraic_InDw : Cert.algebraic_InDwIdeal_InDwReferenceIdeal := fun m ρ m' ρ' _ hag => by
  refine ⟨_, Cert.InDwIdeal.Value.run_blocks m ρ, ?_⟩
  refine (θ_run Cert.InDwReferenceIdeal.defs _ _).mono (fun _ h c => ⟨(h c).1.trans ?_, (h c).2⟩)
    (Cert.InDwReferenceIdeal.Value.run (F := Ideal) m' ρ')
  · refine (Cert.InDwReferenceIdeal.Read.val_main_v8_eq _ _).trans (Eq.trans ?_ (Cert.InDwValue.same m c).symm)
    obtain ⟨h0, h1⟩ := hag c
    rw [← h0, ← h1]

/-! ### `InDx` -/

/-- The kernel as printed, on bit patterns. -/
theorem frame_InDx : Cert.quiescent_InDx := fun m ρ _ => Cert.InDx.Gen.frame m ρ

/-- The same program over the extended reals. -/
theorem frame_InDxIdeal : Cert.quiescent_InDxIdeal := fun m ρ _ => Cert.InDxIdeal.Gen.frame m ρ

/-- The reference over the extended reals. -/
theorem frame_InDxReference : Cert.quiescent_InDxReferenceIdeal := fun m ρ _ =>
  (θ_run Cert.InDxReferenceIdeal.defs _ _).mono (fun r h => ⟨fun c => (h c).2, Idealize.ShloMosaic.sem_eq_zero_of_no_sems (by decide) r.2⟩)
    (Cert.InDxReferenceIdeal.Value.run (F := Ideal) m ρ)

/-- From the same arguments, the kernel's results are the reference's. -/
theorem algebraic_InDx : Cert.algebraic_InDxIdeal_InDxReferenceIdeal := fun m ρ m' ρ' _ hag => by
  refine ⟨_, Cert.InDxIdeal.Value.run_blocks m ρ, ?_⟩
  refine (θ_run Cert.InDxReferenceIdeal.defs _ _).mono (fun _ h c => ⟨(h c).1.trans ?_, (h c).2⟩)
    (Cert.InDxReferenceIdeal.Value.run (F := Ideal) m' ρ')
  · refine (Cert.InDxReferenceIdeal.Read.val_main_v5_eq _ _).trans (Eq.trans ?_ (Cert.InDxValue.same m c).symm)
    obtain ⟨h0, h1⟩ := hag c
    rw [← h0, ← h1]

/-! ### `DownDx` -/

/-- The kernel as printed, on bit patterns. -/
theorem frame_DownDx : Cert.quiescent_DownDx := fun m ρ _ => Cert.DownDx.Gen.frame m ρ

/-- The same program over the extended reals. -/
theorem frame_DownDxIdeal : Cert.quiescent_DownDxIdeal := fun m ρ _ => Cert.DownDxIdeal.Gen.frame m ρ

/-- The reference over the extended reals. -/
theorem frame_DownDxReference : Cert.quiescent_DownDxReferenceIdeal := fun m ρ _ =>
  (θ_run Cert.DownDxReferenceIdeal.defs _ _).mono (fun r h => ⟨fun c => (h c).2, Idealize.ShloMosaic.sem_eq_zero_of_no_sems (by decide) r.2⟩)
    (Cert.DownDxReferenceIdeal.Value.run (F := Ideal) m ρ)

/-- From the same arguments, the kernel's results are the reference's. -/
theorem algebraic_DownDx : Cert.algebraic_DownDxIdeal_DownDxReferenceIdeal := fun m ρ m' ρ' _ hag => by
  refine ⟨_, Cert.DownDxIdeal.Value.run_blocks m ρ, ?_⟩
  refine (θ_run Cert.DownDxReferenceIdeal.defs _ _).mono (fun _ h c => ⟨(h c).1.trans ?_, (h c).2⟩)
    (Cert.DownDxReferenceIdeal.Value.run (F := Ideal) m' ρ')
  · refine (Cert.DownDxReferenceIdeal.Read.val_main_v14_eq _ _ _).trans (Eq.trans ?_ (Cert.DownDxValue.same m c).symm)
    obtain ⟨h0, h1, h2⟩ := hag c
    rw [← h0, ← h1, ← h2]

/-! ### `DownDw` -/

/-- The kernel as printed, on bit patterns. -/
theorem frame_DownDw : Cert.quiescent_DownDw := fun m ρ _ => Cert.DownDw.Gen.frame m ρ

/-- The same program over the extended reals. -/
theorem frame_DownDwIdeal : Cert.quiescent_DownDwIdeal := fun m ρ _ => Cert.DownDwIdeal.Gen.frame m ρ

/-- The reference over the extended reals. -/
theorem frame_DownDwReference : Cert.quiescent_DownDwReferenceIdeal := fun m ρ _ =>
  (θ_run Cert.DownDwReferenceIdeal.defs _ _).mono (fun r h => ⟨fun c => (h c).2, Idealize.ShloMosaic.sem_eq_zero_of_no_sems (by decide) r.2⟩)
    (Cert.DownDwReferenceIdeal.Value.run (F := Ideal) m ρ)

/-- From the same arguments, the kernel's results are the reference's. -/
theorem algebraic_DownDw : Cert.algebraic_DownDwIdeal_DownDwReferenceIdeal := fun m ρ m' ρ' _ hag => by
  refine ⟨_, Cert.DownDwIdeal.Value.run_blocks m ρ, ?_⟩
  refine (θ_run Cert.DownDwReferenceIdeal.defs _ _).mono (fun _ h c => ⟨(h c).1.trans ?_, (h c).2⟩)
    (Cert.DownDwReferenceIdeal.Value.run (F := Ideal) m' ρ')
  · refine (Cert.DownDwReferenceIdeal.Read.val_main_v7_eq _ _).trans (Eq.trans ?_ (Cert.DownDwValue.same m c).symm)
    obtain ⟨h0, h1⟩ := hag c
    rw [← h0, ← h1]

/-! ### `UpDx` -/

/-- The kernel as printed, on bit patterns. -/
theorem frame_UpDx : Cert.quiescent_UpDx := fun m ρ _ => Cert.UpDx.Gen.frame m ρ

/-- The same program over the extended reals. -/
theorem frame_UpDxIdeal : Cert.quiescent_UpDxIdeal := fun m ρ _ => Cert.UpDxIdeal.Gen.frame m ρ

/-- The reference over the extended reals. -/
theorem frame_UpDxReference : Cert.quiescent_UpDxReferenceIdeal := fun m ρ _ =>
  (θ_run Cert.UpDxReferenceIdeal.defs _ _).mono (fun r h => ⟨fun c => (h c).2, Idealize.ShloMosaic.sem_eq_zero_of_no_sems (by decide) r.2⟩)
    (Cert.UpDxReferenceIdeal.Value.run (F := Ideal) m ρ)

/-- From the same arguments, the kernel's results are the reference's. -/
theorem algebraic_UpDx : Cert.algebraic_UpDxIdeal_UpDxReferenceIdeal := fun m ρ m' ρ' _ hag => by
  refine ⟨_, Cert.UpDxIdeal.Value.run_blocks m ρ, ?_⟩
  refine (θ_run Cert.UpDxReferenceIdeal.defs _ _).mono (fun _ h c => ⟨(h c).1.trans ?_, (h c).2⟩)
    (Cert.UpDxReferenceIdeal.Value.run (F := Ideal) m' ρ')
  · refine (Cert.UpDxReferenceIdeal.Read.val_main_v6_eq _ _).trans (Eq.trans ?_ (Cert.UpDxValue.same m c).symm)
    obtain ⟨h0, h1⟩ := hag c
    rw [← h0, ← h1]

/-! ### `UpDw` -/

/-- The kernel as printed, on bit patterns. -/
theorem frame_UpDw : Cert.quiescent_UpDw := fun m ρ _ => Cert.UpDw.Gen.frame m ρ

/-- The same program over the extended reals. -/
theorem frame_UpDwIdeal : Cert.quiescent_UpDwIdeal := fun m ρ _ => Cert.UpDwIdeal.Gen.frame m ρ

/-- The reference over the extended reals. -/
theorem frame_UpDwReference : Cert.quiescent_UpDwReferenceIdeal := fun m ρ _ =>
  (θ_run Cert.UpDwReferenceIdeal.defs _ _).mono (fun r h => ⟨fun c => (h c).2, Idealize.ShloMosaic.sem_eq_zero_of_no_sems (by decide) r.2⟩)
    (Cert.UpDwReferenceIdeal.Value.run (F := Ideal) m ρ)

/-- From the same arguments, the kernel's results are the reference's. -/
theorem algebraic_UpDw : Cert.algebraic_UpDwIdeal_UpDwReferenceIdeal := fun m ρ m' ρ' _ hag => by
  refine ⟨_, Cert.UpDwIdeal.Value.run_blocks m ρ, ?_⟩
  refine (θ_run Cert.UpDwReferenceIdeal.defs _ _).mono (fun _ h c => ⟨(h c).1.trans ?_, (h c).2⟩)
    (Cert.UpDwReferenceIdeal.Value.run (F := Ideal) m' ρ')
  · refine (Cert.UpDwReferenceIdeal.Read.val_main_v10_eq _ _).trans (Eq.trans ?_ (Cert.UpDwValue.same m c).symm)
    obtain ⟨h0, h1⟩ := hag c
    rw [← h0, ← h1]

/-! ### `OutDw` -/

/-- The kernel as printed, on bit patterns. -/
theorem frame_OutDw : Cert.quiescent_OutDw := fun m ρ _ => Cert.OutDw.Gen.frame m ρ

/-- The same program over the extended reals. -/
theorem frame_OutDwIdeal : Cert.quiescent_OutDwIdeal := fun m ρ _ => Cert.OutDwIdeal.Gen.frame m ρ

/-- The reference over the extended reals. -/
theorem frame_OutDwReference : Cert.quiescent_OutDwReferenceIdeal := fun m ρ _ =>
  (θ_run Cert.OutDwReferenceIdeal.defs _ _).mono (fun r h => ⟨fun c => (h c).2, Idealize.ShloMosaic.sem_eq_zero_of_no_sems (by decide) r.2⟩)
    (Cert.OutDwReferenceIdeal.Value.run (F := Ideal) m ρ)

/-- From the same arguments, the kernel's results are the reference's. -/
theorem algebraic_OutDw : Cert.algebraic_OutDwIdeal_OutDwReferenceIdeal := fun m ρ m' ρ' _ hag => by
  refine ⟨_, Cert.OutDwIdeal.Value.run_blocks m ρ, ?_⟩
  refine (θ_run Cert.OutDwReferenceIdeal.defs _ _).mono (fun _ h c => ⟨(h c).1.trans ?_, (h c).2⟩)
    (Cert.OutDwReferenceIdeal.Value.run (F := Ideal) m' ρ')
  · refine (Cert.OutDwReferenceIdeal.Read.val_main_v6_eq _ _).trans (Eq.trans ?_ (Cert.OutDwValue.same m c).symm)
    obtain ⟨h0, h1⟩ := hag c
    rw [← h0, ← h1]

end Cert.Proof

end
-- ==== Proof.OutDx.lean ====
/- The gradients through the output projection: of the two branches' results and of their gates, in tiles. -/
module

public import proofs.«01_k».proof.Proof.Gen.OutDxIdeal.Frame
public import proofs.«01_k».proof.Proof.Gen.OutDxReferenceIdeal.Read
public import proofs.«01_k».proof.Proof.Tiles
public import Idealize.ShloMosaic.Lib.KernelVsHost
public import Idealize.ShloMosaic.Lib.Pipeline.ReadBack
public import Idealize.ShloMosaic.Lib.StableHlo.RunRead

@[expose] public section

set_option maxRecDepth 16384

noncomputable section

namespace Cert.OutDxValue

open Idealize.ShloMosaic Idealize.ShloMosaic.TcCoe Idealize.SL.Sem Cert.OutDxIdeal Cert.OutDxIdeal.Gen Cert.Tiles

/-- The block indices of the windows at a grid point. -/
theorem idx : ∀ t : Fin cfg0.N, win0_0.index t = ![t.val, 0] ∧ win0_1.index t = ![0, 0] ∧ win0_2.index t = ![t.val, 0] ∧
    win0_3.index t = ![t.val, 1] ∧ win0_4.index t = ![t.val, 0] ∧ win0_5.index t = ![t.val, 0] ∧ win0_6.index t = ![t.val, 0] ∧
    win0_7.index t = ![t.val, 0] ∧ win0_8.index t = ![t.val, 0] :=
  (by decide +kernel : ∀ t : Fin grid0.N, _)

/-- The row of the result that row `i` of a point's block is. -/
def row (t : Fin cfg0.N) (i : Fin 256) : Fin 4096 := ⟨t.val * 256 + i.val, by have ht := lt_of_lt_of_eq t.isLt N_0; omega⟩

/-- A column of the first gate among the two gates' columns. -/
def lo (j : Fin 2048) : Fin 4096 := ⟨j.val, by omega⟩

/-- A column of the second gate among the two gates' columns. -/
def hi (j : Fin 2048) : Fin 4096 := ⟨2048 + j.val, by omega⟩

/-- A column of the two gates among the projection's. -/
def wide (j : Fin 4096) : Fin 11520 := ⟨j.val, by omega⟩

variable (m : (ℓ : Loc nD τ sig) → Buf (Elt Ideal) ℓ) (c : Dev nD)

theorem blk0_at (t : Fin cfg0.N) (i : Fin 256) (k : Fin 2048) : iblk m c 0 t (ix2 i k) = V m c main_arg4 (ix2 (row t i) k) := by
  blk_ext [iblk, row, idx t]

theorem blk1_at (t : Fin cfg0.N) (j k : Fin 2048) : iblk m c 1 t (ix2 j k) = V m c main_arg3 (ix2 j k) := by
  blk_ext [iblk, idx t]

theorem blk2_at (t : Fin cfg0.N) (i : Fin 256) (j : Fin 2048) : X0_2 m c t (ix2 i j) = V m c main_arg0 (ix2 (row t i) (wide (lo j))) := by
  unfold X0_2 Pipeline.Window.fill
  rw [dif_pos (moved0_2 t _)]
  blk_ext [iblk, row, wide, lo, idx t]

theorem blk3_at (t : Fin cfg0.N) (i : Fin 256) (j : Fin 2048) : X0_3 m c t (ix2 i j) = V m c main_arg0 (ix2 (row t i) (wide (hi j))) := by
  unfold X0_3 Pipeline.Window.fill
  rw [dif_pos (moved0_3 t _)]
  blk_ext [iblk, row, wide, hi, idx t]

theorem blk4_at (t : Fin cfg0.N) (i : Fin 256) (j : Fin 2048) : iblk m c 4 t (ix2 i j) = V m c main_arg1 (ix2 (row t i) j) := by
  blk_ext [iblk, row, idx t]

theorem blk5_at (t : Fin cfg0.N) (i : Fin 256) (j : Fin 2048) : iblk m c 5 t (ix2 i j) = V m c main_arg2 (ix2 (row t i) j) := by
  blk_ext [iblk, row, idx t]

theorem emb6_at (t : Fin cfg0.N) (i : Fin 256) (j : Fin 2048) : (win0_6.blk t).view.emb (ix2 i j) = ix2 (row t i) j := by
  have e0 : (win0_6.blk t).view.emb (ix2 i j) 0 = row t i := Fin.ext (by blk_simp [idx t]; simp only [row])
  have e1 : (win0_6.blk t).view.emb (ix2 i j) 1 = j := Fin.ext (by blk_simp [idx t])
  funext k; fin_cases k
  exacts [e0, e1]

theorem emb7_at (t : Fin cfg0.N) (i : Fin 256) (j : Fin 2048) : (win0_7.blk t).view.emb (ix2 i j) = ix2 (row t i) j := by
  have e0 : (win0_7.blk t).view.emb (ix2 i j) 0 = row t i := Fin.ext (by blk_simp [idx t]; simp only [row])
  have e1 : (win0_7.blk t).view.emb (ix2 i j) 1 = j := Fin.ext (by blk_simp [idx t])
  funext k; fin_cases k
  exacts [e0, e1]

/-- The reference's product. -/
def prod (m : (ℓ : Loc nD τ sig) → Buf (Elt Ideal) ℓ) (c : Dev nD) : FVec Ideal S4096x2048 .f32 :=
  Cert.OutDxReferenceIdeal.Read.val_main_v27 (F := Ideal) (m ((c : Thread nD τ).loc main_arg3)) (m ((c : Thread nD τ).loc main_arg4))

/-- The reference's first gate. -/
def gateA (m : (ℓ : Loc nD τ sig) → Buf (Elt Ideal) ℓ) (c : Dev nD) : FVec Ideal S4096x2048 .f32 :=
  Cert.OutDxReferenceIdeal.Read.val_main_v7 (F := Ideal) (m ((c : Thread nD τ).loc main_arg0))

/-- The reference's second gate. -/
def gateB (m : (ℓ : Loc nD τ sig) → Buf (Elt Ideal) ℓ) (c : Dev nD) : FVec Ideal S4096x2048 .f32 :=
  Cert.OutDxReferenceIdeal.Read.val_main_v18 (F := Ideal) (m ((c : Thread nD τ).loc main_arg0))

/-- A point's block of the product. -/
theorem pay3_at (t : Fin cfg0.N) (i : Fin 256) (j : Fin 2048) :
    k0_pay3 (F := Ideal) (iblk m c 0 t) (iblk m c 1 t) (ix2 i j) = prod m c (ix2 (row t i) j) := by
  pointwise [k0_pay3, prod, Cert.OutDxReferenceIdeal.Read.val_main_v27, Cert.OutDxReferenceIdeal.Read.val_main_v26,
    Cert.OutDxReferenceIdeal.Read.val_main_v24]
  simp only [blk0_at, blk1_at]
  rfl

theorem v1_at (x : (⟨S4096x11520, .f32⟩ : BufTy).Contents (Elt Ideal)) (p : Fin 4096) (q : Fin 2048) :
    Cert.OutDxReferenceIdeal.Read.val_main_v1 (F := Ideal) x (ix2 p q) = x (ix2 p (wide (lo q))) := by
  rw [Cert.OutDxReferenceIdeal.Read.val_main_v1_apply, Cert.OutDxReferenceIdeal.Read.val_main_v0_apply]
  refine congrArg x ?_
  funext a; fin_cases a <;> rfl

theorem v12_at (x : (⟨S4096x11520, .f32⟩ : BufTy).Contents (Elt Ideal)) (p : Fin 4096) (q : Fin 2048) :
    Cert.OutDxReferenceIdeal.Read.val_main_v12 (F := Ideal) x (ix2 p q) = x (ix2 p (wide (hi q))) := by
  rw [Cert.OutDxReferenceIdeal.Read.val_main_v12_apply, Cert.OutDxReferenceIdeal.Read.val_main_v0_apply]
  refine congrArg x ?_
  funext a; fin_cases a <;> rfl

/-- A point's block of the first gate. -/
theorem pay4_at (t : Fin cfg0.N) (i : Fin 256) (j : Fin 2048) : k0_pay4 (F := Ideal) (X0_2 m c t) (ix2 i j) = gateA m c (ix2 (row t i) j) := by
  pointwise [k0_pay4, gateA, Cert.OutDxReferenceIdeal.Read.val_main_v7, Cert.OutDxReferenceIdeal.Read.val_main_v6,
    Cert.OutDxReferenceIdeal.Read.val_main_v5, Cert.OutDxReferenceIdeal.Read.val_main_v4, Cert.OutDxReferenceIdeal.Read.val_main_v3,
    Cert.OutDxReferenceIdeal.Read.val_main_v2, Cert.OutDxReferenceIdeal.Read.val_main_cst, Cert.OutDxReferenceIdeal.Read.val_main_cst_0]
  have neg : ∀ x : EReal, 0 - x = -x := zero_sub
  simp only [neg, v1_at, blk2_at]
  rfl

/-- A point's block of the second gate. -/
theorem pay5_at (t : Fin cfg0.N) (i : Fin 256) (j : Fin 2048) : k0_pay5 (F := Ideal) (X0_3 m c t) (ix2 i j) = gateB m c (ix2 (row t i) j) := by
  pointwise [k0_pay5, gateB, Cert.OutDxReferenceIdeal.Read.val_main_v18, Cert.OutDxReferenceIdeal.Read.val_main_v17,
    Cert.OutDxReferenceIdeal.Read.val_main_v16, Cert.OutDxReferenceIdeal.Read.val_main_v15, Cert.OutDxReferenceIdeal.Read.val_main_v14,
    Cert.OutDxReferenceIdeal.Read.val_main_v13, Cert.OutDxReferenceIdeal.Read.val_main_cst_2, Cert.OutDxReferenceIdeal.Read.val_main_cst_3]
  have neg : ∀ x : EReal, 0 - x = -x := zero_sub
  simp only [neg, v12_at, blk3_at]
  rfl

/-- The kernel's gradient of the first branch is the reference's. -/
theorem same6 : (dats m 0 c).arrAt 6 cfg0.N = Cert.OutDxReferenceIdeal.Read.val_main_v37 (F := Ideal) (m ((c : Thread nD τ).loc main_arg0))
    (m ((c : Thread nD τ).loc main_arg3)) (m ((c : Thread nD τ).loc main_arg4)) := by
  refine (dats m 0 c).arrAt_eq_of_covers 6 _ (by decide +kernel) (fun t hf y => ?_)
  blk_simp
  rw [after0_6]
  obtain ⟨i, j, rfl⟩ : ∃ i j, y = ix2 i j := ⟨y 0, y 1, by funext k; fin_cases k <;> rfl⟩
  refine Eq.trans ?_ (congrArg _ (emb6_at t i j)).symm
  unfold outsAt0
  frame_out
  refine Eq.trans (congrArg₂ (fun a b : EReal => a * b) (pay3_at m c t i j) (pay4_at m c t i j)) ?_
  exact mul_comm (prod m c (ix2 (row t i) j) : EReal) (gateA m c (ix2 (row t i) j))

/-- The kernel's gradient of the second branch is the reference's. -/
theorem same7 : (dats m 0 c).arrAt 7 cfg0.N = Cert.OutDxReferenceIdeal.Read.val_main_v38 (F := Ideal) (m ((c : Thread nD τ).loc main_arg0))
    (m ((c : Thread nD τ).loc main_arg3)) (m ((c : Thread nD τ).loc main_arg4)) := by
  refine (dats m 0 c).arrAt_eq_of_covers 7 _ (by decide +kernel) (fun t hf y => ?_)
  blk_simp
  rw [after0_7]
  obtain ⟨i, j, rfl⟩ : ∃ i j, y = ix2 i j := ⟨y 0, y 1, by funext k; fin_cases k <;> rfl⟩
  refine Eq.trans ?_ (congrArg _ (emb7_at t i j)).symm
  unfold outsAt0
  frame_out
  refine Eq.trans (congrArg₂ (fun a b : EReal => a * b) (pay3_at m c t i j) (pay5_at m c t i j)) ?_
  exact mul_comm (prod m c (ix2 (row t i) j) : EReal) (gateB m c (ix2 (row t i) j))

/-- The reference's gradient of the two gates' columns. -/
def grad (m : (ℓ : Loc nD τ sig) → Buf (Elt Ideal) ℓ) (c : Dev nD) : S4096x4096.Idx → EReal :=
  Cert.OutDxReferenceIdeal.Read.val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The gradient of a column of the first gate: the padding of the other summand is zero. -/
theorem grad_lo (p : Fin 4096) (q : Fin 2048) : grad m c (ix2 p (lo q)) =
    prod m c (ix2 p q) * m ((c : Thread nD τ).loc main_arg1) (ix2 p q) * (gateA m c (ix2 p q) * (1 - gateA m c (ix2 p q))) := by
  have h0 : Cert.OutDxReferenceIdeal.Read.val_main_v31 (F := Ideal) (m ((c : Thread nD τ).loc main_arg0)) (m ((c : Thread nD τ).loc main_arg2))
      (m ((c : Thread nD τ).loc main_arg3)) (m ((c : Thread nD τ).loc main_arg4)) (ix2 p (lo q)) = (0 : EReal) := by
    refine (pad_apply_of_not_inside _ _ _ _ _ _ _ _ (1 : Fin 2) (fun h => ?_)).trans ?_
    · have h1 := h.1
      have h2 : 2048 ≤ q.val := h1
      omega
    · pointwise [Cert.OutDxReferenceIdeal.Read.val_main_cst_5]
  have h1 : Cert.OutDxReferenceIdeal.Read.val_main_v35 (F := Ideal) (m ((c : Thread nD τ).loc main_arg0)) (m ((c : Thread nD τ).loc main_arg1))
      (m ((c : Thread nD τ).loc main_arg3)) (m ((c : Thread nD τ).loc main_arg4)) (ix2 p (lo q)) =
      prod m c (ix2 p q) * m ((c : Thread nD τ).loc main_arg1) (ix2 p q) * (gateA m c (ix2 p q) * (1 - gateA m c (ix2 p q))) := by
    refine (pad_apply_of_inside _ _ _ _ _ _ _ _ (ix2 p q) (fun a => ?_)).trans ?_
    · fin_cases a
      · show p.val = 0 + p.val * (0 + 1)
        omega
      · show q.val = 0 + q.val * (0 + 1)
        omega
    · pointwise [Cert.OutDxReferenceIdeal.Read.val_main_v34, Cert.OutDxReferenceIdeal.Read.val_main_v33, Cert.OutDxReferenceIdeal.Read.val_main_v10,
        Cert.OutDxReferenceIdeal.Read.val_main_v9, Cert.OutDxReferenceIdeal.Read.val_main_v8, Cert.OutDxReferenceIdeal.Read.val_main_cst_1]
      rfl
  refine Eq.trans (congrArg₂ (fun a b : EReal => a + b) h0 h1) (zero_add _)

/-- The gradient of a column of the second gate. -/
theorem grad_hi (p : Fin 4096) (q : Fin 2048) : grad m c (ix2 p (hi q)) =
    prod m c (ix2 p q) * m ((c : Thread nD τ).loc main_arg2) (ix2 p q) * (gateB m c (ix2 p q) * (1 - gateB m c (ix2 p q))) := by
  have h0 : Cert.OutDxReferenceIdeal.Read.val_main_v35 (F := Ideal) (m ((c : Thread nD τ).loc main_arg0)) (m ((c : Thread nD τ).loc main_arg1))
      (m ((c : Thread nD τ).loc main_arg3)) (m ((c : Thread nD τ).loc main_arg4)) (ix2 p (hi q)) = (0 : EReal) := by
    refine (pad_apply_of_not_inside _ _ _ _ _ _ _ _ (1 : Fin 2) (fun h => ?_)).trans ?_
    · have h1 := h.2.2
      have h2 : (2048 + q.val - 0) / (0 + 1) < 2048 := h1
      omega
    · pointwise [Cert.OutDxReferenceIdeal.Read.val_main_cst_6]
  have h1 : Cert.OutDxReferenceIdeal.Read.val_main_v31 (F := Ideal) (m ((c : Thread nD τ).loc main_arg0)) (m ((c : Thread nD τ).loc main_arg2))
      (m ((c : Thread nD τ).loc main_arg3)) (m ((c : Thread nD τ).loc main_arg4)) (ix2 p (hi q)) =
      prod m c (ix2 p q) * m ((c : Thread nD τ).loc main_arg2) (ix2 p q) * (gateB m c (ix2 p q) * (1 - gateB m c (ix2 p q))) := by
    refine (pad_apply_of_inside _ _ _ _ _ _ _ _ (ix2 p q) (fun a => ?_)).trans ?_
    · fin_cases a
      · show p.val = 0 + p.val * (0 + 1)
        omega
      · show 2048 + q.val = 2048 + q.val * (0 + 1)
        omega
    · pointwise [Cert.OutDxReferenceIdeal.Read.val_main_v30, Cert.OutDxReferenceIdeal.Read.val_main_v29, Cert.OutDxReferenceIdeal.Read.val_main_v21,
        Cert.OutDxReferenceIdeal.Read.val_main_v20, Cert.OutDxReferenceIdeal.Read.val_main_v19, Cert.OutDxReferenceIdeal.Read.val_main_cst_4]
      rfl
  refine Eq.trans (congrArg₂ (fun a b : EReal => a + b) h1 h0) (add_zero _)

/-- A point's block of the first gate's gradient. -/
theorem pay7_lo (a : Vec Ideal S256x2048 .bf16) (b : Vec Ideal S2048x2048 .bf16) (g h y z : Vec Ideal S256x2048 .f32) (i : Fin 256) (j : Fin 2048) :
    k0_pay7 (F := Ideal) a b g h y z (ix2 i (lo j)) =
      (k0_pay3 a b (ix2 i j) * y (ix2 i j) * (k0_pay4 g (ix2 i j) * (1 - k0_pay4 g (ix2 i j))) : EReal) := by
  unfold k0_pay7
  refine (concatenate_pair_apply_left (t := S256x4096) (s₁ := S256x2048) (s₂ := S256x2048) (1 : Fin 2) _ _ concatenates_S256x2048_S256x2048_S256x4096_d1 (ix2 i (lo j)) rfl (ix2 i j) (fun b => by fin_cases b <;> rfl)).trans ?_
  pointwise

/-- A point's block of the second gate's gradient. -/
theorem pay7_hi (a : Vec Ideal S256x2048 .bf16) (b : Vec Ideal S2048x2048 .bf16) (g h y z : Vec Ideal S256x2048 .f32) (i : Fin 256) (j : Fin 2048) :
    k0_pay7 (F := Ideal) a b g h y z (ix2 i (hi j)) =
      (k0_pay3 a b (ix2 i j) * z (ix2 i j) * (k0_pay5 h (ix2 i j) * (1 - k0_pay5 h (ix2 i j))) : EReal) := by
  unfold k0_pay7
  refine (concatenate_pair_apply_right (t := S256x4096) (s₁ := S256x2048) (s₂ := S256x2048) (1 : Fin 2) _ _ concatenates_S256x2048_S256x2048_S256x4096_d1 (ix2 i (hi j)) rfl rfl (ix2 i j) (fun b hb => ?_) ?_).trans ?_
  · fin_cases b
    · rfl
    · exact absurd rfl hb
  · show j.val + 2048 = 2048 + j.val
    omega
  · pointwise

/-- A point's block of the gates' gradient. -/
theorem pay7_at (t : Fin cfg0.N) (i : Fin 256) (j : Fin 4096) :
    k0_pay7 (F := Ideal) (iblk m c 0 t) (iblk m c 1 t) (X0_2 m c t) (X0_3 m c t) (iblk m c 4 t) (iblk m c 5 t) (ix2 i j) =
      grad m c (ix2 (row t i) j) := by
  by_cases h : j.val < 2048
  · have e : j = lo ⟨j.val, h⟩ := rfl
    rw [e]
    refine (pay7_lo _ _ _ _ _ _ i ⟨j.val, h⟩).trans (Eq.trans ?_ (grad_lo m c (row t i) ⟨j.val, h⟩).symm)
    rw [pay3_at, pay4_at, blk4_at, V_main_arg1]
  · have e : j = hi ⟨j.val - 2048, by omega⟩ := Fin.ext (by show j.val = 2048 + (j.val - 2048); omega)
    rw [e]
    refine (pay7_hi _ _ _ _ _ _ i ⟨j.val - 2048, by omega⟩).trans (Eq.trans ?_ (grad_hi m c (row t i) ⟨j.val - 2048, by omega⟩).symm)
    rw [pay3_at, pay5_at, blk5_at, V_main_arg2]

/-- The gates' gradient among the projection's columns. -/
def full (m : (ℓ : Loc nD τ sig) → Buf (Elt Ideal) ℓ) (c : Dev nD) : S4096x11520.Idx → EReal :=
  fun i => if h : (i 1).val < 4096 then grad m c (ix2 (i 0) ⟨(i 1).val, h⟩) else 0

theorem full_at (p q : Fin 4096) : full m c (ix2 p (wide q)) = grad m c (ix2 p q) := by
  unfold full
  exact dif_pos (show (wide q).val < 4096 from q.isLt)

/-- The array the kernel fills in holds the reference's gradient in the two gates' columns. -/
theorem filled : (dats m 0 c).arrAt 8 cfg0.N = fun i => if (i 1 : ℕ) / 4096 = 0 then full m c i else V m c main_v0_2 i := by
  refine (dats m 0 c).arrAt_eq_of_coversWhere 8 (full m c) (fun β => β (1 : Fin 2) = 0) (by decide +kernel) (fun t hf y => ?_) (fun j => Iff.rfl)
  blk_simp
  rw [after0_8]
  obtain ⟨i, j, e⟩ : ∃ (i : Fin 256) (j : Fin 4096), (cfg0.win 8).xinj (cfg0.grid.coords t) y = (ix2 i j : S256x4096.Idx) :=
    ⟨(cfg0.win 8).xinj (cfg0.grid.coords t) y 0, (cfg0.win 8).xinj (cfg0.grid.coords t) y 1, by funext k; fin_cases k <;> rfl⟩
  have y0 : (y 0).val = i.val := congrArg Fin.val (congrFun e 0)
  have y1 : (y 1).val = j.val := congrArg Fin.val (congrFun e 1)
  have emb : (win0_8.blk t).view.emb y = ix2 (row t i) (wide j) := by
    have e0 : (win0_8.blk t).view.emb y 0 = row t i := Fin.ext (by blk_simp [idx t]; simp only [row, y0])
    have e1 : (win0_8.blk t).view.emb y 1 = wide j := Fin.ext (by blk_simp [idx t]; simp only [wide, y1])
    funext k; fin_cases k
    exacts [e0, e1]
  refine Eq.trans ?_ (congrArg _ emb).symm
  refine (congrArg _ e).trans ?_
  unfold outsAt0
  frame_out
  refine (pay7_at m c t i j).trans ?_
  exact (full_at m c (row t i) j).symm

/-- After the call, its columns are cut out of the array. -/
theorem cut : Pipeline.afterTail₀ cfgs (dats m) 0 (V0 m) [hostOps1] c main_v1 =
    (extractStridedSlice S4096x4096 ![0, 0] ((dats m 0 c).arrAt 8 cfg0.N) slices_S4096x11520_S4096x4096_0_0) := by
  have h := (dats m 0 c).withArrays_arrAt sharedIn0 (V0 m c) (A_eq m c) 8
  unfold Pipeline.afterTail₀
  after_reads_simp
  exact congrArg (fun x => extractStridedSlice S4096x4096 ![0, 0] x slices_S4096x11520_S4096x4096_0_0) h

/-- The kernel's gradient of the gates is the reference's. -/
theorem same8 : Pipeline.afterTail₀ cfgs (dats m) 0 (V0 m) [hostOps1] c main_v1 =
    Cert.OutDxReferenceIdeal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [cut, filled]
  funext y
  obtain ⟨p, q, rfl⟩ : ∃ p q, y = ix2 p q := ⟨y 0, y 1, by funext k; fin_cases k <;> rfl⟩
  have e : extractStridedSlice S4096x4096 ![0, 0] (fun i : S4096x11520.Idx => if (i 1 : ℕ) / 4096 = 0 then full m c i else V m c main_v0_2 i)
      slices_S4096x11520_S4096x4096_0_0 (ix2 p q) = (if (wide q : ℕ) / 4096 = 0 then full m c (ix2 p (wide q)) else V m c main_v0_2 (ix2 p (wide q))) := by
    exact extractStridedSlice_apply _ _ _ _ (ix2 p (wide q)) (fun a => by fin_cases a <;> exact (Nat.zero_add _).symm)
  refine e.trans ?_
  rw [if_pos (show (wide q).val / 4096 = 0 from Nat.div_eq_of_lt q.isLt)]
  exact full_at m c p q

/-- The run, with its three results named. -/
theorem run (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v1) = Pipeline.afterTail₀ cfgs (dats m) 0 (V0 m) [hostOps1] c main_v1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 6, (h c).1 7,
      (h c).2 main_v1 (Pipeline.mem_restRefs_of main_v1 (by decide) (by decide)),
      ((h c).1 3).trans (((dats m 0 c).arrAt_in 3 rfl _).trans ((A_eq m c 3).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 1).trans (((dats m 0 c).arrAt_in 1 rfl _).trans ((A_eq m c 1).trans (V_main_arg3 m c))),
      ((h c).1 0).trans (((dats m 0 c).arrAt_in 0 rfl _).trans ((A_eq m c 0).trans (V_main_arg4 m c)))⟩)
    (run_main m ρ)

end Cert.OutDxValue

end
-- ==== Proof.ClaimsOutDx.lean ====
/- The claims about the gradients through the output projection and its gates. -/
module

public import proofs.«01_k».proof.Defs
public import proofs.«01_k».proof.Proof.Gen.OutDx.Frame
public import proofs.«01_k».proof.Proof.Gen.OutDxIdeal.Frame
public import proofs.«01_k».proof.Proof.Gen.OutDxReferenceIdeal.Run
public import proofs.«01_k».proof.Proof.OutDx

@[expose] public section

noncomputable section

namespace Cert.Proof

open Idealize.ShloMosaic Idealize.SL.Sem

/-- The kernel as printed, on bit patterns. -/
theorem frame_OutDx : Cert.quiescent_OutDx := fun m ρ _ => Cert.OutDx.Gen.frame m ρ

/-- The same program over the extended reals. -/
theorem frame_OutDxIdeal : Cert.quiescent_OutDxIdeal := fun m ρ _ => Cert.OutDxIdeal.Gen.frame m ρ

/-- The reference over the extended reals. -/
theorem frame_OutDxReference : Cert.quiescent_OutDxReferenceIdeal := fun m ρ _ =>
  (θ_run Cert.OutDxReferenceIdeal.defs _ _).mono (fun r h => ⟨fun c => (h c).2.2.2, Idealize.ShloMosaic.sem_eq_zero_of_no_sems (by decide) r.2⟩)
    (Cert.OutDxReferenceIdeal.Value.run (F := Ideal) m ρ)

/-- From the same arguments, the kernel's three gradients are the reference's. -/
theorem algebraic_OutDx : Cert.algebraic_OutDxIdeal_OutDxReferenceIdeal := fun m ρ m' ρ' _ hag => by
  refine ⟨_, _, _, Cert.OutDxValue.run m ρ, ?_⟩
  refine (θ_run Cert.OutDxReferenceIdeal.defs _ _).mono (fun _ h c => ⟨(h c).1.trans ?_, (h c).2.1.trans ?_, (h c).2.2.1.trans ?_, (h c).2.2.2⟩)
    (Cert.OutDxReferenceIdeal.Value.run (F := Ideal) m' ρ')
  · refine (Cert.OutDxReferenceIdeal.Read.val_main_v37_eq _ _ _).trans (Eq.trans ?_ (Cert.OutDxValue.same6 m c).symm)
    obtain ⟨h0, h1, h2, h3, h4⟩ := hag c
    rw [← h0, ← h3, ← h4]
  · refine (Cert.OutDxReferenceIdeal.Read.val_main_v38_eq _ _ _).trans (Eq.trans ?_ (Cert.OutDxValue.same7 m c).symm)
    obtain ⟨h0, h1, h2, h3, h4⟩ := hag c
    rw [← h0, ← h3, ← h4]
  · refine (Cert.OutDxReferenceIdeal.Read.val_main_v39_eq _ _ _ _ _).trans (Eq.trans ?_ (Cert.OutDxValue.same8 m c).symm)
    obtain ⟨h0, h1, h2, h3, h4⟩ := hag c
    rw [← h0, ← h1, ← h2, ← h3, ← h4]

end Cert.Proof

end
-- ==== Proof.RetDx.lean ====
/- The gradient of the gated retention: `dy wᵀ`, a tiled product. -/
module

public import proofs.«01_k».proof.Proof.Gen.RetDxIdeal.Value
public import proofs.«01_k».proof.Proof.Gen.RetDxReferenceIdeal.Read
public import proofs.«01_k».proof.Proof.Tiles
public import Idealize.ShloMosaic.Lib.Pipeline.ReadBack

@[expose] public section

set_option maxRecDepth 16384

noncomputable section

namespace Cert.RetDxValue

open Idealize.ShloMosaic Idealize.ShloMosaic.TcCoe Cert.RetDxIdeal Cert.RetDxIdeal.Gen Cert.Tiles

/-- The block indices of the windows at a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The row of the result that row `i` of a point's block is. -/
def row (t : Fin cfg0.N) (i : Fin 1024) : Fin 4096 := ⟨t.val / 2 * 1024 + i.val, by have ht := lt_of_lt_of_eq t.isLt N_0; omega⟩

/-- The column of the result that column `j` of a point's block is. -/
def col (t : Fin cfg0.N) (j : Fin 1024) : Fin 2048 := ⟨t.val % 2 * 1024 + j.val, by have ht := lt_of_lt_of_eq t.isLt N_0; omega⟩

variable (m : (ℓ : Loc nD τ sig) → Buf (Elt Ideal) ℓ) (c : Dev nD)

theorem blk0_at (t : Fin cfg0.N) (i : Fin 1024) (k : Fin 2048) : iblk m c 0 t (ix2 i k) = V m c main_arg1 (ix2 (row t i) k) := by
  blk_ext [iblk, row, idx t]

theorem blk1_at (t : Fin cfg0.N) (j : Fin 1024) (k : Fin 2048) : iblk m c 1 t (ix2 j k) = V m c main_arg0 (ix2 (col t j) k) := by
  blk_ext [iblk, col, idx t]

theorem emb_at (t : Fin cfg0.N) (i : Fin 1024) (j : Fin 1024) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S2048x2048, .bf16⟩ : BufTy).Contents (Elt Ideal)) (x1 : (⟨S4096x2048, .bf16⟩ : BufTy).Contents (Elt Ideal)) (p : Fin 4096) (q : Fin 2048) :
    Cert.RetDxReferenceIdeal.Read.val_main_v4 (F := Ideal) x0 x1 (ix2 p q) = ∑ k : Fin 2048, x1 (ix2 p k) * x0 (ix2 q k) := by
  pointwise [Cert.RetDxReferenceIdeal.Read.val_main_v4, Cert.RetDxReferenceIdeal.Read.val_main_v3, Cert.RetDxReferenceIdeal.Read.val_main_v1]

/-- The kernel's result is the reference's. -/
theorem same : (dats m 0 c).arrAt 2 cfg0.N =
    Cert.RetDxReferenceIdeal.Read.val_main_v4 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.RetDxValue

end
-- ==== Proof.RetDw.lean ====
/- The gradient of the retention's output weight: `ryᵀ dy`, a tiled product. -/
module

public import proofs.«01_k».proof.Proof.Gen.RetDwIdeal.Value
public import proofs.«01_k».proof.Proof.Gen.RetDwReferenceIdeal.Read
public import proofs.«01_k».proof.Proof.Tiles
public import Idealize.ShloMosaic.Lib.Pipeline.ReadBack

@[expose] public section

set_option maxRecDepth 16384

noncomputable section

namespace Cert.RetDwValue

open Idealize.ShloMosaic Idealize.ShloMosaic.TcCoe Cert.RetDwIdeal Cert.RetDwIdeal.Gen Cert.Tiles

/-- The block indices of the windows at a grid point. -/
theorem idx : ∀ t : Fin cfg0.N, win0_0.index t = ![0, t.val] ∧ win0_1.index t = ![0, 0] ∧ win0_2.index t = ![t.val, 0] :=
  (by decide +kernel : ∀ t : Fin grid0.N, _)

/-- The row of the result that row `i` of a point's block is. -/
def row (t : Fin cfg0.N) (i : Fin 512) : Fin 2048 := ⟨t.val * 512 + i.val, by have ht := lt_of_lt_of_eq t.isLt N_0; omega⟩

/-- The column of the result that column `j` of a point's block is. -/
def col (t : Fin cfg0.N) (j : Fin 2048) : Fin 2048 := j

variable (m : (ℓ : Loc nD τ sig) → Buf (Elt Ideal) ℓ) (c : Dev nD)

theorem blk0_at (t : Fin cfg0.N) (k : Fin 4096) (i : Fin 512) : iblk m c 0 t (ix2 k i) = V m c main_arg0 (ix2 k (row t i)) := by
  blk_ext [iblk, row, idx t]

theorem blk1_at (t : Fin cfg0.N) (k : Fin 4096) (j : Fin 2048) : iblk m c 1 t (ix2 k j) = V m c main_arg1 (ix2 k (col t j)) := by
  blk_ext [iblk, col, idx t]

theorem emb_at (t : Fin cfg0.N) (i : Fin 512) (j : Fin 2048) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S4096x2048, .bf16⟩ : BufTy).Contents (Elt Ideal)) (x1 : (⟨S4096x2048, .bf16⟩ : BufTy).Contents (Elt Ideal)) (p : Fin 2048) (q : Fin 2048) :
    Cert.RetDwReferenceIdeal.Read.val_main_v6 (F := Ideal) x0 x1 (ix2 p q) = ∑ k : Fin 4096, x0 (ix2 k p) * x1 (ix2 k q) := by
  pointwise [Cert.RetDwReferenceIdeal.Read.val_main_v6, Cert.RetDwReferenceIdeal.Read.val_main_v5, Cert.RetDwReferenceIdeal.Read.val_main_v4, Cert.RetDwReferenceIdeal.Read.val_main_v3, Cert.RetDwReferenceIdeal.Read.val_main_v1]
  exact Finset.sum_congr rfl fun k _ => mul_comm _ _

/-- The kernel's result is the reference's. -/
theorem same : (dats m 0 c).arrAt 2 cfg0.N =
    Cert.RetDwReferenceIdeal.Read.val_main_v6 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.RetDwValue

end
-- ==== Proof.MlaDx.lean ====
/- The gradient of the attention's output: `dy wᵀ`, a tiled product. -/
module

public import proofs.«01_k».proof.Proof.Gen.MlaDxIdeal.Value
public import proofs.«01_k».proof.Proof.Gen.MlaDxReferenceIdeal.Read
public import proofs.«01_k».proof.Proof.Tiles
public import Idealize.ShloMosaic.Lib.Pipeline.ReadBack

@[expose] public section

set_option maxRecDepth 16384

noncomputable section

namespace Cert.MlaDxValue

open Idealize.ShloMosaic Idealize.ShloMosaic.TcCoe Cert.MlaDxIdeal Cert.MlaDxIdeal.Gen Cert.Tiles

/-- The block indices of the windows at a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The row of the result that row `i` of a point's block is. -/
def row (t : Fin cfg0.N) (i : Fin 1024) : Fin 4096 := ⟨t.val / 2 * 1024 + i.val, by have ht := lt_of_lt_of_eq t.isLt N_0; omega⟩

/-- The column of the result that column `j` of a point's block is. -/
def col (t : Fin cfg0.N) (j : Fin 1024) : Fin 2048 := ⟨t.val % 2 * 1024 + j.val, by have ht := lt_of_lt_of_eq t.isLt N_0; omega⟩

variable (m : (ℓ : Loc nD τ sig) → Buf (Elt Ideal) ℓ) (c : Dev nD)

theorem blk0_at (t : Fin cfg0.N) (i : Fin 1024) (k : Fin 2048) : iblk m c 0 t (ix2 i k) = V m c main_arg1 (ix2 (row t i) k) := by
  blk_ext [iblk, row, idx t]

theorem blk1_at (t : Fin cfg0.N) (j : Fin 1024) (k : Fin 2048) : iblk m c 1 t (ix2 j k) = V m c main_arg0 (ix2 (col t j) k) := by
  blk_ext [iblk, col, idx t]

theorem emb_at (t : Fin cfg0.N) (i : Fin 1024) (j : Fin 1024) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S2048x2048, .bf16⟩ : BufTy).Contents (Elt Ideal)) (x1 : (⟨S4096x2048, .bf16⟩ : BufTy).Contents (Elt Ideal)) (p : Fin 4096) (q : Fin 2048) :
    Cert.MlaDxReferenceIdeal.Read.val_main_v4 (F := Ideal) x0 x1 (ix2 p q) = ∑ k : Fin 2048, x1 (ix2 p k) * x0 (ix2 q k) := by
  pointwise [Cert.MlaDxReferenceIdeal.Read.val_main_v4, Cert.MlaDxReferenceIdeal.Read.val_main_v3, Cert.MlaDxReferenceIdeal.Read.val_main_v1]

/-- The kernel's result is the reference's. -/
theorem same : (dats m 0 c).arrAt 2 cfg0.N =
    Cert.MlaDxReferenceIdeal.Read.val_main_v4 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.MlaDxValue

end
-- ==== Proof.MlaDw.lean ====
/- The gradient of the attention's output weight: `oᵀ dy`, a tiled product. -/
module

public import proofs.«01_k».proof.Proof.Gen.MlaDwIdeal.Value
public import proofs.«01_k».proof.Proof.Gen.MlaDwReferenceIdeal.Read
public import proofs.«01_k».proof.Proof.Tiles
public import Idealize.ShloMosaic.Lib.Pipeline.ReadBack

@[expose] public section

set_option maxRecDepth 16384

noncomputable section

namespace Cert.MlaDwValue

open Idealize.ShloMosaic Idealize.ShloMosaic.TcCoe Cert.MlaDwIdeal Cert.MlaDwIdeal.Gen Cert.Tiles

/-- The block indices of the windows at a grid point. -/
theorem idx : ∀ t : Fin cfg0.N, win0_0.index t = ![0, t.val] ∧ win0_1.index t = ![0, 0] ∧ win0_2.index t = ![t.val, 0] :=
  (by decide +kernel : ∀ t : Fin grid0.N, _)

/-- The row of the result that row `i` of a point's block is. -/
def row (t : Fin cfg0.N) (i : Fin 256) : Fin 2048 := ⟨t.val * 256 + i.val, by have ht := lt_of_lt_of_eq t.isLt N_0; omega⟩

/-- The column of the result that column `j` of a point's block is. -/
def col (t : Fin cfg0.N) (j : Fin 2048) : Fin 2048 := j

variable (m : (ℓ : Loc nD τ sig) → Buf (Elt Ideal) ℓ) (c : Dev nD)

theorem blk0_at (t : Fin cfg0.N) (k : Fin 4096) (i : Fin 256) : iblk m c 0 t (ix2 k i) = V m c main_arg0 (ix2 k (row t i)) := by
  blk_ext [iblk, row, idx t]

theorem blk1_at (t : Fin cfg0.N) (k : Fin 4096) (j : Fin 2048) : iblk m c 1 t (ix2 k j) = V m c main_arg1 (ix2 k (col t j)) := by
  blk_ext [iblk, col, idx t]

theorem emb_at (t : Fin cfg0.N) (i : Fin 256) (j : Fin 2048) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S4096x2048, .bf16⟩ : BufTy).Contents (Elt Ideal)) (x1 : (⟨S4096x2048, .bf16⟩ : BufTy).Contents (Elt Ideal)) (p : Fin 2048) (q : Fin 2048) :
    Cert.MlaDwReferenceIdeal.Read.val_main_v6 (F := Ideal) x0 x1 (ix2 p q) = ∑ k : Fin 4096, x0 (ix2 k p) * x1 (ix2 k q) := by
  pointwise [Cert.MlaDwReferenceIdeal.Read.val_main_v6, Cert.MlaDwReferenceIdeal.Read.val_main_v5, Cert.MlaDwReferenceIdeal.Read.val_main_v4, Cert.MlaDwReferenceIdeal.Read.val_main_v3, Cert.MlaDwReferenceIdeal.Read.val_main_v1]
  exact Finset.sum_congr rfl fun k _ => mul_comm _ _

/-- The kernel's result is the reference's. -/
theorem same : (dats m 0 c).arrAt 2 cfg0.N =
    Cert.MlaDwReferenceIdeal.Read.val_main_v6 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.MlaDwValue

end
-- ==== Proof.QDx.lean ====
/- The gradient of the normalised query latent: `dq wᵀ`, a product accumulated over two tiles. -/
module

public import proofs.«01_k».proof.Proof.Gen.QDxIdeal.Value
public import proofs.«01_k».proof.Proof.Gen.QDxReferenceIdeal.Read
public import proofs.«01_k».proof.Proof.Tiles
public import Idealize.ShloMosaic.Lib.Pipeline.ReadBack

@[expose] public section

set_option maxRecDepth 16384

noncomputable section

namespace Cert.QDxValue

open Idealize.ShloMosaic Idealize.ShloMosaic.TcCoe Cert.QDxIdeal Cert.QDxIdeal.Gen Cert.Tiles

/-- The block indices of the windows at a grid point. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The row of the result that row `i` of a point's block is. -/
def row (t : Fin cfg0.N) (i : Fin 1024) : Fin 4096 := ⟨t.val / 2 * 1024 + i.val, by have ht := lt_of_lt_of_eq t.isLt N_0; omega⟩

/-- The column of the result that column `j` of a point's block is. -/
def col (t : Fin cfg0.N) (j : Fin 512) : Fin 512 := j

/-- The summed index that index `k` of a point's tile is. -/
def dep (t : Fin cfg0.N) (k : Fin 2048) : Fin 4096 := ⟨t.val % 2 * 2048 + k.val, by omega⟩

variable (m : (ℓ : Loc nD τ sig) → Buf (Elt Ideal) ℓ) (c : Dev nD)

theorem blk0_at (t : Fin cfg0.N) (i : Fin 1024) (k : Fin 2048) : iblk m c 0 t (ix2 i k) = V m c main_arg1 (ix2 (row t i) (dep t k)) := by
  blk_ext [iblk, row, dep, idx t]

theorem blk1_at (t : Fin cfg0.N) (j : Fin 512) (k : Fin 2048) : iblk m c 1 t (ix2 j k) = V m c main_arg0 (ix2 (col t j) (dep t k)) := by
  blk_ext [iblk, col, dep, idx t]

theorem emb_at (t : Fin cfg0.N) (i : Fin 1024) (j : Fin 512) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The summed products of an entry of the result. -/
def term (p : Fin 4096) (q : Fin 512) (k : Fin 4096) : EReal :=
  have a : Vec Ideal S4096x4096 .bf16 := V m c main_arg1
  have b : Vec Ideal S512x4096 .bf16 := V m c main_arg0
  a (ix2 p k) * b (ix2 q k)

/-- A point's tile of the product. -/
theorem tile_at (t : Fin cfg0.N) (i : Fin 1024) (j : Fin 512) :
    k0_pay1 (F := Ideal) (iblk m c 0 t) (iblk m c 1 t) (ix2 i j) = ∑ k, term m c (row t i) (col t j) (dep t k) := by
  pointwise [k0_pay1]
  simp only [blk0_at, blk1_at, term]

theorem pay2_at (x : Vec Ideal S1024x2048 .bf16) (y : Vec Ideal S512x2048 .bf16) (i : Fin 1024) (j : Fin 512) :
    k0_pay2 (F := Ideal) x y (ix2 i j) = k0_pay1 (F := Ideal) x y (ix2 i j) := by
  pointwise [k0_pay2]

theorem pay4_at (x : Vec Ideal S1024x2048 .bf16) (y : Vec Ideal S512x2048 .bf16) (z : Vec Ideal S1024x512 .f32) (i : Fin 1024) (j : Fin 512) :
    k0_pay4 (F := Ideal) x y z (ix2 i j) = z (ix2 i j) + k0_pay1 (F := Ideal) x y (ix2 i j) := by
  pointwise [k0_pay4]

/-- A block's first tile is left in the scratch. -/
theorem left (t : Fin cfg0.N) (h0 : t.val % 2 = 0) (i : Fin 1024) (j : Fin 512) :
    (outsAt0 m c t.val t.isLt).2 (ix2 i j) = part (term m c (row t i) (col t j)) 2048 := by
  rw [outsAt0_A m c t h0 (by omega)]; frame_out
  rw [pay2_at, tile_at]
  exact part_first _ _ _ (by omega) fun k => congrArg _ (Fin.ext (by simp only [dep]; omega))

/-- At a block's second tile the block of the result is the whole sum. -/
theorem last (t : Fin cfg0.N) (h2 : t.val % 2 = 1) (i : Fin 1024) (j : Fin 512) :
    (outsAt0 m c t.val t.isLt).1 (ix2 i j) = ∑ k, term m c (row t i) (col t j) k := by
  rw [outsAt0_B m c t (by omega) h2]; frame_out
  simp only [read_unread_whole]
  rw [pay4_at, tile_at]
  have hp := left m c ⟨t.val - 1, by omega⟩ (by dsimp only; omega) i j
  have hr : row ⟨t.val - 1, by omega⟩ i = row t i := Fin.ext (by simp only [row]; omega)
  have hc : col ⟨t.val - 1, by omega⟩ j = col t j := rfl
  rw [hr, hc] at hp
  refine (congrArg (· + _) hp).trans ?_
  exact part_last _ _ _ _ (by omega) fun k => congrArg _ (Fin.ext (by simp only [dep]; omega))

/-- The reference at an index. -/
theorem ref_at (x0 : (⟨S512x4096, .bf16⟩ : BufTy).Contents (Elt Ideal)) (x1 : (⟨S4096x4096, .bf16⟩ : BufTy).Contents (Elt Ideal)) (p : Fin 4096) (q : Fin 512) :
    Cert.QDxReferenceIdeal.Read.val_main_v4 (F := Ideal) x0 x1 (ix2 p q) = ∑ k : Fin 4096, x1 (ix2 p k) * x0 (ix2 q k) := by
  pointwise [Cert.QDxReferenceIdeal.Read.val_main_v4, Cert.QDxReferenceIdeal.Read.val_main_v3, Cert.QDxReferenceIdeal.Read.val_main_v1]

/-- The kernel's result is the reference's. -/
theorem same : (dats m 0 c).arrAt 2 cfg0.N =
    Cert.QDxReferenceIdeal.Read.val_main_v4 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  refine (last m c t ((flush0_2 t).mp hf) i j).trans ?_
  simp only [term, V_main_arg0, V_main_arg1]

end Cert.QDxValue

end
-- ==== Proof.QDw.lean ====
/- The gradient of the query weight: `cᵀ dq`, a product accumulated over two tiles of the rows. -/
module

public import proofs.«01_k».proof.Proof.Gen.QDwIdeal.Value
public import proofs.«01_k».proof.Proof.Gen.QDwReferenceIdeal.Read
public import proofs.«01_k».proof.Proof.Tiles
public import Idealize.ShloMosaic.Lib.Pipeline.ReadBack

@[expose] public section

set_option maxRecDepth 16384

noncomputable section

namespace Cert.QDwValue

open Idealize.ShloMosaic Idealize.ShloMosaic.TcCoe Cert.QDwIdeal Cert.QDwIdeal.Gen Cert.Tiles

/-- The block indices of the windows at a grid point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The row of the result that row `i` of a point's block is. -/
def row (t : Fin cfg0.N) (i : Fin 512) : Fin 512 := i

/-- The column of the result that column `j` of a point's block is. -/
def col (t : Fin cfg0.N) (j : Fin 1024) : Fin 4096 := ⟨t.val / 2 * 1024 + j.val, by have ht := lt_of_lt_of_eq t.isLt N_0; omega⟩

/-- The summed index that index `k` of a point's tile is. -/
def dep (t : Fin cfg0.N) (k : Fin 2048) : Fin 4096 := ⟨t.val % 2 * 2048 + k.val, by omega⟩

variable (m : (ℓ : Loc nD τ sig) → Buf (Elt Ideal) ℓ) (c : Dev nD)

theorem blk0_at (t : Fin cfg0.N) (k : Fin 2048) (i : Fin 512) : iblk m c 0 t (ix2 k i) = V m c main_arg0 (ix2 (dep t k) (row t i)) := by
  blk_ext [iblk, row, dep, idx t]

theorem blk1_at (t : Fin cfg0.N) (k : Fin 2048) (j : Fin 1024) : iblk m c 1 t (ix2 k j) = V m c main_arg1 (ix2 (dep t k) (col t j)) := by
  blk_ext [iblk, col, dep, idx t]

theorem emb_at (t : Fin cfg0.N) (i : Fin 512) (j : Fin 1024) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The summed products of an entry of the result. -/
def term (p : Fin 512) (q : Fin 4096) (k : Fin 4096) : EReal :=
  have a : Vec Ideal S4096x512 .bf16 := V m c main_arg0
  have b : Vec Ideal S4096x4096 .bf16 := V m c main_arg1
  a (ix2 k p) * b (ix2 k q)

/-- A point's tile of the product. -/
theorem tile_at (t : Fin cfg0.N) (i : Fin 512) (j : Fin 1024) :
    k0_pay1 (F := Ideal) (iblk m c 0 t) (iblk m c 1 t) (ix2 i j) = ∑ k, term m c (row t i) (col t j) (dep t k) := by
  pointwise [k0_pay1]
  simp only [blk0_at, blk1_at, term]

theorem pay2_at (x : Vec Ideal S2048x512 .bf16) (y : Vec Ideal S2048x1024 .bf16) (i : Fin 512) (j : Fin 1024) :
    k0_pay2 (F := Ideal) x y (ix2 i j) = k0_pay1 (F := Ideal) x y (ix2 i j) := by
  pointwise [k0_pay2]

theorem pay4_at (x : Vec Ideal S2048x512 .bf16) (y : Vec Ideal S2048x1024 .bf16) (z : Vec Ideal S512x1024 .f32) (i : Fin 512) (j : Fin 1024) :
    k0_pay4 (F := Ideal) x y z (ix2 i j) = z (ix2 i j) + k0_pay1 (F := Ideal) x y (ix2 i j) := by
  pointwise [k0_pay4]

/-- A block's first tile is left in the scratch. -/
theorem left (t : Fin cfg0.N) (h0 : t.val % 2 = 0) (i : Fin 512) (j : Fin 1024) :
    (outsAt0 m c t.val t.isLt).2 (ix2 i j) = part (term m c (row t i) (col t j)) 2048 := by
  rw [outsAt0_A m c t h0 (by omega)]; frame_out
  rw [pay2_at, tile_at]
  exact part_first _ _ _ (by omega) fun k => congrArg _ (Fin.ext (by simp only [dep]; omega))

/-- At a block's second tile the block of the result is the whole sum. -/
theorem last (t : Fin cfg0.N) (h2 : t.val % 2 = 1) (i : Fin 512) (j : Fin 1024) :
    (outsAt0 m c t.val t.isLt).1 (ix2 i j) = ∑ k, term m c (row t i) (col t j) k := by
  rw [outsAt0_B m c t (by omega) h2]; frame_out
  simp only [read_unread_whole]
  rw [pay4_at, tile_at]
  have hp := left m c ⟨t.val - 1, by omega⟩ (by dsimp only; omega) i j
  have hr : row ⟨t.val - 1, by omega⟩ i = row t i := rfl
  have hc : col ⟨t.val - 1, by omega⟩ j = col t j := Fin.ext (by simp only [col]; omega)
  rw [hr, hc] at hp
  refine (congrArg (· + _) hp).trans ?_
  exact part_last _ _ _ _ (by omega) fun k => congrArg _ (Fin.ext (by simp only [dep]; omega))

/-- The reference at an index. -/
theorem ref_at (x0 : (⟨S4096x512, .bf16⟩ : BufTy).Contents (Elt Ideal)) (x1 : (⟨S4096x4096, .bf16⟩ : BufTy).Contents (Elt Ideal)) (p : Fin 512) (q : Fin 4096) :
    Cert.QDwReferenceIdeal.Read.val_main_v6 (F := Ideal) x0 x1 (ix2 p q) = ∑ k : Fin 4096, x0 (ix2 k p) * x1 (ix2 k q) := by
  pointwise [Cert.QDwReferenceIdeal.Read.val_main_v6, Cert.QDwReferenceIdeal.Read.val_main_v5, Cert.QDwReferenceIdeal.Read.val_main_v4, Cert.QDwReferenceIdeal.Read.val_main_v3, Cert.QDwReferenceIdeal.Read.val_main_v1]
  exact Finset.sum_congr rfl fun k _ => mul_comm _ _

/-- The kernel's result is the reference's. -/
theorem same : (dats m 0 c).arrAt 2 cfg0.N =
    Cert.QDwReferenceIdeal.Read.val_main_v6 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  refine (last m c t ((flush0_2 t).mp hf) i j).trans ?_
  simp only [term, V_main_arg0, V_main_arg1]

end Cert.QDwValue

end
-- ==== Proof.KvDx.lean ====
/- The gradient of the normalised latent of keys and values: a product accumulated over two tiles of four devices' columns each. -/
module

public import proofs.«01_k».proof.Proof.Gen.KvDxIdeal.Value
public import proofs.«01_k».proof.Proof.Gen.KvDxReferenceIdeal.Read
public import proofs.«01_k».proof.Proof.Tiles
public import Idealize.ShloMosaic.Lib.Pipeline.ReadBack

@[expose] public section

set_option maxRecDepth 16384

noncomputable section

namespace Cert.KvDxValue

open Idealize.ShloMosaic Idealize.ShloMosaic.TcCoe Cert.KvDxIdeal Cert.KvDxIdeal.Gen Cert.Tiles

/-- The block indices of the windows at a grid point. -/
theorem idx : ∀ t : Fin cfg0.N, win0_0.index t = ![t.val / 2, t.val % 2] ∧ win0_1.index t = ![t.val % 2 * 4, 0, 0] ∧
    win0_2.index t = ![t.val % 2 * 4 + 1, 0, 0] ∧ win0_3.index t = ![t.val % 2 * 4 + 2, 0, 0] ∧
    win0_4.index t = ![t.val % 2 * 4 + 3, 0, 0] ∧ win0_5.index t = ![t.val / 2, 0] :=
  (by decide +kernel : ∀ t : Fin grid0.N, _)

/-- The row of the result that row `i` of a point's block is. -/
def row (t : Fin cfg0.N) (i : Fin 1024) : Fin 4096 := ⟨t.val / 2 * 1024 + i.val, by have ht := lt_of_lt_of_eq t.isLt N_0; omega⟩

/-- The column of the result that column `j` of a point's block is. -/
def col (t : Fin cfg0.N) (j : Fin 512) : Fin 512 := j

/-- The device whose columns piece `p` of a point's tile are. -/
def dev (t : Fin cfg0.N) (p : Fin 4) : Fin 8 := ⟨t.val % 2 * 4 + p.val, by omega⟩

/-- Column `k` of device `d`. -/
def dep (d : Fin 8) (k : Fin 512) : Fin 4096 := ⟨d.val * 512 + k.val, by omega⟩

/-- Column `k` of piece `p` of a tile. -/
def cut (p : Fin 4) (k : Fin 512) : Fin 2048 := ⟨p.val * 512 + k.val, by omega⟩

variable (m : (ℓ : Loc nD τ sig) → Buf (Elt Ideal) ℓ) (c : Dev nD)

theorem blk0_at (t : Fin cfg0.N) (i : Fin 1024) (p : Fin 4) (k : Fin 512) :
    iblk m c 0 t (ix2 i (cut p k)) = V m c main_arg1 (ix2 (row t i) (dep (dev t p) k)) := by
  blk_ext [iblk, row, dep, dev, cut, idx t]

theorem blk1_at (t : Fin cfg0.N) (j : Fin 512) (k : Fin 512) : iblk m c 1 t (ix3 0 j k) = V m c main_arg0 (ix3 (dev t 0) (col t j) k) := by
  blk_ext [iblk, col, dev, idx t]

theorem blk2_at (t : Fin cfg0.N) (j : Fin 512) (k : Fin 512) : iblk m c 2 t (ix3 0 j k) = V m c main_arg0 (ix3 (dev t 1) (col t j) k) := by
  blk_ext [iblk, col, dev, idx t]

theorem blk3_at (t : Fin cfg0.N) (j : Fin 512) (k : Fin 512) : iblk m c 3 t (ix3 0 j k) = V m c main_arg0 (ix3 (dev t 2) (col t j) k) := by
  blk_ext [iblk, col, dev, idx t]

theorem blk4_at (t : Fin cfg0.N) (j : Fin 512) (k : Fin 512) : iblk m c 4 t (ix3 0 j k) = V m c main_arg0 (ix3 (dev t 3) (col t j) k) := by
  blk_ext [iblk, col, dev, idx t]

theorem emb_at (t : Fin cfg0.N) (i : Fin 1024) (j : Fin 512) : (win0_5.blk t).view.emb (ix2 i j) = ix2 (row t i) (col t j) := by
  have e0 : (win0_5.blk t).view.emb (ix2 i j) 0 = row t i := Fin.ext (by blk_simp [idx t]; simp only [row])
  have e1 : (win0_5.blk t).view.emb (ix2 i j) 1 = col t j := Fin.ext (by blk_simp [idx t]; simp only [col])
  funext k; fin_cases k
  exacts [e0, e1]

/-- The summed products of an entry of the result. -/
def term (p : Fin 4096) (q : Fin 512) (k : Fin 4096) : EReal :=
  have a : Vec Ideal S4096x4096 .bf16 := V m c main_arg1
  have b : Vec Ideal S8x512x512 .bf16 := V m c main_arg0
  a (ix2 p k) * b (ix3 ⟨k.val / 512, by omega⟩ q ⟨k.val % 512, by omega⟩)

/-- A device's share of the summed products. -/
theorem term_dep (p : Fin 4096) (q : Fin 512) (d : Fin 8) (k : Fin 512) :
    term m c p q (dep d k) =
      have a : Vec Ideal S4096x4096 .bf16 := V m c main_arg1
      have b : Vec Ideal S8x512x512 .bf16 := V m c main_arg0
      a (ix2 p (dep d k)) * b (ix3 d q k) := by
  have h1 : (⟨(dep d k).val / 512, by omega⟩ : Fin 8) = d := Fin.ext (by simp only [dep]; omega)
  have h2 : (⟨(dep d k).val % 512, by omega⟩ : Fin 512) = k := Fin.ext (by simp only [dep]; omega)
  unfold term
  rw [h1, h2]

/-- A payload's sum of four products at an index. -/
theorem pay3_at (x0 x1 x2 x3 : Vec Ideal S1024x512 .bf16) (y0 y1 y2 y3 : Vec Ideal S1x512x512 .bf16) (i : Fin 1024) (j : Fin 512) :
    k0_pay3 (F := Ideal) x0 y0 x1 y1 x2 y2 x3 y3 (ix2 i j) =
      (∑ k, x0 (ix2 i k) * y0 (ix3 0 j k)) + (∑ k, x1 (ix2 i k) * y1 (ix3 0 j k)) + (∑ k, x2 (ix2 i k) * y2 (ix3 0 j k)) +
        (∑ k, x3 (ix2 i k) * y3 (ix3 0 j k)) := by
  pointwise [k0_pay3]

theorem ld0_at (x : Vec Ideal S1024x2048 .bf16) (i : Fin 1024) (k : Fin 512) :
    View.ld x (Rect.unit (s := S1024x2048) ![0, 0] ![1024, 512] inb_S1024x2048_S1024x512_0_0) (ix2 i k) = x (ix2 i (cut 0 k)) := by
  pointwise [cut]

theorem ld1_at (x : Vec Ideal S1024x2048 .bf16) (i : Fin 1024) (k : Fin 512) :
    View.ld x (Rect.unit (s := S1024x2048) ![0, 512] ![1024, 512] inb_S1024x2048_S1024x512_0_512) (ix2 i k) = x (ix2 i (cut 1 k)) := by
  pointwise [cut]

theorem ld2_at (x : Vec Ideal S1024x2048 .bf16) (i : Fin 1024) (k : Fin 512) :
    View.ld x (Rect.unit (s := S1024x2048) ![0, 1024] ![1024, 512] inb_S1024x2048_S1024x512_0_1024) (ix2 i k) = x (ix2 i (cut 2 k)) := by
  pointwise [cut]

theorem ld3_at (x : Vec Ideal S1024x2048 .bf16) (i : Fin 1024) (k : Fin 512) :
    View.ld x (Rect.unit (s := S1024x2048) ![0, 1536] ![1024, 512] inb_S1024x2048_S1024x512_0_1536) (ix2 i k) = x (ix2 i (cut 3 k)) := by
  pointwise [cut]

/-- A tile of the product, of a block whose entries are given. -/
theorem tile_of (t : Fin cfg0.N) (i : Fin 1024) (j : Fin 512) (x : Vec Ideal S1024x2048 .bf16)
    (hx : ∀ p k, x (ix2 i (cut p k)) = V m c main_arg1 (ix2 (row t i) (dep (dev t p) k))) :
    k0_pay3 (F := Ideal) (View.ld x (Rect.unit (s := S1024x2048) ![0, 0] ![1024, 512] inb_S1024x2048_S1024x512_0_0))
      (iblk m c 1 t) (View.ld x (Rect.unit (s := S1024x2048) ![0, 512] ![1024, 512] inb_S1024x2048_S1024x512_0_512))
      (iblk m c 2 t) (View.ld x (Rect.unit (s := S1024x2048) ![0, 1024] ![1024, 512] inb_S1024x2048_S1024x512_0_1024))
      (iblk m c 3 t) (View.ld x (Rect.unit (s := S1024x2048) ![0, 1536] ![1024, 512] inb_S1024x2048_S1024x512_0_1536))
      (iblk m c 4 t) (ix2 i j) =
      ∑ k, term m c (row t i) (col t j) (dep (dev t 0) k) + ∑ k, term m c (row t i) (col t j) (dep (dev t 1) k) + ∑ k, term m c (row t i) (col t j) (dep (dev t 2) k) +
        ∑ k, term m c (row t i) (col t j) (dep (dev t 3) k) := by
  rw [pay3_at]
  simp only [blk1_at, blk2_at, blk3_at, blk4_at, term_dep]
  exact congrArg₂ (· + ·) (congrArg₂ (· + ·) (congrArg₂ (· + ·) (Finset.sum_congr rfl fun k _ => congrArg (· * _) ((ld0_at x i k).trans (hx 0 k)))
    (Finset.sum_congr rfl fun k _ => congrArg (· * _) ((ld1_at x i k).trans (hx 1 k))))
    (Finset.sum_congr rfl fun k _ => congrArg (· * _) ((ld2_at x i k).trans (hx 2 k))))
    (Finset.sum_congr rfl fun k _ => congrArg (· * _) ((ld3_at x i k).trans (hx 3 k)))

/-- A point's tile of the product. -/
theorem tile_at (t : Fin cfg0.N) (i : Fin 1024) (j : Fin 512) :
    k0_pay3 (F := Ideal) (View.ld (iblk m c 0 t) (Rect.unit (s := S1024x2048) ![0, 0] ![1024, 512] inb_S1024x2048_S1024x512_0_0))
      (iblk m c 1 t) (View.ld (iblk m c 0 t) (Rect.unit (s := S1024x2048) ![0, 512] ![1024, 512] inb_S1024x2048_S1024x512_0_512))
      (iblk m c 2 t) (View.ld (iblk m c 0 t) (Rect.unit (s := S1024x2048) ![0, 1024] ![1024, 512] inb_S1024x2048_S1024x512_0_1024))
      (iblk m c 3 t) (View.ld (iblk m c 0 t) (Rect.unit (s := S1024x2048) ![0, 1536] ![1024, 512] inb_S1024x2048_S1024x512_0_1536))
      (iblk m c 4 t) (ix2 i j) =
      ∑ k, term m c (row t i) (col t j) (dep (dev t 0) k) + ∑ k, term m c (row t i) (col t j) (dep (dev t 1) k) + ∑ k, term m c (row t i) (col t j) (dep (dev t 2) k) +
        ∑ k, term m c (row t i) (col t j) (dep (dev t 3) k) :=
  tile_of m c t i j (iblk m c 0 t) (blk0_at m c t i)

theorem pay4_at (x0 x1 x2 x3 : Vec Ideal S1024x512 .bf16) (y0 y1 y2 y3 : Vec Ideal S1x512x512 .bf16) (i : Fin 1024) (j : Fin 512) :
    k0_pay4 (F := Ideal) x0 y0 x1 y1 x2 y2 x3 y3 (ix2 i j) = k0_pay3 (F := Ideal) x0 y0 x1 y1 x2 y2 x3 y3 (ix2 i j) := by
  pointwise [k0_pay4]

theorem pay2_at (x y : Vec Ideal S1024x512 .f32) (i : Fin 1024) (j : Fin 512) :
    k0_pay2 (F := Ideal) x y (ix2 i j) = y (ix2 i j) + x (ix2 i j) := by
  pointwise [k0_pay2]

/-- A block's first tile is left in the scratch. -/
theorem left (t : Fin cfg0.N) (h0 : t.val % 2 = 0) (i : Fin 1024) (j : Fin 512) :
    (outsAt0 m c t.val t.isLt).2 (ix2 i j) = part (term m c (row t i) (col t j)) 2048 := by
  rw [outsAt0_A m c t h0 (by omega)]; frame_out
  rw [pay4_at]
  refine (tile_at m c t i j).trans ?_
  rw [← part_four (term m c (row t i) (col t j)) 0 512 2048
    (fun k => term m c (row t i) (col t j) (dep (dev t 0) k)) (fun k => term m c (row t i) (col t j) (dep (dev t 1) k)) (fun k => term m c (row t i) (col t j) (dep (dev t 2) k)) (fun k => term m c (row t i) (col t j) (dep (dev t 3) k)) (by omega) (by omega)
    (fun k => congrArg _ (Fin.ext (by simp only [dep, dev]; omega))) (fun k => congrArg _ (Fin.ext (by simp only [dep, dev]; omega)))
    (fun k => congrArg _ (Fin.ext (by simp only [dep, dev]; omega))) (fun k => congrArg _ (Fin.ext (by simp only [dep, dev]; omega))),
    part_zero, zero_add]

/-- At a block's second tile the block of the result is the whole sum. -/
theorem last (t : Fin cfg0.N) (h2 : t.val % 2 = 1) (i : Fin 1024) (j : Fin 512) :
    (outsAt0 m c t.val t.isLt).1 (ix2 i j) = ∑ k, term m c (row t i) (col t j) k := by
  rw [outsAt0_B m c t (by omega) h2]; frame_out
  simp only [read_unread_whole]
  have hp := left m c ⟨t.val - 1, by omega⟩ (by dsimp only; omega) i j
  have hr : row ⟨t.val - 1, by omega⟩ i = row t i := Fin.ext (by simp only [row]; omega)
  have hc : col ⟨t.val - 1, by omega⟩ j = col t j := rfl
  rw [hr, hc] at hp
  rw [pay2_at]
  refine (congrArg₂ (· + ·) hp (tile_at m c t i j)).trans (Eq.trans ?_ (part_all _))
  exact part_four (term m c (row t i) (col t j)) 2048 512 4096
    (fun k => term m c (row t i) (col t j) (dep (dev t 0) k)) (fun k => term m c (row t i) (col t j) (dep (dev t 1) k)) (fun k => term m c (row t i) (col t j) (dep (dev t 2) k)) (fun k => term m c (row t i) (col t j) (dep (dev t 3) k)) (by omega) (by omega)
    (fun k => congrArg _ (Fin.ext (by simp only [dep, dev]; omega))) (fun k => congrArg _ (Fin.ext (by simp only [dep, dev]; omega)))
    (fun k => congrArg _ (Fin.ext (by simp only [dep, dev]; omega))) (fun k => congrArg _ (Fin.ext (by simp only [dep, dev]; omega)))

/-- The reference at an index. -/
theorem ref_at (x0 : (⟨S8x512x512, .bf16⟩ : BufTy).Contents (Elt Ideal)) (x1 : (⟨S4096x4096, .bf16⟩ : BufTy).Contents (Elt Ideal))
    (p : Fin 4096) (q : Fin 512) :
    Cert.KvDxReferenceIdeal.Read.val_main_v6 (F := Ideal) x0 x1 (ix2 p q) =
      ∑ k : Fin 4096, x1 (ix2 p k) * x0 (ix3 ⟨k.val / 512, by omega⟩ q ⟨k.val % 512, by omega⟩) := by
  pointwise [Cert.KvDxReferenceIdeal.Read.val_main_v6, Cert.KvDxReferenceIdeal.Read.val_main_v5, Cert.KvDxReferenceIdeal.Read.val_main_v3,
    Cert.KvDxReferenceIdeal.Read.val_main_v2, Cert.KvDxReferenceIdeal.Read.val_main_v1]

/-- The kernel's result is the reference's. -/
theorem same : (dats m 0 c).arrAt 5 cfg0.N =
    Cert.KvDxReferenceIdeal.Read.val_main_v6 (F := Ideal) (m ((c : Thread nD τ).loc main_arg0)) (m ((c : Thread nD τ).loc main_arg1)) := by
  refine (dats m 0 c).arrAt_eq_of_covers 5 _ (by decide +kernel) (fun t hf y => ?_)
  blk_simp
  rw [after0_5]
  obtain ⟨i, j, rfl⟩ : ∃ i j, y = ix2 i j := ⟨y 0, y 1, by funext k; fin_cases k <;> rfl⟩
  refine Eq.trans ?_ (congrArg _ (emb_at t i j)).symm
  rw [ref_at]
  refine (last m c t ((flush0_5 t).mp hf) i j).trans ?_
  simp only [term, V_main_arg0, V_main_arg1]

end Cert.KvDxValue

end
-- ==== Proof.KvDw.lean ====
/- The gradient of the weight that expands the latent of keys and values, in the devices' columns: a product accumulated over two tiles. -/
module

public import proofs.«01_k».proof.Proof.Gen.KvDwIdeal.Value
public import proofs.«01_k».proof.Proof.Gen.KvDwReferenceIdeal.Read
public import proofs.«01_k».proof.Proof.Tiles
public import Idealize.ShloMosaic.Lib.Pipeline.ReadBack

@[expose] public section

set_option maxRecDepth 16384

noncomputable section

namespace Cert.KvDwValue

open Idealize.ShloMosaic Idealize.ShloMosaic.TcCoe Cert.KvDwIdeal Cert.KvDwIdeal.Gen Cert.Tiles

/-- The block indices of the windows at a grid point. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The device whose columns a point computes. -/
def dev (t : Fin cfg0.N) : Fin 8 := ⟨t.val / 2, by have ht := lt_of_lt_of_eq t.isLt N_0; omega⟩

/-- Column `j` of device `d`. -/
def col (d : Fin 8) (j : Fin 512) : Fin 4096 := ⟨d.val * 512 + j.val, by omega⟩

/-- The summed index that index `k` of a point's tile is. -/
def dep (t : Fin cfg0.N) (k : Fin 2048) : Fin 4096 := ⟨t.val % 2 * 2048 + k.val, by omega⟩

variable (m : (ℓ : Loc nD τ sig) → Buf (Elt Ideal) ℓ) (c : Dev nD)

theorem blk0_at (t : Fin cfg0.N) (k : Fin 2048) (i : Fin 512) : iblk m c 0 t (ix2 k i) = V m c main_arg0 (ix2 (dep t k) i) := by
  blk_ext [iblk, dep, idx t]

theorem blk1_at (t : Fin cfg0.N) (k : Fin 2048) (j : Fin 512) : iblk m c 1 t (ix2 k j) = V m c main_arg1 (ix2 (dep t k) (col (dev t) j)) := by
  blk_ext [iblk, col, dev, dep, idx t]

theorem emb_at (t : Fin cfg0.N) (i j : Fin 512) : (win0_2.blk t).view.emb (ix3 0 i j) = ix3 (dev t) i j := by
  have e0 : (win0_2.blk t).view.emb (ix3 0 i j) 0 = dev t := Fin.ext (by blk_simp [idx t]; simp only [dev]; rfl)
  have e1 : (win0_2.blk t).view.emb (ix3 0 i j) 1 = i := Fin.ext (by blk_simp [idx t])
  have e2 : (win0_2.blk t).view.emb (ix3 0 i j) 2 = j := Fin.ext (by blk_simp [idx t])
  funext k; fin_cases k
  exacts [e0, e1, e2]

/-- The summed products of an entry of the result. -/
def term (p : Fin 512) (q : Fin 4096) (k : Fin 4096) : EReal :=
  have a : Vec Ideal S4096x512 .bf16 := V m c main_arg0
  have b : Vec Ideal S4096x4096 .bf16 := V m c main_arg1
  a (ix2 k p) * b (ix2 k q)

/-- A point's tile of the product. -/
theorem tile_at (t : Fin cfg0.N) (i j : Fin 512) :
    k0_pay1 (F := Ideal) (iblk m c 0 t) (iblk m c 1 t) (ix2 i j) = ∑ k, term m c i (col (dev t) j) (dep t k) := by
  pointwise [k0_pay1]
  simp only [blk0_at, blk1_at, term]

theorem pay2_at (x y : Vec Ideal S2048x512 .bf16) (i j : Fin 512) :
    k0_pay2 (F := Ideal) x y (ix2 i j) = k0_pay1 (F := Ideal) x y (ix2 i j) := by
  pointwise [k0_pay2]

theorem pay4_at (x y : Vec Ideal S2048x512 .bf16) (z : Vec Ideal S512x512 .f32) (i j : Fin 512) :
    k0_pay4 (F := Ideal) x y z (ix3 0 i j) = z (ix2 i j) + k0_pay1 (F := Ideal) x y (ix2 i j) := by
  pointwise [k0_pay4]

/-- A block's first tile is left in the scratch. -/
theorem left (t : Fin cfg0.N) (h0 : t.val % 2 = 0) (i j : Fin 512) :
    (outsAt0 m c t.val t.isLt).2 (ix2 i j) = part (term m c i (col (dev t) j)) 2048 := by
  rw [outsAt0_A m c t h0 (by omega)]; frame_out
  rw [pay2_at, tile_at]
  exact part_first _ _ _ (by omega) fun k => congrArg _ (Fin.ext (by simp only [dep]; omega))

/-- At a block's second tile the block of the result is the whole sum. -/
theorem last (t : Fin cfg0.N) (h2 : t.val % 2 = 1) (i j : Fin 512) :
    (outsAt0 m c t.val t.isLt).1 (ix3 0 i j) = ∑ k, term m c i (col (dev t) j) k := by
  rw [outsAt0_B m c t (by omega) h2]; frame_out
  simp only [read_unread_whole]
  rw [pay4_at, tile_at]
  have hp := left m c ⟨t.val - 1, by omega⟩ (by dsimp only; omega) i j
  have hd : dev ⟨t.val - 1, by omega⟩ = dev t := Fin.ext (by simp only [dev]; omega)
  rw [hd] at hp
  refine (congrArg (· + _) hp).trans ?_
  exact part_last _ _ _ _ (by omega) fun k => congrArg _ (Fin.ext (by simp only [dep]; omega))

/-- The reference at an index. -/
theorem ref_at (x0 : (⟨S4096x512, .bf16⟩ : BufTy).Contents (Elt Ideal)) (x1 : (⟨S4096x4096, .bf16⟩ : BufTy).Contents (Elt Ideal))
    (d : Fin 8) (p q : Fin 512) :
    Cert.KvDwReferenceIdeal.Read.val_main_v10 (F := Ideal) x0 x1 (ix3 d p q) = ∑ k : Fin 4096, x0 (ix2 k p) * x1 (ix2 k (col d q)) := by
  pointwise [Cert.KvDwReferenceIdeal.Read.val_main_v10, Cert.KvDwReferenceIdeal.Read.val_main_v9, Cert.KvDwReferenceIdeal.Read.val_main_v8,
    Cert.KvDwReferenceIdeal.Read.val_main_v7, Cert.KvDwReferenceIdeal.Read.val_main_v6, Cert.KvDwReferenceIdeal.Read.val_main_v5, Cert.KvDwReferenceIdeal.Read.val_main_v1]
  exact Finset.sum_congr rfl fun k _ => mul_comm _ _

/-- The kernel's result is the reference's. -/
theorem same : (dats m 0 c).arrAt 2 cfg0.N =
    Cert.KvDwReferenceIdeal.Read.val_main_v10 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨z, i, j, rfl⟩ : ∃ z i j, y = ix3 z i j := ⟨y 0, y 1, y 2, by funext k; fin_cases k <;> rfl⟩
  obtain rfl : z = 0 := Subsingleton.elim _ _
  refine Eq.trans ?_ (congrArg _ (emb_at t i j)).symm
  rw [ref_at]
  refine (last m c t ((flush0_2 t).mp hf) i j).trans ?_
  simp only [term, V_main_arg0, V_main_arg1]

end Cert.KvDwValue

end
-- ==== Proof.ClaimsInner.lean ====
/- The claims about the gradients of the products inside the mixers: both output projections, the expansions of the latents. -/
module

public import proofs.«01_k».proof.Defs
public import proofs.«01_k».proof.Proof.Gen.RetDx.Frame
public import proofs.«01_k».proof.Proof.Gen.RetDxIdeal.Frame
public import proofs.«01_k».proof.Proof.Gen.RetDxReferenceIdeal.Run
public import proofs.«01_k».proof.Proof.RetDx
public import proofs.«01_k».proof.Proof.Gen.RetDw.Frame
public import proofs.«01_k».proof.Proof.Gen.RetDwIdeal.Frame
public import proofs.«01_k».proof.Proof.Gen.RetDwReferenceIdeal.Run
public import proofs.«01_k».proof.Proof.RetDw
public import proofs.«01_k».proof.Proof.Gen.MlaDx.Frame
public import proofs.«01_k».proof.Proof.Gen.MlaDxIdeal.Frame
public import proofs.«01_k».proof.Proof.Gen.MlaDxReferenceIdeal.Run
public import proofs.«01_k».proof.Proof.MlaDx
public import proofs.«01_k».proof.Proof.Gen.MlaDw.Frame
public import proofs.«01_k».proof.Proof.Gen.MlaDwIdeal.Frame
public import proofs.«01_k».proof.Proof.Gen.MlaDwReferenceIdeal.Run
public import proofs.«01_k».proof.Proof.MlaDw
public import proofs.«01_k».proof.Proof.Gen.QDx.Frame
public import proofs.«01_k».proof.Proof.Gen.QDxIdeal.Frame
public import proofs.«01_k».proof.Proof.Gen.QDxReferenceIdeal.Run
public import proofs.«01_k».proof.Proof.QDx
public import proofs.«01_k».proof.Proof.Gen.QDw.Frame
public import proofs.«01_k».proof.Proof.Gen.QDwIdeal.Frame
public import proofs.«01_k».proof.Proof.Gen.QDwReferenceIdeal.Run
public import proofs.«01_k».proof.Proof.QDw
public import proofs.«01_k».proof.Proof.Gen.KvDx.Frame
public import proofs.«01_k».proof.Proof.Gen.KvDxIdeal.Frame
public import proofs.«01_k».proof.Proof.Gen.KvDxReferenceIdeal.Run
public import proofs.«01_k».proof.Proof.KvDx
public import proofs.«01_k».proof.Proof.Gen.KvDw.Frame
public import proofs.«01_k».proof.Proof.Gen.KvDwIdeal.Frame
public import proofs.«01_k».proof.Proof.Gen.KvDwReferenceIdeal.Run
public import proofs.«01_k».proof.Proof.KvDw

@[expose] public section

noncomputable section

namespace Cert.Proof

open Idealize.ShloMosaic Idealize.SL.Sem

/-! ### `RetDx` -/

/-- The kernel as printed, on bit patterns. -/
theorem frame_RetDx : Cert.quiescent_RetDx := fun m ρ _ => Cert.RetDx.Gen.frame m ρ

/-- The same program over the extended reals. -/
theorem frame_RetDxIdeal : Cert.quiescent_RetDxIdeal := fun m ρ _ => Cert.RetDxIdeal.Gen.frame m ρ

/-- The reference over the extended reals. -/
theorem frame_RetDxReference : Cert.quiescent_RetDxReferenceIdeal := fun m ρ _ =>
  (θ_run Cert.RetDxReferenceIdeal.defs _ _).mono (fun r h => ⟨fun c => (h c).2, Idealize.ShloMosaic.sem_eq_zero_of_no_sems (by decide) r.2⟩)
    (Cert.RetDxReferenceIdeal.Value.run (F := Ideal) m ρ)

/-- From the same arguments, the kernel's results are the reference's. -/
theorem algebraic_RetDx : Cert.algebraic_RetDxIdeal_RetDxReferenceIdeal := fun m ρ m' ρ' _ hag => by
  refine ⟨_, Cert.RetDxIdeal.Value.run_blocks m ρ, ?_⟩
  refine (θ_run Cert.RetDxReferenceIdeal.defs _ _).mono (fun _ h c => ⟨(h c).1.trans ?_, (h c).2⟩)
    (Cert.RetDxReferenceIdeal.Value.run (F := Ideal) m' ρ')
  · refine (Cert.RetDxReferenceIdeal.Read.val_main_v4_eq _ _).trans (Eq.trans ?_ (Cert.RetDxValue.same m c).symm)
    obtain ⟨h0, h1⟩ := hag c
    rw [← h0, ← h1]

/-! ### `RetDw` -/

/-- The kernel as printed, on bit patterns. -/
theorem frame_RetDw : Cert.quiescent_RetDw := fun m ρ _ => Cert.RetDw.Gen.frame m ρ

/-- The same program over the extended reals. -/
theorem frame_RetDwIdeal : Cert.quiescent_RetDwIdeal := fun m ρ _ => Cert.RetDwIdeal.Gen.frame m ρ

/-- The reference over the extended reals. -/
theorem frame_RetDwReference : Cert.quiescent_RetDwReferenceIdeal := fun m ρ _ =>
  (θ_run Cert.RetDwReferenceIdeal.defs _ _).mono (fun r h => ⟨fun c => (h c).2, Idealize.ShloMosaic.sem_eq_zero_of_no_sems (by decide) r.2⟩)
    (Cert.RetDwReferenceIdeal.Value.run (F := Ideal) m ρ)

/-- From the same arguments, the kernel's results are the reference's. -/
theorem algebraic_RetDw : Cert.algebraic_RetDwIdeal_RetDwReferenceIdeal := fun m ρ m' ρ' _ hag => by
  refine ⟨_, Cert.RetDwIdeal.Value.run_blocks m ρ, ?_⟩
  refine (θ_run Cert.RetDwReferenceIdeal.defs _ _).mono (fun _ h c => ⟨(h c).1.trans ?_, (h c).2⟩)
    (Cert.RetDwReferenceIdeal.Value.run (F := Ideal) m' ρ')
  · refine (Cert.RetDwReferenceIdeal.Read.val_main_v6_eq _ _).trans (Eq.trans ?_ (Cert.RetDwValue.same m c).symm)
    obtain ⟨h0, h1⟩ := hag c
    rw [← h0, ← h1]

/-! ### `MlaDx` -/

/-- The kernel as printed, on bit patterns. -/
theorem frame_MlaDx : Cert.quiescent_MlaDx := fun m ρ _ => Cert.MlaDx.Gen.frame m ρ

/-- The same program over the extended reals. -/
theorem frame_MlaDxIdeal : Cert.quiescent_MlaDxIdeal := fun m ρ _ => Cert.MlaDxIdeal.Gen.frame m ρ

/-- The reference over the extended reals. -/
theorem frame_MlaDxReference : Cert.quiescent_MlaDxReferenceIdeal := fun m ρ _ =>
  (θ_run Cert.MlaDxReferenceIdeal.defs _ _).mono (fun r h => ⟨fun c => (h c).2, Idealize.ShloMosaic.sem_eq_zero_of_no_sems (by decide) r.2⟩)
    (Cert.MlaDxReferenceIdeal.Value.run (F := Ideal) m ρ)

/-- From the same arguments, the kernel's results are the reference's. -/
theorem algebraic_MlaDx : Cert.algebraic_MlaDxIdeal_MlaDxReferenceIdeal := fun m ρ m' ρ' _ hag => by
  refine ⟨_, Cert.MlaDxIdeal.Value.run_blocks m ρ, ?_⟩
  refine (θ_run Cert.MlaDxReferenceIdeal.defs _ _).mono (fun _ h c => ⟨(h c).1.trans ?_, (h c).2⟩)
    (Cert.MlaDxReferenceIdeal.Value.run (F := Ideal) m' ρ')
  · refine (Cert.MlaDxReferenceIdeal.Read.val_main_v4_eq _ _).trans (Eq.trans ?_ (Cert.MlaDxValue.same m c).symm)
    obtain ⟨h0, h1⟩ := hag c
    rw [← h0, ← h1]

/-! ### `MlaDw` -/

/-- The kernel as printed, on bit patterns. -/
theorem frame_MlaDw : Cert.quiescent_MlaDw := fun m ρ _ => Cert.MlaDw.Gen.frame m ρ

/-- The same program over the extended reals. -/
theorem frame_MlaDwIdeal : Cert.quiescent_MlaDwIdeal := fun m ρ _ => Cert.MlaDwIdeal.Gen.frame m ρ

/-- The reference over the extended reals. -/
theorem frame_MlaDwReference : Cert.quiescent_MlaDwReferenceIdeal := fun m ρ _ =>
  (θ_run Cert.MlaDwReferenceIdeal.defs _ _).mono (fun r h => ⟨fun c => (h c).2, Idealize.ShloMosaic.sem_eq_zero_of_no_sems (by decide) r.2⟩)
    (Cert.MlaDwReferenceIdeal.Value.run (F := Ideal) m ρ)

/-- From the same arguments, the kernel's results are the reference's. -/
theorem algebraic_MlaDw : Cert.algebraic_MlaDwIdeal_MlaDwReferenceIdeal := fun m ρ m' ρ' _ hag => by
  refine ⟨_, Cert.MlaDwIdeal.Value.run_blocks m ρ, ?_⟩
  refine (θ_run Cert.MlaDwReferenceIdeal.defs _ _).mono (fun _ h c => ⟨(h c).1.trans ?_, (h c).2⟩)
    (Cert.MlaDwReferenceIdeal.Value.run (F := Ideal) m' ρ')
  · refine (Cert.MlaDwReferenceIdeal.Read.val_main_v6_eq _ _).trans (Eq.trans ?_ (Cert.MlaDwValue.same m c).symm)
    obtain ⟨h0, h1⟩ := hag c
    rw [← h0, ← h1]

/-! ### `QDx` -/

/-- The kernel as printed, on bit patterns. -/
theorem frame_QDx : Cert.quiescent_QDx := fun m ρ _ => Cert.QDx.Gen.frame m ρ

/-- The same program over the extended reals. -/
theorem frame_QDxIdeal : Cert.quiescent_QDxIdeal := fun m ρ _ => Cert.QDxIdeal.Gen.frame m ρ

/-- The reference over the extended reals. -/
theorem frame_QDxReference : Cert.quiescent_QDxReferenceIdeal := fun m ρ _ =>
  (θ_run Cert.QDxReferenceIdeal.defs _ _).mono (fun r h => ⟨fun c => (h c).2, Idealize.ShloMosaic.sem_eq_zero_of_no_sems (by decide) r.2⟩)
    (Cert.QDxReferenceIdeal.Value.run (F := Ideal) m ρ)

/-- From the same arguments, the kernel's results are the reference's. -/
theorem algebraic_QDx : Cert.algebraic_QDxIdeal_QDxReferenceIdeal := fun m ρ m' ρ' _ hag => by
  refine ⟨_, Cert.QDxIdeal.Value.run_blocks m ρ, ?_⟩
  refine (θ_run Cert.QDxReferenceIdeal.defs _ _).mono (fun _ h c => ⟨(h c).1.trans ?_, (h c).2⟩)
    (Cert.QDxReferenceIdeal.Value.run (F := Ideal) m' ρ')
  · refine (Cert.QDxReferenceIdeal.Read.val_main_v4_eq _ _).trans (Eq.trans ?_ (Cert.QDxValue.same m c).symm)
    obtain ⟨h0, h1⟩ := hag c
    rw [← h0, ← h1]

/-! ### `QDw` -/

/-- The kernel as printed, on bit patterns. -/
theorem frame_QDw : Cert.quiescent_QDw := fun m ρ _ => Cert.QDw.Gen.frame m ρ

/-- The same program over the extended reals. -/
theorem frame_QDwIdeal : Cert.quiescent_QDwIdeal := fun m ρ _ => Cert.QDwIdeal.Gen.frame m ρ

/-- The reference over the extended reals. -/
theorem frame_QDwReference : Cert.quiescent_QDwReferenceIdeal := fun m ρ _ =>
  (θ_run Cert.QDwReferenceIdeal.defs _ _).mono (fun r h => ⟨fun c => (h c).2, Idealize.ShloMosaic.sem_eq_zero_of_no_sems (by decide) r.2⟩)
    (Cert.QDwReferenceIdeal.Value.run (F := Ideal) m ρ)

/-- From the same arguments, the kernel's results are the reference's. -/
theorem algebraic_QDw : Cert.algebraic_QDwIdeal_QDwReferenceIdeal := fun m ρ m' ρ' _ hag => by
  refine ⟨_, Cert.QDwIdeal.Value.run_blocks m ρ, ?_⟩
  refine (θ_run Cert.QDwReferenceIdeal.defs _ _).mono (fun _ h c => ⟨(h c).1.trans ?_, (h c).2⟩)
    (Cert.QDwReferenceIdeal.Value.run (F := Ideal) m' ρ')
  · refine (Cert.QDwReferenceIdeal.Read.val_main_v6_eq _ _).trans (Eq.trans ?_ (Cert.QDwValue.same m c).symm)
    obtain ⟨h0, h1⟩ := hag c
    rw [← h0, ← h1]

/-! ### `KvDx` -/

/-- The kernel as printed, on bit patterns. -/
theorem frame_KvDx : Cert.quiescent_KvDx := fun m ρ _ => Cert.KvDx.Gen.frame m ρ

/-- The same program over the extended reals. -/
theorem frame_KvDxIdeal : Cert.quiescent_KvDxIdeal := fun m ρ _ => Cert.KvDxIdeal.Gen.frame m ρ

/-- The reference over the extended reals. -/
theorem frame_KvDxReference : Cert.quiescent_KvDxReferenceIdeal := fun m ρ _ =>
  (θ_run Cert.KvDxReferenceIdeal.defs _ _).mono (fun r h => ⟨fun c => (h c).2, Idealize.ShloMosaic.sem_eq_zero_of_no_sems (by decide) r.2⟩)
    (Cert.KvDxReferenceIdeal.Value.run (F := Ideal) m ρ)

/-- From the same arguments, the kernel's results are the reference's. -/
theorem algebraic_KvDx : Cert.algebraic_KvDxIdeal_KvDxReferenceIdeal := fun m ρ m' ρ' _ hag => by
  refine ⟨_, Cert.KvDxIdeal.Value.run_blocks m ρ, ?_⟩
  refine (θ_run Cert.KvDxReferenceIdeal.defs _ _).mono (fun _ h c => ⟨(h c).1.trans ?_, (h c).2⟩)
    (Cert.KvDxReferenceIdeal.Value.run (F := Ideal) m' ρ')
  · refine (Cert.KvDxReferenceIdeal.Read.val_main_v6_eq _ _).trans (Eq.trans ?_ (Cert.KvDxValue.same m c).symm)
    obtain ⟨h0, h1⟩ := hag c
    rw [← h0, ← h1]

/-! ### `KvDw` -/

/-- The kernel as printed, on bit patterns. -/
theorem frame_KvDw : Cert.quiescent_KvDw := fun m ρ _ => Cert.KvDw.Gen.frame m ρ

/-- The same program over the extended reals. -/
theorem frame_KvDwIdeal : Cert.quiescent_KvDwIdeal := fun m ρ _ => Cert.KvDwIdeal.Gen.frame m ρ

/-- The reference over the extended reals. -/
theorem frame_KvDwReference : Cert.quiescent_KvDwReferenceIdeal := fun m ρ _ =>
  (θ_run Cert.KvDwReferenceIdeal.defs _ _).mono (fun r h => ⟨fun c => (h c).2, Idealize.ShloMosaic.sem_eq_zero_of_no_sems (by decide) r.2⟩)
    (Cert.KvDwReferenceIdeal.Value.run (F := Ideal) m ρ)

/-- From the same arguments, the kernel's results are the reference's. -/
theorem algebraic_KvDw : Cert.algebraic_KvDwIdeal_KvDwReferenceIdeal := fun m ρ m' ρ' _ hag => by
  refine ⟨_, Cert.KvDwIdeal.Value.run_blocks m ρ, ?_⟩
  refine (θ_run Cert.KvDwReferenceIdeal.defs _ _).mono (fun _ h c => ⟨(h c).1.trans ?_, (h c).2⟩)
    (Cert.KvDwReferenceIdeal.Value.run (F := Ideal) m' ρ')
  · refine (Cert.KvDwReferenceIdeal.Read.val_main_v10_eq _ _).trans (Eq.trans ?_ (Cert.KvDwValue.same m c).symm)
    obtain ⟨h0, h1⟩ := hag c
    rw [← h0, ← h1]

end Cert.Proof

end
-- ==== Proof.In.lean ====
/- The input projection `u wᵀ`, a tiled product. -/
module

public import proofs.«01_k».proof.Proof.Gen.InIdeal.Value
public import proofs.«01_k».proof.Proof.Gen.InReferenceIdeal.Read
public import proofs.«01_k».proof.Proof.Tiles
public import Idealize.ShloMosaic.Lib.Pipeline.ReadBack

@[expose] public section

set_option maxRecDepth 16384

noncomputable section

namespace Cert.InValue

open Idealize.ShloMosaic Idealize.ShloMosaic.TcCoe Cert.InIdeal Cert.InIdeal.Gen Cert.Tiles

/-- The block indices of the windows at a grid point. -/
theorem idx : ∀ t : Fin cfg0.N, win0_0.index t = ![t.val / 9, 0] ∧ win0_1.index t = ![t.val % 9, 0] ∧ win0_2.index t = ![t.val / 9, t.val % 9] :=
  (by decide +kernel : ∀ t : Fin grid0.N, _)

/-- The row of the result that row `i` of a point's block is. -/
def row (t : Fin cfg0.N) (i : Fin 1024) : Fin 4096 := ⟨t.val / 9 * 1024 + i.val, by have ht := lt_of_lt_of_eq t.isLt N_0; omega⟩

/-- The column of the result that column `j` of a point's block is. -/
def col (t : Fin cfg0.N) (j : Fin 1280) : Fin 11520 := ⟨t.val % 9 * 1280 + j.val, by have ht := lt_of_lt_of_eq t.isLt N_0; omega⟩

variable (m : (ℓ : Loc nD τ sig) → Buf (Elt Ideal) ℓ) (c : Dev nD)

theorem blk0_at (t : Fin cfg0.N) (i : Fin 1024) (k : Fin 2048) : iblk m c 0 t (ix2 i k) = V m c main_arg0 (ix2 (row t i) k) := by
  blk_ext [iblk, row, idx t]

theorem blk1_at (t : Fin cfg0.N) (j : Fin 1280) (k : Fin 2048) : iblk m c 1 t (ix2 j k) = V m c main_arg1 (ix2 (col t j) k) := by
  blk_ext [iblk, col, idx t]

theorem emb_at (t : Fin cfg0.N) (i : Fin 1024) (j : Fin 1280) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S4096x2048, .bf16⟩ : BufTy).Contents (Elt Ideal)) (x1 : (⟨S11520x2048, .bf16⟩ : BufTy).Contents (Elt Ideal)) (p : Fin 4096) (q : Fin 11520) :
    Cert.InReferenceIdeal.Read.val_main_v3 (F := Ideal) x0 x1 (ix2 p q) = ∑ k : Fin 2048, x0 (ix2 p k) * x1 (ix2 q k) := by
  pointwise [Cert.InReferenceIdeal.Read.val_main_v3, Cert.InReferenceIdeal.Read.val_main_v2, Cert.InReferenceIdeal.Read.val_main_v1, Cert.InReferenceIdeal.Read.val_main_v0]

/-- The kernel's result is the reference's. -/
theorem same : (dats m 0 c).arrAt 2 cfg0.N =
    Cert.InReferenceIdeal.Read.val_main_v3 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.InValue

end
-- ==== Proof.Ret.lean ====
/- The retention's output product `ry w`, a tiled product. -/
module

public import proofs.«01_k».proof.Proof.Gen.RetIdeal.Value
public import proofs.«01_k».proof.Proof.Gen.RetReferenceIdeal.Read
public import proofs.«01_k».proof.Proof.Tiles
public import Idealize.ShloMosaic.Lib.Pipeline.ReadBack

@[expose] public section

set_option maxRecDepth 16384

noncomputable section

namespace Cert.RetValue

open Idealize.ShloMosaic Idealize.ShloMosaic.TcCoe Cert.RetIdeal Cert.RetIdeal.Gen Cert.Tiles

/-- The block indices of the windows at a grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The row of the result that row `i` of a point's block is. -/
def row (t : Fin cfg0.N) (i : Fin 1024) : Fin 4096 := ⟨t.val / 2 * 1024 + i.val, by have ht := lt_of_lt_of_eq t.isLt N_0; omega⟩

/-- The column of the result that column `j` of a point's block is. -/
def col (t : Fin cfg0.N) (j : Fin 1024) : Fin 2048 := ⟨t.val % 2 * 1024 + j.val, by have ht := lt_of_lt_of_eq t.isLt N_0; omega⟩

variable (m : (ℓ : Loc nD τ sig) → Buf (Elt Ideal) ℓ) (c : Dev nD)

theorem blk0_at (t : Fin cfg0.N) (i : Fin 1024) (k : Fin 2048) : iblk m c 0 t (ix2 i k) = V m c main_arg0 (ix2 (row t i) k) := by
  blk_ext [iblk, row, idx t]

theorem blk1_at (t : Fin cfg0.N) (k : Fin 2048) (j : Fin 1024) : iblk m c 1 t (ix2 k j) = V m c main_arg1 (ix2 k (col t j)) := by
  blk_ext [iblk, col, idx t]

theorem emb_at (t : Fin cfg0.N) (i : Fin 1024) (j : Fin 1024) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The reference at an index. -/
theorem ref_at (x0 : (⟨S4096x2048, .bf16⟩ : BufTy).Contents (Elt Ideal)) (x1 : (⟨S2048x2048, .bf16⟩ : BufTy).Contents (Elt Ideal)) (p : Fin 4096) (q : Fin 2048) :
    Cert.RetReferenceIdeal.Read.val_main_v2 (F := Ideal) x0 x1 (ix2 p q) = ∑ k : Fin 2048, x0 (ix2 p k) * x1 (ix2 k q) := by
  pointwise [Cert.RetReferenceIdeal.Read.val_main_v2, Cert.RetReferenceIdeal.Read.val_main_v1, Cert.RetReferenceIdeal.Read.val_main_v0]

/-- The kernel's result is the reference's. -/
theorem same : (dats m 0 c).arrAt 2 cfg0.N =
    Cert.RetReferenceIdeal.Read.val_main_v2 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  frame_out
  pointwise [k0_pay1]
  simp only [blk0_at, blk1_at, V_main_arg0, V_main_arg1]

end Cert.RetValue

end
-- ==== Proof.Mla.lean ====
/- The latent attention's output projection, and its sum with the retention, both gated, in tiles. -/
module

public import proofs.«01_k».proof.Proof.Gen.MlaIdeal.Value
public import proofs.«01_k».proof.Proof.Gen.MlaReferenceIdeal.Read
public import proofs.«01_k».proof.Proof.Tiles
public import Idealize.ShloMosaic.Lib.Pipeline.ReadBack

@[expose] public section

set_option maxRecDepth 16384

noncomputable section

namespace Cert.MlaValue

open Idealize.ShloMosaic Idealize.ShloMosaic.TcCoe Cert.MlaIdeal Cert.MlaIdeal.Gen Cert.Tiles

/-- The block indices of the windows at a grid point. -/
theorem idx : ∀ t : Fin cfg0.N, win0_0.index t = ![t.val / 2, 0] ∧ win0_1.index t = ![0, t.val % 2] ∧ win0_2.index t = ![t.val / 2, t.val % 2] ∧
    win0_3.index t = ![t.val / 2, t.val % 2 + 2] ∧ win0_4.index t = ![t.val / 2, t.val % 2] ∧ win0_5.index t = ![t.val / 2, t.val % 2] ∧
    win0_6.index t = ![t.val / 2, t.val % 2] :=
  (by decide +kernel : ∀ t : Fin grid0.N, _)

/-- The row of the result that row `i` of a point's block is. -/
def row (t : Fin cfg0.N) (i : Fin 512) : Fin 4096 := ⟨t.val / 2 * 512 + i.val, by have ht := lt_of_lt_of_eq t.isLt N_0; omega⟩

/-- The column of the result that column `j` of a point's block is. -/
def col (t : Fin cfg0.N) (j : Fin 1024) : Fin 2048 := ⟨t.val % 2 * 1024 + j.val, by omega⟩

/-- A column of the first gate in the projection. -/
def gateA (j : Fin 2048) : Fin 11520 := ⟨j.val, by omega⟩

/-- A column of the second gate in the projection. -/
def gateB (j : Fin 2048) : Fin 11520 := ⟨2048 + j.val, by omega⟩

variable (m : (ℓ : Loc nD τ sig) → Buf (Elt Ideal) ℓ) (c : Dev nD)

theorem blk0_at (t : Fin cfg0.N) (i : Fin 512) (k : Fin 2048) : iblk m c 0 t (ix2 i k) = V m c main_arg0 (ix2 (row t i) k) := by
  blk_ext [iblk, row, idx t]

theorem blk1_at (t : Fin cfg0.N) (k : Fin 2048) (j : Fin 1024) : iblk m c 1 t (ix2 k j) = V m c main_arg1 (ix2 k (col t j)) := by
  blk_ext [iblk, col, idx t]

theorem blk2_at (t : Fin cfg0.N) (i : Fin 512) (j : Fin 1024) : X0_2 m c t (ix2 i j) = V m c main_arg2 (ix2 (row t i) (gateA (col t j))) := by
  unfold X0_2 Pipeline.Window.fill
  rw [dif_pos (moved0_2 t _)]
  blk_ext [iblk, row, col, gateA, idx t]

theorem blk3_at (t : Fin cfg0.N) (i : Fin 512) (j : Fin 1024) : X0_3 m c t (ix2 i j) = V m c main_arg2 (ix2 (row t i) (gateB (col t j))) := by
  unfold X0_3 Pipeline.Window.fill
  rw [dif_pos (moved0_3 t _)]
  blk_ext [iblk, row, col, gateB, idx t]

theorem blk4_at (t : Fin cfg0.N) (i : Fin 512) (j : Fin 1024) : iblk m c 4 t (ix2 i j) = V m c main_arg3 (ix2 (row t i) (col t j)) := by
  blk_ext [iblk, row, col, idx t]

theorem emb5_at (t : Fin cfg0.N) (i : Fin 512) (j : Fin 1024) : (win0_5.blk t).view.emb (ix2 i j) = ix2 (row t i) (col t j) := by
  have e0 : (win0_5.blk t).view.emb (ix2 i j) 0 = row t i := Fin.ext (by blk_simp [idx t]; simp only [row])
  have e1 : (win0_5.blk t).view.emb (ix2 i j) 1 = col t j := Fin.ext (by blk_simp [idx t]; simp only [col])
  funext k; fin_cases k
  exacts [e0, e1]

theorem emb6_at (t : Fin cfg0.N) (i : Fin 512) (j : Fin 1024) : (win0_6.blk t).view.emb (ix2 i j) = ix2 (row t i) (col t j) := by
  have e0 : (win0_6.blk t).view.emb (ix2 i j) 0 = row t i := Fin.ext (by blk_simp [idx t]; simp only [row])
  have e1 : (win0_6.blk t).view.emb (ix2 i j) 1 = col t j := Fin.ext (by blk_simp [idx t]; simp only [col])
  funext k; fin_cases k
  exacts [e0, e1]

/-- The reference's product. -/
def prod (m : (ℓ : Loc nD τ sig) → Buf (Elt Ideal) ℓ) (c : Dev nD) : FVec Ideal S4096x2048 .f32 :=
  Cert.MlaReferenceIdeal.Read.val_main_v2 (F := Ideal) (m ((c : Thread nD τ).loc main_arg0)) (m ((c : Thread nD τ).loc main_arg1))

/-- A point's block of the product. -/
theorem pay1_at (t : Fin cfg0.N) (i : Fin 512) (j : Fin 1024) :
    k0_pay1 (F := Ideal) (iblk m c 0 t) (iblk m c 1 t) (ix2 i j) = prod m c (ix2 (row t i) (col t j)) := by
  pointwise [k0_pay1, prod, Cert.MlaReferenceIdeal.Read.val_main_v2, Cert.MlaReferenceIdeal.Read.val_main_v1, Cert.MlaReferenceIdeal.Read.val_main_v0]
  simp only [blk0_at, blk1_at, V_main_arg0, V_main_arg1]

/-- The kernel's product is the reference's. -/
theorem same5 : (dats m 0 c).arrAt 5 cfg0.N =
    Cert.MlaReferenceIdeal.Read.val_main_v2 (F := Ideal) (m ((c : Thread nD τ).loc main_arg0)) (m ((c : Thread nD τ).loc main_arg1)) := by
  refine (dats m 0 c).arrAt_eq_of_covers 5 _ (by decide +kernel) (fun t hf y => ?_)
  blk_simp
  rw [after0_5]
  obtain ⟨i, j, rfl⟩ : ∃ i j, y = ix2 i j := ⟨y 0, y 1, by funext k; fin_cases k <;> rfl⟩
  refine Eq.trans ?_ (congrArg _ (emb5_at t i j)).symm
  unfold outsAt0
  frame_out
  exact pay1_at m c t i j

theorem v3_at (x : (⟨S4096x11520, .f32⟩ : BufTy).Contents (Elt Ideal)) (p : Fin 4096) (q : Fin 2048) :
    Cert.MlaReferenceIdeal.Read.val_main_v3 (F := Ideal) x (ix2 p q) = x (ix2 p (gateA q)) := by
  rw [Cert.MlaReferenceIdeal.Read.val_main_v3_apply]
  refine congrArg x ?_
  funext a; fin_cases a <;> rfl

theorem v11_at (x : (⟨S4096x11520, .f32⟩ : BufTy).Contents (Elt Ideal)) (p : Fin 4096) (q : Fin 2048) :
    Cert.MlaReferenceIdeal.Read.val_main_v11 (F := Ideal) x (ix2 p q) = x (ix2 p (gateB q)) := by
  rw [Cert.MlaReferenceIdeal.Read.val_main_v11_apply]
  refine congrArg x ?_
  funext a; fin_cases a <;> rfl

/-- The kernel's gated sum is the reference's. -/
theorem same6 : (dats m 0 c).arrAt 6 cfg0.N =
    Cert.MlaReferenceIdeal.Read.val_main_v20 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) (fun t hf y => ?_)
  blk_simp
  rw [after0_6]
  obtain ⟨i, j, rfl⟩ : ∃ i j, y = ix2 i j := ⟨y 0, y 1, by funext k; fin_cases k <;> rfl⟩
  refine Eq.trans ?_ (congrArg _ (emb6_at t i j)).symm
  unfold outsAt0
  frame_out
  pointwise [k0_pay2, Cert.MlaReferenceIdeal.Read.val_main_v20, Cert.MlaReferenceIdeal.Read.val_main_v19, Cert.MlaReferenceIdeal.Read.val_main_v18,
    Cert.MlaReferenceIdeal.Read.val_main_v17, Cert.MlaReferenceIdeal.Read.val_main_v16, Cert.MlaReferenceIdeal.Read.val_main_v15,
    Cert.MlaReferenceIdeal.Read.val_main_v14, Cert.MlaReferenceIdeal.Read.val_main_v13, Cert.MlaReferenceIdeal.Read.val_main_v12,
    Cert.MlaReferenceIdeal.Read.val_main_v10, Cert.MlaReferenceIdeal.Read.val_main_v9,
    Cert.MlaReferenceIdeal.Read.val_main_v8, Cert.MlaReferenceIdeal.Read.val_main_v7, Cert.MlaReferenceIdeal.Read.val_main_v6,
    Cert.MlaReferenceIdeal.Read.val_main_v5, Cert.MlaReferenceIdeal.Read.val_main_v4,
    Cert.MlaReferenceIdeal.Read.val_main_cst, Cert.MlaReferenceIdeal.Read.val_main_cst_0, Cert.MlaReferenceIdeal.Read.val_main_cst_1,
    Cert.MlaReferenceIdeal.Read.val_main_cst_2]
  have neg : ∀ x : EReal, 0 - x = -x := zero_sub
  simp only [neg, v3_at, v11_at, pay1_at, blk2_at, blk3_at, blk4_at, V_main_arg2, V_main_arg3]
  rfl

end Cert.MlaValue

end
-- ==== Proof.Out.lean ====
/- The layer's output added to its input, and the sum's norm, in tiles. -/
module

public import proofs.«01_k».proof.Proof.Gen.OutIdeal.Value
public import proofs.«01_k».proof.Proof.Gen.OutReferenceIdeal.Read
public import proofs.«01_k».proof.Proof.Tiles
public import Idealize.ShloMosaic.Lib.Pipeline.ReadBack

@[expose] public section

set_option maxRecDepth 16384

noncomputable section

namespace Cert.OutValue

open Idealize.ShloMosaic Idealize.ShloMosaic.TcCoe Cert.OutIdeal Cert.OutIdeal.Gen Cert.Tiles

/-- The block indices of the windows at a grid point. -/
theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] :=
  (by decide +kernel : ∀ t : Fin grid0.N, _)

/-- The row of the result that row `i` of a point's block is. -/
def row (t : Fin cfg0.N) (i : Fin 512) : Fin 4096 := ⟨t.val * 512 + i.val, by have ht := lt_of_lt_of_eq t.isLt N_0; omega⟩

variable (m : (ℓ : Loc nD τ sig) → Buf (Elt Ideal) ℓ) (c : Dev nD)

theorem blk0_at (t : Fin cfg0.N) (i : Fin 512) (k : Fin 2048) : iblk m c 0 t (ix2 i k) = V m c main_arg0 (ix2 (row t i) k) := by
  blk_ext [iblk, row, idx t]

theorem blk1_at (t : Fin cfg0.N) (k j : Fin 2048) : iblk m c 1 t (ix2 k j) = V m c main_arg1 (ix2 k j) := by
  blk_ext [iblk, idx t]

theorem blk2_at (t : Fin cfg0.N) (i : Fin 512) (j : Fin 2048) : iblk m c 2 t (ix2 i j) = V m c main_arg2 (ix2 (row t i) j) := by
  blk_ext [iblk, row, idx t]

theorem blk3_at (t : Fin cfg0.N) (j : Fin 2048) : iblk m c 3 t (ix2 0 j) = V m c main_arg3 (ix2 0 j) := by
  blk_ext [iblk, idx t]

theorem emb4_at (t : Fin cfg0.N) (i : Fin 512) (j : Fin 2048) : (win0_4.blk t).view.emb (ix2 i j) = ix2 (row t i) j := by
  have e0 : (win0_4.blk t).view.emb (ix2 i j) 0 = row t i := Fin.ext (by blk_simp [idx t]; simp only [row])
  have e1 : (win0_4.blk t).view.emb (ix2 i j) 1 = j := Fin.ext (by blk_simp [idx t])
  funext k; fin_cases k
  exacts [e0, e1]

theorem emb5_at (t : Fin cfg0.N) (i : Fin 512) (j : Fin 2048) : (win0_5.blk t).view.emb (ix2 i j) = ix2 (row t i) j := by
  have e0 : (win0_5.blk t).view.emb (ix2 i j) 0 = row t i := Fin.ext (by blk_simp [idx t]; simp only [row])
  have e1 : (win0_5.blk t).view.emb (ix2 i j) 1 = j := Fin.ext (by blk_simp [idx t])
  funext k; fin_cases k
  exacts [e0, e1]

/-- The reference's sum. -/
def sum (m : (ℓ : Loc nD τ sig) → Buf (Elt Ideal) ℓ) (c : Dev nD) : FVec Ideal S4096x2048 .f32 :=
  Cert.OutReferenceIdeal.Read.val_main_v3 (F := Ideal) (m ((c : Thread nD τ).loc main_arg0)) (m ((c : Thread nD τ).loc main_arg1)) (m ((c : Thread nD τ).loc main_arg2))

/-- A point's block of the sum. -/
theorem pay1_at (t : Fin cfg0.N) (i : Fin 512) (j : Fin 2048) :
    k0_pay1 (F := Ideal) (iblk m c 0 t) (iblk m c 1 t) (iblk m c 2 t) (ix2 i j) = sum m c (ix2 (row t i) j) := by
  pointwise [k0_pay1, sum, Cert.OutReferenceIdeal.Read.val_main_v3, Cert.OutReferenceIdeal.Read.val_main_v2,
    Cert.OutReferenceIdeal.Read.val_main_v1, Cert.OutReferenceIdeal.Read.val_main_v0]
  simp only [blk0_at, blk1_at, blk2_at, V_main_arg0, V_main_arg1, V_main_arg2]

/-- The kernel's sum is the reference's. -/
theorem same4 : (dats m 0 c).arrAt 4 cfg0.N =
    Cert.OutReferenceIdeal.Read.val_main_v3 (F := Ideal) (m ((c : Thread nD τ).loc main_arg0)) (m ((c : Thread nD τ).loc main_arg1))
      (m ((c : Thread nD τ).loc main_arg2)) := by
  refine (dats m 0 c).arrAt_eq_of_covers 4 _ (by decide +kernel) (fun t hf y => ?_)
  blk_simp
  rw [after0_4]
  obtain ⟨i, j, rfl⟩ : ∃ i j, y = ix2 i j := ⟨y 0, y 1, by funext k; fin_cases k <;> rfl⟩
  refine Eq.trans ?_ (congrArg _ (emb4_at t i j)).symm
  frame_out
  exact pay1_at m c t i j

/-- The kernel's norm is the reference's. -/
theorem same5 : (dats m 0 c).arrAt 5 cfg0.N =
    Cert.OutReferenceIdeal.Read.val_main_v16 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) (fun t hf y => ?_)
  blk_simp
  rw [after0_5]
  obtain ⟨i, j, rfl⟩ : ∃ i j, y = ix2 i j := ⟨y 0, y 1, by funext k; fin_cases k <;> rfl⟩
  refine Eq.trans ?_ (congrArg _ (emb5_at t i j)).symm
  frame_out
  pointwise [k0_pay2, Cert.OutReferenceIdeal.Read.val_main_v16, Cert.OutReferenceIdeal.Read.val_main_v15, Cert.OutReferenceIdeal.Read.val_main_v14,
    Cert.OutReferenceIdeal.Read.val_main_v13, Cert.OutReferenceIdeal.Read.val_main_v12, Cert.OutReferenceIdeal.Read.val_main_v11,
    Cert.OutReferenceIdeal.Read.val_main_v10, Cert.OutReferenceIdeal.Read.val_main_v9, Cert.OutReferenceIdeal.Read.val_main_v8,
    Cert.OutReferenceIdeal.Read.val_main_v7, Cert.OutReferenceIdeal.Read.val_main_v6, Cert.OutReferenceIdeal.Read.val_main_v5,
    Cert.OutReferenceIdeal.Read.val_main_v4, Cert.OutReferenceIdeal.Read.val_main_cst, Cert.OutReferenceIdeal.Read.val_main_cst_0,
    Cert.OutReferenceIdeal.Read.val_main_cst_1]
  simp only [pay1_at, blk3_at, V_main_arg3]
  rfl

end Cert.OutValue

end
-- ==== Proof.Up.lean ====
/- The feed-forward layer's first product and its activation, the square of what is positive, in tiles. -/
module

public import proofs.«01_k».proof.Proof.Gen.UpIdeal.Value
public import proofs.«01_k».proof.Proof.Gen.UpReferenceIdeal.Read
public import proofs.«01_k».proof.Proof.Tiles
public import Idealize.ShloMosaic.Lib.Pipeline.ReadBack

@[expose] public section

set_option maxRecDepth 16384

noncomputable section

namespace Cert.UpValue

open Idealize.ShloMosaic Idealize.ShloMosaic.TcCoe Cert.UpIdeal Cert.UpIdeal.Gen Cert.Tiles

/-- The block indices of the windows at a grid point. -/
theorem idx : ∀ t : Fin cfg0.N, win0_0.index t = ![t.val / 8, 0] ∧ win0_1.index t = ![t.val % 8, 0, 0] ∧
    win0_2.index t = ![t.val / 8, t.val % 8] ∧ win0_3.index t = ![t.val / 8, t.val % 8] :=
  (by decide +kernel : ∀ t : Fin grid0.N, _)

/-- The row of the result that row `i` of a point's block is. -/
def row (t : Fin cfg0.N) (i : Fin 1024) : Fin 4096 := ⟨t.val / 8 * 1024 + i.val, by have ht := lt_of_lt_of_eq t.isLt N_0; omega⟩

/-- The device whose columns a point computes. -/
def dev (t : Fin cfg0.N) : Fin 8 := ⟨t.val % 8, by omega⟩

/-- Column `j` of device `d`. -/
def col (d : Fin 8) (j : Fin 1024) : Fin 8192 := ⟨d.val * 1024 + j.val, by omega⟩

variable (m : (ℓ : Loc nD τ sig) → Buf (Elt Ideal) ℓ) (c : Dev nD)

theorem blk0_at (t : Fin cfg0.N) (i : Fin 1024) (k : Fin 2048) : iblk m c 0 t (ix2 i k) = V m c main_arg0 (ix2 (row t i) k) := by
  blk_ext [iblk, row, idx t]

theorem blk1_at (t : Fin cfg0.N) (k : Fin 2048) (j : Fin 1024) : iblk m c 1 t (ix3 0 k j) = V m c main_arg1 (ix3 (dev t) k j) := by
  blk_ext [iblk, dev, idx t]

theorem emb2_at (t : Fin cfg0.N) (i j : Fin 1024) : (win0_2.blk t).view.emb (ix2 i j) = ix2 (row t i) (col (dev t) j) := by
  have e0 : (win0_2.blk t).view.emb (ix2 i j) 0 = row t i := Fin.ext (by blk_simp [idx t]; simp only [row])
  have e1 : (win0_2.blk t).view.emb (ix2 i j) 1 = col (dev t) j := Fin.ext (by blk_simp [idx t]; simp only [col, dev])
  funext k; fin_cases k
  exacts [e0, e1]

theorem emb3_at (t : Fin cfg0.N) (i j : Fin 1024) : (win0_3.blk t).view.emb (ix2 i j) = ix2 (row t i) (col (dev t) j) := by
  have e0 : (win0_3.blk t).view.emb (ix2 i j) 0 = row t i := Fin.ext (by blk_simp [idx t]; simp only [row])
  have e1 : (win0_3.blk t).view.emb (ix2 i j) 1 = col (dev t) j := Fin.ext (by blk_simp [idx t]; simp only [col, dev])
  funext k; fin_cases k
  exacts [e0, e1]

/-- The reference's product at an index. -/
theorem ref4_at (x0 : (⟨S4096x2048, .bf16⟩ : BufTy).Contents (Elt Ideal)) (x1 : (⟨S8x2048x1024, .bf16⟩ : BufTy).Contents (Elt Ideal))
    (p : Fin 4096) (d : Fin 8) (q : Fin 1024) :
    Cert.UpReferenceIdeal.Read.val_main_v4 (F := Ideal) x0 x1 (ix2 p (col d q)) = ∑ k : Fin 2048, x0 (ix2 p k) * x1 (ix3 d k q) := by
  have h3 : ∀ k : Fin 2048, Cert.UpReferenceIdeal.Read.val_main_v3 (F := Ideal) x1 (ix2 k (col d q)) = x1 (ix3 d k q) := fun k => by
    rw [Cert.UpReferenceIdeal.Read.val_main_v3_apply, Cert.UpReferenceIdeal.Read.val_main_v2_apply, Cert.UpReferenceIdeal.Read.val_main_v1_apply]
    refine congrArg x1 ?_
    funext a; fin_cases a <;> refine Fin.ext ?_ <;> simp only [Cert.UpReferenceIdeal.Read.idx_main_v2, Cert.UpReferenceIdeal.Read.idx_main_v3, col] <;> simp [ix3, ix2] <;> omega
  pointwise [Cert.UpReferenceIdeal.Read.val_main_v4, Cert.UpReferenceIdeal.Read.val_main_v0]
  exact Finset.sum_congr rfl fun k _ => congrArg _ (h3 k)

/-- The activation of a value. -/
theorem act_at (x0 : (⟨S4096x2048, .bf16⟩ : BufTy).Contents (Elt Ideal)) (x1 : (⟨S8x2048x1024, .bf16⟩ : BufTy).Contents (Elt Ideal))
    (p : Fin 4096) (q : Fin 8192) :
    Cert.UpReferenceIdeal.Read.val_main_v7 (F := Ideal) x0 x1 (ix2 p q) =
      max (Cert.UpReferenceIdeal.Read.val_main_v4 (F := Ideal) x0 x1 (ix2 p q)) 0 * max (Cert.UpReferenceIdeal.Read.val_main_v4 (F := Ideal) x0 x1 (ix2 p q)) 0 := by
  pointwise [Cert.UpReferenceIdeal.Read.val_main_v7, Cert.UpReferenceIdeal.Read.val_main_v6, Cert.UpReferenceIdeal.Read.val_main_v5,
    Cert.UpReferenceIdeal.Read.val_main_call0_v0, Cert.UpReferenceIdeal.Read.val_main_call0_cst]

/-- A point's block of the product. -/
theorem pay1_at (t : Fin cfg0.N) (i j : Fin 1024) :
    k0_pay1 (F := Ideal) (iblk m c 0 t) (iblk m c 1 t) (ix2 i j) =
      Cert.UpReferenceIdeal.Read.val_main_v4 (F := Ideal) (m ((c : Thread nD τ).loc main_arg0)) (m ((c : Thread nD τ).loc main_arg1)) (ix2 (row t i) (col (dev t) j)) := by
  rw [ref4_at]
  pointwise [k0_pay1]
  simp only [blk0_at, blk1_at, V_main_arg0, V_main_arg1]

/-- The kernel's product is the reference's. -/
theorem same2 : (dats m 0 c).arrAt 2 cfg0.N =
    Cert.UpReferenceIdeal.Read.val_main_v4 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb2_at t i j)).symm
  frame_out
  exact pay1_at m c t i j

/-- The kernel's activation is the reference's. -/
theorem same3 : (dats m 0 c).arrAt 3 cfg0.N =
    Cert.UpReferenceIdeal.Read.val_main_v7 (F := Ideal) (m ((c : Thread nD τ).loc main_arg0)) (m ((c : Thread nD τ).loc main_arg1)) := by
  refine (dats m 0 c).arrAt_eq_of_covers 3 _ (by decide +kernel) (fun t hf y => ?_)
  blk_simp
  rw [after0_3]
  obtain ⟨i, j, rfl⟩ : ∃ i j, y = ix2 i j := ⟨y 0, y 1, by funext k; fin_cases k <;> rfl⟩
  refine Eq.trans ?_ (congrArg _ (emb3_at t i j)).symm
  rw [act_at, ← pay1_at]
  frame_out
  pointwise [k0_pay2]

end Cert.UpValue

end
-- ==== Proof.Down.lean ====
/- The second product of the feed-forward layer: `act w`, accumulated over two tiles. -/
module

public import proofs.«01_k».proof.Proof.Gen.DownIdeal.Value
public import proofs.«01_k».proof.Proof.Gen.DownReferenceIdeal.Read
public import proofs.«01_k».proof.Proof.Tiles
public import Idealize.ShloMosaic.Lib.Pipeline.ReadBack

@[expose] public section

set_option maxRecDepth 16384

noncomputable section

namespace Cert.DownValue

open Idealize.ShloMosaic Idealize.ShloMosaic.TcCoe Cert.DownIdeal Cert.DownIdeal.Gen Cert.Tiles

/-- The block indices of the windows at a grid point. -/
theorem idx : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, _)

/-- The row of the result that row `i` of a point's block is. -/
def row (t : Fin cfg0.N) (i : Fin 1024) : Fin 4096 := ⟨t.val / 4 * 1024 + i.val, by have ht := lt_of_lt_of_eq t.isLt N_0; omega⟩

/-- The column of the result that column `j` of a point's block is. -/
def col (t : Fin cfg0.N) (j : Fin 1024) : Fin 2048 := ⟨t.val / 2 % 2 * 1024 + j.val, by have ht := lt_of_lt_of_eq t.isLt N_0; omega⟩

/-- The summed index that index `k` of a point's tile is. -/
def dep (t : Fin cfg0.N) (k : Fin 4096) : Fin 8192 := ⟨t.val % 2 * 4096 + k.val, by omega⟩

variable (m : (ℓ : Loc nD τ sig) → Buf (Elt Ideal) ℓ) (c : Dev nD)

theorem blk0_at (t : Fin cfg0.N) (i : Fin 1024) (k : Fin 4096) : iblk m c 0 t (ix2 i k) = V m c main_arg0 (ix2 (row t i) (dep t k)) := by
  blk_ext [iblk, row, dep, idx t]

theorem blk1_at (t : Fin cfg0.N) (k : Fin 4096) (j : Fin 1024) : iblk m c 1 t (ix2 k j) = V m c main_arg1 (ix2 (dep t k) (col t j)) := by
  blk_ext [iblk, col, dep, idx t]

theorem emb_at (t : Fin cfg0.N) (i : Fin 1024) (j : Fin 1024) : (win0_2.blk t).view.emb (ix2 i j) = ix2 (row t i) (col t j) := by
  have e0 : (win0_2.blk t).view.emb (ix2 i j) 0 = row t i := Fin.ext (by blk_simp [idx t]; simp only [row])
  have e1 : (win0_2.blk t).view.emb (ix2 i j) 1 = col t j := Fin.ext (by blk_simp [idx t]; simp only [col])
  funext k; fin_cases k
  exacts [e0, e1]

/-- The summed products of an entry of the result. -/
def term (p : Fin 4096) (q : Fin 2048) (k : Fin 8192) : EReal :=
  have a : Vec Ideal S4096x8192 .bf16 := V m c main_arg0
  have b : Vec Ideal S8192x2048 .bf16 := V m c main_arg1
  a (ix2 p k) * b (ix2 k q)

/-- A point's tile of the product. -/
theorem tile_at (t : Fin cfg0.N) (i : Fin 1024) (j : Fin 1024) :
    k0_pay1 (F := Ideal) (iblk m c 0 t) (iblk m c 1 t) (ix2 i j) = ∑ k, term m c (row t i) (col t j) (dep t k) := by
  pointwise [k0_pay1]
  simp only [blk0_at, blk1_at, term]

theorem pay2_at (x : Vec Ideal S1024x4096 .bf16) (y : Vec Ideal S4096x1024 .bf16) (i : Fin 1024) (j : Fin 1024) :
    k0_pay2 (F := Ideal) x y (ix2 i j) = k0_pay1 (F := Ideal) x y (ix2 i j) := by
  pointwise [k0_pay2]

theorem pay4_at (x : Vec Ideal S1024x4096 .bf16) (y : Vec Ideal S4096x1024 .bf16) (z : Vec Ideal S1024x1024 .f32) (i : Fin 1024) (j : Fin 1024) :
    k0_pay4 (F := Ideal) x y z (ix2 i j) = z (ix2 i j) + k0_pay1 (F := Ideal) x y (ix2 i j) := by
  pointwise [k0_pay4]

/-- A block's first tile is left in the scratch. -/
theorem left (t : Fin cfg0.N) (h0 : t.val % 2 = 0) (i : Fin 1024) (j : Fin 1024) :
    (outsAt0 m c t.val t.isLt).2 (ix2 i j) = part (term m c (row t i) (col t j)) 4096 := by
  rw [outsAt0_A m c t h0 (by omega)]; frame_out
  rw [pay2_at, tile_at]
  exact part_first _ _ _ (by omega) fun k => congrArg _ (Fin.ext (by simp only [dep]; omega))

/-- At a block's second tile the block of the result is the whole sum. -/
theorem last (t : Fin cfg0.N) (h2 : t.val % 2 = 1) (i : Fin 1024) (j : Fin 1024) :
    (outsAt0 m c t.val t.isLt).1 (ix2 i j) = ∑ k, term m c (row t i) (col t j) k := by
  rw [outsAt0_B m c t (by omega) h2]; frame_out
  simp only [read_unread_whole]
  rw [pay4_at, tile_at]
  have hp := left m c ⟨t.val - 1, by omega⟩ (by dsimp only; omega) i j
  have hr : row ⟨t.val - 1, by omega⟩ i = row t i := Fin.ext (by simp only [row]; omega)
  have hc : col ⟨t.val - 1, by omega⟩ j = col t j := Fin.ext (by simp only [col]; omega)
  rw [hr, hc] at hp
  refine (congrArg (· + _) hp).trans ?_
  exact part_last _ _ _ _ (by omega) fun k => congrArg _ (Fin.ext (by simp only [dep]; omega))

/-- The reference at an index. -/
theorem ref_at (x0 : (⟨S4096x8192, .bf16⟩ : BufTy).Contents (Elt Ideal)) (x1 : (⟨S8192x2048, .bf16⟩ : BufTy).Contents (Elt Ideal)) (p : Fin 4096) (q : Fin 2048) :
    Cert.DownReferenceIdeal.Read.val_main_v2 (F := Ideal) x0 x1 (ix2 p q) = ∑ k : Fin 8192, x0 (ix2 p k) * x1 (ix2 k q) := by
  pointwise [Cert.DownReferenceIdeal.Read.val_main_v2, Cert.DownReferenceIdeal.Read.val_main_v1, Cert.DownReferenceIdeal.Read.val_main_v0]

/-- The kernel's result is the reference's. -/
theorem same : (dats m 0 c).arrAt 2 cfg0.N =
    Cert.DownReferenceIdeal.Read.val_main_v2 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb_at t i j)).symm
  rw [ref_at]
  refine (last m c t ((flush0_2 t).mp hf) i j).trans ?_
  simp only [term, V_main_arg0, V_main_arg1]

end Cert.DownValue

end
-- ==== Proof.ClaimsForward.lean ====
/- The claims about the forward products. -/
module

public import proofs.«01_k».proof.Defs
public import proofs.«01_k».proof.Proof.Gen.In.Frame
public import proofs.«01_k».proof.Proof.Gen.InIdeal.Frame
public import proofs.«01_k».proof.Proof.Gen.InReferenceIdeal.Run
public import proofs.«01_k».proof.Proof.In
public import proofs.«01_k».proof.Proof.Gen.Ret.Frame
public import proofs.«01_k».proof.Proof.Gen.RetIdeal.Frame
public import proofs.«01_k».proof.Proof.Gen.RetReferenceIdeal.Run
public import proofs.«01_k».proof.Proof.Ret
public import proofs.«01_k».proof.Proof.Gen.Mla.Frame
public import proofs.«01_k».proof.Proof.Gen.MlaIdeal.Frame
public import proofs.«01_k».proof.Proof.Gen.MlaReferenceIdeal.Run
public import proofs.«01_k».proof.Proof.Mla
public import proofs.«01_k».proof.Proof.Gen.Out.Frame
public import proofs.«01_k».proof.Proof.Gen.OutIdeal.Frame
public import proofs.«01_k».proof.Proof.Gen.OutReferenceIdeal.Run
public import proofs.«01_k».proof.Proof.Out
public import proofs.«01_k».proof.Proof.Gen.Up.Frame
public import proofs.«01_k».proof.Proof.Gen.UpIdeal.Frame
public import proofs.«01_k».proof.Proof.Gen.UpReferenceIdeal.Run
public import proofs.«01_k».proof.Proof.Up
public import proofs.«01_k».proof.Proof.Gen.Down.Frame
public import proofs.«01_k».proof.Proof.Gen.DownIdeal.Frame
public import proofs.«01_k».proof.Proof.Gen.DownReferenceIdeal.Run
public import proofs.«01_k».proof.Proof.Down

@[expose] public section

noncomputable section

namespace Cert.Proof

open Idealize.ShloMosaic Idealize.SL.Sem

/-! ### `In` -/

/-- The kernel as printed, on bit patterns. -/
theorem frame_In : Cert.quiescent_In := fun m ρ _ => Cert.In.Gen.frame m ρ

/-- The same program over the extended reals. -/
theorem frame_InIdeal : Cert.quiescent_InIdeal := fun m ρ _ => Cert.InIdeal.Gen.frame m ρ

/-- The reference over the extended reals. -/
theorem frame_InReference : Cert.quiescent_InReferenceIdeal := fun m ρ _ =>
  (θ_run Cert.InReferenceIdeal.defs _ _).mono (fun r h => ⟨fun c => (h c).2, Idealize.ShloMosaic.sem_eq_zero_of_no_sems (by decide) r.2⟩)
    (Cert.InReferenceIdeal.Value.run (F := Ideal) m ρ)

/-- From the same arguments, the kernel's results are the reference's. -/
theorem algebraic_In : Cert.algebraic_InIdeal_InReferenceIdeal := fun m ρ m' ρ' _ hag => by
  refine ⟨_, Cert.InIdeal.Value.run_blocks m ρ, ?_⟩
  refine (θ_run Cert.InReferenceIdeal.defs _ _).mono (fun _ h c => ⟨(h c).1.trans ?_, (h c).2⟩)
    (Cert.InReferenceIdeal.Value.run (F := Ideal) m' ρ')
  · refine (Cert.InReferenceIdeal.Read.val_main_v3_eq _ _).trans (Eq.trans ?_ (Cert.InValue.same m c).symm)
    obtain ⟨h0, h1⟩ := hag c
    rw [← h0, ← h1]

/-! ### `Ret` -/

/-- The kernel as printed, on bit patterns. -/
theorem frame_Ret : Cert.quiescent_Ret := fun m ρ _ => Cert.Ret.Gen.frame m ρ

/-- The same program over the extended reals. -/
theorem frame_RetIdeal : Cert.quiescent_RetIdeal := fun m ρ _ => Cert.RetIdeal.Gen.frame m ρ

/-- The reference over the extended reals. -/
theorem frame_RetReference : Cert.quiescent_RetReferenceIdeal := fun m ρ _ =>
  (θ_run Cert.RetReferenceIdeal.defs _ _).mono (fun r h => ⟨fun c => (h c).2, Idealize.ShloMosaic.sem_eq_zero_of_no_sems (by decide) r.2⟩)
    (Cert.RetReferenceIdeal.Value.run (F := Ideal) m ρ)

/-- From the same arguments, the kernel's results are the reference's. -/
theorem algebraic_Ret : Cert.algebraic_RetIdeal_RetReferenceIdeal := fun m ρ m' ρ' _ hag => by
  refine ⟨_, Cert.RetIdeal.Value.run_blocks m ρ, ?_⟩
  refine (θ_run Cert.RetReferenceIdeal.defs _ _).mono (fun _ h c => ⟨(h c).1.trans ?_, (h c).2⟩)
    (Cert.RetReferenceIdeal.Value.run (F := Ideal) m' ρ')
  · refine (Cert.RetReferenceIdeal.Read.val_main_v2_eq _ _).trans (Eq.trans ?_ (Cert.RetValue.same m c).symm)
    obtain ⟨h0, h1⟩ := hag c
    rw [← h0, ← h1]

/-! ### `Mla` -/

/-- The kernel as printed, on bit patterns. -/
theorem frame_Mla : Cert.quiescent_Mla := fun m ρ _ => Cert.Mla.Gen.frame m ρ

/-- The same program over the extended reals. -/
theorem frame_MlaIdeal : Cert.quiescent_MlaIdeal := fun m ρ _ => Cert.MlaIdeal.Gen.frame m ρ

/-- The reference over the extended reals. -/
theorem frame_MlaReference : Cert.quiescent_MlaReferenceIdeal := fun m ρ _ =>
  (θ_run Cert.MlaReferenceIdeal.defs _ _).mono (fun r h => ⟨fun c => (h c).2.2, Idealize.ShloMosaic.sem_eq_zero_of_no_sems (by decide) r.2⟩)
    (Cert.MlaReferenceIdeal.Value.run (F := Ideal) m ρ)

/-- From the same arguments, the kernel's results are the reference's. -/
theorem algebraic_Mla : Cert.algebraic_MlaIdeal_MlaReferenceIdeal := fun m ρ m' ρ' _ hag => by
  refine ⟨_, _, Cert.MlaIdeal.Value.run_blocks m ρ, ?_⟩
  refine (θ_run Cert.MlaReferenceIdeal.defs _ _).mono (fun _ h c => ⟨(h c).1.trans ?_, (h c).2.1.trans ?_, (h c).2.2⟩)
    (Cert.MlaReferenceIdeal.Value.run (F := Ideal) m' ρ')
  · refine (Cert.MlaReferenceIdeal.Read.val_main_v2_eq _ _).trans (Eq.trans ?_ (Cert.MlaValue.same5 m c).symm)
    obtain ⟨h0, h1, h2, h3⟩ := hag c
    rw [← h0, ← h1]
  · refine (Cert.MlaReferenceIdeal.Read.val_main_v20_eq _ _ _ _).trans (Eq.trans ?_ (Cert.MlaValue.same6 m c).symm)
    obtain ⟨h0, h1, h2, h3⟩ := hag c
    rw [← h0, ← h1, ← h2, ← h3]

/-! ### `Out` -/

/-- The kernel as printed, on bit patterns. -/
theorem frame_Out : Cert.quiescent_Out := fun m ρ _ => Cert.Out.Gen.frame m ρ

/-- The same program over the extended reals. -/
theorem frame_OutIdeal : Cert.quiescent_OutIdeal := fun m ρ _ => Cert.OutIdeal.Gen.frame m ρ

/-- The reference over the extended reals. -/
theorem frame_OutReference : Cert.quiescent_OutReferenceIdeal := fun m ρ _ =>
  (θ_run Cert.OutReferenceIdeal.defs _ _).mono (fun r h => ⟨fun c => (h c).2.2, Idealize.ShloMosaic.sem_eq_zero_of_no_sems (by decide) r.2⟩)
    (Cert.OutReferenceIdeal.Value.run (F := Ideal) m ρ)

/-- From the same arguments, the kernel's results are the reference's. -/
theorem algebraic_Out : Cert.algebraic_OutIdeal_OutReferenceIdeal := fun m ρ m' ρ' _ hag => by
  refine ⟨_, _, Cert.OutIdeal.Value.run_blocks m ρ, ?_⟩
  refine (θ_run Cert.OutReferenceIdeal.defs _ _).mono (fun _ h c => ⟨(h c).1.trans ?_, (h c).2.1.trans ?_, (h c).2.2⟩)
    (Cert.OutReferenceIdeal.Value.run (F := Ideal) m' ρ')
  · refine (Cert.OutReferenceIdeal.Read.val_main_v3_eq _ _ _).trans (Eq.trans ?_ (Cert.OutValue.same4 m c).symm)
    obtain ⟨h0, h1, h2, h3⟩ := hag c
    rw [← h0, ← h1, ← h2]
  · refine (Cert.OutReferenceIdeal.Read.val_main_v16_eq _ _ _ _).trans (Eq.trans ?_ (Cert.OutValue.same5 m c).symm)
    obtain ⟨h0, h1, h2, h3⟩ := hag c
    rw [← h0, ← h1, ← h2, ← h3]

/-! ### `Up` -/

/-- The kernel as printed, on bit patterns. -/
theorem frame_Up : Cert.quiescent_Up := fun m ρ _ => Cert.Up.Gen.frame m ρ

/-- The same program over the extended reals. -/
theorem frame_UpIdeal : Cert.quiescent_UpIdeal := fun m ρ _ => Cert.UpIdeal.Gen.frame m ρ

/-- The reference over the extended reals. -/
theorem frame_UpReference : Cert.quiescent_UpReferenceIdeal := fun m ρ _ =>
  (θ_run Cert.UpReferenceIdeal.defs _ _).mono (fun r h => ⟨fun c => (h c).2.2, Idealize.ShloMosaic.sem_eq_zero_of_no_sems (by decide) r.2⟩)
    (Cert.UpReferenceIdeal.Value.run (F := Ideal) m ρ)

/-- From the same arguments, the kernel's results are the reference's. -/
theorem algebraic_Up : Cert.algebraic_UpIdeal_UpReferenceIdeal := fun m ρ m' ρ' _ hag => by
  refine ⟨_, _, Cert.UpIdeal.Value.run_blocks m ρ, ?_⟩
  refine (θ_run Cert.UpReferenceIdeal.defs _ _).mono (fun _ h c => ⟨(h c).1.trans ?_, (h c).2.1.trans ?_, (h c).2.2⟩)
    (Cert.UpReferenceIdeal.Value.run (F := Ideal) m' ρ')
  · refine (Cert.UpReferenceIdeal.Read.val_main_v4_eq _ _).trans (Eq.trans ?_ (Cert.UpValue.same2 m c).symm)
    obtain ⟨h0, h1⟩ := hag c
    rw [← h0, ← h1]
  · refine (Cert.UpReferenceIdeal.Read.val_main_v7_eq _ _).trans (Eq.trans ?_ (Cert.UpValue.same3 m c).symm)
    obtain ⟨h0, h1⟩ := hag c
    rw [← h0, ← h1]

/-! ### `Down` -/

/-- The kernel as printed, on bit patterns. -/
theorem frame_Down : Cert.quiescent_Down := fun m ρ _ => Cert.Down.Gen.frame m ρ

/-- The same program over the extended reals. -/
theorem frame_DownIdeal : Cert.quiescent_DownIdeal := fun m ρ _ => Cert.DownIdeal.Gen.frame m ρ

/-- The reference over the extended reals. -/
theorem frame_DownReference : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- From the same arguments, the kernel's results are the reference's. -/
theorem algebraic_Down : Cert.algebraic_DownIdeal_DownReferenceIdeal := fun m ρ m' ρ' _ hag => by
  refine ⟨_, Cert.DownIdeal.Value.run_blocks m ρ, ?_⟩
  refine (θ_run Cert.DownReferenceIdeal.defs _ _).mono (fun _ h c => ⟨(h c).1.trans ?_, (h c).2⟩)
    (Cert.DownReferenceIdeal.Value.run (F := Ideal) m' ρ')
  · refine (Cert.DownReferenceIdeal.Read.val_main_v2_eq _ _).trans (Eq.trans ?_ (Cert.DownValue.same m c).symm)
    obtain ⟨h0, h1⟩ := hag c
    rw [← h0, ← h1]

end Cert.Proof

end
-- ==== Proof.AdamIn.lean ====
/- The update of the input projection: its gradient summed, the moments, the step. -/
module

public import proofs.«01_k».proof.Proof.Gen.AdamIn.Frame
public import proofs.«01_k».proof.Proof.Gen.AdamInIdeal.Frame
public import proofs.«01_k».proof.Proof.Gen.AdamInReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamInBits

open Cert.AdamIn Cert.AdamIn.Gen

variable {F : FTy → Type} [FloatOps F] (m : (ℓ : Loc nD τ sig) → Buf (Elt F) ℓ)

/-- The chip's index the call is handed is zero. -/
theorem table : tbl m 0 = fun _ => 0#32 := by
  show V m 0 main_v3 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x472x512.size a ≤ S4x1416x2048.size a) i,
    .inr (Affine.block_words_dvd (of_decide_eq_true rfl) (by decide))⟩

end Cert.AdamInBits

namespace Cert.AdamInValue

open Cert.AdamInIdeal Cert.AdamInIdeal.Gen

section

variable {F : FTy → Type} [FloatOps F] (m : (ℓ : Loc nD τ sig) → Buf (Elt F) ℓ)

/-- The chip's index the call is handed is zero. -/
theorem table : tbl m 0 = fun _ => 0#32 := by
  show V m 0 main_v3 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x472x512.size a ≤ S4x1416x2048.size a) i,
    .inr (Affine.block_words_dvd (of_decide_eq_true rfl) (by decide))⟩

end

/-- The block index of a grid point. -/
theorem idx4 : ∀ t : Fin grid0.N, cc0_transform_4 (grid0.coords t) = ![0, t.val / 4, t.val % 4] := by decide +kernel

/-- Every block of the array is some grid point's. -/
theorem onto : ∀ β : (a : Fin 3) → Fin ((S1x1416x2048.size a + S1x472x512.size a - 1) / S1x472x512.size a),
    ∃ i : grid0.Coords, ∀ a, cc0_transform_4 i a = β a := by decide +kernel

/-- No axis of a block is empty. -/
theorem pos : ∀ a : Fin 3, 0 < S1x472x512.size a := by decide

/-- An index of a block by its coordinates. -/
theorem split (y : S1x472x512.Idx) : ∃ (k : Fin 1) (i : Fin 472) (j : Fin 512), y = ix3 k i j :=
  ⟨y 0, y 1, y 2, by funext k; fin_cases k <;> rfl⟩

/-- The row of the array that row `i` of a point's block is. -/
def row (t : Fin grid0.N) (i : Fin 472) : Fin 1416 := ⟨t.val / 4 * 472 + i.val, by have ht := lt_of_lt_of_eq t.isLt N_0; omega⟩

/-- The column of the array that column `j` of a point's block is. -/
def col (t : Fin grid0.N) (j : Fin 512) : Fin 2048 := ⟨t.val % 4 * 512 + j.val, by omega⟩

variable (m : (ℓ : Loc nD τ sig) → Buf (Elt Ideal) ℓ) (c : Dev nD)

/-- The windows' block indices at a grid point. -/
theorem idx (t : Fin grid0.N) : ((cfgM m (ok m)).win 0).index t = ![0, t.val / 4, t.val % 4] ∧ ((cfgM m (ok m)).win 1).index t = ![0, t.val / 4, t.val % 4] ∧
    ((cfgM m (ok m)).win 2).index t = ![0, t.val / 4, t.val % 4] ∧ ((cfgM m (ok m)).win 3).index t = ![0, t.val / 4, t.val % 4] ∧
    ((cfgM m (ok m)).win 4).index t = ![0, t.val / 4, t.val % 4] ∧ ((cfgM m (ok m)).win 5).index t = ![0, t.val / 4, t.val % 4] ∧
    ((cfgM m (ok m)).win 6).index t = ![0, t.val / 4, t.val % 4] ∧ ((cfgM m (ok m)).win 7).index t = ![0, t.val / 4, t.val % 4] ∧
    ((cfgM m (ok m)).win 8).index t = ![0, t.val / 4, t.val % 4] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 472) (j : Fin 512) : iblk m (ok m) c 0 t (ix3 k i j) = V m c main_v0 (ix3 k (row t i) (col t j)) := by
  blk_ext [iblk, row, col, idx m t]

/-- A block of the first moments, read from the array. -/
theorem blk1_at (t : Fin grid0.N) (k : Fin 1) (i : Fin 472) (j : Fin 512) : iblk m (ok m) c 1 t (ix3 k i j) = V m c main_v1 (ix3 k (row t i) (col t j)) := by
  blk_ext [iblk, row, col, idx m t]

/-- A block of the second moments, read from the array. -/
theorem blk2_at (t : Fin grid0.N) (k : Fin 1) (i : Fin 472) (j : Fin 512) : iblk m (ok m) c 2 t (ix3 k i j) = V m c main_v2 (ix3 k (row t i) (col t j)) := by
  blk_ext [iblk, row, col, idx m t]

/-- A block of the chip's own sums, read from the array. -/
theorem blk3_at (t : Fin grid0.N) (k : Fin 1) (i : Fin 472) (j : Fin 512) : iblk m (ok m) c 3 t (ix3 k i j) = V m c main_arg3 (ix3 0 (row t i) (col t j)) := by
  blk_ext [iblk, row, col, idx m t]

/-- A block of the sums received, read from the array. -/
theorem blk4_at (t : Fin grid0.N) (k : Fin 3) (i : Fin 472) (j : Fin 512) : iblk m (ok m) c 4 t (ix3 k i j) = V m c main_arg4 (ix3 k (row t i) (col t j)) := by
  blk_ext [iblk, row, col, idx m t]

/-- The weights the call is handed are the argument, its two axes exchanged. -/
theorem flip0 (k : Fin 1) (p : Fin 1416) (q : Fin 2048) : V m c main_v0 (ix3 k p q) = m ((c : Thread nD τ).loc main_arg0) (ix3 k q p) := by
  have e : V m c main_v0 = transpose S1x1416x2048 [0, 2, 1] (m ((c : Thread nD τ).loc main_arg0)) transposes_S1x2048x1416_S1x1416x2048_0_2_1 := by
    after_reads_simp
  rw [e]
  exact transpose_apply [0, 2, 1] _ transposes_S1x2048x1416_S1x1416x2048_0_2_1 (ix3 k p q) (ix3 k q p) (fun b => by fin_cases b <;> rfl)

/-- So are the first moments. -/
theorem flip1 (k : Fin 1) (p : Fin 1416) (q : Fin 2048) : V m c main_v1 (ix3 k p q) = m ((c : Thread nD τ).loc main_arg1) (ix3 k q p) := by
  have e : V m c main_v1 = transpose S1x1416x2048 [0, 2, 1] (m ((c : Thread nD τ).loc main_arg1)) transposes_S1x2048x1416_S1x1416x2048_0_2_1 := by
    after_reads_simp
  rw [e]
  exact transpose_apply [0, 2, 1] _ transposes_S1x2048x1416_S1x1416x2048_0_2_1 (ix3 k p q) (ix3 k q p) (fun b => by fin_cases b <;> rfl)

/-- So are the second moments. -/
theorem flip2 (k : Fin 1) (p : Fin 1416) (q : Fin 2048) : V m c main_v2 (ix3 k p q) = m ((c : Thread nD τ).loc main_arg2) (ix3 k q p) := by
  have e : V m c main_v2 = transpose S1x1416x2048 [0, 2, 1] (m ((c : Thread nD τ).loc main_arg2)) transposes_S1x2048x1416_S1x1416x2048_0_2_1 := by
    after_reads_simp
  rw [e]
  exact transpose_apply [0, 2, 1] _ transposes_S1x2048x1416_S1x1416x2048_0_2_1 (ix3 k p q) (ix3 k q p) (fun b => by fin_cases b <;> rfl)

/-- The index of the array at a point's block. -/
def at3 (t : Fin grid0.N) (i : Fin 472) (j : Fin 512) : S1x1416x2048.Idx := ix3 0 (row t i) (col t j)

/-- The same entry in the results' own order of the axes. -/
def atT (t : Fin grid0.N) (i : Fin 472) (j : Fin 512) : S1x2048x1416.Idx := ix3 0 (col t j) (row t i)

/-- Where a point writes its block of the gradient. -/
theorem emb5 (t : Fin grid0.N) (k : Fin 1) (i : Fin 472) (j : Fin 512) : (((cfgM m (ok m)).win 5).blk t).view.emb (ix3 k i j) = at3 t i j := by
  funext a; fin_cases a <;> refine Fin.ext ?_ <;> blk_simp [idx m t] <;> rfl

/-- Where a point writes its block of the step. -/
theorem emb6 (t : Fin grid0.N) (k : Fin 1) (i : Fin 472) (j : Fin 512) : (((cfgM m (ok m)).win 6).blk t).view.emb (ix3 k i j) = at3 t i j := by
  funext a; fin_cases a <;> refine Fin.ext ?_ <;> blk_simp [idx m t] <;> rfl

/-- Where a point writes its block of the new first moments. -/
theorem emb7 (t : Fin grid0.N) (k : Fin 1) (i : Fin 472) (j : Fin 512) : (((cfgM m (ok m)).win 7).blk t).view.emb (ix3 k i j) = at3 t i j := by
  funext a; fin_cases a <;> refine Fin.ext ?_ <;> blk_simp [idx m t] <;> rfl

/-- Where a point writes its block of the new second moments. -/
theorem emb8 (t : Fin grid0.N) (k : Fin 1) (i : Fin 472) (j : Fin 512) : (((cfgM m (ok m)).win 8).blk t).view.emb (ix3 k i j) = at3 t i j := by
  funext a; fin_cases a <;> refine Fin.ext ?_ <;> blk_simp [idx m t] <;> rfl

/-- A block of the gradient: the chip's own sums and the three it received. -/
def gsum (a : Vec Ideal S1x472x512 .bf16) (b : Vec Ideal S3x472x512 .bf16) : FVec Ideal S472x512 .f32 :=
  k0_pay5 (F := Ideal) a (View.ld b (Rect.unit ![0, 0, 0] ![1, 472, 512] inb_S3x472x512_S1x472x512_0_0_0)) (View.ld b (Rect.unit ![1, 0, 0] ![1, 472, 512] inb_S3x472x512_S1x472x512_1_0_0)) (View.ld b (Rect.unit ![2, 0, 0] ![1, 472, 512] inb_S3x472x512_S1x472x512_2_0_0))

/-- A block of the first moment. -/
def mom (a : Vec Ideal S1x472x512 .bf16) (b : Vec Ideal S3x472x512 .bf16) (x : Vec Ideal S1x472x512 .f32) : FVec Ideal S472x512 .f32 :=
  k0_pay9 (F := Ideal) a (View.ld b (Rect.unit ![0, 0, 0] ![1, 472, 512] inb_S3x472x512_S1x472x512_0_0_0)) (View.ld b (Rect.unit ![1, 0, 0] ![1, 472, 512] inb_S3x472x512_S1x472x512_1_0_0)) (View.ld b (Rect.unit ![2, 0, 0] ![1, 472, 512] inb_S3x472x512_S1x472x512_2_0_0)) x

/-- A block of the gradient as it is stored. -/
def total (a : Vec Ideal S1x472x512 .bf16) (b : Vec Ideal S3x472x512 .bf16) : FVec Ideal S1x472x512 .f32 :=
  k0_pay6 (F := Ideal) a (View.ld b (Rect.unit ![0, 0, 0] ![1, 472, 512] inb_S3x472x512_S1x472x512_0_0_0)) (View.ld b (Rect.unit ![1, 0, 0] ![1, 472, 512] inb_S3x472x512_S1x472x512_1_0_0)) (View.ld b (Rect.unit ![2, 0, 0] ![1, 472, 512] inb_S3x472x512_S1x472x512_2_0_0))

/-- A block of the step. -/
def step (w x y : Vec Ideal S1x472x512 .f32) (a : Vec Ideal S1x472x512 .bf16) (b : Vec Ideal S3x472x512 .bf16) : FVec Ideal S1x472x512 .f32 :=
  k0_pay2 (F := Ideal) (gsum a b) (k0_pay7 w) (k0_pay8 y) (mom a b x) k0_pay10

/-- A block of the second moment. -/
def second (a : Vec Ideal S1x472x512 .bf16) (b : Vec Ideal S3x472x512 .bf16) (y : Vec Ideal S1x472x512 .f32) : FVec Ideal S1x472x512 .f32 :=
  k0_pay4 (F := Ideal) (gsum a b) (k0_pay8 y) k0_pay10

/-- What a point writes of the gradient. -/
theorem out5 (t : Fin grid0.N) (y : S1x472x512.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x472x512.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x472x512.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x472x512.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x1416x2048, .bf16⟩ : BufTy).Contents (Elt Ideal)) (p : Fin 1416) (q : Fin 2048) :
    Cert.AdamInReferenceIdeal.Read.val_main_v4 (F := Ideal) x (ix3 0 p q) = (x (ix3 0 p q) + x (ix3 1 p q) + x (ix3 2 p q) : EReal) := by
  have z : Cert.AdamInReferenceIdeal.Read.val_main_cst (F := Ideal) (Shape.Idx.first Cert.AdamInReferenceIdeal.Gen.h_S_) = (0 : EReal) := by
    pointwise [Cert.AdamInReferenceIdeal.Read.val_main_cst]
  rw [Cert.AdamInReferenceIdeal.Read.val_main_v4_apply, Cert.AdamInReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 472) (j : Fin 512) :
    gsum (iblk m (ok m) c 3 t) (iblk m (ok m) c 4 t) (ix2 i j) = Cert.AdamInReferenceIdeal.Read.val_main_v5 (F := Ideal) (m ((c : Thread nD τ).loc main_arg3)) (m ((c : Thread nD τ).loc main_arg4)) (at3 t i j) := by
  unfold gsum at3
  pointwise [k0_pay5, Cert.AdamInReferenceIdeal.Read.val_main_v5, Cert.AdamInReferenceIdeal.Read.val_main_v1, Cert.AdamInReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The reference's gradient in the results' order of the axes. -/
theorem flipped (t : Fin grid0.N) (i : Fin 472) (j : Fin 512) :
    Cert.AdamInReferenceIdeal.Read.val_main_v6 (F := Ideal) (m ((c : Thread nD τ).loc main_arg3)) (m ((c : Thread nD τ).loc main_arg4)) (atT t i j) =
      Cert.AdamInReferenceIdeal.Read.val_main_v5 (F := Ideal) (m ((c : Thread nD τ).loc main_arg3)) (m ((c : Thread nD τ).loc main_arg4)) (at3 t i j) := by
  rw [Cert.AdamInReferenceIdeal.Read.val_main_v6_apply]
  exact congrArg _ (by funext a; fin_cases a <;> rfl)

/-- The first moment of a block, entry by entry. -/
theorem m_at (t : Fin grid0.N) (i : Fin 472) (j : Fin 512) :
    mom (iblk m (ok m) c 3 t) (iblk m (ok m) c 4 t) (iblk m (ok m) c 1 t) (ix2 i j) = Cert.AdamInReferenceIdeal.Read.val_main_v11 (F := Ideal) (m ((c : Thread nD τ).loc main_arg1)) (m ((c : Thread nD τ).loc main_arg3)) (m ((c : Thread nD τ).loc main_arg4)) (atT t i j) := by
  have h := g_at m c t i j
  unfold gsum at h
  unfold mom
  pointwise [k0_pay9, Cert.AdamInReferenceIdeal.Read.val_main_v11, Cert.AdamInReferenceIdeal.Read.val_main_v10, Cert.AdamInReferenceIdeal.Read.val_main_v9, Cert.AdamInReferenceIdeal.Read.val_main_v8, Cert.AdamInReferenceIdeal.Read.val_main_v7, Cert.AdamInReferenceIdeal.Read.val_main_cst_0, Cert.AdamInReferenceIdeal.Read.val_main_cst_1]
  rw [show Cert.AdamInReferenceIdeal.Read.val_main_v6 (F := Ideal) (m ((c : Thread nD τ).loc main_arg3)) (m ((c : Thread nD τ).loc main_arg4)) (atT t i j) = _ from flipped m c t i j, h, blk1_at, flip1]
  rfl

/-- The second moment of a block, entry by entry. -/
theorem v_at (t : Fin grid0.N) (i : Fin 472) (j : Fin 512) :
    k0_pay1 (F := Ideal) (gsum (iblk m (ok m) c 3 t) (iblk m (ok m) c 4 t)) (k0_pay8 (iblk m (ok m) c 2 t)) k0_pay10 (ix2 i j) =
      Cert.AdamInReferenceIdeal.Read.val_main_v17 (F := Ideal) (m ((c : Thread nD τ).loc main_arg2)) (m ((c : Thread nD τ).loc main_arg3)) (m ((c : Thread nD τ).loc main_arg4)) (atT t i j) := by
  pointwise [k0_pay1, k0_pay8, k0_pay10, Cert.AdamInReferenceIdeal.Read.val_main_v17, Cert.AdamInReferenceIdeal.Read.val_main_v16, Cert.AdamInReferenceIdeal.Read.val_main_v15, Cert.AdamInReferenceIdeal.Read.val_main_v14, Cert.AdamInReferenceIdeal.Read.val_main_v13, Cert.AdamInReferenceIdeal.Read.val_main_v12, Cert.AdamInReferenceIdeal.Read.val_main_cst_2, Cert.AdamInReferenceIdeal.Read.val_main_cst_3]
  rw [flipped, g_at, blk2_at, flip2]
  rfl

/-- The step of a block, entry by entry. -/
theorem d_at (t : Fin grid0.N) (k : Fin 1) (i : Fin 472) (j : Fin 512) :
    step (iblk m (ok m) c 0 t) (iblk m (ok m) c 1 t) (iblk m (ok m) c 2 t) (iblk m (ok m) c 3 t) (iblk m (ok m) c 4 t) (ix3 k i j) =
      Cert.AdamInReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (atT t i j) := by
  unfold step
  pointwise [k0_pay2, k0_pay7, Cert.AdamInReferenceIdeal.Read.val_main_v30, Cert.AdamInReferenceIdeal.Read.val_main_v29, Cert.AdamInReferenceIdeal.Read.val_main_v28, Cert.AdamInReferenceIdeal.Read.val_main_v27, Cert.AdamInReferenceIdeal.Read.val_main_v26, Cert.AdamInReferenceIdeal.Read.val_main_v25, Cert.AdamInReferenceIdeal.Read.val_main_v24, Cert.AdamInReferenceIdeal.Read.val_main_v23,
    Cert.AdamInReferenceIdeal.Read.val_main_v22, Cert.AdamInReferenceIdeal.Read.val_main_v21, Cert.AdamInReferenceIdeal.Read.val_main_v20, Cert.AdamInReferenceIdeal.Read.val_main_v19, Cert.AdamInReferenceIdeal.Read.val_main_v18, Cert.AdamInReferenceIdeal.Read.val_main_cst_4, Cert.AdamInReferenceIdeal.Read.val_main_cst_5, Cert.AdamInReferenceIdeal.Read.val_main_cst_6, Cert.AdamInReferenceIdeal.Read.val_main_cst_7, Cert.AdamInReferenceIdeal.Read.val_main_cst_8]
  rw [m_at, v_at, blk0_at, flip0]
  rfl

/-- An index of the call's arrays, its two axes exchanged. -/
def exch (x : S1x1416x2048.Idx) : S1x2048x1416.Idx := ix3 (x 0) (x 2) (x 1)

/-- An array of the call, its two axes exchanged. -/
def turn (x : (⟨S1x1416x2048, .f32⟩ : BufTy).Contents (Elt Ideal)) : (⟨S1x2048x1416, .f32⟩ : BufTy).Contents (Elt Ideal) :=
  transpose S1x2048x1416 [0, 2, 1] x transposes_S1x1416x2048_S1x2048x1416_0_2_1

/-- Exchanging twice puts the axes back. -/
theorem put (f : (⟨S1x2048x1416, .f32⟩ : BufTy).Contents (Elt Ideal)) :
    turn (fun x : S1x1416x2048.Idx => f (exch x)) = f := by
  funext y
  refine (transpose_apply [0, 2, 1] _ transposes_S1x1416x2048_S1x2048x1416_0_2_1 y (ix3 (y 0) (y 2) (y 1)) (fun b => by fin_cases b <;> rfl)).trans ?_
  exact congrArg f (by funext a; fin_cases a <;> rfl)

/-- The call's gradient is the reference's, its two axes exchanged. -/
theorem call5 : (dats m (ok m) 0 c).arrAt 5 (cfgM m (ok m)).N = fun x : S1x1416x2048.Idx => Cert.AdamInReferenceIdeal.Read.val_main_v6 (F := Ideal) (m ((c : Thread nD τ).loc main_arg3)) (m ((c : Thread nD τ).loc main_arg4)) (exch x) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg (fun x => Cert.AdamInReferenceIdeal.Read.val_main_v6 (F := Ideal) (m ((c : Thread nD τ).loc main_arg3)) (m ((c : Thread nD τ).loc main_arg4)) (exch x)) (emb5 m t k i j)).symm
  refine (out5 m c t (ix3 k i j)).trans ?_
  refine Eq.trans ?_ ((g_at m c t i j).trans (flipped m c t i j).symm)
  unfold total
  pointwise [k0_pay6]
  rfl

/-- After the call its axes are put back. -/
theorem back5 : Pipeline.afterTail pcfgs (fun _ => adm m (ok m)) (dats m (ok m)) 0 (V0 m) [hostOps1] c main_v5 =
    turn ((dats m (ok m) 0 c).arrAt 5 (cfgM m (ok m)).N) := by
  have h := (dats m (ok m) 0 c).withArrays_arrAt (by exact (by decide : Pipeline.SharedIn spec0)) (V0 m c) (A_eq m (ok m) c) 5
  unfold Pipeline.afterTail
  after_reads_simp
  exact congrArg turn h

/-- The kernel's gradient is the reference's. -/
theorem same5 : Pipeline.afterTail pcfgs (fun _ => adm m (ok m)) (dats m (ok m)) 0 (V0 m) [hostOps1] c main_v5 = Cert.AdamInReferenceIdeal.Read.val_main_v6 (F := Ideal) (m ((c : Thread nD τ).loc main_arg3)) (m ((c : Thread nD τ).loc main_arg4)) := by
  rw [back5, call5]
  exact put _

/-- The call's step is the reference's, its two axes exchanged. -/
theorem call6 : (dats m (ok m) 0 c).arrAt 6 (cfgM m (ok m)).N = fun x : S1x1416x2048.Idx => Cert.AdamInReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (exch x) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg (fun x => Cert.AdamInReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (exch x)) (emb6 m t k i j)).symm
  exact (out6 m c t (ix3 k i j)).trans (d_at m c t k i j)

/-- After the call its axes are put back. -/
theorem back6 : Pipeline.afterTail pcfgs (fun _ => adm m (ok m)) (dats m (ok m)) 0 (V0 m) [hostOps1] c main_v6 =
    turn ((dats m (ok m) 0 c).arrAt 6 (cfgM m (ok m)).N) := by
  have h := (dats m (ok m) 0 c).withArrays_arrAt (by exact (by decide : Pipeline.SharedIn spec0)) (V0 m c) (A_eq m (ok m) c) 6
  unfold Pipeline.afterTail
  after_reads_simp
  exact congrArg turn h

/-- The kernel's step is the reference's. -/
theorem same6 : Pipeline.afterTail pcfgs (fun _ => adm m (ok m)) (dats m (ok m)) 0 (V0 m) [hostOps1] c main_v6 = Cert.AdamInReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [back6, call6]
  exact put _

/-- The call's first moment is the reference's, its two axes exchanged. -/
theorem call7 : (dats m (ok m) 0 c).arrAt 7 (cfgM m (ok m)).N = fun x : S1x1416x2048.Idx => Cert.AdamInReferenceIdeal.Read.val_main_v11 (F := Ideal) (m ((c : Thread nD τ).loc main_arg1)) (m ((c : Thread nD τ).loc main_arg3)) (m ((c : Thread nD τ).loc main_arg4)) (exch x) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg (fun x => Cert.AdamInReferenceIdeal.Read.val_main_v11 (F := Ideal) (m ((c : Thread nD τ).loc main_arg1)) (m ((c : Thread nD τ).loc main_arg3)) (m ((c : Thread nD τ).loc main_arg4)) (exch x)) (emb7 m t k i j)).symm
  refine (out7 m c t (ix3 k i j)).trans ?_
  refine Eq.trans ?_ (m_at m c t i j)
  pointwise [k0_pay3]

/-- After the call its axes are put back. -/
theorem back7 : Pipeline.afterTail pcfgs (fun _ => adm m (ok m)) (dats m (ok m)) 0 (V0 m) [hostOps1] c main_v7 =
    turn ((dats m (ok m) 0 c).arrAt 7 (cfgM m (ok m)).N) := by
  have h := (dats m (ok m) 0 c).withArrays_arrAt (by exact (by decide : Pipeline.SharedIn spec0)) (V0 m c) (A_eq m (ok m) c) 7
  unfold Pipeline.afterTail
  after_reads_simp
  exact congrArg turn h

/-- The kernel's first moment is the reference's. -/
theorem same7 : Pipeline.afterTail pcfgs (fun _ => adm m (ok m)) (dats m (ok m)) 0 (V0 m) [hostOps1] c main_v7 = Cert.AdamInReferenceIdeal.Read.val_main_v11 (F := Ideal) (m ((c : Thread nD τ).loc main_arg1)) (m ((c : Thread nD τ).loc main_arg3)) (m ((c : Thread nD τ).loc main_arg4)) := by
  rw [back7, call7]
  exact put _

/-- The call's second moment is the reference's, its two axes exchanged. -/
theorem call8 : (dats m (ok m) 0 c).arrAt 8 (cfgM m (ok m)).N = fun x : S1x1416x2048.Idx => Cert.AdamInReferenceIdeal.Read.val_main_v17 (F := Ideal) (m ((c : Thread nD τ).loc main_arg2)) (m ((c : Thread nD τ).loc main_arg3)) (m ((c : Thread nD τ).loc main_arg4)) (exch x) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg (fun x => Cert.AdamInReferenceIdeal.Read.val_main_v17 (F := Ideal) (m ((c : Thread nD τ).loc main_arg2)) (m ((c : Thread nD τ).loc main_arg3)) (m ((c : Thread nD τ).loc main_arg4)) (exch x)) (emb8 m t k i j)).symm
  refine (out8 m c t (ix3 k i j)).trans ?_
  refine Eq.trans ?_ (v_at m c t i j)
  unfold second
  pointwise [k0_pay4]

/-- After the call its axes are put back. -/
theorem back8 : Pipeline.afterTail pcfgs (fun _ => adm m (ok m)) (dats m (ok m)) 0 (V0 m) [hostOps1] c main_v8 =
    turn ((dats m (ok m) 0 c).arrAt 8 (cfgM m (ok m)).N) := by
  have h := (dats m (ok m) 0 c).withArrays_arrAt (by exact (by decide : Pipeline.SharedIn spec0)) (V0 m c) (A_eq m (ok m) c) 8
  unfold Pipeline.afterTail
  after_reads_simp
  exact congrArg turn h

/-- The kernel's second moment is the reference's. -/
theorem same8 : Pipeline.afterTail pcfgs (fun _ => adm m (ok m)) (dats m (ok m)) 0 (V0 m) [hostOps1] c main_v8 = Cert.AdamInReferenceIdeal.Read.val_main_v17 (F := Ideal) (m ((c : Thread nD τ).loc main_arg2)) (m ((c : Thread nD τ).loc main_arg3)) (m ((c : Thread nD τ).loc main_arg4)) := by
  rw [back8, call8]
  exact put _

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v5) = Pipeline.afterTail pcfgs (fun _ => adm m (ok m)) (dats m (ok m)) 0 (V0 m) [hostOps1] c main_v5
      ∧ r.2.mem ((c : Thread nD τ).loc main_v6) = Pipeline.afterTail pcfgs (fun _ => adm m (ok m)) (dats m (ok m)) 0 (V0 m) [hostOps1] c main_v6
      ∧ r.2.mem ((c : Thread nD τ).loc main_v7) = Pipeline.afterTail pcfgs (fun _ => adm m (ok m)) (dats m (ok m)) 0 (V0 m) [hostOps1] c main_v7
      ∧ r.2.mem ((c : Thread nD τ).loc main_v8) = Pipeline.afterTail pcfgs (fun _ => adm m (ok m)) (dats m (ok m)) 0 (V0 m) [hostOps1] c main_v8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).2 main_v5 (Pipeline.mem_restRefs_of main_v5 (by decide) (by exact (by decide : ∀ w, Pipeline.arrRef spec0 w ≠ main_v5))), (h c).2 main_v6 (Pipeline.mem_restRefs_of main_v6 (by decide) (by exact (by decide : ∀ w, Pipeline.arrRef spec0 w ≠ main_v6))), (h c).2 main_v7 (Pipeline.mem_restRefs_of main_v7 (by decide) (by exact (by decide : ∀ w, Pipeline.arrRef spec0 w ≠ main_v7))), (h c).2 main_v8 (Pipeline.mem_restRefs_of main_v8 (by decide) (by exact (by decide : ∀ w, Pipeline.arrRef spec0 w ≠ main_v8))),
      ((h c).2 main_arg0 (Pipeline.mem_restRefs_of main_arg0 (by decide) (by exact (by decide : ∀ w, Pipeline.arrRef spec0 w ≠ main_arg0)))).trans (W_main_arg0 m (ok m) (dats m (ok m)) c),
      ((h c).2 main_arg1 (Pipeline.mem_restRefs_of main_arg1 (by decide) (by exact (by decide : ∀ w, Pipeline.arrRef spec0 w ≠ main_arg1)))).trans (W_main_arg1 m (ok m) (dats m (ok m)) c),
      ((h c).2 main_arg2 (Pipeline.mem_restRefs_of main_arg2 (by decide) (by exact (by decide : ∀ w, Pipeline.arrRef spec0 w ≠ main_arg2)))).trans (W_main_arg2 m (ok m) (dats m (ok m)) c),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamInValue

end
-- ==== Proof.AdamRet.lean ====
/- The update of the retention's output projection: its gradient summed, the moments, the step. -/
module

public import proofs.«01_k».proof.Proof.Gen.AdamRet.Frame
public import proofs.«01_k».proof.Proof.Gen.AdamRetIdeal.Frame
public import proofs.«01_k».proof.Proof.Gen.AdamRetReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamRetBits

open Cert.AdamRet Cert.AdamRet.Gen

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x256x2048.size a) i,
    .inr (Affine.block_words_dvd (of_decide_eq_true rfl) (by decide))⟩

end Cert.AdamRetBits

namespace Cert.AdamRetValue

open Cert.AdamRetIdeal Cert.AdamRetIdeal.Gen

section

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x256x2048.size a) i,
    .inr (Affine.block_words_dvd (of_decide_eq_true rfl) (by decide))⟩

end

/-- The block index of a grid point. -/
theorem idx4 : ∀ t : Fin grid0.N, cc0_transform_4 (grid0.coords t) = ![0, t.val, 0] := by decide +kernel

/-- Every block of the array is some grid point's. -/
theorem onto : ∀ β : (a : Fin 3) → Fin ((S1x256x2048.size a + S1x256x2048.size a - 1) / S1x256x2048.size a),
    ∃ i : grid0.Coords, ∀ a, cc0_transform_4 i a = β a := by decide +kernel

/-- No axis of a block is empty. -/
theorem pos : ∀ a : Fin 3, 0 < S1x256x2048.size a := by decide

/-- An index of a block by its coordinates. -/
theorem split (y : S1x256x2048.Idx) : ∃ (k : Fin 1) (i : Fin 256) (j : Fin 2048), y = ix3 k i j :=
  ⟨y 0, y 1, y 2, by funext k; fin_cases k <;> rfl⟩

/-- The row of the array that row `i` of a point's block is. -/
def row (t : Fin grid0.N) (i : Fin 256) : Fin 256 := ⟨t.val * 256 + i.val, by have ht := lt_of_lt_of_eq t.isLt N_0; omega⟩

variable (m : (ℓ : Loc nD τ sig) → Buf (Elt Ideal) ℓ) (c : Dev nD)

/-- The windows' block indices at a grid point. -/
theorem idx (t : Fin grid0.N) : ((cfgM m (ok m)).win 0).index t = ![0, t.val, 0] ∧ ((cfgM m (ok m)).win 1).index t = ![0, t.val, 0] ∧
    ((cfgM m (ok m)).win 2).index t = ![0, t.val, 0] ∧ ((cfgM m (ok m)).win 3).index t = ![0, t.val, 0] ∧
    ((cfgM m (ok m)).win 4).index t = ![0, t.val, 0] ∧ ((cfgM m (ok m)).win 5).index t = ![0, t.val, 0] ∧
    ((cfgM m (ok m)).win 6).index t = ![0, t.val, 0] ∧ ((cfgM m (ok m)).win 7).index t = ![0, t.val, 0] ∧
    ((cfgM m (ok m)).win 8).index t = ![0, t.val, 0] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 256) (j : Fin 2048) : iblk m (ok m) c 0 t (ix3 k i j) = V m c main_arg0 (ix3 k (row t i) j) := by
  blk_ext [iblk, row, idx m t]

/-- A block of the first moments, read from the array. -/
theorem blk1_at (t : Fin grid0.N) (k : Fin 1) (i : Fin 256) (j : Fin 2048) : iblk m (ok m) c 1 t (ix3 k i j) = V m c main_arg1 (ix3 k (row t i) j) := by
  blk_ext [iblk, row, idx m t]

/-- A block of the second moments, read from the array. -/
theorem blk2_at (t : Fin grid0.N) (k : Fin 1) (i : Fin 256) (j : Fin 2048) : iblk m (ok m) c 2 t (ix3 k i j) = V m c main_arg2 (ix3 k (row t i) j) := by
  blk_ext [iblk, row, idx m t]

/-- A block of the chip's own sums, read from the array. -/
theorem blk3_at (t : Fin grid0.N) (k : Fin 1) (i : Fin 256) (j : Fin 2048) : iblk m (ok m) c 3 t (ix3 k i j) = V m c main_arg3 (ix3 0 (row t i) j) := by
  blk_ext [iblk, row, idx m t]

/-- A block of the sums received, read from the array. -/
theorem blk4_at (t : Fin grid0.N) (k : Fin 3) (i : Fin 256) (j : Fin 2048) : iblk m (ok m) c 4 t (ix3 k i j) = V m c main_arg4 (ix3 k (row t i) j) := by
  blk_ext [iblk, row, idx m t]

/-- The index of the array at a point's block. -/
def at3 (t : Fin grid0.N) (i : Fin 256) (j : Fin 2048) : S1x256x2048.Idx := ix3 0 (row t i) j

/-- Where a point writes its block of the gradient. -/
theorem emb5 (t : Fin grid0.N) (k : Fin 1) (i : Fin 256) (j : Fin 2048) : (((cfgM m (ok m)).win 5).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the step. -/
theorem emb6 (t : Fin grid0.N) (k : Fin 1) (i : Fin 256) (j : Fin 2048) : (((cfgM m (ok m)).win 6).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new first moments. -/
theorem emb7 (t : Fin grid0.N) (k : Fin 1) (i : Fin 256) (j : Fin 2048) : (((cfgM m (ok m)).win 7).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new second moments. -/
theorem emb8 (t : Fin grid0.N) (k : Fin 1) (i : Fin 256) (j : Fin 2048) : (((cfgM m (ok m)).win 8).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- A block of the gradient: the chip's own sums and the three it received. -/
def gsum (a : Vec Ideal S1x256x2048 .bf16) (b : Vec Ideal S3x256x2048 .bf16) : FVec Ideal S256x2048 .f32 :=
  k0_pay5 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the first moment. -/
def mom (a : Vec Ideal S1x256x2048 .bf16) (b : Vec Ideal S3x256x2048 .bf16) (x : Vec Ideal S1x256x2048 .f32) : FVec Ideal S256x2048 .f32 :=
  k0_pay9 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0)) x

/-- A block of the gradient as it is stored. -/
def total (a : Vec Ideal S1x256x2048 .bf16) (b : Vec Ideal S3x256x2048 .bf16) : FVec Ideal S1x256x2048 .f32 :=
  k0_pay6 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the step. -/
def step (w x y : Vec Ideal S1x256x2048 .f32) (a : Vec Ideal S1x256x2048 .bf16) (b : Vec Ideal S3x256x2048 .bf16) : FVec Ideal S1x256x2048 .f32 :=
  k0_pay2 (F := Ideal) (gsum a b) (k0_pay7 w) (k0_pay8 y) (mom a b x) k0_pay10

/-- A block of the second moment. -/
def second (a : Vec Ideal S1x256x2048 .bf16) (b : Vec Ideal S3x256x2048 .bf16) (y : Vec Ideal S1x256x2048 .f32) : FVec Ideal S1x256x2048 .f32 :=
  k0_pay4 (F := Ideal) (gsum a b) (k0_pay8 y) k0_pay10

/-- What a point writes of the gradient. -/
theorem out5 (t : Fin grid0.N) (y : S1x256x2048.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x256x2048.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x256x2048.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x256x2048.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x256x2048, .bf16⟩ : BufTy).Contents (Elt Ideal)) (p : Fin 256) (q : Fin 2048) :
    Cert.AdamRetReferenceIdeal.Read.val_main_v4 (F := Ideal) x (ix3 0 p q) = (x (ix3 0 p q) + x (ix3 1 p q) + x (ix3 2 p q) : EReal) := by
  have z : Cert.AdamRetReferenceIdeal.Read.val_main_cst (F := Ideal) (Shape.Idx.first Cert.AdamRetReferenceIdeal.Gen.h_S_) = (0 : EReal) := by
    pointwise [Cert.AdamRetReferenceIdeal.Read.val_main_cst]
  rw [Cert.AdamRetReferenceIdeal.Read.val_main_v4_apply, Cert.AdamRetReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 256) (j : Fin 2048) :
    gsum (iblk m (ok m) c 3 t) (iblk m (ok m) c 4 t) (ix2 i j) = Cert.AdamRetReferenceIdeal.Read.val_main_v5 (F := Ideal) (m ((c : Thread nD τ).loc main_arg3)) (m ((c : Thread nD τ).loc main_arg4)) (at3 t i j) := by
  unfold gsum at3
  pointwise [k0_pay5, Cert.AdamRetReferenceIdeal.Read.val_main_v5, Cert.AdamRetReferenceIdeal.Read.val_main_v1, Cert.AdamRetReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The first moment of a block, entry by entry. -/
theorem m_at (t : Fin grid0.N) (i : Fin 256) (j : Fin 2048) :
    mom (iblk m (ok m) c 3 t) (iblk m (ok m) c 4 t) (iblk m (ok m) c 1 t) (ix2 i j) = Cert.AdamRetReferenceIdeal.Read.val_main_v10 (F := Ideal) (m ((c : Thread nD τ).loc main_arg1)) (m ((c : Thread nD τ).loc main_arg3)) (m ((c : Thread nD τ).loc main_arg4)) (at3 t i j) := by
  have h := g_at m c t i j
  unfold gsum at h
  unfold mom
  pointwise [k0_pay9, Cert.AdamRetReferenceIdeal.Read.val_main_v10, Cert.AdamRetReferenceIdeal.Read.val_main_v9, Cert.AdamRetReferenceIdeal.Read.val_main_v8, Cert.AdamRetReferenceIdeal.Read.val_main_v7, Cert.AdamRetReferenceIdeal.Read.val_main_v6, Cert.AdamRetReferenceIdeal.Read.val_main_cst_0, Cert.AdamRetReferenceIdeal.Read.val_main_cst_1]
  rw [h, blk1_at, V_main_arg1]
  rfl

/-- The second moment of a block, entry by entry. -/
theorem v_at (t : Fin grid0.N) (i : Fin 256) (j : Fin 2048) :
    k0_pay1 (F := Ideal) (gsum (iblk m (ok m) c 3 t) (iblk m (ok m) c 4 t)) (k0_pay8 (iblk m (ok m) c 2 t)) k0_pay10 (ix2 i j) =
      Cert.AdamRetReferenceIdeal.Read.val_main_v16 (F := Ideal) (m ((c : Thread nD τ).loc main_arg2)) (m ((c : Thread nD τ).loc main_arg3)) (m ((c : Thread nD τ).loc main_arg4)) (at3 t i j) := by
  pointwise [k0_pay1, k0_pay8, k0_pay10, Cert.AdamRetReferenceIdeal.Read.val_main_v16, Cert.AdamRetReferenceIdeal.Read.val_main_v15, Cert.AdamRetReferenceIdeal.Read.val_main_v14, Cert.AdamRetReferenceIdeal.Read.val_main_v13, Cert.AdamRetReferenceIdeal.Read.val_main_v12, Cert.AdamRetReferenceIdeal.Read.val_main_v11, Cert.AdamRetReferenceIdeal.Read.val_main_cst_2, Cert.AdamRetReferenceIdeal.Read.val_main_cst_3]
  rw [g_at, blk2_at, V_main_arg2]
  rfl

/-- The step of a block, entry by entry. -/
theorem d_at (t : Fin grid0.N) (k : Fin 1) (i : Fin 256) (j : Fin 2048) :
    step (iblk m (ok m) c 0 t) (iblk m (ok m) c 1 t) (iblk m (ok m) c 2 t) (iblk m (ok m) c 3 t) (iblk m (ok m) c 4 t) (ix3 k i j) =
      Cert.AdamRetReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (at3 t i j) := by
  unfold step
  pointwise [k0_pay2, k0_pay7, Cert.AdamRetReferenceIdeal.Read.val_main_v29, Cert.AdamRetReferenceIdeal.Read.val_main_v28, Cert.AdamRetReferenceIdeal.Read.val_main_v27, Cert.AdamRetReferenceIdeal.Read.val_main_v26, Cert.AdamRetReferenceIdeal.Read.val_main_v25, Cert.AdamRetReferenceIdeal.Read.val_main_v24, Cert.AdamRetReferenceIdeal.Read.val_main_v23, Cert.AdamRetReferenceIdeal.Read.val_main_v22,
    Cert.AdamRetReferenceIdeal.Read.val_main_v21, Cert.AdamRetReferenceIdeal.Read.val_main_v20, Cert.AdamRetReferenceIdeal.Read.val_main_v19, Cert.AdamRetReferenceIdeal.Read.val_main_v18, Cert.AdamRetReferenceIdeal.Read.val_main_v17, Cert.AdamRetReferenceIdeal.Read.val_main_cst_4, Cert.AdamRetReferenceIdeal.Read.val_main_cst_5, Cert.AdamRetReferenceIdeal.Read.val_main_cst_6, Cert.AdamRetReferenceIdeal.Read.val_main_cst_7, Cert.AdamRetReferenceIdeal.Read.val_main_cst_8]
  rw [m_at, v_at, blk0_at, V_main_arg0]
  rfl

/-- The kernel's gradient is the reference's. -/
theorem same5 : (dats m (ok m) 0 c).arrAt 5 (cfgM m (ok m)).N = Cert.AdamRetReferenceIdeal.Read.val_main_v5 (F := Ideal) (m ((c : Thread nD τ).loc main_arg3)) (m ((c : Thread nD τ).loc main_arg4)) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg _ (emb5 m t k i j)).symm
  refine (out5 m c t (ix3 k i j)).trans ?_
  refine Eq.trans ?_ (g_at m c t i j)
  unfold total
  pointwise [k0_pay6]
  rfl

/-- The kernel's step is the reference's. -/
theorem same6 : (dats m (ok m) 0 c).arrAt 6 (cfgM m (ok m)).N = Cert.AdamRetReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg _ (emb6 m t k i j)).symm
  exact (out6 m c t (ix3 k i j)).trans (d_at m c t k i j)

/-- The kernel's first moment is the reference's. -/
theorem same7 : (dats m (ok m) 0 c).arrAt 7 (cfgM m (ok m)).N = Cert.AdamRetReferenceIdeal.Read.val_main_v10 (F := Ideal) (m ((c : Thread nD τ).loc main_arg1)) (m ((c : Thread nD τ).loc main_arg3)) (m ((c : Thread nD τ).loc main_arg4)) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg _ (emb7 m t k i j)).symm
  refine (out7 m c t (ix3 k i j)).trans ?_
  refine Eq.trans ?_ (m_at m c t i j)
  pointwise [k0_pay3]

/-- The kernel's second moment is the reference's. -/
theorem same8 : (dats m (ok m) 0 c).arrAt 8 (cfgM m (ok m)).N = Cert.AdamRetReferenceIdeal.Read.val_main_v16 (F := Ideal) (m ((c : Thread nD τ).loc main_arg2)) (m ((c : Thread nD τ).loc main_arg3)) (m ((c : Thread nD τ).loc main_arg4)) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg _ (emb8 m t k i j)).symm
  refine (out8 m c t (ix3 k i j)).trans ?_
  refine Eq.trans ?_ (v_at m c t i j)
  unfold second
  pointwise [k0_pay4]

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7, (h c).1 8,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamRetValue

end
-- ==== Proof.AdamQ.lean ====
/- The update of the queries' up-projection: its gradient summed, the moments, the step. -/
module

public import proofs.«01_k».proof.Proof.Gen.AdamQ.Frame
public import proofs.«01_k».proof.Proof.Gen.AdamQIdeal.Frame
public import proofs.«01_k».proof.Proof.Gen.AdamQReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamQBits

open Cert.AdamQ Cert.AdamQ.Gen

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x384.size a ≤ S4x512x384.size a) i,
    .inr (Affine.block_words_dvd (of_decide_eq_true rfl) (by decide))⟩

end Cert.AdamQBits

namespace Cert.AdamQValue

open Cert.AdamQIdeal Cert.AdamQIdeal.Gen

section

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x384.size a ≤ S4x512x384.size a) i,
    .inr (Affine.block_words_dvd (of_decide_eq_true rfl) (by decide))⟩

end

/-- The block index of a grid point. -/
theorem idx4 : ∀ t : Fin grid0.N, cc0_transform_4 (grid0.coords t) = ![0, t.val, 0] := by decide +kernel

/-- Every block of the array is some grid point's. -/
theorem onto : ∀ β : (a : Fin 3) → Fin ((S1x512x384.size a + S1x256x384.size a - 1) / S1x256x384.size a),
    ∃ i : grid0.Coords, ∀ a, cc0_transform_4 i a = β a := by decide +kernel

/-- No axis of a block is empty. -/
theorem pos : ∀ a : Fin 3, 0 < S1x256x384.size a := by decide

/-- An index of a block by its coordinates. -/
theorem split (y : S1x256x384.Idx) : ∃ (k : Fin 1) (i : Fin 256) (j : Fin 384), y = ix3 k i j :=
  ⟨y 0, y 1, y 2, by funext k; fin_cases k <;> rfl⟩

/-- The row of the array that row `i` of a point's block is. -/
def row (t : Fin grid0.N) (i : Fin 256) : Fin 512 := ⟨t.val * 256 + i.val, by have ht := lt_of_lt_of_eq t.isLt N_0; omega⟩

variable (m : (ℓ : Loc nD τ sig) → Buf (Elt Ideal) ℓ) (c : Dev nD)

/-- The windows' block indices at a grid point. -/
theorem idx (t : Fin grid0.N) : ((cfgM m (ok m)).win 0).index t = ![0, t.val, 0] ∧ ((cfgM m (ok m)).win 1).index t = ![0, t.val, 0] ∧
    ((cfgM m (ok m)).win 2).index t = ![0, t.val, 0] ∧ ((cfgM m (ok m)).win 3).index t = ![0, t.val, 0] ∧
    ((cfgM m (ok m)).win 4).index t = ![0, t.val, 0] ∧ ((cfgM m (ok m)).win 5).index t = ![0, t.val, 0] ∧
    ((cfgM m (ok m)).win 6).index t = ![0, t.val, 0] ∧ ((cfgM m (ok m)).win 7).index t = ![0, t.val, 0] ∧
    ((cfgM m (ok m)).win 8).index t = ![0, t.val, 0] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 256) (j : Fin 384) : iblk m (ok m) c 0 t (ix3 k i j) = V m c main_arg0 (ix3 k (row t i) j) := by
  blk_ext [iblk, row, idx m t]

/-- A block of the first moments, read from the array. -/
theorem blk1_at (t : Fin grid0.N) (k : Fin 1) (i : Fin 256) (j : Fin 384) : iblk m (ok m) c 1 t (ix3 k i j) = V m c main_arg1 (ix3 k (row t i) j) := by
  blk_ext [iblk, row, idx m t]

/-- A block of the second moments, read from the array. -/
theorem blk2_at (t : Fin grid0.N) (k : Fin 1) (i : Fin 256) (j : Fin 384) : iblk m (ok m) c 2 t (ix3 k i j) = V m c main_arg2 (ix3 k (row t i) j) := by
  blk_ext [iblk, row, idx m t]

/-- A block of the chip's own sums, read from the array. -/
theorem blk3_at (t : Fin grid0.N) (k : Fin 1) (i : Fin 256) (j : Fin 384) : iblk m (ok m) c 3 t (ix3 k i j) = V m c main_arg3 (ix3 0 (row t i) j) := by
  blk_ext [iblk, row, idx m t]

/-- A block of the sums received, read from the array. -/
theorem blk4_at (t : Fin grid0.N) (k : Fin 3) (i : Fin 256) (j : Fin 384) : iblk m (ok m) c 4 t (ix3 k i j) = V m c main_arg4 (ix3 k (row t i) j) := by
  blk_ext [iblk, row, idx m t]

/-- The index of the array at a point's block. -/
def at3 (t : Fin grid0.N) (i : Fin 256) (j : Fin 384) : S1x512x384.Idx := ix3 0 (row t i) j

/-- Where a point writes its block of the gradient. -/
theorem emb5 (t : Fin grid0.N) (k : Fin 1) (i : Fin 256) (j : Fin 384) : (((cfgM m (ok m)).win 5).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the step. -/
theorem emb6 (t : Fin grid0.N) (k : Fin 1) (i : Fin 256) (j : Fin 384) : (((cfgM m (ok m)).win 6).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new first moments. -/
theorem emb7 (t : Fin grid0.N) (k : Fin 1) (i : Fin 256) (j : Fin 384) : (((cfgM m (ok m)).win 7).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new second moments. -/
theorem emb8 (t : Fin grid0.N) (k : Fin 1) (i : Fin 256) (j : Fin 384) : (((cfgM m (ok m)).win 8).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- A block of the gradient: the chip's own sums and the three it received. -/
def gsum (a : Vec Ideal S1x256x384 .bf16) (b : Vec Ideal S3x256x384 .bf16) : FVec Ideal S256x384 .f32 :=
  k0_pay5 (F := Ideal) a (View.ld b (Rect.unit ![0, 0, 0] ![1, 256, 384] inb_S3x256x384_S1x256x384_0_0_0)) (View.ld b (Rect.unit ![1, 0, 0] ![1, 256, 384] inb_S3x256x384_S1x256x384_1_0_0)) (View.ld b (Rect.unit ![2, 0, 0] ![1, 256, 384] inb_S3x256x384_S1x256x384_2_0_0))

/-- A block of the first moment. -/
def mom (a : Vec Ideal S1x256x384 .bf16) (b : Vec Ideal S3x256x384 .bf16) (x : Vec Ideal S1x256x384 .f32) : FVec Ideal S256x384 .f32 :=
  k0_pay9 (F := Ideal) a (View.ld b (Rect.unit ![0, 0, 0] ![1, 256, 384] inb_S3x256x384_S1x256x384_0_0_0)) (View.ld b (Rect.unit ![1, 0, 0] ![1, 256, 384] inb_S3x256x384_S1x256x384_1_0_0)) (View.ld b (Rect.unit ![2, 0, 0] ![1, 256, 384] inb_S3x256x384_S1x256x384_2_0_0)) x

/-- A block of the gradient as it is stored. -/
def total (a : Vec Ideal S1x256x384 .bf16) (b : Vec Ideal S3x256x384 .bf16) : FVec Ideal S1x256x384 .f32 :=
  k0_pay6 (F := Ideal) a (View.ld b (Rect.unit ![0, 0, 0] ![1, 256, 384] inb_S3x256x384_S1x256x384_0_0_0)) (View.ld b (Rect.unit ![1, 0, 0] ![1, 256, 384] inb_S3x256x384_S1x256x384_1_0_0)) (View.ld b (Rect.unit ![2, 0, 0] ![1, 256, 384] inb_S3x256x384_S1x256x384_2_0_0))

/-- A block of the step. -/
def step (w x y : Vec Ideal S1x256x384 .f32) (a : Vec Ideal S1x256x384 .bf16) (b : Vec Ideal S3x256x384 .bf16) : FVec Ideal S1x256x384 .f32 :=
  k0_pay2 (F := Ideal) (gsum a b) (k0_pay7 w) (k0_pay8 y) (mom a b x) k0_pay10

/-- A block of the second moment. -/
def second (a : Vec Ideal S1x256x384 .bf16) (b : Vec Ideal S3x256x384 .bf16) (y : Vec Ideal S1x256x384 .f32) : FVec Ideal S1x256x384 .f32 :=
  k0_pay4 (F := Ideal) (gsum a b) (k0_pay8 y) k0_pay10

/-- What a point writes of the gradient. -/
theorem out5 (t : Fin grid0.N) (y : S1x256x384.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x256x384.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x256x384.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x256x384.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x512x384, .bf16⟩ : BufTy).Contents (Elt Ideal)) (p : Fin 512) (q : Fin 384) :
    Cert.AdamQReferenceIdeal.Read.val_main_v4 (F := Ideal) x (ix3 0 p q) = (x (ix3 0 p q) + x (ix3 1 p q) + x (ix3 2 p q) : EReal) := by
  have z : Cert.AdamQReferenceIdeal.Read.val_main_cst (F := Ideal) (Shape.Idx.first Cert.AdamQReferenceIdeal.Gen.h_S_) = (0 : EReal) := by
    pointwise [Cert.AdamQReferenceIdeal.Read.val_main_cst]
  rw [Cert.AdamQReferenceIdeal.Read.val_main_v4_apply, Cert.AdamQReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 256) (j : Fin 384) :
    gsum (iblk m (ok m) c 3 t) (iblk m (ok m) c 4 t) (ix2 i j) = Cert.AdamQReferenceIdeal.Read.val_main_v5 (F := Ideal) (m ((c : Thread nD τ).loc main_arg3)) (m ((c : Thread nD τ).loc main_arg4)) (at3 t i j) := by
  unfold gsum at3
  pointwise [k0_pay5, Cert.AdamQReferenceIdeal.Read.val_main_v5, Cert.AdamQReferenceIdeal.Read.val_main_v1, Cert.AdamQReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The first moment of a block, entry by entry. -/
theorem m_at (t : Fin grid0.N) (i : Fin 256) (j : Fin 384) :
    mom (iblk m (ok m) c 3 t) (iblk m (ok m) c 4 t) (iblk m (ok m) c 1 t) (ix2 i j) = Cert.AdamQReferenceIdeal.Read.val_main_v10 (F := Ideal) (m ((c : Thread nD τ).loc main_arg1)) (m ((c : Thread nD τ).loc main_arg3)) (m ((c : Thread nD τ).loc main_arg4)) (at3 t i j) := by
  have h := g_at m c t i j
  unfold gsum at h
  unfold mom
  pointwise [k0_pay9, Cert.AdamQReferenceIdeal.Read.val_main_v10, Cert.AdamQReferenceIdeal.Read.val_main_v9, Cert.AdamQReferenceIdeal.Read.val_main_v8, Cert.AdamQReferenceIdeal.Read.val_main_v7, Cert.AdamQReferenceIdeal.Read.val_main_v6, Cert.AdamQReferenceIdeal.Read.val_main_cst_0, Cert.AdamQReferenceIdeal.Read.val_main_cst_1]
  rw [h, blk1_at, V_main_arg1]
  rfl

/-- The second moment of a block, entry by entry. -/
theorem v_at (t : Fin grid0.N) (i : Fin 256) (j : Fin 384) :
    k0_pay1 (F := Ideal) (gsum (iblk m (ok m) c 3 t) (iblk m (ok m) c 4 t)) (k0_pay8 (iblk m (ok m) c 2 t)) k0_pay10 (ix2 i j) =
      Cert.AdamQReferenceIdeal.Read.val_main_v16 (F := Ideal) (m ((c : Thread nD τ).loc main_arg2)) (m ((c : Thread nD τ).loc main_arg3)) (m ((c : Thread nD τ).loc main_arg4)) (at3 t i j) := by
  pointwise [k0_pay1, k0_pay8, k0_pay10, Cert.AdamQReferenceIdeal.Read.val_main_v16, Cert.AdamQReferenceIdeal.Read.val_main_v15, Cert.AdamQReferenceIdeal.Read.val_main_v14, Cert.AdamQReferenceIdeal.Read.val_main_v13, Cert.AdamQReferenceIdeal.Read.val_main_v12, Cert.AdamQReferenceIdeal.Read.val_main_v11, Cert.AdamQReferenceIdeal.Read.val_main_cst_2, Cert.AdamQReferenceIdeal.Read.val_main_cst_3]
  rw [g_at, blk2_at, V_main_arg2]
  rfl

/-- The step of a block, entry by entry. -/
theorem d_at (t : Fin grid0.N) (k : Fin 1) (i : Fin 256) (j : Fin 384) :
    step (iblk m (ok m) c 0 t) (iblk m (ok m) c 1 t) (iblk m (ok m) c 2 t) (iblk m (ok m) c 3 t) (iblk m (ok m) c 4 t) (ix3 k i j) =
      Cert.AdamQReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (at3 t i j) := by
  unfold step
  pointwise [k0_pay2, k0_pay7, Cert.AdamQReferenceIdeal.Read.val_main_v29, Cert.AdamQReferenceIdeal.Read.val_main_v28, Cert.AdamQReferenceIdeal.Read.val_main_v27, Cert.AdamQReferenceIdeal.Read.val_main_v26, Cert.AdamQReferenceIdeal.Read.val_main_v25, Cert.AdamQReferenceIdeal.Read.val_main_v24, Cert.AdamQReferenceIdeal.Read.val_main_v23, Cert.AdamQReferenceIdeal.Read.val_main_v22,
    Cert.AdamQReferenceIdeal.Read.val_main_v21, Cert.AdamQReferenceIdeal.Read.val_main_v20, Cert.AdamQReferenceIdeal.Read.val_main_v19, Cert.AdamQReferenceIdeal.Read.val_main_v18, Cert.AdamQReferenceIdeal.Read.val_main_v17, Cert.AdamQReferenceIdeal.Read.val_main_cst_4, Cert.AdamQReferenceIdeal.Read.val_main_cst_5, Cert.AdamQReferenceIdeal.Read.val_main_cst_6, Cert.AdamQReferenceIdeal.Read.val_main_cst_7, Cert.AdamQReferenceIdeal.Read.val_main_cst_8]
  rw [m_at, v_at, blk0_at, V_main_arg0]
  rfl

/-- The kernel's gradient is the reference's. -/
theorem same5 : (dats m (ok m) 0 c).arrAt 5 (cfgM m (ok m)).N = Cert.AdamQReferenceIdeal.Read.val_main_v5 (F := Ideal) (m ((c : Thread nD τ).loc main_arg3)) (m ((c : Thread nD τ).loc main_arg4)) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg _ (emb5 m t k i j)).symm
  refine (out5 m c t (ix3 k i j)).trans ?_
  refine Eq.trans ?_ (g_at m c t i j)
  unfold total
  pointwise [k0_pay6]
  rfl

/-- The kernel's step is the reference's. -/
theorem same6 : (dats m (ok m) 0 c).arrAt 6 (cfgM m (ok m)).N = Cert.AdamQReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg _ (emb6 m t k i j)).symm
  exact (out6 m c t (ix3 k i j)).trans (d_at m c t k i j)

/-- The kernel's first moment is the reference's. -/
theorem same7 : (dats m (ok m) 0 c).arrAt 7 (cfgM m (ok m)).N = Cert.AdamQReferenceIdeal.Read.val_main_v10 (F := Ideal) (m ((c : Thread nD τ).loc main_arg1)) (m ((c : Thread nD τ).loc main_arg3)) (m ((c : Thread nD τ).loc main_arg4)) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg _ (emb7 m t k i j)).symm
  refine (out7 m c t (ix3 k i j)).trans ?_
  refine Eq.trans ?_ (m_at m c t i j)
  pointwise [k0_pay3]

/-- The kernel's second moment is the reference's. -/
theorem same8 : (dats m (ok m) 0 c).arrAt 8 (cfgM m (ok m)).N = Cert.AdamQReferenceIdeal.Read.val_main_v16 (F := Ideal) (m ((c : Thread nD τ).loc main_arg2)) (m ((c : Thread nD τ).loc main_arg3)) (m ((c : Thread nD τ).loc main_arg4)) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg _ (emb8 m t k i j)).symm
  refine (out8 m c t (ix3 k i j)).trans ?_
  refine Eq.trans ?_ (v_at m c t i j)
  unfold second
  pointwise [k0_pay4]

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7, (h c).1 8,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamQValue

end
-- ==== Proof.AdamKv.lean ====
/- The update of the keys' and values' up-projection: its gradient summed, the moments, the step. -/
module

public import proofs.«01_k».proof.Proof.Gen.AdamKv.Frame
public import proofs.«01_k».proof.Proof.Gen.AdamKvIdeal.Frame
public import proofs.«01_k».proof.Proof.Gen.AdamKvReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamKvBits

open Cert.AdamKv Cert.AdamKv.Gen

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x512.size a ≤ S4x512x512.size a) i,
    .inr (Affine.block_words_dvd (of_decide_eq_true rfl) (by decide))⟩

end Cert.AdamKvBits

namespace Cert.AdamKvValue

open Cert.AdamKvIdeal Cert.AdamKvIdeal.Gen

section

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x512.size a ≤ S4x512x512.size a) i,
    .inr (Affine.block_words_dvd (of_decide_eq_true rfl) (by decide))⟩

end

/-- The block index of a grid point. -/
theorem idx4 : ∀ t : Fin grid0.N, cc0_transform_4 (grid0.coords t) = ![0, t.val, 0] := by decide +kernel

/-- Every block of the array is some grid point's. -/
theorem onto : ∀ β : (a : Fin 3) → Fin ((S1x512x512.size a + S1x256x512.size a - 1) / S1x256x512.size a),
    ∃ i : grid0.Coords, ∀ a, cc0_transform_4 i a = β a := by decide +kernel

/-- No axis of a block is empty. -/
theorem pos : ∀ a : Fin 3, 0 < S1x256x512.size a := by decide

/-- An index of a block by its coordinates. -/
theorem split (y : S1x256x512.Idx) : ∃ (k : Fin 1) (i : Fin 256) (j : Fin 512), y = ix3 k i j :=
  ⟨y 0, y 1, y 2, by funext k; fin_cases k <;> rfl⟩

/-- The row of the array that row `i` of a point's block is. -/
def row (t : Fin grid0.N) (i : Fin 256) : Fin 512 := ⟨t.val * 256 + i.val, by have ht := lt_of_lt_of_eq t.isLt N_0; omega⟩

variable (m : (ℓ : Loc nD τ sig) → Buf (Elt Ideal) ℓ) (c : Dev nD)

/-- The windows' block indices at a grid point. -/
theorem idx (t : Fin grid0.N) : ((cfgM m (ok m)).win 0).index t = ![0, t.val, 0] ∧ ((cfgM m (ok m)).win 1).index t = ![0, t.val, 0] ∧
    ((cfgM m (ok m)).win 2).index t = ![0, t.val, 0] ∧ ((cfgM m (ok m)).win 3).index t = ![0, t.val, 0] ∧
    ((cfgM m (ok m)).win 4).index t = ![0, t.val, 0] ∧ ((cfgM m (ok m)).win 5).index t = ![0, t.val, 0] ∧
    ((cfgM m (ok m)).win 6).index t = ![0, t.val, 0] ∧ ((cfgM m (ok m)).win 7).index t = ![0, t.val, 0] ∧
    ((cfgM m (ok m)).win 8).index t = ![0, t.val, 0] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 256) (j : Fin 512) : iblk m (ok m) c 0 t (ix3 k i j) = V m c main_arg0 (ix3 k (row t i) j) := by
  blk_ext [iblk, row, idx m t]

/-- A block of the first moments, read from the array. -/
theorem blk1_at (t : Fin grid0.N) (k : Fin 1) (i : Fin 256) (j : Fin 512) : iblk m (ok m) c 1 t (ix3 k i j) = V m c main_arg1 (ix3 k (row t i) j) := by
  blk_ext [iblk, row, idx m t]

/-- A block of the second moments, read from the array. -/
theorem blk2_at (t : Fin grid0.N) (k : Fin 1) (i : Fin 256) (j : Fin 512) : iblk m (ok m) c 2 t (ix3 k i j) = V m c main_arg2 (ix3 k (row t i) j) := by
  blk_ext [iblk, row, idx m t]

/-- A block of the chip's own sums, read from the array. -/
theorem blk3_at (t : Fin grid0.N) (k : Fin 1) (i : Fin 256) (j : Fin 512) : iblk m (ok m) c 3 t (ix3 k i j) = V m c main_arg3 (ix3 0 (row t i) j) := by
  blk_ext [iblk, row, idx m t]

/-- A block of the sums received, read from the array. -/
theorem blk4_at (t : Fin grid0.N) (k : Fin 3) (i : Fin 256) (j : Fin 512) : iblk m (ok m) c 4 t (ix3 k i j) = V m c main_arg4 (ix3 k (row t i) j) := by
  blk_ext [iblk, row, idx m t]

/-- The index of the array at a point's block. -/
def at3 (t : Fin grid0.N) (i : Fin 256) (j : Fin 512) : S1x512x512.Idx := ix3 0 (row t i) j

/-- Where a point writes its block of the gradient. -/
theorem emb5 (t : Fin grid0.N) (k : Fin 1) (i : Fin 256) (j : Fin 512) : (((cfgM m (ok m)).win 5).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the step. -/
theorem emb6 (t : Fin grid0.N) (k : Fin 1) (i : Fin 256) (j : Fin 512) : (((cfgM m (ok m)).win 6).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new first moments. -/
theorem emb7 (t : Fin grid0.N) (k : Fin 1) (i : Fin 256) (j : Fin 512) : (((cfgM m (ok m)).win 7).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new second moments. -/
theorem emb8 (t : Fin grid0.N) (k : Fin 1) (i : Fin 256) (j : Fin 512) : (((cfgM m (ok m)).win 8).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- A block of the gradient: the chip's own sums and the three it received. -/
def gsum (a : Vec Ideal S1x256x512 .bf16) (b : Vec Ideal S3x256x512 .bf16) : FVec Ideal S256x512 .f32 :=
  k0_pay5 (F := Ideal) a (View.ld b (Rect.unit ![0, 0, 0] ![1, 256, 512] inb_S3x256x512_S1x256x512_0_0_0)) (View.ld b (Rect.unit ![1, 0, 0] ![1, 256, 512] inb_S3x256x512_S1x256x512_1_0_0)) (View.ld b (Rect.unit ![2, 0, 0] ![1, 256, 512] inb_S3x256x512_S1x256x512_2_0_0))

/-- A block of the first moment. -/
def mom (a : Vec Ideal S1x256x512 .bf16) (b : Vec Ideal S3x256x512 .bf16) (x : Vec Ideal S1x256x512 .f32) : FVec Ideal S256x512 .f32 :=
  k0_pay9 (F := Ideal) a (View.ld b (Rect.unit ![0, 0, 0] ![1, 256, 512] inb_S3x256x512_S1x256x512_0_0_0)) (View.ld b (Rect.unit ![1, 0, 0] ![1, 256, 512] inb_S3x256x512_S1x256x512_1_0_0)) (View.ld b (Rect.unit ![2, 0, 0] ![1, 256, 512] inb_S3x256x512_S1x256x512_2_0_0)) x

/-- A block of the gradient as it is stored. -/
def total (a : Vec Ideal S1x256x512 .bf16) (b : Vec Ideal S3x256x512 .bf16) : FVec Ideal S1x256x512 .f32 :=
  k0_pay6 (F := Ideal) a (View.ld b (Rect.unit ![0, 0, 0] ![1, 256, 512] inb_S3x256x512_S1x256x512_0_0_0)) (View.ld b (Rect.unit ![1, 0, 0] ![1, 256, 512] inb_S3x256x512_S1x256x512_1_0_0)) (View.ld b (Rect.unit ![2, 0, 0] ![1, 256, 512] inb_S3x256x512_S1x256x512_2_0_0))

/-- A block of the step. -/
def step (w x y : Vec Ideal S1x256x512 .f32) (a : Vec Ideal S1x256x512 .bf16) (b : Vec Ideal S3x256x512 .bf16) : FVec Ideal S1x256x512 .f32 :=
  k0_pay2 (F := Ideal) (gsum a b) (k0_pay7 w) (k0_pay8 y) (mom a b x) k0_pay10

/-- A block of the second moment. -/
def second (a : Vec Ideal S1x256x512 .bf16) (b : Vec Ideal S3x256x512 .bf16) (y : Vec Ideal S1x256x512 .f32) : FVec Ideal S1x256x512 .f32 :=
  k0_pay4 (F := Ideal) (gsum a b) (k0_pay8 y) k0_pay10

/-- What a point writes of the gradient. -/
theorem out5 (t : Fin grid0.N) (y : S1x256x512.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x256x512.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x256x512.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x256x512.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x512x512, .bf16⟩ : BufTy).Contents (Elt Ideal)) (p : Fin 512) (q : Fin 512) :
    Cert.AdamKvReferenceIdeal.Read.val_main_v4 (F := Ideal) x (ix3 0 p q) = (x (ix3 0 p q) + x (ix3 1 p q) + x (ix3 2 p q) : EReal) := by
  have z : Cert.AdamKvReferenceIdeal.Read.val_main_cst (F := Ideal) (Shape.Idx.first Cert.AdamKvReferenceIdeal.Gen.h_S_) = (0 : EReal) := by
    pointwise [Cert.AdamKvReferenceIdeal.Read.val_main_cst]
  rw [Cert.AdamKvReferenceIdeal.Read.val_main_v4_apply, Cert.AdamKvReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 256) (j : Fin 512) :
    gsum (iblk m (ok m) c 3 t) (iblk m (ok m) c 4 t) (ix2 i j) = Cert.AdamKvReferenceIdeal.Read.val_main_v5 (F := Ideal) (m ((c : Thread nD τ).loc main_arg3)) (m ((c : Thread nD τ).loc main_arg4)) (at3 t i j) := by
  unfold gsum at3
  pointwise [k0_pay5, Cert.AdamKvReferenceIdeal.Read.val_main_v5, Cert.AdamKvReferenceIdeal.Read.val_main_v1, Cert.AdamKvReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The first moment of a block, entry by entry. -/
theorem m_at (t : Fin grid0.N) (i : Fin 256) (j : Fin 512) :
    mom (iblk m (ok m) c 3 t) (iblk m (ok m) c 4 t) (iblk m (ok m) c 1 t) (ix2 i j) = Cert.AdamKvReferenceIdeal.Read.val_main_v10 (F := Ideal) (m ((c : Thread nD τ).loc main_arg1)) (m ((c : Thread nD τ).loc main_arg3)) (m ((c : Thread nD τ).loc main_arg4)) (at3 t i j) := by
  have h := g_at m c t i j
  unfold gsum at h
  unfold mom
  pointwise [k0_pay9, Cert.AdamKvReferenceIdeal.Read.val_main_v10, Cert.AdamKvReferenceIdeal.Read.val_main_v9, Cert.AdamKvReferenceIdeal.Read.val_main_v8, Cert.AdamKvReferenceIdeal.Read.val_main_v7, Cert.AdamKvReferenceIdeal.Read.val_main_v6, Cert.AdamKvReferenceIdeal.Read.val_main_cst_0, Cert.AdamKvReferenceIdeal.Read.val_main_cst_1]
  rw [h, blk1_at, V_main_arg1]
  rfl

/-- The second moment of a block, entry by entry. -/
theorem v_at (t : Fin grid0.N) (i : Fin 256) (j : Fin 512) :
    k0_pay1 (F := Ideal) (gsum (iblk m (ok m) c 3 t) (iblk m (ok m) c 4 t)) (k0_pay8 (iblk m (ok m) c 2 t)) k0_pay10 (ix2 i j) =
      Cert.AdamKvReferenceIdeal.Read.val_main_v16 (F := Ideal) (m ((c : Thread nD τ).loc main_arg2)) (m ((c : Thread nD τ).loc main_arg3)) (m ((c : Thread nD τ).loc main_arg4)) (at3 t i j) := by
  pointwise [k0_pay1, k0_pay8, k0_pay10, Cert.AdamKvReferenceIdeal.Read.val_main_v16, Cert.AdamKvReferenceIdeal.Read.val_main_v15, Cert.AdamKvReferenceIdeal.Read.val_main_v14, Cert.AdamKvReferenceIdeal.Read.val_main_v13, Cert.AdamKvReferenceIdeal.Read.val_main_v12, Cert.AdamKvReferenceIdeal.Read.val_main_v11, Cert.AdamKvReferenceIdeal.Read.val_main_cst_2, Cert.AdamKvReferenceIdeal.Read.val_main_cst_3]
  rw [g_at, blk2_at, V_main_arg2]
  rfl

/-- The step of a block, entry by entry. -/
theorem d_at (t : Fin grid0.N) (k : Fin 1) (i : Fin 256) (j : Fin 512) :
    step (iblk m (ok m) c 0 t) (iblk m (ok m) c 1 t) (iblk m (ok m) c 2 t) (iblk m (ok m) c 3 t) (iblk m (ok m) c 4 t) (ix3 k i j) =
      Cert.AdamKvReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (at3 t i j) := by
  unfold step
  pointwise [k0_pay2, k0_pay7, Cert.AdamKvReferenceIdeal.Read.val_main_v29, Cert.AdamKvReferenceIdeal.Read.val_main_v28, Cert.AdamKvReferenceIdeal.Read.val_main_v27, Cert.AdamKvReferenceIdeal.Read.val_main_v26, Cert.AdamKvReferenceIdeal.Read.val_main_v25, Cert.AdamKvReferenceIdeal.Read.val_main_v24, Cert.AdamKvReferenceIdeal.Read.val_main_v23, Cert.AdamKvReferenceIdeal.Read.val_main_v22,
    Cert.AdamKvReferenceIdeal.Read.val_main_v21, Cert.AdamKvReferenceIdeal.Read.val_main_v20, Cert.AdamKvReferenceIdeal.Read.val_main_v19, Cert.AdamKvReferenceIdeal.Read.val_main_v18, Cert.AdamKvReferenceIdeal.Read.val_main_v17, Cert.AdamKvReferenceIdeal.Read.val_main_cst_4, Cert.AdamKvReferenceIdeal.Read.val_main_cst_5, Cert.AdamKvReferenceIdeal.Read.val_main_cst_6, Cert.AdamKvReferenceIdeal.Read.val_main_cst_7, Cert.AdamKvReferenceIdeal.Read.val_main_cst_8]
  rw [m_at, v_at, blk0_at, V_main_arg0]
  rfl

/-- The kernel's gradient is the reference's. -/
theorem same5 : (dats m (ok m) 0 c).arrAt 5 (cfgM m (ok m)).N = Cert.AdamKvReferenceIdeal.Read.val_main_v5 (F := Ideal) (m ((c : Thread nD τ).loc main_arg3)) (m ((c : Thread nD τ).loc main_arg4)) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg _ (emb5 m t k i j)).symm
  refine (out5 m c t (ix3 k i j)).trans ?_
  refine Eq.trans ?_ (g_at m c t i j)
  unfold total
  pointwise [k0_pay6]
  rfl

/-- The kernel's step is the reference's. -/
theorem same6 : (dats m (ok m) 0 c).arrAt 6 (cfgM m (ok m)).N = Cert.AdamKvReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg _ (emb6 m t k i j)).symm
  exact (out6 m c t (ix3 k i j)).trans (d_at m c t k i j)

/-- The kernel's first moment is the reference's. -/
theorem same7 : (dats m (ok m) 0 c).arrAt 7 (cfgM m (ok m)).N = Cert.AdamKvReferenceIdeal.Read.val_main_v10 (F := Ideal) (m ((c : Thread nD τ).loc main_arg1)) (m ((c : Thread nD τ).loc main_arg3)) (m ((c : Thread nD τ).loc main_arg4)) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg _ (emb7 m t k i j)).symm
  refine (out7 m c t (ix3 k i j)).trans ?_
  refine Eq.trans ?_ (m_at m c t i j)
  pointwise [k0_pay3]

/-- The kernel's second moment is the reference's. -/
theorem same8 : (dats m (ok m) 0 c).arrAt 8 (cfgM m (ok m)).N = Cert.AdamKvReferenceIdeal.Read.val_main_v16 (F := Ideal) (m ((c : Thread nD τ).loc main_arg2)) (m ((c : Thread nD τ).loc main_arg3)) (m ((c : Thread nD τ).loc main_arg4)) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg _ (emb8 m t k i j)).symm
  refine (out8 m c t (ix3 k i j)).trans ?_
  refine Eq.trans ?_ (v_at m c t i j)
  unfold second
  pointwise [k0_pay4]

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7, (h c).1 8,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamKvValue

end
-- ==== Proof.AdamMla.lean ====
/- The update of the attention's output projection: its gradient summed, the moments, the step. -/
module

public import proofs.«01_k».proof.Proof.Gen.AdamMla.Frame
public import proofs.«01_k».proof.Proof.Gen.AdamMlaIdeal.Frame
public import proofs.«01_k».proof.Proof.Gen.AdamMlaReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamMlaBits

open Cert.AdamMla Cert.AdamMla.Gen

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x256x2048.size a) i,
    .inr (Affine.block_words_dvd (of_decide_eq_true rfl) (by decide))⟩

end Cert.AdamMlaBits

namespace Cert.AdamMlaValue

open Cert.AdamMlaIdeal Cert.AdamMlaIdeal.Gen

section

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x256x2048.size a) i,
    .inr (Affine.block_words_dvd (of_decide_eq_true rfl) (by decide))⟩

end

/-- The block index of a grid point. -/
theorem idx4 : ∀ t : Fin grid0.N, cc0_transform_4 (grid0.coords t) = ![0, t.val, 0] := by decide +kernel

/-- Every block of the array is some grid point's. -/
theorem onto : ∀ β : (a : Fin 3) → Fin ((S1x256x2048.size a + S1x256x2048.size a - 1) / S1x256x2048.size a),
    ∃ i : grid0.Coords, ∀ a, cc0_transform_4 i a = β a := by decide +kernel

/-- No axis of a block is empty. -/
theorem pos : ∀ a : Fin 3, 0 < S1x256x2048.size a := by decide

/-- An index of a block by its coordinates. -/
theorem split (y : S1x256x2048.Idx) : ∃ (k : Fin 1) (i : Fin 256) (j : Fin 2048), y = ix3 k i j :=
  ⟨y 0, y 1, y 2, by funext k; fin_cases k <;> rfl⟩

/-- The row of the array that row `i` of a point's block is. -/
def row (t : Fin grid0.N) (i : Fin 256) : Fin 256 := ⟨t.val * 256 + i.val, by have ht := lt_of_lt_of_eq t.isLt N_0; omega⟩

variable (m : (ℓ : Loc nD τ sig) → Buf (Elt Ideal) ℓ) (c : Dev nD)

/-- The windows' block indices at a grid point. -/
theorem idx (t : Fin grid0.N) : ((cfgM m (ok m)).win 0).index t = ![0, t.val, 0] ∧ ((cfgM m (ok m)).win 1).index t = ![0, t.val, 0] ∧
    ((cfgM m (ok m)).win 2).index t = ![0, t.val, 0] ∧ ((cfgM m (ok m)).win 3).index t = ![0, t.val, 0] ∧
    ((cfgM m (ok m)).win 4).index t = ![0, t.val, 0] ∧ ((cfgM m (ok m)).win 5).index t = ![0, t.val, 0] ∧
    ((cfgM m (ok m)).win 6).index t = ![0, t.val, 0] ∧ ((cfgM m (ok m)).win 7).index t = ![0, t.val, 0] ∧
    ((cfgM m (ok m)).win 8).index t = ![0, t.val, 0] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 256) (j : Fin 2048) : iblk m (ok m) c 0 t (ix3 k i j) = V m c main_arg0 (ix3 k (row t i) j) := by
  blk_ext [iblk, row, idx m t]

/-- A block of the first moments, read from the array. -/
theorem blk1_at (t : Fin grid0.N) (k : Fin 1) (i : Fin 256) (j : Fin 2048) : iblk m (ok m) c 1 t (ix3 k i j) = V m c main_arg1 (ix3 k (row t i) j) := by
  blk_ext [iblk, row, idx m t]

/-- A block of the second moments, read from the array. -/
theorem blk2_at (t : Fin grid0.N) (k : Fin 1) (i : Fin 256) (j : Fin 2048) : iblk m (ok m) c 2 t (ix3 k i j) = V m c main_arg2 (ix3 k (row t i) j) := by
  blk_ext [iblk, row, idx m t]

/-- A block of the chip's own sums, read from the array. -/
theorem blk3_at (t : Fin grid0.N) (k : Fin 1) (i : Fin 256) (j : Fin 2048) : iblk m (ok m) c 3 t (ix3 k i j) = V m c main_arg3 (ix3 0 (row t i) j) := by
  blk_ext [iblk, row, idx m t]

/-- A block of the sums received, read from the array. -/
theorem blk4_at (t : Fin grid0.N) (k : Fin 3) (i : Fin 256) (j : Fin 2048) : iblk m (ok m) c 4 t (ix3 k i j) = V m c main_arg4 (ix3 k (row t i) j) := by
  blk_ext [iblk, row, idx m t]

/-- The index of the array at a point's block. -/
def at3 (t : Fin grid0.N) (i : Fin 256) (j : Fin 2048) : S1x256x2048.Idx := ix3 0 (row t i) j

/-- Where a point writes its block of the gradient. -/
theorem emb5 (t : Fin grid0.N) (k : Fin 1) (i : Fin 256) (j : Fin 2048) : (((cfgM m (ok m)).win 5).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the step. -/
theorem emb6 (t : Fin grid0.N) (k : Fin 1) (i : Fin 256) (j : Fin 2048) : (((cfgM m (ok m)).win 6).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new first moments. -/
theorem emb7 (t : Fin grid0.N) (k : Fin 1) (i : Fin 256) (j : Fin 2048) : (((cfgM m (ok m)).win 7).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new second moments. -/
theorem emb8 (t : Fin grid0.N) (k : Fin 1) (i : Fin 256) (j : Fin 2048) : (((cfgM m (ok m)).win 8).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- A block of the gradient: the chip's own sums and the three it received. -/
def gsum (a : Vec Ideal S1x256x2048 .bf16) (b : Vec Ideal S3x256x2048 .bf16) : FVec Ideal S256x2048 .f32 :=
  k0_pay5 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the first moment. -/
def mom (a : Vec Ideal S1x256x2048 .bf16) (b : Vec Ideal S3x256x2048 .bf16) (x : Vec Ideal S1x256x2048 .f32) : FVec Ideal S256x2048 .f32 :=
  k0_pay9 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0)) x

/-- A block of the gradient as it is stored. -/
def total (a : Vec Ideal S1x256x2048 .bf16) (b : Vec Ideal S3x256x2048 .bf16) : FVec Ideal S1x256x2048 .f32 :=
  k0_pay6 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the step. -/
def step (w x y : Vec Ideal S1x256x2048 .f32) (a : Vec Ideal S1x256x2048 .bf16) (b : Vec Ideal S3x256x2048 .bf16) : FVec Ideal S1x256x2048 .f32 :=
  k0_pay2 (F := Ideal) (gsum a b) (k0_pay7 w) (k0_pay8 y) (mom a b x) k0_pay10

/-- A block of the second moment. -/
def second (a : Vec Ideal S1x256x2048 .bf16) (b : Vec Ideal S3x256x2048 .bf16) (y : Vec Ideal S1x256x2048 .f32) : FVec Ideal S1x256x2048 .f32 :=
  k0_pay4 (F := Ideal) (gsum a b) (k0_pay8 y) k0_pay10

/-- What a point writes of the gradient. -/
theorem out5 (t : Fin grid0.N) (y : S1x256x2048.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x256x2048.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x256x2048.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x256x2048.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x256x2048, .bf16⟩ : BufTy).Contents (Elt Ideal)) (p : Fin 256) (q : Fin 2048) :
    Cert.AdamMlaReferenceIdeal.Read.val_main_v4 (F := Ideal) x (ix3 0 p q) = (x (ix3 0 p q) + x (ix3 1 p q) + x (ix3 2 p q) : EReal) := by
  have z : Cert.AdamMlaReferenceIdeal.Read.val_main_cst (F := Ideal) (Shape.Idx.first Cert.AdamMlaReferenceIdeal.Gen.h_S_) = (0 : EReal) := by
    pointwise [Cert.AdamMlaReferenceIdeal.Read.val_main_cst]
  rw [Cert.AdamMlaReferenceIdeal.Read.val_main_v4_apply, Cert.AdamMlaReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 256) (j : Fin 2048) :
    gsum (iblk m (ok m) c 3 t) (iblk m (ok m) c 4 t) (ix2 i j) = Cert.AdamMlaReferenceIdeal.Read.val_main_v5 (F := Ideal) (m ((c : Thread nD τ).loc main_arg3)) (m ((c : Thread nD τ).loc main_arg4)) (at3 t i j) := by
  unfold gsum at3
  pointwise [k0_pay5, Cert.AdamMlaReferenceIdeal.Read.val_main_v5, Cert.AdamMlaReferenceIdeal.Read.val_main_v1, Cert.AdamMlaReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The first moment of a block, entry by entry. -/
theorem m_at (t : Fin grid0.N) (i : Fin 256) (j : Fin 2048) :
    mom (iblk m (ok m) c 3 t) (iblk m (ok m) c 4 t) (iblk m (ok m) c 1 t) (ix2 i j) = Cert.AdamMlaReferenceIdeal.Read.val_main_v10 (F := Ideal) (m ((c : Thread nD τ).loc main_arg1)) (m ((c : Thread nD τ).loc main_arg3)) (m ((c : Thread nD τ).loc main_arg4)) (at3 t i j) := by
  have h := g_at m c t i j
  unfold gsum at h
  unfold mom
  pointwise [k0_pay9, Cert.AdamMlaReferenceIdeal.Read.val_main_v10, Cert.AdamMlaReferenceIdeal.Read.val_main_v9, Cert.AdamMlaReferenceIdeal.Read.val_main_v8, Cert.AdamMlaReferenceIdeal.Read.val_main_v7, Cert.AdamMlaReferenceIdeal.Read.val_main_v6, Cert.AdamMlaReferenceIdeal.Read.val_main_cst_0, Cert.AdamMlaReferenceIdeal.Read.val_main_cst_1]
  rw [h, blk1_at, V_main_arg1]
  rfl

/-- The second moment of a block, entry by entry. -/
theorem v_at (t : Fin grid0.N) (i : Fin 256) (j : Fin 2048) :
    k0_pay1 (F := Ideal) (gsum (iblk m (ok m) c 3 t) (iblk m (ok m) c 4 t)) (k0_pay8 (iblk m (ok m) c 2 t)) k0_pay10 (ix2 i j) =
      Cert.AdamMlaReferenceIdeal.Read.val_main_v16 (F := Ideal) (m ((c : Thread nD τ).loc main_arg2)) (m ((c : Thread nD τ).loc main_arg3)) (m ((c : Thread nD τ).loc main_arg4)) (at3 t i j) := by
  pointwise [k0_pay1, k0_pay8, k0_pay10, Cert.AdamMlaReferenceIdeal.Read.val_main_v16, Cert.AdamMlaReferenceIdeal.Read.val_main_v15, Cert.AdamMlaReferenceIdeal.Read.val_main_v14, Cert.AdamMlaReferenceIdeal.Read.val_main_v13, Cert.AdamMlaReferenceIdeal.Read.val_main_v12, Cert.AdamMlaReferenceIdeal.Read.val_main_v11, Cert.AdamMlaReferenceIdeal.Read.val_main_cst_2, Cert.AdamMlaReferenceIdeal.Read.val_main_cst_3]
  rw [g_at, blk2_at, V_main_arg2]
  rfl

/-- The step of a block, entry by entry. -/
theorem d_at (t : Fin grid0.N) (k : Fin 1) (i : Fin 256) (j : Fin 2048) :
    step (iblk m (ok m) c 0 t) (iblk m (ok m) c 1 t) (iblk m (ok m) c 2 t) (iblk m (ok m) c 3 t) (iblk m (ok m) c 4 t) (ix3 k i j) =
      Cert.AdamMlaReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (at3 t i j) := by
  unfold step
  pointwise [k0_pay2, k0_pay7, Cert.AdamMlaReferenceIdeal.Read.val_main_v29, Cert.AdamMlaReferenceIdeal.Read.val_main_v28, Cert.AdamMlaReferenceIdeal.Read.val_main_v27, Cert.AdamMlaReferenceIdeal.Read.val_main_v26, Cert.AdamMlaReferenceIdeal.Read.val_main_v25, Cert.AdamMlaReferenceIdeal.Read.val_main_v24, Cert.AdamMlaReferenceIdeal.Read.val_main_v23, Cert.AdamMlaReferenceIdeal.Read.val_main_v22,
    Cert.AdamMlaReferenceIdeal.Read.val_main_v21, Cert.AdamMlaReferenceIdeal.Read.val_main_v20, Cert.AdamMlaReferenceIdeal.Read.val_main_v19, Cert.AdamMlaReferenceIdeal.Read.val_main_v18, Cert.AdamMlaReferenceIdeal.Read.val_main_v17, Cert.AdamMlaReferenceIdeal.Read.val_main_cst_4, Cert.AdamMlaReferenceIdeal.Read.val_main_cst_5, Cert.AdamMlaReferenceIdeal.Read.val_main_cst_6, Cert.AdamMlaReferenceIdeal.Read.val_main_cst_7, Cert.AdamMlaReferenceIdeal.Read.val_main_cst_8]
  rw [m_at, v_at, blk0_at, V_main_arg0]
  rfl

/-- The kernel's gradient is the reference's. -/
theorem same5 : (dats m (ok m) 0 c).arrAt 5 (cfgM m (ok m)).N = Cert.AdamMlaReferenceIdeal.Read.val_main_v5 (F := Ideal) (m ((c : Thread nD τ).loc main_arg3)) (m ((c : Thread nD τ).loc main_arg4)) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg _ (emb5 m t k i j)).symm
  refine (out5 m c t (ix3 k i j)).trans ?_
  refine Eq.trans ?_ (g_at m c t i j)
  unfold total
  pointwise [k0_pay6]
  rfl

/-- The kernel's step is the reference's. -/
theorem same6 : (dats m (ok m) 0 c).arrAt 6 (cfgM m (ok m)).N = Cert.AdamMlaReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg _ (emb6 m t k i j)).symm
  exact (out6 m c t (ix3 k i j)).trans (d_at m c t k i j)

/-- The kernel's first moment is the reference's. -/
theorem same7 : (dats m (ok m) 0 c).arrAt 7 (cfgM m (ok m)).N = Cert.AdamMlaReferenceIdeal.Read.val_main_v10 (F := Ideal) (m ((c : Thread nD τ).loc main_arg1)) (m ((c : Thread nD τ).loc main_arg3)) (m ((c : Thread nD τ).loc main_arg4)) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg _ (emb7 m t k i j)).symm
  refine (out7 m c t (ix3 k i j)).trans ?_
  refine Eq.trans ?_ (m_at m c t i j)
  pointwise [k0_pay3]

/-- The kernel's second moment is the reference's. -/
theorem same8 : (dats m (ok m) 0 c).arrAt 8 (cfgM m (ok m)).N = Cert.AdamMlaReferenceIdeal.Read.val_main_v16 (F := Ideal) (m ((c : Thread nD τ).loc main_arg2)) (m ((c : Thread nD τ).loc main_arg3)) (m ((c : Thread nD τ).loc main_arg4)) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg _ (emb8 m t k i j)).symm
  refine (out8 m c t (ix3 k i j)).trans ?_
  refine Eq.trans ?_ (v_at m c t i j)
  unfold second
  pointwise [k0_pay4]

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7, (h c).1 8,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamMlaValue

end
-- ==== Proof.AdamOut.lean ====
/- The update of the joint output projection: its gradient summed, the moments, the step. -/
module

public import proofs.«01_k».proof.Proof.Gen.AdamOut.Frame
public import proofs.«01_k».proof.Proof.Gen.AdamOutIdeal.Frame
public import proofs.«01_k».proof.Proof.Gen.AdamOutReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamOutBits

open Cert.AdamOut Cert.AdamOut.Gen

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x256x2048.size a) i,
    .inr (Affine.block_words_dvd (of_decide_eq_true rfl) (by decide))⟩

end Cert.AdamOutBits

namespace Cert.AdamOutValue

open Cert.AdamOutIdeal Cert.AdamOutIdeal.Gen

section

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x256x2048.size a) i,
    .inr (Affine.block_words_dvd (of_decide_eq_true rfl) (by decide))⟩

end

/-- The block index of a grid point. -/
theorem idx4 : ∀ t : Fin grid0.N, cc0_transform_4 (grid0.coords t) = ![0, t.val, 0] := by decide +kernel

/-- Every block of the array is some grid point's. -/
theorem onto : ∀ β : (a : Fin 3) → Fin ((S1x256x2048.size a + S1x256x2048.size a - 1) / S1x256x2048.size a),
    ∃ i : grid0.Coords, ∀ a, cc0_transform_4 i a = β a := by decide +kernel

/-- No axis of a block is empty. -/
theorem pos : ∀ a : Fin 3, 0 < S1x256x2048.size a := by decide

/-- An index of a block by its coordinates. -/
theorem split (y : S1x256x2048.Idx) : ∃ (k : Fin 1) (i : Fin 256) (j : Fin 2048), y = ix3 k i j :=
  ⟨y 0, y 1, y 2, by funext k; fin_cases k <;> rfl⟩

/-- The row of the array that row `i` of a point's block is. -/
def row (t : Fin grid0.N) (i : Fin 256) : Fin 256 := ⟨t.val * 256 + i.val, by have ht := lt_of_lt_of_eq t.isLt N_0; omega⟩

variable (m : (ℓ : Loc nD τ sig) → Buf (Elt Ideal) ℓ) (c : Dev nD)

/-- The windows' block indices at a grid point. -/
theorem idx (t : Fin grid0.N) : ((cfgM m (ok m)).win 0).index t = ![0, t.val, 0] ∧ ((cfgM m (ok m)).win 1).index t = ![0, t.val, 0] ∧
    ((cfgM m (ok m)).win 2).index t = ![0, t.val, 0] ∧ ((cfgM m (ok m)).win 3).index t = ![0, t.val, 0] ∧
    ((cfgM m (ok m)).win 4).index t = ![0, t.val, 0] ∧ ((cfgM m (ok m)).win 5).index t = ![0, t.val, 0] ∧
    ((cfgM m (ok m)).win 6).index t = ![0, t.val, 0] ∧ ((cfgM m (ok m)).win 7).index t = ![0, t.val, 0] ∧
    ((cfgM m (ok m)).win 8).index t = ![0, t.val, 0] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 256) (j : Fin 2048) : iblk m (ok m) c 0 t (ix3 k i j) = V m c main_arg0 (ix3 k (row t i) j) := by
  blk_ext [iblk, row, idx m t]

/-- A block of the first moments, read from the array. -/
theorem blk1_at (t : Fin grid0.N) (k : Fin 1) (i : Fin 256) (j : Fin 2048) : iblk m (ok m) c 1 t (ix3 k i j) = V m c main_arg1 (ix3 k (row t i) j) := by
  blk_ext [iblk, row, idx m t]

/-- A block of the second moments, read from the array. -/
theorem blk2_at (t : Fin grid0.N) (k : Fin 1) (i : Fin 256) (j : Fin 2048) : iblk m (ok m) c 2 t (ix3 k i j) = V m c main_arg2 (ix3 k (row t i) j) := by
  blk_ext [iblk, row, idx m t]

/-- A block of the chip's own sums, read from the array. -/
theorem blk3_at (t : Fin grid0.N) (k : Fin 1) (i : Fin 256) (j : Fin 2048) : iblk m (ok m) c 3 t (ix3 k i j) = V m c main_arg3 (ix3 0 (row t i) j) := by
  blk_ext [iblk, row, idx m t]

/-- A block of the sums received, read from the array. -/
theorem blk4_at (t : Fin grid0.N) (k : Fin 3) (i : Fin 256) (j : Fin 2048) : iblk m (ok m) c 4 t (ix3 k i j) = V m c main_arg4 (ix3 k (row t i) j) := by
  blk_ext [iblk, row, idx m t]

/-- The index of the array at a point's block. -/
def at3 (t : Fin grid0.N) (i : Fin 256) (j : Fin 2048) : S1x256x2048.Idx := ix3 0 (row t i) j

/-- Where a point writes its block of the gradient. -/
theorem emb5 (t : Fin grid0.N) (k : Fin 1) (i : Fin 256) (j : Fin 2048) : (((cfgM m (ok m)).win 5).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the step. -/
theorem emb6 (t : Fin grid0.N) (k : Fin 1) (i : Fin 256) (j : Fin 2048) : (((cfgM m (ok m)).win 6).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new first moments. -/
theorem emb7 (t : Fin grid0.N) (k : Fin 1) (i : Fin 256) (j : Fin 2048) : (((cfgM m (ok m)).win 7).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new second moments. -/
theorem emb8 (t : Fin grid0.N) (k : Fin 1) (i : Fin 256) (j : Fin 2048) : (((cfgM m (ok m)).win 8).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- A block of the gradient: the chip's own sums and the three it received. -/
def gsum (a : Vec Ideal S1x256x2048 .bf16) (b : Vec Ideal S3x256x2048 .bf16) : FVec Ideal S256x2048 .f32 :=
  k0_pay5 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the first moment. -/
def mom (a : Vec Ideal S1x256x2048 .bf16) (b : Vec Ideal S3x256x2048 .bf16) (x : Vec Ideal S1x256x2048 .f32) : FVec Ideal S256x2048 .f32 :=
  k0_pay9 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0)) x

/-- A block of the gradient as it is stored. -/
def total (a : Vec Ideal S1x256x2048 .bf16) (b : Vec Ideal S3x256x2048 .bf16) : FVec Ideal S1x256x2048 .f32 :=
  k0_pay6 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the step. -/
def step (w x y : Vec Ideal S1x256x2048 .f32) (a : Vec Ideal S1x256x2048 .bf16) (b : Vec Ideal S3x256x2048 .bf16) : FVec Ideal S1x256x2048 .f32 :=
  k0_pay2 (F := Ideal) (gsum a b) (k0_pay7 w) (k0_pay8 y) (mom a b x) k0_pay10

/-- A block of the second moment. -/
def second (a : Vec Ideal S1x256x2048 .bf16) (b : Vec Ideal S3x256x2048 .bf16) (y : Vec Ideal S1x256x2048 .f32) : FVec Ideal S1x256x2048 .f32 :=
  k0_pay4 (F := Ideal) (gsum a b) (k0_pay8 y) k0_pay10

/-- What a point writes of the gradient. -/
theorem out5 (t : Fin grid0.N) (y : S1x256x2048.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x256x2048.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x256x2048.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x256x2048.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x256x2048, .bf16⟩ : BufTy).Contents (Elt Ideal)) (p : Fin 256) (q : Fin 2048) :
    Cert.AdamOutReferenceIdeal.Read.val_main_v4 (F := Ideal) x (ix3 0 p q) = (x (ix3 0 p q) + x (ix3 1 p q) + x (ix3 2 p q) : EReal) := by
  have z : Cert.AdamOutReferenceIdeal.Read.val_main_cst (F := Ideal) (Shape.Idx.first Cert.AdamOutReferenceIdeal.Gen.h_S_) = (0 : EReal) := by
    pointwise [Cert.AdamOutReferenceIdeal.Read.val_main_cst]
  rw [Cert.AdamOutReferenceIdeal.Read.val_main_v4_apply, Cert.AdamOutReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 256) (j : Fin 2048) :
    gsum (iblk m (ok m) c 3 t) (iblk m (ok m) c 4 t) (ix2 i j) = Cert.AdamOutReferenceIdeal.Read.val_main_v5 (F := Ideal) (m ((c : Thread nD τ).loc main_arg3)) (m ((c : Thread nD τ).loc main_arg4)) (at3 t i j) := by
  unfold gsum at3
  pointwise [k0_pay5, Cert.AdamOutReferenceIdeal.Read.val_main_v5, Cert.AdamOutReferenceIdeal.Read.val_main_v1, Cert.AdamOutReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The first moment of a block, entry by entry. -/
theorem m_at (t : Fin grid0.N) (i : Fin 256) (j : Fin 2048) :
    mom (iblk m (ok m) c 3 t) (iblk m (ok m) c 4 t) (iblk m (ok m) c 1 t) (ix2 i j) = Cert.AdamOutReferenceIdeal.Read.val_main_v10 (F := Ideal) (m ((c : Thread nD τ).loc main_arg1)) (m ((c : Thread nD τ).loc main_arg3)) (m ((c : Thread nD τ).loc main_arg4)) (at3 t i j) := by
  have h := g_at m c t i j
  unfold gsum at h
  unfold mom
  pointwise [k0_pay9, Cert.AdamOutReferenceIdeal.Read.val_main_v10, Cert.AdamOutReferenceIdeal.Read.val_main_v9, Cert.AdamOutReferenceIdeal.Read.val_main_v8, Cert.AdamOutReferenceIdeal.Read.val_main_v7, Cert.AdamOutReferenceIdeal.Read.val_main_v6, Cert.AdamOutReferenceIdeal.Read.val_main_cst_0, Cert.AdamOutReferenceIdeal.Read.val_main_cst_1]
  rw [h, blk1_at, V_main_arg1]
  rfl

/-- The second moment of a block, entry by entry. -/
theorem v_at (t : Fin grid0.N) (i : Fin 256) (j : Fin 2048) :
    k0_pay1 (F := Ideal) (gsum (iblk m (ok m) c 3 t) (iblk m (ok m) c 4 t)) (k0_pay8 (iblk m (ok m) c 2 t)) k0_pay10 (ix2 i j) =
      Cert.AdamOutReferenceIdeal.Read.val_main_v16 (F := Ideal) (m ((c : Thread nD τ).loc main_arg2)) (m ((c : Thread nD τ).loc main_arg3)) (m ((c : Thread nD τ).loc main_arg4)) (at3 t i j) := by
  pointwise [k0_pay1, k0_pay8, k0_pay10, Cert.AdamOutReferenceIdeal.Read.val_main_v16, Cert.AdamOutReferenceIdeal.Read.val_main_v15, Cert.AdamOutReferenceIdeal.Read.val_main_v14, Cert.AdamOutReferenceIdeal.Read.val_main_v13, Cert.AdamOutReferenceIdeal.Read.val_main_v12, Cert.AdamOutReferenceIdeal.Read.val_main_v11, Cert.AdamOutReferenceIdeal.Read.val_main_cst_2, Cert.AdamOutReferenceIdeal.Read.val_main_cst_3]
  rw [g_at, blk2_at, V_main_arg2]
  rfl

/-- The step of a block, entry by entry. -/
theorem d_at (t : Fin grid0.N) (k : Fin 1) (i : Fin 256) (j : Fin 2048) :
    step (iblk m (ok m) c 0 t) (iblk m (ok m) c 1 t) (iblk m (ok m) c 2 t) (iblk m (ok m) c 3 t) (iblk m (ok m) c 4 t) (ix3 k i j) =
      Cert.AdamOutReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (at3 t i j) := by
  unfold step
  pointwise [k0_pay2, k0_pay7, Cert.AdamOutReferenceIdeal.Read.val_main_v29, Cert.AdamOutReferenceIdeal.Read.val_main_v28, Cert.AdamOutReferenceIdeal.Read.val_main_v27, Cert.AdamOutReferenceIdeal.Read.val_main_v26, Cert.AdamOutReferenceIdeal.Read.val_main_v25, Cert.AdamOutReferenceIdeal.Read.val_main_v24, Cert.AdamOutReferenceIdeal.Read.val_main_v23, Cert.AdamOutReferenceIdeal.Read.val_main_v22,
    Cert.AdamOutReferenceIdeal.Read.val_main_v21, Cert.AdamOutReferenceIdeal.Read.val_main_v20, Cert.AdamOutReferenceIdeal.Read.val_main_v19, Cert.AdamOutReferenceIdeal.Read.val_main_v18, Cert.AdamOutReferenceIdeal.Read.val_main_v17, Cert.AdamOutReferenceIdeal.Read.val_main_cst_4, Cert.AdamOutReferenceIdeal.Read.val_main_cst_5, Cert.AdamOutReferenceIdeal.Read.val_main_cst_6, Cert.AdamOutReferenceIdeal.Read.val_main_cst_7, Cert.AdamOutReferenceIdeal.Read.val_main_cst_8]
  rw [m_at, v_at, blk0_at, V_main_arg0]
  rfl

/-- The kernel's gradient is the reference's. -/
theorem same5 : (dats m (ok m) 0 c).arrAt 5 (cfgM m (ok m)).N = Cert.AdamOutReferenceIdeal.Read.val_main_v5 (F := Ideal) (m ((c : Thread nD τ).loc main_arg3)) (m ((c : Thread nD τ).loc main_arg4)) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg _ (emb5 m t k i j)).symm
  refine (out5 m c t (ix3 k i j)).trans ?_
  refine Eq.trans ?_ (g_at m c t i j)
  unfold total
  pointwise [k0_pay6]
  rfl

/-- The kernel's step is the reference's. -/
theorem same6 : (dats m (ok m) 0 c).arrAt 6 (cfgM m (ok m)).N = Cert.AdamOutReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg _ (emb6 m t k i j)).symm
  exact (out6 m c t (ix3 k i j)).trans (d_at m c t k i j)

/-- The kernel's first moment is the reference's. -/
theorem same7 : (dats m (ok m) 0 c).arrAt 7 (cfgM m (ok m)).N = Cert.AdamOutReferenceIdeal.Read.val_main_v10 (F := Ideal) (m ((c : Thread nD τ).loc main_arg1)) (m ((c : Thread nD τ).loc main_arg3)) (m ((c : Thread nD τ).loc main_arg4)) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg _ (emb7 m t k i j)).symm
  refine (out7 m c t (ix3 k i j)).trans ?_
  refine Eq.trans ?_ (m_at m c t i j)
  pointwise [k0_pay3]

/-- The kernel's second moment is the reference's. -/
theorem same8 : (dats m (ok m) 0 c).arrAt 8 (cfgM m (ok m)).N = Cert.AdamOutReferenceIdeal.Read.val_main_v16 (F := Ideal) (m ((c : Thread nD τ).loc main_arg2)) (m ((c : Thread nD τ).loc main_arg3)) (m ((c : Thread nD τ).loc main_arg4)) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg _ (emb8 m t k i j)).symm
  refine (out8 m c t (ix3 k i j)).trans ?_
  refine Eq.trans ?_ (v_at m c t i j)
  unfold second
  pointwise [k0_pay4]

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7, (h c).1 8,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamOutValue

end
-- ==== Proof.AdamUp.lean ====
/- The update of the feed-forward up-projection: its gradient summed, the moments, the step. -/
module

public import proofs.«01_k».proof.Proof.Gen.AdamUp.Frame
public import proofs.«01_k».proof.Proof.Gen.AdamUpIdeal.Frame
public import proofs.«01_k».proof.Proof.Gen.AdamUpReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamUpBits

open Cert.AdamUp Cert.AdamUp.Gen

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x1024.size a ≤ S4x2048x1024.size a) i,
    .inr (Affine.block_words_dvd (of_decide_eq_true rfl) (by decide))⟩

end Cert.AdamUpBits

namespace Cert.AdamUpValue

open Cert.AdamUpIdeal Cert.AdamUpIdeal.Gen

section

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x1024.size a ≤ S4x2048x1024.size a) i,
    .inr (Affine.block_words_dvd (of_decide_eq_true rfl) (by decide))⟩

end

/-- The block index of a grid point. -/
theorem idx4 : ∀ t : Fin grid0.N, cc0_transform_4 (grid0.coords t) = ![0, t.val, 0] := by decide +kernel

/-- Every block of the array is some grid point's. -/
theorem onto : ∀ β : (a : Fin 3) → Fin ((S1x2048x1024.size a + S1x256x1024.size a - 1) / S1x256x1024.size a),
    ∃ i : grid0.Coords, ∀ a, cc0_transform_4 i a = β a := by decide +kernel

/-- No axis of a block is empty. -/
theorem pos : ∀ a : Fin 3, 0 < S1x256x1024.size a := by decide

/-- An index of a block by its coordinates. -/
theorem split (y : S1x256x1024.Idx) : ∃ (k : Fin 1) (i : Fin 256) (j : Fin 1024), y = ix3 k i j :=
  ⟨y 0, y 1, y 2, by funext k; fin_cases k <;> rfl⟩

/-- The row of the array that row `i` of a point's block is. -/
def row (t : Fin grid0.N) (i : Fin 256) : Fin 2048 := ⟨t.val * 256 + i.val, by have ht := lt_of_lt_of_eq t.isLt N_0; omega⟩

variable (m : (ℓ : Loc nD τ sig) → Buf (Elt Ideal) ℓ) (c : Dev nD)

/-- The windows' block indices at a grid point. -/
theorem idx (t : Fin grid0.N) : ((cfgM m (ok m)).win 0).index t = ![0, t.val, 0] ∧ ((cfgM m (ok m)).win 1).index t = ![0, t.val, 0] ∧
    ((cfgM m (ok m)).win 2).index t = ![0, t.val, 0] ∧ ((cfgM m (ok m)).win 3).index t = ![0, t.val, 0] ∧
    ((cfgM m (ok m)).win 4).index t = ![0, t.val, 0] ∧ ((cfgM m (ok m)).win 5).index t = ![0, t.val, 0] ∧
    ((cfgM m (ok m)).win 6).index t = ![0, t.val, 0] ∧ ((cfgM m (ok m)).win 7).index t = ![0, t.val, 0] ∧
    ((cfgM m (ok m)).win 8).index t = ![0, t.val, 0] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 256) (j : Fin 1024) : iblk m (ok m) c 0 t (ix3 k i j) = V m c main_arg0 (ix3 k (row t i) j) := by
  blk_ext [iblk, row, idx m t]

/-- A block of the first moments, read from the array. -/
theorem blk1_at (t : Fin grid0.N) (k : Fin 1) (i : Fin 256) (j : Fin 1024) : iblk m (ok m) c 1 t (ix3 k i j) = V m c main_arg1 (ix3 k (row t i) j) := by
  blk_ext [iblk, row, idx m t]

/-- A block of the second moments, read from the array. -/
theorem blk2_at (t : Fin grid0.N) (k : Fin 1) (i : Fin 256) (j : Fin 1024) : iblk m (ok m) c 2 t (ix3 k i j) = V m c main_arg2 (ix3 k (row t i) j) := by
  blk_ext [iblk, row, idx m t]

/-- A block of the chip's own sums, read from the array. -/
theorem blk3_at (t : Fin grid0.N) (k : Fin 1) (i : Fin 256) (j : Fin 1024) : iblk m (ok m) c 3 t (ix3 k i j) = V m c main_arg3 (ix3 0 (row t i) j) := by
  blk_ext [iblk, row, idx m t]

/-- A block of the sums received, read from the array. -/
theorem blk4_at (t : Fin grid0.N) (k : Fin 3) (i : Fin 256) (j : Fin 1024) : iblk m (ok m) c 4 t (ix3 k i j) = V m c main_arg4 (ix3 k (row t i) j) := by
  blk_ext [iblk, row, idx m t]

/-- The index of the array at a point's block. -/
def at3 (t : Fin grid0.N) (i : Fin 256) (j : Fin 1024) : S1x2048x1024.Idx := ix3 0 (row t i) j

/-- Where a point writes its block of the gradient. -/
theorem emb5 (t : Fin grid0.N) (k : Fin 1) (i : Fin 256) (j : Fin 1024) : (((cfgM m (ok m)).win 5).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the step. -/
theorem emb6 (t : Fin grid0.N) (k : Fin 1) (i : Fin 256) (j : Fin 1024) : (((cfgM m (ok m)).win 6).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new first moments. -/
theorem emb7 (t : Fin grid0.N) (k : Fin 1) (i : Fin 256) (j : Fin 1024) : (((cfgM m (ok m)).win 7).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new second moments. -/
theorem emb8 (t : Fin grid0.N) (k : Fin 1) (i : Fin 256) (j : Fin 1024) : (((cfgM m (ok m)).win 8).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- A block of the gradient: the chip's own sums and the three it received. -/
def gsum (a : Vec Ideal S1x256x1024 .bf16) (b : Vec Ideal S3x256x1024 .bf16) : FVec Ideal S256x1024 .f32 :=
  k0_pay5 (F := Ideal) a (View.ld b (Rect.unit ![0, 0, 0] ![1, 256, 1024] inb_S3x256x1024_S1x256x1024_0_0_0)) (View.ld b (Rect.unit ![1, 0, 0] ![1, 256, 1024] inb_S3x256x1024_S1x256x1024_1_0_0)) (View.ld b (Rect.unit ![2, 0, 0] ![1, 256, 1024] inb_S3x256x1024_S1x256x1024_2_0_0))

/-- A block of the first moment. -/
def mom (a : Vec Ideal S1x256x1024 .bf16) (b : Vec Ideal S3x256x1024 .bf16) (x : Vec Ideal S1x256x1024 .f32) : FVec Ideal S256x1024 .f32 :=
  k0_pay9 (F := Ideal) a (View.ld b (Rect.unit ![0, 0, 0] ![1, 256, 1024] inb_S3x256x1024_S1x256x1024_0_0_0)) (View.ld b (Rect.unit ![1, 0, 0] ![1, 256, 1024] inb_S3x256x1024_S1x256x1024_1_0_0)) (View.ld b (Rect.unit ![2, 0, 0] ![1, 256, 1024] inb_S3x256x1024_S1x256x1024_2_0_0)) x

/-- A block of the gradient as it is stored. -/
def total (a : Vec Ideal S1x256x1024 .bf16) (b : Vec Ideal S3x256x1024 .bf16) : FVec Ideal S1x256x1024 .f32 :=
  k0_pay6 (F := Ideal) a (View.ld b (Rect.unit ![0, 0, 0] ![1, 256, 1024] inb_S3x256x1024_S1x256x1024_0_0_0)) (View.ld b (Rect.unit ![1, 0, 0] ![1, 256, 1024] inb_S3x256x1024_S1x256x1024_1_0_0)) (View.ld b (Rect.unit ![2, 0, 0] ![1, 256, 1024] inb_S3x256x1024_S1x256x1024_2_0_0))

/-- A block of the step. -/
def step (w x y : Vec Ideal S1x256x1024 .f32) (a : Vec Ideal S1x256x1024 .bf16) (b : Vec Ideal S3x256x1024 .bf16) : FVec Ideal S1x256x1024 .f32 :=
  k0_pay2 (F := Ideal) (gsum a b) (k0_pay7 w) (k0_pay8 y) (mom a b x) k0_pay10

/-- A block of the second moment. -/
def second (a : Vec Ideal S1x256x1024 .bf16) (b : Vec Ideal S3x256x1024 .bf16) (y : Vec Ideal S1x256x1024 .f32) : FVec Ideal S1x256x1024 .f32 :=
  k0_pay4 (F := Ideal) (gsum a b) (k0_pay8 y) k0_pay10

/-- What a point writes of the gradient. -/
theorem out5 (t : Fin grid0.N) (y : S1x256x1024.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x256x1024.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x256x1024.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x256x1024.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x2048x1024, .bf16⟩ : BufTy).Contents (Elt Ideal)) (p : Fin 2048) (q : Fin 1024) :
    Cert.AdamUpReferenceIdeal.Read.val_main_v4 (F := Ideal) x (ix3 0 p q) = (x (ix3 0 p q) + x (ix3 1 p q) + x (ix3 2 p q) : EReal) := by
  have z : Cert.AdamUpReferenceIdeal.Read.val_main_cst (F := Ideal) (Shape.Idx.first Cert.AdamUpReferenceIdeal.Gen.h_S_) = (0 : EReal) := by
    pointwise [Cert.AdamUpReferenceIdeal.Read.val_main_cst]
  rw [Cert.AdamUpReferenceIdeal.Read.val_main_v4_apply, Cert.AdamUpReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 256) (j : Fin 1024) :
    gsum (iblk m (ok m) c 3 t) (iblk m (ok m) c 4 t) (ix2 i j) = Cert.AdamUpReferenceIdeal.Read.val_main_v5 (F := Ideal) (m ((c : Thread nD τ).loc main_arg3)) (m ((c : Thread nD τ).loc main_arg4)) (at3 t i j) := by
  unfold gsum at3
  pointwise [k0_pay5, Cert.AdamUpReferenceIdeal.Read.val_main_v5, Cert.AdamUpReferenceIdeal.Read.val_main_v1, Cert.AdamUpReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The first moment of a block, entry by entry. -/
theorem m_at (t : Fin grid0.N) (i : Fin 256) (j : Fin 1024) :
    mom (iblk m (ok m) c 3 t) (iblk m (ok m) c 4 t) (iblk m (ok m) c 1 t) (ix2 i j) = Cert.AdamUpReferenceIdeal.Read.val_main_v10 (F := Ideal) (m ((c : Thread nD τ).loc main_arg1)) (m ((c : Thread nD τ).loc main_arg3)) (m ((c : Thread nD τ).loc main_arg4)) (at3 t i j) := by
  have h := g_at m c t i j
  unfold gsum at h
  unfold mom
  pointwise [k0_pay9, Cert.AdamUpReferenceIdeal.Read.val_main_v10, Cert.AdamUpReferenceIdeal.Read.val_main_v9, Cert.AdamUpReferenceIdeal.Read.val_main_v8, Cert.AdamUpReferenceIdeal.Read.val_main_v7, Cert.AdamUpReferenceIdeal.Read.val_main_v6, Cert.AdamUpReferenceIdeal.Read.val_main_cst_0, Cert.AdamUpReferenceIdeal.Read.val_main_cst_1]
  rw [h, blk1_at, V_main_arg1]
  rfl

/-- The second moment of a block, entry by entry. -/
theorem v_at (t : Fin grid0.N) (i : Fin 256) (j : Fin 1024) :
    k0_pay1 (F := Ideal) (gsum (iblk m (ok m) c 3 t) (iblk m (ok m) c 4 t)) (k0_pay8 (iblk m (ok m) c 2 t)) k0_pay10 (ix2 i j) =
      Cert.AdamUpReferenceIdeal.Read.val_main_v16 (F := Ideal) (m ((c : Thread nD τ).loc main_arg2)) (m ((c : Thread nD τ).loc main_arg3)) (m ((c : Thread nD τ).loc main_arg4)) (at3 t i j) := by
  pointwise [k0_pay1, k0_pay8, k0_pay10, Cert.AdamUpReferenceIdeal.Read.val_main_v16, Cert.AdamUpReferenceIdeal.Read.val_main_v15, Cert.AdamUpReferenceIdeal.Read.val_main_v14, Cert.AdamUpReferenceIdeal.Read.val_main_v13, Cert.AdamUpReferenceIdeal.Read.val_main_v12, Cert.AdamUpReferenceIdeal.Read.val_main_v11, Cert.AdamUpReferenceIdeal.Read.val_main_cst_2, Cert.AdamUpReferenceIdeal.Read.val_main_cst_3]
  rw [g_at, blk2_at, V_main_arg2]
  rfl

/-- The step of a block, entry by entry. -/
theorem d_at (t : Fin grid0.N) (k : Fin 1) (i : Fin 256) (j : Fin 1024) :
    step (iblk m (ok m) c 0 t) (iblk m (ok m) c 1 t) (iblk m (ok m) c 2 t) (iblk m (ok m) c 3 t) (iblk m (ok m) c 4 t) (ix3 k i j) =
      Cert.AdamUpReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (at3 t i j) := by
  unfold step
  pointwise [k0_pay2, k0_pay7, Cert.AdamUpReferenceIdeal.Read.val_main_v29, Cert.AdamUpReferenceIdeal.Read.val_main_v28, Cert.AdamUpReferenceIdeal.Read.val_main_v27, Cert.AdamUpReferenceIdeal.Read.val_main_v26, Cert.AdamUpReferenceIdeal.Read.val_main_v25, Cert.AdamUpReferenceIdeal.Read.val_main_v24, Cert.AdamUpReferenceIdeal.Read.val_main_v23, Cert.AdamUpReferenceIdeal.Read.val_main_v22,
    Cert.AdamUpReferenceIdeal.Read.val_main_v21, Cert.AdamUpReferenceIdeal.Read.val_main_v20, Cert.AdamUpReferenceIdeal.Read.val_main_v19, Cert.AdamUpReferenceIdeal.Read.val_main_v18, Cert.AdamUpReferenceIdeal.Read.val_main_v17, Cert.AdamUpReferenceIdeal.Read.val_main_cst_4, Cert.AdamUpReferenceIdeal.Read.val_main_cst_5, Cert.AdamUpReferenceIdeal.Read.val_main_cst_6, Cert.AdamUpReferenceIdeal.Read.val_main_cst_7, Cert.AdamUpReferenceIdeal.Read.val_main_cst_8]
  rw [m_at, v_at, blk0_at, V_main_arg0]
  rfl

/-- The kernel's gradient is the reference's. -/
theorem same5 : (dats m (ok m) 0 c).arrAt 5 (cfgM m (ok m)).N = Cert.AdamUpReferenceIdeal.Read.val_main_v5 (F := Ideal) (m ((c : Thread nD τ).loc main_arg3)) (m ((c : Thread nD τ).loc main_arg4)) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg _ (emb5 m t k i j)).symm
  refine (out5 m c t (ix3 k i j)).trans ?_
  refine Eq.trans ?_ (g_at m c t i j)
  unfold total
  pointwise [k0_pay6]
  rfl

/-- The kernel's step is the reference's. -/
theorem same6 : (dats m (ok m) 0 c).arrAt 6 (cfgM m (ok m)).N = Cert.AdamUpReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg _ (emb6 m t k i j)).symm
  exact (out6 m c t (ix3 k i j)).trans (d_at m c t k i j)

/-- The kernel's first moment is the reference's. -/
theorem same7 : (dats m (ok m) 0 c).arrAt 7 (cfgM m (ok m)).N = Cert.AdamUpReferenceIdeal.Read.val_main_v10 (F := Ideal) (m ((c : Thread nD τ).loc main_arg1)) (m ((c : Thread nD τ).loc main_arg3)) (m ((c : Thread nD τ).loc main_arg4)) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg _ (emb7 m t k i j)).symm
  refine (out7 m c t (ix3 k i j)).trans ?_
  refine Eq.trans ?_ (m_at m c t i j)
  pointwise [k0_pay3]

/-- The kernel's second moment is the reference's. -/
theorem same8 : (dats m (ok m) 0 c).arrAt 8 (cfgM m (ok m)).N = Cert.AdamUpReferenceIdeal.Read.val_main_v16 (F := Ideal) (m ((c : Thread nD τ).loc main_arg2)) (m ((c : Thread nD τ).loc main_arg3)) (m ((c : Thread nD τ).loc main_arg4)) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg _ (emb8 m t k i j)).symm
  refine (out8 m c t (ix3 k i j)).trans ?_
  refine Eq.trans ?_ (v_at m c t i j)
  unfold second
  pointwise [k0_pay4]

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7, (h c).1 8,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamUpValue

end
-- ==== Proof.AdamDown.lean ====
/- The update of the feed-forward down-projection: its gradient summed, the moments, the step. -/
module

public import proofs.«01_k».proof.Proof.Gen.AdamDown.Frame
public import proofs.«01_k».proof.Proof.Gen.AdamDownIdeal.Frame
public import proofs.«01_k».proof.Proof.Gen.AdamDownReferenceIdeal.Read
public import Idealize.ShloMosaic.Lib.Pipeline.ValueKit
public import Idealize.ShloMosaic.Lib.Pipeline.Covers
public import Idealize.ShloMosaic.Lib.KernelVsHost
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem

namespace Cert.AdamDownBits

open Cert.AdamDown Cert.AdamDown.Gen

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x1024x2048.size a) i,
    .inr (Affine.block_words_dvd (of_decide_eq_true rfl) (by decide))⟩

end Cert.AdamDownBits

namespace Cert.AdamDownValue

open Cert.AdamDownIdeal Cert.AdamDownIdeal.Gen

section

variable {F : FTy → Type} [FloatOps F] (m : (ℓ : Loc nD τ sig) → Buf (Elt F) ℓ)

/-- The chip's index the call is handed is zero. -/
theorem table : tbl m 0 = fun _ => 0#32 := by
  show V m 0 main_v0 = _
  after_reads_simp
  rfl

/-- So the block of the chip's own sums is the block of the first chip. -/
theorem index (i : grid0.Coords) : cc0_transform_3 inb_S1_S1_0 numel1_S1 (tbl m) i = cc0_transform_4 i := by
  unfold cc0_transform_3 Pipeline.Prefetch.Contents.at
  rw [table]
  rfl

/-- That block lies inside the array of the sums, at every grid point. -/
theorem ok : Ok m := by
  intro i
  rw [index]
  exact ⟨(by decide +kernel : ∀ (i : grid0.Coords) a, (cc0_transform_4 i a + 1) * S1x256x2048.size a ≤ S4x1024x2048.size a) i,
    .inr (Affine.block_words_dvd (of_decide_eq_true rfl) (by decide))⟩

end

/-- The block index of a grid point. -/
theorem idx4 : ∀ t : Fin grid0.N, cc0_transform_4 (grid0.coords t) = ![0, t.val, 0] := by decide +kernel

/-- Every block of the array is some grid point's. -/
theorem onto : ∀ β : (a : Fin 3) → Fin ((S1x1024x2048.size a + S1x256x2048.size a - 1) / S1x256x2048.size a),
    ∃ i : grid0.Coords, ∀ a, cc0_transform_4 i a = β a := by decide +kernel

/-- No axis of a block is empty. -/
theorem pos : ∀ a : Fin 3, 0 < S1x256x2048.size a := by decide

/-- An index of a block by its coordinates. -/
theorem split (y : S1x256x2048.Idx) : ∃ (k : Fin 1) (i : Fin 256) (j : Fin 2048), y = ix3 k i j :=
  ⟨y 0, y 1, y 2, by funext k; fin_cases k <;> rfl⟩

/-- The row of the array that row `i` of a point's block is. -/
def row (t : Fin grid0.N) (i : Fin 256) : Fin 1024 := ⟨t.val * 256 + i.val, by have ht := lt_of_lt_of_eq t.isLt N_0; omega⟩

variable (m : (ℓ : Loc nD τ sig) → Buf (Elt Ideal) ℓ) (c : Dev nD)

/-- The windows' block indices at a grid point. -/
theorem idx (t : Fin grid0.N) : ((cfgM m (ok m)).win 0).index t = ![0, t.val, 0] ∧ ((cfgM m (ok m)).win 1).index t = ![0, t.val, 0] ∧
    ((cfgM m (ok m)).win 2).index t = ![0, t.val, 0] ∧ ((cfgM m (ok m)).win 3).index t = ![0, t.val, 0] ∧
    ((cfgM m (ok m)).win 4).index t = ![0, t.val, 0] ∧ ((cfgM m (ok m)).win 5).index t = ![0, t.val, 0] ∧
    ((cfgM m (ok m)).win 6).index t = ![0, t.val, 0] ∧ ((cfgM m (ok m)).win 7).index t = ![0, t.val, 0] ∧
    ((cfgM m (ok m)).win 8).index t = ![0, t.val, 0] :=
  ⟨idx4 t, idx4 t, idx4 t, (index m _).trans (idx4 t), idx4 t, idx4 t, idx4 t, idx4 t, idx4 t⟩

/-- A block of the weights, read from the array. -/
theorem blk0_at (t : Fin grid0.N) (k : Fin 1) (i : Fin 256) (j : Fin 2048) : iblk m (ok m) c 0 t (ix3 k i j) = V m c main_arg0 (ix3 k (row t i) j) := by
  blk_ext [iblk, row, idx m t]

/-- A block of the first moments, read from the array. -/
theorem blk1_at (t : Fin grid0.N) (k : Fin 1) (i : Fin 256) (j : Fin 2048) : iblk m (ok m) c 1 t (ix3 k i j) = V m c main_arg1 (ix3 k (row t i) j) := by
  blk_ext [iblk, row, idx m t]

/-- A block of the second moments, read from the array. -/
theorem blk2_at (t : Fin grid0.N) (k : Fin 1) (i : Fin 256) (j : Fin 2048) : iblk m (ok m) c 2 t (ix3 k i j) = V m c main_arg2 (ix3 k (row t i) j) := by
  blk_ext [iblk, row, idx m t]

/-- A block of the chip's own sums, read from the array. -/
theorem blk3_at (t : Fin grid0.N) (k : Fin 1) (i : Fin 256) (j : Fin 2048) : iblk m (ok m) c 3 t (ix3 k i j) = V m c main_arg3 (ix3 0 (row t i) j) := by
  blk_ext [iblk, row, idx m t]

/-- A block of the sums received, read from the array. -/
theorem blk4_at (t : Fin grid0.N) (k : Fin 3) (i : Fin 256) (j : Fin 2048) : iblk m (ok m) c 4 t (ix3 k i j) = V m c main_arg4 (ix3 k (row t i) j) := by
  blk_ext [iblk, row, idx m t]

/-- The index of the array at a point's block. -/
def at3 (t : Fin grid0.N) (i : Fin 256) (j : Fin 2048) : S1x1024x2048.Idx := ix3 0 (row t i) j

/-- Where a point writes its block of the gradient. -/
theorem emb5 (t : Fin grid0.N) (k : Fin 1) (i : Fin 256) (j : Fin 2048) : (((cfgM m (ok m)).win 5).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the step. -/
theorem emb6 (t : Fin grid0.N) (k : Fin 1) (i : Fin 256) (j : Fin 2048) : (((cfgM m (ok m)).win 6).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new first moments. -/
theorem emb7 (t : Fin grid0.N) (k : Fin 1) (i : Fin 256) (j : Fin 2048) : (((cfgM m (ok m)).win 7).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- Where a point writes its block of the new second moments. -/
theorem emb8 (t : Fin grid0.N) (k : Fin 1) (i : Fin 256) (j : Fin 2048) : (((cfgM m (ok m)).win 8).blk t).view.emb (ix3 k i j) = at3 t i j := by
  funext a; fin_cases a <;> refine Fin.ext ?_ <;> blk_simp [idx m t] <;> first | rfl | (have ht := lt_of_lt_of_eq t.isLt N_0; show i.val = t.val * 256 + i.val; omega)

/-- A block of the gradient: the chip's own sums and the three it received. -/
def gsum (a : Vec Ideal S1x256x2048 .bf16) (b : Vec Ideal S3x256x2048 .bf16) : FVec Ideal S256x2048 .f32 :=
  k0_pay5 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the first moment. -/
def mom (a : Vec Ideal S1x256x2048 .bf16) (b : Vec Ideal S3x256x2048 .bf16) (x : Vec Ideal S1x256x2048 .f32) : FVec Ideal S256x2048 .f32 :=
  k0_pay9 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0)) x

/-- A block of the gradient as it is stored. -/
def total (a : Vec Ideal S1x256x2048 .bf16) (b : Vec Ideal S3x256x2048 .bf16) : FVec Ideal S1x256x2048 .f32 :=
  k0_pay6 (F := Ideal) a (View.ld b (Rect.unit ![0, 0, 0] ![1, 256, 2048] inb_S3x256x2048_S1x256x2048_0_0_0)) (View.ld b (Rect.unit ![1, 0, 0] ![1, 256, 2048] inb_S3x256x2048_S1x256x2048_1_0_0)) (View.ld b (Rect.unit ![2, 0, 0] ![1, 256, 2048] inb_S3x256x2048_S1x256x2048_2_0_0))

/-- A block of the step. -/
def step (w x y : Vec Ideal S1x256x2048 .f32) (a : Vec Ideal S1x256x2048 .bf16) (b : Vec Ideal S3x256x2048 .bf16) : FVec Ideal S1x256x2048 .f32 :=
  k0_pay2 (F := Ideal) (gsum a b) (k0_pay7 w) (k0_pay8 y) (mom a b x) k0_pay10

/-- A block of the second moment. -/
def second (a : Vec Ideal S1x256x2048 .bf16) (b : Vec Ideal S3x256x2048 .bf16) (y : Vec Ideal S1x256x2048 .f32) : FVec Ideal S1x256x2048 .f32 :=
  k0_pay4 (F := Ideal) (gsum a b) (k0_pay8 y) k0_pay10

/-- What a point writes of the gradient. -/
theorem out5 (t : Fin grid0.N) (y : S1x256x2048.Idx) : (outsAt0 m (ok m) c t).1 y =
    total (iblk m (ok m) c 3 t) (iblk m (ok m) c 4 t) y := by
  have e3 := (hs0_3 m (ok m) t).read_unread (iblk m (ok m) c 3 t)
  have e4 := (hs0_4 m (ok m) t).read_unread (iblk m (ok m) c 4 t)
  unfold outsAt0
  frame_out
  exact congrFun (congr (congrArg total e3) e4) y

/-- What a point writes of the step. -/
theorem out6 (t : Fin grid0.N) (y : S1x256x2048.Idx) : (outsAt0 m (ok m) c t).2.1 y =
    step (iblk m (ok m) c 0 t) (iblk m (ok m) c 1 t) (iblk m (ok m) c 2 t) (iblk m (ok m) c 3 t) (iblk m (ok m) c 4 t) y := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congr (congr (congrArg step e0) e1) e2) e3) e4) y

/-- What a point writes of the new first moments. -/
theorem out7 (t : Fin grid0.N) (y : S1x256x2048.Idx) : (outsAt0 m (ok m) c t).2.2.1 y =
    k0_pay3 (F := Ideal) (mom (iblk m (ok m) c 3 t) (iblk m (ok m) c 4 t) (iblk m (ok m) c 1 t)) y := by
  have e1 := (hs0_1 m (ok m) t).read_unread (iblk m (ok m) c 1 t)
  have e3 := (hs0_3 m (ok m) t).read_unread (iblk m (ok m) c 3 t)
  have e4 := (hs0_4 m (ok m) t).read_unread (iblk m (ok m) c 4 t)
  unfold outsAt0
  frame_out
  exact congrArg (fun a => k0_pay3 (F := Ideal) a y) (congr (congr (congrArg mom e3) e4) e1)

/-- What a point writes of the new second moments. -/
theorem out8 (t : Fin grid0.N) (y : S1x256x2048.Idx) : (outsAt0 m (ok m) c t).2.2.2 y =
    second (iblk m (ok m) c 3 t) (iblk m (ok m) c 4 t) (iblk m (ok m) c 2 t) y := by
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  unfold outsAt0
  frame_out
  exact congrFun (congr (congr (congrArg second e3) e4) e2) y

/-- The three sums received, added up. -/
theorem three (x : (⟨S3x1024x2048, .bf16⟩ : BufTy).Contents (Elt Ideal)) (p : Fin 1024) (q : Fin 2048) :
    Cert.AdamDownReferenceIdeal.Read.val_main_v4 (F := Ideal) x (ix3 0 p q) = (x (ix3 0 p q) + x (ix3 1 p q) + x (ix3 2 p q) : EReal) := by
  have z : Cert.AdamDownReferenceIdeal.Read.val_main_cst (F := Ideal) (Shape.Idx.first Cert.AdamDownReferenceIdeal.Gen.h_S_) = (0 : EReal) := by
    pointwise [Cert.AdamDownReferenceIdeal.Read.val_main_cst]
  rw [Cert.AdamDownReferenceIdeal.Read.val_main_v4_apply, Cert.AdamDownReferenceIdeal.Read.val_main_v3_apply]
  refine (congrArg₂ (fun a b : EReal => a + b) z (Fin.sum_univ_three _)).trans ((zero_add _).trans ?_)
  refine congrArg₂ (fun a b : EReal => a + b) (congrArg₂ (fun a b : EReal => a + b) ?_ ?_) ?_ <;>
    exact congrArg x (by funext a; fin_cases a <;> rfl)

/-- The gradient of a block, entry by entry. -/
theorem g_at (t : Fin grid0.N) (i : Fin 256) (j : Fin 2048) :
    gsum (iblk m (ok m) c 3 t) (iblk m (ok m) c 4 t) (ix2 i j) = Cert.AdamDownReferenceIdeal.Read.val_main_v5 (F := Ideal) (m ((c : Thread nD τ).loc main_arg3)) (m ((c : Thread nD τ).loc main_arg4)) (at3 t i j) := by
  unfold gsum at3
  pointwise [k0_pay5, Cert.AdamDownReferenceIdeal.Read.val_main_v5, Cert.AdamDownReferenceIdeal.Read.val_main_v1, Cert.AdamDownReferenceIdeal.Read.val_main_v0]
  simp only [blk3_at, blk4_at, V_main_arg3, V_main_arg4, three]
  have a4 : ∀ a b c d : EReal, a + b + c + d = a + (b + c + d) := fun a b c d => by rw [add_assoc, add_assoc, add_assoc]
  exact a4 _ _ _ _

/-- The first moment of a block, entry by entry. -/
theorem m_at (t : Fin grid0.N) (i : Fin 256) (j : Fin 2048) :
    mom (iblk m (ok m) c 3 t) (iblk m (ok m) c 4 t) (iblk m (ok m) c 1 t) (ix2 i j) = Cert.AdamDownReferenceIdeal.Read.val_main_v10 (F := Ideal) (m ((c : Thread nD τ).loc main_arg1)) (m ((c : Thread nD τ).loc main_arg3)) (m ((c : Thread nD τ).loc main_arg4)) (at3 t i j) := by
  have h := g_at m c t i j
  unfold gsum at h
  unfold mom
  pointwise [k0_pay9, Cert.AdamDownReferenceIdeal.Read.val_main_v10, Cert.AdamDownReferenceIdeal.Read.val_main_v9, Cert.AdamDownReferenceIdeal.Read.val_main_v8, Cert.AdamDownReferenceIdeal.Read.val_main_v7, Cert.AdamDownReferenceIdeal.Read.val_main_v6, Cert.AdamDownReferenceIdeal.Read.val_main_cst_0, Cert.AdamDownReferenceIdeal.Read.val_main_cst_1]
  rw [h, blk1_at, V_main_arg1]
  rfl

/-- The second moment of a block, entry by entry. -/
theorem v_at (t : Fin grid0.N) (i : Fin 256) (j : Fin 2048) :
    k0_pay1 (F := Ideal) (gsum (iblk m (ok m) c 3 t) (iblk m (ok m) c 4 t)) (k0_pay8 (iblk m (ok m) c 2 t)) k0_pay10 (ix2 i j) =
      Cert.AdamDownReferenceIdeal.Read.val_main_v16 (F := Ideal) (m ((c : Thread nD τ).loc main_arg2)) (m ((c : Thread nD τ).loc main_arg3)) (m ((c : Thread nD τ).loc main_arg4)) (at3 t i j) := by
  pointwise [k0_pay1, k0_pay8, k0_pay10, Cert.AdamDownReferenceIdeal.Read.val_main_v16, Cert.AdamDownReferenceIdeal.Read.val_main_v15, Cert.AdamDownReferenceIdeal.Read.val_main_v14, Cert.AdamDownReferenceIdeal.Read.val_main_v13, Cert.AdamDownReferenceIdeal.Read.val_main_v12, Cert.AdamDownReferenceIdeal.Read.val_main_v11, Cert.AdamDownReferenceIdeal.Read.val_main_cst_2, Cert.AdamDownReferenceIdeal.Read.val_main_cst_3]
  rw [g_at, blk2_at, V_main_arg2]
  rfl

/-- The step of a block, entry by entry. -/
theorem d_at (t : Fin grid0.N) (k : Fin 1) (i : Fin 256) (j : Fin 2048) :
    step (iblk m (ok m) c 0 t) (iblk m (ok m) c 1 t) (iblk m (ok m) c 2 t) (iblk m (ok m) c 3 t) (iblk m (ok m) c 4 t) (ix3 k i j) =
      Cert.AdamDownReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (at3 t i j) := by
  unfold step
  pointwise [k0_pay2, k0_pay7, Cert.AdamDownReferenceIdeal.Read.val_main_v29, Cert.AdamDownReferenceIdeal.Read.val_main_v28, Cert.AdamDownReferenceIdeal.Read.val_main_v27, Cert.AdamDownReferenceIdeal.Read.val_main_v26, Cert.AdamDownReferenceIdeal.Read.val_main_v25, Cert.AdamDownReferenceIdeal.Read.val_main_v24, Cert.AdamDownReferenceIdeal.Read.val_main_v23, Cert.AdamDownReferenceIdeal.Read.val_main_v22,
    Cert.AdamDownReferenceIdeal.Read.val_main_v21, Cert.AdamDownReferenceIdeal.Read.val_main_v20, Cert.AdamDownReferenceIdeal.Read.val_main_v19, Cert.AdamDownReferenceIdeal.Read.val_main_v18, Cert.AdamDownReferenceIdeal.Read.val_main_v17, Cert.AdamDownReferenceIdeal.Read.val_main_cst_4, Cert.AdamDownReferenceIdeal.Read.val_main_cst_5, Cert.AdamDownReferenceIdeal.Read.val_main_cst_6, Cert.AdamDownReferenceIdeal.Read.val_main_cst_7, Cert.AdamDownReferenceIdeal.Read.val_main_cst_8]
  rw [m_at, v_at, blk0_at, V_main_arg0]
  rfl

/-- The kernel's gradient is the reference's. -/
theorem same5 : (dats m (ok m) 0 c).arrAt 5 (cfgM m (ok m)).N = Cert.AdamDownReferenceIdeal.Read.val_main_v5 (F := Ideal) (m ((c : Thread nD τ).loc main_arg3)) (m ((c : Thread nD τ).loc main_arg4)) := by
  refine (dats m (ok m) 0 c).arrAt_eq_of_covers 5 _ (Pipeline.Window.covers_of_indexMap_surj _ rfl pos onto) (fun t hf y => ?_)
  rw [after0_5]
  obtain ⟨k, i, j, rfl⟩ := split y
  refine Eq.trans ?_ (congrArg _ (emb5 m t k i j)).symm
  refine (out5 m c t (ix3 k i j)).trans ?_
  refine Eq.trans ?_ (g_at m c t i j)
  unfold total
  pointwise [k0_pay6]
  rfl

/-- The kernel's step is the reference's. -/
theorem same6 : (dats m (ok m) 0 c).arrAt 6 (cfgM m (ok m)).N = Cert.AdamDownReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (Pipeline.Window.covers_of_indexMap_surj _ rfl pos onto) (fun t hf y => ?_)
  rw [after0_6]
  obtain ⟨k, i, j, rfl⟩ := split y
  refine Eq.trans ?_ (congrArg _ (emb6 m t k i j)).symm
  exact (out6 m c t (ix3 k i j)).trans (d_at m c t k i j)

/-- The kernel's first moment is the reference's. -/
theorem same7 : (dats m (ok m) 0 c).arrAt 7 (cfgM m (ok m)).N = Cert.AdamDownReferenceIdeal.Read.val_main_v10 (F := Ideal) (m ((c : Thread nD τ).loc main_arg1)) (m ((c : Thread nD τ).loc main_arg3)) (m ((c : Thread nD τ).loc main_arg4)) := by
  refine (dats m (ok m) 0 c).arrAt_eq_of_covers 7 _ (Pipeline.Window.covers_of_indexMap_surj _ rfl pos onto) (fun t hf y => ?_)
  rw [after0_7]
  obtain ⟨k, i, j, rfl⟩ := split y
  refine Eq.trans ?_ (congrArg _ (emb7 m t k i j)).symm
  refine (out7 m c t (ix3 k i j)).trans ?_
  refine Eq.trans ?_ (m_at m c t i j)
  pointwise [k0_pay3]

/-- The kernel's second moment is the reference's. -/
theorem same8 : (dats m (ok m) 0 c).arrAt 8 (cfgM m (ok m)).N = Cert.AdamDownReferenceIdeal.Read.val_main_v16 (F := Ideal) (m ((c : Thread nD τ).loc main_arg2)) (m ((c : Thread nD τ).loc main_arg3)) (m ((c : Thread nD τ).loc main_arg4)) := by
  refine (dats m (ok m) 0 c).arrAt_eq_of_covers 8 _ (Pipeline.Window.covers_of_indexMap_surj _ rfl pos onto) (fun t hf y => ?_)
  rw [after0_8]
  obtain ⟨k, i, j, rfl⟩ := split y
  refine Eq.trans ?_ (congrArg _ (emb8 m t k i j)).symm
  refine (out8 m c t (ix3 k i j)).trans ?_
  refine Eq.trans ?_ (v_at m c t i j)
  unfold second
  pointwise [k0_pay4]

/-- The run, with its four results named. -/
theorem run (ρ : Dev nD → PrngReg) : θ_run defs (onTc (τ := τ) (main (F := Ideal))) ⟨m, fun _ => 0, ρ⟩ fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7, (h c).1 8,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.AdamDownValue

end
-- ==== Proof.ClaimsAdam.lean ====
/- The claims about the weights' updates: each gradient summed, its moments and its step. -/
module

public import proofs.«01_k».proof.Defs
public import proofs.«01_k».proof.Proof.Gen.AdamIn.Frame
public import proofs.«01_k».proof.Proof.Gen.AdamInIdeal.Frame
public import proofs.«01_k».proof.Proof.Gen.AdamInReferenceIdeal.Run
public import proofs.«01_k».proof.Proof.AdamIn
public import proofs.«01_k».proof.Proof.Gen.AdamRet.Frame
public import proofs.«01_k».proof.Proof.Gen.AdamRetIdeal.Frame
public import proofs.«01_k».proof.Proof.Gen.AdamRetReferenceIdeal.Run
public import proofs.«01_k».proof.Proof.AdamRet
public import proofs.«01_k».proof.Proof.Gen.AdamQ.Frame
public import proofs.«01_k».proof.Proof.Gen.AdamQIdeal.Frame
public import proofs.«01_k».proof.Proof.Gen.AdamQReferenceIdeal.Run
public import proofs.«01_k».proof.Proof.AdamQ
public import proofs.«01_k».proof.Proof.Gen.AdamKv.Frame
public import proofs.«01_k».proof.Proof.Gen.AdamKvIdeal.Frame
public import proofs.«01_k».proof.Proof.Gen.AdamKvReferenceIdeal.Run
public import proofs.«01_k».proof.Proof.AdamKv
public import proofs.«01_k».proof.Proof.Gen.AdamMla.Frame
public import proofs.«01_k».proof.Proof.Gen.AdamMlaIdeal.Frame
public import proofs.«01_k».proof.Proof.Gen.AdamMlaReferenceIdeal.Run
public import proofs.«01_k».proof.Proof.AdamMla
public import proofs.«01_k».proof.Proof.Gen.AdamOut.Frame
public import proofs.«01_k».proof.Proof.Gen.AdamOutIdeal.Frame
public import proofs.«01_k».proof.Proof.Gen.AdamOutReferenceIdeal.Run
public import proofs.«01_k».proof.Proof.AdamOut
public import proofs.«01_k».proof.Proof.Gen.AdamUp.Frame
public import proofs.«01_k».proof.Proof.Gen.AdamUpIdeal.Frame
public import proofs.«01_k».proof.Proof.Gen.AdamUpReferenceIdeal.Run
public import proofs.«01_k».proof.Proof.AdamUp
public import proofs.«01_k».proof.Proof.Gen.AdamDown.Frame
public import proofs.«01_k».proof.Proof.Gen.AdamDownIdeal.Frame
public import proofs.«01_k».proof.Proof.Gen.AdamDownReferenceIdeal.Run
public import proofs.«01_k».proof.Proof.AdamDown

@[expose] public section

noncomputable section

namespace Cert.Proof

open Idealize.ShloMosaic Idealize.SL.Sem

/-- The update of the input projection as printed, on bit patterns. -/
theorem frame_AdamIn : Cert.quiescent_AdamIn := fun m ρ _ => Cert.AdamIn.Gen.frame m ρ (Cert.AdamInBits.ok m)

/-- The same program over the extended reals. -/
theorem frame_AdamInIdeal : Cert.quiescent_AdamInIdeal := fun m ρ _ => Cert.AdamInIdeal.Gen.frame m ρ (Cert.AdamInValue.ok m)

/-- Its reference over the extended reals. -/
theorem frame_AdamInReference : Cert.quiescent_AdamInReferenceIdeal := fun m ρ _ =>
  (θ_run Cert.AdamInReferenceIdeal.defs _ _).mono (fun r h => ⟨fun c => (h c).2.2.2.2, Idealize.ShloMosaic.sem_eq_zero_of_no_sems (by decide) r.2⟩)
    (Cert.AdamInReferenceIdeal.Value.run (F := Ideal) m ρ)

/-- From the same arguments, the kernel's gradient, step and two moments are the reference's. -/
theorem algebraic_AdamIn : Cert.algebraic_AdamInIdeal_AdamInReferenceIdeal := fun m ρ m' ρ' _ hag => by
  refine ⟨_, _, _, _, Cert.AdamInValue.run m ρ, ?_⟩
  refine (θ_run Cert.AdamInReferenceIdeal.defs _ _).mono (fun _ h c => ⟨(h c).1.trans ?_, (h c).2.1.trans ?_, (h c).2.2.1.trans ?_, (h c).2.2.2.1.trans ?_, (h c).2.2.2.2⟩)
    (Cert.AdamInReferenceIdeal.Value.run (F := Ideal) m' ρ')
  · refine (Cert.AdamInReferenceIdeal.Read.val_main_v6_eq _ _).trans (Eq.trans ?_ (Cert.AdamInValue.same5 m c).symm)
    obtain ⟨h0, h1, h2, h3, h4⟩ := hag c
    rw [← h3, ← h4]
  · refine (Cert.AdamInReferenceIdeal.Read.val_main_v30_eq _ _ _ _ _).trans (Eq.trans ?_ (Cert.AdamInValue.same6 m c).symm)
    obtain ⟨h0, h1, h2, h3, h4⟩ := hag c
    rw [← h0, ← h1, ← h2, ← h3, ← h4]
  · refine (Cert.AdamInReferenceIdeal.Read.val_main_v11_eq _ _ _).trans (Eq.trans ?_ (Cert.AdamInValue.same7 m c).symm)
    obtain ⟨h0, h1, h2, h3, h4⟩ := hag c
    rw [← h1, ← h3, ← h4]
  · refine (Cert.AdamInReferenceIdeal.Read.val_main_v17_eq _ _ _).trans (Eq.trans ?_ (Cert.AdamInValue.same8 m c).symm)
    obtain ⟨h0, h1, h2, h3, h4⟩ := hag c
    rw [← h2, ← h3, ← h4]

/-- The update of the retention's output projection as printed, on bit patterns. -/
theorem frame_AdamRet : Cert.quiescent_AdamRet := fun m ρ _ => Cert.AdamRet.Gen.frame m ρ (Cert.AdamRetBits.ok m)

/-- The same program over the extended reals. -/
theorem frame_AdamRetIdeal : Cert.quiescent_AdamRetIdeal := fun m ρ _ => Cert.AdamRetIdeal.Gen.frame m ρ (Cert.AdamRetValue.ok m)

/-- Its reference over the extended reals. -/
theorem frame_AdamRetReference : Cert.quiescent_AdamRetReferenceIdeal := fun m ρ _ =>
  (θ_run Cert.AdamRetReferenceIdeal.defs _ _).mono (fun r h => ⟨fun c => (h c).2.2.2.2, Idealize.ShloMosaic.sem_eq_zero_of_no_sems (by decide) r.2⟩)
    (Cert.AdamRetReferenceIdeal.Value.run (F := Ideal) m ρ)

/-- From the same arguments, the kernel's gradient, step and two moments are the reference's. -/
theorem algebraic_AdamRet : Cert.algebraic_AdamRetIdeal_AdamRetReferenceIdeal := fun m ρ m' ρ' _ hag => by
  refine ⟨_, _, _, _, Cert.AdamRetValue.run m ρ, ?_⟩
  refine (θ_run Cert.AdamRetReferenceIdeal.defs _ _).mono (fun _ h c => ⟨(h c).1.trans ?_, (h c).2.1.trans ?_, (h c).2.2.1.trans ?_, (h c).2.2.2.1.trans ?_, (h c).2.2.2.2⟩)
    (Cert.AdamRetReferenceIdeal.Value.run (F := Ideal) m' ρ')
  · refine (Cert.AdamRetReferenceIdeal.Read.val_main_v5_eq _ _).trans (Eq.trans ?_ (Cert.AdamRetValue.same5 m c).symm)
    obtain ⟨h0, h1, h2, h3, h4⟩ := hag c
    rw [← h3, ← h4]
  · refine (Cert.AdamRetReferenceIdeal.Read.val_main_v29_eq _ _ _ _ _).trans (Eq.trans ?_ (Cert.AdamRetValue.same6 m c).symm)
    obtain ⟨h0, h1, h2, h3, h4⟩ := hag c
    rw [← h0, ← h1, ← h2, ← h3, ← h4]
  · refine (Cert.AdamRetReferenceIdeal.Read.val_main_v10_eq _ _ _).trans (Eq.trans ?_ (Cert.AdamRetValue.same7 m c).symm)
    obtain ⟨h0, h1, h2, h3, h4⟩ := hag c
    rw [← h1, ← h3, ← h4]
  · refine (Cert.AdamRetReferenceIdeal.Read.val_main_v16_eq _ _ _).trans (Eq.trans ?_ (Cert.AdamRetValue.same8 m c).symm)
    obtain ⟨h0, h1, h2, h3, h4⟩ := hag c
    rw [← h2, ← h3, ← h4]

/-- The update of the queries' up-projection as printed, on bit patterns. -/
theorem frame_AdamQ : Cert.quiescent_AdamQ := fun m ρ _ => Cert.AdamQ.Gen.frame m ρ (Cert.AdamQBits.ok m)

/-- The same program over the extended reals. -/
theorem frame_AdamQIdeal : Cert.quiescent_AdamQIdeal := fun m ρ _ => Cert.AdamQIdeal.Gen.frame m ρ (Cert.AdamQValue.ok m)

/-- Its reference over the extended reals. -/
theorem frame_AdamQReference : Cert.quiescent_AdamQReferenceIdeal := fun m ρ _ =>
  (θ_run Cert.AdamQReferenceIdeal.defs _ _).mono (fun r h => ⟨fun c => (h c).2.2.2.2, Idealize.ShloMosaic.sem_eq_zero_of_no_sems (by decide) r.2⟩)
    (Cert.AdamQReferenceIdeal.Value.run (F := Ideal) m ρ)

/-- From the same arguments, the kernel's gradient, step and two moments are the reference's. -/
theorem algebraic_AdamQ : Cert.algebraic_AdamQIdeal_AdamQReferenceIdeal := fun m ρ m' ρ' _ hag => by
  refine ⟨_, _, _, _, Cert.AdamQValue.run m ρ, ?_⟩
  refine (θ_run Cert.AdamQReferenceIdeal.defs _ _).mono (fun _ h c => ⟨(h c).1.trans ?_, (h c).2.1.trans ?_, (h c).2.2.1.trans ?_, (h c).2.2.2.1.trans ?_, (h c).2.2.2.2⟩)
    (Cert.AdamQReferenceIdeal.Value.run (F := Ideal) m' ρ')
  · refine (Cert.AdamQReferenceIdeal.Read.val_main_v5_eq _ _).trans (Eq.trans ?_ (Cert.AdamQValue.same5 m c).symm)
    obtain ⟨h0, h1, h2, h3, h4⟩ := hag c
    rw [← h3, ← h4]
  · refine (Cert.AdamQReferenceIdeal.Read.val_main_v29_eq _ _ _ _ _).trans (Eq.trans ?_ (Cert.AdamQValue.same6 m c).symm)
    obtain ⟨h0, h1, h2, h3, h4⟩ := hag c
    rw [← h0, ← h1, ← h2, ← h3, ← h4]
  · refine (Cert.AdamQReferenceIdeal.Read.val_main_v10_eq _ _ _).trans (Eq.trans ?_ (Cert.AdamQValue.same7 m c).symm)
    obtain ⟨h0, h1, h2, h3, h4⟩ := hag c
    rw [← h1, ← h3, ← h4]
  · refine (Cert.AdamQReferenceIdeal.Read.val_main_v16_eq _ _ _).trans (Eq.trans ?_ (Cert.AdamQValue.same8 m c).symm)
    obtain ⟨h0, h1, h2, h3, h4⟩ := hag c
    rw [← h2, ← h3, ← h4]

/-- The update of the keys' and values' up-projection as printed, on bit patterns. -/
theorem frame_AdamKv : Cert.quiescent_AdamKv := fun m ρ _ => Cert.AdamKv.Gen.frame m ρ (Cert.AdamKvBits.ok m)

/-- The same program over the extended reals. -/
theorem frame_AdamKvIdeal : Cert.quiescent_AdamKvIdeal := fun m ρ _ => Cert.AdamKvIdeal.Gen.frame m ρ (Cert.AdamKvValue.ok m)

/-- Its reference over the extended reals. -/
theorem frame_AdamKvReference : Cert.quiescent_AdamKvReferenceIdeal := fun m ρ _ =>
  (θ_run Cert.AdamKvReferenceIdeal.defs _ _).mono (fun r h => ⟨fun c => (h c).2.2.2.2, Idealize.ShloMosaic.sem_eq_zero_of_no_sems (by decide) r.2⟩)
    (Cert.AdamKvReferenceIdeal.Value.run (F := Ideal) m ρ)

/-- From the same arguments, the kernel's gradient, step and two moments are the reference's. -/
theorem algebraic_AdamKv : Cert.algebraic_AdamKvIdeal_AdamKvReferenceIdeal := fun m ρ m' ρ' _ hag => by
  refine ⟨_, _, _, _, Cert.AdamKvValue.run m ρ, ?_⟩
  refine (θ_run Cert.AdamKvReferenceIdeal.defs _ _).mono (fun _ h c => ⟨(h c).1.trans ?_, (h c).2.1.trans ?_, (h c).2.2.1.trans ?_, (h c).2.2.2.1.trans ?_, (h c).2.2.2.2⟩)
    (Cert.AdamKvReferenceIdeal.Value.run (F := Ideal) m' ρ')
  · refine (Cert.AdamKvReferenceIdeal.Read.val_main_v5_eq _ _).trans (Eq.trans ?_ (Cert.AdamKvValue.same5 m c).symm)
    obtain ⟨h0, h1, h2, h3, h4⟩ := hag c
    rw [← h3, ← h4]
  · refine (Cert.AdamKvReferenceIdeal.Read.val_main_v29_eq _ _ _ _ _).trans (Eq.trans ?_ (Cert.AdamKvValue.same6 m c).symm)
    obtain ⟨h0, h1, h2, h3, h4⟩ := hag c
    rw [← h0, ← h1, ← h2, ← h3, ← h4]
  · refine (Cert.AdamKvReferenceIdeal.Read.val_main_v10_eq _ _ _).trans (Eq.trans ?_ (Cert.AdamKvValue.same7 m c).symm)
    obtain ⟨h0, h1, h2, h3, h4⟩ := hag c
    rw [← h1, ← h3, ← h4]
  · refine (Cert.AdamKvReferenceIdeal.Read.val_main_v16_eq _ _ _).trans (Eq.trans ?_ (Cert.AdamKvValue.same8 m c).symm)
    obtain ⟨h0, h1, h2, h3, h4⟩ := hag c
    rw [← h2, ← h3, ← h4]

/-- The update of the attention's output projection as printed, on bit patterns. -/
theorem frame_AdamMla : Cert.quiescent_AdamMla := fun m ρ _ => Cert.AdamMla.Gen.frame m ρ (Cert.AdamMlaBits.ok m)

/-- The same program over the extended reals. -/
theorem frame_AdamMlaIdeal : Cert.quiescent_AdamMlaIdeal := fun m ρ _ => Cert.AdamMlaIdeal.Gen.frame m ρ (Cert.AdamMlaValue.ok m)

/-- Its reference over the extended reals. -/
theorem frame_AdamMlaReference : Cert.quiescent_AdamMlaReferenceIdeal := fun m ρ _ =>
  (θ_run Cert.AdamMlaReferenceIdeal.defs _ _).mono (fun r h => ⟨fun c => (h c).2.2.2.2, Idealize.ShloMosaic.sem_eq_zero_of_no_sems (by decide) r.2⟩)
    (Cert.AdamMlaReferenceIdeal.Value.run (F := Ideal) m ρ)

/-- From the same arguments, the kernel's gradient, step and two moments are the reference's. -/
theorem algebraic_AdamMla : Cert.algebraic_AdamMlaIdeal_AdamMlaReferenceIdeal := fun m ρ m' ρ' _ hag => by
  refine ⟨_, _, _, _, Cert.AdamMlaValue.run m ρ, ?_⟩
  refine (θ_run Cert.AdamMlaReferenceIdeal.defs _ _).mono (fun _ h c => ⟨(h c).1.trans ?_, (h c).2.1.trans ?_, (h c).2.2.1.trans ?_, (h c).2.2.2.1.trans ?_, (h c).2.2.2.2⟩)
    (Cert.AdamMlaReferenceIdeal.Value.run (F := Ideal) m' ρ')
  · refine (Cert.AdamMlaReferenceIdeal.Read.val_main_v5_eq _ _).trans (Eq.trans ?_ (Cert.AdamMlaValue.same5 m c).symm)
    obtain ⟨h0, h1, h2, h3, h4⟩ := hag c
    rw [← h3, ← h4]
  · refine (Cert.AdamMlaReferenceIdeal.Read.val_main_v29_eq _ _ _ _ _).trans (Eq.trans ?_ (Cert.AdamMlaValue.same6 m c).symm)
    obtain ⟨h0, h1, h2, h3, h4⟩ := hag c
    rw [← h0, ← h1, ← h2, ← h3, ← h4]
  · refine (Cert.AdamMlaReferenceIdeal.Read.val_main_v10_eq _ _ _).trans (Eq.trans ?_ (Cert.AdamMlaValue.same7 m c).symm)
    obtain ⟨h0, h1, h2, h3, h4⟩ := hag c
    rw [← h1, ← h3, ← h4]
  · refine (Cert.AdamMlaReferenceIdeal.Read.val_main_v16_eq _ _ _).trans (Eq.trans ?_ (Cert.AdamMlaValue.same8 m c).symm)
    obtain ⟨h0, h1, h2, h3, h4⟩ := hag c
    rw [← h2, ← h3, ← h4]

/-- The update of the joint output projection as printed, on bit patterns. -/
theorem frame_AdamOut : Cert.quiescent_AdamOut := fun m ρ _ => Cert.AdamOut.Gen.frame m ρ (Cert.AdamOutBits.ok m)

/-- The same program over the extended reals. -/
theorem frame_AdamOutIdeal : Cert.quiescent_AdamOutIdeal := fun m ρ _ => Cert.AdamOutIdeal.Gen.frame m ρ (Cert.AdamOutValue.ok m)

/-- Its reference over the extended reals. -/
theorem frame_AdamOutReference : Cert.quiescent_AdamOutReferenceIdeal := fun m ρ _ =>
  (θ_run Cert.AdamOutReferenceIdeal.defs _ _).mono (fun r h => ⟨fun c => (h c).2.2.2.2, Idealize.ShloMosaic.sem_eq_zero_of_no_sems (by decide) r.2⟩)
    (Cert.AdamOutReferenceIdeal.Value.run (F := Ideal) m ρ)

/-- From the same arguments, the kernel's gradient, step and two moments are the reference's. -/
theorem algebraic_AdamOut : Cert.algebraic_AdamOutIdeal_AdamOutReferenceIdeal := fun m ρ m' ρ' _ hag => by
  refine ⟨_, _, _, _, Cert.AdamOutValue.run m ρ, ?_⟩
  refine (θ_run Cert.AdamOutReferenceIdeal.defs _ _).mono (fun _ h c => ⟨(h c).1.trans ?_, (h c).2.1.trans ?_, (h c).2.2.1.trans ?_, (h c).2.2.2.1.trans ?_, (h c).2.2.2.2⟩)
    (Cert.AdamOutReferenceIdeal.Value.run (F := Ideal) m' ρ')
  · refine (Cert.AdamOutReferenceIdeal.Read.val_main_v5_eq _ _).trans (Eq.trans ?_ (Cert.AdamOutValue.same5 m c).symm)
    obtain ⟨h0, h1, h2, h3, h4⟩ := hag c
    rw [← h3, ← h4]
  · refine (Cert.AdamOutReferenceIdeal.Read.val_main_v29_eq _ _ _ _ _).trans (Eq.trans ?_ (Cert.AdamOutValue.same6 m c).symm)
    obtain ⟨h0, h1, h2, h3, h4⟩ := hag c
    rw [← h0, ← h1, ← h2, ← h3, ← h4]
  · refine (Cert.AdamOutReferenceIdeal.Read.val_main_v10_eq _ _ _).trans (Eq.trans ?_ (Cert.AdamOutValue.same7 m c).symm)
    obtain ⟨h0, h1, h2, h3, h4⟩ := hag c
    rw [← h1, ← h3, ← h4]
  · refine (Cert.AdamOutReferenceIdeal.Read.val_main_v16_eq _ _ _).trans (Eq.trans ?_ (Cert.AdamOutValue.same8 m c).symm)
    obtain ⟨h0, h1, h2, h3, h4⟩ := hag c
    rw [← h2, ← h3, ← h4]

/-- The update of the feed-forward up-projection as printed, on bit patterns. -/
theorem frame_AdamUp : Cert.quiescent_AdamUp := fun m ρ _ => Cert.AdamUp.Gen.frame m ρ (Cert.AdamUpBits.ok m)

/-- The same program over the extended reals. -/
theorem frame_AdamUpIdeal : Cert.quiescent_AdamUpIdeal := fun m ρ _ => Cert.AdamUpIdeal.Gen.frame m ρ (Cert.AdamUpValue.ok m)

/-- Its reference over the extended reals. -/
theorem frame_AdamUpReference : Cert.quiescent_AdamUpReferenceIdeal := fun m ρ _ =>
  (θ_run Cert.AdamUpReferenceIdeal.defs _ _).mono (fun r h => ⟨fun c => (h c).2.2.2.2, Idealize.ShloMosaic.sem_eq_zero_of_no_sems (by decide) r.2⟩)
    (Cert.AdamUpReferenceIdeal.Value.run (F := Ideal) m ρ)

/-- From the same arguments, the kernel's gradient, step and two moments are the reference's. -/
theorem algebraic_AdamUp : Cert.algebraic_AdamUpIdeal_AdamUpReferenceIdeal := fun m ρ m' ρ' _ hag => by
  refine ⟨_, _, _, _, Cert.AdamUpValue.run m ρ, ?_⟩
  refine (θ_run Cert.AdamUpReferenceIdeal.defs _ _).mono (fun _ h c => ⟨(h c).1.trans ?_, (h c).2.1.trans ?_, (h c).2.2.1.trans ?_, (h c).2.2.2.1.trans ?_, (h c).2.2.2.2⟩)
    (Cert.AdamUpReferenceIdeal.Value.run (F := Ideal) m' ρ')
  · refine (Cert.AdamUpReferenceIdeal.Read.val_main_v5_eq _ _).trans (Eq.trans ?_ (Cert.AdamUpValue.same5 m c).symm)
    obtain ⟨h0, h1, h2, h3, h4⟩ := hag c
    rw [← h3, ← h4]
  · refine (Cert.AdamUpReferenceIdeal.Read.val_main_v29_eq _ _ _ _ _).trans (Eq.trans ?_ (Cert.AdamUpValue.same6 m c).symm)
    obtain ⟨h0, h1, h2, h3, h4⟩ := hag c
    rw [← h0, ← h1, ← h2, ← h3, ← h4]
  · refine (Cert.AdamUpReferenceIdeal.Read.val_main_v10_eq _ _ _).trans (Eq.trans ?_ (Cert.AdamUpValue.same7 m c).symm)
    obtain ⟨h0, h1, h2, h3, h4⟩ := hag c
    rw [← h1, ← h3, ← h4]
  · refine (Cert.AdamUpReferenceIdeal.Read.val_main_v16_eq _ _ _).trans (Eq.trans ?_ (Cert.AdamUpValue.same8 m c).symm)
    obtain ⟨h0, h1, h2, h3, h4⟩ := hag c
    rw [← h2, ← h3, ← h4]

/-- The update of the feed-forward down-projection as printed, on bit patterns. -/
theorem frame_AdamDown : Cert.quiescent_AdamDown := fun m ρ _ => Cert.AdamDown.Gen.frame m ρ (Cert.AdamDownBits.ok m)

/-- The same program over the extended reals. -/
theorem frame_AdamDownIdeal : Cert.quiescent_AdamDownIdeal := fun m ρ _ => Cert.AdamDownIdeal.Gen.frame m ρ (Cert.AdamDownValue.ok m)

/-- Its reference over the extended reals. -/
theorem frame_AdamDownReference : Cert.quiescent_AdamDownReferenceIdeal := fun m ρ _ =>
  (θ_run Cert.AdamDownReferenceIdeal.defs _ _).mono (fun r h => ⟨fun c => (h c).2.2.2.2, Idealize.ShloMosaic.sem_eq_zero_of_no_sems (by decide) r.2⟩)
    (Cert.AdamDownReferenceIdeal.Value.run (F := Ideal) m ρ)

/-- From the same arguments, the kernel's gradient, step and two moments are the reference's. -/
theorem algebraic_AdamDown : Cert.algebraic_AdamDownIdeal_AdamDownReferenceIdeal := fun m ρ m' ρ' _ hag => by
  refine ⟨_, _, _, _, Cert.AdamDownValue.run m ρ, ?_⟩
  refine (θ_run Cert.AdamDownReferenceIdeal.defs _ _).mono (fun _ h c => ⟨(h c).1.trans ?_, (h c).2.1.trans ?_, (h c).2.2.1.trans ?_, (h c).2.2.2.1.trans ?_, (h c).2.2.2.2⟩)
    (Cert.AdamDownReferenceIdeal.Value.run (F := Ideal) m' ρ')
  · refine (Cert.AdamDownReferenceIdeal.Read.val_main_v5_eq _ _).trans (Eq.trans ?_ (Cert.AdamDownValue.same5 m c).symm)
    obtain ⟨h0, h1, h2, h3, h4⟩ := hag c
    rw [← h3, ← h4]
  · refine (Cert.AdamDownReferenceIdeal.Read.val_main_v29_eq _ _ _ _ _).trans (Eq.trans ?_ (Cert.AdamDownValue.same6 m c).symm)
    obtain ⟨h0, h1, h2, h3, h4⟩ := hag c
    rw [← h0, ← h1, ← h2, ← h3, ← h4]
  · refine (Cert.AdamDownReferenceIdeal.Read.val_main_v10_eq _ _ _).trans (Eq.trans ?_ (Cert.AdamDownValue.same7 m c).symm)
    obtain ⟨h0, h1, h2, h3, h4⟩ := hag c
    rw [← h1, ← h3, ← h4]
  · refine (Cert.AdamDownReferenceIdeal.Read.val_main_v16_eq _ _ _).trans (Eq.trans ?_ (Cert.AdamDownValue.same8 m c).symm)
    obtain ⟨h0, h1, h2, h3, h4⟩ := hag c
    rw [← h2, ← h3, ← h4]

end Cert.Proof

end
-- ==== Proof.Norm.lean ====
/- The two ways to write a root-mean-square norm's gradient by its input, equal at every extended real. -/
module

public import proofs.«01_k».proof.Proof.Rows

@[expose] public section

noncomputable section

namespace Cert.Norm

open Idealize.ShloMosaic

/-- The length of a row, as the programs write it. -/
theorem word_2048 : Ideal.ofBits .f32 0x45000000#32 = ((2048 : ℝ) : EReal) := by
  simp [Ideal.ofBits, Ideal.ieee]; norm_cast; norm_num

/-- A square is not negative. -/
theorem square_nonneg (x : EReal) : 0 ≤ x * x := by
  induction x with
  | bot => simp
  | top => simp
  | coe r => exact_mod_cast mul_self_nonneg r

/-- A number that is not negative goes into a sum. -/
theorem into_sum {n : ℕ} (r : ℝ) (hr : 0 ≤ r) (f : Fin n → EReal) : (r : EReal) * ∑ k, f k = ∑ k, (r : EReal) * f k := by
  induction (Finset.univ : Finset (Fin n)) using Finset.induction_on with
  | empty => simp
  | insert a s ha ih =>
    rw [Finset.sum_insert ha, Finset.sum_insert ha,
      EReal.left_distrib_of_nonneg_of_ne_top (by exact_mod_cast hr) (EReal.coe_ne_top r), ih]

/-- The mean square plus the norm's small constant is positive. -/
theorem mean_pos {n : ℕ} {N : EReal} {w : ℝ} (hN : N = (w : EReal)) (hw : 0 < w) (x : Fin n → EReal) :
    0 < Ideal.div (∑ k, x k * x k) N + Ideal.ofBits FTy.f32 0x358637BD#32 := by
  rw [hN, Cert.Retention.word_eps, Ideal.div_coe hw.ne']
  have h : (0 : EReal) < ((Cert.Retention.eps : ℝ) : EReal) := by
    exact_mod_cast (by unfold Cert.Retention.eps; norm_num : (0 : ℝ) < Cert.Retention.eps)
  exact Right.add_pos_of_nonneg_of_pos (mul_nonneg (Finset.sum_nonneg fun k _ => square_nonneg _) (by exact_mod_cast (by positivity : (0 : ℝ) ≤ 1 / w))) h

/-- Twice a number taken away is the number taken away twice. -/
theorem twice (z : EReal) (d : ℝ) (hd : 0 < d) : -(z * ((2 * d : ℝ) : EReal)) = z * ((-d : ℝ) : EReal) + z * ((-d : ℝ) : EReal) := by
  induction z with
  | bot =>
    rw [EReal.bot_mul_coe_of_pos (by linarith), EReal.bot_mul_coe_of_neg (by linarith)]
    rfl
  | top =>
    rw [EReal.top_mul_coe_of_pos (by linarith), EReal.top_mul_coe_of_neg (by linarith)]
    rfl
  | coe r =>
    norm_cast
    ring

/-- The gradient at one entry: from the mean of the products with the normalised row, or from the derivative of the
    reciprocal root. -/
theorem grad {n : ℕ} {N : EReal} {w : ℝ} (hN : N = (w : EReal)) (hw : 0 < w) (S : EReal) (hS : 0 < S) (x a : Fin n → EReal) (xj aj h : EReal) :
    h + Ideal.rsqrt S * (aj - xj * Ideal.rsqrt S * Ideal.div (∑ k, a k * (x k * Ideal.rsqrt S)) N) =
      aj * Ideal.rsqrt S +
          xj * ∑ _k : Fin 1, Ideal.div ((∑ k, x k * a k) * (Ideal.ofBits FTy.f32 0xBF000000#32 * Ideal.div (Ideal.rsqrt S) S)) N +
        (∑ _k : Fin 1, Ideal.div ((∑ k, x k * a k) * (Ideal.ofBits FTy.f32 0xBF000000#32 * Ideal.div (Ideal.rsqrt S) S)) N) * xj + h := by
  rw [hN, Cert.Retention.word_neghalf]
  simp only [Fin.sum_univ_one, Ideal.div_coe hw.ne']
  induction S with
  | bot => exact absurd hS (by simp)
  | top => simp [Ideal.div]
  | coe s =>
    have hs : 0 < s := by exact_mod_cast hS
    rw [Ideal.rsqrt_coe, if_neg hs.not_gt, if_neg hs.ne', Ideal.div_coe hs.ne']
    have hrr : (Real.sqrt s)⁻¹ * (Real.sqrt s)⁻¹ = 1 / s := by
      rw [← mul_inv, Real.mul_self_sqrt hs.le, one_div]
    have hr : 0 < (Real.sqrt s)⁻¹ := inv_pos.mpr (Real.sqrt_pos.mpr hs)
    generalize (Real.sqrt s)⁻¹ = r at hrr hr
    have hT : ∑ k, a k * (x k * (r : EReal)) = (r : EReal) * ∑ k, x k * a k := by
      rw [into_sum r hr.le]
      exact Finset.sum_congr rfl fun k _ => by rw [mul_comm (a k), mul_right_comm, mul_comm]
    rw [hT]
    generalize (∑ k, x k * a k) = T
    have hd : 0 < r * (1 / s) / (2 * w) := by positivity
    have e1 : (r : EReal) * (xj * r * (r * T * ((1 / w : ℝ) : EReal))) = xj * T * ((2 * (r * (1 / s) / (2 * w)) : ℝ) : EReal) := by
      rw [show (2 * (r * (1 / s) / (2 * w)) : ℝ) = r * (r * r) * (1 / w) by rw [hrr]; field_simp]
      push_cast
      ac_rfl
    have e2 : T * (((-(1 / 2) : ℝ) : EReal) * ((r : EReal) * ((1 / s : ℝ) : EReal))) * ((1 / w : ℝ) : EReal) = T * ((-(r * (1 / s) / (2 * w)) : ℝ) : EReal) := by
      rw [show (-(r * (1 / s) / (2 * w)) : ℝ) = (-(1 / 2)) * (r * (1 / s)) * (1 / w) by field_simp, EReal.coe_mul, EReal.coe_mul, EReal.coe_mul]
      ac_rfl
    rw [e2, EReal.mul_sub_of_nonneg_of_ne_top (by exact_mod_cast hr.le) (EReal.coe_ne_top r), e1, sub_eq_add_neg, twice _ _ hd,
      mul_comm (T * _) xj, ← mul_assoc xj, mul_comm (r : EReal) aj, add_comm h]
    simp only [add_assoc]

/-- The same with nothing added. -/
theorem grad_alone {n : ℕ} {N : EReal} {w : ℝ} (hN : N = (w : EReal)) (hw : 0 < w) (S : EReal) (hS : 0 < S) (x a : Fin n → EReal) (xj aj : EReal) :
    Ideal.rsqrt S * (aj - xj * Ideal.rsqrt S * Ideal.div (∑ k, a k * (x k * Ideal.rsqrt S)) N) =
      aj * Ideal.rsqrt S +
          xj * ∑ _k : Fin 1, Ideal.div ((∑ k, x k * a k) * (Ideal.ofBits FTy.f32 0xBF000000#32 * Ideal.div (Ideal.rsqrt S) S)) N +
        (∑ _k : Fin 1, Ideal.div ((∑ k, x k * a k) * (Ideal.ofBits FTy.f32 0xBF000000#32 * Ideal.div (Ideal.rsqrt S) S)) N) * xj := by
  have e := grad hN hw S hS x a xj aj 0
  rwa [zero_add, add_zero] at e

end Cert.Norm

end
-- ==== Proof.MixBwd.lean ====
/- The gradient of the first norm, by its input (added to the residual path's) and by its gain. -/
module

public import proofs.«01_k».proof.Proof.Gen.MixBwdIdeal.Value
public import proofs.«01_k».proof.Proof.Gen.MixBwdReferenceIdeal.Read
public import proofs.«01_k».proof.Proof.Tiles
public import proofs.«01_k».proof.Proof.Norm
public import Idealize.ShloMosaic.Lib.Pipeline.ReadBack

@[expose] public section

set_option maxRecDepth 16384

noncomputable section

namespace Cert.MixBwdValue

open Idealize.ShloMosaic Idealize.ShloMosaic.TcCoe Cert.MixBwdIdeal Cert.MixBwdIdeal.Gen Cert.Tiles

/-- The block indices of the windows at a grid point. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

variable (m : (ℓ : Loc nD τ sig) → Buf (Elt Ideal) ℓ) (c : Dev nD)

/-- A block of the gradient by the norm's output. -/
theorem blk0_at (t : Fin cfg0.N) (i : Fin 256) (j : Fin 2048) : iblk m c 0 t (ix2 i j) = V m c main_arg0 (ix2 (row t i) j) := by
  blk_ext [iblk, row, idx t]

/-- A block of the norm's input. -/
theorem blk1_at (t : Fin cfg0.N) (i : Fin 256) (j : Fin 2048) : iblk m c 1 t (ix2 i j) = V m c main_arg1 (ix2 (row t i) j) := by
  blk_ext [iblk, row, idx t]

/-- The gain is one block. -/
theorem blk2_at (t : Fin cfg0.N) (j : Fin 2048) : iblk m c 2 t (ix2 0 j) = V m c main_arg2 (ix2 0 j) := by
  blk_ext [iblk, idx t]

/-- A block of the residual path's gradient. -/
theorem blk3_at (t : Fin cfg0.N) (i : Fin 256) (j : Fin 2048) : iblk m c 3 t (ix2 i j) = V m c main_arg3 (ix2 (row t i) j) := by
  blk_ext [iblk, row, idx t]

/-- Where a point writes its block of the input's gradient. -/
theorem emb4_at (t : Fin cfg0.N) (i : Fin 256) (j : Fin 2048) : (win0_4.blk t).view.emb (ix2 i j) = ix2 (row t i) j := by
  have e0 : (win0_4.blk t).view.emb (ix2 i j) 0 = row t i := Fin.ext (by blk_simp [idx t]; simp only [row])
  have e1 : (win0_4.blk t).view.emb (ix2 i j) 1 = j := Fin.ext (by blk_simp [idx t])
  funext k; fin_cases k
  exacts [e0, e1]

/-- Where every point keeps the gain's gradient. -/
theorem emb5_at (t : Fin cfg0.N) (j : Fin 2048) : (win0_5.blk t).view.emb (ix2 0 j) = ix2 0 j := by
  have e1 : (win0_5.blk t).view.emb (ix2 0 j) 1 = j := Fin.ext (by blk_simp [idx t])
  funext k; fin_cases k
  exacts [rfl, e1]

/-- The gradient by the input, at one entry of a block. -/
theorem pay4_at (t : Fin cfg0.N) (i : Fin 256) (j : Fin 2048) :
    k0_pay4 (F := Ideal) (iblk m c 1 t) (iblk m c 0 t) (iblk m c 2 t) (iblk m c 3 t) (ix2 i j) =
    Cert.MixBwdReferenceIdeal.Read.val_main_v34 (F := Ideal) (m ((c : Thread nD τ).loc main_arg0)) (m ((c : Thread nD τ).loc main_arg1)) (m ((c : Thread nD τ).loc main_arg2)) (m ((c : Thread nD τ).loc main_arg3)) (ix2 (row t i) j) := by
  pointwise [k0_pay4, k0_pay3, k0_pay2]
  simp only [blk0_at, blk1_at, blk2_at, blk3_at, V_main_arg0, V_main_arg1, V_main_arg2, V_main_arg3]
  pointwise [Cert.MixBwdReferenceIdeal.Read.val_main_v34, Cert.MixBwdReferenceIdeal.Read.val_main_v33, Cert.MixBwdReferenceIdeal.Read.val_main_v32, Cert.MixBwdReferenceIdeal.Read.val_main_v31, Cert.MixBwdReferenceIdeal.Read.val_main_v30, Cert.MixBwdReferenceIdeal.Read.val_main_v29, Cert.MixBwdReferenceIdeal.Read.val_main_v28, Cert.MixBwdReferenceIdeal.Read.val_main_v27, Cert.MixBwdReferenceIdeal.Read.val_main_v26, Cert.MixBwdReferenceIdeal.Read.val_main_v25, Cert.MixBwdReferenceIdeal.Read.val_main_v24, Cert.MixBwdReferenceIdeal.Read.val_main_v23, Cert.MixBwdReferenceIdeal.Read.val_main_v22, Cert.MixBwdReferenceIdeal.Read.val_main_v21, Cert.MixBwdReferenceIdeal.Read.val_main_v20, Cert.MixBwdReferenceIdeal.Read.val_main_v19, Cert.MixBwdReferenceIdeal.Read.val_main_v18, Cert.MixBwdReferenceIdeal.Read.val_main_v13, Cert.MixBwdReferenceIdeal.Read.val_main_v12, Cert.MixBwdReferenceIdeal.Read.val_main_v11, Cert.MixBwdReferenceIdeal.Read.val_main_v10, Cert.MixBwdReferenceIdeal.Read.val_main_v9, Cert.MixBwdReferenceIdeal.Read.val_main_v8, Cert.MixBwdReferenceIdeal.Read.val_main_v7, Cert.MixBwdReferenceIdeal.Read.val_main_v6, Cert.MixBwdReferenceIdeal.Read.val_main_v5, Cert.MixBwdReferenceIdeal.Read.val_main_v4, Cert.MixBwdReferenceIdeal.Read.val_main_v3, Cert.MixBwdReferenceIdeal.Read.val_main_v2, Cert.MixBwdReferenceIdeal.Read.val_main_v1, Cert.MixBwdReferenceIdeal.Read.val_main_v0, Cert.MixBwdReferenceIdeal.Read.val_main_cst, Cert.MixBwdReferenceIdeal.Read.val_main_cst_0, Cert.MixBwdReferenceIdeal.Read.val_main_cst_1, Cert.MixBwdReferenceIdeal.Read.val_main_cst_2, Cert.MixBwdReferenceIdeal.Read.val_main_cst_4, Cert.MixBwdReferenceIdeal.Read.val_main_cst_5, Cert.MixBwdReferenceIdeal.Read.val_main_cst_6]
  exact Cert.Norm.grad Cert.Norm.word_2048 (by norm_num) _ (Cert.Norm.mean_pos Cert.Norm.word_2048 (by norm_num) _) _ (fun k => _ * _) _ _ _

/-- The kernel's gradient by the input is the reference's. -/
theorem same4 : (dats m 0 c).arrAt 4 cfg0.N =
    Cert.MixBwdReferenceIdeal.Read.val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) (fun t hf y => ?_)
  blk_simp
  rw [after0_4]
  obtain ⟨i, j, rfl⟩ : ∃ i j, y = ix2 i j := ⟨y 0, y 1, by funext k; fin_cases k <;> rfl⟩
  refine Eq.trans ?_ (congrArg _ (emb4_at t i j)).symm
  refine Eq.trans ?_ (pay4_at m c t i j)
  by_cases h0 : t.val % 16 = 0
  · rw [outsAt0_A m c t h0]
    dsimp only
    frame_out
  · rw [outsAt0_B m c t h0]
    dsimp only
    frame_out

/-- What row `p` adds to the gain's gradient at column `j`. -/
def term (m : (ℓ : Loc nD τ sig) → Buf (Elt Ideal) ℓ) (c : Dev nD) (j : Fin 2048) (p : Fin 4096) : EReal :=
  mulf (F := Ideal) (φ := .f32) (s := S4096x2048) (m ((c : Thread nD τ).loc main_arg0)) (Cert.MixBwdReferenceIdeal.Read.val_main_v12 (F := Ideal) (m ((c : Thread nD τ).loc main_arg1))) (ix2 p j)

/-- A point adds its 256 rows. -/
theorem pay5_at (t : Fin cfg0.N) (z : Vec Ideal S1x2048 .f32) (j : Fin 2048) :
    k0_pay5 (F := Ideal) (iblk m c 1 t) (iblk m c 0 t) z (ix2 0 j) = z (ix2 0 j) + ∑ i : Fin 256, term m c j (row t i) := by
  unfold term
  pointwise [k0_pay5, k0_pay3, k0_pay2]
  simp only [blk0_at, blk1_at, V_main_arg0, V_main_arg1]
  pointwise [Cert.MixBwdReferenceIdeal.Read.val_main_v12, Cert.MixBwdReferenceIdeal.Read.val_main_v11, Cert.MixBwdReferenceIdeal.Read.val_main_v7, Cert.MixBwdReferenceIdeal.Read.val_main_v6, Cert.MixBwdReferenceIdeal.Read.val_main_v5, Cert.MixBwdReferenceIdeal.Read.val_main_v4, Cert.MixBwdReferenceIdeal.Read.val_main_v3, Cert.MixBwdReferenceIdeal.Read.val_main_v2, Cert.MixBwdReferenceIdeal.Read.val_main_v1, Cert.MixBwdReferenceIdeal.Read.val_main_v0, Cert.MixBwdReferenceIdeal.Read.val_main_cst, Cert.MixBwdReferenceIdeal.Read.val_main_cst_0, Cert.MixBwdReferenceIdeal.Read.val_main_cst_1]

/-- After a point the kept gradient is the sum over the rows so far. -/
theorem acc (j : Fin 2048) : ∀ (n : ℕ) (hn : n < cfg0.N), (outsAt0 m c n hn).2 (ix2 0 j) = part (term m c j) ((n + 1) * 256)
  | 0, hn => by
    refine (congrFun (congrArg Prod.snd (outsAt0_A m c ⟨0, hn⟩ rfl)) (ix2 0 j)).trans ?_
    dsimp only
    frame_out
    rw [pay5_at]
    refine (congrArg₂ (fun a b : EReal => a + b) (show _ = (0 : EReal) by pointwise [k0_pay1]) rfl).trans ((zero_add _).trans ?_)
    exact part_first (term m c j) 256 _ (by omega) fun x => congrArg _ (Fin.ext (by simp only [row]; omega))
  | n + 1, hn => by
    have hN := lt_of_lt_of_eq hn N_0
    refine (congrFun (congrArg Prod.snd (outsAt0_B m c ⟨n + 1, hn⟩ (by dsimp only; omega))) (ix2 0 j)).trans ?_
    dsimp only
    frame_out
    rw [pay5_at]
    refine (congrArg₂ (fun a b : EReal => a + b) (acc j n (Nat.lt_of_succ_lt hn)) rfl).trans ?_
    refine (part_step (term m c j) ((n + 1) * 256) 256 _ (by omega) fun x => congrArg _ (Fin.ext (by simp only [row]))).trans ?_
    exact congrArg _ (by omega)

/-- The kernel's gradient by the gain is the reference's. -/
theorem same5 : (dats m 0 c).arrAt 5 cfg0.N =
    Cert.MixBwdReferenceIdeal.Read.val_main_v17 (F := Ideal) (m ((c : Thread nD τ).loc main_arg0)) (m ((c : Thread nD τ).loc main_arg1)) := by
  refine (dats m 0 c).arrAt_eq_of_covers 5 _ (by decide +kernel) (fun t hf y => ?_)
  have h15 : t.val = 15 := (by decide +kernel : ∀ t : Fin grid0.N, win0_5.flush t = true → t.val = 15) t hf
  blk_simp
  rw [after0_5]
  obtain ⟨j, rfl⟩ : ∃ j, y = ix2 0 j := ⟨y 1, by funext k; fin_cases k; exacts [Subsingleton.elim (α := Fin 1) _ _, rfl]⟩
  refine Eq.trans ?_ (congrArg _ (emb5_at t j)).symm
  refine (acc m c j t.val t.isLt).trans ?_
  rw [h15]
  refine (part_all (term m c j)).trans ?_
  unfold term
  pointwise [Cert.MixBwdReferenceIdeal.Read.val_main_v17, Cert.MixBwdReferenceIdeal.Read.val_main_v16, Cert.MixBwdReferenceIdeal.Read.val_main_v15, Cert.MixBwdReferenceIdeal.Read.val_main_cst_3]
  exact Finset.sum_congr rfl fun p _ => mul_comm _ _

end Cert.MixBwdValue

end
-- ==== Proof.ClaimsMixBwd.lean ====
/- The claims about the gradient of the first norm. -/
module

public import proofs.«01_k».proof.Defs
public import proofs.«01_k».proof.Proof.Gen.MixBwd.Frame
public import proofs.«01_k».proof.Proof.Gen.MixBwdIdeal.Value
public import proofs.«01_k».proof.Proof.Gen.MixBwdReferenceIdeal.Run
public import proofs.«01_k».proof.Proof.MixBwd

@[expose] public section

noncomputable section

namespace Cert.Proof

open Idealize.ShloMosaic Idealize.SL.Sem

/-- The kernel as printed, on bit patterns. -/
theorem frame_MixBwd : Cert.quiescent_MixBwd := fun m ρ _ => Cert.MixBwd.Gen.frame m ρ

/-- The same program over the extended reals. -/
theorem frame_MixBwdIdeal : Cert.quiescent_MixBwdIdeal := fun m ρ _ => Cert.MixBwdIdeal.Gen.frame m ρ

/-- The reference over the extended reals. -/
theorem frame_MixBwdReference : Cert.quiescent_MixBwdReferenceIdeal := fun m ρ _ =>
  (θ_run Cert.MixBwdReferenceIdeal.defs _ _).mono (fun r h => ⟨fun c => (h c).2.2, Idealize.ShloMosaic.sem_eq_zero_of_no_sems (by decide) r.2⟩)
    (Cert.MixBwdReferenceIdeal.Value.run (F := Ideal) m ρ)

/-- From the same arguments, the kernel's two gradients are the reference's. -/
theorem algebraic_MixBwd : Cert.algebraic_MixBwdIdeal_MixBwdReferenceIdeal := fun m ρ m' ρ' _ hag => by
  refine ⟨_, _, Cert.MixBwdIdeal.Value.run_blocks m ρ, ?_⟩
  refine (θ_run Cert.MixBwdReferenceIdeal.defs _ _).mono (fun _ h c => ⟨(h c).1.trans ?_, (h c).2.1.trans ?_, (h c).2.2⟩)
    (Cert.MixBwdReferenceIdeal.Value.run (F := Ideal) m' ρ')
  · refine (Cert.MixBwdReferenceIdeal.Read.val_main_v34_eq _ _ _ _).trans (Eq.trans ?_ (Cert.MixBwdValue.same4 m c).symm)
    obtain ⟨h0, h1, h2, h3⟩ := hag c
    rw [← h0, ← h1, ← h2, ← h3]
  · refine (Cert.MixBwdReferenceIdeal.Read.val_main_v17_eq _ _).trans (Eq.trans ?_ (Cert.MixBwdValue.same5 m c).symm)
    obtain ⟨h0, h1, h2, h3⟩ := hag c
    rw [← h0, ← h1]

end Cert.Proof

end
-- ==== Proof.MlpBwd.lean ====
/- The gradient of the second norm, by its input (added to the residual path's) and by its gain. -/
module

public import proofs.«01_k».proof.Proof.Gen.MlpBwdIdeal.Value
public import proofs.«01_k».proof.Proof.Gen.MlpBwdReferenceIdeal.Read
public import proofs.«01_k».proof.Proof.Tiles
public import proofs.«01_k».proof.Proof.Norm
public import Idealize.ShloMosaic.Lib.Pipeline.ReadBack

@[expose] public section

set_option maxRecDepth 16384

noncomputable section

namespace Cert.MlpBwdValue

open Idealize.ShloMosaic Idealize.ShloMosaic.TcCoe Cert.MlpBwdIdeal Cert.MlpBwdIdeal.Gen Cert.Tiles

/-- The block indices of the windows at a grid point. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![t.val, 0] ∧ win0_6.index t = ![0, 0] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

variable (m : (ℓ : Loc nD τ sig) → Buf (Elt Ideal) ℓ) (c : Dev nD)

/-- A block of the gradient by the norm's output. -/
theorem blk0_at (t : Fin cfg0.N) (i : Fin 256) (j : Fin 2048) : iblk m c 0 t (ix2 i j) = V m c main_arg0 (ix2 (row t i) j) := by
  blk_ext [iblk, row, idx t]

/-- A block of the norm's input. -/
theorem blk1_at (t : Fin cfg0.N) (i : Fin 256) (j : Fin 2048) : iblk m c 1 t (ix2 i j) = V m c main_arg1 (ix2 (row t i) j) := by
  blk_ext [iblk, row, idx t]

/-- The gain is one block. -/
theorem blk2_at (t : Fin cfg0.N) (j : Fin 2048) : iblk m c 2 t (ix2 0 j) = V m c main_arg2 (ix2 0 j) := by
  blk_ext [iblk, idx t]

/-- A block of the residual path's gradient. -/
theorem blk3_at (t : Fin cfg0.N) (i : Fin 256) (j : Fin 2048) : iblk m c 3 t (ix2 i j) = V m c main_arg3 (ix2 (row t i) j) := by
  blk_ext [iblk, row, idx t]

/-- Where a point writes its block of the input's gradient. -/
theorem emb4_at (t : Fin cfg0.N) (i : Fin 256) (j : Fin 2048) : (win0_4.blk t).view.emb (ix2 i j) = ix2 (row t i) j := by
  have e0 : (win0_4.blk t).view.emb (ix2 i j) 0 = row t i := Fin.ext (by blk_simp [idx t]; simp only [row])
  have e1 : (win0_4.blk t).view.emb (ix2 i j) 1 = j := Fin.ext (by blk_simp [idx t])
  funext k; fin_cases k
  exacts [e0, e1]

/-- Where a point writes its block of the copy. -/
theorem emb5_at (t : Fin cfg0.N) (i : Fin 256) (j : Fin 2048) : (win0_5.blk t).view.emb (ix2 i j) = ix2 (row t i) j := by
  have e0 : (win0_5.blk t).view.emb (ix2 i j) 0 = row t i := Fin.ext (by blk_simp [idx t]; simp only [row])
  have e1 : (win0_5.blk t).view.emb (ix2 i j) 1 = j := Fin.ext (by blk_simp [idx t])
  funext k; fin_cases k
  exacts [e0, e1]

/-- Where every point keeps the gain's gradient. -/
theorem emb6_at (t : Fin cfg0.N) (j : Fin 2048) : (win0_6.blk t).view.emb (ix2 0 j) = ix2 0 j := by
  have e1 : (win0_6.blk t).view.emb (ix2 0 j) 1 = j := Fin.ext (by blk_simp [idx t])
  funext k; fin_cases k
  exacts [rfl, e1]

/-- The gradient by the input, at one entry of a block. -/
theorem pay4_at (t : Fin cfg0.N) (i : Fin 256) (j : Fin 2048) :
    k0_pay5 (F := Ideal) (iblk m c 1 t) (iblk m c 0 t) (iblk m c 2 t) (iblk m c 3 t) (ix2 i j) =
    Cert.MlpBwdReferenceIdeal.Read.val_main_v34 (F := Ideal) (m ((c : Thread nD τ).loc main_arg0)) (m ((c : Thread nD τ).loc main_arg1)) (m ((c : Thread nD τ).loc main_arg2)) (m ((c : Thread nD τ).loc main_arg3)) (ix2 (row t i) j) := by
  pointwise [k0_pay5, k0_pay4, k0_pay3]
  simp only [blk0_at, blk1_at, blk2_at, blk3_at, V_main_arg0, V_main_arg1, V_main_arg2, V_main_arg3]
  pointwise [Cert.MlpBwdReferenceIdeal.Read.val_main_v34, Cert.MlpBwdReferenceIdeal.Read.val_main_v33, Cert.MlpBwdReferenceIdeal.Read.val_main_v32, Cert.MlpBwdReferenceIdeal.Read.val_main_v31, Cert.MlpBwdReferenceIdeal.Read.val_main_v30, Cert.MlpBwdReferenceIdeal.Read.val_main_v29, Cert.MlpBwdReferenceIdeal.Read.val_main_v28, Cert.MlpBwdReferenceIdeal.Read.val_main_v27, Cert.MlpBwdReferenceIdeal.Read.val_main_v26, Cert.MlpBwdReferenceIdeal.Read.val_main_v25, Cert.MlpBwdReferenceIdeal.Read.val_main_v24, Cert.MlpBwdReferenceIdeal.Read.val_main_v23, Cert.MlpBwdReferenceIdeal.Read.val_main_v22, Cert.MlpBwdReferenceIdeal.Read.val_main_v21, Cert.MlpBwdReferenceIdeal.Read.val_main_v20, Cert.MlpBwdReferenceIdeal.Read.val_main_v19, Cert.MlpBwdReferenceIdeal.Read.val_main_v18, Cert.MlpBwdReferenceIdeal.Read.val_main_v13, Cert.MlpBwdReferenceIdeal.Read.val_main_v12, Cert.MlpBwdReferenceIdeal.Read.val_main_v11, Cert.MlpBwdReferenceIdeal.Read.val_main_v10, Cert.MlpBwdReferenceIdeal.Read.val_main_v9, Cert.MlpBwdReferenceIdeal.Read.val_main_v8, Cert.MlpBwdReferenceIdeal.Read.val_main_v7, Cert.MlpBwdReferenceIdeal.Read.val_main_v6, Cert.MlpBwdReferenceIdeal.Read.val_main_v5, Cert.MlpBwdReferenceIdeal.Read.val_main_v4, Cert.MlpBwdReferenceIdeal.Read.val_main_v3, Cert.MlpBwdReferenceIdeal.Read.val_main_v2, Cert.MlpBwdReferenceIdeal.Read.val_main_v1, Cert.MlpBwdReferenceIdeal.Read.val_main_v0, Cert.MlpBwdReferenceIdeal.Read.val_main_cst, Cert.MlpBwdReferenceIdeal.Read.val_main_cst_0, Cert.MlpBwdReferenceIdeal.Read.val_main_cst_1, Cert.MlpBwdReferenceIdeal.Read.val_main_cst_2, Cert.MlpBwdReferenceIdeal.Read.val_main_cst_4, Cert.MlpBwdReferenceIdeal.Read.val_main_cst_5, Cert.MlpBwdReferenceIdeal.Read.val_main_cst_6]
  exact Cert.Norm.grad Cert.Norm.word_2048 (by norm_num) _ (Cert.Norm.mean_pos Cert.Norm.word_2048 (by norm_num) _) _ (fun k => _ * _) _ _ _

/-- The kernel's gradient by the input is the reference's. -/
theorem same4 : (dats m 0 c).arrAt 4 cfg0.N =
    Cert.MlpBwdReferenceIdeal.Read.val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) (fun t hf y => ?_)
  blk_simp
  rw [after0_4]
  obtain ⟨i, j, rfl⟩ : ∃ i j, y = ix2 i j := ⟨y 0, y 1, by funext k; fin_cases k <;> rfl⟩
  refine Eq.trans ?_ (congrArg _ (emb4_at t i j)).symm
  refine Eq.trans ?_ (pay4_at m c t i j)
  by_cases h0 : t.val % 16 = 0
  · rw [outsAt0_A m c t h0]
    dsimp only
    frame_out
  · rw [outsAt0_B m c t h0]
    dsimp only
    frame_out

/-- The kernel's copy of that gradient for the products is the reference's. -/
theorem same5 : (dats m 0 c).arrAt 5 cfg0.N =
    Cert.MlpBwdReferenceIdeal.Read.val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t hf y => ?_)
  blk_simp
  rw [after0_5]
  obtain ⟨i, j, rfl⟩ : ∃ i j, y = ix2 i j := ⟨y 0, y 1, by funext k; fin_cases k <;> rfl⟩
  refine Eq.trans ?_ (congrArg _ (emb5_at t i j)).symm
  refine Eq.trans ?_ (pay4_at m c t i j)
  by_cases h0 : t.val % 16 = 0
  · rw [outsAt0_A m c t h0]
    dsimp only
    frame_out
    exact rfl
  · rw [outsAt0_B m c t h0]
    dsimp only
    frame_out
    exact rfl

/-- What row `p` adds to the gain's gradient at column `j`. -/
def term (m : (ℓ : Loc nD τ sig) → Buf (Elt Ideal) ℓ) (c : Dev nD) (j : Fin 2048) (p : Fin 4096) : EReal :=
  mulf (F := Ideal) (φ := .f32) (s := S4096x2048) (m ((c : Thread nD τ).loc main_arg0)) (Cert.MlpBwdReferenceIdeal.Read.val_main_v12 (F := Ideal) (m ((c : Thread nD τ).loc main_arg1))) (ix2 p j)

/-- A point adds its 256 rows. -/
theorem pay5_at (t : Fin cfg0.N) (z : Vec Ideal S1x2048 .f32) (j : Fin 2048) :
    k0_pay1 (F := Ideal) (iblk m c 0 t) (k0_pay4 (iblk m c 1 t)) (k0_pay7 z) (ix2 0 j) = z (ix2 0 j) + ∑ i : Fin 256, term m c j (row t i) := by
  unfold term
  pointwise [k0_pay1, k0_pay7, k0_pay4, k0_pay3]
  simp only [blk0_at, blk1_at, V_main_arg0, V_main_arg1]
  pointwise [Cert.MlpBwdReferenceIdeal.Read.val_main_v12, Cert.MlpBwdReferenceIdeal.Read.val_main_v11, Cert.MlpBwdReferenceIdeal.Read.val_main_v7, Cert.MlpBwdReferenceIdeal.Read.val_main_v6, Cert.MlpBwdReferenceIdeal.Read.val_main_v5, Cert.MlpBwdReferenceIdeal.Read.val_main_v4, Cert.MlpBwdReferenceIdeal.Read.val_main_v3, Cert.MlpBwdReferenceIdeal.Read.val_main_v2, Cert.MlpBwdReferenceIdeal.Read.val_main_v1, Cert.MlpBwdReferenceIdeal.Read.val_main_v0, Cert.MlpBwdReferenceIdeal.Read.val_main_cst, Cert.MlpBwdReferenceIdeal.Read.val_main_cst_0, Cert.MlpBwdReferenceIdeal.Read.val_main_cst_1]

/-- After a point the kept gradient is the sum over the rows so far. -/
theorem acc (j : Fin 2048) : ∀ (n : ℕ) (hn : n < cfg0.N), (outsAt0 m c n hn).2.2 (ix2 0 j) = part (term m c j) ((n + 1) * 256)
  | 0, hn => by
    refine (congrFun (congrArg (fun p => p.2.2) (outsAt0_A m c ⟨0, hn⟩ rfl)) (ix2 0 j)).trans ?_
    dsimp only
    frame_out
    rw [pay5_at]
    refine (congrArg₂ (fun a b : EReal => a + b) (show _ = (0 : EReal) by pointwise [k0_pay2]) rfl).trans ((zero_add _).trans ?_)
    exact part_first (term m c j) 256 _ (by omega) fun x => congrArg _ (Fin.ext (by simp only [row]; omega))
  | n + 1, hn => by
    have hN := lt_of_lt_of_eq hn N_0
    refine (congrFun (congrArg (fun p => p.2.2) (outsAt0_B m c ⟨n + 1, hn⟩ (by dsimp only; omega))) (ix2 0 j)).trans ?_
    dsimp only
    frame_out
    rw [pay5_at]
    refine (congrArg₂ (fun a b : EReal => a + b) (acc j n (Nat.lt_of_succ_lt hn)) rfl).trans ?_
    refine (part_step (term m c j) ((n + 1) * 256) 256 _ (by omega) fun x => congrArg _ (Fin.ext (by simp only [row]))).trans ?_
    exact congrArg _ (by omega)

/-- The kernel's gradient by the gain is the reference's. -/
theorem same6 : (dats m 0 c).arrAt 6 cfg0.N =
    Cert.MlpBwdReferenceIdeal.Read.val_main_v17 (F := Ideal) (m ((c : Thread nD τ).loc main_arg0)) (m ((c : Thread nD τ).loc main_arg1)) := by
  refine (dats m 0 c).arrAt_eq_of_covers 6 _ (by decide +kernel) (fun t hf y => ?_)
  have h15 : t.val = 15 := (by decide +kernel : ∀ t : Fin grid0.N, win0_6.flush t = true → t.val = 15) t hf
  blk_simp
  rw [after0_6]
  obtain ⟨j, rfl⟩ : ∃ j, y = ix2 0 j := ⟨y 1, by funext k; fin_cases k; exacts [Subsingleton.elim (α := Fin 1) _ _, rfl]⟩
  refine Eq.trans ?_ (congrArg _ (emb6_at t j)).symm
  refine (acc m c j t.val t.isLt).trans ?_
  rw [h15]
  refine (part_all (term m c j)).trans ?_
  unfold term
  pointwise [Cert.MlpBwdReferenceIdeal.Read.val_main_v17, Cert.MlpBwdReferenceIdeal.Read.val_main_v16, Cert.MlpBwdReferenceIdeal.Read.val_main_v15, Cert.MlpBwdReferenceIdeal.Read.val_main_cst_3]
  exact Finset.sum_congr rfl fun p _ => mul_comm _ _

end Cert.MlpBwdValue

end
-- ==== Proof.ClaimsMlpBwd.lean ====
/- The claims about the gradient of the second norm. -/
module

public import proofs.«01_k».proof.Defs
public import proofs.«01_k».proof.Proof.Gen.MlpBwd.Frame
public import proofs.«01_k».proof.Proof.Gen.MlpBwdIdeal.Value
public import proofs.«01_k».proof.Proof.Gen.MlpBwdReferenceIdeal.Run
public import proofs.«01_k».proof.Proof.MlpBwd

@[expose] public section

noncomputable section

namespace Cert.Proof

open Idealize.ShloMosaic Idealize.SL.Sem

/-- The kernel as printed, on bit patterns. -/
theorem frame_MlpBwd : Cert.quiescent_MlpBwd := fun m ρ _ => Cert.MlpBwd.Gen.frame m ρ

/-- The same program over the extended reals. -/
theorem frame_MlpBwdIdeal : Cert.quiescent_MlpBwdIdeal := fun m ρ _ => Cert.MlpBwdIdeal.Gen.frame m ρ

/-- The reference over the extended reals. -/
theorem frame_MlpBwdReference : Cert.quiescent_MlpBwdReferenceIdeal := fun m ρ _ =>
  (θ_run Cert.MlpBwdReferenceIdeal.defs _ _).mono (fun r h => ⟨fun c => (h c).2.2.2, Idealize.ShloMosaic.sem_eq_zero_of_no_sems (by decide) r.2⟩)
    (Cert.MlpBwdReferenceIdeal.Value.run (F := Ideal) m ρ)

/-- From the same arguments, the kernel's gradients are the reference's. -/
theorem algebraic_MlpBwd : Cert.algebraic_MlpBwdIdeal_MlpBwdReferenceIdeal := fun m ρ m' ρ' _ hag => by
  refine ⟨_, _, _, Cert.MlpBwdIdeal.Value.run_blocks m ρ, ?_⟩
  refine (θ_run Cert.MlpBwdReferenceIdeal.defs _ _).mono (fun _ h c => ⟨(h c).1.trans ?_, (h c).2.1.trans ?_, (h c).2.2.1.trans ?_, (h c).2.2.2⟩)
    (Cert.MlpBwdReferenceIdeal.Value.run (F := Ideal) m' ρ')
  · refine (Cert.MlpBwdReferenceIdeal.Read.val_main_v34_eq _ _ _ _).trans (Eq.trans ?_ (Cert.MlpBwdValue.same4 m c).symm)
    obtain ⟨h0, h1, h2, h3⟩ := hag c
    rw [← h0, ← h1, ← h2, ← h3]
  · refine (Cert.MlpBwdReferenceIdeal.Read.val_main_v35_eq _ _ _ _).trans (Eq.trans ?_ (Cert.MlpBwdValue.same5 m c).symm)
    obtain ⟨h0, h1, h2, h3⟩ := hag c
    rw [← h0, ← h1, ← h2, ← h3]
  · refine (Cert.MlpBwdReferenceIdeal.Read.val_main_v17_eq _ _).trans (Eq.trans ?_ (Cert.MlpBwdValue.same6 m c).symm)
    obtain ⟨h0, h1, h2, h3⟩ := hag c
    rw [← h0, ← h1]

end Cert.Proof

end
-- ==== Proof.QLatent.lean ====
/- The gradient of a latent's norm, by the projection's columns that it reads and by its gain. -/
module

public import proofs.«01_k».proof.Proof.Gen.QLatentIdeal.Value
public import proofs.«01_k».proof.Proof.Gen.QLatentReferenceIdeal.Read
public import proofs.«01_k».proof.Proof.Tiles
public import proofs.«01_k».proof.Proof.Norm
public import Idealize.ShloMosaic.Lib.Pipeline.ReadBack
public import Idealize.ShloMosaic.Lib.StableHlo.RunRead

@[expose] public section

set_option maxRecDepth 16384

noncomputable section

namespace Cert.QLatentValue

open Idealize.ShloMosaic Idealize.ShloMosaic.TcCoe Cert.QLatentIdeal Cert.QLatentIdeal.Gen Cert.Tiles

/-- The block indices of the windows at a grid point. -/
theorem idx : ∀ t : Fin cfg0.N, win0_0.index t = ![t.val, 0] ∧ win0_1.index t = ![t.val, 8] ∧ win0_2.index t = ![0, 0] ∧
    win0_3.index t = ![t.val, 8] ∧ win0_4.index t = ![0, 0] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

/-- The column of the projection that the latent's column `j` is. -/
def col (j : Fin 512) : Fin 11520 := ⟨4096 + j.val, by omega⟩

variable (m : (ℓ : Loc nD τ sig) → Buf (Elt Ideal) ℓ) (c : Dev nD)

/-- A block of the gradient by the norm's output. -/
theorem blk0_at (t : Fin cfg0.N) (i : Fin 256) (j : Fin 512) : iblk m c 0 t (ix2 i j) = V m c main_arg1 (ix2 (row t i) j) := by
  blk_ext [iblk, row, idx t]

/-- A block of the norm's input. -/
theorem blk1_at (t : Fin cfg0.N) (i : Fin 256) (j : Fin 512) : X0_1 m c t (ix2 i j) = V m c main_arg0 (ix2 (row t i) (col j)) := by
  unfold X0_1 Pipeline.Window.fill
  refine (dif_pos (moved0_1 t (ix2 i j))).trans ?_
  blk_ext [iblk, row, col, idx t]

/-- The gain is one block. -/
theorem blk2_at (t : Fin cfg0.N) (j : Fin 512) : iblk m c 2 t (ix2 0 j) = V m c main_arg2 (ix2 0 j) := by
  blk_ext [iblk, idx t]

/-- Where every point keeps the gain's gradient. -/
theorem emb4_at (t : Fin cfg0.N) (j : Fin 512) : (win0_4.blk t).view.emb (ix2 0 j) = ix2 0 j := by
  have e1 : (win0_4.blk t).view.emb (ix2 0 j) 1 = j := Fin.ext (by blk_simp [idx t])
  funext k; fin_cases k
  exacts [rfl, e1]

/-- The reference's gradient of the latent's columns. -/
def inner (m : (ℓ : Loc nD τ sig) → Buf (Elt Ideal) ℓ) (c : Dev nD) : Vec Ideal S4096x512 .f32 :=
  Cert.QLatentReferenceIdeal.Read.val_main_v34 (F := Ideal) (m ((c : Thread nD τ).loc main_arg0)) (m ((c : Thread nD τ).loc main_arg1)) (m ((c : Thread nD τ).loc main_arg2))

/-- The gradient by the input, at one entry of a block. -/
theorem pay4_at (t : Fin cfg0.N) (i : Fin 256) (j : Fin 512) :
    @Eq EReal (k0_pay4 (F := Ideal) (X0_1 m c t) (iblk m c 0 t) (iblk m c 2 t) (ix2 i j)) (inner m c (ix2 (row t i) j)) := by
  unfold inner
  pointwise [k0_pay4, k0_pay3, k0_pay2]
  simp only [blk0_at, blk1_at, blk2_at, V_main_arg0, V_main_arg1, V_main_arg2]
  pointwise [Cert.QLatentReferenceIdeal.Read.val_main_v34, Cert.QLatentReferenceIdeal.Read.val_main_v33, Cert.QLatentReferenceIdeal.Read.val_main_v32, Cert.QLatentReferenceIdeal.Read.val_main_v31, Cert.QLatentReferenceIdeal.Read.val_main_v30, Cert.QLatentReferenceIdeal.Read.val_main_v29, Cert.QLatentReferenceIdeal.Read.val_main_v28, Cert.QLatentReferenceIdeal.Read.val_main_v27, Cert.QLatentReferenceIdeal.Read.val_main_v26, Cert.QLatentReferenceIdeal.Read.val_main_v25, Cert.QLatentReferenceIdeal.Read.val_main_v24, Cert.QLatentReferenceIdeal.Read.val_main_v23, Cert.QLatentReferenceIdeal.Read.val_main_v22, Cert.QLatentReferenceIdeal.Read.val_main_v21, Cert.QLatentReferenceIdeal.Read.val_main_v20, Cert.QLatentReferenceIdeal.Read.val_main_v19, Cert.QLatentReferenceIdeal.Read.val_main_v13, Cert.QLatentReferenceIdeal.Read.val_main_v12, Cert.QLatentReferenceIdeal.Read.val_main_v11, Cert.QLatentReferenceIdeal.Read.val_main_v10, Cert.QLatentReferenceIdeal.Read.val_main_v9, Cert.QLatentReferenceIdeal.Read.val_main_v8, Cert.QLatentReferenceIdeal.Read.val_main_v7, Cert.QLatentReferenceIdeal.Read.val_main_v6, Cert.QLatentReferenceIdeal.Read.val_main_v5, Cert.QLatentReferenceIdeal.Read.val_main_v4, Cert.QLatentReferenceIdeal.Read.val_main_v3, Cert.QLatentReferenceIdeal.Read.val_main_v2, Cert.QLatentReferenceIdeal.Read.val_main_v1, Cert.QLatentReferenceIdeal.Read.val_main_v0, Cert.QLatentReferenceIdeal.Read.val_main_cst, Cert.QLatentReferenceIdeal.Read.val_main_cst_0, Cert.QLatentReferenceIdeal.Read.val_main_cst_1, Cert.QLatentReferenceIdeal.Read.val_main_cst_2, Cert.QLatentReferenceIdeal.Read.val_main_cst_4, Cert.QLatentReferenceIdeal.Read.val_main_cst_5, Cert.QLatentReferenceIdeal.Read.val_main_cst_6]
  exact Cert.Norm.grad_alone Cert.Retention.word_512 (by norm_num) _ (Cert.Norm.mean_pos Cert.Retention.word_512 (by norm_num) _) _ (fun k => _ * _) _ _

/-- The column of the latent that a column of the projection is. -/
def lat (k : Fin 11520) : Fin 512 := ⟨(k.val - 4096) % 512, Nat.mod_lt _ (by norm_num)⟩

/-- The array that the kernel writes into is the one it is given. -/
theorem given : V m c main_v0_0 = m ((c : Thread nD τ).loc main_arg3) := by
  unfold V
  after_reads_simp
  rfl

/-- The kernel's first result: the gradient of the latent's columns, and the rest of the array as it was given. -/
theorem final3 : (dats m 0 c).arrAt 3 cfg0.N =
    fun i => if 4096 ≤ (i 1 : ℕ) ∧ (i 1 : ℕ) < 4608 then inner m c (ix2 (i 0) (lat (i 1))) else V m c main_v0_0 i := by
  refine (dats m 0 c).arrAt_eq_of_coversWhere 3 _ (fun β => β 1 = 8) (by decide +kernel) (fun t hf y => ?_)
    (fun j => by blk_simp [Pipeline.Window.cell_apply]; omega)
  have h0 : (y 0).val < 256 := lt_of_lt_of_le (y 0).isLt (win0_3.xsize_le (grid0.coords t) 0)
  have h1 : (y 1).val < 512 := lt_of_lt_of_le (y 1).isLt (win0_3.xsize_le (grid0.coords t) 1)
  have e0 : (win0_3.blk t).view.emb y 0 = row t ⟨(y 0).val, h0⟩ :=
    Fin.ext ((Pipeline.Window.rect_emb_val win0_3 t y 0 rfl).trans (by rw [(idx t).2.2.2.1]; rfl))
  have e1 : (win0_3.blk t).view.emb y 1 = col ⟨(y 1).val, h1⟩ :=
    Fin.ext ((Pipeline.Window.rect_emb_val win0_3 t y 1 rfl).trans (by rw [(idx t).2.2.2.1]; rfl))
  have hj : lat (col ⟨(y 1).val, h1⟩) = ⟨(y 1).val, h1⟩ := Fin.ext (by simp only [lat, col]; omega)
  have hx : win0_3.xinj (grid0.coords t) y = ix2 ⟨(y 0).val, h0⟩ ⟨(y 1).val, h1⟩ := by funext k; fin_cases k <;> rfl
  blk_simp
  rw [after0_3]
  refine (congrArg _ hx).trans ?_
  refine Eq.trans ?_ (show _ = _ from by rw [e0, e1, hj])
  refine Eq.trans ?_ (pay4_at m c t _ _)
  by_cases hc : t.val % 16 = 0
  · rw [outsAt0_A m c t hc]
    dsimp only
    frame_out
  · rw [outsAt0_B m c t hc]
    dsimp only
    frame_out

/-- The kernel's first result is the reference's. -/
theorem same3 : (dats m 0 c).arrAt 3 cfg0.N =
    Cert.QLatentReferenceIdeal.Read.val_main_v38 (F := Ideal) (m ((c : Thread nD τ).loc main_arg0)) (m ((c : Thread nD τ).loc main_arg1)) (m ((c : Thread nD τ).loc main_arg2)) (m ((c : Thread nD τ).loc main_arg3)) := by
  refine (final3 m c).trans (funext fun y => ?_)
  obtain ⟨n, k, rfl⟩ : ∃ n k, y = ix2 n k := ⟨y 0, y 1, by funext k; fin_cases k <;> rfl⟩
  rw [given]
  show (if 4096 ≤ k.val ∧ k.val < 4608 then inner m c (ix2 n (lat k)) else m ((c : Thread nD τ).loc main_arg3) (ix2 n k)) = _
  pointwise [Cert.QLatentReferenceIdeal.Read.val_main_v38, Cert.QLatentReferenceIdeal.Read.val_main_v37, Cert.QLatentReferenceIdeal.Read.val_main_v36, Cert.QLatentReferenceIdeal.Read.val_main_v35]
  by_cases h1 : k.val < 4096
  · rw [if_neg (by omega), dif_pos h1]
  · rw [dif_neg h1]
    by_cases h2 : k.val - 4096 < 512
    · rw [if_pos (by omega), dif_pos h2]
      have hk : lat k = ⟨k.val - 4096, h2⟩ := Fin.ext (by simp only [lat]; omega)
      rw [hk]
      rfl
    · rw [if_neg (by omega), dif_neg h2]
      exact congrArg _ (congrArg _ (Fin.ext (by dsimp only; omega)))

/-- What row `p` adds to the gain's gradient at column `j`. -/
def term (m : (ℓ : Loc nD τ sig) → Buf (Elt Ideal) ℓ) (c : Dev nD) (j : Fin 512) (p : Fin 4096) : EReal :=
  mulf (F := Ideal) (φ := .f32) (s := S4096x512) (m ((c : Thread nD τ).loc main_arg1)) (Cert.QLatentReferenceIdeal.Read.val_main_v13 (F := Ideal) (m ((c : Thread nD τ).loc main_arg0))) (ix2 p j)

/-- A point adds its 256 rows. -/
theorem pay5_at (t : Fin cfg0.N) (z : Vec Ideal S1x512 .f32) (j : Fin 512) :
    k0_pay5 (F := Ideal) (X0_1 m c t) (iblk m c 0 t) z (ix2 0 j) = z (ix2 0 j) + ∑ i : Fin 256, term m c j (row t i) := by
  unfold term
  pointwise [k0_pay5, k0_pay3, k0_pay2]
  simp only [blk0_at, blk1_at, V_main_arg0, V_main_arg1]
  pointwise [Cert.QLatentReferenceIdeal.Read.val_main_v13, Cert.QLatentReferenceIdeal.Read.val_main_v12, Cert.QLatentReferenceIdeal.Read.val_main_v8, Cert.QLatentReferenceIdeal.Read.val_main_v7, Cert.QLatentReferenceIdeal.Read.val_main_v6, Cert.QLatentReferenceIdeal.Read.val_main_v5, Cert.QLatentReferenceIdeal.Read.val_main_v4, Cert.QLatentReferenceIdeal.Read.val_main_v3, Cert.QLatentReferenceIdeal.Read.val_main_v2, Cert.QLatentReferenceIdeal.Read.val_main_v1, Cert.QLatentReferenceIdeal.Read.val_main_v0, Cert.QLatentReferenceIdeal.Read.val_main_cst, Cert.QLatentReferenceIdeal.Read.val_main_cst_0, Cert.QLatentReferenceIdeal.Read.val_main_cst_1]
  rfl

/-- After a point the kept gradient is the sum over the rows so far. -/
theorem acc (j : Fin 512) : ∀ (n : ℕ) (hn : n < cfg0.N), (outsAt0 m c n hn).2 (ix2 0 j) = part (term m c j) ((n + 1) * 256)
  | 0, hn => by
    refine (congrFun (congrArg Prod.snd (outsAt0_A m c ⟨0, hn⟩ rfl)) (ix2 0 j)).trans ?_
    dsimp only
    frame_out
    rw [pay5_at]
    refine (congrArg₂ (fun a b : EReal => a + b) (show _ = (0 : EReal) by pointwise [k0_pay1]) rfl).trans ((zero_add _).trans ?_)
    exact part_first (term m c j) 256 _ (by omega) fun x => congrArg _ (Fin.ext (by simp only [row]; omega))
  | n + 1, hn => by
    have hN := lt_of_lt_of_eq hn N_0
    refine (congrFun (congrArg Prod.snd (outsAt0_B m c ⟨n + 1, hn⟩ (by dsimp only; omega))) (ix2 0 j)).trans ?_
    dsimp only
    frame_out
    rw [pay5_at]
    refine (congrArg₂ (fun a b : EReal => a + b) (acc j n (Nat.lt_of_succ_lt hn)) rfl).trans ?_
    refine (part_step (term m c j) ((n + 1) * 256) 256 _ (by omega) fun x => congrArg _ (Fin.ext (by simp only [row]))).trans ?_
    exact congrArg _ (by omega)

/-- The kernel's gradient by the gain is the reference's. -/
theorem same4 : (dats m 0 c).arrAt 4 cfg0.N =
    Cert.QLatentReferenceIdeal.Read.val_main_v18 (F := Ideal) (m ((c : Thread nD τ).loc main_arg0)) (m ((c : Thread nD τ).loc main_arg1)) := by
  refine (dats m 0 c).arrAt_eq_of_covers 4 _ (by decide +kernel) (fun t hf y => ?_)
  have h15 : t.val = 15 := (by decide +kernel : ∀ t : Fin grid0.N, win0_4.flush t = true → t.val = 15) t hf
  blk_simp
  rw [after0_4]
  obtain ⟨j, rfl⟩ : ∃ j, y = ix2 0 j := ⟨y 1, by funext k; fin_cases k; exacts [Subsingleton.elim (α := Fin 1) _ _, rfl]⟩
  refine Eq.trans ?_ (congrArg _ (emb4_at t j)).symm
  refine (acc m c j t.val t.isLt).trans ?_
  rw [h15]
  refine (part_all (term m c j)).trans ?_
  unfold term
  pointwise [Cert.QLatentReferenceIdeal.Read.val_main_v18, Cert.QLatentReferenceIdeal.Read.val_main_v17, Cert.QLatentReferenceIdeal.Read.val_main_v16, Cert.QLatentReferenceIdeal.Read.val_main_cst_3]
  exact Finset.sum_congr rfl fun p _ => mul_comm _ _

end Cert.QLatentValue

end
-- ==== Proof.ClaimsQLatent.lean ====
/- The claims about the gradient of the query latent's norm. -/
module

public import proofs.«01_k».proof.Defs
public import proofs.«01_k».proof.Proof.Gen.QLatent.Frame
public import proofs.«01_k».proof.Proof.Gen.QLatentIdeal.Value
public import proofs.«01_k».proof.Proof.Gen.QLatentReferenceIdeal.Run
public import proofs.«01_k».proof.Proof.QLatent

@[expose] public section

noncomputable section

namespace Cert.Proof

open Idealize.ShloMosaic Idealize.SL.Sem

/-- The kernel as printed, on bit patterns. -/
theorem frame_QLatent : Cert.quiescent_QLatent := fun m ρ _ => Cert.QLatent.Gen.frame m ρ

/-- The same program over the extended reals. -/
theorem frame_QLatentIdeal : Cert.quiescent_QLatentIdeal := fun m ρ _ => Cert.QLatentIdeal.Gen.frame m ρ

/-- The reference over the extended reals. -/
theorem frame_QLatentReference : Cert.quiescent_QLatentReferenceIdeal := fun m ρ _ =>
  (θ_run Cert.QLatentReferenceIdeal.defs _ _).mono (fun r h => ⟨fun c => (h c).2.2, Idealize.ShloMosaic.sem_eq_zero_of_no_sems (by decide) r.2⟩)
    (Cert.QLatentReferenceIdeal.Value.run (F := Ideal) m ρ)

/-- From the same arguments, the kernel's gradients are the reference's. -/
theorem algebraic_QLatent : Cert.algebraic_QLatentIdeal_QLatentReferenceIdeal := fun m ρ m' ρ' _ hag => by
  refine ⟨_, _, Cert.QLatentIdeal.Value.run_blocks m ρ, ?_⟩
  refine (θ_run Cert.QLatentReferenceIdeal.defs _ _).mono (fun _ h c => ⟨(h c).1.trans ?_, (h c).2.1.trans ?_, (h c).2.2⟩)
    (Cert.QLatentReferenceIdeal.Value.run (F := Ideal) m' ρ')
  · refine (Cert.QLatentReferenceIdeal.Read.val_main_v38_eq m' c).trans (Eq.trans ?_ (Cert.QLatentValue.same3 m c).symm)
    obtain ⟨h0, h1, h2, h3⟩ := hag c
    rw [← h0, ← h1, ← h2, ← h3]
  · refine (Cert.QLatentReferenceIdeal.Read.val_main_v18_eq _ _).trans (Eq.trans ?_ (Cert.QLatentValue.same4 m c).symm)
    obtain ⟨h0, h1, h2, h3⟩ := hag c
    rw [← h0, ← h1]

end Cert.Proof

end
-- ==== Proof.KvLatent.lean ====
/- The gradient of a latent's norm, by the projection's columns that it reads and by its gain. -/
module

public import proofs.«01_k».proof.Proof.Gen.KvLatentIdeal.Value
public import proofs.«01_k».proof.Proof.Gen.KvLatentReferenceIdeal.Read
public import proofs.«01_k».proof.Proof.Tiles
public import proofs.«01_k».proof.Proof.Norm
public import Idealize.ShloMosaic.Lib.Pipeline.ReadBack
public import Idealize.ShloMosaic.Lib.StableHlo.RunRead

@[expose] public section

set_option maxRecDepth 16384

noncomputable section

namespace Cert.KvLatentValue

open Idealize.ShloMosaic Idealize.ShloMosaic.TcCoe Cert.KvLatentIdeal Cert.KvLatentIdeal.Gen Cert.Tiles

/-- The block indices of the windows at a grid point. -/
theorem idx : ∀ t : Fin cfg0.N, win0_0.index t = ![t.val, 0] ∧ win0_1.index t = ![t.val, 21] ∧ win0_2.index t = ![0, 0] ∧
    win0_3.index t = ![t.val, 21] ∧ win0_4.index t = ![0, 0] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

/-- The column of the projection that the latent's column `j` is. -/
def col (j : Fin 512) : Fin 11520 := ⟨10752 + j.val, by omega⟩

variable (m : (ℓ : Loc nD τ sig) → Buf (Elt Ideal) ℓ) (c : Dev nD)

/-- A block of the gradient by the norm's output. -/
theorem blk0_at (t : Fin cfg0.N) (i : Fin 256) (j : Fin 512) : iblk m c 0 t (ix2 i j) = V m c main_arg1 (ix2 (row t i) j) := by
  blk_ext [iblk, row, idx t]

/-- A block of the norm's input. -/
theorem blk1_at (t : Fin cfg0.N) (i : Fin 256) (j : Fin 512) : X0_1 m c t (ix2 i j) = V m c main_arg0 (ix2 (row t i) (col j)) := by
  unfold X0_1 Pipeline.Window.fill
  refine (dif_pos (moved0_1 t (ix2 i j))).trans ?_
  blk_ext [iblk, row, col, idx t]

/-- The gain is one block. -/
theorem blk2_at (t : Fin cfg0.N) (j : Fin 512) : iblk m c 2 t (ix2 0 j) = V m c main_arg2 (ix2 0 j) := by
  blk_ext [iblk, idx t]

/-- Where every point keeps the gain's gradient. -/
theorem emb4_at (t : Fin cfg0.N) (j : Fin 512) : (win0_4.blk t).view.emb (ix2 0 j) = ix2 0 j := by
  have e1 : (win0_4.blk t).view.emb (ix2 0 j) 1 = j := Fin.ext (by blk_simp [idx t])
  funext k; fin_cases k
  exacts [rfl, e1]

/-- The reference's gradient of the latent's columns. -/
def inner (m : (ℓ : Loc nD τ sig) → Buf (Elt Ideal) ℓ) (c : Dev nD) : Vec Ideal S4096x512 .f32 :=
  Cert.KvLatentReferenceIdeal.Read.val_main_v34 (F := Ideal) (m ((c : Thread nD τ).loc main_arg0)) (m ((c : Thread nD τ).loc main_arg1)) (m ((c : Thread nD τ).loc main_arg2))

/-- The gradient by the input, at one entry of a block. -/
theorem pay4_at (t : Fin cfg0.N) (i : Fin 256) (j : Fin 512) :
    @Eq EReal (k0_pay4 (F := Ideal) (X0_1 m c t) (iblk m c 0 t) (iblk m c 2 t) (ix2 i j)) (inner m c (ix2 (row t i) j)) := by
  unfold inner
  pointwise [k0_pay4, k0_pay3, k0_pay2]
  simp only [blk0_at, blk1_at, blk2_at, V_main_arg0, V_main_arg1, V_main_arg2]
  pointwise [Cert.KvLatentReferenceIdeal.Read.val_main_v34, Cert.KvLatentReferenceIdeal.Read.val_main_v33, Cert.KvLatentReferenceIdeal.Read.val_main_v32, Cert.KvLatentReferenceIdeal.Read.val_main_v31, Cert.KvLatentReferenceIdeal.Read.val_main_v30, Cert.KvLatentReferenceIdeal.Read.val_main_v29, Cert.KvLatentReferenceIdeal.Read.val_main_v28, Cert.KvLatentReferenceIdeal.Read.val_main_v27, Cert.KvLatentReferenceIdeal.Read.val_main_v26, Cert.KvLatentReferenceIdeal.Read.val_main_v25, Cert.KvLatentReferenceIdeal.Read.val_main_v24, Cert.KvLatentReferenceIdeal.Read.val_main_v23, Cert.KvLatentReferenceIdeal.Read.val_main_v22, Cert.KvLatentReferenceIdeal.Read.val_main_v21, Cert.KvLatentReferenceIdeal.Read.val_main_v20, Cert.KvLatentReferenceIdeal.Read.val_main_v19, Cert.KvLatentReferenceIdeal.Read.val_main_v13, Cert.KvLatentReferenceIdeal.Read.val_main_v12, Cert.KvLatentReferenceIdeal.Read.val_main_v11, Cert.KvLatentReferenceIdeal.Read.val_main_v10, Cert.KvLatentReferenceIdeal.Read.val_main_v9, Cert.KvLatentReferenceIdeal.Read.val_main_v8, Cert.KvLatentReferenceIdeal.Read.val_main_v7, Cert.KvLatentReferenceIdeal.Read.val_main_v6, Cert.KvLatentReferenceIdeal.Read.val_main_v5, Cert.KvLatentReferenceIdeal.Read.val_main_v4, Cert.KvLatentReferenceIdeal.Read.val_main_v3, Cert.KvLatentReferenceIdeal.Read.val_main_v2, Cert.KvLatentReferenceIdeal.Read.val_main_v1, Cert.KvLatentReferenceIdeal.Read.val_main_v0, Cert.KvLatentReferenceIdeal.Read.val_main_cst, Cert.KvLatentReferenceIdeal.Read.val_main_cst_0, Cert.KvLatentReferenceIdeal.Read.val_main_cst_1, Cert.KvLatentReferenceIdeal.Read.val_main_cst_2, Cert.KvLatentReferenceIdeal.Read.val_main_cst_4, Cert.KvLatentReferenceIdeal.Read.val_main_cst_5, Cert.KvLatentReferenceIdeal.Read.val_main_cst_6]
  exact Cert.Norm.grad_alone Cert.Retention.word_512 (by norm_num) _ (Cert.Norm.mean_pos Cert.Retention.word_512 (by norm_num) _) _ (fun k => _ * _) _ _

/-- The column of the latent that a column of the projection is. -/
def lat (k : Fin 11520) : Fin 512 := ⟨(k.val - 10752) % 512, Nat.mod_lt _ (by norm_num)⟩

/-- The array that the kernel writes into is the one it is given. -/
theorem given : V m c main_v0_0 = m ((c : Thread nD τ).loc main_arg3) := by
  unfold V
  after_reads_simp
  rfl

/-- The kernel's first result: the gradient of the latent's columns, and the rest of the array as it was given. -/
theorem final3 : (dats m 0 c).arrAt 3 cfg0.N =
    fun i => if 10752 ≤ (i 1 : ℕ) ∧ (i 1 : ℕ) < 11264 then inner m c (ix2 (i 0) (lat (i 1))) else V m c main_v0_0 i := by
  refine (dats m 0 c).arrAt_eq_of_coversWhere 3 _ (fun β => β 1 = 21) (by decide +kernel) (fun t hf y => ?_)
    (fun j => by blk_simp [Pipeline.Window.cell_apply]; omega)
  have h0 : (y 0).val < 256 := lt_of_lt_of_le (y 0).isLt (win0_3.xsize_le (grid0.coords t) 0)
  have h1 : (y 1).val < 512 := lt_of_lt_of_le (y 1).isLt (win0_3.xsize_le (grid0.coords t) 1)
  have e0 : (win0_3.blk t).view.emb y 0 = row t ⟨(y 0).val, h0⟩ :=
    Fin.ext ((Pipeline.Window.rect_emb_val win0_3 t y 0 rfl).trans (by rw [(idx t).2.2.2.1]; rfl))
  have e1 : (win0_3.blk t).view.emb y 1 = col ⟨(y 1).val, h1⟩ :=
    Fin.ext ((Pipeline.Window.rect_emb_val win0_3 t y 1 rfl).trans (by rw [(idx t).2.2.2.1]; rfl))
  have hj : lat (col ⟨(y 1).val, h1⟩) = ⟨(y 1).val, h1⟩ := Fin.ext (by simp only [lat, col]; omega)
  have hx : win0_3.xinj (grid0.coords t) y = ix2 ⟨(y 0).val, h0⟩ ⟨(y 1).val, h1⟩ := by funext k; fin_cases k <;> rfl
  blk_simp
  rw [after0_3]
  refine (congrArg _ hx).trans ?_
  refine Eq.trans ?_ (show _ = _ from by rw [e0, e1, hj])
  refine Eq.trans ?_ (pay4_at m c t _ _)
  by_cases hc : t.val % 16 = 0
  · rw [outsAt0_A m c t hc]
    dsimp only
    frame_out
  · rw [outsAt0_B m c t hc]
    dsimp only
    frame_out

/-- The kernel's first result is the reference's. -/
theorem same3 : (dats m 0 c).arrAt 3 cfg0.N =
    Cert.KvLatentReferenceIdeal.Read.val_main_v38 (F := Ideal) (m ((c : Thread nD τ).loc main_arg0)) (m ((c : Thread nD τ).loc main_arg1)) (m ((c : Thread nD τ).loc main_arg2)) (m ((c : Thread nD τ).loc main_arg3)) := by
  refine (final3 m c).trans (funext fun y => ?_)
  obtain ⟨n, k, rfl⟩ : ∃ n k, y = ix2 n k := ⟨y 0, y 1, by funext k; fin_cases k <;> rfl⟩
  rw [given]
  show (if 10752 ≤ k.val ∧ k.val < 11264 then inner m c (ix2 n (lat k)) else m ((c : Thread nD τ).loc main_arg3) (ix2 n k)) = _
  pointwise [Cert.KvLatentReferenceIdeal.Read.val_main_v38, Cert.KvLatentReferenceIdeal.Read.val_main_v37, Cert.KvLatentReferenceIdeal.Read.val_main_v36, Cert.KvLatentReferenceIdeal.Read.val_main_v35]
  by_cases h1 : k.val < 10752
  · rw [if_neg (by omega), dif_pos h1]
  · rw [dif_neg h1]
    by_cases h2 : k.val - 10752 < 512
    · rw [if_pos (by omega), dif_pos h2]
      have hk : lat k = ⟨k.val - 10752, h2⟩ := Fin.ext (by simp only [lat]; omega)
      rw [hk]
      rfl
    · rw [if_neg (by omega), dif_neg h2]
      exact congrArg _ (congrArg _ (Fin.ext (by dsimp only; omega)))

/-- What row `p` adds to the gain's gradient at column `j`. -/
def term (m : (ℓ : Loc nD τ sig) → Buf (Elt Ideal) ℓ) (c : Dev nD) (j : Fin 512) (p : Fin 4096) : EReal :=
  mulf (F := Ideal) (φ := .f32) (s := S4096x512) (m ((c : Thread nD τ).loc main_arg1)) (Cert.KvLatentReferenceIdeal.Read.val_main_v13 (F := Ideal) (m ((c : Thread nD τ).loc main_arg0))) (ix2 p j)

/-- A point adds its 256 rows. -/
theorem pay5_at (t : Fin cfg0.N) (z : Vec Ideal S1x512 .f32) (j : Fin 512) :
    k0_pay5 (F := Ideal) (X0_1 m c t) (iblk m c 0 t) z (ix2 0 j) = z (ix2 0 j) + ∑ i : Fin 256, term m c j (row t i) := by
  unfold term
  pointwise [k0_pay5, k0_pay3, k0_pay2]
  simp only [blk0_at, blk1_at, V_main_arg0, V_main_arg1]
  pointwise [Cert.KvLatentReferenceIdeal.Read.val_main_v13, Cert.KvLatentReferenceIdeal.Read.val_main_v12, Cert.KvLatentReferenceIdeal.Read.val_main_v8, Cert.KvLatentReferenceIdeal.Read.val_main_v7, Cert.KvLatentReferenceIdeal.Read.val_main_v6, Cert.KvLatentReferenceIdeal.Read.val_main_v5, Cert.KvLatentReferenceIdeal.Read.val_main_v4, Cert.KvLatentReferenceIdeal.Read.val_main_v3, Cert.KvLatentReferenceIdeal.Read.val_main_v2, Cert.KvLatentReferenceIdeal.Read.val_main_v1, Cert.KvLatentReferenceIdeal.Read.val_main_v0, Cert.KvLatentReferenceIdeal.Read.val_main_cst, Cert.KvLatentReferenceIdeal.Read.val_main_cst_0, Cert.KvLatentReferenceIdeal.Read.val_main_cst_1]
  rfl

/-- After a point the kept gradient is the sum over the rows so far. -/
theorem acc (j : Fin 512) : ∀ (n : ℕ) (hn : n < cfg0.N), (outsAt0 m c n hn).2 (ix2 0 j) = part (term m c j) ((n + 1) * 256)
  | 0, hn => by
    refine (congrFun (congrArg Prod.snd (outsAt0_A m c ⟨0, hn⟩ rfl)) (ix2 0 j)).trans ?_
    dsimp only
    frame_out
    rw [pay5_at]
    refine (congrArg₂ (fun a b : EReal => a + b) (show _ = (0 : EReal) by pointwise [k0_pay1]) rfl).trans ((zero_add _).trans ?_)
    exact part_first (term m c j) 256 _ (by omega) fun x => congrArg _ (Fin.ext (by simp only [row]; omega))
  | n + 1, hn => by
    have hN := lt_of_lt_of_eq hn N_0
    refine (congrFun (congrArg Prod.snd (outsAt0_B m c ⟨n + 1, hn⟩ (by dsimp only; omega))) (ix2 0 j)).trans ?_
    dsimp only
    frame_out
    rw [pay5_at]
    refine (congrArg₂ (fun a b : EReal => a + b) (acc j n (Nat.lt_of_succ_lt hn)) rfl).trans ?_
    refine (part_step (term m c j) ((n + 1) * 256) 256 _ (by omega) fun x => congrArg _ (Fin.ext (by simp only [row]))).trans ?_
    exact congrArg _ (by omega)

/-- The kernel's gradient by the gain is the reference's. -/
theorem same4 : (dats m 0 c).arrAt 4 cfg0.N =
    Cert.KvLatentReferenceIdeal.Read.val_main_v18 (F := Ideal) (m ((c : Thread nD τ).loc main_arg0)) (m ((c : Thread nD τ).loc main_arg1)) := by
  refine (dats m 0 c).arrAt_eq_of_covers 4 _ (by decide +kernel) (fun t hf y => ?_)
  have h15 : t.val = 15 := (by decide +kernel : ∀ t : Fin grid0.N, win0_4.flush t = true → t.val = 15) t hf
  blk_simp
  rw [after0_4]
  obtain ⟨j, rfl⟩ : ∃ j, y = ix2 0 j := ⟨y 1, by funext k; fin_cases k; exacts [Subsingleton.elim (α := Fin 1) _ _, rfl]⟩
  refine Eq.trans ?_ (congrArg _ (emb4_at t j)).symm
  refine (acc m c j t.val t.isLt).trans ?_
  rw [h15]
  refine (part_all (term m c j)).trans ?_
  unfold term
  pointwise [Cert.KvLatentReferenceIdeal.Read.val_main_v18, Cert.KvLatentReferenceIdeal.Read.val_main_v17, Cert.KvLatentReferenceIdeal.Read.val_main_v16, Cert.KvLatentReferenceIdeal.Read.val_main_cst_3]
  exact Finset.sum_congr rfl fun p _ => mul_comm _ _

end Cert.KvLatentValue

end
-- ==== Proof.ClaimsKvLatent.lean ====
/- The claims about the gradient of the key latent's norm. -/
module

public import proofs.«01_k».proof.Defs
public import proofs.«01_k».proof.Proof.Gen.KvLatent.Frame
public import proofs.«01_k».proof.Proof.Gen.KvLatentIdeal.Value
public import proofs.«01_k».proof.Proof.Gen.KvLatentReferenceIdeal.Run
public import proofs.«01_k».proof.Proof.KvLatent

@[expose] public section

noncomputable section

namespace Cert.Proof

open Idealize.ShloMosaic Idealize.SL.Sem

/-- The kernel as printed, on bit patterns. -/
theorem frame_KvLatent : Cert.quiescent_KvLatent := fun m ρ _ => Cert.KvLatent.Gen.frame m ρ

/-- The same program over the extended reals. -/
theorem frame_KvLatentIdeal : Cert.quiescent_KvLatentIdeal := fun m ρ _ => Cert.KvLatentIdeal.Gen.frame m ρ

/-- The reference over the extended reals. -/
theorem frame_KvLatentReference : Cert.quiescent_KvLatentReferenceIdeal := fun m ρ _ =>
  (θ_run Cert.KvLatentReferenceIdeal.defs _ _).mono (fun r h => ⟨fun c => (h c).2.2, Idealize.ShloMosaic.sem_eq_zero_of_no_sems (by decide) r.2⟩)
    (Cert.KvLatentReferenceIdeal.Value.run (F := Ideal) m ρ)

/-- From the same arguments, the kernel's gradients are the reference's. -/
theorem algebraic_KvLatent : Cert.algebraic_KvLatentIdeal_KvLatentReferenceIdeal := fun m ρ m' ρ' _ hag => by
  refine ⟨_, _, Cert.KvLatentIdeal.Value.run_blocks m ρ, ?_⟩
  refine (θ_run Cert.KvLatentReferenceIdeal.defs _ _).mono (fun _ h c => ⟨(h c).1.trans ?_, (h c).2.1.trans ?_, (h c).2.2⟩)
    (Cert.KvLatentReferenceIdeal.Value.run (F := Ideal) m' ρ')
  · refine (Cert.KvLatentReferenceIdeal.Read.val_main_v38_eq m' c).trans (Eq.trans ?_ (Cert.KvLatentValue.same3 m c).symm)
    obtain ⟨h0, h1, h2, h3⟩ := hag c
    rw [← h0, ← h1, ← h2, ← h3]
  · refine (Cert.KvLatentReferenceIdeal.Read.val_main_v18_eq _ _).trans (Eq.trans ?_ (Cert.KvLatentValue.same4 m c).symm)
    obtain ⟨h0, h1, h2, h3⟩ := hag c
    rw [← h0, ← h1]

end Cert.Proof

end
-- ==== Proof.LossHead.lean ====
/- The loss and its gradient through the last norm. -/
module

public import proofs.«01_k».proof.Proof.Gen.LossHeadIdeal.Value
public import proofs.«01_k».proof.Proof.Gen.LossHeadReferenceIdeal.Read
public import proofs.«01_k».proof.Proof.Tiles
public import proofs.«01_k».proof.Proof.Norm
public import Idealize.ShloMosaic.Lib.Pipeline.ReadBack

@[expose] public section

set_option maxRecDepth 16384

noncomputable section

namespace Cert.LossHeadValue

open Idealize.ShloMosaic Idealize.ShloMosaic.TcCoe Cert.LossHeadIdeal Cert.LossHeadIdeal.Gen Cert.Tiles
open Cert.LossHeadReferenceIdeal.Read

/-- The block indices of the windows at a grid point. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![t.val, 0] ∧ win0_6.index t = ![0, 0] ∧
    win0_7.index t = ![0, 0] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

variable (m : (ℓ : Loc nD τ sig) → Buf (Elt Ideal) ℓ) (c : Dev nD)

/-- A block of the residual path. -/
theorem blk0_at (t : Fin cfg0.N) (i : Fin 256) (j : Fin 2048) : iblk m c 0 t (ix2 i j) = V m c main_arg0 (ix2 (row t i) j) := by
  blk_ext [iblk, row, idx t]

/-- A block of what the last layer adds. -/
theorem blk1_at (t : Fin cfg0.N) (i : Fin 256) (j : Fin 2048) : iblk m c 1 t (ix2 i j) = V m c main_arg1 (ix2 (row t i) j) := by
  blk_ext [iblk, row, idx t]

/-- The gain is one block. -/
theorem blk2_at (t : Fin cfg0.N) (j : Fin 2048) : iblk m c 2 t (ix2 0 j) = V m c main_arg2 (ix2 0 j) := by
  blk_ext [iblk, idx t]

/-- A block of the target. -/
theorem blk3_at (t : Fin cfg0.N) (i : Fin 256) (j : Fin 2048) : iblk m c 3 t (ix2 i j) = V m c main_arg3 (ix2 (row t i) j) := by
  blk_ext [iblk, row, idx t]

/-- Where a point keeps its block of the gradient. -/
theorem emb4_at (t : Fin cfg0.N) (i : Fin 256) (j : Fin 2048) : (win0_4.blk t).view.emb (ix2 i j) = ix2 (row t i) j := by
  have e0 : (win0_4.blk t).view.emb (ix2 i j) 0 = row t i := Fin.ext (by blk_simp [idx t]; simp only [row])
  have e1 : (win0_4.blk t).view.emb (ix2 i j) 1 = j := Fin.ext (by blk_simp [idx t])
  funext k; fin_cases k
  exacts [e0, e1]

/-- Where a point keeps the copy of that block. -/
theorem emb5_at (t : Fin cfg0.N) (i : Fin 256) (j : Fin 2048) : (win0_5.blk t).view.emb (ix2 i j) = ix2 (row t i) j := by
  have e0 : (win0_5.blk t).view.emb (ix2 i j) 0 = row t i := Fin.ext (by blk_simp [idx t]; simp only [row])
  have e1 : (win0_5.blk t).view.emb (ix2 i j) 1 = j := Fin.ext (by blk_simp [idx t])
  funext k; fin_cases k
  exacts [e0, e1]

/-- Where every point keeps the gain's gradient. -/
theorem emb6_at (t : Fin cfg0.N) (j : Fin 2048) : (win0_6.blk t).view.emb (ix2 0 j) = ix2 0 j := by
  have e1 : (win0_6.blk t).view.emb (ix2 0 j) 1 = j := Fin.ext (by blk_simp [idx t])
  funext k; fin_cases k
  exacts [rfl, e1]

/-- Where every point keeps the loss. -/
theorem emb7_at (t : Fin cfg0.N) (j : Fin 128) : (win0_7.blk t).view.emb (ix2 0 j) = ix2 0 j := by
  have e1 : (win0_7.blk t).view.emb (ix2 0 j) 1 = j := Fin.ext (by blk_simp [idx t])
  funext k; fin_cases k
  exacts [rfl, e1]

/-- One half, as the programs write it. -/
theorem word_half : Ideal.ofBits .f32 0x3F000000#32 = ((1 / 2 : ℝ) : EReal) := by
  simp [Ideal.ofBits, Ideal.ieee]; norm_cast; norm_num

/-- The derivative of half a mean of squares, and the difference divided by the length of the row. -/
theorem step (e : EReal) :
    Ideal.div (Ideal.ofBits .f32 0x3F000000#32) (Ideal.ofBits .f32 0x45000000#32) *
      (Ideal.ofBits .f32 0x40000000#32 * e) = e * Ideal.ofBits .f32 0x3A000000#32 := by
  have hr : Ideal.ofBits .f32 0x3A000000#32 = ((1 / 2048 : ℝ) : EReal) := by
    simp [Ideal.ofBits, Ideal.ieee]; norm_cast; norm_num
  rw [hr, word_half, Cert.Norm.word_2048, Cert.Retention.word_2, Ideal.div_coe (by norm_num), ← mul_assoc, mul_comm e]
  norm_cast
  exact congrArg (fun r : ℝ => (r : EReal) * e) (by norm_num)

/-- The reference's gradient by the last norm's output, from the difference. -/
theorem dy_at (n : Fin 4096) (k : Fin 2048) :
    @Eq EReal (val_main_v30 (F := Ideal) (m ((c : Thread nD τ).loc main_arg0)) (m ((c : Thread nD τ).loc main_arg1)) (m ((c : Thread nD τ).loc main_arg2)) (m ((c : Thread nD τ).loc main_arg3)) (ix2 n k)) (val_main_v16 (F := Ideal) (m ((c : Thread nD τ).loc main_arg0)) (m ((c : Thread nD τ).loc main_arg1)) (m ((c : Thread nD τ).loc main_arg2)) (m ((c : Thread nD τ).loc main_arg3)) (ix2 n k) * Ideal.ofBits .f32 0x3A000000#32) := by
  pointwise [val_main_v30, val_main_v29, val_main_v28, val_main_v27, val_main_v26, val_main_v25, val_main_v19, val_main_v18, val_main_cst_3, val_main_cst_8, val_main_cst_9, val_main_cst_10]
  exact step _

/-- The gradient by the last norm's input, at one entry of a block. -/
theorem pay3_at (t : Fin cfg0.N) (i : Fin 256) (j : Fin 2048) :
    k0_pay3 (F := Ideal) (k0_pay8 (iblk m c 0 t) (iblk m c 1 t)) (k0_pay9 (iblk m c 0 t) (iblk m c 1 t)) (iblk m c 2 t)
      (k0_pay10 (iblk m c 0 t) (iblk m c 1 t) (iblk m c 2 t) (iblk m c 3 t)) (ix2 i j) =
    val_main_v49 (F := Ideal) (m ((c : Thread nD τ).loc main_arg0)) (m ((c : Thread nD τ).loc main_arg1)) (m ((c : Thread nD τ).loc main_arg2)) (m ((c : Thread nD τ).loc main_arg3)) (ix2 (row t i) j) := by
  pointwise [k0_pay3, k0_pay1, k0_pay10, k0_pay9, k0_pay8, k0_pay7]
  simp only [blk0_at, blk1_at, blk2_at, blk3_at, V_main_arg0, V_main_arg1, V_main_arg2, V_main_arg3]
  pointwise [val_main_v49, val_main_v48, val_main_v47, val_main_v46, val_main_v45, val_main_v44, val_main_v43, val_main_v42, val_main_v41, val_main_v40, val_main_v39, val_main_v38, val_main_v37, val_main_v36, val_main_v35, val_main_v34, val_main_cst_12, val_main_cst_13, val_main_cst_14]
  simp only [dy_at]
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  exact Cert.Norm.grad_alone Cert.Norm.word_2048 (by norm_num) _ (Cert.Norm.mean_pos Cert.Norm.word_2048 (by norm_num) fun k => _ + _) (fun k => _ + _) (fun k => _ * _) _ _

/-- The kernel's gradient by the last norm's input is the reference's. -/
theorem same4 : (dats m 0 c).arrAt 4 cfg0.N =
    val_main_v49 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) (fun t hf y => ?_)
  blk_simp
  rw [after0_4]
  obtain ⟨i, j, rfl⟩ : ∃ i j, y = ix2 i j := ⟨y 0, y 1, by funext k; fin_cases k <;> rfl⟩
  refine Eq.trans ?_ (congrArg _ (emb4_at t i j)).symm
  refine Eq.trans ?_ (pay3_at m c t i j)
  by_cases h0 : t.val % 16 = 0
  · rw [outsAt0_A m c t h0]
    dsimp only
    frame_out
  · rw [outsAt0_B m c t h0]
    dsimp only
    frame_out

/-- The kernel's copy of that gradient for the products is the reference's. -/
theorem same5 : (dats m 0 c).arrAt 5 cfg0.N =
    val_main_v50 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) (fun t hf y => ?_)
  blk_simp
  rw [after0_5]
  obtain ⟨i, j, rfl⟩ : ∃ i j, y = ix2 i j := ⟨y 0, y 1, by funext k; fin_cases k <;> rfl⟩
  refine Eq.trans ?_ (congrArg _ (emb5_at t i j)).symm
  refine Eq.trans ?_ (pay3_at m c t i j)
  by_cases h0 : t.val % 16 = 0
  · rw [outsAt0_A m c t h0]
    dsimp only
    frame_out
    exact rfl
  · rw [outsAt0_B m c t h0]
    dsimp only
    frame_out
    exact rfl

/-- What row `p` adds to the gain's gradient at column `j`. -/
def term (m : (ℓ : Loc nD τ sig) → Buf (Elt Ideal) ℓ) (c : Dev nD) (j : Fin 2048) (p : Fin 4096) : EReal :=
  val_main_v31 (F := Ideal) (m ((c : Thread nD τ).loc main_arg0)) (m ((c : Thread nD τ).loc main_arg1)) (m ((c : Thread nD τ).loc main_arg2)) (m ((c : Thread nD τ).loc main_arg3)) (ix2 p j)

/-- A point adds its 256 rows to the gain's gradient. -/
theorem pay2_at (t : Fin cfg0.N) (z : Vec Ideal S1x2048 .f32) (j : Fin 2048) :
    k0_pay2 (F := Ideal) (k0_pay9 (iblk m c 0 t) (iblk m c 1 t)) (k0_pay10 (iblk m c 0 t) (iblk m c 1 t) (iblk m c 2 t) (iblk m c 3 t)) z (ix2 0 j) =
      z (ix2 0 j) + ∑ i : Fin 256, term m c j (row t i) := by
  unfold term
  pointwise [k0_pay2, k0_pay1, k0_pay10, k0_pay9, k0_pay8, k0_pay7]
  simp only [blk0_at, blk1_at, blk2_at, blk3_at, V_main_arg0, V_main_arg1, V_main_arg2, V_main_arg3]
  pointwise [val_main_v31]
  simp only [dy_at]
  pointwise [val_main_v16, val_main_v15, val_main_v14, val_main_v13, val_main_v12, val_main_v8, val_main_v7, val_main_v6, val_main_v5, val_main_v4, val_main_v3, val_main_v2, val_main_v1, val_main_v0, val_main_cst, val_main_cst_0, val_main_cst_1]
  exact congrArg _ (Finset.sum_congr rfl fun p _ => mul_comm _ _)

/-- After a point the kept gradient is the sum over the rows so far. -/
theorem acc (j : Fin 2048) : ∀ (n : ℕ) (hn : n < cfg0.N), (outsAt0 m c n hn).2.2.1 (ix2 0 j) = part (term m c j) ((n + 1) * 256)
  | 0, hn => by
    refine (congrFun (congrArg (fun p => p.2.2.1) (outsAt0_A m c ⟨0, hn⟩ rfl)) (ix2 0 j)).trans ?_
    dsimp only
    frame_out
    rw [pay2_at]
    refine (congrArg₂ (fun a b : EReal => a + b) (show _ = (0 : EReal) by pointwise [k0_pay5]) rfl).trans ((zero_add _).trans ?_)
    exact part_first (term m c j) 256 _ (by omega) fun x => congrArg _ (Fin.ext (by simp only [row]; omega))
  | n + 1, hn => by
    have hN := lt_of_lt_of_eq hn N_0
    refine (congrFun (congrArg (fun p => p.2.2.1) (outsAt0_B m c ⟨n + 1, hn⟩ (by dsimp only; omega))) (ix2 0 j)).trans ?_
    dsimp only
    frame_out
    rw [pay2_at]
    refine (congrArg₂ (fun a b : EReal => a + b) (acc j n (Nat.lt_of_succ_lt hn)) rfl).trans ?_
    refine (part_step (term m c j) ((n + 1) * 256) 256 _ (by omega) fun x => congrArg _ (Fin.ext (by simp only [row]))).trans ?_
    exact congrArg _ (by omega)

/-- The kernel's gradient by the gain is the reference's. -/
theorem same6 : (dats m 0 c).arrAt 6 cfg0.N =
    val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) (fun t hf y => ?_)
  have h15 : t.val = 15 := (by decide +kernel : ∀ t : Fin grid0.N, win0_6.flush t = true → t.val = 15) t hf
  blk_simp
  rw [after0_6]
  obtain ⟨j, rfl⟩ : ∃ j, y = ix2 0 j := ⟨y 1, by funext k; fin_cases k; exacts [Subsingleton.elim (α := Fin 1) _ _, rfl]⟩
  refine Eq.trans ?_ (congrArg _ (emb6_at t j)).symm
  refine (acc m c j t.val t.isLt).trans ?_
  rw [h15]
  refine (part_all (term m c j)).trans ?_
  unfold term
  pointwise [val_main_v33, val_main_v32, val_main_cst_11]

/-- One half goes into a sum. -/
theorem into {n : ℕ} (f : Fin n → EReal) : Ideal.ofBits .f32 0x3F000000#32 * ∑ k, f k = ∑ k, Ideal.ofBits .f32 0x3F000000#32 * f k := by
  rw [word_half]
  exact Cert.Norm.into_sum _ (by norm_num) f

/-- What row `p` adds to the loss. -/
def cost (m : (ℓ : Loc nD τ sig) → Buf (Elt Ideal) ℓ) (c : Dev nD) (p : Fin 4096) : EReal :=
  Ideal.ofBits .f32 0x3F000000#32 * val_main_v22 (F := Ideal) (m ((c : Thread nD τ).loc main_arg0)) (m ((c : Thread nD τ).loc main_arg1)) (m ((c : Thread nD τ).loc main_arg2)) (m ((c : Thread nD τ).loc main_arg3)) (ix1 p)

/-- A point adds its 256 rows to the loss. -/
theorem pay11_at (t : Fin cfg0.N) (z : Vec Ideal S1x128 .f32) (j : Fin 128) :
    k0_pay11 (F := Ideal) (iblk m c 0 t) (iblk m c 1 t) (iblk m c 2 t) (iblk m c 3 t) z (ix2 0 j) = z (ix2 0 j) + ∑ i : Fin 256, cost m c (row t i) := by
  unfold cost
  pointwise [k0_pay11, k0_pay10, k0_pay9, k0_pay8, k0_pay7]
  simp only [blk0_at, blk1_at, blk2_at, blk3_at, V_main_arg0, V_main_arg1, V_main_arg2, V_main_arg3]
  pointwise [val_main_v22, val_main_v21, val_main_v20, val_main_v17, val_main_v16, val_main_v15, val_main_v14, val_main_v13, val_main_v12, val_main_v8, val_main_v7, val_main_v6, val_main_v5, val_main_v4, val_main_v3, val_main_v2, val_main_v1, val_main_v0, val_main_cst, val_main_cst_0, val_main_cst_1, val_main_cst_4, val_main_cst_5]
  exact congrArg _ ((congrArg _ (Finset.sum_congr rfl fun x _ => Fin.sum_univ_one _)).trans (into _))

/-- The reference's loss is the sum over the rows. -/
theorem whole (j : Fin 128) : ∑ p, cost m c p =
    val_main_v51 (F := Ideal) (m ((c : Thread nD τ).loc main_arg0)) (m ((c : Thread nD τ).loc main_arg1)) (m ((c : Thread nD τ).loc main_arg2)) (m ((c : Thread nD τ).loc main_arg3)) (ix2 0 j) := by
  pointwise [val_main_v51, val_main_v24, val_main_v23, val_main_cst_6, val_main_cst_7]
  exact (into _).symm

/-- After a point the kept loss is the sum over the rows so far. -/
theorem acc7 (j : Fin 128) : ∀ (n : ℕ) (hn : n < cfg0.N), (outsAt0 m c n hn).2.2.2 (ix2 0 j) = part (cost m c) ((n + 1) * 256)
  | 0, hn => by
    refine (congrFun (congrArg (fun p => p.2.2.2) (outsAt0_A m c ⟨0, hn⟩ rfl)) (ix2 0 j)).trans ?_
    dsimp only
    frame_out
    rw [pay11_at]
    refine (congrArg₂ (fun a b : EReal => a + b) (show _ = (0 : EReal) by pointwise [k0_pay6]) rfl).trans ((zero_add _).trans ?_)
    exact part_first (cost m c) 256 _ (by omega) fun x => congrArg _ (Fin.ext (by simp only [row]; omega))
  | n + 1, hn => by
    have hN := lt_of_lt_of_eq hn N_0
    refine (congrFun (congrArg (fun p => p.2.2.2) (outsAt0_B m c ⟨n + 1, hn⟩ (by dsimp only; omega))) (ix2 0 j)).trans ?_
    dsimp only
    frame_out
    rw [pay11_at]
    refine (congrArg₂ (fun a b : EReal => a + b) (acc7 j n (Nat.lt_of_succ_lt hn)) rfl).trans ?_
    refine (part_step (cost m c) ((n + 1) * 256) 256 _ (by omega) fun x => congrArg _ (Fin.ext (by simp only [row]))).trans ?_
    exact congrArg _ (by omega)

/-- The kernel's loss is the reference's. -/
theorem same7 : (dats m 0 c).arrAt 7 cfg0.N =
    val_main_v51 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) (fun t hf y => ?_)
  have h15 : t.val = 15 := (by decide +kernel : ∀ t : Fin grid0.N, win0_7.flush t = true → t.val = 15) t hf
  blk_simp
  rw [after0_7]
  obtain ⟨j, rfl⟩ : ∃ j, y = ix2 0 j := ⟨y 1, by funext k; fin_cases k; exacts [Subsingleton.elim (α := Fin 1) _ _, rfl]⟩
  refine Eq.trans ?_ (congrArg _ (emb7_at t j)).symm
  refine (acc7 m c j t.val t.isLt).trans ?_
  rw [h15]
  exact (part_all (cost m c)).trans (whole m c j)

end Cert.LossHeadValue

end
-- ==== Proof.ClaimsLossHead.lean ====
/- The claims about the loss and the gradient of the last norm. -/
module

public import proofs.«01_k».proof.Defs
public import proofs.«01_k».proof.Proof.Gen.LossHead.Frame
public import proofs.«01_k».proof.Proof.Gen.LossHeadIdeal.Value
public import proofs.«01_k».proof.Proof.Gen.LossHeadReferenceIdeal.Run
public import proofs.«01_k».proof.Proof.LossHead

@[expose] public section

noncomputable section

namespace Cert.Proof

open Idealize.ShloMosaic Idealize.SL.Sem

/-- The kernel as printed, on bit patterns. -/
theorem frame_LossHead : Cert.quiescent_LossHead := fun m ρ _ => Cert.LossHead.Gen.frame m ρ

/-- The same program over the extended reals. -/
theorem frame_LossHeadIdeal : Cert.quiescent_LossHeadIdeal := fun m ρ _ => Cert.LossHeadIdeal.Gen.frame m ρ

/-- The reference over the extended reals. -/
theorem frame_LossHeadReference : Cert.quiescent_LossHeadReferenceIdeal := fun m ρ _ =>
  (θ_run Cert.LossHeadReferenceIdeal.defs _ _).mono (fun r h => ⟨fun c => (h c).2.2.2.2, Idealize.ShloMosaic.sem_eq_zero_of_no_sems (by decide) r.2⟩)
    (Cert.LossHeadReferenceIdeal.Value.run (F := Ideal) m ρ)

/-- From the same arguments, the kernel's loss and its gradients are the reference's. -/
theorem algebraic_LossHead : Cert.algebraic_LossHeadIdeal_LossHeadReferenceIdeal := fun m ρ m' ρ' _ hag => by
  refine ⟨_, _, _, _, Cert.LossHeadIdeal.Value.run_blocks m ρ, ?_⟩
  refine (θ_run Cert.LossHeadReferenceIdeal.defs _ _).mono (fun _ h c => ⟨(h c).1.trans ?_, (h c).2.1.trans ?_, (h c).2.2.1.trans ?_, (h c).2.2.2.1.trans ?_, (h c).2.2.2.2⟩)
    (Cert.LossHeadReferenceIdeal.Value.run (F := Ideal) m' ρ')
  · refine (Cert.LossHeadReferenceIdeal.Read.val_main_v49_eq m' c).trans (Eq.trans ?_ (Cert.LossHeadValue.same4 m c).symm)
    obtain ⟨h0, h1, h2, h3⟩ := hag c
    rw [← h0, ← h1, ← h2, ← h3]
  · refine (Cert.LossHeadReferenceIdeal.Read.val_main_v50_eq m' c).trans (Eq.trans ?_ (Cert.LossHeadValue.same5 m c).symm)
    obtain ⟨h0, h1, h2, h3⟩ := hag c
    rw [← h0, ← h1, ← h2, ← h3]
  · refine (Cert.LossHeadReferenceIdeal.Read.val_main_v33_eq _ _ _ _).trans (Eq.trans ?_ (Cert.LossHeadValue.same6 m c).symm)
    obtain ⟨h0, h1, h2, h3⟩ := hag c
    rw [← h0, ← h1, ← h2, ← h3]
  · refine (Cert.LossHeadReferenceIdeal.Read.val_main_v51_eq _ _ _ _).trans (Eq.trans ?_ (Cert.LossHeadValue.same7 m c).symm)
    obtain ⟨h0, h1, h2, h3⟩ := hag c
    rw [← h0, ← h1, ← h2, ← h3]

end Cert.Proof

end
-- ==== Proof.Mix.lean ====
/- The first norm. -/
module

public import proofs.«01_k».proof.Proof.Gen.MixIdeal.Value
public import proofs.«01_k».proof.Proof.Gen.MixReferenceIdeal.Read
public import proofs.«01_k».proof.Proof.Tiles
public import Idealize.ShloMosaic.Lib.Pipeline.ReadBack

@[expose] public section

set_option maxRecDepth 16384

noncomputable section

namespace Cert.MixValue

open Idealize.ShloMosaic Idealize.ShloMosaic.TcCoe Cert.MixIdeal Cert.MixIdeal.Gen Cert.Tiles
open Cert.MixReferenceIdeal.Read

/-- The block indices of the windows at a grid point. -/
theorem idx : ∀ t : Fin cfg0.N, win0_0.index t = ![t.val, 0] ∧ win0_1.index t = ![0, 0] ∧ win0_2.index t = ![t.val, 0] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

variable (m : (ℓ : Loc nD τ sig) → Buf (Elt Ideal) ℓ) (c : Dev nD)

/-- A block of the input. -/
theorem blk0_at (t : Fin cfg0.N) (i : Fin 256) (j : Fin 2048) : iblk m c 0 t (ix2 i j) = V m c main_arg0 (ix2 (row t i) j) := by
  blk_ext [iblk, row, idx t]

/-- The gain is one block. -/
theorem blk1_at (t : Fin cfg0.N) (j : Fin 2048) : iblk m c 1 t (ix2 0 j) = V m c main_arg1 (ix2 0 j) := by
  blk_ext [iblk, idx t]

/-- Where a point keeps its block. -/
theorem emb2_at (t : Fin cfg0.N) (i : Fin 256) (j : Fin 2048) : (win0_2.blk t).view.emb (ix2 i j) = ix2 (row t i) j := by
  have e0 : (win0_2.blk t).view.emb (ix2 i j) 0 = row t i := Fin.ext (by blk_simp [idx t]; simp only [row])
  have e1 : (win0_2.blk t).view.emb (ix2 i j) 1 = j := Fin.ext (by blk_simp [idx t])
  funext k; fin_cases k
  exacts [e0, e1]

/-- One entry of a block of the normalised rows. -/
theorem pay_at (t : Fin cfg0.N) (i : Fin 256) (j : Fin 2048) :
    k0_pay1 (F := Ideal) (iblk m c 0 t) (iblk m c 1 t) (ix2 i j) =
    val_main_v12 (F := Ideal) (m ((c : Thread nD τ).loc main_arg0)) (m ((c : Thread nD τ).loc main_arg1)) (ix2 (row t i) j) := by
  pointwise [k0_pay1]
  simp only [blk0_at, blk1_at, V_main_arg0, V_main_arg1]
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  first | done | rfl

/-- The kernel's normalised rows are the reference's. -/
theorem same2 : (dats m 0 c).arrAt 2 cfg0.N =
    val_main_v12 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨i, j, rfl⟩ : ∃ i j, y = ix2 i j := ⟨y 0, y 1, by funext k; fin_cases k <;> rfl⟩
  refine Eq.trans ?_ (congrArg _ (emb2_at t i j)).symm
  refine Eq.trans ?_ (pay_at m c t i j)
  unfold out0_2
  frame_out

end Cert.MixValue

end
-- ==== Proof.ClaimsMix.lean ====
/- The claims about the first norm. -/
module

public import proofs.«01_k».proof.Defs
public import proofs.«01_k».proof.Proof.Gen.Mix.Frame
public import proofs.«01_k».proof.Proof.Gen.MixIdeal.Value
public import proofs.«01_k».proof.Proof.Gen.MixReferenceIdeal.Run
public import proofs.«01_k».proof.Proof.Mix

@[expose] public section

noncomputable section

namespace Cert.Proof

open Idealize.ShloMosaic Idealize.SL.Sem

/-- The kernel as printed, on bit patterns. -/
theorem frame_Mix : Cert.quiescent_Mix := fun m ρ _ => Cert.Mix.Gen.frame m ρ

/-- The same program over the extended reals. -/
theorem frame_MixIdeal : Cert.quiescent_MixIdeal := fun m ρ _ => Cert.MixIdeal.Gen.frame m ρ

/-- The reference over the extended reals. -/
theorem frame_MixReference : Cert.quiescent_MixReferenceIdeal := fun m ρ _ =>
  (θ_run Cert.MixReferenceIdeal.defs _ _).mono (fun r h => ⟨fun c => (h c).2, Idealize.ShloMosaic.sem_eq_zero_of_no_sems (by decide) r.2⟩)
    (Cert.MixReferenceIdeal.Value.run (F := Ideal) m ρ)

/-- From the same arguments, the kernel's normalised rows are the reference's. -/
theorem algebraic_Mix : Cert.algebraic_MixIdeal_MixReferenceIdeal := fun m ρ m' ρ' _ hag => by
  refine ⟨_, Cert.MixIdeal.Value.run_blocks m ρ, ?_⟩
  refine (θ_run Cert.MixReferenceIdeal.defs _ _).mono (fun _ h c => ⟨(h c).1.trans ?_, (h c).2⟩)
    (Cert.MixReferenceIdeal.Value.run (F := Ideal) m' ρ')
  · refine (Cert.MixReferenceIdeal.Read.val_main_v12_eq _ _).trans (Eq.trans ?_ (Cert.MixValue.same2 m c).symm)
    obtain ⟨h0, h1⟩ := hag c
    rw [← h0, ← h1]

end Cert.Proof

end
-- ==== Proof.Prep.lean ====
/- The norms of the two latents, and the rotated key that all heads share. -/
module

public import proofs.«01_k».proof.Proof.Gen.PrepIdeal.Value
public import proofs.«01_k».proof.Proof.Gen.PrepReferenceIdeal.Read
public import proofs.«01_k».proof.Proof.Tiles
public import Idealize.ShloMosaic.Lib.Pipeline.ReadBack
public import Idealize.ShloMosaic.Lib.StableHlo.RunRead

@[expose] public section

set_option maxRecDepth 16384

noncomputable section

namespace Cert.PrepValue

open Idealize.ShloMosaic Idealize.ShloMosaic.TcCoe Cert.PrepIdeal Cert.PrepIdeal.Gen Cert.Tiles
open Cert.PrepReferenceIdeal.Read

/-- The block indices of the windows at a grid point. -/
theorem idx : ∀ t : Fin cfg0.N, win0_0.index t = ![t.val, 8] ∧ win0_1.index t = ![t.val, 21] ∧ win0_2.index t = ![t.val, 88] ∧
    win0_3.index t = ![0, 0] ∧ win0_4.index t = ![0, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

variable (m : (ℓ : Loc nD τ sig) → Buf (Elt Ideal) ℓ) (c : Dev nD)

/-- A block of the query's latent. -/
theorem blk0_at (t : Fin cfg0.N) (i : Fin 256) (j : Fin 512) : X0_0 m c t (ix2 i j) = V m c main_arg0 (ix2 (row t i) ⟨4096 + j.val, by omega⟩) := by
  unfold X0_0 Pipeline.Window.fill
  refine (dif_pos (moved0_0 t (ix2 i j))).trans ?_
  blk_ext [iblk, row, idx t]

/-- A block of the latent of the keys and values. -/
theorem blk1_at (t : Fin cfg0.N) (i : Fin 256) (j : Fin 512) : X0_1 m c t (ix2 i j) = V m c main_arg0 (ix2 (row t i) ⟨10752 + j.val, by omega⟩) := by
  unfold X0_1 Pipeline.Window.fill
  refine (dif_pos (moved0_1 t (ix2 i j))).trans ?_
  blk_ext [iblk, row, idx t]

/-- A block of the shared key, and of the 64 columns after it. -/
theorem blk2_at (t : Fin cfg0.N) (i : Fin 256) (j : Fin 128) : iblk m c 2 t (ix2 i j) = V m c main_arg0 (ix2 (row t i) ⟨11264 + j.val, by omega⟩) := by
  blk_ext [iblk, row, idx t]

/-- The first gain is one block. -/
theorem blk3_at (t : Fin cfg0.N) (j : Fin 512) : iblk m c 3 t (ix2 0 j) = V m c main_arg2 (ix2 0 j) := by
  blk_ext [iblk, idx t]

/-- The second gain is one block. -/
theorem blk4_at (t : Fin cfg0.N) (j : Fin 512) : iblk m c 4 t (ix2 0 j) = V m c main_arg3 (ix2 0 j) := by
  blk_ext [iblk, idx t]

/-- A block of the cosines. -/
theorem blk5_at (t : Fin cfg0.N) (i : Fin 256) (j : Fin 128) : iblk m c 5 t (ix2 i j) = V m c main_v16 (ix2 (row t i) j) := by
  blk_ext [iblk, row, idx t]

/-- A block of the first table of sines. -/
theorem blk6_at (t : Fin cfg0.N) (i : Fin 256) (j : Fin 128) : iblk m c 6 t (ix2 i j) = V m c main_v18 (ix2 (row t i) j) := by
  blk_ext [iblk, row, idx t]

/-- A block of the second table of sines. -/
theorem blk7_at (t : Fin cfg0.N) (i : Fin 256) (j : Fin 128) : iblk m c 7 t (ix2 i j) = V m c main_v19 (ix2 (row t i) j) := by
  blk_ext [iblk, row, idx t]

/-- Where a point keeps its block of result one. -/
theorem emb8_at (t : Fin cfg0.N) (i : Fin 256) (j : Fin 512) : (win0_8.blk t).view.emb (ix2 i j) = ix2 (row t i) j := by
  have e0 : (win0_8.blk t).view.emb (ix2 i j) 0 = row t i := Fin.ext (by blk_simp [idx t]; simp only [row])
  have e1 : (win0_8.blk t).view.emb (ix2 i j) 1 = j := Fin.ext (by blk_simp [idx t])
  funext k; fin_cases k
  exacts [e0, e1]

/-- Where a point keeps its block of result two. -/
theorem emb9_at (t : Fin cfg0.N) (i : Fin 256) (j : Fin 512) : (win0_9.blk t).view.emb (ix2 i j) = ix2 (row t i) j := by
  have e0 : (win0_9.blk t).view.emb (ix2 i j) 0 = row t i := Fin.ext (by blk_simp [idx t]; simp only [row])
  have e1 : (win0_9.blk t).view.emb (ix2 i j) 1 = j := Fin.ext (by blk_simp [idx t])
  funext k; fin_cases k
  exacts [e0, e1]

/-- Where a point keeps its block of result three. -/
theorem emb10_at (t : Fin cfg0.N) (i : Fin 256) (j : Fin 128) : (win0_10.blk t).view.emb (ix2 i j) = ix2 (row t i) j := by
  have e0 : (win0_10.blk t).view.emb (ix2 i j) 0 = row t i := Fin.ext (by blk_simp [idx t]; simp only [row])
  have e1 : (win0_10.blk t).view.emb (ix2 i j) 1 = j := Fin.ext (by blk_simp [idx t])
  funext k; fin_cases k
  exacts [e0, e1]

/-- One entry of a block of the normalised latent of the queries. -/
theorem pay8_at (t : Fin cfg0.N) (i : Fin 256) (j : Fin 512) :
    k0_pay2 (F := Ideal) (X0_0 m c t) (iblk m c 3 t) (ix2 i j) = val_main_v42 (F := Ideal) (m ((c : Thread nD τ).loc main_arg0)) (m ((c : Thread nD τ).loc main_arg2)) (ix2 (row t i) j) := by
  pointwise [k0_pay2]
  simp only [blk0_at, blk3_at, V_main_arg0, V_main_arg2]
  pointwise [val_main_v42, val_main_v41, val_main_v40, val_main_v39, val_main_v38, val_main_v37, val_main_v36, val_main_v35, val_main_v34, val_main_v33, val_main_v32, val_main_v31, val_main_v30, val_main_v0, val_main_cst_1, val_main_cst_2, val_main_cst_3]
  rfl

/-- One entry of a block of the normalised latent of the keys and values. -/
theorem pay9_at (t : Fin cfg0.N) (i : Fin 256) (j : Fin 512) :
    k0_pay3 (F := Ideal) (X0_1 m c t) (iblk m c 4 t) (ix2 i j) = val_main_v55 (F := Ideal) (m ((c : Thread nD τ).loc main_arg0)) (m ((c : Thread nD τ).loc main_arg3)) (ix2 (row t i) j) := by
  pointwise [k0_pay3]
  simp only [blk1_at, blk4_at, V_main_arg0, V_main_arg3]
  pointwise [val_main_v55, val_main_v54, val_main_v53, val_main_v52, val_main_v51, val_main_v50, val_main_v49, val_main_v48, val_main_v47, val_main_v46, val_main_v45, val_main_v44, val_main_v43, val_main_v1, val_main_cst_4, val_main_cst_5, val_main_cst_6]
  rfl

/-- The cosines, twice, and zeros. -/
theorem table16 : V m c main_v16 = concatenate S4096x128 1 [⟨S4096x32, val_main_v16 (F := Ideal) (m ((c : Thread nD τ).loc main_arg1))⟩, ⟨S4096x32, val_main_v16 (F := Ideal) (m ((c : Thread nD τ).loc main_arg1))⟩, ⟨S4096x64, (broadcastInDim S4096x64 ![] bcast_S_S4096x64 (constant (F := Ideal) S_ .f32 0x00000000#32) : FVec Ideal S4096x64 .f32)⟩] concatenates_S4096x32_S4096x32_S4096x64_S4096x128_d1 := by
  unfold V
  after_reads_simp
  rfl

/-- The sines with the other sign, and zeros. -/
theorem table18 : V m c main_v18 = concatenate S4096x128 1 [⟨S4096x32, (Host.negf (val_main_v18 (F := Ideal) (m ((c : Thread nD τ).loc main_arg1))) : FVec Ideal S4096x32 .f32)⟩, ⟨S4096x32, (broadcastInDim S4096x32 ![] bcast_S_S4096x32 (constant (F := Ideal) S_ .f32 0x00000000#32) : FVec Ideal S4096x32 .f32)⟩, ⟨S4096x64, (broadcastInDim S4096x64 ![] bcast_S_S4096x64 (constant (F := Ideal) S_ .f32 0x00000000#32) : FVec Ideal S4096x64 .f32)⟩] concatenates_S4096x32_S4096x32_S4096x64_S4096x128_d1 := by
  unfold V
  after_reads_simp
  rfl

/-- The sines between zeros. -/
theorem table19 : V m c main_v19 = concatenate S4096x128 1 [⟨S4096x32, (broadcastInDim S4096x32 ![] bcast_S_S4096x32 (constant (F := Ideal) S_ .f32 0x00000000#32) : FVec Ideal S4096x32 .f32)⟩, ⟨S4096x32, val_main_v18 (F := Ideal) (m ((c : Thread nD τ).loc main_arg1))⟩, ⟨S4096x64, (broadcastInDim S4096x64 ![] bcast_S_S4096x64 (constant (F := Ideal) S_ .f32 0x00000000#32) : FVec Ideal S4096x64 .f32)⟩] concatenates_S4096x32_S4096x32_S4096x64_S4096x128_d1 := by
  unfold V
  after_reads_simp
  rfl

/-- An entry of the cosines. -/
theorem table16_at (n : Fin 4096) (j : Fin 128) : @Eq EReal (V m c main_v16 (ix2 n j))
    (if h : j.val < 32 then val_main_v16 (F := Ideal) (m ((c : Thread nD τ).loc main_arg1)) (ix2 n ⟨j.val, h⟩) else if h' : j.val < 64 then val_main_v16 (F := Ideal) (m ((c : Thread nD τ).loc main_arg1)) (ix2 n ⟨j.val - 32, by omega⟩) else 0) := by
  rw [table16]
  pointwise
  by_cases h : j.val < 32
  · simp only [dif_pos h, if_pos h]
  · by_cases h' : j.val < 64
    · have h3 : j.val - 32 < 32 := by omega
      simp only [dif_neg h, dif_pos h', dif_pos h3, if_pos h', if_neg h]
    · have h3 : ¬ j.val - 32 < 32 := by omega
      simp only [dif_neg h, dif_neg h', dif_neg h3, if_neg h', if_neg h]

/-- An entry of the first table of sines. -/
theorem table18_at (n : Fin 4096) (j : Fin 128) : @Eq EReal (V m c main_v18 (ix2 n j))
    (if h : j.val < 32 then -val_main_v18 (F := Ideal) (m ((c : Thread nD τ).loc main_arg1)) (ix2 n ⟨j.val, h⟩) else if h' : j.val < 64 then 0 else 0) := by
  rw [table18]
  pointwise
  by_cases h : j.val < 32
  · simp only [dif_pos h, if_pos h]
  · by_cases h' : j.val < 64
    · have h3 : j.val - 32 < 32 := by omega
      simp only [dif_neg h, dif_pos h', dif_pos h3, if_pos h', if_neg h]
    · have h3 : ¬ j.val - 32 < 32 := by omega
      simp only [dif_neg h, dif_neg h', dif_neg h3, if_neg h', if_neg h]

/-- An entry of the second table of sines. -/
theorem table19_at (n : Fin 4096) (j : Fin 128) : @Eq EReal (V m c main_v19 (ix2 n j))
    (if h : j.val < 32 then 0 else if h' : j.val < 64 then val_main_v18 (F := Ideal) (m ((c : Thread nD τ).loc main_arg1)) (ix2 n ⟨j.val - 32, by omega⟩) else 0) := by
  rw [table19]
  pointwise
  by_cases h : j.val < 32
  · simp only [dif_pos h, if_pos h]
  · by_cases h' : j.val < 64
    · have h3 : j.val - 32 < 32 := by omega
      simp only [dif_neg h, dif_pos h', dif_pos h3, if_pos h', if_neg h]
    · have h3 : ¬ j.val - 32 < 32 := by omega
      simp only [dif_neg h, dif_neg h', dif_neg h3, if_neg h', if_neg h]

/-- A sum of three products, term by term. -/
theorem sum3 {a b d e f g a' b' d' e' f' g' : EReal} (h1 : a = a') (h2 : b = b') (h3 : d = d') (h4 : e = e') (h5 : f = f') (h6 : g = g') :
    a * b + d * e + f * g = a' * b' + d' * e' + f' * g' := by
  rw [h1, h2, h3, h4, h5, h6]

/-- An entry of the projection as the kernel finds it. -/
theorem proj_at (n : Fin 4096) (p q : Fin 11520) (h : p.val = q.val) : @Eq EReal (V m c main_arg0 (ix2 n p)) (m ((c : Thread nD τ).loc main_arg0) (ix2 n q)) :=
  (congrFun (V_main_arg0 m c) _).trans (congrArg (fun p => m ((c : Thread nD τ).loc main_arg0) (ix2 n p)) (Fin.ext h))

/-- One entry of a block of the rotated key. -/
theorem pay10_at (t : Fin cfg0.N) (i : Fin 256) (j : Fin 128) :
    k0_pay1 (F := Ideal) (iblk m c 2 t) (k0_pay4 (iblk m c 5 t)) (iblk m c 6 t) (iblk m c 7 t) (ix2 i j) = val_main_v57 (F := Ideal) (m ((c : Thread nD τ).loc main_arg0)) (m ((c : Thread nD τ).loc main_arg1)) (ix2 (row t i) j) := by
  pointwise [k0_pay1, k0_pay4]
  simp only [blk2_at, blk5_at, blk6_at, blk7_at]
  pointwise [val_main_v57, val_main_v56, val_main_v29, val_main_v28, val_main_v27, val_main_v26, val_main_v25, val_main_v24, val_main_v23, val_main_v22, val_main_v21, val_main_v20, val_main_v19, val_main_v17, val_main_v3, val_main_v2, val_main_call0_v0, val_main_c]
  by_cases h : j.val < 32
  · have h' : j.val < 64 := by omega
    simp only [dif_pos h, dif_pos h']
    refine (sum3 (proj_at m c _ _ ⟨11264 + j.val, by omega⟩ rfl) ((table16_at m c _ j).trans (dif_pos h))
      (proj_at m c _ _ ⟨11264 + (32 + j.val), by omega⟩ (by dsimp only; omega)) ((table18_at m c _ j).trans (dif_pos h)) rfl ((table19_at m c _ j).trans (dif_pos h))).trans ?_
    rw [mul_zero, add_zero, mul_neg]
    rfl
  · by_cases h' : j.val < 64
    · simp only [dif_neg h, dif_pos h']
      refine (sum3 (proj_at m c _ _ ⟨11264 + (32 + (j.val - 32)), by omega⟩ (by dsimp only; omega)) (((table16_at m c _ j).trans (dif_neg h)).trans (dif_pos h'))
        rfl (((table18_at m c _ j).trans (dif_neg h)).trans (by simp only [dite_eq_ite, ite_self] : _ = (0 : EReal)))
        (proj_at m c _ _ ⟨11264 + (j.val - 32), by omega⟩ (by dsimp only; omega)) (((table19_at m c _ j).trans (dif_neg h)).trans (dif_pos h'))).trans ?_
      rw [mul_zero, add_zero]
    · simp only [dif_neg h']
      refine (sum3 rfl (((table16_at m c _ j).trans (dif_neg h)).trans (dif_neg h')) rfl (((table18_at m c _ j).trans (dif_neg h)).trans (dif_neg h'))
        rfl (((table19_at m c _ j).trans (dif_neg h)).trans (dif_neg h'))).trans ?_
      rw [mul_zero, mul_zero, mul_zero, add_zero, add_zero]
      exact (show ((((0#32 : BitVec 32).toInt : ℤ) : ℝ) : EReal) = 0 by norm_num).symm

/-- The kernel's normalised latent of the queries is the reference's. -/
theorem same8 : (dats m 0 c).arrAt 8 cfg0.N = val_main_v42 (F := Ideal) (m ((c : Thread nD τ).loc main_arg0)) (m ((c : Thread nD τ).loc main_arg2)) := by
  refine (dats m 0 c).arrAt_eq_of_covers 8 _ (by decide +kernel) (fun t hf y => ?_)
  blk_simp
  rw [after0_8]
  obtain ⟨i, j, rfl⟩ : ∃ i j, y = ix2 i j := ⟨y 0, y 1, by funext k; fin_cases k <;> rfl⟩
  refine Eq.trans ?_ (congrArg _ (emb8_at t i j)).symm
  refine Eq.trans ?_ (pay8_at m c t i j)
  simp only [outsAt0]
  unfold out0_A_8
  frame_out

/-- The kernel's normalised latent of the keys and values is the reference's. -/
theorem same9 : (dats m 0 c).arrAt 9 cfg0.N = val_main_v55 (F := Ideal) (m ((c : Thread nD τ).loc main_arg0)) (m ((c : Thread nD τ).loc main_arg3)) := by
  refine (dats m 0 c).arrAt_eq_of_covers 9 _ (by decide +kernel) (fun t hf y => ?_)
  blk_simp
  rw [after0_9]
  obtain ⟨i, j, rfl⟩ : ∃ i j, y = ix2 i j := ⟨y 0, y 1, by funext k; fin_cases k <;> rfl⟩
  refine Eq.trans ?_ (congrArg _ (emb9_at t i j)).symm
  refine Eq.trans ?_ (pay9_at m c t i j)
  simp only [outsAt0]
  unfold out0_A_9
  frame_out

/-- The kernel's rotated key is the reference's. -/
theorem same10 : (dats m 0 c).arrAt 10 cfg0.N = val_main_v57 (F := Ideal) (m ((c : Thread nD τ).loc main_arg0)) (m ((c : Thread nD τ).loc main_arg1)) := by
  refine (dats m 0 c).arrAt_eq_of_covers 10 _ (by decide +kernel) (fun t hf y => ?_)
  blk_simp
  rw [after0_10]
  obtain ⟨i, j, rfl⟩ : ∃ i j, y = ix2 i j := ⟨y 0, y 1, by funext k; fin_cases k <;> rfl⟩
  refine Eq.trans ?_ (congrArg _ (emb10_at t i j)).symm
  refine Eq.trans ?_ (pay10_at m c t i j)
  simp only [outsAt0]
  unfold out0_A_10
  frame_out

end Cert.PrepValue

end
-- ==== Proof.ClaimsPrep.lean ====
/- The claims about the latents' norms and the rotated key. -/
module

public import proofs.«01_k».proof.Defs
public import proofs.«01_k».proof.Proof.Gen.Prep.Frame
public import proofs.«01_k».proof.Proof.Gen.PrepIdeal.Value
public import proofs.«01_k».proof.Proof.Gen.PrepReferenceIdeal.Run
public import proofs.«01_k».proof.Proof.Prep

@[expose] public section

noncomputable section

namespace Cert.Proof

open Idealize.ShloMosaic Idealize.SL.Sem

/-- The kernel as printed, on bit patterns. -/
theorem frame_Prep : Cert.quiescent_Prep := fun m ρ _ => Cert.Prep.Gen.frame m ρ

/-- The same program over the extended reals. -/
theorem frame_PrepIdeal : Cert.quiescent_PrepIdeal := fun m ρ _ => Cert.PrepIdeal.Gen.frame m ρ

/-- The reference over the extended reals. -/
theorem frame_PrepReference : Cert.quiescent_PrepReferenceIdeal := fun m ρ _ =>
  (θ_run Cert.PrepReferenceIdeal.defs _ _).mono (fun r h => ⟨fun c => (h c).2.2.2, Idealize.ShloMosaic.sem_eq_zero_of_no_sems (by decide) r.2⟩)
    (Cert.PrepReferenceIdeal.Value.run (F := Ideal) m ρ)

/-- From the same arguments, the kernel's two normalised latents and its rotated key are the reference's. -/
theorem algebraic_Prep : Cert.algebraic_PrepIdeal_PrepReferenceIdeal := fun m ρ m' ρ' _ hag => by
  refine ⟨_, _, _, Cert.PrepIdeal.Value.run_blocks m ρ, ?_⟩
  refine (θ_run Cert.PrepReferenceIdeal.defs _ _).mono (fun _ h c => ⟨(h c).1.trans ?_, (h c).2.1.trans ?_, (h c).2.2.1.trans ?_, (h c).2.2.2⟩)
    (Cert.PrepReferenceIdeal.Value.run (F := Ideal) m' ρ')
  · refine (Cert.PrepReferenceIdeal.Read.val_main_v42_eq _ _).trans (Eq.trans ?_ (Cert.PrepValue.same8 m c).symm)
    obtain ⟨h0, h1, h2, h3⟩ := hag c
    rw [← h0, ← h2]
  · refine (Cert.PrepReferenceIdeal.Read.val_main_v55_eq _ _).trans (Eq.trans ?_ (Cert.PrepValue.same9 m c).symm)
    obtain ⟨h0, h1, h2, h3⟩ := hag c
    rw [← h0, ← h3]
  · refine (Cert.PrepReferenceIdeal.Read.val_main_v57_eq _ _).trans (Eq.trans ?_ (Cert.PrepValue.same10 m c).symm)
    obtain ⟨h0, h1, h2, h3⟩ := hag c
    rw [← h0, ← h1]

end Cert.Proof

end
-- ==== Proof.Delta.lean ====
/- The products of the attention's result with its gradient, summed over each head's channels. -/
module

public import proofs.«01_k».proof.Proof.Gen.DeltaIdeal.Value
public import proofs.«01_k».proof.Proof.Gen.DeltaReferenceIdeal.Read
public import proofs.«01_k».proof.Proof.Tiles
public import Idealize.ShloMosaic.Lib.Pipeline.ReadBack

@[expose] public section

set_option maxRecDepth 16384

noncomputable section

namespace Cert.DeltaValue

open Idealize.ShloMosaic Idealize.ShloMosaic.TcCoe Cert.DeltaIdeal Cert.DeltaIdeal.Gen Cert.Tiles
open Cert.DeltaReferenceIdeal.Read

/-- The block indices of the windows at a grid point. -/
theorem idx : ∀ t : Fin cfg0.N, win0_0.index t = ![t.val, 0] ∧ win0_1.index t = ![t.val, 0] ∧ win0_2.index t = ![0, 0, t.val] :=
  (by decide +kernel : ∀ t : Fin grid0.N, _)

/-- The row of the arrays that row `i` of a point's block is. -/
def row (t : Fin cfg0.N) (i : Fin 512) : Fin 4096 := ⟨t.val * 512 + i.val, by have ht := lt_of_lt_of_eq t.isLt N_0; omega⟩

/-- Channel `k` of head `h`. -/
def chan (h : Fin 16) (k : Fin 128) : Fin 2048 := ⟨h.val * 128 + k.val, by omega⟩

variable (m : (ℓ : Loc nD τ sig) → Buf (Elt Ideal) ℓ) (c : Dev nD)

/-- A block of the gradient. -/
theorem blk0_at (t : Fin cfg0.N) (i : Fin 512) (j : Fin 2048) : iblk m c 0 t (ix2 i j) = V m c main_arg0 (ix2 (row t i) j) := by
  blk_ext [iblk, row, idx t]

/-- A block of the result. -/
theorem blk1_at (t : Fin cfg0.N) (i : Fin 512) (j : Fin 2048) : iblk m c 1 t (ix2 i j) = V m c main_arg1 (ix2 (row t i) j) := by
  blk_ext [iblk, row, idx t]

/-- Where a point keeps its block. -/
theorem emb2_at (t : Fin cfg0.N) (h : Fin 16) (i : Fin 512) : (win0_2.blk t).view.emb (ix3 h 0 i) = ix3 h 0 (row t i) := by
  have e0 : (win0_2.blk t).view.emb (ix3 h 0 i) 0 = h := Fin.ext (by blk_simp [idx t])
  have e2 : (win0_2.blk t).view.emb (ix3 h 0 i) 2 = row t i := Fin.ext (by blk_simp [idx t]; simp only [row])
  funext k; fin_cases k
  exacts [e0, rfl, e2]

/-- What a block's entry is to hold. -/
def dot (x : Vec Ideal S512x2048 .f32) (y : Vec Ideal S512x2048 .bf16) (h : Fin 16) (i : Fin 512) : EReal :=
  ∑ k : Fin 128, mulf (F := Ideal) (φ := .f32) (s := S512x2048) x (extf .f32 y bitsLt_bf16_f32) (ix2 i (chan h k))

/-- The block a point leaves. -/
theorem out_at (x : Vec Ideal S512x2048 .f32) (y : Vec Ideal S512x2048 .bf16) (h : Fin 16) (i : Fin 512) :
    out0_2 (F := Ideal) x y (ix3 h 0 i) = dot x y h i := by
  have e0 : ∀ (o : ℕ) (h : o < 16) (inb : ∀ a, (![o, 0, 0] : Fin 3 → ℕ) a + S1x1x512.size a ≤ S16x1x512.size a) (j : Fin 512),
      (Rect.unit (s := S16x1x512) ![o, 0, 0] S1x1x512.size inb).emb (ix3 0 0 j) 0 = (⟨o, h⟩ : Fin 16) :=
    fun o h inb j => Fin.ext (ValueKit.rect_emb_unit_val _ _ _ _ _)
  have e2 : ∀ (o : ℕ) (inb : ∀ a, (![o, 0, 0] : Fin 3 → ℕ) a + S1x1x512.size a ≤ S16x1x512.size a) (j : Fin 512),
      (Rect.unit (s := S16x1x512) ![o, 0, 0] S1x1x512.size inb).emb (ix3 0 0 j) 2 = j :=
    fun o inb j => Fin.ext ((ValueKit.rect_emb_unit_val _ _ _ _ _).trans (Nat.zero_add _))
  unfold out0_2
  refine View.canon_apply_of_pieces (Val := Elt Ideal) (S := S16x1x512) (e := .f32) (fun z => dot x y (z 0) (z 2)) _ (fun p hp z => ?_) _ (cover0_2 _ _ _ _ _ _ _ _ _ _ _ _ _ _ _ _ _)
  simp only [List.mem_cons, List.mem_nil_iff, or_false] at hp
  rcases hp with rfl | rfl | rfl | rfl | rfl | rfl | rfl | rfl | rfl | rfl | rfl | rfl | rfl | rfl | rfl | rfl
  all_goals
    obtain ⟨j, rfl⟩ : ∃ j, z = ix3 0 0 j := ⟨z 2, by funext k; fin_cases k; exacts [Subsingleton.elim (α := Fin 1) _ _, Subsingleton.elim (α := Fin 1) _ _, rfl]⟩
    dsimp only
    refine Eq.trans ?_ (congrArg₂ (dot x y) (e0 _ (by decide) _ j) (e2 _ _ j)).symm
    unfold dot
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
    rfl

/-- The kernel's sums are the reference's. -/
theorem same2 : (dats m 0 c).arrAt 2 cfg0.N =
    val_main_v5 (F := Ideal) (m ((c : Thread nD τ).loc main_arg0)) (m ((c : Thread nD τ).loc main_arg1)) := by
  refine (dats m 0 c).arrAt_eq_of_covers 2 _ (by decide +kernel) (fun t hf y => ?_)
  blk_simp
  rw [after0_2]
  obtain ⟨h, i, rfl⟩ : ∃ h i, y = ix3 h 0 i := ⟨y 0, y 2, by funext k; fin_cases k; exacts [rfl, Subsingleton.elim (α := Fin 1) _ _, rfl]⟩
  refine Eq.trans ?_ (congrArg _ (emb2_at t h i)).symm
  refine (out_at _ _ h i).trans ?_
  unfold dot
  pointwise []
  simp only [blk0_at, blk1_at, V_main_arg0, V_main_arg1]
  pointwise [val_main_v5, val_main_v4, val_main_v3, val_main_v2, val_main_v1, val_main_v0, val_main_cst]
  rfl

end Cert.DeltaValue

end
-- ==== Proof.ClaimsDelta.lean ====
/- The claims about the products of the attention with its gradient, summed over a head. -/
module

public import proofs.«01_k».proof.Defs
public import proofs.«01_k».proof.Proof.Gen.Delta.Frame
public import proofs.«01_k».proof.Proof.Gen.DeltaIdeal.Value
public import proofs.«01_k».proof.Proof.Gen.DeltaReferenceIdeal.Run
public import proofs.«01_k».proof.Proof.Delta

@[expose] public section

noncomputable section

namespace Cert.Proof

open Idealize.ShloMosaic Idealize.SL.Sem

/-- The kernel as printed, on bit patterns. -/
theorem frame_Delta : Cert.quiescent_Delta := fun m ρ _ => Cert.Delta.Gen.frame m ρ

/-- The same program over the extended reals. -/
theorem frame_DeltaIdeal : Cert.quiescent_DeltaIdeal := fun m ρ _ => Cert.DeltaIdeal.Gen.frame m ρ

/-- The reference over the extended reals. -/
theorem frame_DeltaReference : Cert.quiescent_DeltaReferenceIdeal := fun m ρ _ =>
  (θ_run Cert.DeltaReferenceIdeal.defs _ _).mono (fun r h => ⟨fun c => (h c).2, Idealize.ShloMosaic.sem_eq_zero_of_no_sems (by decide) r.2⟩)
    (Cert.DeltaReferenceIdeal.Value.run (F := Ideal) m ρ)

/-- From the same arguments, the kernel's sums are the reference's. -/
theorem algebraic_Delta : Cert.algebraic_DeltaIdeal_DeltaReferenceIdeal := fun m ρ m' ρ' _ hag => by
  refine ⟨_, Cert.DeltaIdeal.Value.run_blocks m ρ, ?_⟩
  refine (θ_run Cert.DeltaReferenceIdeal.defs _ _).mono (fun _ h c => ⟨(h c).1.trans ?_, (h c).2⟩)
    (Cert.DeltaReferenceIdeal.Value.run (F := Ideal) m' ρ')
  · refine (Cert.DeltaReferenceIdeal.Read.val_main_v5_eq _ _).trans (Eq.trans ?_ (Cert.DeltaValue.same2 m c).symm)
    obtain ⟨h0, h1⟩ := hag c
    rw [← h0, ← h1]

end Cert.Proof

end
-- ==== Proof.KvUp.lean ====
/- The keys and values of the heads from their latent, in tiles: the product, and the keys beside the shared rotated key. -/
module

public import proofs.«01_k».proof.Proof.Gen.KvUpIdeal.Value
public import proofs.«01_k».proof.Proof.Gen.KvUpReferenceIdeal.Read
public import proofs.«01_k».proof.Proof.Tiles
public import Idealize.ShloMosaic.Lib.Pipeline.ReadBack

@[expose] public section

set_option maxRecDepth 16384

noncomputable section

namespace Cert.KvUpValue

open Idealize.ShloMosaic Idealize.ShloMosaic.TcCoe Cert.KvUpIdeal Cert.KvUpIdeal.Gen Cert.Tiles
open Cert.KvUpReferenceIdeal.Read

/-- The block indices of the windows at a grid point. -/
theorem idx : ∀ t : Fin cfg0.N, win0_0.index t = ![t.val / 8, 0] ∧ win0_1.index t = ![t.val % 8, 0, 0] ∧ win0_2.index t = ![t.val / 8, 0] ∧
    win0_3.index t = ![t.val / 8, t.val % 8] ∧ win0_4.index t = ![t.val / 8, t.val % 8] :=
  (by decide +kernel : ∀ t : Fin grid0.N, _)

/-- The row of the arrays that row `i` of a point's block is. -/
def row (t : Fin cfg0.N) (i : Fin 1024) : Fin 4096 := ⟨t.val / 8 * 1024 + i.val, by have ht := lt_of_lt_of_eq t.isLt N_0; omega⟩

/-- The device whose columns a point computes. -/
def dev (t : Fin cfg0.N) : Fin 8 := ⟨t.val % 8, by omega⟩

/-- Column `j` of device `d`. -/
def col (d : Fin 8) (j : Fin 512) : Fin 4096 := ⟨d.val * 512 + j.val, by omega⟩

variable (m : (ℓ : Loc nD τ sig) → Buf (Elt Ideal) ℓ) (c : Dev nD)

/-- A block of the latent. -/
theorem blk0_at (t : Fin cfg0.N) (i : Fin 1024) (k : Fin 512) : iblk m c 0 t (ix2 i k) = V m c main_arg0 (ix2 (row t i) k) := by
  blk_ext [iblk, row, idx t]

/-- A device's columns of the weight. -/
theorem blk1_at (t : Fin cfg0.N) (k j : Fin 512) : iblk m c 1 t (ix3 0 k j) = V m c main_arg1 (ix3 (dev t) k j) := by
  blk_ext [iblk, dev, idx t]

/-- A block of the rotated key. -/
theorem blk2_at (t : Fin cfg0.N) (i : Fin 1024) (d : Fin 128) : iblk m c 2 t (ix2 i d) = V m c main_arg2 (ix2 (row t i) d) := by
  blk_ext [iblk, row, idx t]

/-- Where a point keeps its block of the product. -/
theorem emb3_at (t : Fin cfg0.N) (i : Fin 1024) (j : Fin 512) : (win0_3.blk t).view.emb (ix2 i j) = ix2 (row t i) (col (dev t) j) := by
  have e0 : (win0_3.blk t).view.emb (ix2 i j) 0 = row t i := Fin.ext (by blk_simp [idx t]; simp only [row])
  have e1 : (win0_3.blk t).view.emb (ix2 i j) 1 = col (dev t) j := Fin.ext (by blk_simp [idx t]; simp only [col, dev])
  funext k; fin_cases k
  exacts [e0, e1]

/-- Where a point keeps its block of the keys. -/
theorem emb4_at (t : Fin cfg0.N) (i : Fin 1024) (j : Fin 512) : (win0_4.blk t).view.emb (ix2 i j) = ix2 (row t i) (col (dev t) j) := by
  have e0 : (win0_4.blk t).view.emb (ix2 i j) 0 = row t i := Fin.ext (by blk_simp [idx t]; simp only [row])
  have e1 : (win0_4.blk t).view.emb (ix2 i j) 1 = col (dev t) j := Fin.ext (by blk_simp [idx t]; simp only [col, dev])
  funext k; fin_cases k
  exacts [e0, e1]

/-- The reference's product at an index. -/
theorem ref4_at (x0 : (⟨S4096x512, .bf16⟩ : BufTy).Contents (Elt Ideal)) (x1 : (⟨S8x512x512, .bf16⟩ : BufTy).Contents (Elt Ideal))
    (p : Fin 4096) (d : Fin 8) (q : Fin 512) :
    val_main_v4 (F := Ideal) x0 x1 (ix2 p (col d q)) = ∑ k : Fin 512, x0 (ix2 p k) * x1 (ix3 d k q) := by
  have h3 : ∀ k : Fin 512, val_main_v3 (F := Ideal) x1 (ix2 k (col d q)) = x1 (ix3 d k q) := fun k => by
    rw [val_main_v3_apply, val_main_v2_apply, val_main_v1_apply]
    refine congrArg x1 ?_
    funext a; fin_cases a <;> refine Fin.ext ?_ <;> simp only [idx_main_v2, idx_main_v3, col] <;> simp [ix3, ix2] <;> omega
  pointwise [val_main_v4, val_main_v0]
  exact Finset.sum_congr rfl fun k _ => congrArg _ (h3 k)

/-- A point's block of the product. -/
theorem pay1_at (t : Fin cfg0.N) (i : Fin 1024) (j : Fin 512) :
    k0_pay1 (F := Ideal) (iblk m c 0 t) (iblk m c 1 t) (ix2 i j) =
      val_main_v4 (F := Ideal) (m ((c : Thread nD τ).loc main_arg0)) (m ((c : Thread nD τ).loc main_arg1)) (ix2 (row t i) (col (dev t) j)) := by
  rw [ref4_at]
  pointwise [k0_pay1]
  simp only [blk0_at, blk1_at, V_main_arg0, V_main_arg1]

/-- The kernel's product is the reference's. -/
theorem same3 : (dats m 0 c).arrAt 3 cfg0.N =
    val_main_v11 (F := Ideal) (m ((c : Thread nD τ).loc main_arg0)) (m ((c : Thread nD τ).loc main_arg1)) := by
  refine (dats m 0 c).arrAt_eq_of_covers 3 _ (by decide +kernel) (fun t hf y => ?_)
  blk_simp
  rw [after0_3]
  obtain ⟨i, j, rfl⟩ : ∃ i j, y = ix2 i j := ⟨y 0, y 1, by funext k; fin_cases k <;> rfl⟩
  refine Eq.trans ?_ (congrArg _ (emb3_at t i j)).symm
  frame_out
  pointwise [k0_pay2, val_main_v11]
  exact pay1_at m c t i j

/-- What the keys hold, by the product and the rotated key: of every 256 columns the first 128 are the product's, the others the key's. -/
theorem keys_at (x0 : (⟨S4096x512, .bf16⟩ : BufTy).Contents (Elt Ideal)) (x1 : (⟨S8x512x512, .bf16⟩ : BufTy).Contents (Elt Ideal))
    (x2 : (⟨S4096x128, .bf16⟩ : BufTy).Contents (Elt Ideal)) (n k : Fin 4096) :
    @Eq EReal (val_main_v13 (F := Ideal) x0 x1 x2 (ix2 n k))
      (if k.val % 256 < 128 then val_main_v4 (F := Ideal) x0 x1 (ix2 n k) else x2 (ix2 n ⟨k.val % 128, by omega⟩)) := by
  pointwise [val_main_v13, val_main_v12, val_main_v10, val_main_v9, val_main_v8, val_main_v7, val_main_v6, val_main_v5]
  by_cases h : k.val % 256 < 128
  · rw [dif_pos h, if_pos h]
  · rw [dif_neg h, if_neg h]
    exact congrArg _ (congrArg _ (Fin.ext (by dsimp only; omega)))

/-- The kernel's keys are the reference's. -/
theorem same4 : (dats m 0 c).arrAt 4 cfg0.N =
    val_main_v13 (F := Ideal) (m ((c : Thread nD τ).loc main_arg0)) (m ((c : Thread nD τ).loc main_arg1)) (m ((c : Thread nD τ).loc main_arg2)) := by
  refine (dats m 0 c).arrAt_eq_of_covers 4 _ (by decide +kernel) (fun t hf y => ?_)
  blk_simp
  rw [after0_4]
  obtain ⟨i, j, rfl⟩ : ∃ i j, y = ix2 i j := ⟨y 0, y 1, by funext k; fin_cases k <;> rfl⟩
  refine Eq.trans ?_ (congrArg _ (emb4_at t i j)).symm
  refine Eq.trans ?_ (keys_at _ _ _ _ _).symm
  frame_out
  pointwise [k0_pay3]
  have hm : ∀ q : Fin 512, (col (dev t) q).val % 256 = q.val % 256 := fun q => by simp only [col]; omega
  have hn : ∀ q : Fin 512, (col (dev t) q).val % 128 = q.val % 128 := fun q => by simp only [col]; omega
  have hp : ∀ q : Fin 512, q = j → @Eq EReal (k0_pay1 (F := Ideal) (iblk m c 0 t) (iblk m c 1 t) (ix2 i q))
      (val_main_v4 (F := Ideal) (m ((c : Thread nD τ).loc main_arg0)) (m ((c : Thread nD τ).loc main_arg1)) (ix2 (row t i) (col (dev t) j))) :=
    fun q h => by subst h; exact pay1_at m c t i q
  have hk : ∀ d : Fin 128, d.val = j.val % 128 → @Eq EReal (iblk m c 2 t (ix2 i d))
      (m ((c : Thread nD τ).loc main_arg2) (ix2 (row t i) ⟨(col (dev t) j).val % 128, Nat.mod_lt _ (by norm_num)⟩)) :=
    fun d h => ((blk2_at m c t i d).trans (congrFun (V_main_arg2 m c) _)).trans (congrArg _ (congrArg _ (Fin.ext (h.trans (hn j).symm))))
  have yes : j.val % 256 < 128 → (col (dev t) j).val % 256 < 128 := fun h => by rw [hm]; exact h
  have no : ¬ j.val % 256 < 128 → ¬ (col (dev t) j).val % 256 < 128 := fun h => by rw [hm]; exact h
  by_cases h1 : j.val < 128
  · exact (dif_pos h1).trans ((hp _ rfl).trans (if_pos (yes (by omega))).symm)
  · refine (dif_neg h1).trans ?_
    by_cases h2 : j.val - 128 < 128
    · exact (dif_pos h2).trans ((hk _ (by dsimp only; omega)).trans (if_neg (no (by omega))).symm)
    · refine (dif_neg h2).trans ?_
      by_cases h3 : j.val - 128 - 128 < 128
      · exact (dif_pos h3).trans ((hp _ (Fin.ext (by dsimp only; omega))).trans (if_pos (yes (by omega))).symm)
      · exact (dif_neg h3).trans ((hk _ (by dsimp only; omega)).trans (if_neg (no (by omega))).symm)

end Cert.KvUpValue

end
-- ==== Proof.ClaimsKvUp.lean ====
/- The claims about the heads' keys and values. -/
module

public import proofs.«01_k».proof.Defs
public import proofs.«01_k».proof.Proof.Gen.KvUp.Frame
public import proofs.«01_k».proof.Proof.Gen.KvUpIdeal.Value
public import proofs.«01_k».proof.Proof.Gen.KvUpReferenceIdeal.Run
public import proofs.«01_k».proof.Proof.KvUp

@[expose] public section

noncomputable section

namespace Cert.Proof

open Idealize.ShloMosaic Idealize.SL.Sem

/-- The kernel as printed, on bit patterns. -/
theorem frame_KvUp : Cert.quiescent_KvUp := fun m ρ _ => Cert.KvUp.Gen.frame m ρ

/-- The same program over the extended reals. -/
theorem frame_KvUpIdeal : Cert.quiescent_KvUpIdeal := fun m ρ _ => Cert.KvUpIdeal.Gen.frame m ρ

/-- The reference over the extended reals. -/
theorem frame_KvUpReference : Cert.quiescent_KvUpReferenceIdeal := fun m ρ _ =>
  (θ_run Cert.KvUpReferenceIdeal.defs _ _).mono (fun r h => ⟨fun c => (h c).2.2, Idealize.ShloMosaic.sem_eq_zero_of_no_sems (by decide) r.2⟩)
    (Cert.KvUpReferenceIdeal.Value.run (F := Ideal) m ρ)

/-- From the same arguments, the kernel's product and its keys are the reference's. -/
theorem algebraic_KvUp : Cert.algebraic_KvUpIdeal_KvUpReferenceIdeal := fun m ρ m' ρ' _ hag => by
  refine ⟨_, _, Cert.KvUpIdeal.Value.run_blocks m ρ, ?_⟩
  refine (θ_run Cert.KvUpReferenceIdeal.defs _ _).mono (fun _ h c => ⟨(h c).1.trans ?_, (h c).2.1.trans ?_, (h c).2.2⟩)
    (Cert.KvUpReferenceIdeal.Value.run (F := Ideal) m' ρ')
  · refine (Cert.KvUpReferenceIdeal.Read.val_main_v11_eq _ _).trans (Eq.trans ?_ (Cert.KvUpValue.same3 m c).symm)
    obtain ⟨h0, h1, h2⟩ := hag c
    rw [← h0, ← h1]
  · refine (Cert.KvUpReferenceIdeal.Read.val_main_v13_eq _ _ _).trans (Eq.trans ?_ (Cert.KvUpValue.same4 m c).symm)
    obtain ⟨h0, h1, h2⟩ := hag c
    rw [← h0, ← h1, ← h2]

end Cert.Proof

end
-- ==== Proof.KeyGrad.lean ====
/- The gradient of the shared rotary key: the sum of four parts, written beside the zeros that pad it, inside the projection's gradient. -/
module

public import proofs.«01_k».proof.Proof.Gen.KeyGradIdeal.Value
public import proofs.«01_k».proof.Proof.Gen.KeyGradReferenceIdeal.Read
public import proofs.«01_k».proof.Proof.Tiles
public import Idealize.ShloMosaic.Lib.Pipeline.ReadBack
public import Idealize.ShloMosaic.Lib.StableHlo.RunRead

@[expose] public section

set_option maxRecDepth 16384

noncomputable section

namespace Cert.KeyGradValue

open Idealize.ShloMosaic Idealize.ShloMosaic.TcCoe Cert.KeyGradIdeal Cert.KeyGradIdeal.Gen Cert.Tiles
open Cert.KeyGradReferenceIdeal.Read

/-- The block indices of the windows at a grid point. -/
theorem idx : ∀ t : Fin cfg0.N, win0_0.index t = ![t.val, 0] ∧ win0_1.index t = ![t.val, 44] :=
  (by decide +kernel : ∀ t : Fin grid0.N, _)

/-- The row of the arrays that row `i` of a point's block is. -/
def row (t : Fin cfg0.N) (i : Fin 256) : Fin 4096 := ⟨t.val * 256 + i.val, by have ht := lt_of_lt_of_eq t.isLt N_0; omega⟩

/-- The column of the projection's gradient that column `j` of the key's block is. -/
def col (j : Fin 256) : Fin 11520 := ⟨11264 + j.val, by omega⟩

variable (m : (ℓ : Loc nD τ sig) → Buf (Elt Ideal) ℓ) (c : Dev nD)

/-- A block of the parts. -/
theorem blk0_at (t : Fin cfg0.N) (i : Fin 256) (j : Fin 512) : iblk m c 0 t (ix2 i j) = V m c main_arg0 (ix2 (row t i) j) := by
  blk_ext [iblk, row, idx t]

/-- Column `d` of part `p`. -/
def part4 (p : Fin 4) (d : Fin 128) : Fin 512 := ⟨p.val * 128 + d.val, by omega⟩

/-- What the key's block is to hold, by row and column: the sum of the four parts, and then zeros. -/
def key (x : Vec Ideal S4096x512 .f32) (n : Fin 4096) (j : Fin 256) : EReal :=
  if h : j.val < 128 then ∑ p : Fin 4, (x (ix2 n (part4 p ⟨j.val, h⟩)) : EReal) else 0

/-- The block a point leaves. -/
theorem out_at (t : Fin cfg0.N) (i : Fin 256) (j : Fin 256) :
    outsAt0 m c t (ix2 i j) = key (m ((c : Thread nD τ).loc main_arg0)) (row t i) j := by
  simp only [outsAt0]
  unfold out0_A_1
  frame_out
  canon_tiles x h
  all_goals
    obtain ⟨a, b, rfl⟩ : ∃ a b, x = ix2 a b := ⟨x 0, x 1, by funext k; fin_cases k <;> rfl⟩
    have e0 : i = a := Fin.ext h0
    subst e0
  · have hj : ¬ j.val < 128 := fun h => by have e : j.val = 128 + b.val := h1; omega
    unfold key
    rw [dif_neg hj]
    pointwise [k0_pay2]
  · have hj : j.val < 128 := lt_of_eq_of_lt (h1 : j.val = b.val) b.isLt
    have hb : (⟨j.val, hj⟩ : Fin 128) = b := Fin.ext h1
    unfold key
    rw [dif_pos hj, hb, Fin.sum_univ_four]
    pointwise [k0_pay1]
    simp only [blk0_at]
    have e : ∀ (p : Fin 4) (q : Fin 512), q.val = p.val * 128 + b.val →
        @Eq EReal (V m c main_arg0 (ix2 (row t i) q)) (m ((c : Thread nD τ).loc main_arg0) (ix2 (row t i) (part4 p b))) :=
      fun p q h => (congrFun (V_main_arg0 m c) _).trans (congrArg _ (congrArg _ (Fin.ext h)))
    exact congrArg₂ (fun x y : EReal => x + y) (congrArg₂ (fun x y : EReal => x + y) (congrArg₂ (fun x y : EReal => x + y)
      (e 0 _ (by simp)) (e 1 _ (by simp))) (e 2 _ (by simp))) (e 3 _ (by simp))

/-- The array that the kernel writes into is the one it is given. -/
theorem given : V m c main_v0 = m ((c : Thread nD τ).loc main_arg1) := by
  unfold V
  after_reads_simp
  rfl

/-- The column of the key's block that a column of the projection's gradient is. -/
def lat (k : Fin 11520) : Fin 256 := ⟨(k.val - 11264) % 256, Nat.mod_lt _ (by norm_num)⟩

/-- The kernel's result: the key's block, and the rest of the array as it was given. -/
theorem final1 : (dats m 0 c).arrAt 1 cfg0.N =
    fun i => if 11264 ≤ (i 1 : ℕ) ∧ (i 1 : ℕ) < 11520 then key (m ((c : Thread nD τ).loc main_arg0)) (i 0) (lat (i 1)) else V m c main_v0 i := by
  refine (dats m 0 c).arrAt_eq_of_coversWhere 1 _ (fun β => β 1 = 44) (by decide +kernel) (fun t hf y => ?_)
    (fun j => by blk_simp [Pipeline.Window.cell_apply]; omega)
  have h0 : (y 0).val < 256 := lt_of_lt_of_le (y 0).isLt (win0_1.xsize_le (grid0.coords t) 0)
  have h1 : (y 1).val < 256 := lt_of_lt_of_le (y 1).isLt (win0_1.xsize_le (grid0.coords t) 1)
  have e0 : (win0_1.blk t).view.emb y 0 = row t ⟨(y 0).val, h0⟩ :=
    Fin.ext ((Pipeline.Window.rect_emb_val win0_1 t y 0 rfl).trans (by rw [(idx t).2]; rfl))
  have e1 : (win0_1.blk t).view.emb y 1 = col ⟨(y 1).val, h1⟩ :=
    Fin.ext ((Pipeline.Window.rect_emb_val win0_1 t y 1 rfl).trans (by rw [(idx t).2]; rfl))
  have hj : lat (col ⟨(y 1).val, h1⟩) = ⟨(y 1).val, h1⟩ := Fin.ext (by simp only [lat, col]; omega)
  have hx : win0_1.xinj (grid0.coords t) y = ix2 ⟨(y 0).val, h0⟩ ⟨(y 1).val, h1⟩ := by funext k; fin_cases k <;> rfl
  blk_simp
  rw [after0_1]
  refine (congrArg _ hx).trans ?_
  refine Eq.trans ?_ (show _ = _ from by rw [e0, e1, hj])
  exact out_at m c t _ _

/-- The kernel's result is the reference's. -/
theorem same1 : (dats m 0 c).arrAt 1 cfg0.N =
    val_main_v5 (F := Ideal) (m ((c : Thread nD τ).loc main_arg0)) (m ((c : Thread nD τ).loc main_arg1)) := by
  refine (final1 m c).trans (funext fun y => ?_)
  obtain ⟨n, k, rfl⟩ : ∃ n k, y = ix2 n k := ⟨y 0, y 1, by funext k; fin_cases k <;> rfl⟩
  rw [given]
  show (if 11264 ≤ k.val ∧ k.val < 11520 then key (m ((c : Thread nD τ).loc main_arg0)) n (lat k) else m ((c : Thread nD τ).loc main_arg1) (ix2 n k)) = _
  unfold key
  pointwise [val_main_v5, val_main_v4, val_main_v3, val_main_v2, val_main_v1, val_main_v0, val_main_cst, val_main_cst_0]
  by_cases h1 : k.val < 11264
  · rw [if_neg (by omega), dif_pos h1]
  · rw [if_pos (by omega), dif_neg h1]
    have hk : (lat k).val = k.val - 11264 := by simp only [lat]; omega
    by_cases h2 : k.val - 11264 < 128
    · rw [dif_pos (by omega), dif_pos h2]
      exact Finset.sum_congr rfl fun p _ => congrArg _ (congrArg _ (Fin.ext (by simp only [part4, hk])))
    · rw [dif_neg (by omega), dif_neg h2]

end Cert.KeyGradValue

end
-- ==== Proof.ClaimsKeyGrad.lean ====
/- The claims about the gradient of the shared rotary key. -/
module

public import proofs.«01_k».proof.Defs
public import proofs.«01_k».proof.Proof.Gen.KeyGrad.Frame
public import proofs.«01_k».proof.Proof.Gen.KeyGradIdeal.Value
public import proofs.«01_k».proof.Proof.Gen.KeyGradReferenceIdeal.Run
public import proofs.«01_k».proof.Proof.KeyGrad

@[expose] public section

noncomputable section

namespace Cert.Proof

open Idealize.ShloMosaic Idealize.SL.Sem

/-- The kernel as printed, on bit patterns. -/
theorem frame_KeyGrad : Cert.quiescent_KeyGrad := fun m ρ _ => Cert.KeyGrad.Gen.frame m ρ

/-- The same program over the extended reals. -/
theorem frame_KeyGradIdeal : Cert.quiescent_KeyGradIdeal := fun m ρ _ => Cert.KeyGradIdeal.Gen.frame m ρ

/-- The reference over the extended reals. -/
theorem frame_KeyGradReference : Cert.quiescent_KeyGradReferenceIdeal := fun m ρ _ =>
  (θ_run Cert.KeyGradReferenceIdeal.defs _ _).mono (fun r h => ⟨fun c => (h c).2, Idealize.ShloMosaic.sem_eq_zero_of_no_sems (by decide) r.2⟩)
    (Cert.KeyGradReferenceIdeal.Value.run (F := Ideal) m ρ)

/-- From the same arguments, the kernel's gradient is the reference's. -/
theorem algebraic_KeyGrad : Cert.algebraic_KeyGradIdeal_KeyGradReferenceIdeal := fun m ρ m' ρ' _ hag => by
  refine ⟨_, Cert.KeyGradIdeal.Value.run_blocks m ρ, ?_⟩
  refine (θ_run Cert.KeyGradReferenceIdeal.defs _ _).mono (fun _ h c => ⟨(h c).1.trans ?_, (h c).2⟩)
    (Cert.KeyGradReferenceIdeal.Value.run (F := Ideal) m' ρ')
  · refine (Cert.KeyGradReferenceIdeal.Read.val_main_v5_eq _ _).trans (Eq.trans ?_ (Cert.KeyGradValue.same1 m c).symm)
    obtain ⟨h0, h1⟩ := hag c
    rw [← h0, ← h1]

end Cert.Proof

end
-- ==== Proof.QUp.lean ====
/- The heads' queries from their latent, in tiles: the product, with 64 of a head's columns rotated by the position, scaled. -/
module

public import proofs.«01_k».proof.Proof.Gen.QUpIdeal.Value
public import proofs.«01_k».proof.Proof.Gen.QUpReferenceIdeal.Read
public import proofs.«01_k».proof.Proof.Tiles
public import Idealize.ShloMosaic.Lib.Pipeline.ReadBack
public import Idealize.ShloMosaic.Lib.StableHlo.RunRead

@[expose] public section

set_option maxRecDepth 16384

noncomputable section

namespace Cert.QUpValue

open Idealize.ShloMosaic Idealize.ShloMosaic.TcCoe Cert.QUpIdeal Cert.QUpIdeal.Gen Cert.Tiles
open Cert.QUpReferenceIdeal.Read

/-- The block indices of the windows at a grid point. -/
theorem idx : ∀ t : Fin cfg0.N, win0_0.index t = ![t.val / 4, 0] ∧ win0_1.index t = ![0, t.val % 4] ∧ win0_2.index t = ![t.val / 4, 0] ∧
    win0_3.index t = ![t.val / 4, 0] ∧ win0_4.index t = ![t.val / 4, 0] ∧ win0_5.index t = ![t.val / 4, t.val % 4] :=
  (by decide +kernel : ∀ t : Fin grid0.N, _)

/-- The row of the arrays that row `i` of a point's block is. -/
def row (t : Fin cfg0.N) (i : Fin 1024) : Fin 4096 := ⟨t.val / 4 * 1024 + i.val, by have ht := lt_of_lt_of_eq t.isLt N_0; omega⟩

/-- The column of the result that column `j` of a point's block is. -/
def col (t : Fin cfg0.N) (j : Fin 1024) : Fin 4096 := ⟨t.val % 4 * 1024 + j.val, by omega⟩

variable (m : (ℓ : Loc nD τ sig) → Buf (Elt Ideal) ℓ) (c : Dev nD)

/-- A block of the latent. -/
theorem blk0_at (t : Fin cfg0.N) (i : Fin 1024) (k : Fin 512) : iblk m c 0 t (ix2 i k) = V m c main_arg0 (ix2 (row t i) k) := by
  blk_ext [iblk, row, idx t]

/-- A block of the weight. -/
theorem blk1_at (t : Fin cfg0.N) (k : Fin 512) (j : Fin 1024) : iblk m c 1 t (ix2 k j) = V m c main_arg1 (ix2 k (col t j)) := by
  blk_ext [iblk, col, idx t]

/-- Where a point keeps its block. -/
theorem emb5_at (t : Fin cfg0.N) (i j : Fin 1024) : (win0_5.blk t).view.emb (ix2 i j) = ix2 (row t i) (col t j) := by
  have e0 : (win0_5.blk t).view.emb (ix2 i j) 0 = row t i := Fin.ext (by blk_simp [idx t]; simp only [row])
  have e1 : (win0_5.blk t).view.emb (ix2 i j) 1 = col t j := Fin.ext (by blk_simp [idx t]; simp only [col])
  funext k; fin_cases k
  exacts [e0, e1]

/-- A point's block of the product. -/
theorem prod_at (t : Fin cfg0.N) (i j : Fin 1024) :
    @Eq EReal (k0_pay2 (F := Ideal) (iblk m c 0 t) (iblk m c 1 t) (ix2 i j))
      (val_main_v2 (F := Ideal) (m (c.tc.loc main_arg0)) (m (c.tc.loc main_arg1)) (ix2 (row t i) (col t j))) := by
  pointwise [k0_pay2, val_main_v2, val_main_v1, val_main_v0]
  exact Finset.sum_congr rfl fun k _ => congrArg₂ (fun a b : EReal => a * b) ((blk0_at m c t i k).trans (congrFun (V_main_arg0 m c) _)) ((blk1_at m c t k j).trans (congrFun (V_main_arg1 m c) _))

/-- The cosines of the positions. -/
abbrev cs : FVec Ideal S4096x32 .f32 := val_main_v17 (m (c.tc.loc main_arg2))

/-- The sines of the positions. -/
abbrev sn : FVec Ideal S4096x32 .f32 := val_main_v19 (m (c.tc.loc main_arg2))

/-- Zeros of the same shape. -/
abbrev z32 : FVec Ideal S4096x32 .f32 := broadcastInDim S4096x32 ![] bcast_S_S4096x32 (constant (F := Ideal) S_ .f32 0x00000000#32)

/-- Two tables side by side, and zeros. -/
def tab (a b : FVec Ideal S4096x32 .f32) : FVec Ideal S4096x128 .f32 :=
  concatenate S4096x128 1 [⟨S4096x32, a⟩, ⟨S4096x32, b⟩, ⟨S4096x64, (broadcastInDim S4096x64 ![] bcast_S_S4096x64 (constant (F := Ideal) S_ .f32 0x00000000#32) : FVec Ideal S4096x64 .f32)⟩] concatenates_S4096x32_S4096x32_S4096x64_S4096x128_d1

/-- What an entry of it is. -/
abbrev ent (a b : FVec Ideal S4096x32 .f32) (n : Fin 4096) (j : Fin 128) : EReal :=
  if h : j.val < 32 then a (ix2 n ⟨j.val, h⟩) else if h' : j.val < 64 then b (ix2 n ⟨j.val - 32, by omega⟩) else 0

/-- An entry of it. -/
theorem tab_at (a b : FVec Ideal S4096x32 .f32) (n : Fin 4096) (j : Fin 128) : @Eq EReal (tab a b (ix2 n j)) (ent a b n j) := by
  unfold tab
  pointwise
  by_cases h : j.val < 32
  · simp only [dif_pos h]
  · by_cases h' : j.val < 64
    · have h3 : j.val - 32 < 32 := by omega
      simp only [dif_neg h, dif_pos h', dif_pos h3]
    · have h3 : ¬ j.val - 32 < 32 := by omega
      simp only [dif_neg h, dif_neg h', dif_neg h3]

/-- The kernel's cosines. -/
theorem table16 : V m c main_v16 = tab (cs m c) (cs m c) := by
  unfold V
  after_reads_simp
  rfl

/-- The kernel's first table of sines. -/
theorem table18 : V m c main_v18 = tab (Host.negf (sn m c)) z32 := by
  unfold V
  after_reads_simp
  rfl

/-- The kernel's second table of sines. -/
theorem table19 : V m c main_v19 = tab z32 (sn m c) := by
  unfold V
  after_reads_simp
  rfl

/-- An entry of the zeros. -/
theorem z32_at (n : Fin 4096) (r : Fin 32) : @Eq EReal (z32 (ix2 n r)) 0 := by
  pointwise [z32]

/-- A sum of three products, term by term. -/
theorem sum3 {a b d e f g a' b' d' e' f' g' : EReal} (h1 : a = a') (h2 : b = b') (h3 : d = d') (h4 : e = e') (h5 : f = f') (h6 : g = g') :
    a * b + d * e + f * g = a' * b' + d' * e' + f' * g' := by
  rw [h1, h2, h3, h4, h5, h6]

/-- The scale of the scores. -/
def qs : ℝ := 13974421 / 2 ^ 27

/-- The word of the scale. -/
abbrev wq : EReal := Ideal.ofBits .f32 0x3DD53B95#32

/-- The word is the scale. -/
theorem word_qs : wq = ((qs : ℝ) : EReal) := by
  unfold qs; simp [Ideal.ofBits, Ideal.ieee]; norm_cast

/-- The scale may be taken out of a sum of three products. -/
theorem scale3 (x y z a b d : EReal) : x * (a * (qs : EReal)) + y * (b * (qs : EReal)) + z * (d * (qs : EReal)) = (x * a + y * b + z * d) * (qs : EReal) := by
  have h0 : (0 : EReal) ≤ (qs : EReal) := by exact_mod_cast (by unfold qs; positivity : (0 : ℝ) ≤ qs)
  rw [EReal.right_distrib_of_nonneg_of_ne_top h0 (EReal.coe_ne_top _), EReal.right_distrib_of_nonneg_of_ne_top h0 (EReal.coe_ne_top _),
    mul_assoc, mul_assoc, mul_assoc]

variable (x0 : (⟨S4096x512, .bf16⟩ : BufTy).Contents (Elt Ideal)) (x1 : (⟨S512x4096, .bf16⟩ : BufTy).Contents (Elt Ideal))
    (x2 : (⟨S4096, .i32⟩ : BufTy).Contents (Elt Ideal)) (n k : Fin 4096)

/-- An entry of the reference's product. -/
abbrev pe (k : Fin 4096) : EReal := val_main_v2 x0 x1 (ix2 n k)

/-- An entry of the reference's cosines. -/
abbrev ce (r : Fin 32) : EReal := val_main_v17 x2 (ix2 n r)

/-- An entry of the reference's sines. -/
abbrev se (r : Fin 32) : EReal := val_main_v19 x2 (ix2 n r)

/-- The head's columns of the reference: 128 as they are, 64 rotated, and zeros. -/
theorem ref_at : @Eq EReal (val_main_v40 (F := Ideal) x0 x1 x2 (ix2 n k))
    ((if h : k.val % 256 < 128 then pe x0 x1 n k else if h : k.val % 256 - 128 < 64 then if h' : k.val % 256 - 128 < 32 then
      pe x0 x1 n ⟨k.val / 256 * 256 + (128 + (k.val % 256 - 128)), by omega⟩ * ce x2 n ⟨k.val % 256 - 128, h'⟩ -
        pe x0 x1 n ⟨k.val / 256 * 256 + (128 + (32 + (k.val % 256 - 128))), by omega⟩ * se x2 n ⟨k.val % 256 - 128, h'⟩
    else
      pe x0 x1 n ⟨k.val / 256 * 256 + (128 + (32 + (k.val % 256 - 128 - 32))), by omega⟩ * ce x2 n ⟨k.val % 256 - 128 - 32, by omega⟩ +
        pe x0 x1 n ⟨k.val / 256 * 256 + (128 + (k.val % 256 - 128 - 32)), by omega⟩ * se x2 n ⟨k.val % 256 - 128 - 32, by omega⟩
    else 0) * (qs : EReal)) := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v18, val_main_v4, val_main_v3, val_main_cst_1, val_main_cst_2]
  exact congrArg (_ * ·) word_qs

/-- An entry of the reference. -/
abbrev re : EReal := val_main_v40 x0 x1 x2 (ix2 n k)

/-- A column of the reference that isn't rotated. -/
theorem ref_flat (h : k.val % 256 < 128) : re x0 x1 x2 n k = pe x0 x1 n k * (qs : EReal) :=
  (ref_at x0 x1 x2 n k).trans (congrArg (· * (qs : EReal)) (dif_pos h))

/-- The last columns of a head are zero. -/
theorem ref_zero (h : 192 ≤ k.val % 256) : re x0 x1 x2 n k = 0 * (qs : EReal) :=
  (ref_at x0 x1 x2 n k).trans (congrArg (· * (qs : EReal)) ((dif_neg (by omega)).trans (dif_neg (by omega))))

/-- A column of the reference in the first half of the rotated ones. -/
theorem ref_lo (h : 128 ≤ k.val % 256) (p : Fin 4096) (hp : p.val = k.val + 32) (r : Fin 32) (hr : k.val % 256 = 128 + r.val) :
    re x0 x1 x2 n k = (pe x0 x1 n k * ce x2 n r - pe x0 x1 n p * se x2 n r) * (qs : EReal) := by
  have hr' := r.isLt
  refine (ref_at x0 x1 x2 n k).trans (congrArg (· * (qs : EReal)) ?_)
  refine (dif_neg (by omega)).trans ((dif_pos (by omega)).trans ((dif_pos (by omega)).trans ?_))
  refine congrArg₂ (· - ·) (congrArg₂ (fun p q => pe x0 x1 n p * ce x2 n q) (Fin.ext ?_) (Fin.ext ?_))
    (congrArg₂ (fun p q => pe x0 x1 n p * se x2 n q) (Fin.ext ?_) (Fin.ext ?_))
  all_goals dsimp only; omega

/-- A column of the reference in the second half of the rotated ones. -/
theorem ref_hi (h : 160 ≤ k.val % 256) (p : Fin 4096) (hp : p.val + 32 = k.val) (r : Fin 32) (hr : k.val % 256 = 160 + r.val) :
    re x0 x1 x2 n k = (pe x0 x1 n k * ce x2 n r + pe x0 x1 n p * se x2 n r) * (qs : EReal) := by
  have hr' := r.isLt
  refine (ref_at x0 x1 x2 n k).trans (congrArg (· * (qs : EReal)) ?_)
  refine (dif_neg (by omega)).trans ((dif_pos (by omega)).trans ((dif_neg (by omega)).trans ?_))
  refine congrArg₂ (· + ·) (congrArg₂ (fun p q => pe x0 x1 n p * ce x2 n q) (Fin.ext ?_) (Fin.ext ?_))
    (congrArg₂ (fun p q => pe x0 x1 n p * se x2 n q) (Fin.ext ?_) (Fin.ext ?_))
  all_goals dsimp only; omega

variable (t : Fin cfg0.N) (i j : Fin 1024)

/-- The reference at an entry of a point's block. -/
abbrev goal : EReal := re (m (c.tc.loc main_arg0)) (m (c.tc.loc main_arg1)) (m (c.tc.loc main_arg2)) (row t i) (col t j)

/-- A point's block of the product, at a column. -/
abbrev pr (j : Fin 1024) : EReal := k0_pay2 (F := Ideal) (iblk m c 0 t) (iblk m c 1 t) (ix2 i j)

/-- A point's block of the cosines. -/
abbrev tb2 (r : Fin 128) : EReal := iblk m c 2 t (ix2 i r)

/-- An entry of it. -/
theorem tb2_at (r : Fin 128) : tb2 m c t i r = ent (cs m c) (cs m c) (row t i) r :=
  (show iblk m c 2 t (ix2 i r) = V m c main_v16 (ix2 (row t i) r) by blk_ext [iblk, row, idx t]).trans ((congrFun (table16 m c) _).trans (tab_at _ _ _ r))

/-- A point's block of the first table of sines. -/
abbrev tb3 (r : Fin 128) : EReal := iblk m c 3 t (ix2 i r)

/-- An entry of it. -/
theorem tb3_at (r : Fin 128) : tb3 m c t i r = ent (Host.negf (sn m c)) z32 (row t i) r :=
  (show iblk m c 3 t (ix2 i r) = V m c main_v18 (ix2 (row t i) r) by blk_ext [iblk, row, idx t]).trans ((congrFun (table18 m c) _).trans (tab_at _ _ _ r))

/-- A point's block of the second table of sines. -/
abbrev tb4 (r : Fin 128) : EReal := iblk m c 4 t (ix2 i r)

/-- An entry of it. -/
theorem tb4_at (r : Fin 128) : tb4 m c t i r = ent z32 (sn m c) (row t i) r :=
  (show iblk m c 4 t (ix2 i r) = V m c main_v19 (ix2 (row t i) r) by blk_ext [iblk, row, idx t]).trans ((congrFun (table19 m c) _).trans (tab_at _ _ _ r))

/-- A column that isn't rotated. -/
theorem flat (h : j.val % 256 < 128) (p : Fin 1024) (hp : p.val = j.val) : pr m c t i p * wq = goal m c t i j := by
  obtain rfl : p = j := Fin.ext hp
  rw [word_qs]
  exact (congrArg (· * (qs : EReal)) (prod_at m c t i p)).trans (ref_flat _ _ _ _ _ (by simp only [col]; omega)).symm

/-- A column of the second half of a head. -/
theorem rot (r : Fin 128) (p p1 p2 : Fin 1024) (h : j.val % 256 = 128 + r.val) (hp : p.val = j.val)
    (h1 : r.val < 32 → p1.val = j.val + 32) (h2 : 32 ≤ r.val → r.val < 64 → p2.val + 32 = j.val) :
    pr m c t i p * (tb2 m c t i r * wq) + pr m c t i p1 * (tb3 m c t i r * wq) +
      pr m c t i p2 * (tb4 m c t i r * wq) = goal m c t i j := by
  obtain rfl : p = j := Fin.ext hp
  rw [word_qs]
  refine (scale3 _ _ _ _ _ _).trans ?_
  by_cases hr : r.val < 32
  · have e1 := h1 hr
    refine Eq.trans ?_ (ref_lo _ _ _ _ _ (by simp only [col]; omega) (col t p1) (by simp only [col]; omega) ⟨r.val, hr⟩ (by simp only [col]; omega)).symm
    refine congrArg (· * (qs : EReal)) ((sum3 (prod_at m c t i p) ((tb2_at m c t i r).trans (dif_pos hr)) (prod_at m c t i p1)
      ((tb3_at m c t i r).trans (dif_pos hr)) rfl (((tb4_at m c t i r).trans (dif_pos hr)).trans (z32_at _ _))).trans ?_)
    rw [mul_zero, add_zero]
    exact congrArg (fun a : EReal => _ + a) (mul_neg _ _)
  · by_cases hr' : r.val < 64
    · have e2 := h2 (by omega) hr'
      refine Eq.trans ?_ (ref_hi _ _ _ _ _ (by simp only [col]; omega) (col t p2) (by simp only [col]; omega) ⟨r.val - 32, by omega⟩ (by simp only [col]; omega)).symm
      refine congrArg (· * (qs : EReal)) ((sum3 (prod_at m c t i p) (((tb2_at m c t i r).trans (dif_neg hr)).trans (dif_pos hr')) rfl
        ((((tb3_at m c t i r).trans (dif_neg hr)).trans (dif_pos hr')).trans (z32_at _ _)) (prod_at m c t i p2)
        (((tb4_at m c t i r).trans (dif_neg hr)).trans (dif_pos hr'))).trans ?_)
      rw [mul_zero, add_zero]
    · refine Eq.trans ?_ (ref_zero _ _ _ _ _ (by simp only [col]; omega)).symm
      refine (congrArg (· * (qs : EReal)) ((sum3 rfl (((tb2_at m c t i r).trans (dif_neg hr)).trans (dif_neg hr')) rfl
        (((tb3_at m c t i r).trans (dif_neg hr)).trans (dif_neg hr')) rfl
        (((tb4_at m c t i r).trans (dif_neg hr)).trans (dif_neg hr'))).trans ?_))
      simp only [mul_zero, add_zero]

set_option maxHeartbeats 2000000 in
/-- The kernel's queries are the reference's. -/
theorem same5 : (dats m 0 c).arrAt 5 cfg0.N = val_main_v40 (F := Ideal) (m (c.tc.loc main_arg0)) (m (c.tc.loc main_arg1)) (m (c.tc.loc main_arg2)) := by
  refine (dats m 0 c).arrAt_eq_of_covers 5 _ (by decide +kernel) (fun t hf y => ?_)
  blk_simp
  rw [after0_5]
  obtain ⟨i, j, rfl⟩ : ∃ i j, y = ix2 i j := ⟨y 0, y 1, by funext k; fin_cases k <;> rfl⟩
  refine Eq.trans ?_ (congrArg _ (emb5_at t i j)).symm
  frame_out
  pointwise [k0_pay1, k0_pay3, k0_pay4, k0_pay5, k0_pay6, k0_pay7, k0_pay8, k0_pay9]
  have hj := j.isLt
  by_cases h0 : j.val < 128
  · refine (dif_pos (by omega)).trans ?_
    exact flat m c t i j (by omega) _ rfl
  by_cases h1 : j.val < 256
  · refine (dif_neg (by omega)).trans ((dif_pos (by omega)).trans ?_)
    refine rot m c t i j ⟨j.val - 128, by omega⟩ _ _ _ ?_ ?_ ?_ ?_ <;> dsimp only <;> omega
  by_cases h2 : j.val < 384
  · refine (dif_neg (by omega)).trans ((dif_neg (by omega)).trans ((dif_pos (by omega)).trans ?_))
    exact flat m c t i j (by omega) _ (by dsimp only; omega)
  by_cases h3 : j.val < 512
  · refine (dif_neg (by omega)).trans ((dif_neg (by omega)).trans ((dif_neg (by omega)).trans ((dif_pos (by omega)).trans ?_)))
    refine rot m c t i j ⟨j.val - 384, by omega⟩ _ _ _ ?_ ?_ ?_ ?_ <;> dsimp only <;> omega
  by_cases h4 : j.val < 640
  · refine (dif_neg (by omega)).trans ((dif_neg (by omega)).trans ((dif_neg (by omega)).trans ((dif_neg (by omega)).trans ((dif_pos (by omega)).trans ?_))))
    exact flat m c t i j (by omega) _ (by dsimp only; omega)
  by_cases h5 : j.val < 768
  · refine (dif_neg (by omega)).trans ((dif_neg (by omega)).trans ((dif_neg (by omega)).trans ((dif_neg (by omega)).trans ((dif_neg (by omega)).trans ((dif_pos (by omega)).trans ?_)))))
    refine rot m c t i j ⟨j.val - 640, by omega⟩ _ _ _ ?_ ?_ ?_ ?_ <;> dsimp only <;> omega
  by_cases h6 : j.val < 896
  · refine (dif_neg (by omega)).trans ((dif_neg (by omega)).trans ((dif_neg (by omega)).trans ((dif_neg (by omega)).trans ((dif_neg (by omega)).trans ((dif_neg (by omega)).trans ((dif_pos (by omega)).trans ?_))))))
    exact flat m c t i j (by omega) _ (by dsimp only; omega)
  refine (dif_neg (by omega)).trans ((dif_neg (by omega)).trans ((dif_neg (by omega)).trans ((dif_neg (by omega)).trans ((dif_neg (by omega)).trans ((dif_neg (by omega)).trans ((dif_neg (by omega)).trans ?_))))))
  refine rot m c t i j ⟨j.val - 896, by omega⟩ _ _ _ ?_ ?_ ?_ ?_ <;> dsimp only <;> omega

end Cert.QUpValue

end
-- ==== Proof.ClaimsQUp.lean ====
/- The claims about the heads' queries. -/
module

public import proofs.«01_k».proof.Defs
public import proofs.«01_k».proof.Proof.Gen.QUp.Frame
public import proofs.«01_k».proof.Proof.Gen.QUpIdeal.Value
public import proofs.«01_k».proof.Proof.Gen.QUpReferenceIdeal.Run
public import proofs.«01_k».proof.Proof.QUp

@[expose] public section

noncomputable section

namespace Cert.Proof

open Idealize.ShloMosaic Idealize.SL.Sem

/-- The kernel as printed, on bit patterns. -/
theorem frame_QUp : Cert.quiescent_QUp := fun m ρ _ => Cert.QUp.Gen.frame m ρ

/-- The same program over the extended reals. -/
theorem frame_QUpIdeal : Cert.quiescent_QUpIdeal := fun m ρ _ => Cert.QUpIdeal.Gen.frame m ρ

/-- The reference over the extended reals. -/
theorem frame_QUpReference : Cert.quiescent_QUpReferenceIdeal := fun m ρ _ =>
  (θ_run Cert.QUpReferenceIdeal.defs _ _).mono (fun r h => ⟨fun c => (h c).2, Idealize.ShloMosaic.sem_eq_zero_of_no_sems (by decide) r.2⟩)
    (Cert.QUpReferenceIdeal.Value.run (F := Ideal) m ρ)

/-- From the same arguments, the kernel's queries are the reference's. -/
theorem algebraic_QUp : Cert.algebraic_QUpIdeal_QUpReferenceIdeal := fun m ρ m' ρ' _ hag => by
  refine ⟨_, Cert.QUpIdeal.Value.run_blocks m ρ, ?_⟩
  refine (θ_run Cert.QUpReferenceIdeal.defs _ _).mono (fun _ h c => ⟨(h c).1.trans ?_, (h c).2⟩)
    (Cert.QUpReferenceIdeal.Value.run (F := Ideal) m' ρ')
  · refine (Cert.QUpReferenceIdeal.Read.val_main_v40_eq _ _).trans (Eq.trans ?_ (Cert.QUpValue.same5 m c).symm)
    obtain ⟨h0, h1, h2⟩ := hag c
    rw [← h0, ← h1, ← h2]

end Cert.Proof

end
-- ==== Proof.lean ====
/- The claim: each kernel and its reference run, and from the same arguments they give the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal
public import proofs.«01_k».proof.Proof.Gen.DownDxReferenceIdeal.Run
public import proofs.«01_k».proof.Proof.Gen.DownDxReferenceIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal
public import proofs.«01_k».proof.Proof.Gen.DownDwReferenceIdeal.Run
public import proofs.«01_k».proof.Proof.Gen.DownDwReferenceIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxReferenceIdeal
public import proofs.«01_k».proof.Proof.Gen.UpDxReferenceIdeal.Run
public import proofs.«01_k».proof.Proof.Gen.UpDxReferenceIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwReferenceIdeal
public import proofs.«01_k».proof.Proof.Gen.UpDwReferenceIdeal.Run
public import proofs.«01_k».proof.Proof.Gen.UpDwReferenceIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxReferenceIdeal
public import proofs.«01_k».proof.Proof.Gen.OutDxReferenceIdeal.Run
public import proofs.«01_k».proof.Proof.Gen.OutDxReferenceIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Gen.RetDx
public import proofs.«01_k».proof.Proof.Gen.RetDx.Frame
public import proofs.«01_k».proof.Proof.Gen.RetDxIdeal
public import proofs.«01_k».proof.Proof.Gen.RetDxIdeal.Frame
public import proofs.«01_k».proof.Proof.Gen.RetDxIdeal.Value
public import proofs.«01_k».proof.Proof.Gen.RetDxReferenceIdeal
public import proofs.«01_k».proof.Proof.Gen.RetDxReferenceIdeal.Run
public import proofs.«01_k».proof.Proof.Gen.RetDxReferenceIdeal.Read
public import proofs.«01_k».proof.Proof.Gen.RetDw
public import proofs.«01_k».proof.Proof.Gen.RetDw.Frame
public import proofs.«01_k».proof.Proof.Gen.RetDwIdeal
public import proofs.«01_k».proof.Proof.Gen.RetDwIdeal.Frame
public import proofs.«01_k».proof.Proof.Gen.RetDwIdeal.Value
public import proofs.«01_k».proof.Proof.Gen.RetDwReferenceIdeal
public import proofs.«01_k».proof.Proof.Gen.RetDwReferenceIdeal.Run
public import proofs.«01_k».proof.Proof.Gen.RetDwReferenceIdeal.Read
public import proofs.«01_k».proof.Proof.Gen.MlaDx
public import proofs.«01_k».proof.Proof.Gen.MlaDx.Frame
public import proofs.«01_k».proof.Proof.Gen.MlaDxIdeal
public import proofs.«01_k».proof.Proof.Gen.MlaDxIdeal.Frame
public import proofs.«01_k».proof.Proof.Gen.MlaDxIdeal.Value
public import proofs.«01_k».proof.Proof.Gen.MlaDxReferenceIdeal
public import proofs.«01_k».proof.Proof.Gen.MlaDxReferenceIdeal.Run
public import proofs.«01_k».proof.Proof.Gen.MlaDxReferenceIdeal.Read
public import proofs.«01_k».proof.Proof.Gen.MlaDw
public import proofs.«01_k».proof.Proof.Gen.MlaDw.Frame
public import proofs.«01_k».proof.Proof.Gen.MlaDwIdeal
public import proofs.«01_k».proof.Proof.Gen.MlaDwIdeal.Frame
public import proofs.«01_k».proof.Proof.Gen.MlaDwIdeal.Value
public import proofs.«01_k».proof.Proof.Gen.MlaDwReferenceIdeal
public import proofs.«01_k».proof.Proof.Gen.MlaDwReferenceIdeal.Run
public import proofs.«01_k».proof.Proof.Gen.MlaDwReferenceIdeal.Read
public import proofs.«01_k».proof.Proof.Gen.QDx
public import proofs.«01_k».proof.Proof.Gen.QDx.Frame
public import proofs.«01_k».proof.Proof.Gen.QDxIdeal
public import proofs.«01_k».proof.Proof.Gen.QDxIdeal.Frame
public import proofs.«01_k».proof.Proof.Gen.QDxIdeal.Value
public import proofs.«01_k».proof.Proof.Gen.QDxReferenceIdeal
public import proofs.«01_k».proof.Proof.Gen.QDxReferenceIdeal.Run
public import proofs.«01_k».proof.Proof.Gen.QDxReferenceIdeal.Read
public import proofs.«01_k».proof.Proof.Gen.QDw
public import proofs.«01_k».proof.Proof.Gen.QDw.Frame
public import proofs.«01_k».proof.Proof.Gen.QDwIdeal
public import proofs.«01_k».proof.Proof.Gen.QDwIdeal.Frame
public import proofs.«01_k».proof.Proof.Gen.QDwIdeal.Value
public import proofs.«01_k».proof.Proof.Gen.QDwReferenceIdeal
public import proofs.«01_k».proof.Proof.Gen.QDwReferenceIdeal.Run
public import proofs.«01_k».proof.Proof.Gen.QDwReferenceIdeal.Read
public import proofs.«01_k».proof.Proof.Gen.KvDx
public import proofs.«01_k».proof.Proof.Gen.KvDx.Frame
public import proofs.«01_k».proof.Proof.Gen.KvDxIdeal
public import proofs.«01_k».proof.Proof.Gen.KvDxIdeal.Frame
public import proofs.«01_k».proof.Proof.Gen.KvDxIdeal.Value
public import proofs.«01_k».proof.Proof.Gen.KvDxReferenceIdeal
public import proofs.«01_k».proof.Proof.Gen.KvDxReferenceIdeal.Run
public import proofs.«01_k».proof.Proof.Gen.KvDxReferenceIdeal.Read
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Gen.KvDwIdeal.Value
public import proofs.«01_k».proof.Proof.Gen.KvDwReferenceIdeal
public import proofs.«01_k».proof.Proof.Gen.KvDwReferenceIdeal.Run
public import proofs.«01_k».proof.Proof.Gen.KvDwReferenceIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Ret
public import proofs.«01_k».proof.Proof.Gen.Ret.Frame
public import proofs.«01_k».proof.Proof.Gen.RetIdeal
public import proofs.«01_k».proof.Proof.Gen.RetIdeal.Frame
public import proofs.«01_k».proof.Proof.Gen.RetIdeal.Value
public import proofs.«01_k».proof.Proof.Gen.RetReferenceIdeal
public import proofs.«01_k».proof.Proof.Gen.RetReferenceIdeal.Run
public import proofs.«01_k».proof.Proof.Gen.RetReferenceIdeal.Read
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaIdeal.Value
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamRet
public import proofs.«01_k».proof.Proof.Gen.AdamRet.Frame
public import proofs.«01_k».proof.Proof.Gen.AdamRetIdeal
public import proofs.«01_k».proof.Proof.Gen.AdamRetIdeal.Frame
public import proofs.«01_k».proof.Proof.Gen.AdamRetReferenceIdeal
public import proofs.«01_k».proof.Proof.Gen.AdamRetReferenceIdeal.Run
public import proofs.«01_k».proof.Proof.Gen.AdamRetReferenceIdeal.Read
public import proofs.«01_k».proof.Proof.Gen.AdamQ
public import proofs.«01_k».proof.Proof.Gen.AdamQ.Frame
public import proofs.«01_k».proof.Proof.Gen.AdamQIdeal
public import proofs.«01_k».proof.Proof.Gen.AdamQIdeal.Frame
public import proofs.«01_k».proof.Proof.Gen.AdamQReferenceIdeal
public import proofs.«01_k».proof.Proof.Gen.AdamQReferenceIdeal.Run
public import proofs.«01_k».proof.Proof.Gen.AdamQReferenceIdeal.Read
public import proofs.«01_k».proof.Proof.Gen.AdamKv
public import proofs.«01_k».proof.Proof.Gen.AdamKv.Frame
public import proofs.«01_k».proof.Proof.Gen.AdamKvIdeal
public import proofs.«01_k».proof.Proof.Gen.AdamKvIdeal.Frame
public import proofs.«01_k».proof.Proof.Gen.AdamKvReferenceIdeal
public import proofs.«01_k».proof.Proof.Gen.AdamKvReferenceIdeal.Run
public import proofs.«01_k».proof.Proof.Gen.AdamKvReferenceIdeal.Read
public import proofs.«01_k».proof.Proof.Gen.AdamMla
public import proofs.«01_k».proof.Proof.Gen.AdamMla.Frame
public import proofs.«01_k».proof.Proof.Gen.AdamMlaIdeal
public import proofs.«01_k».proof.Proof.Gen.AdamMlaIdeal.Frame
public import proofs.«01_k».proof.Proof.Gen.AdamMlaReferenceIdeal
public import proofs.«01_k».proof.Proof.Gen.AdamMlaReferenceIdeal.Run
public import proofs.«01_k».proof.Proof.Gen.AdamMlaReferenceIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpReferenceIdeal
public import proofs.«01_k».proof.Proof.Gen.AdamUpReferenceIdeal.Run
public import proofs.«01_k».proof.Proof.Gen.AdamUpReferenceIdeal.Read
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownReferenceIdeal
public import proofs.«01_k».proof.Proof.Gen.AdamDownReferenceIdeal.Run
public import proofs.«01_k».proof.Proof.Gen.AdamDownReferenceIdeal.Read
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixBwdReferenceIdeal
public import proofs.«01_k».proof.Proof.Gen.MixBwdReferenceIdeal.Run
public import proofs.«01_k».proof.Proof.Gen.MixBwdReferenceIdeal.Read
public import proofs.«01_k».proof.Proof.Gen.MlpBwd
public import proofs.«01_k».proof.Proof.Gen.MlpBwd.Frame
public import proofs.«01_k».proof.Proof.Gen.MlpBwdIdeal
public import proofs.«01_k».proof.Proof.Gen.MlpBwdIdeal.Frame
public import proofs.«01_k».proof.Proof.Gen.MlpBwdIdeal.Value
public import proofs.«01_k».proof.Proof.Gen.MlpBwdReferenceIdeal
public import proofs.«01_k».proof.Proof.Gen.MlpBwdReferenceIdeal.Run
public import proofs.«01_k».proof.Proof.Gen.MlpBwdReferenceIdeal.Read
public import proofs.«01_k».proof.Proof.Gen.QLatent
public import proofs.«01_k».proof.Proof.Gen.QLatent.Frame
public import proofs.«01_k».proof.Proof.Gen.QLatentIdeal
public import proofs.«01_k».proof.Proof.Gen.QLatentIdeal.Frame
public import proofs.«01_k».proof.Proof.Gen.QLatentIdeal.Value
public import proofs.«01_k».proof.Proof.Gen.QLatentReferenceIdeal
public import proofs.«01_k».proof.Proof.Gen.QLatentReferenceIdeal.Run
public import proofs.«01_k».proof.Proof.Gen.QLatentReferenceIdeal.Read
public import proofs.«01_k».proof.Proof.Gen.KvLatent
public import proofs.«01_k».proof.Proof.Gen.KvLatent.Frame
public import proofs.«01_k».proof.Proof.Gen.KvLatentIdeal
public import proofs.«01_k».proof.Proof.Gen.KvLatentIdeal.Frame
public import proofs.«01_k».proof.Proof.Gen.KvLatentIdeal.Value
public import proofs.«01_k».proof.Proof.Gen.KvLatentReferenceIdeal
public import proofs.«01_k».proof.Proof.Gen.KvLatentReferenceIdeal.Run
public import proofs.«01_k».proof.Proof.Gen.KvLatentReferenceIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadReferenceIdeal
public import proofs.«01_k».proof.Proof.Gen.LossHeadReferenceIdeal.Run
public import proofs.«01_k».proof.Proof.Gen.LossHeadReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Delta
public import proofs.«01_k».proof.Proof.Gen.Delta.Frame
public import proofs.«01_k».proof.Proof.Gen.DeltaIdeal
public import proofs.«01_k».proof.Proof.Gen.DeltaIdeal.Frame
public import proofs.«01_k».proof.Proof.Gen.DeltaIdeal.Value
public import proofs.«01_k».proof.Proof.Gen.DeltaReferenceIdeal
public import proofs.«01_k».proof.Proof.Gen.DeltaReferenceIdeal.Run
public import proofs.«01_k».proof.Proof.Gen.DeltaReferenceIdeal.Read
public import proofs.«01_k».proof.Proof.Gen.KvUp
public import proofs.«01_k».proof.Proof.Gen.KvUp.Frame
public import proofs.«01_k».proof.Proof.Gen.KvUpIdeal
public import proofs.«01_k».proof.Proof.Gen.KvUpIdeal.Frame
public import proofs.«01_k».proof.Proof.Gen.KvUpIdeal.Value
public import proofs.«01_k».proof.Proof.Gen.KvUpReferenceIdeal
public import proofs.«01_k».proof.Proof.Gen.KvUpReferenceIdeal.Run
public import proofs.«01_k».proof.Proof.Gen.KvUpReferenceIdeal.Read
public import proofs.«01_k».proof.Proof.Gen.KeyGrad
public import proofs.«01_k».proof.Proof.Gen.KeyGrad.Frame
public import proofs.«01_k».proof.Proof.Gen.KeyGradIdeal
public import proofs.«01_k».proof.Proof.Gen.KeyGradIdeal.Frame
public import proofs.«01_k».proof.Proof.Gen.KeyGradIdeal.Value
public import proofs.«01_k».proof.Proof.Gen.KeyGradReferenceIdeal
public import proofs.«01_k».proof.Proof.Gen.KeyGradReferenceIdeal.Run
public import proofs.«01_k».proof.Proof.Gen.KeyGradReferenceIdeal.Read
public import proofs.«01_k».proof.Proof.Gen.QUp
public import proofs.«01_k».proof.Proof.Gen.QUp.Frame
public import proofs.«01_k».proof.Proof.Gen.QUpIdeal
public import proofs.«01_k».proof.Proof.Gen.QUpIdeal.Frame
public import proofs.«01_k».proof.Proof.Gen.QUpIdeal.Value
public import proofs.«01_k».proof.Proof.Gen.QUpReferenceIdeal
public import proofs.«01_k».proof.Proof.Gen.QUpReferenceIdeal.Run
public import proofs.«01_k».proof.Proof.Gen.QUpReferenceIdeal.Read
public import proofs.«01_k».proof.Proof.Frames
public import proofs.«01_k».proof.Proof.Algebraic
public import proofs.«01_k».proof.Proof.ClaimsGradients
public import proofs.«01_k».proof.Proof.ClaimsOutDx
public import proofs.«01_k».proof.Proof.ClaimsInner
public import proofs.«01_k».proof.Proof.ClaimsForward
public import proofs.«01_k».proof.Proof.ClaimsAdam
public import proofs.«01_k».proof.Proof.ClaimsMixBwd
public import proofs.«01_k».proof.Proof.ClaimsMlpBwd
public import proofs.«01_k».proof.Proof.ClaimsQLatent
public import proofs.«01_k».proof.Proof.ClaimsKvLatent
public import proofs.«01_k».proof.Proof.ClaimsLossHead
public import proofs.«01_k».proof.Proof.ClaimsMix
public import proofs.«01_k».proof.Proof.ClaimsPrep
public import proofs.«01_k».proof.Proof.ClaimsDelta
public import proofs.«01_k».proof.Proof.ClaimsKvUp
public import proofs.«01_k».proof.Proof.ClaimsKeyGrad
public import proofs.«01_k».proof.Proof.ClaimsQUp
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.InDw.Gen.facts, Cert.InDwIdeal.Gen.facts, Cert.InDwReferenceIdeal.Gen.facts, Cert.InDx.Gen.facts, Cert.InDxIdeal.Gen.facts, Cert.InDxReferenceIdeal.Gen.facts, Cert.DownDx.Gen.facts, Cert.DownDxIdeal.Gen.facts, Cert.DownDxReferenceIdeal.Gen.facts, Cert.DownDw.Gen.facts, Cert.DownDwIdeal.Gen.facts, Cert.DownDwReferenceIdeal.Gen.facts, Cert.UpDx.Gen.facts, Cert.UpDxIdeal.Gen.facts, Cert.UpDxReferenceIdeal.Gen.facts, Cert.UpDw.Gen.facts, Cert.UpDwIdeal.Gen.facts, Cert.UpDwReferenceIdeal.Gen.facts, Cert.OutDx.Gen.facts, Cert.OutDxIdeal.Gen.facts, Cert.OutDxReferenceIdeal.Gen.facts, Cert.OutDw.Gen.facts, Cert.OutDwIdeal.Gen.facts, Cert.OutDwReferenceIdeal.Gen.facts, Cert.RetDx.Gen.facts, Cert.RetDxIdeal.Gen.facts, Cert.RetDxReferenceIdeal.Gen.facts, Cert.RetDw.Gen.facts, Cert.RetDwIdeal.Gen.facts, Cert.RetDwReferenceIdeal.Gen.facts, Cert.MlaDx.Gen.facts, Cert.MlaDxIdeal.Gen.facts, Cert.MlaDxReferenceIdeal.Gen.facts, Cert.MlaDw.Gen.facts, Cert.MlaDwIdeal.Gen.facts, Cert.MlaDwReferenceIdeal.Gen.facts, Cert.QDx.Gen.facts, Cert.QDxIdeal.Gen.facts, Cert.QDxReferenceIdeal.Gen.facts, Cert.QDw.Gen.facts, Cert.QDwIdeal.Gen.facts, Cert.QDwReferenceIdeal.Gen.facts, Cert.KvDx.Gen.facts, Cert.KvDxIdeal.Gen.facts, Cert.KvDxReferenceIdeal.Gen.facts, Cert.KvDw.Gen.facts, Cert.KvDwIdeal.Gen.facts, Cert.KvDwReferenceIdeal.Gen.facts, Cert.In.Gen.facts, Cert.InIdeal.Gen.facts, Cert.InReferenceIdeal.Gen.facts, Cert.Ret.Gen.facts, Cert.RetIdeal.Gen.facts, Cert.RetReferenceIdeal.Gen.facts, Cert.Mla.Gen.facts, Cert.MlaIdeal.Gen.facts, Cert.MlaReferenceIdeal.Gen.facts, Cert.Out.Gen.facts, Cert.OutIdeal.Gen.facts, Cert.OutReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.AdamIn.Gen.facts, Cert.AdamInIdeal.Gen.facts, Cert.AdamInReferenceIdeal.Gen.facts, Cert.AdamRet.Gen.facts, Cert.AdamRetIdeal.Gen.facts, Cert.AdamRetReferenceIdeal.Gen.facts, Cert.AdamQ.Gen.facts, Cert.AdamQIdeal.Gen.facts, Cert.AdamQReferenceIdeal.Gen.facts, Cert.AdamKv.Gen.facts, Cert.AdamKvIdeal.Gen.facts, Cert.AdamKvReferenceIdeal.Gen.facts, Cert.AdamMla.Gen.facts, Cert.AdamMlaIdeal.Gen.facts, Cert.AdamMlaReferenceIdeal.Gen.facts, Cert.AdamOut.Gen.facts, Cert.AdamOutIdeal.Gen.facts, Cert.AdamOutReferenceIdeal.Gen.facts, Cert.AdamUp.Gen.facts, Cert.AdamUpIdeal.Gen.facts, Cert.AdamUpReferenceIdeal.Gen.facts, Cert.AdamDown.Gen.facts, Cert.AdamDownIdeal.Gen.facts, Cert.AdamDownReferenceIdeal.Gen.facts, Cert.MixBwd.Gen.facts, Cert.MixBwdIdeal.Gen.facts, Cert.MixBwdReferenceIdeal.Gen.facts, Cert.MlpBwd.Gen.facts, Cert.MlpBwdIdeal.Gen.facts, Cert.MlpBwdReferenceIdeal.Gen.facts, Cert.QLatent.Gen.facts, Cert.QLatentIdeal.Gen.facts, Cert.QLatentReferenceIdeal.Gen.facts, Cert.KvLatent.Gen.facts, Cert.KvLatentIdeal.Gen.facts, Cert.KvLatentReferenceIdeal.Gen.facts, Cert.LossHead.Gen.facts, Cert.LossHeadIdeal.Gen.facts, Cert.LossHeadReferenceIdeal.Gen.facts, Cert.Mix.Gen.facts, Cert.MixIdeal.Gen.facts, Cert.MixReferenceIdeal.Gen.facts, Cert.Prep.Gen.facts, Cert.PrepIdeal.Gen.facts, Cert.PrepReferenceIdeal.Gen.facts, Cert.Delta.Gen.facts, Cert.DeltaIdeal.Gen.facts, Cert.DeltaReferenceIdeal.Gen.facts, Cert.KvUp.Gen.facts, Cert.KvUpIdeal.Gen.facts, Cert.KvUpReferenceIdeal.Gen.facts, Cert.KeyGrad.Gen.facts, Cert.KeyGradIdeal.Gen.facts, Cert.KeyGradReferenceIdeal.Gen.facts, Cert.QUp.Gen.facts, Cert.QUpIdeal.Gen.facts, Cert.QUpReferenceIdeal.Gen.facts, Cert.Pre_finite.Gen.facts,
    frame_k, frame_ki, frame_ki_finite, frame_r, frame_r_finite, frame_InDw, frame_InDwIdeal, frame_InDwReference,
    frame_InDx, frame_InDxIdeal, frame_InDxReference, frame_DownDx, frame_DownDxIdeal, frame_DownDxReference,
    frame_DownDw, frame_DownDwIdeal, frame_DownDwReference, frame_UpDx, frame_UpDxIdeal, frame_UpDxReference,
    frame_UpDw, frame_UpDwIdeal, frame_UpDwReference, frame_OutDx, frame_OutDxIdeal, frame_OutDxReference,
    frame_OutDw, frame_OutDwIdeal, frame_OutDwReference, frame_RetDx, frame_RetDxIdeal, frame_RetDxReference,
    frame_RetDw, frame_RetDwIdeal, frame_RetDwReference, frame_MlaDx, frame_MlaDxIdeal, frame_MlaDxReference,
    frame_MlaDw, frame_MlaDwIdeal, frame_MlaDwReference, frame_QDx, frame_QDxIdeal, frame_QDxReference, frame_QDw,
    frame_QDwIdeal, frame_QDwReference, frame_KvDx, frame_KvDxIdeal, frame_KvDxReference, frame_KvDw,
    frame_KvDwIdeal, frame_KvDwReference, frame_In, frame_InIdeal, frame_InReference, frame_Ret, frame_RetIdeal,
    frame_RetReference, frame_Mla, frame_MlaIdeal, frame_MlaReference, frame_Out, frame_OutIdeal,
    frame_OutReference, frame_Up, frame_UpIdeal, frame_UpReference, frame_Down, frame_DownIdeal,
    frame_DownReference, frame_AdamIn, frame_AdamInIdeal, frame_AdamInReference, frame_AdamRet, frame_AdamRetIdeal,
    frame_AdamRetReference, frame_AdamQ, frame_AdamQIdeal, frame_AdamQReference, frame_AdamKv, frame_AdamKvIdeal,
    frame_AdamKvReference, frame_AdamMla, frame_AdamMlaIdeal, frame_AdamMlaReference, frame_AdamOut,
    frame_AdamOutIdeal, frame_AdamOutReference, frame_AdamUp, frame_AdamUpIdeal, frame_AdamUpReference,
    frame_AdamDown, frame_AdamDownIdeal, frame_AdamDownReference, frame_MixBwd, frame_MixBwdIdeal,
    frame_MixBwdReference, frame_MlpBwd, frame_MlpBwdIdeal, frame_MlpBwdReference, frame_QLatent,
    frame_QLatentIdeal, frame_QLatentReference, frame_KvLatent, frame_KvLatentIdeal, frame_KvLatentReference,
    frame_LossHead, frame_LossHeadIdeal, frame_LossHeadReference, frame_Mix, frame_MixIdeal, frame_MixReference,
    frame_Prep, frame_PrepIdeal, frame_PrepReference, frame_Delta, frame_DeltaIdeal, frame_DeltaReference,
    frame_KvUp, frame_KvUpIdeal, frame_KvUpReference, frame_KeyGrad, frame_KeyGradIdeal, frame_KeyGradReference,
    frame_QUp, frame_QUpIdeal, frame_QUpReference, trivial, algebraic, trivial, algebraic_InDw, trivial,
    algebraic_InDx, trivial, algebraic_DownDx, trivial, algebraic_DownDw, trivial, algebraic_UpDx, trivial,
    algebraic_UpDw, trivial, algebraic_OutDx, trivial, algebraic_OutDw, trivial, algebraic_RetDx, trivial,
    algebraic_RetDw, trivial, algebraic_MlaDx, trivial, algebraic_MlaDw, trivial, algebraic_QDx, trivial,
    algebraic_QDw, trivial, algebraic_KvDx, trivial, algebraic_KvDw, trivial, algebraic_In, trivial, algebraic_Ret,
    trivial, algebraic_Mla, trivial, algebraic_Out, trivial, algebraic_Up, trivial, algebraic_Down, trivial,
    algebraic_AdamIn, trivial, algebraic_AdamRet, trivial, algebraic_AdamQ, trivial, algebraic_AdamKv, trivial,
    algebraic_AdamMla, trivial, algebraic_AdamOut, trivial, algebraic_AdamUp, trivial, algebraic_AdamDown, trivial,
    algebraic_MixBwd, trivial, algebraic_MlpBwd, trivial, algebraic_QLatent, trivial, algebraic_KvLatent, trivial,
    algebraic_LossHead, trivial, algebraic_Mix, trivial, algebraic_Prep, trivial, algebraic_Delta, trivial,
    algebraic_KvUp, trivial, algebraic_KeyGrad, trivial, algebraic_QUp⟩

end Cert.Proof

end
